-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v14) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_v16) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_v16) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v18) = v0 c
          ∧ r.2.mem ((c.tc : Thread Cert.Reference19Ideal.nD Cert.Reference19Ideal.τ).loc Cert.Reference19Ideal.main_v19) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v32) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v49) = v0 c
          ∧ r.2.mem ((c.tc : Thread Cert.Reference23Ideal.nD Cert.Reference23Ideal.τ).loc Cert.Reference23Ideal.main_v32) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v34) = v0 c
          ∧ r.2.mem ((c.tc : Thread Cert.Reference24Ideal.nD Cert.Reference24Ideal.τ).loc Cert.Reference24Ideal.main_v17) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_v26) = v1 c
          ∧ r.2.mem ((c.tc : Thread Cert.Reference25Ideal.nD Cert.Reference25Ideal.τ).loc Cert.Reference25Ideal.main_v7) = v2 c
          ∧ r.2.mem ((c.tc : Thread Cert.Reference25Ideal.nD Cert.Reference25Ideal.τ).loc Cert.Reference25Ideal.main_v13) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_v26) = v1 c
          ∧ r.2.mem ((c.tc : Thread Cert.Reference26Ideal.nD Cert.Reference26Ideal.τ).loc Cert.Reference26Ideal.main_v7) = v2 c
          ∧ r.2.mem ((c.tc : Thread Cert.Reference26Ideal.nD Cert.Reference26Ideal.τ).loc Cert.Reference26Ideal.main_v13) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_v26) = v1 c
          ∧ r.2.mem ((c.tc : Thread Cert.Reference27Ideal.nD Cert.Reference27Ideal.τ).loc Cert.Reference27Ideal.main_v7) = v2 c
          ∧ r.2.mem ((c.tc : Thread Cert.Reference27Ideal.nD Cert.Reference27Ideal.τ).loc Cert.Reference27Ideal.main_v13) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_v26) = v1 c
          ∧ r.2.mem ((c.tc : Thread Cert.Reference28Ideal.nD Cert.Reference28Ideal.τ).loc Cert.Reference28Ideal.main_v7) = v2 c
          ∧ r.2.mem ((c.tc : Thread Cert.Reference28Ideal.nD Cert.Reference28Ideal.τ).loc Cert.Reference28Ideal.main_v13) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v6) = v2 c
          ∧ r.2.mem ((c.tc : Thread Cert.Reference29Ideal.nD Cert.Reference29Ideal.τ).loc Cert.Reference29Ideal.main_v12) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_v25) = v1 c
          ∧ r.2.mem ((c.tc : Thread Cert.Reference30Ideal.nD Cert.Reference30Ideal.τ).loc Cert.Reference30Ideal.main_v6) = v2 c
          ∧ r.2.mem ((c.tc : Thread Cert.Reference30Ideal.nD Cert.Reference30Ideal.τ).loc Cert.Reference30Ideal.main_v12) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v6) = v0 c
          ∧ r.2.mem ((c.tc : Thread Cert.Reference31Ideal.nD Cert.Reference31Ideal.τ).loc Cert.Reference31Ideal.main_v30) = v1 c
          ∧ r.2.mem ((c.tc : Thread Cert.Reference31Ideal.nD Cert.Reference31Ideal.τ).loc Cert.Reference31Ideal.main_v11) = v2 c
          ∧ r.2.mem ((c.tc : Thread Cert.Reference31Ideal.nD Cert.Reference31Ideal.τ).loc Cert.Reference31Ideal.main_v17) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v6) = v0 c
          ∧ r.2.mem ((c.tc : Thread Cert.Reference32Ideal.nD Cert.Reference32Ideal.τ).loc Cert.Reference32Ideal.main_v30) = v1 c
          ∧ r.2.mem ((c.tc : Thread Cert.Reference32Ideal.nD Cert.Reference32Ideal.τ).loc Cert.Reference32Ideal.main_v11) = v2 c
          ∧ r.2.mem ((c.tc : Thread Cert.Reference32Ideal.nD Cert.Reference32Ideal.τ).loc Cert.Reference32Ideal.main_v17) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v4) = v0 c
          ∧ r.2.mem ((c.tc : Thread Cert.Reference33Ideal.nD Cert.Reference33Ideal.τ).loc Cert.Reference33Ideal.main_v28) = v1 c
          ∧ r.2.mem ((c.tc : Thread Cert.Reference33Ideal.nD Cert.Reference33Ideal.τ).loc Cert.Reference33Ideal.main_v9) = v2 c
          ∧ r.2.mem ((c.tc : Thread Cert.Reference33Ideal.nD Cert.Reference33Ideal.τ).loc Cert.Reference33Ideal.main_v15) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v4) = v0 c
          ∧ r.2.mem ((c.tc : Thread Cert.Reference34Ideal.nD Cert.Reference34Ideal.τ).loc Cert.Reference34Ideal.main_v28) = v1 c
          ∧ r.2.mem ((c.tc : Thread Cert.Reference34Ideal.nD Cert.Reference34Ideal.τ).loc Cert.Reference34Ideal.main_v9) = v2 c
          ∧ r.2.mem ((c.tc : Thread Cert.Reference34Ideal.nD Cert.Reference34Ideal.τ).loc Cert.Reference34Ideal.main_v15) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v12) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v2) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
-- ==== Pre_finite.lean ====
abbrev S4096x2048 : Shape := ⟨2, ![4096, 2048]⟩
abbrev S4096x8192 : Shape := ⟨2, ![4096, 8192]⟩
abbrev S3x2048 : Shape := ⟨2, ![3, 2048]⟩
abbrev S_ : Shape := ⟨0, ![]⟩

class Facts : Prop where
  bcast_S_S4096x2048 : S_.BroadcastsInDim S4096x2048 (![] : Fin 0 → Fin S4096x2048.rank)
  bcast_S_S4096x8192 : S_.BroadcastsInDim S4096x8192 (![] : Fin 0 → Fin S4096x8192.rank)
  bcast_S_S3x2048 : S_.BroadcastsInDim S3x2048 (![] : Fin 0 → Fin S3x2048.rank)

variable [Facts]

def fn {F : FTy → Type} [FloatOps F] (main_arg0 : FVec F S4096x2048 .f32) (main_arg1 : FVec F S4096x8192 .f32) (main_arg2 : FVec F S3x2048 .f32) : IVec S4096x2048 1 × IVec S4096x8192 1 × IVec S3x2048 1 :=
  let main_cst : FVec F S_ .f32 := constant S_ .f32 0xFF800000#32
  let main_v0 : FVec F S4096x2048 .f32 := broadcastInDim S4096x2048 ![] bcast_S_S4096x2048 main_cst
  let main_v1 : IVec S4096x2048 1 := cmpf .ogt main_arg0 main_v0
  let main_cst_0 : FVec F S_ .f32 := constant S_ .f32 0x7F800000#32
  let main_v2 : FVec F S4096x2048 .f32 := broadcastInDim S4096x2048 ![] bcast_S_S4096x2048 main_cst_0
  let main_v3 : IVec S4096x2048 1 := cmpf .olt main_arg0 main_v2
  let main_v4 : IVec S4096x2048 1 := andi main_v1 main_v3
  let main_cst_1 : FVec F S_ .f32 := constant S_ .f32 0xFF800000#32
  let main_v5 : FVec F S4096x8192 .f32 := broadcastInDim S4096x8192 ![] bcast_S_S4096x8192 main_cst_1
  let main_v6 : IVec S4096x8192 1 := cmpf .ogt main_arg1 main_v5
  let main_cst_2 : FVec F S_ .f32 := constant S_ .f32 0x7F800000#32
  let main_v7 : FVec F S4096x8192 .f32 := broadcastInDim S4096x8192 ![] bcast_S_S4096x8192 main_cst_2
  let main_v8 : IVec S4096x8192 1 := cmpf .olt main_arg1 main_v7
  let main_v9 : IVec S4096x8192 1 := andi main_v6 main_v8
  let main_cst_3 : FVec F S_ .f32 := constant S_ .f32 0xFF800000#32
  let main_v10 : FVec F S3x2048 .f32 := broadcastInDim S3x2048 ![] bcast_S_S3x2048 main_cst_3
  let main_v11 : IVec S3x2048 1 := cmpf .ogt main_arg2 main_v10
  let main_cst_4 : FVec F S_ .f32 := constant S_ .f32 0x7F800000#32
  let main_v12 : FVec F S3x2048 .f32 := broadcastInDim S3x2048 ![] bcast_S_S3x2048 main_cst_4
  let main_v13 : IVec S3x2048 1 := cmpf .olt main_arg2 main_v12
  let main_v14 : IVec S3x2048 1 := andi main_v11 main_v13
  (main_v4, main_v9, main_v14)
-- ==== Kernel.lean ====
abbrev S4096x2048 : Shape := ⟨2, ![4096, 2048]⟩
abbrev S4096x8192 : Shape := ⟨2, ![4096, 8192]⟩
abbrev S3x2048 : Shape := ⟨2, ![3, 2048]⟩
abbrev S128x2048 : Shape := ⟨2, ![128, 2048]⟩
abbrev S8x2048 : Shape := ⟨2, ![8, 2048]⟩
abbrev S128x8192 : Shape := ⟨2, ![128, 8192]⟩
abbrev S8x8192 : Shape := ⟨2, ![8, 8192]⟩
abbrev S8x512 : Shape := ⟨2, ![8, 512]⟩
abbrev S128x512 : Shape := ⟨2, ![128, 512]⟩
abbrev S144x512 : Shape := ⟨2, ![144, 512]⟩
abbrev S1x512 : Shape := ⟨2, ![1, 512]⟩
abbrev S512 : Shape := ⟨1, ![512]⟩
abbrev S3x512 : Shape := ⟨2, ![3, 512]⟩

abbrev nBuf : Space → Nat
  | .hbm => 5
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S3x2048, .f32⟩
  | .hbm, ⟨3, _⟩ => ⟨S4096x8192, .bf16⟩
  | .hbm, ⟨4, _⟩ => ⟨S3x2048, .f32⟩
  | .local _ .vmem, ⟨0, _⟩ => ⟨S128x2048, .f32⟩
  | .local _ .vmem, ⟨1, _⟩ => ⟨S128x2048, .f32⟩
  | .local _ .vmem, ⟨2, _⟩ => ⟨S8x2048, .f32⟩
  | .local _ .vmem, ⟨3, _⟩ => ⟨S8x2048, .f32⟩
  | .local _ .vmem, ⟨4, _⟩ => ⟨S128x8192, .f32⟩
  | .local _ .vmem, ⟨5, _⟩ => ⟨S128x8192, .f32⟩
  | .local _ .vmem, ⟨6, _⟩ => ⟨S8x8192, .f32⟩
  | .local _ .vmem, ⟨7, _⟩ => ⟨S8x8192, .f32⟩
  | .local _ .vmem, ⟨8, _⟩ => ⟨S8x8192, .f32⟩
  | .local _ .vmem, ⟨9, _⟩ => ⟨S8x8192, .f32⟩
  | .local _ .vmem, ⟨10, _⟩ => ⟨S3x2048, .f32⟩
  | .local _ .vmem, ⟨11, _⟩ => ⟨S128x8192, .bf16⟩
  | .local _ .vmem, ⟨12, _⟩ => ⟨S128x8192, .bf16⟩
  | .local _ .vmem, ⟨13, _⟩ => ⟨S3x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_197 : BitVec 32 := 0#32
  let v415 : BitVec 1 := Scalar.cmpi .eq arg0 c0_i32_197
  let v416 : BitVec 32 := Scalar.extui v415
  let c0_i32_198 : BitVec 32 := 0#32
  let v417 : BitVec 1 := Scalar.cmpi .ne v416 c0_i32_198
  v417

def k0_cond2 (i : grid0.Coords) : BitVec 1 :=
  let arg0 : BitVec 32 := BitVec.ofNat 32 (i 0).val
  let c0_i32_199 : BitVec 32 := 0#32
  let v418 : BitVec 1 := Scalar.cmpi .sgt arg0 c0_i32_199
  let v419 : BitVec 32 := Scalar.extui v418
  let c0_i32_200 : BitVec 32 := 0#32
  let v420 : BitVec 1 := Scalar.cmpi .ne v419 c0_i32_200
  v420

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x2048 : Shape := ⟨2, ![4096, 2048]⟩
abbrev S4096x8192 : Shape := ⟨2, ![4096, 8192]⟩
abbrev S3x2048 : Shape := ⟨2, ![3, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩

abbrev nBuf : Space → Nat
  | .hbm => 108
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S3x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S2x2048, .f32⟩
  | .hbm, ⟨10, _⟩ => ⟨S4098x2048, .f32⟩
  | .hbm, ⟨11, _⟩ => ⟨S_, .f32⟩
  | .hbm, ⟨12, _⟩ => ⟨S2x2048, .f32⟩
  | .hbm, ⟨13, _⟩ => ⟨S1x2048, .f32⟩
  | .hbm, ⟨14, _⟩ => ⟨S2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S_, .f32⟩
  | .hbm, ⟨63, _⟩ => ⟨S2048, .f32⟩
  | .hbm, ⟨64, _⟩ => ⟨S1x2048, .f32⟩
  | .hbm, ⟨65, _⟩ => ⟨S_, .f32⟩
  | .hbm, ⟨66, _⟩ => ⟨S2048, .f32⟩
  | .hbm, ⟨67, _⟩ => ⟨S_, .f32⟩
  | .hbm, ⟨68, _⟩ => ⟨S4098x2048, .f32⟩
  | .hbm, ⟨69, _⟩ => ⟨S1x2048, .f32⟩
  | .hbm, ⟨70, _⟩ => ⟨S_, .f32⟩
  | .hbm, ⟨71, _⟩ => ⟨S3x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S_, .f32⟩
  | .hbm, ⟨79, _⟩ => ⟨S2048, .f32⟩
  | .hbm, ⟨80, _⟩ => ⟨S_, .f32⟩
  | .hbm, ⟨81, _⟩ => ⟨S4098x2048, .f32⟩
  | .hbm, ⟨82, _⟩ => ⟨S4098x2048, .f32⟩
  | .hbm, ⟨83, _⟩ => ⟨S1x2048, .f32⟩
  | .hbm, ⟨84, _⟩ => ⟨S_, .f32⟩
  | .hbm, ⟨85, _⟩ => ⟨S3x2048, .f32⟩
  | .hbm, ⟨86, _⟩ => ⟨S3x2048, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S_, .f32⟩
  | .hbm, ⟨91, _⟩ => ⟨S2048, .f32⟩
  | .hbm, ⟨92, _⟩ => ⟨S1x2048, .f32⟩
  | .hbm, ⟨93, _⟩ => ⟨S_, .f32⟩
  | .hbm, ⟨94, _⟩ => ⟨S2048, .f32⟩
  | .hbm, ⟨95, _⟩ => ⟨S_, .f32⟩
  | .hbm, ⟨96, _⟩ => ⟨S4098x2048, .f32⟩
  | .hbm, ⟨97, _⟩ => ⟨S4098x2048, .f32⟩
  | .hbm, ⟨98, _⟩ => ⟨S1x2048, .f32⟩
  | .hbm, ⟨99, _⟩ => ⟨S_, .f32⟩
  | .hbm, ⟨100, _⟩ => ⟨S3x2048, .f32⟩
  | .hbm, ⟨101, _⟩ => ⟨S3x2048, .f32⟩
  | .hbm, ⟨102, _⟩ => ⟨S2x2048, .f32⟩
  | .hbm, ⟨103, _⟩ => ⟨S4096x2048, .f32⟩
  | .hbm, ⟨104, _⟩ => ⟨S4096x2048, .f32⟩
  | .hbm, ⟨105, _⟩ => ⟨S4096x2048, .f32⟩
  | .hbm, ⟨106, _⟩ => ⟨S4096x8192, .f32⟩
  | .hbm, ⟨107, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v31_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v31_1 : Ref sig .tc := ⟨.hbm, 48, rfl⟩
abbrev main_v31_0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_2 : Ref sig .tc := ⟨.hbm, 62, rfl⟩
abbrev main_v41 : Ref sig .tc := ⟨.hbm, 63, rfl⟩
abbrev main_v42 : Ref sig .tc := ⟨.hbm, 64, rfl⟩
abbrev main_cst_3 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_cst_5 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_cst_8 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_v62 : Ref sig .tc := ⟨.hbm, 92, rfl⟩
abbrev main_cst_11 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]
-- ==== Kernel2.lean ====
abbrev S4096x1024 : Shape := ⟨2, ![4096, 1024]⟩
abbrev S4096x8192 : Shape := ⟨2, ![4096, 8192]⟩
abbrev S8x1024x1024 : Shape := ⟨3, ![8, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S8x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S4096x8192 : Shape := ⟨2, ![4096, 8192]⟩
abbrev S_ : Shape := ⟨0, ![]⟩
abbrev S8x1024x1024 : Shape := ⟨3, ![8, 1024, 1024]⟩
abbrev S1024x8x1024 : Shape := ⟨3, ![1024, 8, 1024]⟩
abbrev S1024x8192 : Shape := ⟨2, ![1024, 8192]⟩
abbrev S8192x1024 : Shape := ⟨2, ![8192, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S_, .f32⟩
  | .hbm, ⟨3, _⟩ => ⟨S8x1024x1024, .f32⟩
  | .hbm, ⟨4, _⟩ => ⟨S4096x1024, .f32⟩
  | .hbm, ⟨5, _⟩ => ⟨S1024x8x1024, .f32⟩
  | .hbm, ⟨6, _⟩ => ⟨S1024x8192, .f32⟩
  | .hbm, ⟨7, _⟩ => ⟨S4096x8192, .f32⟩
  | .hbm, ⟨8, _⟩ => ⟨S4096x8192, .f32⟩
  | .hbm, ⟨9, _⟩ => ⟨S8192x1024, .f32⟩
  | .hbm, ⟨10, _⟩ => ⟨S1024x8192, .f32⟩
  | .hbm, ⟨11, _⟩ => ⟨S1024x8x1024, .f32⟩
  | .hbm, ⟨12, _⟩ => ⟨S8x1024x1024, .f32⟩
  | .hbm, ⟨13, _⟩ => ⟨S8x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S8x1024x1024 : Shape := ⟨3, ![8, 1024, 1024]⟩
abbrev S4096x8192 : Shape := ⟨2, ![4096, 8192]⟩
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8x1024x1024, .bf16⟩
  | .hbm, ⟨1, _⟩ => ⟨S4096x8192, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![v0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8x1024x1024 : Shape := ⟨3, ![8, 1024, 1024]⟩
abbrev S4096x8192 : Shape := ⟨2, ![4096, 8192]⟩
abbrev S_ : Shape := ⟨0, ![]⟩
abbrev S4096x1024 : Shape := ⟨2, ![4096, 1024]⟩
abbrev S1024x8x1024 : Shape := ⟨3, ![1024, 8, 1024]⟩
abbrev S1024x8192 : Shape := ⟨2, ![1024, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S4096x8192, .bf16⟩
  | .hbm, ⟨2, _⟩ => ⟨S_, .f32⟩
  | .hbm, ⟨3, _⟩ => ⟨S4096x1024, .f32⟩
  | .hbm, ⟨4, _⟩ => ⟨S1024x8x1024, .bf16⟩
  | .hbm, ⟨5, _⟩ => ⟨S1024x8192, .bf16⟩
  | .hbm, ⟨6, _⟩ => ⟨S1024x8192, .f32⟩
  | .hbm, ⟨7, _⟩ => ⟨S4096x8192, .f32⟩
  | .hbm, ⟨8, _⟩ => ⟨S4096x8192, .f32⟩
  | .hbm, ⟨9, _⟩ => ⟨S4096x1024, .f32⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S8x1024x1024 : Shape := ⟨3, ![8, 1024, 1024]⟩
abbrev S4096x8192 : Shape := ⟨2, ![4096, 8192]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1024x1024, .bf16⟩
  | .hbm, ⟨2, _⟩ => ⟨S4096x8192, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S8x1024x1024 : Shape := ⟨3, ![8, 1024, 1024]⟩
abbrev S1024x8x1024 : Shape := ⟨3, ![1024, 8, 1024]⟩
abbrev S1024x8192 : Shape := ⟨2, ![1024, 8192]⟩
abbrev S4096x8192 : Shape := ⟨2, ![4096, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x1024, .bf16⟩
  | .hbm, ⟨2, _⟩ => ⟨S4096x1024, .f32⟩
  | .hbm, ⟨3, _⟩ => ⟨S1024x8x1024, .bf16⟩
  | .hbm, ⟨4, _⟩ => ⟨S1024x8192, .bf16⟩
  | .hbm, ⟨5, _⟩ => ⟨S1024x8192, .f32⟩
  | .hbm, ⟨6, _⟩ => ⟨S4096x8192, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S8x1024x512 : Shape := ⟨3, ![8, 1024, 512]⟩
abbrev S4096x4096 : Shape := ⟨2, ![4096, 4096]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x1024, .f32⟩
  | .hbm, ⟨3, _⟩ => ⟨S1024x8x512, .bf16⟩
  | .hbm, ⟨4, _⟩ => ⟨S1024x4096, .bf16⟩
  | .hbm, ⟨5, _⟩ => ⟨S1024x4096, .f32⟩
  | .hbm, ⟨6, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S4096x4096 : Shape := ⟨2, ![4096, 4096]⟩
abbrev S8x1024x512 : Shape := ⟨3, ![8, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S4096x4096 : Shape := ⟨2, ![4096, 4096]⟩
abbrev S_ : Shape := ⟨0, ![]⟩
abbrev S8x1024x512 : Shape := ⟨3, ![8, 1024, 512]⟩
abbrev S1024x8x512 : Shape := ⟨3, ![1024, 8, 512]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S8x1024x512, .f32⟩
  | .hbm, ⟨4, _⟩ => ⟨S4096x1024, .f32⟩
  | .hbm, ⟨5, _⟩ => ⟨S1024x8x512, .f32⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S1024x8x512, .f32⟩
  | .hbm, ⟨12, _⟩ => ⟨S8x1024x512, .f32⟩
  | .hbm, ⟨13, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel8.lean ====
abbrev S8x1024x512 : Shape := ⟨3, ![8, 1024, 512]⟩
abbrev S4096x4096 : Shape := ⟨2, ![4096, 4096]⟩
abbrev S4096x1024 : Shape := ⟨2, ![4096, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8x1024x512, .bf16⟩
  | .hbm, ⟨1, _⟩ => ⟨S4096x4096, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![v0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8x1024x512 : Shape := ⟨3, ![8, 1024, 512]⟩
abbrev S4096x4096 : Shape := ⟨2, ![4096, 4096]⟩
abbrev S_ : Shape := ⟨0, ![]⟩
abbrev S4096x1024 : Shape := ⟨2, ![4096, 1024]⟩
abbrev S1024x8x512 : Shape := ⟨3, ![1024, 8, 512]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S4096x4096, .bf16⟩
  | .hbm, ⟨2, _⟩ => ⟨S_, .f32⟩
  | .hbm, ⟨3, _⟩ => ⟨S4096x1024, .f32⟩
  | .hbm, ⟨4, _⟩ => ⟨S1024x8x512, .bf16⟩
  | .hbm, ⟨5, _⟩ => ⟨S1024x4096, .bf16⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x1024, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S1024x6160 : Shape := ⟨2, ![1024, 6160]⟩
abbrev S4096x4096 : Shape := ⟨2, ![4096, 4096]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x6160, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x6160 : Shape := ⟨2, ![1024, 6160]⟩
abbrev S4096x6160 : Shape := ⟨2, ![4096, 6160]⟩
abbrev S4096x4096 : Shape := ⟨2, ![4096, 4096]⟩
abbrev S4096x2048 : Shape := ⟨2, ![4096, 2048]⟩
abbrev S4096x16 : Shape := ⟨2, ![4096, 16]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6160, .bf16⟩
  | .hbm, ⟨2, _⟩ => ⟨S4096x1024, .f32⟩
  | .hbm, ⟨3, _⟩ => ⟨S1024x6160, .f32⟩
  | .hbm, ⟨4, _⟩ => ⟨S4096x6160, .f32⟩
  | .hbm, ⟨5, _⟩ => ⟨S4096x4096, .f32⟩
  | .hbm, ⟨6, _⟩ => ⟨S4096x2048, .f32⟩
  | .hbm, ⟨7, _⟩ => ⟨S4096x16, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S1024x6160 : Shape := ⟨2, ![1024, 6160]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x6160, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x6160 : Shape := ⟨2, ![1024, 6160]⟩
abbrev S4096x6160 : Shape := ⟨2, ![4096, 6160]⟩
abbrev S4096x4096 : Shape := ⟨2, ![4096, 4096]⟩
abbrev S4096x2048 : Shape := ⟨2, ![4096, 2048]⟩
abbrev S4096x16 : Shape := ⟨2, ![4096, 16]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6160, .bf16⟩
  | .hbm, ⟨2, _⟩ => ⟨S4096x1024, .f32⟩
  | .hbm, ⟨3, _⟩ => ⟨S1024x6160, .f32⟩
  | .hbm, ⟨4, _⟩ => ⟨S4096x6160, .f32⟩
  | .hbm, ⟨5, _⟩ => ⟨S4096x4096, .f32⟩
  | .hbm, ⟨6, _⟩ => ⟨S4096x2048, .f32⟩
  | .hbm, ⟨7, _⟩ => ⟨S4096x16, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel11.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x4096 : Shape := ⟨2, ![4096, 4096]⟩
abbrev S1024x6160 : Shape := ⟨2, ![1024, 6160]⟩
abbrev S4096x2048 : Shape := ⟨2, ![4096, 2048]⟩
abbrev S4096x128 : Shape := ⟨2, ![4096, 128]⟩
abbrev S1024x128 : Shape := ⟨2, ![1024, 128]⟩
abbrev S4096x1024 : Shape := ⟨2, ![4096, 1024]⟩
abbrev S1024x1024 : Shape := ⟨2, ![1024, 1024]⟩

abbrev nBuf : Space → Nat
  | .hbm => 6
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S1024x6160, .bf16⟩
  | .hbm, ⟨2, _⟩ => ⟨S4096x2048, .bf16⟩
  | .hbm, ⟨3, _⟩ => ⟨S4096x128, .f32⟩
  | .hbm, ⟨4, _⟩ => ⟨S1024x128, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 7], ![false, false]⟩

def k0_cond6 (i : grid0.Coords) : BitVec 1 :=
  let arg1 : BitVec 32 := BitVec.ofNat 32 (i 1).val
  let c6_i32_5 : BitVec 32 := 6#32
  let v15 : BitVec 1 := Scalar.cmpi .eq arg1 c6_i32_5
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  let c0_i32_3 : BitVec 32 := 0#32
  ![c0_i32_2.toNat, v3.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c4_i32_0 : BitVec 32 := 4#32
  let v3 : BitVec 32 := Scalar.addi v2 c4_i32_0
  let c0_i32_1 : BitVec 32 := 0#32
  let c0_i32_2 : BitVec 32 := 0#32
  ![c0_i32_1.toNat, v3.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi v2 c0_i32_1
  let c0_i32_2 : BitVec 32 := 0#32
  let c0_i32_3 : BitVec 32 := 0#32
  ![c0_i32_2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference16Ideal.lean ====
abbrev S4096x4096 : Shape := ⟨2, ![4096, 4096]⟩
abbrev S1024x6160 : Shape := ⟨2, ![1024, 6160]⟩
abbrev S4096x2048 : Shape := ⟨2, ![4096, 2048]⟩
abbrev S4096x128 : Shape := ⟨2, ![4096, 128]⟩
abbrev S1024x128 : Shape := ⟨2, ![1024, 128]⟩
abbrev S_ : Shape := ⟨0, ![]⟩
abbrev S4096x1024 : Shape := ⟨2, ![4096, 1024]⟩
abbrev S4096x6160 : Shape := ⟨2, ![4096, 6160]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x6160, .bf16⟩
  | .hbm, ⟨2, _⟩ => ⟨S4096x2048, .bf16⟩
  | .hbm, ⟨3, _⟩ => ⟨S4096x128, .f32⟩
  | .hbm, ⟨4, _⟩ => ⟨S1024x128, .bf16⟩
  | .hbm, ⟨5, _⟩ => ⟨S_, .f32⟩
  | .hbm, ⟨6, _⟩ => ⟨S4096x1024, .f32⟩
  | .hbm, ⟨7, _⟩ => ⟨S1024x6160, .f32⟩
  | .hbm, ⟨8, _⟩ => ⟨S4096x6160, .f32⟩
  | .hbm, ⟨9, _⟩ => ⟨S4096x4096, .f32⟩
  | .hbm, ⟨10, _⟩ => ⟨S4096x2048, .f32⟩
  | .hbm, ⟨11, _⟩ => ⟨S1024x128, .f32⟩
  | .hbm, ⟨12, _⟩ => ⟨S4096x128, .f32⟩
  | .hbm, ⟨13, _⟩ => ⟨S4096x4096, .f32⟩
  | .hbm, ⟨14, _⟩ => ⟨S4096x2048, .f32⟩
  | .hbm, ⟨15, _⟩ => ⟨S4096x1024, .f32⟩
  | .hbm, ⟨16, _⟩ => ⟨S_, .f32⟩
  | .hbm, ⟨17, _⟩ => ⟨S4096x6160, .f32⟩
  | .hbm, ⟨18, _⟩ => ⟨S_, .f32⟩
  | .hbm, ⟨19, _⟩ => ⟨S4096x6160, .f32⟩
  | .hbm, ⟨20, _⟩ => ⟨S4096x6160, .f32⟩
  | .hbm, ⟨21, _⟩ => ⟨S4096x1024, .f32⟩
  | .hbm, ⟨22, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel17.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference17Ideal.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1x1024, .f32⟩
  | .hbm, ⟨4, _⟩ => ⟨S4096x2048, .f32⟩
  | .hbm, ⟨5, _⟩ => ⟨S2048x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference18Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel19.lean ====
abbrev S4096x2048 : Shape := ⟨2, ![4096, 2048]⟩
abbrev S2048x1024 : Shape := ⟨2, ![2048, 1024]⟩
abbrev S4096x1024 : Shape := ⟨2, ![4096, 1024]⟩
abbrev S1x128 : Shape := ⟨2, ![1, 128]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x128, .f32⟩
  | .local _ .vmem, ⟨11, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_11 : BitVec 32 := 0#32
  let v15 : BitVec 1 := Scalar.cmpi .eq arg0 c0_i32_11
  let v30 : BitVec 32 := Scalar.extui v15
  let c0_i32_20 : BitVec 32 := 0#32
  let v31 : BitVec 1 := Scalar.cmpi .ne v30 c0_i32_20
  v31

def k0_cond5 (i : grid0.Coords) : BitVec 1 :=
  let arg0 : BitVec 32 := BitVec.ofNat 32 (i 0).val
  let c0_i32_11 : BitVec 32 := 0#32
  let v15 : BitVec 1 := Scalar.cmpi .eq arg0 c0_i32_11
  let v_true : BitVec 1 := 1#1
  let v32 : BitVec 1 := Scalar.xori v15 v_true
  let v33 : BitVec 32 := Scalar.extui v32
  let c0_i32_21 : BitVec 32 := 0#32
  let v34 : BitVec 1 := Scalar.cmpi .ne v33 c0_i32_21
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]
-- ==== Reference19Ideal.lean ====
abbrev S4096x2048 : Shape := ⟨2, ![4096, 2048]⟩
abbrev S2048x1024 : Shape := ⟨2, ![2048, 1024]⟩
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .hbm, ⟨4, _⟩ => ⟨S4096x2048, .f32⟩
  | .hbm, ⟨5, _⟩ => ⟨S2048x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1024, .f32⟩
  | .hbm, ⟨30, _⟩ => ⟨S4096x1024, .f32⟩
  | .hbm, ⟨31, _⟩ => ⟨S1x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Kernel20.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S4096x1024 : Shape := ⟨2, ![4096, 1024]⟩
abbrev S4096x128 : Shape := ⟨2, ![4096, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S1024x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .f32⟩
  | .local _ .vmem, ⟨3, _⟩ => ⟨S2048x128, .f32⟩
  | .local _ .vmem, ⟨4, _⟩ => ⟨S1024x128, .bf16⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S128x1024, .f32⟩
  | .hbm, ⟨7, _⟩ => ⟨S1024x128, .f32⟩
  | .hbm, ⟨8, _⟩ => ⟨S1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S4096x8192 : Shape := ⟨2, ![4096, 8192]⟩
abbrev S3x2048 : Shape := ⟨2, ![3, 2048]⟩
abbrev S4096x2048 : Shape := ⟨2, ![4096, 2048]⟩
abbrev S128x8192 : Shape := ⟨2, ![128, 8192]⟩
abbrev S8x8192 : Shape := ⟨2, ![8, 8192]⟩
abbrev S128x2048 : Shape := ⟨2, ![128, 2048]⟩
abbrev S8x512 : Shape := ⟨2, ![8, 512]⟩
abbrev S128x512 : Shape := ⟨2, ![128, 512]⟩
abbrev S136x512 : Shape := ⟨2, ![136, 512]⟩
abbrev S1x512 : Shape := ⟨2, ![1, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S3x2048, .f32⟩
  | .hbm, ⟨2, _⟩ => ⟨S4096x2048, .bf16⟩
  | .local _ .vmem, ⟨0, _⟩ => ⟨S128x8192, .f32⟩
  | .local _ .vmem, ⟨1, _⟩ => ⟨S128x8192, .f32⟩
  | .local _ .vmem, ⟨2, _⟩ => ⟨S8x8192, .f32⟩
  | .local _ .vmem, ⟨3, _⟩ => ⟨S8x8192, .f32⟩
  | .local _ .vmem, ⟨4, _⟩ => ⟨S3x2048, .f32⟩
  | .local _ .vmem, ⟨5, _⟩ => ⟨S128x2048, .bf16⟩
  | .local _ .vmem, ⟨6, _⟩ => ⟨S128x2048, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference22Ideal.lean ====
abbrev S4096x8192 : Shape := ⟨2, ![4096, 8192]⟩
abbrev S3x2048 : Shape := ⟨2, ![3, 2048]⟩
abbrev S4096x2048 : Shape := ⟨2, ![4096, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩

abbrev nBuf : Space → Nat
  | .hbm => 45
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S3x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S2x2048, .f32⟩
  | .hbm, ⟨9, _⟩ => ⟨S4098x2048, .f32⟩
  | .hbm, ⟨10, _⟩ => ⟨S1x2048, .f32⟩
  | .hbm, ⟨11, _⟩ => ⟨S2048, .f32⟩
  | .hbm, ⟨12, _⟩ => ⟨S4096x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel23.lean ====
abbrev S4096x4096 : Shape := ⟨2, ![4096, 4096]⟩
abbrev S1024x6160 : Shape := ⟨2, ![1024, 6160]⟩
abbrev S4096x2048 : Shape := ⟨2, ![4096, 2048]⟩
abbrev S4096x128 : Shape := ⟨2, ![4096, 128]⟩
abbrev S1024x128 : Shape := ⟨2, ![1024, 128]⟩
abbrev S4096x1024 : Shape := ⟨2, ![4096, 1024]⟩
abbrev S1x1024 : Shape := ⟨2, ![1, 1024]⟩
abbrev S512x1024 : Shape := ⟨2, ![512, 1024]⟩
abbrev S1024x1024 : Shape := ⟨2, ![1024, 1024]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 10
  | .vmem => 21
  | .smem => 0
  | _ => 0

abbrev bufTy : (tb : Table) → Fin (tcTables nBuf tb) → BufTy
  | .hbm, ⟨0, _⟩ => ⟨S4096x4096, .bf16⟩
  | .hbm, ⟨1, _⟩ => ⟨S1024x6160, .bf16⟩
  | .hbm, ⟨2, _⟩ => ⟨S4096x2048, .bf16⟩
  | .hbm, ⟨3, _⟩ => ⟨S4096x128, .f32⟩
  | .hbm, ⟨4, _⟩ => ⟨S1024x128, .bf16⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x128, .f32⟩
  | .local _ .vmem, ⟨9, _⟩ => ⟨S512x128, .f32⟩
  | .local _ .vmem, ⟨10, _⟩ => ⟨S1024x128, .bf16⟩
  | .local _ .vmem, ⟨11, _⟩ => ⟨S1024x128, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![8, 7], ![false, false]⟩

def k0_cond6 (i : grid0.Coords) : BitVec 1 :=
  let arg1 : BitVec 32 := BitVec.ofNat 32 (i 1).val
  let c6_i32_5 : BitVec 32 := 6#32
  let v15 : BitVec 1 := Scalar.cmpi .eq arg1 c6_i32_5
  let v16 : BitVec 32 := Scalar.extui v15
  let c0_i32_6 : BitVec 32 := 0#32
  let v17 : BitVec 1 := Scalar.cmpi .ne v16 c0_i32_6
  v17

def k0_cond7 (i : grid0.Coords) : BitVec 1 :=
  let arg0 : BitVec 32 := BitVec.ofNat 32 (i 0).val
  let c0_i32_8 : BitVec 32 := 0#32
  let v19 : BitVec 1 := Scalar.cmpi .eq arg0 c0_i32_8
  let v50 : BitVec 32 := Scalar.extui v19
  let c0_i32_22 : BitVec 32 := 0#32
  let v51 : BitVec 1 := Scalar.cmpi .ne v50 c0_i32_22
  v51

def k0_cond8 (i : grid0.Coords) : BitVec 1 :=
  let arg0 : BitVec 32 := BitVec.ofNat 32 (i 0).val
  let c0_i32_8 : BitVec 32 := 0#32
  let v19 : BitVec 1 := Scalar.cmpi .eq arg0 c0_i32_8
  let v_true : BitVec 1 := 1#1
  let v52 : BitVec 1 := Scalar.xori v19 v_true
  let v53 : BitVec 32 := Scalar.extui v52
  let c0_i32_23 : BitVec 32 := 0#32
  let v54 : BitVec 1 := Scalar.cmpi .ne v53 c0_i32_23
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  let c0_i32_3 : BitVec 32 := 0#32
  ![c0_i32_2.toNat, v3.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c4_i32_0 : BitVec 32 := 4#32
  let v3 : BitVec 32 := Scalar.addi v2 c4_i32_0
  let c0_i32_1 : BitVec 32 := 0#32
  let c0_i32_2 : BitVec 32 := 0#32
  ![c0_i32_1.toNat, v3.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi v2 c0_i32_1
  let c0_i32_2 : BitVec 32 := 0#32
  let c0_i32_3 : BitVec 32 := 0#32
  ![c0_i32_2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference23Ideal.lean ====
abbrev S4096x4096 : Shape := ⟨2, ![4096, 4096]⟩
abbrev S1024x6160 : Shape := ⟨2, ![1024, 6160]⟩
abbrev S4096x2048 : Shape := ⟨2, ![4096, 2048]⟩
abbrev S4096x128 : Shape := ⟨2, ![4096, 128]⟩
abbrev S1024x128 : Shape := ⟨2, ![1024, 128]⟩
abbrev S4096x1024 : Shape := ⟨2, ![4096, 1024]⟩
abbrev S1x1024 : Shape := ⟨2, ![1, 1024]⟩
abbrev S_ : Shape := ⟨0, ![]⟩
abbrev S4096x6160 : Shape := ⟨2, ![4096, 6160]⟩
abbrev S4096 : Shape := ⟨1, ![4096]⟩
abbrev S4096x1 : Shape := ⟨2, ![4096, 1]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x6160, .bf16⟩
  | .hbm, ⟨2, _⟩ => ⟨S4096x2048, .bf16⟩
  | .hbm, ⟨3, _⟩ => ⟨S4096x128, .f32⟩
  | .hbm, ⟨4, _⟩ => ⟨S1024x128, .bf16⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S1024x6160, .f32⟩
  | .hbm, ⟨11, _⟩ => ⟨S4096x6160, .f32⟩
  | .hbm, ⟨12, _⟩ => ⟨S4096x4096, .f32⟩
  | .hbm, ⟨13, _⟩ => ⟨S4096x2048, .f32⟩
  | .hbm, ⟨14, _⟩ => ⟨S1024x128, .f32⟩
  | .hbm, ⟨15, _⟩ => ⟨S4096x128, .f32⟩
  | .hbm, ⟨16, _⟩ => ⟨S4096x4096, .f32⟩
  | .hbm, ⟨17, _⟩ => ⟨S4096x2048, .f32⟩
  | .hbm, ⟨18, _⟩ => ⟨S4096x1024, .f32⟩
  | .hbm, ⟨19, _⟩ => ⟨S_, .f32⟩
  | .hbm, ⟨20, _⟩ => ⟨S4096x6160, .f32⟩
  | .hbm, ⟨21, _⟩ => ⟨S_, .f32⟩
  | .hbm, ⟨22, _⟩ => ⟨S4096x6160, .f32⟩
  | .hbm, ⟨23, _⟩ => ⟨S4096x6160, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel24.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v32 : BitVec 32 := Scalar.extui v1
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32 : BitVec 32 := 0#32
  let v1 : BitVec 1 := Scalar.cmpi .eq arg0 c0_i32
  let v_true : BitVec 1 := 1#1
  let v34 : BitVec 1 := Scalar.xori v1 v_true
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference24Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel25.lean ====
abbrev S1x1024x512 : Shape := ⟨3, ![1, 1024, 512]⟩
abbrev S8x1024x512 : Shape := ⟨3, ![8, 1024, 512]⟩
abbrev S1x128x512 : Shape := ⟨3, ![1, 128, 512]⟩
abbrev S8x128x512 : Shape := ⟨3, ![8, 128, 512]⟩
abbrev S128x512 : Shape := ⟨2, ![128, 512]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S8x1024x512, .bf16⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S8x128x512, .bf16⟩
  | .local _ .vmem, ⟨7, _⟩ => ⟨S8x128x512, .bf16⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference25Ideal.lean ====
abbrev S1x1024x512 : Shape := ⟨3, ![1, 1024, 512]⟩
abbrev S8x1024x512 : Shape := ⟨3, ![8, 1024, 512]⟩
abbrev S_ : Shape := ⟨0, ![]⟩
abbrev S1024x512 : Shape := ⟨2, ![1024, 512]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S8x1024x512, .bf16⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S1x1024x512, .f32⟩
  | .hbm, ⟨8, _⟩ => ⟨S_, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S_, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S1x1024x512, .f32⟩
  | .hbm, ⟨38, _⟩ => ⟨S_, .f32⟩
  | .hbm, ⟨39, _⟩ => ⟨S1x1024x512, .f32⟩
  | .hbm, ⟨40, _⟩ => ⟨S1x1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel26.lean ====
abbrev S1x128x1024 : Shape := ⟨3, ![1, 128, 1024]⟩
abbrev S8x128x1024 : Shape := ⟨3, ![8, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S8x128x1024, .bf16⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference26Ideal.lean ====
abbrev S1x128x1024 : Shape := ⟨3, ![1, 128, 1024]⟩
abbrev S8x128x1024 : Shape := ⟨3, ![8, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel27.lean ====
abbrev S1x1024x1024 : Shape := ⟨3, ![1, 1024, 1024]⟩
abbrev S8x1024x1024 : Shape := ⟨3, ![8, 1024, 1024]⟩
abbrev S1x128x1024 : Shape := ⟨3, ![1, 128, 1024]⟩
abbrev S8x128x1024 : Shape := ⟨3, ![8, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S8x1024x1024, .bf16⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference27Ideal.lean ====
abbrev S1x1024x1024 : Shape := ⟨3, ![1, 1024, 1024]⟩
abbrev S8x1024x1024 : Shape := ⟨3, ![8, 1024, 1024]⟩
abbrev S_ : Shape := ⟨0, ![]⟩
abbrev S1024x1024 : Shape := ⟨2, ![1024, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S8x1024x1024, .bf16⟩
  | .hbm, ⟨4, _⟩ => ⟨S8x1024x1024, .f32⟩
  | .hbm, ⟨5, _⟩ => ⟨S_, .f32⟩
  | .hbm, ⟨6, _⟩ => ⟨S1024x1024, .f32⟩
  | .hbm, ⟨7, _⟩ => ⟨S1x1024x1024, .f32⟩
  | .hbm, ⟨8, _⟩ => ⟨S_, .f32⟩
  | .hbm, ⟨9, _⟩ => ⟨S1x1024x1024, .f32⟩
  | .hbm, ⟨10, _⟩ => ⟨S1x1024x1024, .f32⟩
  | .hbm, ⟨11, _⟩ => ⟨S_, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S_, .f32⟩
  | .hbm, ⟨16, _⟩ => ⟨S1x1024x1024, .f32⟩
  | .hbm, ⟨17, _⟩ => ⟨S1x1024x1024, .f32⟩
  | .hbm, ⟨18, _⟩ => ⟨S1x1024x1024, .f32⟩
  | .hbm, ⟨19, _⟩ => ⟨S_, .f32⟩
  | .hbm, ⟨20, _⟩ => ⟨S1x1024x1024, .f32⟩
  | .hbm, ⟨21, _⟩ => ⟨S1x1024x1024, .f32⟩
  | .hbm, ⟨22, _⟩ => ⟨S1x1024x1024, .f32⟩
  | .hbm, ⟨23, _⟩ => ⟨S_, .f32⟩
  | .hbm, ⟨24, _⟩ => ⟨S1x1024x1024, .f32⟩
  | .hbm, ⟨25, _⟩ => ⟨S1x1024x1024, .f32⟩
  | .hbm, ⟨26, _⟩ => ⟨S_, .f32⟩
  | .hbm, ⟨27, _⟩ => ⟨S1x1024x1024, .f32⟩
  | .hbm, ⟨28, _⟩ => ⟨S1x1024x1024, .f32⟩
  | .hbm, ⟨29, _⟩ => ⟨S1x1024x1024, .f32⟩
  | .hbm, ⟨30, _⟩ => ⟨S_, .f32⟩
  | .hbm, ⟨31, _⟩ => ⟨S1x1024x1024, .f32⟩
  | .hbm, ⟨32, _⟩ => ⟨S1x1024x1024, .f32⟩
  | .hbm, ⟨33, _⟩ => ⟨S1x1024x1024, .f32⟩
  | .hbm, ⟨34, _⟩ => ⟨S_, .f32⟩
  | .hbm, ⟨35, _⟩ => ⟨S1x1024x1024, .f32⟩
  | .hbm, ⟨36, _⟩ => ⟨S1x1024x1024, .f32⟩
  | .hbm, ⟨37, _⟩ => ⟨S1x1024x1024, .f32⟩
  | .hbm, ⟨38, _⟩ => ⟨S_, .f32⟩
  | .hbm, ⟨39, _⟩ => ⟨S1x1024x1024, .f32⟩
  | .hbm, ⟨40, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel28.lean ====
abbrev S1x256x1024 : Shape := ⟨3, ![1, 256, 1024]⟩
abbrev S8x256x1024 : Shape := ⟨3, ![8, 256, 1024]⟩
abbrev S1x128x1024 : Shape := ⟨3, ![1, 128, 1024]⟩
abbrev S8x128x1024 : Shape := ⟨3, ![8, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S8x256x1024, .bf16⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference28Ideal.lean ====
abbrev S1x256x1024 : Shape := ⟨3, ![1, 256, 1024]⟩
abbrev S8x256x1024 : Shape := ⟨3, ![8, 256, 1024]⟩
abbrev S_ : Shape := ⟨0, ![]⟩
abbrev S256x1024 : Shape := ⟨2, ![256, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S8x256x1024, .bf16⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel29.lean ====
abbrev S1x3x256 : Shape := ⟨3, ![1, 3, 256]⟩
abbrev S8x3x256 : Shape := ⟨3, ![8, 3, 256]⟩
abbrev S3x256 : Shape := ⟨2, ![3, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x3x256, .f32⟩
  | .hbm, ⟨1, _⟩ => ⟨S1x3x256, .f32⟩
  | .hbm, ⟨2, _⟩ => ⟨S1x3x256, .f32⟩
  | .hbm, ⟨3, _⟩ => ⟨S8x3x256, .f32⟩
  | .hbm, ⟨4, _⟩ => ⟨S1x3x256, .f32⟩
  | .hbm, ⟨5, _⟩ => ⟨S1x3x256, .f32⟩
  | .hbm, ⟨6, _⟩ => ⟨S1x3x256, .f32⟩
  | .hbm, ⟨7, _⟩ => ⟨S1x3x256, .f32⟩
  | .local _ .vmem, ⟨0, _⟩ => ⟨S1x3x256, .f32⟩
  | .local _ .vmem, ⟨1, _⟩ => ⟨S1x3x256, .f32⟩
  | .local _ .vmem, ⟨2, _⟩ => ⟨S1x3x256, .f32⟩
  | .local _ .vmem, ⟨3, _⟩ => ⟨S8x3x256, .f32⟩
  | .local _ .vmem, ⟨4, _⟩ => ⟨S1x3x256, .f32⟩
  | .local _ .vmem, ⟨5, _⟩ => ⟨S1x3x256, .f32⟩
  | .local _ .vmem, ⟨6, _⟩ => ⟨S1x3x256, .f32⟩
  | .local _ .vmem, ⟨7, _⟩ => ⟨S1x3x256, .f32⟩
  | _, _ => ⟨S1x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference29Ideal.lean ====
abbrev S1x3x256 : Shape := ⟨3, ![1, 3, 256]⟩
abbrev S8x3x256 : Shape := ⟨3, ![8, 3, 256]⟩
abbrev S_ : Shape := ⟨0, ![]⟩
abbrev S3x256 : Shape := ⟨2, ![3, 256]⟩

abbrev nBuf : Space → Nat
  | .hbm => 40
  | .vmem => 0
  | .smem => 0
  | _ => 0

abbrev bufTy : (tb : Table) → Fin (tcTables nBuf tb) → BufTy
  | .hbm, ⟨0, _⟩ => ⟨S1x3x256, .f32⟩
  | .hbm, ⟨1, _⟩ => ⟨S1x3x256, .f32⟩
  | .hbm, ⟨2, _⟩ => ⟨S1x3x256, .f32⟩
  | .hbm, ⟨3, _⟩ => ⟨S8x3x256, .f32⟩
  | .hbm, ⟨4, _⟩ => ⟨S_, .f32⟩
  | .hbm, ⟨5, _⟩ => ⟨S3x256, .f32⟩
  | .hbm, ⟨6, _⟩ => ⟨S1x3x256, .f32⟩
  | .hbm, ⟨7, _⟩ => ⟨S_, .f32⟩
  | .hbm, ⟨8, _⟩ => ⟨S1x3x256, .f32⟩
  | .hbm, ⟨9, _⟩ => ⟨S1x3x256, .f32⟩
  | .hbm, ⟨10, _⟩ => ⟨S_, .f32⟩
  | .hbm, ⟨11, _⟩ => ⟨S1x3x256, .f32⟩
  | .hbm, ⟨12, _⟩ => ⟨S1x3x256, .f32⟩
  | .hbm, ⟨13, _⟩ => ⟨S1x3x256, .f32⟩
  | .hbm, ⟨14, _⟩ => ⟨S_, .f32⟩
  | .hbm, ⟨15, _⟩ => ⟨S1x3x256, .f32⟩
  | .hbm, ⟨16, _⟩ => ⟨S1x3x256, .f32⟩
  | .hbm, ⟨17, _⟩ => ⟨S1x3x256, .f32⟩
  | .hbm, ⟨18, _⟩ => ⟨S_, .f32⟩
  | .hbm, ⟨19, _⟩ => ⟨S1x3x256, .f32⟩
  | .hbm, ⟨20, _⟩ => ⟨S1x3x256, .f32⟩
  | .hbm, ⟨21, _⟩ => ⟨S1x3x256, .f32⟩
  | .hbm, ⟨22, _⟩ => ⟨S_, .f32⟩
  | .hbm, ⟨23, _⟩ => ⟨S1x3x256, .f32⟩
  | .hbm, ⟨24, _⟩ => ⟨S1x3x256, .f32⟩
  | .hbm, ⟨25, _⟩ => ⟨S_, .f32⟩
  | .hbm, ⟨26, _⟩ => ⟨S1x3x256, .f32⟩
  | .hbm, ⟨27, _⟩ => ⟨S1x3x256, .f32⟩
  | .hbm, ⟨28, _⟩ => ⟨S1x3x256, .f32⟩
  | .hbm, ⟨29, _⟩ => ⟨S_, .f32⟩
  | .hbm, ⟨30, _⟩ => ⟨S1x3x256, .f32⟩
  | .hbm, ⟨31, _⟩ => ⟨S1x3x256, .f32⟩
  | .hbm, ⟨32, _⟩ => ⟨S1x3x256, .f32⟩
  | .hbm, ⟨33, _⟩ => ⟨S_, .f32⟩
  | .hbm, ⟨34, _⟩ => ⟨S1x3x256, .f32⟩
  | .hbm, ⟨35, _⟩ => ⟨S1x3x256, .f32⟩
  | .hbm, ⟨36, _⟩ => ⟨S1x3x256, .f32⟩
  | .hbm, ⟨37, _⟩ => ⟨S_, .f32⟩
  | .hbm, ⟨38, _⟩ => ⟨S1x3x256, .f32⟩
  | .hbm, ⟨39, _⟩ => ⟨S1x3x256, .f32⟩
  | _, _ => ⟨S1x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel30.lean ====
abbrev S1x8x1024 : Shape := ⟨3, ![1, 8, 1024]⟩
abbrev S8x8x1024 : Shape := ⟨3, ![8, 8, 1024]⟩
abbrev S8x1024 : Shape := ⟨2, ![8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x8x1024, .f32⟩
  | .hbm, ⟨1, _⟩ => ⟨S1x8x1024, .f32⟩
  | .hbm, ⟨2, _⟩ => ⟨S1x8x1024, .f32⟩
  | .hbm, ⟨3, _⟩ => ⟨S8x8x1024, .f32⟩
  | .hbm, ⟨4, _⟩ => ⟨S1x8x1024, .f32⟩
  | .hbm, ⟨5, _⟩ => ⟨S1x8x1024, .f32⟩
  | .hbm, ⟨6, _⟩ => ⟨S1x8x1024, .f32⟩
  | .hbm, ⟨7, _⟩ => ⟨S1x8x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S8x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | _, _ => ⟨S1x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference30Ideal.lean ====
abbrev S1x8x1024 : Shape := ⟨3, ![1, 8, 1024]⟩
abbrev S8x8x1024 : Shape := ⟨3, ![8, 8, 1024]⟩
abbrev S_ : Shape := ⟨0, ![]⟩
abbrev S8x1024 : Shape := ⟨2, ![8, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x8x1024, .f32⟩
  | .hbm, ⟨1, _⟩ => ⟨S1x8x1024, .f32⟩
  | .hbm, ⟨2, _⟩ => ⟨S1x8x1024, .f32⟩
  | .hbm, ⟨3, _⟩ => ⟨S8x8x1024, .f32⟩
  | .hbm, ⟨4, _⟩ => ⟨S_, .f32⟩
  | .hbm, ⟨5, _⟩ => ⟨S8x1024, .f32⟩
  | .hbm, ⟨6, _⟩ => ⟨S1x8x1024, .f32⟩
  | .hbm, ⟨7, _⟩ => ⟨S_, .f32⟩
  | .hbm, ⟨8, _⟩ => ⟨S1x8x1024, .f32⟩
  | .hbm, ⟨9, _⟩ => ⟨S1x8x1024, .f32⟩
  | .hbm, ⟨10, _⟩ => ⟨S_, .f32⟩
  | .hbm, ⟨11, _⟩ => ⟨S1x8x1024, .f32⟩
  | .hbm, ⟨12, _⟩ => ⟨S1x8x1024, .f32⟩
  | .hbm, ⟨13, _⟩ => ⟨S1x8x1024, .f32⟩
  | .hbm, ⟨14, _⟩ => ⟨S_, .f32⟩
  | .hbm, ⟨15, _⟩ => ⟨S1x8x1024, .f32⟩
  | .hbm, ⟨16, _⟩ => ⟨S1x8x1024, .f32⟩
  | .hbm, ⟨17, _⟩ => ⟨S1x8x1024, .f32⟩
  | .hbm, ⟨18, _⟩ => ⟨S_, .f32⟩
  | .hbm, ⟨19, _⟩ => ⟨S1x8x1024, .f32⟩
  | .hbm, ⟨20, _⟩ => ⟨S1x8x1024, .f32⟩
  | .hbm, ⟨21, _⟩ => ⟨S1x8x1024, .f32⟩
  | .hbm, ⟨22, _⟩ => ⟨S_, .f32⟩
  | .hbm, ⟨23, _⟩ => ⟨S1x8x1024, .f32⟩
  | .hbm, ⟨24, _⟩ => ⟨S1x8x1024, .f32⟩
  | .hbm, ⟨25, _⟩ => ⟨S_, .f32⟩
  | .hbm, ⟨26, _⟩ => ⟨S1x8x1024, .f32⟩
  | .hbm, ⟨27, _⟩ => ⟨S1x8x1024, .f32⟩
  | .hbm, ⟨28, _⟩ => ⟨S1x8x1024, .f32⟩
  | .hbm, ⟨29, _⟩ => ⟨S_, .f32⟩
  | .hbm, ⟨30, _⟩ => ⟨S1x8x1024, .f32⟩
  | .hbm, ⟨31, _⟩ => ⟨S1x8x1024, .f32⟩
  | .hbm, ⟨32, _⟩ => ⟨S1x8x1024, .f32⟩
  | .hbm, ⟨33, _⟩ => ⟨S_, .f32⟩
  | .hbm, ⟨34, _⟩ => ⟨S1x8x1024, .f32⟩
  | .hbm, ⟨35, _⟩ => ⟨S1x8x1024, .f32⟩
  | .hbm, ⟨36, _⟩ => ⟨S1x8x1024, .f32⟩
  | .hbm, ⟨37, _⟩ => ⟨S_, .f32⟩
  | .hbm, ⟨38, _⟩ => ⟨S1x8x1024, .f32⟩
  | .hbm, ⟨39, _⟩ => ⟨S1x8x1024, .f32⟩
  | _, _ => ⟨S1x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel31.lean ====
abbrev S2x1024x770 : Shape := ⟨3, ![2, 1024, 770]⟩
abbrev S8x1024x770 : Shape := ⟨3, ![8, 1024, 770]⟩
abbrev S1x128x770 : Shape := ⟨3, ![1, 128, 770]⟩
abbrev S8x128x770 : Shape := ⟨3, ![8, 128, 770]⟩
abbrev S128x770 : Shape := ⟨2, ![128, 770]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x770, .f32⟩
  | .hbm, ⟨1, _⟩ => ⟨S2x1024x770, .f32⟩
  | .hbm, ⟨2, _⟩ => ⟨S2x1024x770, .f32⟩
  | .hbm, ⟨3, _⟩ => ⟨S8x1024x770, .bf16⟩
  | .hbm, ⟨4, _⟩ => ⟨S8x1024x770, .bf16⟩
  | .hbm, ⟨5, _⟩ => ⟨S2x1024x770, .f32⟩
  | .hbm, ⟨6, _⟩ => ⟨S2x1024x770, .f32⟩
  | .hbm, ⟨7, _⟩ => ⟨S2x1024x770, .f32⟩
  | .hbm, ⟨8, _⟩ => ⟨S2x1024x770, .f32⟩
  | .local _ .vmem, ⟨0, _⟩ => ⟨S1x128x770, .f32⟩
  | .local _ .vmem, ⟨1, _⟩ => ⟨S1x128x770, .f32⟩
  | .local _ .vmem, ⟨2, _⟩ => ⟨S1x128x770, .f32⟩
  | .local _ .vmem, ⟨3, _⟩ => ⟨S1x128x770, .f32⟩
  | .local _ .vmem, ⟨4, _⟩ => ⟨S1x128x770, .f32⟩
  | .local _ .vmem, ⟨5, _⟩ => ⟨S1x128x770, .f32⟩
  | .local _ .vmem, ⟨6, _⟩ => ⟨S8x128x770, .bf16⟩
  | .local _ .vmem, ⟨7, _⟩ => ⟨S8x128x770, .bf16⟩
  | .local _ .vmem, ⟨8, _⟩ => ⟨S8x128x770, .bf16⟩
  | .local _ .vmem, ⟨9, _⟩ => ⟨S8x128x770, .bf16⟩
  | .local _ .vmem, ⟨10, _⟩ => ⟨S1x128x770, .f32⟩
  | .local _ .vmem, ⟨11, _⟩ => ⟨S1x128x770, .f32⟩
  | .local _ .vmem, ⟨12, _⟩ => ⟨S1x128x770, .f32⟩
  | .local _ .vmem, ⟨13, _⟩ => ⟨S1x128x770, .f32⟩
  | .local _ .vmem, ⟨14, _⟩ => ⟨S1x128x770, .f32⟩
  | .local _ .vmem, ⟨15, _⟩ => ⟨S1x128x770, .f32⟩
  | .local _ .vmem, ⟨16, _⟩ => ⟨S1x128x770, .f32⟩
  | .local _ .vmem, ⟨17, _⟩ => ⟨S1x128x770, .f32⟩
  | _, _ => ⟨S2x1024x770, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x770 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x770 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x770 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x770 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128x770 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x770 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x770 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x770 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x770 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference31Ideal.lean ====
abbrev S2x1024x770 : Shape := ⟨3, ![2, 1024, 770]⟩
abbrev S8x1024x770 : Shape := ⟨3, ![8, 1024, 770]⟩
abbrev S_ : Shape := ⟨0, ![]⟩
abbrev S1024x770 : Shape := ⟨2, ![1024, 770]⟩
abbrev S1x1024x770 : Shape := ⟨3, ![1, 1024, 770]⟩

abbrev nBuf : Space → Nat
  | .hbm => 47
  | .vmem => 0
  | .smem => 0
  | _ => 0

abbrev bufTy : (tb : Table) → Fin (tcTables nBuf tb) → BufTy
  | .hbm, ⟨0, _⟩ => ⟨S2x1024x770, .f32⟩
  | .hbm, ⟨1, _⟩ => ⟨S2x1024x770, .f32⟩
  | .hbm, ⟨2, _⟩ => ⟨S2x1024x770, .f32⟩
  | .hbm, ⟨3, _⟩ => ⟨S8x1024x770, .bf16⟩
  | .hbm, ⟨4, _⟩ => ⟨S8x1024x770, .bf16⟩
  | .hbm, ⟨5, _⟩ => ⟨S8x1024x770, .f32⟩
  | .hbm, ⟨6, _⟩ => ⟨S_, .f32⟩
  | .hbm, ⟨7, _⟩ => ⟨S1024x770, .f32⟩
  | .hbm, ⟨8, _⟩ => ⟨S8x1024x770, .f32⟩
  | .hbm, ⟨9, _⟩ => ⟨S_, .f32⟩
  | .hbm, ⟨10, _⟩ => ⟨S1024x770, .f32⟩
  | .hbm, ⟨11, _⟩ => ⟨S1x1024x770, .f32⟩
  | .hbm, ⟨12, _⟩ => ⟨S1x1024x770, .f32⟩
  | .hbm, ⟨13, _⟩ => ⟨S2x1024x770, .f32⟩
  | .hbm, ⟨14, _⟩ => ⟨S_, .f32⟩
  | .hbm, ⟨15, _⟩ => ⟨S2x1024x770, .f32⟩
  | .hbm, ⟨16, _⟩ => ⟨S2x1024x770, .f32⟩
  | .hbm, ⟨17, _⟩ => ⟨S_, .f32⟩
  | .hbm, ⟨18, _⟩ => ⟨S2x1024x770, .f32⟩
  | .hbm, ⟨19, _⟩ => ⟨S2x1024x770, .f32⟩
  | .hbm, ⟨20, _⟩ => ⟨S2x1024x770, .f32⟩
  | .hbm, ⟨21, _⟩ => ⟨S_, .f32⟩
  | .hbm, ⟨22, _⟩ => ⟨S2x1024x770, .f32⟩
  | .hbm, ⟨23, _⟩ => ⟨S2x1024x770, .f32⟩
  | .hbm, ⟨24, _⟩ => ⟨S2x1024x770, .f32⟩
  | .hbm, ⟨25, _⟩ => ⟨S_, .f32⟩
  | .hbm, ⟨26, _⟩ => ⟨S2x1024x770, .f32⟩
  | .hbm, ⟨27, _⟩ => ⟨S2x1024x770, .f32⟩
  | .hbm, ⟨28, _⟩ => ⟨S2x1024x770, .f32⟩
  | .hbm, ⟨29, _⟩ => ⟨S_, .f32⟩
  | .hbm, ⟨30, _⟩ => ⟨S2x1024x770, .f32⟩
  | .hbm, ⟨31, _⟩ => ⟨S2x1024x770, .f32⟩
  | .hbm, ⟨32, _⟩ => ⟨S_, .f32⟩
  | .hbm, ⟨33, _⟩ => ⟨S2x1024x770, .f32⟩
  | .hbm, ⟨34, _⟩ => ⟨S2x1024x770, .f32⟩
  | .hbm, ⟨35, _⟩ => ⟨S2x1024x770, .f32⟩
  | .hbm, ⟨36, _⟩ => ⟨S_, .f32⟩
  | .hbm, ⟨37, _⟩ => ⟨S2x1024x770, .f32⟩
  | .hbm, ⟨38, _⟩ => ⟨S2x1024x770, .f32⟩
  | .hbm, ⟨39, _⟩ => ⟨S2x1024x770, .f32⟩
  | .hbm, ⟨40, _⟩ => ⟨S_, .f32⟩
  | .hbm, ⟨41, _⟩ => ⟨S2x1024x770, .f32⟩
  | .hbm, ⟨42, _⟩ => ⟨S2x1024x770, .f32⟩
  | .hbm, ⟨43, _⟩ => ⟨S2x1024x770, .f32⟩
  | .hbm, ⟨44, _⟩ => ⟨S_, .f32⟩
  | .hbm, ⟨45, _⟩ => ⟨S2x1024x770, .f32⟩
  | .hbm, ⟨46, _⟩ => ⟨S2x1024x770, .f32⟩
  | _, _ => ⟨S2x1024x770, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel32.lean ====
abbrev S2x256x1024 : Shape := ⟨3, ![2, 256, 1024]⟩
abbrev S8x256x1024 : Shape := ⟨3, ![8, 256, 1024]⟩
abbrev S1x128x1024 : Shape := ⟨3, ![1, 128, 1024]⟩
abbrev S8x128x1024 : Shape := ⟨3, ![8, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S8x256x1024, .bf16⟩
  | .hbm, ⟨4, _⟩ => ⟨S8x256x1024, .bf16⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference32Ideal.lean ====
abbrev S2x256x1024 : Shape := ⟨3, ![2, 256, 1024]⟩
abbrev S8x256x1024 : Shape := ⟨3, ![8, 256, 1024]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S8x256x1024, .bf16⟩
  | .hbm, ⟨4, _⟩ => ⟨S8x256x1024, .bf16⟩
  | .hbm, ⟨5, _⟩ => ⟨S8x256x1024, .f32⟩
  | .hbm, ⟨6, _⟩ => ⟨S_, .f32⟩
  | .hbm, ⟨7, _⟩ => ⟨S256x1024, .f32⟩
  | .hbm, ⟨8, _⟩ => ⟨S8x256x1024, .f32⟩
  | .hbm, ⟨9, _⟩ => ⟨S_, .f32⟩
  | .hbm, ⟨10, _⟩ => ⟨S256x1024, .f32⟩
  | .hbm, ⟨11, _⟩ => ⟨S1x256x1024, .f32⟩
  | .hbm, ⟨12, _⟩ => ⟨S1x256x1024, .f32⟩
  | .hbm, ⟨13, _⟩ => ⟨S2x256x1024, .f32⟩
  | .hbm, ⟨14, _⟩ => ⟨S_, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S_, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S_, .f32⟩
  | .hbm, ⟨41, _⟩ => ⟨S2x256x1024, .f32⟩
  | .hbm, ⟨42, _⟩ => ⟨S2x256x1024, .f32⟩
  | .hbm, ⟨43, _⟩ => ⟨S2x256x1024, .f32⟩
  | .hbm, ⟨44, _⟩ => ⟨S_, .f32⟩
  | .hbm, ⟨45, _⟩ => ⟨S2x256x1024, .f32⟩
  | .hbm, ⟨46, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel33.lean ====
abbrev S2x4x512 : Shape := ⟨3, ![2, 4, 512]⟩
abbrev S8x4x512 : Shape := ⟨3, ![8, 4, 512]⟩
abbrev S1x4x512 : Shape := ⟨3, ![1, 4, 512]⟩
abbrev S4x512 : Shape := ⟨2, ![4, 512]⟩

abbrev nBuf : Space → Nat
  | .hbm => 9
  | .vmem => 16
  | .smem => 0
  | _ => 0

abbrev bufTy : (tb : Table) → Fin (tcTables nBuf tb) → BufTy
  | .hbm, ⟨0, _⟩ => ⟨S2x4x512, .f32⟩
  | .hbm, ⟨1, _⟩ => ⟨S2x4x512, .f32⟩
  | .hbm, ⟨2, _⟩ => ⟨S2x4x512, .f32⟩
  | .hbm, ⟨3, _⟩ => ⟨S8x4x512, .f32⟩
  | .hbm, ⟨4, _⟩ => ⟨S8x4x512, .f32⟩
  | .hbm, ⟨5, _⟩ => ⟨S2x4x512, .f32⟩
  | .hbm, ⟨6, _⟩ => ⟨S2x4x512, .f32⟩
  | .hbm, ⟨7, _⟩ => ⟨S2x4x512, .f32⟩
  | .hbm, ⟨8, _⟩ => ⟨S2x4x512, .f32⟩
  | .local _ .vmem, ⟨0, _⟩ => ⟨S1x4x512, .f32⟩
  | .local _ .vmem, ⟨1, _⟩ => ⟨S1x4x512, .f32⟩
  | .local _ .vmem, ⟨2, _⟩ => ⟨S1x4x512, .f32⟩
  | .local _ .vmem, ⟨3, _⟩ => ⟨S1x4x512, .f32⟩
  | .local _ .vmem, ⟨4, _⟩ => ⟨S1x4x512, .f32⟩
  | .local _ .vmem, ⟨5, _⟩ => ⟨S1x4x512, .f32⟩
  | .local _ .vmem, ⟨6, _⟩ => ⟨S8x4x512, .f32⟩
  | .local _ .vmem, ⟨7, _⟩ => ⟨S8x4x512, .f32⟩
  | .local _ .vmem, ⟨8, _⟩ => ⟨S1x4x512, .f32⟩
  | .local _ .vmem, ⟨9, _⟩ => ⟨S1x4x512, .f32⟩
  | .local _ .vmem, ⟨10, _⟩ => ⟨S1x4x512, .f32⟩
  | .local _ .vmem, ⟨11, _⟩ => ⟨S1x4x512, .f32⟩
  | .local _ .vmem, ⟨12, _⟩ => ⟨S1x4x512, .f32⟩
  | .local _ .vmem, ⟨13, _⟩ => ⟨S1x4x512, .f32⟩
  | .local _ .vmem, ⟨14, _⟩ => ⟨S1x4x512, .f32⟩
  | .local _ .vmem, ⟨15, _⟩ => ⟨S1x4x512, .f32⟩
  | _, _ => ⟨S2x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S8x4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference33Ideal.lean ====
abbrev S2x4x512 : Shape := ⟨3, ![2, 4, 512]⟩
abbrev S8x4x512 : Shape := ⟨3, ![8, 4, 512]⟩
abbrev S_ : Shape := ⟨0, ![]⟩
abbrev S4x512 : Shape := ⟨2, ![4, 512]⟩
abbrev S1x4x512 : Shape := ⟨3, ![1, 4, 512]⟩

abbrev nBuf : Space → Nat
  | .hbm => 45
  | .vmem => 0
  | .smem => 0
  | _ => 0

abbrev bufTy : (tb : Table) → Fin (tcTables nBuf tb) → BufTy
  | .hbm, ⟨0, _⟩ => ⟨S2x4x512, .f32⟩
  | .hbm, ⟨1, _⟩ => ⟨S2x4x512, .f32⟩
  | .hbm, ⟨2, _⟩ => ⟨S2x4x512, .f32⟩
  | .hbm, ⟨3, _⟩ => ⟨S8x4x512, .f32⟩
  | .hbm, ⟨4, _⟩ => ⟨S8x4x512, .f32⟩
  | .hbm, ⟨5, _⟩ => ⟨S_, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S1x4x512, .f32⟩
  | .hbm, ⟨10, _⟩ => ⟨S1x4x512, .f32⟩
  | .hbm, ⟨11, _⟩ => ⟨S2x4x512, .f32⟩
  | .hbm, ⟨12, _⟩ => ⟨S_, .f32⟩
  | .hbm, ⟨13, _⟩ => ⟨S2x4x512, .f32⟩
  | .hbm, ⟨14, _⟩ => ⟨S2x4x512, .f32⟩
  | .hbm, ⟨15, _⟩ => ⟨S_, .f32⟩
  | .hbm, ⟨16, _⟩ => ⟨S2x4x512, .f32⟩
  | .hbm, ⟨17, _⟩ => ⟨S2x4x512, .f32⟩
  | .hbm, ⟨18, _⟩ => ⟨S2x4x512, .f32⟩
  | .hbm, ⟨19, _⟩ => ⟨S_, .f32⟩
  | .hbm, ⟨20, _⟩ => ⟨S2x4x512, .f32⟩
  | .hbm, ⟨21, _⟩ => ⟨S2x4x512, .f32⟩
  | .hbm, ⟨22, _⟩ => ⟨S2x4x512, .f32⟩
  | .hbm, ⟨23, _⟩ => ⟨S_, .f32⟩
  | .hbm, ⟨24, _⟩ => ⟨S2x4x512, .f32⟩
  | .hbm, ⟨25, _⟩ => ⟨S2x4x512, .f32⟩
  | .hbm, ⟨26, _⟩ => ⟨S2x4x512, .f32⟩
  | .hbm, ⟨27, _⟩ => ⟨S_, .f32⟩
  | .hbm, ⟨28, _⟩ => ⟨S2x4x512, .f32⟩
  | .hbm, ⟨29, _⟩ => ⟨S2x4x512, .f32⟩
  | .hbm, ⟨30, _⟩ => ⟨S_, .f32⟩
  | .hbm, ⟨31, _⟩ => ⟨S2x4x512, .f32⟩
  | .hbm, ⟨32, _⟩ => ⟨S2x4x512, .f32⟩
  | .hbm, ⟨33, _⟩ => ⟨S2x4x512, .f32⟩
  | .hbm, ⟨34, _⟩ => ⟨S_, .f32⟩
  | .hbm, ⟨35, _⟩ => ⟨S2x4x512, .f32⟩
  | .hbm, ⟨36, _⟩ => ⟨S2x4x512, .f32⟩
  | .hbm, ⟨37, _⟩ => ⟨S2x4x512, .f32⟩
  | .hbm, ⟨38, _⟩ => ⟨S_, .f32⟩
  | .hbm, ⟨39, _⟩ => ⟨S2x4x512, .f32⟩
  | .hbm, ⟨40, _⟩ => ⟨S2x4x512, .f32⟩
  | .hbm, ⟨41, _⟩ => ⟨S2x4x512, .f32⟩
  | .hbm, ⟨42, _⟩ => ⟨S_, .f32⟩
  | .hbm, ⟨43, _⟩ => ⟨S2x4x512, .f32⟩
  | .hbm, ⟨44, _⟩ => ⟨S2x4x512, .f32⟩
  | _, _ => ⟨S2x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel34.lean ====
abbrev S2x1x32 : Shape := ⟨3, ![2, 1, 32]⟩
abbrev S8x1x32 : Shape := ⟨3, ![8, 1, 32]⟩
abbrev S1x1x32 : Shape := ⟨3, ![1, 1, 32]⟩
abbrev S1x32 : Shape := ⟨2, ![1, 32]⟩

abbrev nBuf : Space → Nat
  | .hbm => 9
  | .vmem => 16
  | .smem => 0
  | _ => 0

abbrev bufTy : (tb : Table) → Fin (tcTables nBuf tb) → BufTy
  | .hbm, ⟨0, _⟩ => ⟨S2x1x32, .f32⟩
  | .hbm, ⟨1, _⟩ => ⟨S2x1x32, .f32⟩
  | .hbm, ⟨2, _⟩ => ⟨S2x1x32, .f32⟩
  | .hbm, ⟨3, _⟩ => ⟨S8x1x32, .f32⟩
  | .hbm, ⟨4, _⟩ => ⟨S8x1x32, .f32⟩
  | .hbm, ⟨5, _⟩ => ⟨S2x1x32, .f32⟩
  | .hbm, ⟨6, _⟩ => ⟨S2x1x32, .f32⟩
  | .hbm, ⟨7, _⟩ => ⟨S2x1x32, .f32⟩
  | .hbm, ⟨8, _⟩ => ⟨S2x1x32, .f32⟩
  | .local _ .vmem, ⟨0, _⟩ => ⟨S1x1x32, .f32⟩
  | .local _ .vmem, ⟨1, _⟩ => ⟨S1x1x32, .f32⟩
  | .local _ .vmem, ⟨2, _⟩ => ⟨S1x1x32, .f32⟩
  | .local _ .vmem, ⟨3, _⟩ => ⟨S1x1x32, .f32⟩
  | .local _ .vmem, ⟨4, _⟩ => ⟨S1x1x32, .f32⟩
  | .local _ .vmem, ⟨5, _⟩ => ⟨S1x1x32, .f32⟩
  | .local _ .vmem, ⟨6, _⟩ => ⟨S8x1x32, .f32⟩
  | .local _ .vmem, ⟨7, _⟩ => ⟨S8x1x32, .f32⟩
  | .local _ .vmem, ⟨8, _⟩ => ⟨S1x1x32, .f32⟩
  | .local _ .vmem, ⟨9, _⟩ => ⟨S1x1x32, .f32⟩
  | .local _ .vmem, ⟨10, _⟩ => ⟨S1x1x32, .f32⟩
  | .local _ .vmem, ⟨11, _⟩ => ⟨S1x1x32, .f32⟩
  | .local _ .vmem, ⟨12, _⟩ => ⟨S1x1x32, .f32⟩
  | .local _ .vmem, ⟨13, _⟩ => ⟨S1x1x32, .f32⟩
  | .local _ .vmem, ⟨14, _⟩ => ⟨S1x1x32, .f32⟩
  | .local _ .vmem, ⟨15, _⟩ => ⟨S1x1x32, .f32⟩
  | _, _ => ⟨S2x1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S8x1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference34Ideal.lean ====
abbrev S2x1x32 : Shape := ⟨3, ![2, 1, 32]⟩
abbrev S8x1x32 : Shape := ⟨3, ![8, 1, 32]⟩
abbrev S_ : Shape := ⟨0, ![]⟩
abbrev S1x32 : Shape := ⟨2, ![1, 32]⟩
abbrev S1x1x32 : Shape := ⟨3, ![1, 1, 32]⟩

abbrev nBuf : Space → Nat
  | .hbm => 45
  | .vmem => 0
  | .smem => 0
  | _ => 0

abbrev bufTy : (tb : Table) → Fin (tcTables nBuf tb) → BufTy
  | .hbm, ⟨0, _⟩ => ⟨S2x1x32, .f32⟩
  | .hbm, ⟨1, _⟩ => ⟨S2x1x32, .f32⟩
  | .hbm, ⟨2, _⟩ => ⟨S2x1x32, .f32⟩
  | .hbm, ⟨3, _⟩ => ⟨S8x1x32, .f32⟩
  | .hbm, ⟨4, _⟩ => ⟨S8x1x32, .f32⟩
  | .hbm, ⟨5, _⟩ => ⟨S_, .f32⟩
  | .hbm, ⟨6, _⟩ => ⟨S1x32, .f32⟩
  | .hbm, ⟨7, _⟩ => ⟨S_, .f32⟩
  | .hbm, ⟨8, _⟩ => ⟨S1x32, .f32⟩
  | .hbm, ⟨9, _⟩ => ⟨S1x1x32, .f32⟩
  | .hbm, ⟨10, _⟩ => ⟨S1x1x32, .f32⟩
  | .hbm, ⟨11, _⟩ => ⟨S2x1x32, .f32⟩
  | .hbm, ⟨12, _⟩ => ⟨S_, .f32⟩
  | .hbm, ⟨13, _⟩ => ⟨S2x1x32, .f32⟩
  | .hbm, ⟨14, _⟩ => ⟨S2x1x32, .f32⟩
  | .hbm, ⟨15, _⟩ => ⟨S_, .f32⟩
  | .hbm, ⟨16, _⟩ => ⟨S2x1x32, .f32⟩
  | .hbm, ⟨17, _⟩ => ⟨S2x1x32, .f32⟩
  | .hbm, ⟨18, _⟩ => ⟨S2x1x32, .f32⟩
  | .hbm, ⟨19, _⟩ => ⟨S_, .f32⟩
  | .hbm, ⟨20, _⟩ => ⟨S2x1x32, .f32⟩
  | .hbm, ⟨21, _⟩ => ⟨S2x1x32, .f32⟩
  | .hbm, ⟨22, _⟩ => ⟨S2x1x32, .f32⟩
  | .hbm, ⟨23, _⟩ => ⟨S_, .f32⟩
  | .hbm, ⟨24, _⟩ => ⟨S2x1x32, .f32⟩
  | .hbm, ⟨25, _⟩ => ⟨S2x1x32, .f32⟩
  | .hbm, ⟨26, _⟩ => ⟨S2x1x32, .f32⟩
  | .hbm, ⟨27, _⟩ => ⟨S_, .f32⟩
  | .hbm, ⟨28, _⟩ => ⟨S2x1x32, .f32⟩
  | .hbm, ⟨29, _⟩ => ⟨S2x1x32, .f32⟩
  | .hbm, ⟨30, _⟩ => ⟨S_, .f32⟩
  | .hbm, ⟨31, _⟩ => ⟨S2x1x32, .f32⟩
  | .hbm, ⟨32, _⟩ => ⟨S2x1x32, .f32⟩
  | .hbm, ⟨33, _⟩ => ⟨S2x1x32, .f32⟩
  | .hbm, ⟨34, _⟩ => ⟨S_, .f32⟩
  | .hbm, ⟨35, _⟩ => ⟨S2x1x32, .f32⟩
  | .hbm, ⟨36, _⟩ => ⟨S2x1x32, .f32⟩
  | .hbm, ⟨37, _⟩ => ⟨S2x1x32, .f32⟩
  | .hbm, ⟨38, _⟩ => ⟨S_, .f32⟩
  | .hbm, ⟨39, _⟩ => ⟨S2x1x32, .f32⟩
  | .hbm, ⟨40, _⟩ => ⟨S2x1x32, .f32⟩
  | .hbm, ⟨41, _⟩ => ⟨S2x1x32, .f32⟩
  | .hbm, ⟨42, _⟩ => ⟨S_, .f32⟩
  | .hbm, ⟨43, _⟩ => ⟨S2x1x32, .f32⟩
  | .hbm, ⟨44, _⟩ => ⟨S2x1x32, .f32⟩
  | _, _ => ⟨S2x1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel35.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference35Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel36.lean ====
abbrev S1x128 : Shape := ⟨2, ![1, 128]⟩
abbrev S1x64 : Shape := ⟨2, ![1, 64]⟩
abbrev S128x64 : Shape := ⟨2, ![128, 64]⟩
abbrev S64 : Shape := ⟨1, ![64]⟩

abbrev nBuf : Space → Nat
  | .hbm => 2
  | .vmem => 2
  | .smem => 0
  | _ => 0

abbrev bufTy : (tb : Table) → Fin (tcTables nBuf tb) → BufTy
  | .hbm, ⟨0, _⟩ => ⟨S1x128, .f32⟩
  | .hbm, ⟨1, _⟩ => ⟨S1x64, .f32⟩
  | .local _ .vmem, ⟨0, _⟩ => ⟨S1x128, .f32⟩
  | .local _ .vmem, ⟨1, _⟩ => ⟨S1x64, .f32⟩
  | _, _ => ⟨S1x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference36Ideal.lean ====
abbrev S1x128 : Shape := ⟨2, ![1, 128]⟩
abbrev S2x64 : Shape := ⟨2, ![2, 64]⟩
abbrev S_ : Shape := ⟨0, ![]⟩
abbrev S64 : Shape := ⟨1, ![64]⟩
abbrev S1x64 : Shape := ⟨2, ![1, 64]⟩

abbrev nBuf : Space → Nat
  | .hbm => 5
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S2x64, .f32⟩
  | .hbm, ⟨2, _⟩ => ⟨S_, .f32⟩
  | .hbm, ⟨3, _⟩ => ⟨S64, .f32⟩
  | .hbm, ⟨4, _⟩ => ⟨S1x64, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Product.lean ====
module

public import Idealize.ShloMosaic.Lib.Pointwise
public import Idealize.ShloMosaic.Lib.Pipeline.ValueKit

@[expose] public section

set_option maxRecDepth 16384

noncomputable section
open Idealize.ShloMosaic Idealize.ShloMosaic.TcCoe
namespace Cert.Product

/-- An entry of a matrix by its numbers, zero outside. -/
def rd2 {A B : ℕ} (X : (⟨2, ![A, B]⟩ : Shape).Idx → EReal) (i j : ℕ) : EReal :=
  if h : i < A ∧ j < B then X (ix2 ⟨i, h.1⟩ ⟨j, h.2⟩) else 0

/-- An entry of a matrix kept in equal blocks, by its numbers, zero outside. -/
def rd3 {P A B : ℕ} (X : (⟨3, ![P, A, B]⟩ : Shape).Idx → EReal) (p i j : ℕ) : EReal :=
  if h : p < P ∧ i < A ∧ j < B then X (ix3 ⟨p, h.1⟩ ⟨i, h.2.1⟩ ⟨j, h.2.2⟩) else 0

theorem rd2_of {A B : ℕ} (X : (⟨2, ![A, B]⟩ : Shape).Idx → EReal) (i j i' j' : ℕ) (hi : i < A) (hj : j < B) (ei : i' = i) (ej : j' = j) :
    X (ix2 ⟨i, hi⟩ ⟨j, hj⟩) = rd2 X i' j' := by
  subst ei ej; rw [rd2, dif_pos ⟨hi, hj⟩]

theorem rd3_of {P A B : ℕ} (X : (⟨3, ![P, A, B]⟩ : Shape).Idx → EReal) (p i j p' i' j' : ℕ) (hp : p < P) (hi : i < A) (hj : j < B)
    (ep : p' = p) (ei : i' = i) (ej : j' = j) : X (ix3 ⟨p, hp⟩ ⟨i, hi⟩ ⟨j, hj⟩) = rd3 X p' i' j' := by
  subst ep ei ej; rw [rd3, dif_pos ⟨hp, hi, hj⟩]

theorem rd2_idx {A B : ℕ} (X : (⟨2, ![A, B]⟩ : Shape).Idx → EReal) (i : (⟨2, ![A, B]⟩ : Shape).Idx) (a b : ℕ)
    (ha : (i 0).val = a) (hb : (i 1).val = b) : X i = rd2 X a b := by
  subst ha hb
  rw [rd2, dif_pos ⟨(i 0).isLt, (i 1).isLt⟩]
  congr 1; funext x; fin_cases x <;> rfl

theorem rd3_idx {P A B : ℕ} (X : (⟨3, ![P, A, B]⟩ : Shape).Idx → EReal) (i : (⟨3, ![P, A, B]⟩ : Shape).Idx) (p a b : ℕ)
    (hp : (i 0).val = p) (ha : (i 1).val = a) (hb : (i 2).val = b) : X i = rd3 X p a b := by
  subst hp ha hb
  rw [rd3, dif_pos ⟨(i 0).isLt, (i 1).isLt, (i 2).isLt⟩]
  congr 1; funext x; fin_cases x <;> rfl

/-- A sum gathered over the steps of a run, block by block, is the whole sum. -/
theorem fold {N : ℕ} (f : (n : ℕ) → n < N → EReal) (J L K : ℕ) (hJ : 0 < J) (hK : K = J * L) (g : ℕ → ℕ → EReal)
    (h0 : ∀ t : Fin N, t.val % J = 0 → f t.val t.isLt = ∑ s : Fin L, g (t.val / J) (t.val % J * L + s.val))
    (hs : ∀ t : Fin N, ¬t.val % J = 0 → f t.val t.isLt
      = f (t.val - 1) (Nat.lt_of_le_of_lt (Nat.sub_le _ _) t.isLt) + ∑ s : Fin L, g (t.val / J) (t.val % J * L + s.val))
    (t : Fin N) (ht : t.val % J = J - 1) : f t.val t.isLt = ∑ k : Fin K, g (t.val / J) k.val := by
  have H := Pipeline.eq_sum_of_reset_step_divmod f J 0 (fun q n => ∑ s : Fin L, g q (n * L + s.val))
    (fun t h => by rw [h0 t h, zero_add]) hs t
  rw [H, ht, zero_add, Nat.sub_add_cancel hJ, Fin.sum_univ_eq_sum_range (fun k => g (t.val / J) k) K, hK, Finset.sum_range_mul_split]
  exact Finset.sum_congr rfl fun n _ => Fin.sum_univ_eq_sum_range (fun s => g (t.val / J) (n * L + s)) L

end Cert.Product

end
-- ==== Proof.Product2.lean ====
module

public import proofs.«01_k».proof.Proof.Gen.Kernel2Ideal.Value
public import proofs.«01_k».proof.Proof.Gen.Reference2Ideal.Read
public import proofs.«01_k».proof.Proof.Product

@[expose] public section

set_option maxRecDepth 16384

noncomputable section
open Idealize.ShloMosaic Idealize.ShloMosaic.TcCoe Idealize.SL.Sem
namespace Cert.Kernel2Ideal.Value
open Cert.Kernel2Ideal Cert.Kernel2Ideal.Gen Cert.Product

theorem idx : ∀ t : Fin cfg0.N, win0_0.index t = ![t.val % 2, (t.val / 2 / 8)] ∧ win0_1.index t = ![t.val % 2, (t.val / 2 % 8)] ∧ win0_2.index t = ![(t.val / 2 % 8), (t.val / 2 / 8), 0] :=
  (by decide +kernel : ∀ t : Fin grid0.N, _)

theorem first_at (x : Vec Ideal S2048x1024 .bf16) (y : Vec Ideal S2048x1024 .bf16) (r : Fin 1024) (l : Fin 1024) : k0_pay2 x y (ix2 r l) = (∑ s : Fin 2048, x (ix2 s r) * y (ix2 s l) : EReal) := by
  pointwise [k0_pay2, k0_pay1]

theorem next_at (x : Vec Ideal S2048x1024 .bf16) (y : Vec Ideal S2048x1024 .bf16) (z : Vec Ideal S1024x1024 .f32) (r : Fin 1024) (l : Fin 1024) : k0_pay3 x y z (ix2 r l) = z (ix2 r l) + (∑ s : Fin 2048, x (ix2 s r) * y (ix2 s l) : EReal) := by
  pointwise [k0_pay3, k0_pay1]

theorem done_at (z : Vec Ideal S1024x1024 .f32) (r : Fin 1024) (l : Fin 1024) : k0_pay4 z (ix3 0 r l) = z (ix2 r l) := by
  pointwise [k0_pay4]

variable (m : (ℓ : Loc nD τ sig) → Buf (Elt Ideal) ℓ) (c : Dev nD) (t : Fin cfg0.N)

/-- The two factors. -/
abbrev aA : FVec Ideal S4096x1024 .bf16 := m ((c.tc : Thread nD τ).loc main_arg0)
abbrev aB : FVec Ideal S4096x8192 .bf16 := m ((c.tc : Thread nD τ).loc main_arg1)

/-- The blocks of a point. -/
abbrev bA : FVec Ideal S2048x1024 .bf16 := iblk m c 0 t
abbrev bB : FVec Ideal S2048x1024 .bf16 := iblk m c 1 t

/-- One product of the sum. -/
def term (i j k : ℕ) : EReal := rd2 (aA m c) (k) (i) * rd2 (aB m c) (k) (j)

theorem left (s : Fin 2048) (r : Fin 1024) : (iblk m c 0 t (ix2 s r) : EReal) = rd2 (aA m c) (t.val % 2 * 2048 + s.val) ((t.val / 2 / 8) * 1024 + r.val) := by
  have ht : t.val < 16 := lt_of_lt_of_eq t.isLt N_0
  obtain ⟨h0, h1, h2⟩ := idx t
  have e : (iblk m c 0 t (ix2 s r) : EReal) = aA m c (ix2 ⟨(t.val % 2) * 2048 + s.val, by omega⟩ ⟨((t.val / 2 / 8)) * 1024 + r.val, by omega⟩) := by
    blk_ext [iblk, V, h0]
  rw [e]
  exact rd2_of (aA m c) _ _ _ _ _ _ (by omega) (by omega)

theorem right (s : Fin 2048) (l : Fin 1024) : (iblk m c 1 t (ix2 s l) : EReal) = rd2 (aB m c) (t.val % 2 * 2048 + s.val) ((t.val / 2 % 8) * 1024 + l.val) := by
  have ht : t.val < 16 := lt_of_lt_of_eq t.isLt N_0
  obtain ⟨h0, h1, h2⟩ := idx t
  have e : (iblk m c 1 t (ix2 s l) : EReal) = aB m c (ix2 ⟨(t.val % 2) * 2048 + s.val, by omega⟩ ⟨((t.val / 2 % 8)) * 1024 + l.val, by omega⟩) := by
    blk_ext [iblk, V, h1]
  rw [e]
  exact rd2_of (aB m c) _ _ _ _ _ _ (by omega) (by omega)

theorem both (r : Fin 1024) (l : Fin 1024) : (∑ s : Fin 2048, bA m c t (ix2 s r) * bB m c t (ix2 s l))
    = ∑ s : Fin 2048, term m c ((t.val / 2 / 8) * 1024 + r.val) ((t.val / 2 % 8) * 1024 + l.val) (t.val % 2 * 2048 + s.val) :=
  Finset.sum_congr rfl fun s _ => congrArg₂ (· * ·) (left m c t s r) (right m c t s l)

theorem start (h : t.val % 2 = 0) (r : Fin 1024) (l : Fin 1024) : ((outsAt0 m c t.val t.isLt).2 (ix2 r l) : EReal)
    = ∑ s : Fin 2048, term m c ((t.val / 2 / 8) * 1024 + r.val) ((t.val / 2 % 8) * 1024 + l.val) (t.val % 2 * 2048 + s.val) := by
  rw [outsAt0_A m c t (by omega) (by omega) (by omega)]
  frame_out
  exact (first_at _ _ _ _).trans (both m c t r l)

theorem step (h : ¬t.val % 2 = 0) (r : Fin 1024) (l : Fin 1024) : ((outsAt0 m c t.val t.isLt).2 (ix2 r l) : EReal)
    = (outsAt0 m c (t.val - 1) (Nat.lt_of_le_of_lt (Nat.sub_le _ _) t.isLt)).2 (ix2 r l) + ∑ s : Fin 2048, term m c ((t.val / 2 / 8) * 1024 + r.val) ((t.val / 2 % 8) * 1024 + l.val) (t.val % 2 * 2048 + s.val) := by
  rw [outsAt0_B m c t (by omega) (by omega) (by omega)]
  frame_out
  exact (next_at _ _ _ _ _).trans (congrArg₂ (· + ·) (congrFun ((Memref.isWhole_whole cc0_scratch0).read_unread _) _) (both m c t r l))

theorem out_scr (h : t.val % 2 = 1) (r : Fin 1024) (l : Fin 1024) : ((outsAt0 m c t.val t.isLt).1 (ix3 0 r l) : EReal) = (outsAt0 m c t.val t.isLt).2 (ix2 r l) := by
  rw [outsAt0_B m c t (by omega) (by omega) (by omega)]
  frame_out
  exact done_at _ _ _

/-- At the last step of a tile the tile is the whole product. -/
theorem out_at (h : t.val % 2 = 1) (r : Fin 1024) (l : Fin 1024) : ((outsAt0 m c t.val t.isLt).1 (ix3 0 r l) : EReal)
    = ∑ k : Fin 4096, term m c ((t.val / 2 / 8) * 1024 + r.val) ((t.val / 2 % 8) * 1024 + l.val) k.val := by
  rw [out_scr m c t h r l]
  exact fold (fun n hn => (outsAt0 m c n hn).2 (ix2 r l)) 2 2048 4096 (by omega) (by omega)
    (fun q k => term m c (q / 8 * 1024 + r.val) (q % 8 * 1024 + l.val) k)
    (fun u hu => start m c u hu r l) (fun u hu => step m c u hu r l) t h

/-- The product. -/
def Q : FVec Ideal S8x1024x1024 .bf16 := fun i => ∑ k : Fin 4096, term m c (i 1).val ((i 0).val * 1024 + (i 2).val) k.val

theorem result : (dats m 0 c).arrAt 2 cfg0.N = Q m c := by
  refine (dats m 0 c).arrAt_eq_of_covers 2 _ (by decide +kernel) fun t hf y => ?_
  blk_simp; rw [after0_2]
  have ht : t.val < 16 := lt_of_lt_of_eq t.isLt N_0
  have hm : t.val % 2 = 1 := by have := (flush0_2 t).mp hf; omega
  obtain ⟨-, -, h2⟩ := idx t
  idx_vars y
  have e : Q m c (((View.whole main_v0).slice (win0_2.rect t)).emb (ix3 y0 y1 y2)) = Q m c (ix3 ⟨(t.val / 2 % 8), by omega⟩ ⟨(t.val / 2 / 8) * 1024 + y1.val, by omega⟩ y2) := by
    generalize Q m c = X
    blk_ext [h2]
  obtain rfl : y0 = 0 := Subsingleton.elim _ _
  exact (out_at m c t hm y1 y2).trans e.symm

theorem reads : Cert.Reference2Ideal.Read.val_main_v10 (F := Ideal) (aA m c) (aB m c) = Q m c := by
  funext i
  idx_vars i
  simp only [Cert.Reference2Ideal.Read.val_main_v10_apply, Cert.Reference2Ideal.Read.val_main_v9_apply, Cert.Reference2Ideal.Read.val_main_v8_apply, Cert.Reference2Ideal.Read.val_main_v7_apply, Cert.Reference2Ideal.Read.val_main_v6_apply, Cert.Reference2Ideal.Read.val_main_v5_apply, Cert.Reference2Ideal.Read.val_main_v1_apply]
  refine Finset.sum_congr rfl fun k _ => ?_
  exact (mul_comm _ _).trans (congrArg₂ (· * ·) (rd2_idx (aA m c) _ _ _ rfl (by show ((i1.val * 8 + i0.val) * 1024 + i2.val) / 8192 = i1.val; omega)) (rd2_idx (aB m c) _ _ _ rfl (by show ((i1.val * 8 + i0.val) * 1024 + i2.val) % 8192 = i0.val * 1024 + i2.val; omega)))

end Cert.Kernel2Ideal.Value

end
-- ==== Proof.Product3.lean ====
module

public import proofs.«01_k».proof.Proof.Gen.Kernel3Ideal.Value
public import proofs.«01_k».proof.Proof.Gen.Reference3Ideal.Read
public import proofs.«01_k».proof.Proof.Product

@[expose] public section

set_option maxRecDepth 16384

noncomputable section
open Idealize.ShloMosaic Idealize.ShloMosaic.TcCoe Idealize.SL.Sem
namespace Cert.Kernel3Ideal.Value
open Cert.Kernel3Ideal Cert.Kernel3Ideal.Gen Cert.Product

theorem idx : ∀ t : Fin cfg0.N, win0_0.index t = ![(t.val / 8 / 1), t.val % 8] ∧ win0_1.index t = ![t.val % 8, (t.val / 8 % 1), 0] ∧ win0_2.index t = ![(t.val / 8 / 1), (t.val / 8 % 1)] :=
  (by decide +kernel : ∀ t : Fin grid0.N, _)

theorem first_at (x : Vec Ideal S1024x1024 .bf16) (y : Vec Ideal S1x1024x1024 .bf16) (r : Fin 1024) (l : Fin 1024) : k0_pay2 x y (ix2 r l) = (∑ s : Fin 1024, x (ix2 r s) * y (ix3 0 l s) : EReal) := by
  pointwise [k0_pay2, k0_pay1]

theorem next_at (x : Vec Ideal S1024x1024 .bf16) (y : Vec Ideal S1x1024x1024 .bf16) (z : Vec Ideal S1024x1024 .f32) (r : Fin 1024) (l : Fin 1024) : k0_pay3 x y z (ix2 r l) = z (ix2 r l) + (∑ s : Fin 1024, x (ix2 r s) * y (ix3 0 l s) : EReal) := by
  pointwise [k0_pay3, k0_pay1]

variable (m : (ℓ : Loc nD τ sig) → Buf (Elt Ideal) ℓ) (c : Dev nD) (t : Fin cfg0.N)

/-- The two factors. -/
abbrev aA : FVec Ideal S4096x8192 .bf16 := m ((c.tc : Thread nD τ).loc main_arg1)
abbrev aB : FVec Ideal S8x1024x1024 .bf16 := m ((c.tc : Thread nD τ).loc main_arg0)

/-- The blocks of a point. -/
abbrev bA : FVec Ideal S1024x1024 .bf16 := iblk m c 0 t
abbrev bB : FVec Ideal S1x1024x1024 .bf16 := iblk m c 1 t

/-- One product of the sum. -/
def term (i j k : ℕ) : EReal := rd2 (aA m c) (i) (k) * rd3 (aB m c) ((k) / 1024) (j) ((k) % 1024)

theorem left (s : Fin 1024) (r : Fin 1024) : (iblk m c 0 t (ix2 r s) : EReal) = rd2 (aA m c) ((t.val / 8 / 1) * 1024 + r.val) (t.val % 8 * 1024 + s.val) := by
  have ht : t.val < 32 := lt_of_lt_of_eq t.isLt N_0
  obtain ⟨h0, h1, h2⟩ := idx t
  have e : (iblk m c 0 t (ix2 r s) : EReal) = aA m c (ix2 ⟨((t.val / 8 / 1)) * 1024 + r.val, by omega⟩ ⟨(t.val % 8) * 1024 + s.val, by omega⟩) := by
    blk_ext [iblk, V, h0]
  rw [e]
  exact rd2_of (aA m c) _ _ _ _ _ _ (by omega) (by omega)

theorem right (s : Fin 1024) (l : Fin 1024) : (iblk m c 1 t (ix3 0 l s) : EReal) = rd3 (aB m c) ((t.val % 8 * 1024 + s.val) / 1024) ((t.val / 8 % 1) * 1024 + l.val) ((t.val % 8 * 1024 + s.val) % 1024) := by
  have ht : t.val < 32 := lt_of_lt_of_eq t.isLt N_0
  obtain ⟨h0, h1, h2⟩ := idx t
  have e : (iblk m c 1 t (ix3 0 l s) : EReal) = aB m c (ix3 ⟨t.val % 8, by omega⟩ ⟨((t.val / 8 % 1)) * 1024 + l.val, by omega⟩ ⟨s.val, by omega⟩) := by
    blk_ext [iblk, V, h1]
  rw [e]
  exact rd3_of (aB m c) _ _ _ _ _ _ _ _ _ (by omega) (by omega) (by omega)

theorem both (r : Fin 1024) (l : Fin 1024) : (∑ s : Fin 1024, bA m c t (ix2 r s) * bB m c t (ix3 0 l s))
    = ∑ s : Fin 1024, term m c ((t.val / 8 / 1) * 1024 + r.val) ((t.val / 8 % 1) * 1024 + l.val) (t.val % 8 * 1024 + s.val) :=
  Finset.sum_congr rfl fun s _ => congrArg₂ (· * ·) (left m c t s r) (right m c t s l)

theorem start (h : t.val % 8 = 0) (r : Fin 1024) (l : Fin 1024) : ((outsAt0 m c t.val t.isLt).2 (ix2 r l) : EReal)
    = ∑ s : Fin 1024, term m c ((t.val / 8 / 1) * 1024 + r.val) ((t.val / 8 % 1) * 1024 + l.val) (t.val % 8 * 1024 + s.val) := by
  rw [outsAt0_A m c t (by omega) (by omega) (by omega)]
  frame_out
  exact (first_at _ _ _ _).trans (both m c t r l)

theorem step (h : ¬t.val % 8 = 0) (r : Fin 1024) (l : Fin 1024) : ((outsAt0 m c t.val t.isLt).2 (ix2 r l) : EReal)
    = (outsAt0 m c (t.val - 1) (Nat.lt_of_le_of_lt (Nat.sub_le _ _) t.isLt)).2 (ix2 r l) + ∑ s : Fin 1024, term m c ((t.val / 8 / 1) * 1024 + r.val) ((t.val / 8 % 1) * 1024 + l.val) (t.val % 8 * 1024 + s.val) := by
  by_cases h1 : t.val % 8 = 7
  · rw [outsAt0_C m c t (by omega) (by omega) (by omega)]
    frame_out
    exact (next_at _ _ _ _ _).trans (congrArg₂ (· + ·) (congrFun ((Memref.isWhole_whole cc0_scratch0).read_unread _) _) (both m c t r l))
  · rw [outsAt0_B m c t (by omega) (by omega) (by omega)]
    frame_out
    exact (next_at _ _ _ _ _).trans (congrArg₂ (· + ·) (congrFun ((Memref.isWhole_whole cc0_scratch0).read_unread _) _) (both m c t r l))

theorem out_scr (h : t.val % 8 = 7) (r : Fin 1024) (l : Fin 1024) : ((outsAt0 m c t.val t.isLt).1 (ix2 r l) : EReal) = (outsAt0 m c t.val t.isLt).2 (ix2 r l) := by
  rw [outsAt0_C m c t (by omega) (by omega) (by omega)]
  frame_out

/-- At the last step of a tile the tile is the whole product. -/
theorem out_at (h : t.val % 8 = 7) (r : Fin 1024) (l : Fin 1024) : ((outsAt0 m c t.val t.isLt).1 (ix2 r l) : EReal)
    = ∑ k : Fin 8192, term m c ((t.val / 8 / 1) * 1024 + r.val) ((t.val / 8 % 1) * 1024 + l.val) k.val := by
  rw [out_scr m c t h r l]
  exact fold (fun n hn => (outsAt0 m c n hn).2 (ix2 r l)) 8 1024 8192 (by omega) (by omega)
    (fun q k => term m c (q / 1 * 1024 + r.val) (q % 1 * 1024 + l.val) k)
    (fun u hu => start m c u hu r l) (fun u hu => step m c u hu r l) t h

/-- The product. -/
def Q : FVec Ideal S4096x1024 .f32 := fun i => ∑ k : Fin 8192, term m c (i 0).val (i 1).val k.val

theorem result : (dats m 0 c).arrAt 2 cfg0.N = Q m c := by
  refine (dats m 0 c).arrAt_eq_of_covers 2 _ (by decide +kernel) fun t hf y => ?_
  blk_simp; rw [after0_2]
  have ht : t.val < 32 := lt_of_lt_of_eq t.isLt N_0
  have hm : t.val % 8 = 7 := by have := (flush0_2 t).mp hf; omega
  obtain ⟨-, -, h2⟩ := idx t
  idx_vars y
  have e : Q m c (((View.whole main_v0).slice (win0_2.rect t)).emb (ix2 y0 y1)) = Q m c (ix2 ⟨(t.val / 8 / 1) * 1024 + y0.val, by omega⟩ ⟨(t.val / 8 % 1) * 1024 + y1.val, by omega⟩) := by
    generalize Q m c = X
    blk_ext [h2]
  exact (out_at m c t hm y0 y1).trans e.symm

theorem reads : Cert.Reference3Ideal.Read.val_main_v6 (F := Ideal) (aB m c) (aA m c) = Q m c := by
  funext i
  idx_vars i
  simp only [Cert.Reference3Ideal.Read.val_main_v6_apply, Cert.Reference3Ideal.Read.val_main_v5_apply, Cert.Reference3Ideal.Read.val_main_v3_apply, Cert.Reference3Ideal.Read.val_main_v2_apply, Cert.Reference3Ideal.Read.val_main_v1_apply]
  refine Finset.sum_congr rfl fun k _ => ?_
  exact (congrArg₂ (· * ·) (rd2_idx (aA m c) _ _ _ (by simp only []; try omega) (by simp only []; try omega)) (rd3_idx (aB m c) _ _ _ _ (by simp only []; try omega) (by simp only []; try omega) (by simp only []; try omega)))

end Cert.Kernel3Ideal.Value

end
-- ==== Proof.Product4.lean ====
module

public import proofs.«01_k».proof.Proof.Gen.Kernel4Ideal.Value
public import proofs.«01_k».proof.Proof.Gen.Reference4Ideal.Read
public import proofs.«01_k».proof.Proof.Product

@[expose] public section

set_option maxRecDepth 16384

noncomputable section
open Idealize.ShloMosaic Idealize.ShloMosaic.TcCoe Idealize.SL.Sem
namespace Cert.Kernel4Ideal.Value
open Cert.Kernel4Ideal Cert.Kernel4Ideal.Gen Cert.Product

theorem idx : ∀ t : Fin cfg0.N, win0_0.index t = ![t.val % 2, (t.val / 2 / 4)] ∧ win0_1.index t = ![t.val % 2, (t.val / 2 % 4)] ∧ win0_2.index t = ![(t.val / 2 / 4), (t.val / 2 % 4)] :=
  (by decide +kernel : ∀ t : Fin grid0.N, _)

theorem first_at (x : Vec Ideal S2048x1024 .bf16) (y : Vec Ideal S2048x1024 .bf16) (r : Fin 1024) (l : Fin 1024) : k0_pay2 x y (ix2 r l) = (∑ s : Fin 2048, x (ix2 s r) * y (ix2 s l) : EReal) := by
  pointwise [k0_pay2, k0_pay1]

theorem next_at (x : Vec Ideal S2048x1024 .bf16) (y : Vec Ideal S2048x1024 .bf16) (z : Vec Ideal S1024x1024 .f32) (r : Fin 1024) (l : Fin 1024) : k0_pay3 x y z (ix2 r l) = z (ix2 r l) + (∑ s : Fin 2048, x (ix2 s r) * y (ix2 s l) : EReal) := by
  pointwise [k0_pay3, k0_pay1]

theorem done_at (z : Vec Ideal S1024x1024 .f32) (r : Fin 1024) (l : Fin 1024) : k0_pay4 z (ix2 r l) = z (ix2 r l) := by
  pointwise [k0_pay4]

variable (m : (ℓ : Loc nD τ sig) → Buf (Elt Ideal) ℓ) (c : Dev nD) (t : Fin cfg0.N)

/-- The two factors. -/
abbrev aA : FVec Ideal S4096x1024 .bf16 := m ((c.tc : Thread nD τ).loc main_arg0)
abbrev aB : FVec Ideal S4096x4096 .bf16 := m ((c.tc : Thread nD τ).loc main_arg1)

/-- The blocks of a point. -/
abbrev bA : FVec Ideal S2048x1024 .bf16 := iblk m c 0 t
abbrev bB : FVec Ideal S2048x1024 .bf16 := iblk m c 1 t

/-- One product of the sum. -/
def term (i j k : ℕ) : EReal := rd2 (aA m c) (k) (i) * rd2 (aB m c) (k) (j)

theorem left (s : Fin 2048) (r : Fin 1024) : (iblk m c 0 t (ix2 s r) : EReal) = rd2 (aA m c) (t.val % 2 * 2048 + s.val) ((t.val / 2 / 4) * 1024 + r.val) := by
  have ht : t.val < 8 := lt_of_lt_of_eq t.isLt N_0
  obtain ⟨h0, h1, h2⟩ := idx t
  have e : (iblk m c 0 t (ix2 s r) : EReal) = aA m c (ix2 ⟨(t.val % 2) * 2048 + s.val, by omega⟩ ⟨((t.val / 2 / 4)) * 1024 + r.val, by omega⟩) := by
    blk_ext [iblk, V, h0]
  rw [e]
  exact rd2_of (aA m c) _ _ _ _ _ _ (by omega) (by omega)

theorem right (s : Fin 2048) (l : Fin 1024) : (iblk m c 1 t (ix2 s l) : EReal) = rd2 (aB m c) (t.val % 2 * 2048 + s.val) ((t.val / 2 % 4) * 1024 + l.val) := by
  have ht : t.val < 8 := lt_of_lt_of_eq t.isLt N_0
  obtain ⟨h0, h1, h2⟩ := idx t
  have e : (iblk m c 1 t (ix2 s l) : EReal) = aB m c (ix2 ⟨(t.val % 2) * 2048 + s.val, by omega⟩ ⟨((t.val / 2 % 4)) * 1024 + l.val, by omega⟩) := by
    blk_ext [iblk, V, h1]
  rw [e]
  exact rd2_of (aB m c) _ _ _ _ _ _ (by omega) (by omega)

theorem both (r : Fin 1024) (l : Fin 1024) : (∑ s : Fin 2048, bA m c t (ix2 s r) * bB m c t (ix2 s l))
    = ∑ s : Fin 2048, term m c ((t.val / 2 / 4) * 1024 + r.val) ((t.val / 2 % 4) * 1024 + l.val) (t.val % 2 * 2048 + s.val) :=
  Finset.sum_congr rfl fun s _ => congrArg₂ (· * ·) (left m c t s r) (right m c t s l)

theorem start (h : t.val % 2 = 0) (r : Fin 1024) (l : Fin 1024) : ((outsAt0 m c t.val t.isLt).2 (ix2 r l) : EReal)
    = ∑ s : Fin 2048, term m c ((t.val / 2 / 4) * 1024 + r.val) ((t.val / 2 % 4) * 1024 + l.val) (t.val % 2 * 2048 + s.val) := by
  rw [outsAt0_A m c t (by omega) (by omega) (by omega)]
  frame_out
  exact (first_at _ _ _ _).trans (both m c t r l)

theorem step (h : ¬t.val % 2 = 0) (r : Fin 1024) (l : Fin 1024) : ((outsAt0 m c t.val t.isLt).2 (ix2 r l) : EReal)
    = (outsAt0 m c (t.val - 1) (Nat.lt_of_le_of_lt (Nat.sub_le _ _) t.isLt)).2 (ix2 r l) + ∑ s : Fin 2048, term m c ((t.val / 2 / 4) * 1024 + r.val) ((t.val / 2 % 4) * 1024 + l.val) (t.val % 2 * 2048 + s.val) := by
  rw [outsAt0_B m c t (by omega) (by omega) (by omega)]
  frame_out
  exact (next_at _ _ _ _ _).trans (congrArg₂ (· + ·) (congrFun ((Memref.isWhole_whole cc0_scratch0).read_unread _) _) (both m c t r l))

theorem out_scr (h : t.val % 2 = 1) (r : Fin 1024) (l : Fin 1024) : ((outsAt0 m c t.val t.isLt).1 (ix2 r l) : EReal) = (outsAt0 m c t.val t.isLt).2 (ix2 r l) := by
  rw [outsAt0_B m c t (by omega) (by omega) (by omega)]
  frame_out
  exact done_at _ _ _

/-- At the last step of a tile the tile is the whole product. -/
theorem out_at (h : t.val % 2 = 1) (r : Fin 1024) (l : Fin 1024) : ((outsAt0 m c t.val t.isLt).1 (ix2 r l) : EReal)
    = ∑ k : Fin 4096, term m c ((t.val / 2 / 4) * 1024 + r.val) ((t.val / 2 % 4) * 1024 + l.val) k.val := by
  rw [out_scr m c t h r l]
  exact fold (fun n hn => (outsAt0 m c n hn).2 (ix2 r l)) 2 2048 4096 (by omega) (by omega)
    (fun q k => term m c (q / 4 * 1024 + r.val) (q % 4 * 1024 + l.val) k)
    (fun u hu => start m c u hu r l) (fun u hu => step m c u hu r l) t h

/-- The product. -/
def Q : FVec Ideal S1024x4096 .bf16 := fun i => ∑ k : Fin 4096, term m c (i 0).val (i 1).val k.val

theorem result : (dats m 0 c).arrAt 2 cfg0.N = Q m c := by
  refine (dats m 0 c).arrAt_eq_of_covers 2 _ (by decide +kernel) fun t hf y => ?_
  blk_simp; rw [after0_2]
  have ht : t.val < 8 := lt_of_lt_of_eq t.isLt N_0
  have hm : t.val % 2 = 1 := by have := (flush0_2 t).mp hf; omega
  obtain ⟨-, -, h2⟩ := idx t
  idx_vars y
  have e : Q m c (((View.whole main_v0).slice (win0_2.rect t)).emb (ix2 y0 y1)) = Q m c (ix2 ⟨(t.val / 2 / 4) * 1024 + y0.val, by omega⟩ ⟨(t.val / 2 % 4) * 1024 + y1.val, by omega⟩) := by
    generalize Q m c = X
    blk_ext [h2]
  exact (out_at m c t hm y0 y1).trans e.symm

theorem reads : Cert.Reference4Ideal.Read.val_main_v6 (F := Ideal) (aA m c) (aB m c) = Q m c := by
  funext i
  idx_vars i
  simp only [Cert.Reference4Ideal.Read.val_main_v6_apply, Cert.Reference4Ideal.Read.val_main_v5_apply, Cert.Reference4Ideal.Read.val_main_v4_apply, Cert.Reference4Ideal.Read.val_main_v3_apply, Cert.Reference4Ideal.Read.val_main_v1_apply]
  refine Finset.sum_congr rfl fun k _ => ?_
  exact (mul_comm _ _).trans (congrArg₂ (· * ·) (rd2_idx (aA m c) _ _ _ (by simp only []; try omega) (by simp only []; try omega)) (rd2_idx (aB m c) _ _ _ (by simp only []; try omega) (by simp only []; try omega)))

end Cert.Kernel4Ideal.Value

end
-- ==== Proof.Product5.lean ====
module

public import proofs.«01_k».proof.Proof.Gen.Kernel5Ideal.Value
public import proofs.«01_k».proof.Proof.Gen.Reference5Ideal.Read
public import proofs.«01_k».proof.Proof.Product

@[expose] public section

set_option maxRecDepth 16384

noncomputable section
open Idealize.ShloMosaic Idealize.ShloMosaic.TcCoe Idealize.SL.Sem
namespace Cert.Kernel5Ideal.Value
open Cert.Kernel5Ideal Cert.Kernel5Ideal.Gen Cert.Product

theorem idx : ∀ t : Fin cfg0.N, win0_0.index t = ![(t.val / 8), 0] ∧ win0_1.index t = ![(t.val % 8), 0, 0] ∧ win0_2.index t = ![(t.val / 8), (t.val % 8)] :=
  (by decide +kernel : ∀ t : Fin grid0.N, _)

theorem all_at (x : Vec Ideal S1024x1024 .bf16) (y : Vec Ideal S1x1024x1024 .bf16) (r : Fin 1024) (l : Fin 1024) : k0_pay1 x y (ix2 r l) = (∑ s : Fin 1024, x (ix2 r s) * y (ix3 0 s l) : EReal) := by
  pointwise [k0_pay1]

variable (m : (ℓ : Loc nD τ sig) → Buf (Elt Ideal) ℓ) (c : Dev nD) (t : Fin cfg0.N)

/-- The two factors. -/
abbrev aA : FVec Ideal S4096x1024 .bf16 := m ((c.tc : Thread nD τ).loc main_arg0)
abbrev aB : FVec Ideal S8x1024x1024 .bf16 := m ((c.tc : Thread nD τ).loc main_arg1)

/-- The blocks of a point. -/
abbrev bA : FVec Ideal S1024x1024 .bf16 := iblk m c 0 t
abbrev bB : FVec Ideal S1x1024x1024 .bf16 := iblk m c 1 t

/-- One product of the sum. -/
def term (i j k : ℕ) : EReal := rd2 (aA m c) (i) (k) * rd3 (aB m c) ((j) / 1024) (k) ((j) % 1024)

theorem left (s : Fin 1024) (r : Fin 1024) : (iblk m c 0 t (ix2 r s) : EReal) = rd2 (aA m c) ((t.val / 8) * 1024 + r.val) (s.val) := by
  have ht : t.val < 32 := lt_of_lt_of_eq t.isLt N_0
  obtain ⟨h0, h1, h2⟩ := idx t
  have e : (iblk m c 0 t (ix2 r s) : EReal) = aA m c (ix2 ⟨((t.val / 8)) * 1024 + r.val, by omega⟩ ⟨s.val, by omega⟩) := by
    blk_ext [iblk, V, h0]
  rw [e]
  exact rd2_of (aA m c) _ _ _ _ _ _ (by omega) (by omega)

theorem right (s : Fin 1024) (l : Fin 1024) : (iblk m c 1 t (ix3 0 s l) : EReal) = rd3 (aB m c) (((t.val % 8) * 1024 + l.val) / 1024) (s.val) (((t.val % 8) * 1024 + l.val) % 1024) := by
  have ht : t.val < 32 := lt_of_lt_of_eq t.isLt N_0
  obtain ⟨h0, h1, h2⟩ := idx t
  have e : (iblk m c 1 t (ix3 0 s l) : EReal) = aB m c (ix3 ⟨(t.val % 8), by omega⟩ ⟨s.val, by omega⟩ ⟨l.val, by omega⟩) := by
    blk_ext [iblk, V, h1]
  rw [e]
  exact rd3_of (aB m c) _ _ _ _ _ _ _ _ _ (by omega) (by omega) (by omega)

theorem both (r : Fin 1024) (l : Fin 1024) : (∑ s : Fin 1024, bA m c t (ix2 r s) * bB m c t (ix3 0 s l))
    = ∑ s : Fin 1024, term m c ((t.val / 8) * 1024 + r.val) ((t.val % 8) * 1024 + l.val) (s.val) :=
  Finset.sum_congr rfl fun s _ => congrArg₂ (· * ·) (left m c t s r) (right m c t s l)

/-- The tile of a point is the whole product. -/
theorem out_at (r : Fin 1024) (l : Fin 1024) : (out0_2 (iblk m c 0 t) (iblk m c 1 t) (ix2 r l) : EReal)
    = ∑ k : Fin 1024, term m c ((t.val / 8) * 1024 + r.val) ((t.val % 8) * 1024 + l.val) k.val := by
  unfold out0_2
  frame_out
  exact (all_at _ _ _ _).trans (both m c t r l)

/-- The product. -/
def Q : FVec Ideal S4096x8192 .f32 := fun i => ∑ k : Fin 1024, term m c (i 0).val (i 1).val k.val

theorem result : (dats m 0 c).arrAt 2 cfg0.N = Q m c := by
  refine (dats m 0 c).arrAt_eq_of_covers 2 _ (by decide +kernel) fun t hf y => ?_
  blk_simp; rw [after0_2]
  have ht : t.val < 32 := lt_of_lt_of_eq t.isLt N_0
  obtain ⟨-, -, h2⟩ := idx t
  idx_vars y
  have e : Q m c (((View.whole main_v0).slice (win0_2.rect t)).emb (ix2 y0 y1)) = Q m c (ix2 ⟨(t.val / 8) * 1024 + y0.val, by omega⟩ ⟨(t.val % 8) * 1024 + y1.val, by omega⟩) := by
    generalize Q m c = X
    blk_ext [h2]
  exact (out_at m c t y0 y1).trans e.symm

theorem reads : Cert.Reference5Ideal.Read.val_main_v4 (F := Ideal) (aA m c) (aB m c) = Q m c := by
  funext i
  idx_vars i
  simp only [Cert.Reference5Ideal.Read.val_main_v4_apply, Cert.Reference5Ideal.Read.val_main_v3_apply, Cert.Reference5Ideal.Read.val_main_v2_apply, Cert.Reference5Ideal.Read.val_main_v1_apply, Cert.Reference5Ideal.Read.val_main_v0_apply]
  refine Finset.sum_congr rfl fun k _ => ?_
  exact (congrArg₂ (· * ·) (rd2_idx (aA m c) _ _ _ (by simp only []; try omega) (by simp only []; try omega)) (rd3_idx (aB m c) _ _ _ _ (by show (k.val * 8192 + i1.val) / 1024 % 8 = i1.val / 1024; omega) (by show (k.val * 8192 + i1.val) / 8192 = k.val; omega) (by show (k.val * 8192 + i1.val) % 1024 = i1.val % 1024; omega)))

end Cert.Kernel5Ideal.Value

end
-- ==== Proof.Product6.lean ====
module

public import proofs.«01_k».proof.Proof.Gen.Kernel6Ideal.Value
public import proofs.«01_k».proof.Proof.Gen.Reference6Ideal.Read
public import proofs.«01_k».proof.Proof.Product

@[expose] public section

set_option maxRecDepth 16384

noncomputable section
open Idealize.ShloMosaic Idealize.ShloMosaic.TcCoe Idealize.SL.Sem
namespace Cert.Kernel6Ideal.Value
open Cert.Kernel6Ideal Cert.Kernel6Ideal.Gen Cert.Product

theorem idx : ∀ t : Fin cfg0.N, win0_0.index t = ![(t.val / 8), 0] ∧ win0_1.index t = ![(t.val % 8), 0, 0] ∧ win0_2.index t = ![(t.val / 8), (t.val % 8)] :=
  (by decide +kernel : ∀ t : Fin grid0.N, _)

theorem all_at (x : Vec Ideal S1024x1024 .bf16) (y : Vec Ideal S1x1024x512 .bf16) (r : Fin 1024) (l : Fin 512) : k0_pay1 x y (ix2 r l) = (∑ s : Fin 1024, x (ix2 r s) * y (ix3 0 s l) : EReal) := by
  pointwise [k0_pay1]

variable (m : (ℓ : Loc nD τ sig) → Buf (Elt Ideal) ℓ) (c : Dev nD) (t : Fin cfg0.N)

/-- The two factors. -/
abbrev aA : FVec Ideal S4096x1024 .bf16 := m ((c.tc : Thread nD τ).loc main_arg0)
abbrev aB : FVec Ideal S8x1024x512 .bf16 := m ((c.tc : Thread nD τ).loc main_arg1)

/-- The blocks of a point. -/
abbrev bA : FVec Ideal S1024x1024 .bf16 := iblk m c 0 t
abbrev bB : FVec Ideal S1x1024x512 .bf16 := iblk m c 1 t

/-- One product of the sum. -/
def term (i j k : ℕ) : EReal := rd2 (aA m c) (i) (k) * rd3 (aB m c) ((j) / 512) (k) ((j) % 512)

theorem left (s : Fin 1024) (r : Fin 1024) : (iblk m c 0 t (ix2 r s) : EReal) = rd2 (aA m c) ((t.val / 8) * 1024 + r.val) (s.val) := by
  have ht : t.val < 32 := lt_of_lt_of_eq t.isLt N_0
  obtain ⟨h0, h1, h2⟩ := idx t
  have e : (iblk m c 0 t (ix2 r s) : EReal) = aA m c (ix2 ⟨((t.val / 8)) * 1024 + r.val, by omega⟩ ⟨s.val, by omega⟩) := by
    blk_ext [iblk, V, h0]
  rw [e]
  exact rd2_of (aA m c) _ _ _ _ _ _ (by omega) (by omega)

theorem right (s : Fin 1024) (l : Fin 512) : (iblk m c 1 t (ix3 0 s l) : EReal) = rd3 (aB m c) (((t.val % 8) * 512 + l.val) / 512) (s.val) (((t.val % 8) * 512 + l.val) % 512) := by
  have ht : t.val < 32 := lt_of_lt_of_eq t.isLt N_0
  obtain ⟨h0, h1, h2⟩ := idx t
  have e : (iblk m c 1 t (ix3 0 s l) : EReal) = aB m c (ix3 ⟨(t.val % 8), by omega⟩ ⟨s.val, by omega⟩ ⟨l.val, by omega⟩) := by
    blk_ext [iblk, V, h1]
  rw [e]
  exact rd3_of (aB m c) _ _ _ _ _ _ _ _ _ (by omega) (by omega) (by omega)

theorem both (r : Fin 1024) (l : Fin 512) : (∑ s : Fin 1024, bA m c t (ix2 r s) * bB m c t (ix3 0 s l))
    = ∑ s : Fin 1024, term m c ((t.val / 8) * 1024 + r.val) ((t.val % 8) * 512 + l.val) (s.val) :=
  Finset.sum_congr rfl fun s _ => congrArg₂ (· * ·) (left m c t s r) (right m c t s l)

/-- The tile of a point is the whole product. -/
theorem out_at (r : Fin 1024) (l : Fin 512) : (out0_2 (iblk m c 0 t) (iblk m c 1 t) (ix2 r l) : EReal)
    = ∑ k : Fin 1024, term m c ((t.val / 8) * 1024 + r.val) ((t.val % 8) * 512 + l.val) k.val := by
  unfold out0_2
  frame_out
  exact (all_at _ _ _ _).trans (both m c t r l)

/-- The product. -/
def Q : FVec Ideal S4096x4096 .f32 := fun i => ∑ k : Fin 1024, term m c (i 0).val (i 1).val k.val

theorem result : (dats m 0 c).arrAt 2 cfg0.N = Q m c := by
  refine (dats m 0 c).arrAt_eq_of_covers 2 _ (by decide +kernel) fun t hf y => ?_
  blk_simp; rw [after0_2]
  have ht : t.val < 32 := lt_of_lt_of_eq t.isLt N_0
  obtain ⟨-, -, h2⟩ := idx t
  idx_vars y
  have e : Q m c (((View.whole main_v0).slice (win0_2.rect t)).emb (ix2 y0 y1)) = Q m c (ix2 ⟨(t.val / 8) * 1024 + y0.val, by omega⟩ ⟨(t.val % 8) * 512 + y1.val, by omega⟩) := by
    generalize Q m c = X
    blk_ext [h2]
  exact (out_at m c t y0 y1).trans e.symm

theorem reads : Cert.Reference6Ideal.Read.val_main_v4 (F := Ideal) (aA m c) (aB m c) = Q m c := by
  funext i
  idx_vars i
  simp only [Cert.Reference6Ideal.Read.val_main_v4_apply, Cert.Reference6Ideal.Read.val_main_v3_apply, Cert.Reference6Ideal.Read.val_main_v2_apply, Cert.Reference6Ideal.Read.val_main_v1_apply, Cert.Reference6Ideal.Read.val_main_v0_apply]
  refine Finset.sum_congr rfl fun k _ => ?_
  exact (congrArg₂ (· * ·) (rd2_idx (aA m c) _ _ _ (by simp only []; try omega) (by simp only []; try omega)) (rd3_idx (aB m c) _ _ _ _ (by show (k.val * 4096 + i1.val) / 512 % 8 = i1.val / 512; omega) (by show (k.val * 4096 + i1.val) / 4096 = k.val; omega) (by show (k.val * 4096 + i1.val) % 512 = i1.val % 512; omega)))

end Cert.Kernel6Ideal.Value

end
-- ==== Proof.Product7.lean ====
module

public import proofs.«01_k».proof.Proof.Gen.Kernel7Ideal.Value
public import proofs.«01_k».proof.Proof.Gen.Reference7Ideal.Read
public import proofs.«01_k».proof.Proof.Product

@[expose] public section

set_option maxRecDepth 16384

noncomputable section
open Idealize.ShloMosaic Idealize.ShloMosaic.TcCoe Idealize.SL.Sem
namespace Cert.Kernel7Ideal.Value
open Cert.Kernel7Ideal Cert.Kernel7Ideal.Gen Cert.Product

theorem idx : ∀ t : Fin cfg0.N, win0_0.index t = ![t.val % 2, (t.val / 2 / 8)] ∧ win0_1.index t = ![t.val % 2, (t.val / 2 % 8)] ∧ win0_2.index t = ![(t.val / 2 % 8), (t.val / 2 / 8), 0] :=
  (by decide +kernel : ∀ t : Fin grid0.N, _)

theorem first_at (x : Vec Ideal S2048x1024 .bf16) (y : Vec Ideal S2048x512 .bf16) (r : Fin 1024) (l : Fin 512) : k0_pay2 x y (ix2 r l) = (∑ s : Fin 2048, x (ix2 s r) * y (ix2 s l) : EReal) := by
  pointwise [k0_pay2, k0_pay1]

theorem next_at (x : Vec Ideal S2048x1024 .bf16) (y : Vec Ideal S2048x512 .bf16) (z : Vec Ideal S1024x512 .f32) (r : Fin 1024) (l : Fin 512) : k0_pay3 x y z (ix2 r l) = z (ix2 r l) + (∑ s : Fin 2048, x (ix2 s r) * y (ix2 s l) : EReal) := by
  pointwise [k0_pay3, k0_pay1]

theorem done_at (z : Vec Ideal S1024x512 .f32) (r : Fin 1024) (l : Fin 512) : k0_pay4 z (ix3 0 r l) = z (ix2 r l) := by
  pointwise [k0_pay4]

variable (m : (ℓ : Loc nD τ sig) → Buf (Elt Ideal) ℓ) (c : Dev nD) (t : Fin cfg0.N)

/-- The two factors. -/
abbrev aA : FVec Ideal S4096x1024 .bf16 := m ((c.tc : Thread nD τ).loc main_arg0)
abbrev aB : FVec Ideal S4096x4096 .bf16 := m ((c.tc : Thread nD τ).loc main_arg1)

/-- The blocks of a point. -/
abbrev bA : FVec Ideal S2048x1024 .bf16 := iblk m c 0 t
abbrev bB : FVec Ideal S2048x512 .bf16 := iblk m c 1 t

/-- One product of the sum. -/
def term (i j k : ℕ) : EReal := rd2 (aA m c) (k) (i) * rd2 (aB m c) (k) (j)

theorem left (s : Fin 2048) (r : Fin 1024) : (iblk m c 0 t (ix2 s r) : EReal) = rd2 (aA m c) (t.val % 2 * 2048 + s.val) ((t.val / 2 / 8) * 1024 + r.val) := by
  have ht : t.val < 16 := lt_of_lt_of_eq t.isLt N_0
  obtain ⟨h0, h1, h2⟩ := idx t
  have e : (iblk m c 0 t (ix2 s r) : EReal) = aA m c (ix2 ⟨(t.val % 2) * 2048 + s.val, by omega⟩ ⟨((t.val / 2 / 8)) * 1024 + r.val, by omega⟩) := by
    blk_ext [iblk, V, h0]
  rw [e]
  exact rd2_of (aA m c) _ _ _ _ _ _ (by omega) (by omega)

theorem right (s : Fin 2048) (l : Fin 512) : (iblk m c 1 t (ix2 s l) : EReal) = rd2 (aB m c) (t.val % 2 * 2048 + s.val) ((t.val / 2 % 8) * 512 + l.val) := by
  have ht : t.val < 16 := lt_of_lt_of_eq t.isLt N_0
  obtain ⟨h0, h1, h2⟩ := idx t
  have e : (iblk m c 1 t (ix2 s l) : EReal) = aB m c (ix2 ⟨(t.val % 2) * 2048 + s.val, by omega⟩ ⟨((t.val / 2 % 8)) * 512 + l.val, by omega⟩) := by
    blk_ext [iblk, V, h1]
  rw [e]
  exact rd2_of (aB m c) _ _ _ _ _ _ (by omega) (by omega)

theorem both (r : Fin 1024) (l : Fin 512) : (∑ s : Fin 2048, bA m c t (ix2 s r) * bB m c t (ix2 s l))
    = ∑ s : Fin 2048, term m c ((t.val / 2 / 8) * 1024 + r.val) ((t.val / 2 % 8) * 512 + l.val) (t.val % 2 * 2048 + s.val) :=
  Finset.sum_congr rfl fun s _ => congrArg₂ (· * ·) (left m c t s r) (right m c t s l)

theorem start (h : t.val % 2 = 0) (r : Fin 1024) (l : Fin 512) : ((outsAt0 m c t.val t.isLt).2 (ix2 r l) : EReal)
    = ∑ s : Fin 2048, term m c ((t.val / 2 / 8) * 1024 + r.val) ((t.val / 2 % 8) * 512 + l.val) (t.val % 2 * 2048 + s.val) := by
  rw [outsAt0_A m c t (by omega) (by omega) (by omega)]
  frame_out
  exact (first_at _ _ _ _).trans (both m c t r l)

theorem step (h : ¬t.val % 2 = 0) (r : Fin 1024) (l : Fin 512) : ((outsAt0 m c t.val t.isLt).2 (ix2 r l) : EReal)
    = (outsAt0 m c (t.val - 1) (Nat.lt_of_le_of_lt (Nat.sub_le _ _) t.isLt)).2 (ix2 r l) + ∑ s : Fin 2048, term m c ((t.val / 2 / 8) * 1024 + r.val) ((t.val / 2 % 8) * 512 + l.val) (t.val % 2 * 2048 + s.val) := by
  rw [outsAt0_B m c t (by omega) (by omega) (by omega)]
  frame_out
  exact (next_at _ _ _ _ _).trans (congrArg₂ (· + ·) (congrFun ((Memref.isWhole_whole cc0_scratch0).read_unread _) _) (both m c t r l))

theorem out_scr (h : t.val % 2 = 1) (r : Fin 1024) (l : Fin 512) : ((outsAt0 m c t.val t.isLt).1 (ix3 0 r l) : EReal) = (outsAt0 m c t.val t.isLt).2 (ix2 r l) := by
  rw [outsAt0_B m c t (by omega) (by omega) (by omega)]
  frame_out
  exact done_at _ _ _

/-- At the last step of a tile the tile is the whole product. -/
theorem out_at (h : t.val % 2 = 1) (r : Fin 1024) (l : Fin 512) : ((outsAt0 m c t.val t.isLt).1 (ix3 0 r l) : EReal)
    = ∑ k : Fin 4096, term m c ((t.val / 2 / 8) * 1024 + r.val) ((t.val / 2 % 8) * 512 + l.val) k.val := by
  rw [out_scr m c t h r l]
  exact fold (fun n hn => (outsAt0 m c n hn).2 (ix2 r l)) 2 2048 4096 (by omega) (by omega)
    (fun q k => term m c (q / 8 * 1024 + r.val) (q % 8 * 512 + l.val) k)
    (fun u hu => start m c u hu r l) (fun u hu => step m c u hu r l) t h

/-- The product. -/
def Q : FVec Ideal S8x1024x512 .bf16 := fun i => ∑ k : Fin 4096, term m c (i 1).val ((i 0).val * 512 + (i 2).val) k.val

theorem result : (dats m 0 c).arrAt 2 cfg0.N = Q m c := by
  refine (dats m 0 c).arrAt_eq_of_covers 2 _ (by decide +kernel) fun t hf y => ?_
  blk_simp; rw [after0_2]
  have ht : t.val < 16 := lt_of_lt_of_eq t.isLt N_0
  have hm : t.val % 2 = 1 := by have := (flush0_2 t).mp hf; omega
  obtain ⟨-, -, h2⟩ := idx t
  idx_vars y
  have e : Q m c (((View.whole main_v0).slice (win0_2.rect t)).emb (ix3 y0 y1 y2)) = Q m c (ix3 ⟨(t.val / 2 % 8), by omega⟩ ⟨(t.val / 2 / 8) * 1024 + y1.val, by omega⟩ y2) := by
    generalize Q m c = X
    blk_ext [h2]
  obtain rfl : y0 = 0 := Subsingleton.elim _ _
  exact (out_at m c t hm y1 y2).trans e.symm

theorem reads : Cert.Reference7Ideal.Read.val_main_v10 (F := Ideal) (aA m c) (aB m c) = Q m c := by
  funext i
  idx_vars i
  simp only [Cert.Reference7Ideal.Read.val_main_v10_apply, Cert.Reference7Ideal.Read.val_main_v9_apply, Cert.Reference7Ideal.Read.val_main_v8_apply, Cert.Reference7Ideal.Read.val_main_v7_apply, Cert.Reference7Ideal.Read.val_main_v6_apply, Cert.Reference7Ideal.Read.val_main_v5_apply, Cert.Reference7Ideal.Read.val_main_v1_apply]
  refine Finset.sum_congr rfl fun k _ => ?_
  exact (mul_comm _ _).trans (congrArg₂ (· * ·) (rd2_idx (aA m c) _ _ _ rfl (by show ((i1.val * 8 + i0.val) * 512 + i2.val) / 4096 = i1.val; omega)) (rd2_idx (aB m c) _ _ _ rfl (by show ((i1.val * 8 + i0.val) * 512 + i2.val) % 4096 = i0.val * 512 + i2.val; omega)))

end Cert.Kernel7Ideal.Value

end
-- ==== Proof.Product8.lean ====
module

public import proofs.«01_k».proof.Proof.Gen.Kernel8Ideal.Value
public import proofs.«01_k».proof.Proof.Gen.Reference8Ideal.Read
public import proofs.«01_k».proof.Proof.Product

@[expose] public section

set_option maxRecDepth 16384

noncomputable section
open Idealize.ShloMosaic Idealize.ShloMosaic.TcCoe Idealize.SL.Sem
namespace Cert.Kernel8Ideal.Value
open Cert.Kernel8Ideal Cert.Kernel8Ideal.Gen Cert.Product

theorem idx : ∀ t : Fin cfg0.N, win0_0.index t = ![(t.val / 8 / 1), t.val % 8] ∧ win0_1.index t = ![t.val % 8, (t.val / 8 % 1), 0] ∧ win0_2.index t = ![(t.val / 8 / 1), (t.val / 8 % 1)] :=
  (by decide +kernel : ∀ t : Fin grid0.N, _)

theorem first_at (x : Vec Ideal S1024x512 .bf16) (y : Vec Ideal S1x1024x512 .bf16) (r : Fin 1024) (l : Fin 1024) : k0_pay2 x y (ix2 r l) = (∑ s : Fin 512, x (ix2 r s) * y (ix3 0 l s) : EReal) := by
  pointwise [k0_pay2, k0_pay1]

theorem next_at (x : Vec Ideal S1024x512 .bf16) (y : Vec Ideal S1x1024x512 .bf16) (z : Vec Ideal S1024x1024 .f32) (r : Fin 1024) (l : Fin 1024) : k0_pay3 x y z (ix2 r l) = z (ix2 r l) + (∑ s : Fin 512, x (ix2 r s) * y (ix3 0 l s) : EReal) := by
  pointwise [k0_pay3, k0_pay1]

variable (m : (ℓ : Loc nD τ sig) → Buf (Elt Ideal) ℓ) (c : Dev nD) (t : Fin cfg0.N)

/-- The two factors. -/
abbrev aA : FVec Ideal S4096x4096 .bf16 := m ((c.tc : Thread nD τ).loc main_arg1)
abbrev aB : FVec Ideal S8x1024x512 .bf16 := m ((c.tc : Thread nD τ).loc main_arg0)

/-- The blocks of a point. -/
abbrev bA : FVec Ideal S1024x512 .bf16 := iblk m c 0 t
abbrev bB : FVec Ideal S1x1024x512 .bf16 := iblk m c 1 t

/-- One product of the sum. -/
def term (i j k : ℕ) : EReal := rd2 (aA m c) (i) (k) * rd3 (aB m c) ((k) / 512) (j) ((k) % 512)

theorem left (s : Fin 512) (r : Fin 1024) : (iblk m c 0 t (ix2 r s) : EReal) = rd2 (aA m c) ((t.val / 8 / 1) * 1024 + r.val) (t.val % 8 * 512 + s.val) := by
  have ht : t.val < 32 := lt_of_lt_of_eq t.isLt N_0
  obtain ⟨h0, h1, h2⟩ := idx t
  have e : (iblk m c 0 t (ix2 r s) : EReal) = aA m c (ix2 ⟨((t.val / 8 / 1)) * 1024 + r.val, by omega⟩ ⟨(t.val % 8) * 512 + s.val, by omega⟩) := by
    blk_ext [iblk, V, h0]
  rw [e]
  exact rd2_of (aA m c) _ _ _ _ _ _ (by omega) (by omega)

theorem right (s : Fin 512) (l : Fin 1024) : (iblk m c 1 t (ix3 0 l s) : EReal) = rd3 (aB m c) ((t.val % 8 * 512 + s.val) / 512) ((t.val / 8 % 1) * 1024 + l.val) ((t.val % 8 * 512 + s.val) % 512) := by
  have ht : t.val < 32 := lt_of_lt_of_eq t.isLt N_0
  obtain ⟨h0, h1, h2⟩ := idx t
  have e : (iblk m c 1 t (ix3 0 l s) : EReal) = aB m c (ix3 ⟨t.val % 8, by omega⟩ ⟨((t.val / 8 % 1)) * 1024 + l.val, by omega⟩ ⟨s.val, by omega⟩) := by
    blk_ext [iblk, V, h1]
  rw [e]
  exact rd3_of (aB m c) _ _ _ _ _ _ _ _ _ (by omega) (by omega) (by omega)

theorem both (r : Fin 1024) (l : Fin 1024) : (∑ s : Fin 512, bA m c t (ix2 r s) * bB m c t (ix3 0 l s))
    = ∑ s : Fin 512, term m c ((t.val / 8 / 1) * 1024 + r.val) ((t.val / 8 % 1) * 1024 + l.val) (t.val % 8 * 512 + s.val) :=
  Finset.sum_congr rfl fun s _ => congrArg₂ (· * ·) (left m c t s r) (right m c t s l)

theorem start (h : t.val % 8 = 0) (r : Fin 1024) (l : Fin 1024) : ((outsAt0 m c t.val t.isLt).2 (ix2 r l) : EReal)
    = ∑ s : Fin 512, term m c ((t.val / 8 / 1) * 1024 + r.val) ((t.val / 8 % 1) * 1024 + l.val) (t.val % 8 * 512 + s.val) := by
  rw [outsAt0_A m c t (by omega) (by omega) (by omega)]
  frame_out
  exact (first_at _ _ _ _).trans (both m c t r l)

theorem step (h : ¬t.val % 8 = 0) (r : Fin 1024) (l : Fin 1024) : ((outsAt0 m c t.val t.isLt).2 (ix2 r l) : EReal)
    = (outsAt0 m c (t.val - 1) (Nat.lt_of_le_of_lt (Nat.sub_le _ _) t.isLt)).2 (ix2 r l) + ∑ s : Fin 512, term m c ((t.val / 8 / 1) * 1024 + r.val) ((t.val / 8 % 1) * 1024 + l.val) (t.val % 8 * 512 + s.val) := by
  by_cases h1 : t.val % 8 = 7
  · rw [outsAt0_C m c t (by omega) (by omega) (by omega)]
    frame_out
    exact (next_at _ _ _ _ _).trans (congrArg₂ (· + ·) (congrFun ((Memref.isWhole_whole cc0_scratch0).read_unread _) _) (both m c t r l))
  · rw [outsAt0_B m c t (by omega) (by omega) (by omega)]
    frame_out
    exact (next_at _ _ _ _ _).trans (congrArg₂ (· + ·) (congrFun ((Memref.isWhole_whole cc0_scratch0).read_unread _) _) (both m c t r l))

theorem out_scr (h : t.val % 8 = 7) (r : Fin 1024) (l : Fin 1024) : ((outsAt0 m c t.val t.isLt).1 (ix2 r l) : EReal) = (outsAt0 m c t.val t.isLt).2 (ix2 r l) := by
  rw [outsAt0_C m c t (by omega) (by omega) (by omega)]
  frame_out

/-- At the last step of a tile the tile is the whole product. -/
theorem out_at (h : t.val % 8 = 7) (r : Fin 1024) (l : Fin 1024) : ((outsAt0 m c t.val t.isLt).1 (ix2 r l) : EReal)
    = ∑ k : Fin 4096, term m c ((t.val / 8 / 1) * 1024 + r.val) ((t.val / 8 % 1) * 1024 + l.val) k.val := by
  rw [out_scr m c t h r l]
  exact fold (fun n hn => (outsAt0 m c n hn).2 (ix2 r l)) 8 512 4096 (by omega) (by omega)
    (fun q k => term m c (q / 1 * 1024 + r.val) (q % 1 * 1024 + l.val) k)
    (fun u hu => start m c u hu r l) (fun u hu => step m c u hu r l) t h

/-- The product. -/
def Q : FVec Ideal S4096x1024 .f32 := fun i => ∑ k : Fin 4096, term m c (i 0).val (i 1).val k.val

theorem result : (dats m 0 c).arrAt 2 cfg0.N = Q m c := by
  refine (dats m 0 c).arrAt_eq_of_covers 2 _ (by decide +kernel) fun t hf y => ?_
  blk_simp; rw [after0_2]
  have ht : t.val < 32 := lt_of_lt_of_eq t.isLt N_0
  have hm : t.val % 8 = 7 := by have := (flush0_2 t).mp hf; omega
  obtain ⟨-, -, h2⟩ := idx t
  idx_vars y
  have e : Q m c (((View.whole main_v0).slice (win0_2.rect t)).emb (ix2 y0 y1)) = Q m c (ix2 ⟨(t.val / 8 / 1) * 1024 + y0.val, by omega⟩ ⟨(t.val / 8 % 1) * 1024 + y1.val, by omega⟩) := by
    generalize Q m c = X
    blk_ext [h2]
  exact (out_at m c t hm y0 y1).trans e.symm

theorem reads : Cert.Reference8Ideal.Read.val_main_v6 (F := Ideal) (aB m c) (aA m c) = Q m c := by
  funext i
  idx_vars i
  simp only [Cert.Reference8Ideal.Read.val_main_v6_apply, Cert.Reference8Ideal.Read.val_main_v5_apply, Cert.Reference8Ideal.Read.val_main_v3_apply, Cert.Reference8Ideal.Read.val_main_v2_apply, Cert.Reference8Ideal.Read.val_main_v1_apply]
  refine Finset.sum_congr rfl fun k _ => ?_
  exact (congrArg₂ (· * ·) (rd2_idx (aA m c) _ _ _ (by simp only []; try omega) (by simp only []; try omega)) (rd3_idx (aB m c) _ _ _ _ (by simp only []; try omega) (by simp only []; try omega) (by simp only []; try omega)))

end Cert.Kernel8Ideal.Value

end
-- ==== Proof.Product9.lean ====
module

public import proofs.«01_k».proof.Proof.Gen.Kernel9Ideal.Value
public import proofs.«01_k».proof.Proof.Gen.Reference9Ideal.Read
public import proofs.«01_k».proof.Proof.Product

@[expose] public section

set_option maxRecDepth 16384

noncomputable section
open Idealize.ShloMosaic Idealize.ShloMosaic.TcCoe Idealize.SL.Sem
namespace Cert.Kernel9Ideal.Value
open Cert.Kernel9Ideal Cert.Kernel9Ideal.Gen Cert.Product

theorem idx : ∀ t : Fin cfg0.N, win0_0.index t = ![(t.val / 2), 0] ∧ win0_1.index t = ![0, (t.val % 2)] ∧ win0_2.index t = ![(t.val / 2), (t.val % 2)] :=
  (by decide +kernel : ∀ t : Fin grid0.N, _)

theorem all_at (x : Vec Ideal S1024x1024 .bf16) (y : Vec Ideal S1024x2048 .bf16) (r : Fin 1024) (l : Fin 2048) : k0_pay1 x y (ix2 r l) = (∑ s : Fin 1024, x (ix2 r s) * y (ix2 s l) : EReal) := by
  pointwise [k0_pay1]

variable (m : (ℓ : Loc nD τ sig) → Buf (Elt Ideal) ℓ) (c : Dev nD) (t : Fin cfg0.N)

/-- The two factors. -/
abbrev aA : FVec Ideal S4096x1024 .bf16 := m ((c.tc : Thread nD τ).loc main_arg0)
abbrev aB : FVec Ideal S1024x6160 .bf16 := m ((c.tc : Thread nD τ).loc main_arg1)

/-- The blocks of a point. -/
abbrev bA : FVec Ideal S1024x1024 .bf16 := iblk m c 0 t
abbrev bB : FVec Ideal S1024x2048 .bf16 := X0_1 m c t

/-- One product of the sum. -/
def term (i j k : ℕ) : EReal := rd2 (aA m c) (i) (k) * rd2 (aB m c) (k) (j)

theorem left (s : Fin 1024) (r : Fin 1024) : (iblk m c 0 t (ix2 r s) : EReal) = rd2 (aA m c) ((t.val / 2) * 1024 + r.val) (s.val) := by
  have ht : t.val < 8 := lt_of_lt_of_eq t.isLt N_0
  obtain ⟨h0, h1, h2⟩ := idx t
  have e : (iblk m c 0 t (ix2 r s) : EReal) = aA m c (ix2 ⟨((t.val / 2)) * 1024 + r.val, by omega⟩ ⟨s.val, by omega⟩) := by
    blk_ext [iblk, V, h0]
  rw [e]
  exact rd2_of (aA m c) _ _ _ _ _ _ (by omega) (by omega)

theorem right (s : Fin 1024) (l : Fin 2048) : (X0_1 m c t (ix2 s l) : EReal) = rd2 (aB m c) (s.val) ((t.val % 2) * 2048 + l.val) := by
  have ht : t.val < 8 := lt_of_lt_of_eq t.isLt N_0
  obtain ⟨h0, h1, h2⟩ := idx t
  have e : (X0_1 m c t (ix2 s l) : EReal) = aB m c (ix2 ⟨s.val, by omega⟩ ⟨((t.val % 2)) * 2048 + l.val, by omega⟩) := by
    unfold X0_1 Pipeline.Window.fill
    rw [dif_pos (moved0_1 t _)]
    blk_ext [iblk, V, h1]
  rw [e]
  exact rd2_of (aB m c) _ _ _ _ _ _ (by omega) (by omega)

theorem both (r : Fin 1024) (l : Fin 2048) : (∑ s : Fin 1024, bA m c t (ix2 r s) * bB m c t (ix2 s l))
    = ∑ s : Fin 1024, term m c ((t.val / 2) * 1024 + r.val) ((t.val % 2) * 2048 + l.val) (s.val) :=
  Finset.sum_congr rfl fun s _ => congrArg₂ (· * ·) (left m c t s r) (right m c t s l)

/-- The tile of a point is the whole product. -/
theorem out_at (r : Fin 1024) (l : Fin 2048) : (outsAt0 m c t (ix2 r l) : EReal)
    = ∑ k : Fin 1024, term m c ((t.val / 2) * 1024 + r.val) ((t.val % 2) * 2048 + l.val) k.val := by
  unfold outsAt0
  frame_out
  exact (all_at _ _ _ _).trans (both m c t r l)

/-- The product. -/
def Q : FVec Ideal S4096x4096 .f32 := fun i => ∑ k : Fin 1024, term m c (i 0).val (i 1).val k.val

theorem result : (dats m 0 c).arrAt 2 cfg0.N = Q m c := by
  refine (dats m 0 c).arrAt_eq_of_covers 2 _ (by decide +kernel) fun t hf y => ?_
  blk_simp; rw [after0_2]
  have ht : t.val < 8 := lt_of_lt_of_eq t.isLt N_0
  obtain ⟨-, -, h2⟩ := idx t
  idx_vars y
  have e : Q m c (((View.whole main_v0).slice (win0_2.rect t)).emb (ix2 y0 y1)) = Q m c (ix2 ⟨(t.val / 2) * 1024 + y0.val, by omega⟩ ⟨(t.val % 2) * 2048 + y1.val, by omega⟩) := by
    generalize Q m c = X
    blk_ext [h2]
  exact (out_at m c t y0 y1).trans e.symm

theorem reads : Cert.Reference9Ideal.Read.val_main_v3 (F := Ideal) (aA m c) (aB m c) = Q m c := by
  funext i
  idx_vars i
  simp only [Cert.Reference9Ideal.Read.val_main_v3_apply, Cert.Reference9Ideal.Read.val_main_v2_apply, Cert.Reference9Ideal.Read.val_main_v1_apply, Cert.Reference9Ideal.Read.val_main_v0_apply]
  refine Finset.sum_congr rfl fun k _ => ?_
  exact (congrArg₂ (· * ·) (rd2_idx (aA m c) _ _ _ (by simp only []; try omega) (by simp only []; try omega)) (rd2_idx (aB m c) _ _ _ (by simp only []; try omega) (by simp only []; try omega)))

end Cert.Kernel9Ideal.Value

end
-- ==== Proof.Product10.lean ====
module

public import proofs.«01_k».proof.Proof.Gen.Kernel10Ideal.Value
public import proofs.«01_k».proof.Proof.Gen.Reference10Ideal.Read
public import proofs.«01_k».proof.Proof.Product

@[expose] public section

set_option maxRecDepth 16384

noncomputable section
open Idealize.ShloMosaic Idealize.ShloMosaic.TcCoe Idealize.SL.Sem
namespace Cert.Kernel10Ideal.Value
open Cert.Kernel10Ideal Cert.Kernel10Ideal.Gen Cert.Product

theorem idx : ∀ t : Fin cfg0.N, win0_0.index t = ![(t.val / 1), 0] ∧ win0_1.index t = ![0, (t.val % 1) + 2] ∧ win0_2.index t = ![(t.val / 1), (t.val % 1)] :=
  (by decide +kernel : ∀ t : Fin grid0.N, _)

theorem all_at (x : Vec Ideal S1024x1024 .bf16) (y : Vec Ideal S1024x2048 .bf16) (r : Fin 1024) (l : Fin 2048) : k0_pay1 x y (ix2 r l) = (∑ s : Fin 1024, x (ix2 r s) * y (ix2 s l) : EReal) := by
  pointwise [k0_pay1]

variable (m : (ℓ : Loc nD τ sig) → Buf (Elt Ideal) ℓ) (c : Dev nD) (t : Fin cfg0.N)

/-- The two factors. -/
abbrev aA : FVec Ideal S4096x1024 .bf16 := m ((c.tc : Thread nD τ).loc main_arg0)
abbrev aB : FVec Ideal S1024x6160 .bf16 := m ((c.tc : Thread nD τ).loc main_arg1)

/-- The blocks of a point. -/
abbrev bA : FVec Ideal S1024x1024 .bf16 := iblk m c 0 t
abbrev bB : FVec Ideal S1024x2048 .bf16 := X0_1 m c t

/-- One product of the sum. -/
def term (i j k : ℕ) : EReal := rd2 (aA m c) (i) (k) * rd2 (aB m c) (k) (4096 + (j))

theorem left (s : Fin 1024) (r : Fin 1024) : (iblk m c 0 t (ix2 r s) : EReal) = rd2 (aA m c) ((t.val / 1) * 1024 + r.val) (s.val) := by
  have ht : t.val < 4 := lt_of_lt_of_eq t.isLt N_0
  obtain ⟨h0, h1, h2⟩ := idx t
  have e : (iblk m c 0 t (ix2 r s) : EReal) = aA m c (ix2 ⟨((t.val / 1)) * 1024 + r.val, by omega⟩ ⟨s.val, by omega⟩) := by
    blk_ext [iblk, V, h0]
  rw [e]
  exact rd2_of (aA m c) _ _ _ _ _ _ (by omega) (by omega)

theorem right (s : Fin 1024) (l : Fin 2048) : (X0_1 m c t (ix2 s l) : EReal) = rd2 (aB m c) (s.val) (4096 + ((t.val % 1) * 2048 + l.val)) := by
  have ht : t.val < 4 := lt_of_lt_of_eq t.isLt N_0
  obtain ⟨h0, h1, h2⟩ := idx t
  have e : (X0_1 m c t (ix2 s l) : EReal) = aB m c (ix2 ⟨s.val, by omega⟩ ⟨((t.val % 1) + 2) * 2048 + l.val, by omega⟩) := by
    unfold X0_1 Pipeline.Window.fill
    rw [dif_pos (moved0_1 t _)]
    blk_ext [iblk, V, h1]
  rw [e]
  exact rd2_of (aB m c) _ _ _ _ _ _ (by omega) (by omega)

theorem both (r : Fin 1024) (l : Fin 2048) : (∑ s : Fin 1024, bA m c t (ix2 r s) * bB m c t (ix2 s l))
    = ∑ s : Fin 1024, term m c ((t.val / 1) * 1024 + r.val) ((t.val % 1) * 2048 + l.val) (s.val) :=
  Finset.sum_congr rfl fun s _ => congrArg₂ (· * ·) (left m c t s r) (right m c t s l)

/-- The tile of a point is the whole product. -/
theorem out_at (r : Fin 1024) (l : Fin 2048) : (outsAt0 m c t (ix2 r l) : EReal)
    = ∑ k : Fin 1024, term m c ((t.val / 1) * 1024 + r.val) ((t.val % 1) * 2048 + l.val) k.val := by
  unfold outsAt0
  frame_out
  exact (all_at _ _ _ _).trans (both m c t r l)

/-- The product. -/
def Q : FVec Ideal S4096x2048 .f32 := fun i => ∑ k : Fin 1024, term m c (i 0).val (i 1).val k.val

theorem result : (dats m 0 c).arrAt 2 cfg0.N = Q m c := by
  refine (dats m 0 c).arrAt_eq_of_covers 2 _ (by decide +kernel) fun t hf y => ?_
  blk_simp; rw [after0_2]
  have ht : t.val < 4 := lt_of_lt_of_eq t.isLt N_0
  obtain ⟨-, -, h2⟩ := idx t
  idx_vars y
  have e : Q m c (((View.whole main_v0).slice (win0_2.rect t)).emb (ix2 y0 y1)) = Q m c (ix2 ⟨(t.val / 1) * 1024 + y0.val, by omega⟩ ⟨(t.val % 1) * 2048 + y1.val, by omega⟩) := by
    generalize Q m c = X
    blk_ext [h2]
  exact (out_at m c t y0 y1).trans e.symm

theorem reads : Cert.Reference10Ideal.Read.val_main_v4 (F := Ideal) (aA m c) (aB m c) = Q m c := by
  funext i
  idx_vars i
  simp only [Cert.Reference10Ideal.Read.val_main_v4_apply, Cert.Reference10Ideal.Read.val_main_v2_apply, Cert.Reference10Ideal.Read.val_main_v1_apply, Cert.Reference10Ideal.Read.val_main_v0_apply]
  refine Finset.sum_congr rfl fun k _ => ?_
  exact (congrArg₂ (· * ·) (rd2_idx (aA m c) _ _ _ (by simp only []; try omega) (by simp only []; try omega)) (rd2_idx (aB m c) _ _ _ (by simp only []; try omega) (by simp only []; try omega)))

end Cert.Kernel10Ideal.Value

end
-- ==== Proof.Product11.lean ====
module

public import proofs.«01_k».proof.Proof.Gen.Kernel11Ideal.Value
public import proofs.«01_k».proof.Proof.Gen.Reference11Ideal.Read
public import proofs.«01_k».proof.Proof.Product

@[expose] public section

set_option maxRecDepth 16384

noncomputable section
open Idealize.ShloMosaic Idealize.ShloMosaic.TcCoe Idealize.SL.Sem
namespace Cert.Kernel11Ideal.Value
open Cert.Kernel11Ideal Cert.Kernel11Ideal.Gen Cert.Product

theorem idx : ∀ t : Fin cfg0.N, win0_0.index t = ![(t.val / 1), 0] ∧ win0_1.index t = ![(t.val % 1), 0] ∧ win0_2.index t = ![(t.val / 1), (t.val % 1)] :=
  (by decide +kernel : ∀ t : Fin grid0.N, _)

theorem all_at (x : Vec Ideal S1024x1024 .f32) (y : Vec Ideal S2048x1024 .bf16) (r : Fin 1024) (l : Fin 2048) : k0_pay1 x y (ix2 r l) = (∑ s : Fin 1024, x (ix2 r s) * y (ix2 l s) : EReal) := by
  pointwise [k0_pay1]

variable (m : (ℓ : Loc nD τ sig) → Buf (Elt Ideal) ℓ) (c : Dev nD) (t : Fin cfg0.N)

/-- The two factors. -/
abbrev aA : FVec Ideal S4096x1024 .f32 := m ((c.tc : Thread nD τ).loc main_arg0)
abbrev aB : FVec Ideal S2048x1024 .bf16 := m ((c.tc : Thread nD τ).loc main_arg1)

/-- The blocks of a point. -/
abbrev bA : FVec Ideal S1024x1024 .f32 := iblk m c 0 t
abbrev bB : FVec Ideal S2048x1024 .bf16 := iblk m c 1 t

/-- One product of the sum. -/
def term (i j k : ℕ) : EReal := rd2 (aA m c) (i) (k) * rd2 (aB m c) (j) (k)

theorem left (s : Fin 1024) (r : Fin 1024) : (iblk m c 0 t (ix2 r s) : EReal) = rd2 (aA m c) ((t.val / 1) * 1024 + r.val) (s.val) := by
  have ht : t.val < 4 := lt_of_lt_of_eq t.isLt N_0
  obtain ⟨h0, h1, h2⟩ := idx t
  have e : (iblk m c 0 t (ix2 r s) : EReal) = aA m c (ix2 ⟨((t.val / 1)) * 1024 + r.val, by omega⟩ ⟨s.val, by omega⟩) := by
    blk_ext [iblk, V, h0]
  rw [e]
  exact rd2_of (aA m c) _ _ _ _ _ _ (by omega) (by omega)

theorem right (s : Fin 1024) (l : Fin 2048) : (iblk m c 1 t (ix2 l s) : EReal) = rd2 (aB m c) ((t.val % 1) * 2048 + l.val) (s.val) := by
  have ht : t.val < 4 := lt_of_lt_of_eq t.isLt N_0
  obtain ⟨h0, h1, h2⟩ := idx t
  have e : (iblk m c 1 t (ix2 l s) : EReal) = aB m c (ix2 ⟨((t.val % 1)) * 2048 + l.val, by omega⟩ ⟨s.val, by omega⟩) := by
    blk_ext [iblk, V, h1]
  rw [e]
  exact rd2_of (aB m c) _ _ _ _ _ _ (by omega) (by omega)

theorem both (r : Fin 1024) (l : Fin 2048) : (∑ s : Fin 1024, bA m c t (ix2 r s) * bB m c t (ix2 l s))
    = ∑ s : Fin 1024, term m c ((t.val / 1) * 1024 + r.val) ((t.val % 1) * 2048 + l.val) (s.val) :=
  Finset.sum_congr rfl fun s _ => congrArg₂ (· * ·) (left m c t s r) (right m c t s l)

/-- The tile of a point is the whole product. -/
theorem out_at (r : Fin 1024) (l : Fin 2048) : (out0_2 (iblk m c 0 t) (iblk m c 1 t) (ix2 r l) : EReal)
    = ∑ k : Fin 1024, term m c ((t.val / 1) * 1024 + r.val) ((t.val % 1) * 2048 + l.val) k.val := by
  unfold out0_2
  frame_out
  exact (all_at _ _ _ _).trans (both m c t r l)

/-- The product. -/
def Q : FVec Ideal S4096x2048 .f32 := fun i => ∑ k : Fin 1024, term m c (i 0).val (i 1).val k.val

theorem result : (dats m 0 c).arrAt 2 cfg0.N = Q m c := by
  refine (dats m 0 c).arrAt_eq_of_covers 2 _ (by decide +kernel) fun t hf y => ?_
  blk_simp; rw [after0_2]
  have ht : t.val < 4 := lt_of_lt_of_eq t.isLt N_0
  obtain ⟨-, -, h2⟩ := idx t
  idx_vars y
  have e : Q m c (((View.whole main_v0).slice (win0_2.rect t)).emb (ix2 y0 y1)) = Q m c (ix2 ⟨(t.val / 1) * 1024 + y0.val, by omega⟩ ⟨(t.val % 1) * 2048 + y1.val, by omega⟩) := by
    generalize Q m c = X
    blk_ext [h2]
  exact (out_at m c t y0 y1).trans e.symm

theorem reads : Cert.Reference11Ideal.Read.val_main_v3 (F := Ideal) (aA m c) (aB m c) = Q m c := by
  funext i
  idx_vars i
  simp only [Cert.Reference11Ideal.Read.val_main_v3_apply, Cert.Reference11Ideal.Read.val_main_v1_apply]
  refine Finset.sum_congr rfl fun k _ => ?_
  exact (congrArg₂ (· * ·) (rd2_idx (aA m c) _ _ _ (by simp only []; try omega) (by simp only []; try omega)) (rd2_idx (aB m c) _ _ _ (by simp only []; try omega) (by simp only []; try omega)))

end Cert.Kernel11Ideal.Value

end
-- ==== Proof.Product12.lean ====
module

public import proofs.«01_k».proof.Proof.Gen.Kernel12Ideal.Value
public import proofs.«01_k».proof.Proof.Gen.Reference12Ideal.Read
public import proofs.«01_k».proof.Proof.Product

@[expose] public section

set_option maxRecDepth 16384

noncomputable section
open Idealize.ShloMosaic Idealize.ShloMosaic.TcCoe Idealize.SL.Sem
namespace Cert.Kernel12Ideal.Value
open Cert.Kernel12Ideal Cert.Kernel12Ideal.Gen Cert.Product

theorem idx : ∀ t : Fin cfg0.N, win0_0.index t = ![t.val % 2, (t.val / 2 / 1)] ∧ win0_1.index t = ![t.val % 2, (t.val / 2 % 1)] ∧ win0_2.index t = ![(t.val / 2 / 1), (t.val / 2 % 1)] :=
  (by decide +kernel : ∀ t : Fin grid0.N, _)

theorem first_at (x : Vec Ideal S2048x1024 .bf16) (y : Vec Ideal S2048x1024 .f32) (r : Fin 1024) (l : Fin 1024) : k0_pay2 x y (ix2 r l) = (∑ s : Fin 2048, x (ix2 s r) * y (ix2 s l) : EReal) := by
  pointwise [k0_pay2, k0_pay1]

theorem next_at (x : Vec Ideal S2048x1024 .bf16) (y : Vec Ideal S2048x1024 .f32) (z : Vec Ideal S1024x1024 .f32) (r : Fin 1024) (l : Fin 1024) : k0_pay3 x y z (ix2 r l) = z (ix2 r l) + (∑ s : Fin 2048, x (ix2 s r) * y (ix2 s l) : EReal) := by
  pointwise [k0_pay3, k0_pay1]

theorem done_at (z : Vec Ideal S1024x1024 .f32) (r : Fin 1024) (l : Fin 1024) : k0_pay4 z (ix2 r l) = z (ix2 r l) := by
  pointwise [k0_pay4]

variable (m : (ℓ : Loc nD τ sig) → Buf (Elt Ideal) ℓ) (c : Dev nD) (t : Fin cfg0.N)

/-- The two factors. -/
abbrev aA : FVec Ideal S4096x2048 .bf16 := m ((c.tc : Thread nD τ).loc main_arg0)
abbrev aB : FVec Ideal S4096x1024 .f32 := m ((c.tc : Thread nD τ).loc main_arg1)

/-- The blocks of a point. -/
abbrev bA : FVec Ideal S2048x1024 .bf16 := iblk m c 0 t
abbrev bB : FVec Ideal S2048x1024 .f32 := iblk m c 1 t

/-- One product of the sum. -/
def term (i j k : ℕ) : EReal := rd2 (aA m c) (k) (i) * rd2 (aB m c) (k) (j)

theorem left (s : Fin 2048) (r : Fin 1024) : (iblk m c 0 t (ix2 s r) : EReal) = rd2 (aA m c) (t.val % 2 * 2048 + s.val) ((t.val / 2 / 1) * 1024 + r.val) := by
  have ht : t.val < 4 := lt_of_lt_of_eq t.isLt N_0
  obtain ⟨h0, h1, h2⟩ := idx t
  have e : (iblk m c 0 t (ix2 s r) : EReal) = aA m c (ix2 ⟨(t.val % 2) * 2048 + s.val, by omega⟩ ⟨((t.val / 2 / 1)) * 1024 + r.val, by omega⟩) := by
    blk_ext [iblk, V, h0]
  rw [e]
  exact rd2_of (aA m c) _ _ _ _ _ _ (by omega) (by omega)

theorem right (s : Fin 2048) (l : Fin 1024) : (iblk m c 1 t (ix2 s l) : EReal) = rd2 (aB m c) (t.val % 2 * 2048 + s.val) ((t.val / 2 % 1) * 1024 + l.val) := by
  have ht : t.val < 4 := lt_of_lt_of_eq t.isLt N_0
  obtain ⟨h0, h1, h2⟩ := idx t
  have e : (iblk m c 1 t (ix2 s l) : EReal) = aB m c (ix2 ⟨(t.val % 2) * 2048 + s.val, by omega⟩ ⟨((t.val / 2 % 1)) * 1024 + l.val, by omega⟩) := by
    blk_ext [iblk, V, h1]
  rw [e]
  exact rd2_of (aB m c) _ _ _ _ _ _ (by omega) (by omega)

theorem both (r : Fin 1024) (l : Fin 1024) : (∑ s : Fin 2048, bA m c t (ix2 s r) * bB m c t (ix2 s l))
    = ∑ s : Fin 2048, term m c ((t.val / 2 / 1) * 1024 + r.val) ((t.val / 2 % 1) * 1024 + l.val) (t.val % 2 * 2048 + s.val) :=
  Finset.sum_congr rfl fun s _ => congrArg₂ (· * ·) (left m c t s r) (right m c t s l)

theorem start (h : t.val % 2 = 0) (r : Fin 1024) (l : Fin 1024) : ((outsAt0 m c t.val t.isLt).2 (ix2 r l) : EReal)
    = ∑ s : Fin 2048, term m c ((t.val / 2 / 1) * 1024 + r.val) ((t.val / 2 % 1) * 1024 + l.val) (t.val % 2 * 2048 + s.val) := by
  rw [outsAt0_A m c t (by omega) (by omega) (by omega)]
  frame_out
  exact (first_at _ _ _ _).trans (both m c t r l)

theorem step (h : ¬t.val % 2 = 0) (r : Fin 1024) (l : Fin 1024) : ((outsAt0 m c t.val t.isLt).2 (ix2 r l) : EReal)
    = (outsAt0 m c (t.val - 1) (Nat.lt_of_le_of_lt (Nat.sub_le _ _) t.isLt)).2 (ix2 r l) + ∑ s : Fin 2048, term m c ((t.val / 2 / 1) * 1024 + r.val) ((t.val / 2 % 1) * 1024 + l.val) (t.val % 2 * 2048 + s.val) := by
  rw [outsAt0_B m c t (by omega) (by omega) (by omega)]
  frame_out
  exact (next_at _ _ _ _ _).trans (congrArg₂ (· + ·) (congrFun ((Memref.isWhole_whole cc0_scratch0).read_unread _) _) (both m c t r l))

theorem out_scr (h : t.val % 2 = 1) (r : Fin 1024) (l : Fin 1024) : ((outsAt0 m c t.val t.isLt).1 (ix2 r l) : EReal) = (outsAt0 m c t.val t.isLt).2 (ix2 r l) := by
  rw [outsAt0_B m c t (by omega) (by omega) (by omega)]
  frame_out
  exact done_at _ _ _

/-- At the last step of a tile the tile is the whole product. -/
theorem out_at (h : t.val % 2 = 1) (r : Fin 1024) (l : Fin 1024) : ((outsAt0 m c t.val t.isLt).1 (ix2 r l) : EReal)
    = ∑ k : Fin 4096, term m c ((t.val / 2 / 1) * 1024 + r.val) ((t.val / 2 % 1) * 1024 + l.val) k.val := by
  rw [out_scr m c t h r l]
  exact fold (fun n hn => (outsAt0 m c n hn).2 (ix2 r l)) 2 2048 4096 (by omega) (by omega)
    (fun q k => term m c (q / 1 * 1024 + r.val) (q % 1 * 1024 + l.val) k)
    (fun u hu => start m c u hu r l) (fun u hu => step m c u hu r l) t h

/-- The product. -/
def Q : FVec Ideal S2048x1024 .bf16 := fun i => ∑ k : Fin 4096, term m c (i 0).val (i 1).val k.val

theorem result : (dats m 0 c).arrAt 2 cfg0.N = Q m c := by
  refine (dats m 0 c).arrAt_eq_of_covers 2 _ (by decide +kernel) fun t hf y => ?_
  blk_simp; rw [after0_2]
  have ht : t.val < 4 := lt_of_lt_of_eq t.isLt N_0
  have hm : t.val % 2 = 1 := by have := (flush0_2 t).mp hf; omega
  obtain ⟨-, -, h2⟩ := idx t
  idx_vars y
  have e : Q m c (((View.whole main_v0).slice (win0_2.rect t)).emb (ix2 y0 y1)) = Q m c (ix2 ⟨(t.val / 2 / 1) * 1024 + y0.val, by omega⟩ ⟨(t.val / 2 % 1) * 1024 + y1.val, by omega⟩) := by
    generalize Q m c = X
    blk_ext [h2]
  exact (out_at m c t hm y0 y1).trans e.symm

theorem reads : Cert.Reference12Ideal.Read.val_main_v5 (F := Ideal) (aA m c) (aB m c) = Q m c := by
  funext i
  idx_vars i
  simp only [Cert.Reference12Ideal.Read.val_main_v5_apply, Cert.Reference12Ideal.Read.val_main_v4_apply, Cert.Reference12Ideal.Read.val_main_v3_apply, Cert.Reference12Ideal.Read.val_main_v1_apply]
  refine Finset.sum_congr rfl fun k _ => ?_
  exact (mul_comm _ _).trans (congrArg₂ (· * ·) (rd2_idx (aA m c) _ _ _ (by simp only []; try omega) (by simp only []; try omega)) (rd2_idx (aB m c) _ _ _ (by simp only []; try omega) (by simp only []; try omega)))

end Cert.Kernel12Ideal.Value

end
-- ==== Proof.Product13.lean ====
module

public import proofs.«01_k».proof.Proof.Gen.Kernel13Ideal.Value
public import proofs.«01_k».proof.Proof.Gen.Reference13Ideal.Read
public import proofs.«01_k».proof.Proof.Product

@[expose] public section

set_option maxRecDepth 16384

noncomputable section
open Idealize.ShloMosaic Idealize.ShloMosaic.TcCoe Idealize.SL.Sem
namespace Cert.Kernel13Ideal.Value
open Cert.Kernel13Ideal Cert.Kernel13Ideal.Gen Cert.Product

theorem idx : ∀ t : Fin cfg0.N, win0_0.index t = ![(t.val / 1), 0] ∧ win0_1.index t = ![(t.val % 1), 0] ∧ win0_2.index t = ![(t.val / 1), (t.val % 1)] :=
  (by decide +kernel : ∀ t : Fin grid0.N, _)

theorem all_at (x : Vec Ideal S1024x1024 .f32) (y : Vec Ideal S1024x1024 .bf16) (r : Fin 1024) (l : Fin 1024) : k0_pay1 x y (ix2 r l) = (∑ s : Fin 1024, x (ix2 r s) * y (ix2 l s) : EReal) := by
  pointwise [k0_pay1]

variable (m : (ℓ : Loc nD τ sig) → Buf (Elt Ideal) ℓ) (c : Dev nD) (t : Fin cfg0.N)

/-- The two factors. -/
abbrev aA : FVec Ideal S4096x1024 .f32 := m ((c.tc : Thread nD τ).loc main_arg0)
abbrev aB : FVec Ideal S1024x1024 .bf16 := m ((c.tc : Thread nD τ).loc main_arg1)

/-- The blocks of a point. -/
abbrev bA : FVec Ideal S1024x1024 .f32 := iblk m c 0 t
abbrev bB : FVec Ideal S1024x1024 .bf16 := iblk m c 1 t

/-- One product of the sum. -/
def term (i j k : ℕ) : EReal := rd2 (aA m c) (i) (k) * rd2 (aB m c) (j) (k)

theorem left (s : Fin 1024) (r : Fin 1024) : (iblk m c 0 t (ix2 r s) : EReal) = rd2 (aA m c) ((t.val / 1) * 1024 + r.val) (s.val) := by
  have ht : t.val < 4 := lt_of_lt_of_eq t.isLt N_0
  obtain ⟨h0, h1, h2⟩ := idx t
  have e : (iblk m c 0 t (ix2 r s) : EReal) = aA m c (ix2 ⟨((t.val / 1)) * 1024 + r.val, by omega⟩ ⟨s.val, by omega⟩) := by
    blk_ext [iblk, V, h0]
  rw [e]
  exact rd2_of (aA m c) _ _ _ _ _ _ (by omega) (by omega)

theorem right (s : Fin 1024) (l : Fin 1024) : (iblk m c 1 t (ix2 l s) : EReal) = rd2 (aB m c) ((t.val % 1) * 1024 + l.val) (s.val) := by
  have ht : t.val < 4 := lt_of_lt_of_eq t.isLt N_0
  obtain ⟨h0, h1, h2⟩ := idx t
  have e : (iblk m c 1 t (ix2 l s) : EReal) = aB m c (ix2 ⟨((t.val % 1)) * 1024 + l.val, by omega⟩ ⟨s.val, by omega⟩) := by
    blk_ext [iblk, V, h1]
  rw [e]
  exact rd2_of (aB m c) _ _ _ _ _ _ (by omega) (by omega)

theorem both (r : Fin 1024) (l : Fin 1024) : (∑ s : Fin 1024, bA m c t (ix2 r s) * bB m c t (ix2 l s))
    = ∑ s : Fin 1024, term m c ((t.val / 1) * 1024 + r.val) ((t.val % 1) * 1024 + l.val) (s.val) :=
  Finset.sum_congr rfl fun s _ => congrArg₂ (· * ·) (left m c t s r) (right m c t s l)

/-- The tile of a point is the whole product. -/
theorem out_at (r : Fin 1024) (l : Fin 1024) : (out0_2 (iblk m c 0 t) (iblk m c 1 t) (ix2 r l) : EReal)
    = ∑ k : Fin 1024, term m c ((t.val / 1) * 1024 + r.val) ((t.val % 1) * 1024 + l.val) k.val := by
  unfold out0_2
  frame_out
  exact (all_at _ _ _ _).trans (both m c t r l)

/-- The product. -/
def Q : FVec Ideal S4096x1024 .f32 := fun i => ∑ k : Fin 1024, term m c (i 0).val (i 1).val k.val

theorem result : (dats m 0 c).arrAt 2 cfg0.N = Q m c := by
  refine (dats m 0 c).arrAt_eq_of_covers 2 _ (by decide +kernel) fun t hf y => ?_
  blk_simp; rw [after0_2]
  have ht : t.val < 4 := lt_of_lt_of_eq t.isLt N_0
  obtain ⟨-, -, h2⟩ := idx t
  idx_vars y
  have e : Q m c (((View.whole main_v0).slice (win0_2.rect t)).emb (ix2 y0 y1)) = Q m c (ix2 ⟨(t.val / 1) * 1024 + y0.val, by omega⟩ ⟨(t.val % 1) * 1024 + y1.val, by omega⟩) := by
    generalize Q m c = X
    blk_ext [h2]
  exact (out_at m c t y0 y1).trans e.symm

theorem reads : Cert.Reference13Ideal.Read.val_main_v3 (F := Ideal) (aA m c) (aB m c) = Q m c := by
  funext i
  idx_vars i
  simp only [Cert.Reference13Ideal.Read.val_main_v3_apply, Cert.Reference13Ideal.Read.val_main_v1_apply]
  refine Finset.sum_congr rfl fun k _ => ?_
  exact (congrArg₂ (· * ·) (rd2_idx (aA m c) _ _ _ (by simp only []; try omega) (by simp only []; try omega)) (rd2_idx (aB m c) _ _ _ (by simp only []; try omega) (by simp only []; try omega)))

end Cert.Kernel13Ideal.Value

end
-- ==== Proof.Product14.lean ====
module

public import proofs.«01_k».proof.Proof.Gen.Kernel14Ideal.Value
public import proofs.«01_k».proof.Proof.Gen.Reference14Ideal.Read
public import proofs.«01_k».proof.Proof.Product

@[expose] public section

set_option maxRecDepth 16384

noncomputable section
open Idealize.ShloMosaic Idealize.ShloMosaic.TcCoe Idealize.SL.Sem
namespace Cert.Kernel14Ideal.Value
open Cert.Kernel14Ideal Cert.Kernel14Ideal.Gen Cert.Product

theorem idx : ∀ t : Fin cfg0.N, win0_0.index t = ![t.val % 2, (t.val / 2 / 1)] ∧ win0_1.index t = ![t.val % 2, (t.val / 2 % 1)] ∧ win0_2.index t = ![(t.val / 2 / 1), (t.val / 2 % 1)] :=
  (by decide +kernel : ∀ t : Fin grid0.N, _)

theorem first_at (x : Vec Ideal S2048x1024 .bf16) (y : Vec Ideal S2048x1024 .f32) (r : Fin 1024) (l : Fin 1024) : k0_pay2 x y (ix2 r l) = (∑ s : Fin 2048, x (ix2 s r) * y (ix2 s l) : EReal) := by
  pointwise [k0_pay2, k0_pay1]

theorem next_at (x : Vec Ideal S2048x1024 .bf16) (y : Vec Ideal S2048x1024 .f32) (z : Vec Ideal S1024x1024 .f32) (r : Fin 1024) (l : Fin 1024) : k0_pay3 x y z (ix2 r l) = z (ix2 r l) + (∑ s : Fin 2048, x (ix2 s r) * y (ix2 s l) : EReal) := by
  pointwise [k0_pay3, k0_pay1]

theorem done_at (z : Vec Ideal S1024x1024 .f32) (r : Fin 1024) (l : Fin 1024) : k0_pay4 z (ix2 r l) = z (ix2 r l) := by
  pointwise [k0_pay4]

variable (m : (ℓ : Loc nD τ sig) → Buf (Elt Ideal) ℓ) (c : Dev nD) (t : Fin cfg0.N)

/-- The two factors. -/
abbrev aA : FVec Ideal S4096x1024 .bf16 := m ((c.tc : Thread nD τ).loc main_arg0)
abbrev aB : FVec Ideal S4096x1024 .f32 := m ((c.tc : Thread nD τ).loc main_arg1)

/-- The blocks of a point. -/
abbrev bA : FVec Ideal S2048x1024 .bf16 := iblk m c 0 t
abbrev bB : FVec Ideal S2048x1024 .f32 := iblk m c 1 t

/-- One product of the sum. -/
def term (i j k : ℕ) : EReal := rd2 (aA m c) (k) (i) * rd2 (aB m c) (k) (j)

theorem left (s : Fin 2048) (r : Fin 1024) : (iblk m c 0 t (ix2 s r) : EReal) = rd2 (aA m c) (t.val % 2 * 2048 + s.val) ((t.val / 2 / 1) * 1024 + r.val) := by
  have ht : t.val < 2 := lt_of_lt_of_eq t.isLt N_0
  obtain ⟨h0, h1, h2⟩ := idx t
  have e : (iblk m c 0 t (ix2 s r) : EReal) = aA m c (ix2 ⟨(t.val % 2) * 2048 + s.val, by omega⟩ ⟨((t.val / 2 / 1)) * 1024 + r.val, by omega⟩) := by
    blk_ext [iblk, V, h0]
  rw [e]
  exact rd2_of (aA m c) _ _ _ _ _ _ (by omega) (by omega)

theorem right (s : Fin 2048) (l : Fin 1024) : (iblk m c 1 t (ix2 s l) : EReal) = rd2 (aB m c) (t.val % 2 * 2048 + s.val) ((t.val / 2 % 1) * 1024 + l.val) := by
  have ht : t.val < 2 := lt_of_lt_of_eq t.isLt N_0
  obtain ⟨h0, h1, h2⟩ := idx t
  have e : (iblk m c 1 t (ix2 s l) : EReal) = aB m c (ix2 ⟨(t.val % 2) * 2048 + s.val, by omega⟩ ⟨((t.val / 2 % 1)) * 1024 + l.val, by omega⟩) := by
    blk_ext [iblk, V, h1]
  rw [e]
  exact rd2_of (aB m c) _ _ _ _ _ _ (by omega) (by omega)

theorem both (r : Fin 1024) (l : Fin 1024) : (∑ s : Fin 2048, bA m c t (ix2 s r) * bB m c t (ix2 s l))
    = ∑ s : Fin 2048, term m c ((t.val / 2 / 1) * 1024 + r.val) ((t.val / 2 % 1) * 1024 + l.val) (t.val % 2 * 2048 + s.val) :=
  Finset.sum_congr rfl fun s _ => congrArg₂ (· * ·) (left m c t s r) (right m c t s l)

theorem start (h : t.val % 2 = 0) (r : Fin 1024) (l : Fin 1024) : ((outsAt0 m c t.val t.isLt).2 (ix2 r l) : EReal)
    = ∑ s : Fin 2048, term m c ((t.val / 2 / 1) * 1024 + r.val) ((t.val / 2 % 1) * 1024 + l.val) (t.val % 2 * 2048 + s.val) := by
  rw [outsAt0_A m c t (by omega) (by omega) (by omega)]
  frame_out
  exact (first_at _ _ _ _).trans (both m c t r l)

theorem step (h : ¬t.val % 2 = 0) (r : Fin 1024) (l : Fin 1024) : ((outsAt0 m c t.val t.isLt).2 (ix2 r l) : EReal)
    = (outsAt0 m c (t.val - 1) (Nat.lt_of_le_of_lt (Nat.sub_le _ _) t.isLt)).2 (ix2 r l) + ∑ s : Fin 2048, term m c ((t.val / 2 / 1) * 1024 + r.val) ((t.val / 2 % 1) * 1024 + l.val) (t.val % 2 * 2048 + s.val) := by
  rw [outsAt0_B m c t (by omega) (by omega) (by omega)]
  frame_out
  exact (next_at _ _ _ _ _).trans (congrArg₂ (· + ·) (congrFun ((Memref.isWhole_whole cc0_scratch0).read_unread _) _) (both m c t r l))

theorem out_scr (h : t.val % 2 = 1) (r : Fin 1024) (l : Fin 1024) : ((outsAt0 m c t.val t.isLt).1 (ix2 r l) : EReal) = (outsAt0 m c t.val t.isLt).2 (ix2 r l) := by
  rw [outsAt0_B m c t (by omega) (by omega) (by omega)]
  frame_out
  exact done_at _ _ _

/-- At the last step of a tile the tile is the whole product. -/
theorem out_at (h : t.val % 2 = 1) (r : Fin 1024) (l : Fin 1024) : ((outsAt0 m c t.val t.isLt).1 (ix2 r l) : EReal)
    = ∑ k : Fin 4096, term m c ((t.val / 2 / 1) * 1024 + r.val) ((t.val / 2 % 1) * 1024 + l.val) k.val := by
  rw [out_scr m c t h r l]
  exact fold (fun n hn => (outsAt0 m c n hn).2 (ix2 r l)) 2 2048 4096 (by omega) (by omega)
    (fun q k => term m c (q / 1 * 1024 + r.val) (q % 1 * 1024 + l.val) k)
    (fun u hu => start m c u hu r l) (fun u hu => step m c u hu r l) t h

/-- The product. -/
def Q : FVec Ideal S1024x1024 .bf16 := fun i => ∑ k : Fin 4096, term m c (i 0).val (i 1).val k.val

theorem result : (dats m 0 c).arrAt 2 cfg0.N = Q m c := by
  refine (dats m 0 c).arrAt_eq_of_covers 2 _ (by decide +kernel) fun t hf y => ?_
  blk_simp; rw [after0_2]
  have ht : t.val < 2 := lt_of_lt_of_eq t.isLt N_0
  have hm : t.val % 2 = 1 := by have := (flush0_2 t).mp hf; omega
  obtain ⟨-, -, h2⟩ := idx t
  idx_vars y
  have e : Q m c (((View.whole main_v0).slice (win0_2.rect t)).emb (ix2 y0 y1)) = Q m c (ix2 ⟨(t.val / 2 / 1) * 1024 + y0.val, by omega⟩ ⟨(t.val / 2 % 1) * 1024 + y1.val, by omega⟩) := by
    generalize Q m c = X
    blk_ext [h2]
  exact (out_at m c t hm y0 y1).trans e.symm

theorem reads : Cert.Reference14Ideal.Read.val_main_v5 (F := Ideal) (aA m c) (aB m c) = Q m c := by
  funext i
  idx_vars i
  simp only [Cert.Reference14Ideal.Read.val_main_v5_apply, Cert.Reference14Ideal.Read.val_main_v4_apply, Cert.Reference14Ideal.Read.val_main_v3_apply, Cert.Reference14Ideal.Read.val_main_v1_apply]
  refine Finset.sum_congr rfl fun k _ => ?_
  exact (mul_comm _ _).trans (congrArg₂ (· * ·) (rd2_idx (aA m c) _ _ _ (by simp only []; try omega) (by simp only []; try omega)) (rd2_idx (aB m c) _ _ _ (by simp only []; try omega) (by simp only []; try omega)))

end Cert.Kernel14Ideal.Value

end
-- ==== Proof.Product15.lean ====
module

public import proofs.«01_k».proof.Proof.Gen.Kernel15Ideal.Value
public import proofs.«01_k».proof.Proof.Gen.Reference15Ideal.Read
public import proofs.«01_k».proof.Proof.Product

@[expose] public section

set_option maxRecDepth 16384

noncomputable section
open Idealize.ShloMosaic Idealize.ShloMosaic.TcCoe Idealize.SL.Sem
namespace Cert.Kernel15Ideal.Value
open Cert.Kernel15Ideal Cert.Kernel15Ideal.Gen Cert.Product

theorem idx : ∀ t : Fin cfg0.N, win0_0.index t = ![t.val % 2, (t.val / 2 / 2)] ∧ win0_1.index t = ![t.val % 2, (t.val / 2 % 2)] ∧ win0_2.index t = ![(t.val / 2 / 2), (t.val / 2 % 2)] :=
  (by decide +kernel : ∀ t : Fin grid0.N, _)

theorem first_at (x : Vec Ideal S2048x1024 .bf16) (y : Vec Ideal S2048x1024 .bf16) (r : Fin 1024) (l : Fin 1024) : k0_pay2 x y (ix2 r l) = (∑ s : Fin 2048, x (ix2 s r) * y (ix2 s l) : EReal) := by
  pointwise [k0_pay2, k0_pay1]

theorem next_at (x : Vec Ideal S2048x1024 .bf16) (y : Vec Ideal S2048x1024 .bf16) (z : Vec Ideal S1024x1024 .f32) (r : Fin 1024) (l : Fin 1024) : k0_pay3 x y z (ix2 r l) = z (ix2 r l) + (∑ s : Fin 2048, x (ix2 s r) * y (ix2 s l) : EReal) := by
  pointwise [k0_pay3, k0_pay1]

theorem done_at (z : Vec Ideal S1024x1024 .f32) (r : Fin 1024) (l : Fin 1024) : k0_pay4 z (ix2 r l) = z (ix2 r l) := by
  pointwise [k0_pay4]

variable (m : (ℓ : Loc nD τ sig) → Buf (Elt Ideal) ℓ) (c : Dev nD) (t : Fin cfg0.N)

/-- The two factors. -/
abbrev aA : FVec Ideal S4096x1024 .bf16 := m ((c.tc : Thread nD τ).loc main_arg0)
abbrev aB : FVec Ideal S4096x2048 .bf16 := m ((c.tc : Thread nD τ).loc main_arg1)

/-- The blocks of a point. -/
abbrev bA : FVec Ideal S2048x1024 .bf16 := iblk m c 0 t
abbrev bB : FVec Ideal S2048x1024 .bf16 := iblk m c 1 t

/-- One product of the sum. -/
def term (i j k : ℕ) : EReal := rd2 (aA m c) (k) (i) * rd2 (aB m c) (k) (j)

theorem left (s : Fin 2048) (r : Fin 1024) : (iblk m c 0 t (ix2 s r) : EReal) = rd2 (aA m c) (t.val % 2 * 2048 + s.val) ((t.val / 2 / 2) * 1024 + r.val) := by
  have ht : t.val < 4 := lt_of_lt_of_eq t.isLt N_0
  obtain ⟨h0, h1, h2⟩ := idx t
  have e : (iblk m c 0 t (ix2 s r) : EReal) = aA m c (ix2 ⟨(t.val % 2) * 2048 + s.val, by omega⟩ ⟨((t.val / 2 / 2)) * 1024 + r.val, by omega⟩) := by
    blk_ext [iblk, V, h0]
  rw [e]
  exact rd2_of (aA m c) _ _ _ _ _ _ (by omega) (by omega)

theorem right (s : Fin 2048) (l : Fin 1024) : (iblk m c 1 t (ix2 s l) : EReal) = rd2 (aB m c) (t.val % 2 * 2048 + s.val) ((t.val / 2 % 2) * 1024 + l.val) := by
  have ht : t.val < 4 := lt_of_lt_of_eq t.isLt N_0
  obtain ⟨h0, h1, h2⟩ := idx t
  have e : (iblk m c 1 t (ix2 s l) : EReal) = aB m c (ix2 ⟨(t.val % 2) * 2048 + s.val, by omega⟩ ⟨((t.val / 2 % 2)) * 1024 + l.val, by omega⟩) := by
    blk_ext [iblk, V, h1]
  rw [e]
  exact rd2_of (aB m c) _ _ _ _ _ _ (by omega) (by omega)

theorem both (r : Fin 1024) (l : Fin 1024) : (∑ s : Fin 2048, bA m c t (ix2 s r) * bB m c t (ix2 s l))
    = ∑ s : Fin 2048, term m c ((t.val / 2 / 2) * 1024 + r.val) ((t.val / 2 % 2) * 1024 + l.val) (t.val % 2 * 2048 + s.val) :=
  Finset.sum_congr rfl fun s _ => congrArg₂ (· * ·) (left m c t s r) (right m c t s l)

theorem start (h : t.val % 2 = 0) (r : Fin 1024) (l : Fin 1024) : ((outsAt0 m c t.val t.isLt).2 (ix2 r l) : EReal)
    = ∑ s : Fin 2048, term m c ((t.val / 2 / 2) * 1024 + r.val) ((t.val / 2 % 2) * 1024 + l.val) (t.val % 2 * 2048 + s.val) := by
  rw [outsAt0_A m c t (by omega) (by omega) (by omega)]
  frame_out
  exact (first_at _ _ _ _).trans (both m c t r l)

theorem step (h : ¬t.val % 2 = 0) (r : Fin 1024) (l : Fin 1024) : ((outsAt0 m c t.val t.isLt).2 (ix2 r l) : EReal)
    = (outsAt0 m c (t.val - 1) (Nat.lt_of_le_of_lt (Nat.sub_le _ _) t.isLt)).2 (ix2 r l) + ∑ s : Fin 2048, term m c ((t.val / 2 / 2) * 1024 + r.val) ((t.val / 2 % 2) * 1024 + l.val) (t.val % 2 * 2048 + s.val) := by
  rw [outsAt0_B m c t (by omega) (by omega) (by omega)]
  frame_out
  exact (next_at _ _ _ _ _).trans (congrArg₂ (· + ·) (congrFun ((Memref.isWhole_whole cc0_scratch0).read_unread _) _) (both m c t r l))

theorem out_scr (h : t.val % 2 = 1) (r : Fin 1024) (l : Fin 1024) : ((outsAt0 m c t.val t.isLt).1 (ix2 r l) : EReal) = (outsAt0 m c t.val t.isLt).2 (ix2 r l) := by
  rw [outsAt0_B m c t (by omega) (by omega) (by omega)]
  frame_out
  exact done_at _ _ _

/-- At the last step of a tile the tile is the whole product. -/
theorem out_at (h : t.val % 2 = 1) (r : Fin 1024) (l : Fin 1024) : ((outsAt0 m c t.val t.isLt).1 (ix2 r l) : EReal)
    = ∑ k : Fin 4096, term m c ((t.val / 2 / 2) * 1024 + r.val) ((t.val / 2 % 2) * 1024 + l.val) k.val := by
  rw [out_scr m c t h r l]
  exact fold (fun n hn => (outsAt0 m c n hn).2 (ix2 r l)) 2 2048 4096 (by omega) (by omega)
    (fun q k => term m c (q / 2 * 1024 + r.val) (q % 2 * 1024 + l.val) k)
    (fun u hu => start m c u hu r l) (fun u hu => step m c u hu r l) t h

/-- The product. -/
def Q : FVec Ideal S1024x2048 .bf16 := fun i => ∑ k : Fin 4096, term m c (i 0).val (i 1).val k.val

theorem result : (dats m 0 c).arrAt 2 cfg0.N = Q m c := by
  refine (dats m 0 c).arrAt_eq_of_covers 2 _ (by decide +kernel) fun t hf y => ?_
  blk_simp; rw [after0_2]
  have ht : t.val < 4 := lt_of_lt_of_eq t.isLt N_0
  have hm : t.val % 2 = 1 := by have := (flush0_2 t).mp hf; omega
  obtain ⟨-, -, h2⟩ := idx t
  idx_vars y
  have e : Q m c (((View.whole main_v0).slice (win0_2.rect t)).emb (ix2 y0 y1)) = Q m c (ix2 ⟨(t.val / 2 / 2) * 1024 + y0.val, by omega⟩ ⟨(t.val / 2 % 2) * 1024 + y1.val, by omega⟩) := by
    generalize Q m c = X
    blk_ext [h2]
  exact (out_at m c t hm y0 y1).trans e.symm

theorem reads : Cert.Reference15Ideal.Read.val_main_v6 (F := Ideal) (aA m c) (aB m c) = Q m c := by
  funext i
  idx_vars i
  simp only [Cert.Reference15Ideal.Read.val_main_v6_apply, Cert.Reference15Ideal.Read.val_main_v5_apply, Cert.Reference15Ideal.Read.val_main_v4_apply, Cert.Reference15Ideal.Read.val_main_v3_apply, Cert.Reference15Ideal.Read.val_main_v1_apply]
  refine Finset.sum_congr rfl fun k _ => ?_
  exact (mul_comm _ _).trans (congrArg₂ (· * ·) (rd2_idx (aA m c) _ _ _ (by simp only []; try omega) (by simp only []; try omega)) (rd2_idx (aB m c) _ _ _ (by simp only []; try omega) (by simp only []; try omega)))

end Cert.Kernel15Ideal.Value

end
-- ==== Proof.Triple.lean ====
module

public import proofs.«01_k».proof.Proof.Gen.Reference16Ideal.Read
public import proofs.«01_k».proof.Proof.Product

/-! The sum of three products of two cotangents side by side, and of a third, with two weights: the entries, what a step
of a tile adds to them, and the reference's way of computing them. -/

@[expose] public section

set_option maxRecDepth 16384

noncomputable section
open Idealize.ShloMosaic Idealize.ShloMosaic.TcCoe Idealize.SL.Sem
namespace Cert.Triple
open Cert.Product Cert.Reference16Ideal

variable (x0 : FVec Ideal S4096x4096 .bf16) (x1 : FVec Ideal S1024x6160 .bf16) (x2 : FVec Ideal S4096x2048 .bf16) (x3 : FVec Ideal S4096x128 .f32) (x4 : FVec Ideal S1024x128 .bf16)

/-- One product of the first two sums, which share the weights' columns. -/
def term (i j k : ℕ) : EReal := (if k < 4096 then rd2 x0 i k else rd2 x2 i (k - 4096)) * rd2 x1 j k

/-- One product of the third sum. -/
def term' (i j k : ℕ) : EReal := rd2 x3 i k * rd2 x4 j k

/-- What step `n` of a tile adds. -/
def part (i j n : ℕ) : EReal := if n < 6 then ∑ s : Fin 1024, term x0 x1 x2 i j (n * 1024 + s.val) else ∑ s : Fin 128, term' x3 x4 i j s.val

/-- The three products added. -/
def all (i j : ℕ) : EReal := ∑ k : Fin 6144, term x0 x1 x2 i j k.val + ∑ s : Fin 128, term' x3 x4 i j s.val

theorem parts (i j : ℕ) : ∑ n ∈ Finset.range 7, part x0 x1 x2 x3 x4 i j n = all x0 x1 x2 x3 x4 i j := by
  rw [Finset.sum_range_succ]
  unfold all
  refine congrArg₂ (· + ·) ?_ (if_neg (by omega))
  rw [Fin.sum_univ_eq_sum_range (fun k => term x0 x1 x2 i j k) 6144, show (6144 : ℕ) = 6 * 1024 from rfl, Finset.sum_range_mul_split]
  refine Finset.sum_congr rfl fun n hn => ?_
  unfold part
  rw [if_pos (Finset.mem_range.mp hn)]
  exact Fin.sum_univ_eq_sum_range (fun s => term x0 x1 x2 i j (n * 1024 + s)) 1024

/-- The two cotangents side by side, as the reference pads and adds them. -/
theorem padded (i0 : Fin 4096) (k : Fin 6160) :
    (Read.val_main_v12 (F := Ideal) x0 x2 (ix2 i0 k) : EReal)
      = if k.val < 4096 then rd2 x0 i0.val k.val else if k.val < 6144 then rd2 x2 i0.val (k.val - 4096) else 0 := by
  have z : ∀ i, (Read.val_main_cst_0 (F := Ideal) i : EReal) = 0 := by
    intro i; rw [Read.val_main_cst_0_apply]; exact Ideal.ofBits_zero .f32
  have z' : ∀ i, (Read.val_main_cst_1 (F := Ideal) i : EReal) = 0 := by
    intro i; rw [Read.val_main_cst_1_apply]; exact Ideal.ofBits_zero .f32
  rw [Read.val_main_v12_apply]
  unfold Read.val_main_v10 Read.val_main_v11
  pointwise [Read.val_main_v7_apply, Read.val_main_v8_apply, z, z']
  by_cases h1 : k.val < 4096
  · rw [dif_neg (by omega), dif_pos h1, if_pos h1, zero_add]
    exact rd2_of x0 _ _ _ _ i0.isLt h1 rfl rfl
  by_cases h2 : k.val < 6144
  · rw [dif_pos ⟨by omega, by omega⟩, dif_neg h1, if_neg h1, if_pos h2, add_zero]
    exact rd2_of x2 _ _ _ _ i0.isLt (by omega) rfl rfl
  · rw [dif_neg (by omega), dif_neg h1, if_neg h1, if_neg h2, add_zero]

theorem sum_at (i0 : Fin 4096) (i1 : Fin 1024) : (Read.val_main_v14 (F := Ideal) x0 x1 x2 x3 x4 (ix2 i0 i1) : EReal) = all x0 x1 x2 x3 x4 i0.val i1.val := by
  rw [Read.val_main_v14_apply]
  refine Eq.trans (add_comm (G := EReal) _ _) (congrArg₂ (· + ·) ?_ ?_)
  · rw [Read.val_main_v13_apply]
    have h : ∀ k : Fin 6160, ((Read.val_main_v12 (F := Ideal) x0 x2) (Read.lidx_main_v13 (ix2 i0 i1) k) * (Read.val_main_v1 (F := Ideal) x1) (Read.ridx_main_v13 (ix2 i0 i1) k) : EReal)
        = (fun n : ℕ => if n < 6144 then term x0 x1 x2 i0.val i1.val n else 0) k.val := by
      intro k
      have e : Read.lidx_main_v13 (ix2 i0 i1) k = ix2 i0 k := by funext a; fin_cases a <;> rfl
      rw [e]
      refine (congrArg₂ (· * ·) (padded x0 x2 i0 k) (rd2_idx x1 (Read.ridx_main_v13 (ix2 i0 i1) k) i1.val k.val rfl rfl)).trans ?_
      show _ = if k.val < 6144 then term x0 x1 x2 i0.val i1.val k.val else 0
      unfold term
      split_ifs <;> first | rfl | omega | exact zero_mul _
    rw [Finset.sum_congr rfl fun k _ => h k, Fin.sum_univ_eq_sum_range (fun n : ℕ => if n < 6144 then term x0 x1 x2 i0.val i1.val n else 0) 6160,
      show (6160 : ℕ) = 6144 + 16 from rfl, Finset.sum_range_add]
    show _ = ∑ k : Fin 6144, term x0 x1 x2 i0.val i1.val k.val
    rw [Fin.sum_univ_eq_sum_range (fun n => term x0 x1 x2 i0.val i1.val n) 6144]
    rw [Finset.sum_congr rfl fun n hn => if_pos (Finset.mem_range.mp hn), Finset.sum_eq_zero fun n _ => if_neg (by omega), add_zero]
  · rw [Read.val_main_v9_apply]
    exact Finset.sum_congr rfl fun k _ => congrArg₂ (· * ·) (rd2_idx x3 _ _ _ rfl rfl) (rd2_idx x4 _ _ _ rfl rfl)

end Cert.Triple

end
-- ==== Proof.Product16.lean ====
module

public import proofs.«01_k».proof.Proof.Gen.Kernel16Ideal.Frame
public import proofs.«01_k».proof.Proof.Triple

/-! Three products added in one accumulator: four steps of the first, two of the second, one of the third. -/

@[expose] public section

set_option maxRecDepth 16384

noncomputable section
open Idealize.ShloMosaic Idealize.ShloMosaic.TcCoe Idealize.SL.Sem
namespace Cert.Kernel16Ideal.Value
open Cert.Kernel16Ideal Cert.Kernel16Ideal.Gen Cert.Product Cert.Triple

/-- The block positions, each where its product is at work. -/
theorem idx : ∀ t : Fin cfg0.N, (t.val % 7 ≤ 3 → win0_0.index t = ![t.val / 7, t.val % 7] ∧ win0_1.index t = ![0, t.val % 7])
    ∧ (4 ≤ t.val % 7 → t.val % 7 ≤ 5 → win0_2.index t = ![t.val / 7, t.val % 7 - 4] ∧ win0_3.index t = ![0, t.val % 7])
    ∧ win0_4.index t = ![t.val / 7, 0] ∧ win0_5.index t = ![0, 0] ∧ win0_6.index t = ![t.val / 7, 0] :=
  (by decide +kernel : ∀ t : Fin grid0.N, _)

theorem first_at (x y : Vec Ideal S1024x1024 .bf16) (r : Fin 1024) (l : Fin 1024) : k0_pay2 x y (ix2 r l) = (∑ s : Fin 1024, x (ix2 r s) * y (ix2 l s) : EReal) := by
  pointwise [k0_pay2, k0_pay1]

theorem next_at (x y : Vec Ideal S1024x1024 .bf16) (z : Vec Ideal S1024x1024 .f32) (r : Fin 1024) (l : Fin 1024) : k0_pay3 x y z (ix2 r l) = z (ix2 r l) + (∑ s : Fin 1024, x (ix2 r s) * y (ix2 l s) : EReal) := by
  pointwise [k0_pay3, k0_pay1]

theorem more_at (x y : Vec Ideal S1024x1024 .bf16) (z : Vec Ideal S1024x1024 .f32) (r : Fin 1024) (l : Fin 1024) : k0_pay4 x y z (ix2 r l) = z (ix2 r l) + (∑ s : Fin 1024, x (ix2 r s) * y (ix2 l s) : EReal) := by
  pointwise [k0_pay4]

theorem last_at (x : Vec Ideal S1024x128 .f32) (y : Vec Ideal S1024x128 .bf16) (z : Vec Ideal S1024x1024 .f32) (r : Fin 1024) (l : Fin 1024) : k0_pay5 x y z (ix2 r l) = z (ix2 r l) + (∑ s : Fin 128, x (ix2 r s) * y (ix2 l s) : EReal) := by
  pointwise [k0_pay5]

variable (m : (ℓ : Loc nD τ sig) → Buf (Elt Ideal) ℓ) (c : Dev nD) (t : Fin cfg0.N)

/-- The arguments. -/
abbrev a0 : FVec Ideal S4096x4096 .bf16 := m ((c.tc : Thread nD τ).loc main_arg0)
abbrev a1 : FVec Ideal S1024x6160 .bf16 := m ((c.tc : Thread nD τ).loc main_arg1)
abbrev a2 : FVec Ideal S4096x2048 .bf16 := m ((c.tc : Thread nD τ).loc main_arg2)
abbrev a3 : FVec Ideal S4096x128 .f32 := m ((c.tc : Thread nD τ).loc main_arg3)
abbrev a4 : FVec Ideal S1024x128 .bf16 := m ((c.tc : Thread nD τ).loc main_arg4)

/-- The blocks of a point. -/
abbrev b0 : FVec Ideal S1024x1024 .bf16 := iblk m c 0 t
abbrev b1 : FVec Ideal S1024x1024 .bf16 := X0_1 m c t
abbrev b2 : FVec Ideal S1024x1024 .bf16 := iblk m c 2 t
abbrev b3 : FVec Ideal S1024x1024 .bf16 := X0_3 m c t
abbrev b4 : FVec Ideal S1024x128 .f32 := iblk m c 4 t
abbrev b5 : FVec Ideal S1024x128 .bf16 := iblk m c 5 t

theorem at0 (h : t.val % 7 ≤ 3) (s r : Fin 1024) : (b0 m c t (ix2 r s) : EReal) = rd2 (a0 m c) (t.val / 7 * 1024 + r.val) (t.val % 7 * 1024 + s.val) := by
  have ht : t.val < 28 := lt_of_lt_of_eq t.isLt N_0
  obtain ⟨h0, h1⟩ := (idx t).1 h
  have e : (b0 m c t (ix2 r s) : EReal) = a0 m c (ix2 ⟨t.val / 7 * 1024 + r.val, by omega⟩ ⟨t.val % 7 * 1024 + s.val, by omega⟩) := by
    blk_ext [iblk, V, h0]
  rw [e]
  exact rd2_of (a0 m c) _ _ _ _ _ _ (by omega) (by omega)

theorem at1 (h : t.val % 7 ≤ 3) (s l : Fin 1024) : (b1 m c t (ix2 l s) : EReal) = rd2 (a1 m c) l.val (t.val % 7 * 1024 + s.val) := by
  obtain ⟨h0, h1⟩ := (idx t).1 h
  have e : (X0_1 m c t (ix2 l s) : EReal) = a1 m c (ix2 l ⟨t.val % 7 * 1024 + s.val, by omega⟩) := by
    unfold X0_1 Pipeline.Window.fill
    rw [dif_pos (moved0_1 t _)]
    blk_ext [iblk, V, h1]
  refine Eq.trans e ?_
  exact rd2_of (a1 m c) _ _ _ _ _ _ (by omega) (by omega)

theorem at2 (h : 4 ≤ t.val % 7) (h' : t.val % 7 ≤ 5) (s r : Fin 1024) : (b2 m c t (ix2 r s) : EReal) = rd2 (a2 m c) (t.val / 7 * 1024 + r.val) (t.val % 7 * 1024 + s.val - 4096) := by
  have ht : t.val < 28 := lt_of_lt_of_eq t.isLt N_0
  obtain ⟨h0, h1⟩ := (idx t).2.1 h h'
  have e : (b2 m c t (ix2 r s) : EReal) = a2 m c (ix2 ⟨t.val / 7 * 1024 + r.val, by omega⟩ ⟨(t.val % 7 - 4) * 1024 + s.val, by omega⟩) := by
    blk_ext [iblk, V, h0]
  rw [e]
  exact rd2_of (a2 m c) _ _ _ _ _ _ (by omega) (by omega)

theorem at3 (h : 4 ≤ t.val % 7) (h' : t.val % 7 ≤ 5) (s l : Fin 1024) : (b3 m c t (ix2 l s) : EReal) = rd2 (a1 m c) l.val (t.val % 7 * 1024 + s.val) := by
  obtain ⟨h0, h1⟩ := (idx t).2.1 h h'
  have e : (X0_3 m c t (ix2 l s) : EReal) = a1 m c (ix2 l ⟨t.val % 7 * 1024 + s.val, by omega⟩) := by
    unfold X0_3 Pipeline.Window.fill
    rw [dif_pos (moved0_3 t _)]
    blk_ext [iblk, V, h1]
  refine Eq.trans e ?_
  exact rd2_of (a1 m c) _ _ _ _ _ _ (by omega) (by omega)

theorem at4 (s : Fin 128) (r : Fin 1024) : (b4 m c t (ix2 r s) : EReal) = rd2 (a3 m c) (t.val / 7 * 1024 + r.val) s.val := by
  have ht : t.val < 28 := lt_of_lt_of_eq t.isLt N_0
  obtain ⟨-, -, h0, h1, -⟩ := idx t
  have e : (b4 m c t (ix2 r s) : EReal) = a3 m c (ix2 ⟨t.val / 7 * 1024 + r.val, by omega⟩ s) := by
    blk_ext [iblk, V, h0]
  rw [e]
  exact rd2_of (a3 m c) _ _ _ _ _ _ (by omega) (by omega)

theorem at5 (s : Fin 128) (l : Fin 1024) : (b5 m c t (ix2 l s) : EReal) = rd2 (a4 m c) l.val s.val := by
  obtain ⟨-, -, h0, h1, -⟩ := idx t
  have e : (b5 m c t (ix2 l s) : EReal) = a4 m c (ix2 l s) := by
    blk_ext [iblk, V, h1]
  rw [e]
  exact rd2_of (a4 m c) _ _ _ _ _ _ (by omega) (by omega)

theorem both0 (h : t.val % 7 ≤ 3) (r l : Fin 1024) : (∑ s : Fin 1024, b0 m c t (ix2 r s) * b1 m c t (ix2 l s))
    = part (a0 m c) (a1 m c) (a2 m c) (a3 m c) (a4 m c) (t.val / 7 * 1024 + r.val) l.val (t.val % 7) := by
  unfold part
  rw [if_pos (by omega)]
  refine Finset.sum_congr rfl fun s _ => ?_
  unfold term
  rw [if_pos (by omega)]
  exact congrArg₂ (· * ·) (at0 m c t h s r) (at1 m c t h s l)

theorem both2 (h : 4 ≤ t.val % 7) (h' : t.val % 7 ≤ 5) (r l : Fin 1024) : (∑ s : Fin 1024, b2 m c t (ix2 r s) * b3 m c t (ix2 l s))
    = part (a0 m c) (a1 m c) (a2 m c) (a3 m c) (a4 m c) (t.val / 7 * 1024 + r.val) l.val (t.val % 7) := by
  unfold part
  rw [if_pos (by omega)]
  refine Finset.sum_congr rfl fun s _ => ?_
  unfold term
  rw [if_neg (by omega)]
  exact congrArg₂ (· * ·) (at2 m c t h h' s r) (at3 m c t h h' s l)

theorem both4 (h : t.val % 7 = 6) (r l : Fin 1024) : (∑ s : Fin 128, b4 m c t (ix2 r s) * b5 m c t (ix2 l s))
    = part (a0 m c) (a1 m c) (a2 m c) (a3 m c) (a4 m c) (t.val / 7 * 1024 + r.val) l.val (t.val % 7) := by
  unfold part
  rw [if_neg (by omega)]
  exact Finset.sum_congr rfl fun s _ => congrArg₂ (· * ·) (at4 m c t s r) (at5 m c t s l)

theorem start (h : t.val % 7 = 0) (r l : Fin 1024) : ((outsAt0 m c t.val t.isLt).2 (ix2 r l) : EReal)
    = part (a0 m c) (a1 m c) (a2 m c) (a3 m c) (a4 m c) (t.val / 7 * 1024 + r.val) l.val (t.val % 7) := by
  rw [outsAt0_A m c t (by omega) (by omega) (by omega) (by omega) (by omega) (by omega)]
  frame_out
  exact (first_at _ _ _ _).trans (both0 m c t (by omega) r l)

theorem step (h : ¬t.val % 7 = 0) (r l : Fin 1024) : ((outsAt0 m c t.val t.isLt).2 (ix2 r l) : EReal)
    = (outsAt0 m c (t.val - 1) (Nat.lt_of_le_of_lt (Nat.sub_le _ _) t.isLt)).2 (ix2 r l) + part (a0 m c) (a1 m c) (a2 m c) (a3 m c) (a4 m c) (t.val / 7 * 1024 + r.val) l.val (t.val % 7) := by
  have h7 : t.val % 7 < 7 := Nat.mod_lt _ (by omega)
  by_cases h1 : t.val % 7 ≤ 3
  · rw [outsAt0_B m c t (by omega) (by omega) (by omega) (by omega) (by omega) (by omega)]
    frame_out
    exact (next_at _ _ _ _ _).trans (congrArg₂ (· + ·) (congrFun ((Memref.isWhole_whole cc0_scratch0).read_unread _) _) (both0 m c t h1 r l))
  by_cases h2 : t.val % 7 ≤ 5
  · rw [outsAt0_C m c t (by omega) (by omega) (by omega) (by omega)]
    frame_out
    exact (more_at _ _ _ _ _).trans (congrArg₂ (· + ·) (congrFun ((Memref.isWhole_whole cc0_scratch0).read_unread _) _) (both2 m c t (by omega) h2 r l))
  · rw [outsAt0_D m c t (by omega) (by omega) (by omega) (by omega)]
    frame_out
    exact (last_at _ _ _ _ _).trans (congrArg₂ (· + ·) (congrFun ((Memref.isWhole_whole cc0_scratch0).read_unread _) _) (both4 m c t (by omega) r l))

theorem out_scr (h : t.val % 7 = 6) (r l : Fin 1024) : ((outsAt0 m c t.val t.isLt).1 (ix2 r l) : EReal) = (outsAt0 m c t.val t.isLt).2 (ix2 r l) := by
  rw [outsAt0_D m c t (by omega) (by omega) (by omega) (by omega)]
  frame_out

/-- At the last step of a tile the tile is the whole sum. -/
theorem out_at (h : t.val % 7 = 6) (r l : Fin 1024) : ((outsAt0 m c t.val t.isLt).1 (ix2 r l) : EReal)
    = all (a0 m c) (a1 m c) (a2 m c) (a3 m c) (a4 m c) (t.val / 7 * 1024 + r.val) l.val := by
  rw [out_scr m c t h r l]
  have H := Pipeline.eq_sum_of_reset_step_divmod (fun n hn => ((outsAt0 m c n hn).2 (ix2 r l) : EReal)) 7 0
    (fun q n => part (a0 m c) (a1 m c) (a2 m c) (a3 m c) (a4 m c) (q * 1024 + r.val) l.val n)
    (fun u hu => (start m c u hu r l).trans (zero_add _).symm) (fun u hu => step m c u hu r l) t
  rw [H, h, zero_add]
  exact parts (a0 m c) (a1 m c) (a2 m c) (a3 m c) (a4 m c) _ _

/-- The result. -/
def Q : FVec Ideal S4096x1024 .f32 := fun i => all (a0 m c) (a1 m c) (a2 m c) (a3 m c) (a4 m c) (i 0).val (i 1).val

theorem result : (dats m 0 c).arrAt 6 cfg0.N = Q m c := by
  refine (dats m 0 c).arrAt_eq_of_covers 6 _ (by decide +kernel) fun t hf y => ?_
  blk_simp; rw [after0_6]
  have ht : t.val < 28 := lt_of_lt_of_eq t.isLt N_0
  have hm : t.val % 7 = 6 := (flush0_6 t).mp hf
  obtain ⟨-, -, -, -, h2⟩ := idx t
  idx_vars y
  have e : Q m c (((View.whole main_v0).slice (win0_6.rect t)).emb (ix2 y0 y1)) = Q m c (ix2 ⟨t.val / 7 * 1024 + y0.val, by omega⟩ y1) := by
    generalize Q m c = X
    blk_ext [h2]
  exact (out_at m c t hm y0 y1).trans e.symm

theorem reads : Cert.Reference16Ideal.Read.val_main_v14 (F := Ideal) (a0 m c) (a1 m c) (a2 m c) (a3 m c) (a4 m c) = Q m c := by
  funext i
  idx_vars i
  exact sum_at _ _ _ _ _ i0 i1

/-- The run, with the result's array named. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run (defs (F := Ideal)) _ _).mono (fun r h c => ⟨(h c).1 6,
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c)))⟩)
    (run_main m ρ)

end Cert.Kernel16Ideal.Value

end
-- ==== Proof.Product20.lean ====
module

public import proofs.«01_k».proof.Proof.Gen.Kernel20Ideal.Value
public import proofs.«01_k».proof.Proof.Gen.Reference20Ideal.Read
public import proofs.«01_k».proof.Proof.Product

@[expose] public section

set_option maxRecDepth 16384

noncomputable section
open Idealize.ShloMosaic Idealize.ShloMosaic.TcCoe Idealize.SL.Sem
namespace Cert.Kernel20Ideal.Value
open Cert.Kernel20Ideal Cert.Kernel20Ideal.Gen Cert.Product

theorem idx : ∀ t : Fin cfg0.N, win0_0.index t = ![(t.val / 1), 0] ∧ win0_1.index t = ![0, (t.val % 1)] ∧ win0_2.index t = ![(t.val / 1), (t.val % 1)] :=
  (by decide +kernel : ∀ t : Fin grid0.N, _)

theorem all_at (x : Vec Ideal S1024x1024 .bf16) (y : Vec Ideal S1024x128 .bf16) (r : Fin 1024) (l : Fin 128) : k0_pay1 x y (ix2 r l) = (∑ s : Fin 1024, x (ix2 r s) * y (ix2 s l) : EReal) := by
  pointwise [k0_pay1]

variable (m : (ℓ : Loc nD τ sig) → Buf (Elt Ideal) ℓ) (c : Dev nD) (t : Fin cfg0.N)

/-- The two factors. -/
abbrev aA : FVec Ideal S4096x1024 .bf16 := m ((c.tc : Thread nD τ).loc main_arg0)
abbrev aB : FVec Ideal S1024x128 .bf16 := m ((c.tc : Thread nD τ).loc main_arg1)

/-- The blocks of a point. -/
abbrev bA : FVec Ideal S1024x1024 .bf16 := iblk m c 0 t
abbrev bB : FVec Ideal S1024x128 .bf16 := iblk m c 1 t

/-- One product of the sum. -/
def term (i j k : ℕ) : EReal := rd2 (aA m c) (i) (k) * rd2 (aB m c) (k) (j)

theorem left (s : Fin 1024) (r : Fin 1024) : (iblk m c 0 t (ix2 r s) : EReal) = rd2 (aA m c) ((t.val / 1) * 1024 + r.val) (s.val) := by
  have ht : t.val < 4 := lt_of_lt_of_eq t.isLt N_0
  obtain ⟨h0, h1, h2⟩ := idx t
  have e : (iblk m c 0 t (ix2 r s) : EReal) = aA m c (ix2 ⟨((t.val / 1)) * 1024 + r.val, by omega⟩ ⟨s.val, by omega⟩) := by
    blk_ext [iblk, V, h0]
  rw [e]
  exact rd2_of (aA m c) _ _ _ _ _ _ (by omega) (by omega)

theorem right (s : Fin 1024) (l : Fin 128) : (iblk m c 1 t (ix2 s l) : EReal) = rd2 (aB m c) (s.val) ((t.val % 1) * 128 + l.val) := by
  have ht : t.val < 4 := lt_of_lt_of_eq t.isLt N_0
  obtain ⟨h0, h1, h2⟩ := idx t
  have e : (iblk m c 1 t (ix2 s l) : EReal) = aB m c (ix2 ⟨s.val, by omega⟩ ⟨((t.val % 1)) * 128 + l.val, by omega⟩) := by
    blk_ext [iblk, V, h1]
  rw [e]
  exact rd2_of (aB m c) _ _ _ _ _ _ (by omega) (by omega)

theorem both (r : Fin 1024) (l : Fin 128) : (∑ s : Fin 1024, bA m c t (ix2 r s) * bB m c t (ix2 s l))
    = ∑ s : Fin 1024, term m c ((t.val / 1) * 1024 + r.val) ((t.val % 1) * 128 + l.val) (s.val) :=
  Finset.sum_congr rfl fun s _ => congrArg₂ (· * ·) (left m c t s r) (right m c t s l)

/-- The tile of a point is the whole product. -/
theorem out_at (r : Fin 1024) (l : Fin 128) : (out0_2 (iblk m c 0 t) (iblk m c 1 t) (ix2 r l) : EReal)
    = ∑ k : Fin 1024, term m c ((t.val / 1) * 1024 + r.val) ((t.val % 1) * 128 + l.val) k.val := by
  unfold out0_2
  frame_out
  exact (all_at _ _ _ _).trans (both m c t r l)

/-- The product. -/
def Q : FVec Ideal S4096x128 .f32 := fun i => ∑ k : Fin 1024, term m c (i 0).val (i 1).val k.val

theorem result : (dats m 0 c).arrAt 2 cfg0.N = Q m c := by
  refine (dats m 0 c).arrAt_eq_of_covers 2 _ (by decide +kernel) fun t hf y => ?_
  blk_simp; rw [after0_2]
  have ht : t.val < 4 := lt_of_lt_of_eq t.isLt N_0
  obtain ⟨-, -, h2⟩ := idx t
  idx_vars y
  have e : Q m c (((View.whole main_v0).slice (win0_2.rect t)).emb (ix2 y0 y1)) = Q m c (ix2 ⟨(t.val / 1) * 1024 + y0.val, by omega⟩ ⟨(t.val % 1) * 128 + y1.val, by omega⟩) := by
    generalize Q m c = X
    blk_ext [h2]
  exact (out_at m c t y0 y1).trans e.symm

theorem reads : Cert.Reference20Ideal.Read.val_main_v2 (F := Ideal) (aA m c) (aB m c) = Q m c := by
  funext i
  idx_vars i
  simp only [Cert.Reference20Ideal.Read.val_main_v2_apply, Cert.Reference20Ideal.Read.val_main_v1_apply, Cert.Reference20Ideal.Read.val_main_v0_apply]
  refine Finset.sum_congr rfl fun k _ => ?_
  exact (congrArg₂ (· * ·) (rd2_idx (aA m c) _ _ _ (by simp only []; try omega) (by simp only []; try omega)) (rd2_idx (aB m c) _ _ _ (by simp only []; try omega) (by simp only []; try omega)))

end Cert.Kernel20Ideal.Value

end
-- ==== Proof.Product21.lean ====
module

public import proofs.«01_k».proof.Proof.Gen.Kernel21Ideal.Value
public import proofs.«01_k».proof.Proof.Gen.Reference21Ideal.Read
public import proofs.«01_k».proof.Proof.Product

@[expose] public section

set_option maxRecDepth 16384

noncomputable section
open Idealize.ShloMosaic Idealize.ShloMosaic.TcCoe Idealize.SL.Sem
namespace Cert.Kernel21Ideal.Value
open Cert.Kernel21Ideal Cert.Kernel21Ideal.Gen Cert.Product

theorem idx : ∀ t : Fin cfg0.N, win0_0.index t = ![t.val % 2, (t.val / 2 / 1)] ∧ win0_1.index t = ![t.val % 2, (t.val / 2 % 1)] ∧ win0_2.index t = ![(t.val / 2 / 1), (t.val / 2 % 1)] :=
  (by decide +kernel : ∀ t : Fin grid0.N, _)

theorem first_at (x : Vec Ideal S2048x1024 .bf16) (y : Vec Ideal S2048x128 .f32) (r : Fin 1024) (l : Fin 128) : k0_pay2 x y (ix2 r l) = (∑ s : Fin 2048, x (ix2 s r) * y (ix2 s l) : EReal) := by
  pointwise [k0_pay2, k0_pay1]

theorem next_at (x : Vec Ideal S2048x1024 .bf16) (y : Vec Ideal S2048x128 .f32) (z : Vec Ideal S1024x128 .f32) (r : Fin 1024) (l : Fin 128) : k0_pay3 x y z (ix2 r l) = z (ix2 r l) + (∑ s : Fin 2048, x (ix2 s r) * y (ix2 s l) : EReal) := by
  pointwise [k0_pay3, k0_pay1]

theorem done_at (z : Vec Ideal S1024x128 .f32) (r : Fin 1024) (l : Fin 128) : k0_pay4 z (ix2 r l) = z (ix2 r l) := by
  pointwise [k0_pay4]

variable (m : (ℓ : Loc nD τ sig) → Buf (Elt Ideal) ℓ) (c : Dev nD) (t : Fin cfg0.N)

/-- The two factors. -/
abbrev aA : FVec Ideal S4096x1024 .bf16 := m ((c.tc : Thread nD τ).loc main_arg0)
abbrev aB : FVec Ideal S4096x128 .f32 := m ((c.tc : Thread nD τ).loc main_arg1)

/-- The blocks of a point. -/
abbrev bA : FVec Ideal S2048x1024 .bf16 := iblk m c 0 t
abbrev bB : FVec Ideal S2048x128 .f32 := iblk m c 1 t

/-- One product of the sum. -/
def term (i j k : ℕ) : EReal := rd2 (aA m c) (k) (i) * rd2 (aB m c) (k) (j)

theorem left (s : Fin 2048) (r : Fin 1024) : (iblk m c 0 t (ix2 s r) : EReal) = rd2 (aA m c) (t.val % 2 * 2048 + s.val) ((t.val / 2 / 1) * 1024 + r.val) := by
  have ht : t.val < 2 := lt_of_lt_of_eq t.isLt N_0
  obtain ⟨h0, h1, h2⟩ := idx t
  have e : (iblk m c 0 t (ix2 s r) : EReal) = aA m c (ix2 ⟨(t.val % 2) * 2048 + s.val, by omega⟩ ⟨((t.val / 2 / 1)) * 1024 + r.val, by omega⟩) := by
    blk_ext [iblk, V, h0]
  rw [e]
  exact rd2_of (aA m c) _ _ _ _ _ _ (by omega) (by omega)

theorem right (s : Fin 2048) (l : Fin 128) : (iblk m c 1 t (ix2 s l) : EReal) = rd2 (aB m c) (t.val % 2 * 2048 + s.val) ((t.val / 2 % 1) * 128 + l.val) := by
  have ht : t.val < 2 := lt_of_lt_of_eq t.isLt N_0
  obtain ⟨h0, h1, h2⟩ := idx t
  have e : (iblk m c 1 t (ix2 s l) : EReal) = aB m c (ix2 ⟨(t.val % 2) * 2048 + s.val, by omega⟩ ⟨((t.val / 2 % 1)) * 128 + l.val, by omega⟩) := by
    blk_ext [iblk, V, h1]
  rw [e]
  exact rd2_of (aB m c) _ _ _ _ _ _ (by omega) (by omega)

theorem both (r : Fin 1024) (l : Fin 128) : (∑ s : Fin 2048, bA m c t (ix2 s r) * bB m c t (ix2 s l))
    = ∑ s : Fin 2048, term m c ((t.val / 2 / 1) * 1024 + r.val) ((t.val / 2 % 1) * 128 + l.val) (t.val % 2 * 2048 + s.val) :=
  Finset.sum_congr rfl fun s _ => congrArg₂ (· * ·) (left m c t s r) (right m c t s l)

theorem start (h : t.val % 2 = 0) (r : Fin 1024) (l : Fin 128) : ((outsAt0 m c t.val t.isLt).2 (ix2 r l) : EReal)
    = ∑ s : Fin 2048, term m c ((t.val / 2 / 1) * 1024 + r.val) ((t.val / 2 % 1) * 128 + l.val) (t.val % 2 * 2048 + s.val) := by
  rw [outsAt0_A m c t (by omega) (by omega) (by omega)]
  frame_out
  exact (first_at _ _ _ _).trans (both m c t r l)

theorem step (h : ¬t.val % 2 = 0) (r : Fin 1024) (l : Fin 128) : ((outsAt0 m c t.val t.isLt).2 (ix2 r l) : EReal)
    = (outsAt0 m c (t.val - 1) (Nat.lt_of_le_of_lt (Nat.sub_le _ _) t.isLt)).2 (ix2 r l) + ∑ s : Fin 2048, term m c ((t.val / 2 / 1) * 1024 + r.val) ((t.val / 2 % 1) * 128 + l.val) (t.val % 2 * 2048 + s.val) := by
  rw [outsAt0_B m c t (by omega) (by omega) (by omega)]
  frame_out
  exact (next_at _ _ _ _ _).trans (congrArg₂ (· + ·) (congrFun ((Memref.isWhole_whole cc0_scratch0).read_unread _) _) (both m c t r l))

theorem out_scr (h : t.val % 2 = 1) (r : Fin 1024) (l : Fin 128) : ((outsAt0 m c t.val t.isLt).1 (ix2 r l) : EReal) = (outsAt0 m c t.val t.isLt).2 (ix2 r l) := by
  rw [outsAt0_B m c t (by omega) (by omega) (by omega)]
  frame_out
  exact done_at _ _ _

/-- At the last step of a tile the tile is the whole product. -/
theorem out_at (h : t.val % 2 = 1) (r : Fin 1024) (l : Fin 128) : ((outsAt0 m c t.val t.isLt).1 (ix2 r l) : EReal)
    = ∑ k : Fin 4096, term m c ((t.val / 2 / 1) * 1024 + r.val) ((t.val / 2 % 1) * 128 + l.val) k.val := by
  rw [out_scr m c t h r l]
  exact fold (fun n hn => (outsAt0 m c n hn).2 (ix2 r l)) 2 2048 4096 (by omega) (by omega)
    (fun q k => term m c (q / 1 * 1024 + r.val) (q % 1 * 128 + l.val) k)
    (fun u hu => start m c u hu r l) (fun u hu => step m c u hu r l) t h

/-- The product. -/
def Q : FVec Ideal S1024x128 .bf16 := fun i => ∑ k : Fin 4096, term m c (i 0).val (i 1).val k.val

theorem result : (dats m 0 c).arrAt 2 cfg0.N = Q m c := by
  refine (dats m 0 c).arrAt_eq_of_covers 2 _ (by decide +kernel) fun t hf y => ?_
  blk_simp; rw [after0_2]
  have ht : t.val < 2 := lt_of_lt_of_eq t.isLt N_0
  have hm : t.val % 2 = 1 := by have := (flush0_2 t).mp hf; omega
  obtain ⟨-, -, h2⟩ := idx t
  idx_vars y
  have e : Q m c (((View.whole main_v0).slice (win0_2.rect t)).emb (ix2 y0 y1)) = Q m c (ix2 ⟨(t.val / 2 / 1) * 1024 + y0.val, by omega⟩ ⟨(t.val / 2 % 1) * 128 + y1.val, by omega⟩) := by
    generalize Q m c = X
    blk_ext [h2]
  exact (out_at m c t hm y0 y1).trans e.symm

theorem reads : Cert.Reference21Ideal.Read.val_main_v5 (F := Ideal) (aA m c) (aB m c) = Q m c := by
  funext i
  idx_vars i
  simp only [Cert.Reference21Ideal.Read.val_main_v5_apply, Cert.Reference21Ideal.Read.val_main_v4_apply, Cert.Reference21Ideal.Read.val_main_v3_apply, Cert.Reference21Ideal.Read.val_main_v1_apply]
  refine Finset.sum_congr rfl fun k _ => ?_
  exact (mul_comm _ _).trans (congrArg₂ (· * ·) (rd2_idx (aA m c) _ _ _ (by simp only []; try omega) (by simp only []; try omega)) (rd2_idx (aB m c) _ _ _ (by simp only []; try omega) (by simp only []; try omega)))

end Cert.Kernel21Ideal.Value

end
-- ==== Proof.Formula.lean ====
module

public import Idealize.ShloMosaic.Lib.Pointwise
public import Idealize.ShloMosaic.Lib.Pipeline.ValueKit

/-! The gradient of the gated short convolution, written for one column of the arrays.

A column is a function of a row number `q`. The rows are shifted by eight, so that the eight rows before the first
row of the sequence have numbers too: row `r` of an array is row `q = r + 8` of a column, and a column of an array of
`4096` rows is zero outside `8 ≤ q < 4104`. -/

@[expose] public section

set_option maxRecDepth 16384

noncomputable section
open Idealize.ShloMosaic Idealize.ShloMosaic.TcCoe Idealize.SL.Sem

namespace Cert.ShortConv

/-- The word of one half, as the kernel writes it. -/
abbrev half : EReal := Ideal.ofBits .f32 0x3F000000#32

/-- The logistic function by the hyperbolic tangent. -/
def lgs (x : EReal) : EReal := half * Ideal.tanh (half * x) + half

/-- The derivative of `x * lgs x`. -/
def dsilu (x : EReal) : EReal := lgs x * (1 + x * (1 - lgs x))

/-- The gradient that reaches the convolution's gated result. -/
def fDY (d g : ℕ → EReal) (q : ℕ) : EReal := d q * (g q * lgs (g q))

/-- The convolution's operand. -/
def fZ (c u : ℕ → EReal) (q : ℕ) : EReal := c q * u q

/-- The convolution. -/
def fCZ (c u : ℕ → EReal) (w0 w1 w2 : EReal) (q : ℕ) : EReal :=
  w2 * fZ c u q + w1 * fZ c u (q - 1) + w0 * fZ c u (q - 2)

/-- The gradient that reaches the convolution's result. -/
def fDCZ (b d g : ℕ → EReal) (q : ℕ) : EReal := fDY d g q * b q

/-- The gradient that reaches the convolution's operand. -/
def fDZ (b d g : ℕ → EReal) (w0 w1 w2 : EReal) (q : ℕ) : EReal :=
  w2 * fDCZ b d g q + w1 * fDCZ b d g (q + 1) + w0 * fDCZ b d g (q + 2)

/-- Column `k` of an array of `4096` rows, zero before and after it. -/
def col {n : ℕ} (X : FVec Ideal ⟨2, ![4096, n]⟩ .f32) (k : Fin n) (q : ℕ) : EReal :=
  if h : 8 ≤ q ∧ q < 4104 then X (ix2 ⟨q - 8, by omega⟩ k) else 0

theorem col_of {n : ℕ} (X : FVec Ideal ⟨2, ![4096, n]⟩ .f32) (k : Fin n) (q : ℕ) (r : Fin 4096) (h : q = r.val + 8) :
    col X k q = X (ix2 r k) := by
  subst h
  unfold col
  rw [dif_pos ⟨by omega, by omega⟩]
  congr 2

theorem col_out {n : ℕ} (X : FVec Ideal ⟨2, ![4096, n]⟩ .f32) (k : Fin n) (q : ℕ) (h : q < 8 ∨ 4104 ≤ q) :
    col X k q = 0 := by
  unfold col
  rw [dif_neg (by omega)]

/-- Where the incoming gradient is zero, nothing reaches the convolution. -/
theorem fDCZ_zero (b d g : ℕ → EReal) (q : ℕ) (h : d q = 0) : fDCZ b d g q = 0 := by
  rw [fDCZ, fDY, h, zero_mul, zero_mul]

theorem fDCZ_congr {b d g b' d' g' : ℕ → EReal} {q q' : ℕ} (hd : d q = d' q')
    (h : d q = 0 ∨ (b q = b' q' ∧ g q = g' q')) : fDCZ b d g q = fDCZ b' d' g' q' := by
  rcases h with h | ⟨hb, hg⟩
  · rw [fDCZ_zero _ _ _ _ h, fDCZ_zero _ _ _ _ (hd.symm.trans h)]
  · rw [fDCZ, fDCZ, fDY, fDY, hb, hd, hg]

end Cert.ShortConv

end
-- ==== Proof.Body.lean ====
module

public import proofs.«01_k».proof.Proof.Gen.KernelIdeal.Value
public import proofs.«01_k».proof.Proof.Formula

/-! What one point of the kernel computes: one block of 512 columns, at the block's offset `o`. -/

@[expose] public section

set_option maxRecDepth 16384

noncomputable section
open Idealize.ShloMosaic Idealize.ShloMosaic.TcCoe Idealize.SL.Sem
namespace Cert.KernelIdeal.Value
open Cert.KernelIdeal Cert.KernelIdeal.Gen Cert.ShortConv

/-- A block of 512 columns of a tile or of a halo. -/
abbrev cut {n w : ℕ} (X : Vec Ideal ⟨2, ![n, w]⟩ .f32) (o : ℕ)
    (h : ∀ a, (![0, o] : Fin 2 → ℕ) a + (⟨2, ![n, 512]⟩ : Shape).size a ≤ (⟨2, ![n, w]⟩ : Shape).size a) :
    Vec Ideal ⟨2, ![n, 512]⟩ .f32 := fun x => X ((Rect.unit (s := ⟨2, ![n, w]⟩) ![0, o] (⟨2, ![n, 512]⟩ : Shape).size h).idx x)

theorem cut_at {n w : ℕ} (X : Vec Ideal ⟨2, ![n, w]⟩ .f32) (o : ℕ) (h) (r : Fin n) (l : Fin 512) (k : Fin w)
    (hk : k.val = o + l.val) : cut X o h (ix2 r l) = X (ix2 r k) := by
  unfold cut
  congr 1
  funext a
  refine a.cases ?_ (fun a => a.cases ?_ (fun a => a.elim0))
  · exact Fin.ext (by simp [Rect.idx_unit_val])
  · exact Fin.ext (by simp [Rect.idx_unit_val, hk])

abbrev T := FVec Ideal S144x512 .f32

/-- A tile with its halos: the halo before it is multiplied by `kp`. -/
def ext (kp : EReal) (a : Vec Ideal S8x512 .f32) (x : Vec Ideal S128x512 .f32) (n : Vec Ideal S8x512 .f32) : T :=
  concatenate S144x512 0 [⟨S8x512, mulf (φ := .f32) a (broadcast S8x512 kp)⟩, ⟨S128x512, x⟩, ⟨S8x512, n⟩] concatenates_S8x512_S128x512_S8x512_S144x512_d0

/-- The incoming gradient's tile: zero before it, and the halo after it is multiplied by `kn`. -/
def dext (kn : EReal) (x : Vec Ideal S128x512 .f32) (n : Vec Ideal S8x512 .f32) : T :=
  concatenate S144x512 0 [⟨S8x512, broadcast S8x512 (FloatOps.ofBits (F := Ideal) .f32 0x00000000#32)⟩, ⟨S128x512, x⟩, ⟨S8x512, mulf (φ := .f32) n (broadcast S8x512 kn)⟩] concatenates_S8x512_S128x512_S8x512_S144x512_d0

def vZ (c u : T) : T := mulf c u
def vCZ (c u : T) (w0 w1 w2 : Vec Ideal S1x512 .f32) : T :=
  addf (addf (mulf (broadcastTo S144x512 w2 broadcasts_S1x512_S144x512) (vZ c u))
    (mulf (broadcastTo S144x512 w1 broadcasts_S1x512_S144x512) (dynamicRotate 0 1#32 none (vZ c u) rotates_S144x512_d0)))
    (mulf (broadcastTo S144x512 w0 broadcasts_S1x512_S144x512) (dynamicRotate 0 2#32 none (vZ c u) rotates_S144x512_d0))
def vS (g : T) : T := k0_pay14 g
def vDS (g : T) : T := k0_pay15 g
def vDY (d g : T) : T := mulf d (mulf g (vS g))
def vDCZ (b d g : T) : T := mulf (vDY d g) b
def vDZ (b d g : T) (w0 w1 w2 : Vec Ideal S1x512 .f32) : T :=
  addf (addf (mulf (broadcastTo S144x512 w2 broadcasts_S1x512_S144x512) (vDCZ b d g))
    (mulf (broadcastTo S144x512 w1 broadcasts_S1x512_S144x512) (dynamicRotate 0 143#32 none (vDCZ b d g) rotates_S144x512_d0)))
    (mulf (broadcastTo S144x512 w0 broadcasts_S1x512_S144x512) (dynamicRotate 0 142#32 none (vDCZ b d g) rotates_S144x512_d0))
/-- The rows of the tile itself, rounded. -/
def out (x : T) : FVec Ideal S128x512 .bf16 :=
  truncf .bf16 (extractStridedSlice S128x512 ![8, 0] x slices_S144x512_o8_0_S128x512) bitsLt_bf16_f32
def oB (b c u g d : T) (w0 w1 w2 : Vec Ideal S1x512 .f32) := out (mulf (vDY d g) (vCZ c u w0 w1 w2))
def oC (b c u g d : T) (w0 w1 w2 : Vec Ideal S1x512 .f32) := out (mulf (vDZ b d g w0 w1 w2) u)
def oU (b c u g d : T) (w0 w1 w2 : Vec Ideal S1x512 .f32) := out (mulf (vDZ b d g w0 w1 w2) c)
def oG (b c u g d : T) (w0 w1 w2 : Vec Ideal S1x512 .f32) := out (mulf (mulf d (mulf b (vCZ c u w0 w1 w2))) (vDS g))
/-- The weights' gradient over the tile's rows. -/
def oW (b c u g d : T) : FVec Ideal S3x512 .f32 :=
  k0_pay25 (vZ c u) (dynamicRotate 0 1#32 none (vZ c u) rotates_S144x512_d0) (dynamicRotate 0 2#32 none (vZ c u) rotates_S144x512_d0) (vDCZ b d g)

/-- Column `l` of a tile with its halos. -/
def tcol (v : T) (l : Fin 512) (q : ℕ) : EReal := if h : q < 144 then v (ix2 ⟨q, h⟩ l) else 0

theorem tcol_at (v : T) (l : Fin 512) (q : Fin 144) : tcol v l q.val = v (ix2 q l) := by
  unfold tcol; rw [dif_pos q.isLt]

variable (b c u g d : T) (w0 w1 w2 : Vec Ideal S1x512 .f32)

theorem vZ_at (p : Fin 144) (l : Fin 512) : vZ c u (ix2 p l) = fZ (tcol c l) (tcol u l) p.val := by
  rw [fZ, tcol_at, tcol_at]; rfl
theorem vDY_at (d g : T) (p : Fin 144) (l : Fin 512) : vDY d g (ix2 p l) = fDY (tcol d l) (tcol g l) p.val := by
  rw [fDY, tcol_at, tcol_at]; unfold lgs; rfl
theorem vDCZ_at (b d g : T) (p : Fin 144) (l : Fin 512) : vDCZ b d g (ix2 p l) = fDCZ (tcol b l) (tcol d l) (tcol g l) p.val := by
  rw [fDCZ, tcol_at, ← vDY_at]; rfl
theorem vDS_at (p : Fin 144) (l : Fin 512) : vDS g (ix2 p l) = dsilu (tcol g l p.val) := by
  rw [tcol_at]; unfold dsilu lgs; pointwise [vDS, k0_pay15, k0_pay14]
theorem vCZ_at (p : Fin 144) (hp : 2 ≤ p.val) (l : Fin 512) :
    vCZ c u w0 w1 w2 (ix2 p l) = fCZ (tcol c l) (tcol u l) (w0 (ix2 0 l)) (w1 (ix2 0 l)) (w2 (ix2 0 l)) p.val := by
  have hz : ∀ (q : Fin 144) (n : ℕ) (h : q.val = n), vZ c u (ix2 q l) = fZ (tcol c l) (tcol u l) n := fun q n h => by
    rw [vZ_at, h]
  pointwise [vCZ]
  rw [hz _ p.val rfl, hz _ (p.val - 1) (by show (p.val + 144 - 1) % 144 = _; omega),
    hz _ (p.val - 2) (by show (p.val + 144 - 2) % 144 = _; omega)]
  rfl
theorem vDZ_at (b d g : T) (p : Fin 144) (hp : p.val < 142) (l : Fin 512) :
    vDZ b d g w0 w1 w2 (ix2 p l) = fDZ (tcol b l) (tcol d l) (tcol g l) (w0 (ix2 0 l)) (w1 (ix2 0 l)) (w2 (ix2 0 l)) p.val := by
  have hz : ∀ (q : Fin 144) (n : ℕ) (h : q.val = n), vDCZ b d g (ix2 q l) = fDCZ (tcol b l) (tcol d l) (tcol g l) n :=
    fun q n h => by rw [vDCZ_at, h]
  pointwise [vDZ]
  rw [hz _ p.val rfl, hz _ (p.val + 1) (by show (p.val + 144 - 143) % 144 = _; omega),
    hz _ (p.val + 2) (by show (p.val + 144 - 142) % 144 = _; omega)]
  rfl

theorem ext_at (kp : EReal) (a x n) (p : Fin 144) (l : Fin 512) :
    ext kp a x n (ix2 p l) = if h : p.val < 8 then a (ix2 ⟨p.val, h⟩ l) * kp
      else if h : p.val - 8 < 128 then x (ix2 ⟨p.val - 8, h⟩ l) else n (ix2 ⟨p.val - 8 - 128, by omega⟩ l) := by
  pointwise [ext]
theorem dext_at (kn : EReal) (x n) (p : Fin 144) (l : Fin 512) :
    dext kn x n (ix2 p l) = if h : p.val < 8 then 0
      else if h : p.val - 8 < 128 then x (ix2 ⟨p.val - 8, h⟩ l) else n (ix2 ⟨p.val - 8 - 128, by omega⟩ l) * kn := by
  pointwise [dext]
theorem oW_at (k : Fin 3) (l : Fin 512) : oW b c u g d (ix2 k l) = ∑ r : Fin 128,
    fDCZ (tcol b l) (tcol d l) (tcol g l) (r.val + 8) * fZ (tcol c l) (tcol u l) (r.val + 6 + k.val) := by
  have hd : ∀ (r : Fin 128) (h : 8 + r.val < 144), vDCZ b d g (ix2 ⟨8 + r.val, h⟩ l)
      = fDCZ (tcol b l) (tcol d l) (tcol g l) (r.val + 8) := fun r h => by
    rw [vDCZ_at]; show fDCZ _ _ _ (8 + r.val) = _; rw [Nat.add_comm]
  have hz : ∀ (q : Fin 144) (n : ℕ) (h : q.val = n), vZ c u (ix2 q l) = fZ (tcol c l) (tcol u l) n := fun q n h => by
    rw [vZ_at, h]
  pointwise [oW, k0_pay25]
  by_cases h0 : (k : ℕ) < 1
  · rw [dif_pos h0]
    refine Finset.sum_congr rfl fun r _ => ?_
    rw [hd, hz _ (r.val + 6 + k.val) (by show (8 + r.val + 144 - 2) % 144 = _; omega)]
  · rw [dif_neg h0]
    by_cases h1 : (k : ℕ) - 1 < 1
    · rw [dif_pos h1]
      refine Finset.sum_congr rfl fun r _ => ?_
      rw [hd, hz _ (r.val + 6 + k.val) (by show (8 + r.val + 144 - 1) % 144 = _; omega)]
    · rw [dif_neg h1]
      refine Finset.sum_congr rfl fun r _ => ?_
      rw [hd, hz _ (r.val + 6 + k.val) (by show 8 + r.val = _; omega)]
theorem out_at (x : T) (r : Fin 128) (l : Fin 512) : out x (ix2 r l) = x (ix2 ⟨r.val + 8, by omega⟩ l) := by
  pointwise [out]
  exact congrArg x ((ix2_inj ..).2 ⟨Fin.ext (Nat.add_comm _ _), rfl⟩)
end Cert.KernelIdeal.Value

end
-- ==== Proof.Reference.lean ====
module

public import proofs.«01_k».proof.Proof.Gen.ReferenceIdeal.Read
public import proofs.«01_k».proof.Proof.Formula

/-! The reference's two results at an index. -/

@[expose] public section

set_option maxRecDepth 16384

noncomputable section
open Idealize.ShloMosaic Idealize.ShloMosaic.TcCoe Idealize.SL.Sem
namespace Cert.ReferenceIdeal.Value
open Cert.ReferenceIdeal Cert.ReferenceIdeal.Gen Cert.ReferenceIdeal.Read Cert.ShortConv

/-- Every element is a real number. -/
abbrev Reals {S : Shape} (X : FVec Ideal S .f32) : Prop := ∀ i, ∃ x : ℝ, X i = (x : EReal)

/-- The columns of the gate before the convolution, of its two factors and of the gate after it. -/
abbrev cB (X : FVec Ideal S4096x8192 .f32) (k : Fin 2048) : ℕ → EReal := col X ⟨k.val, by omega⟩
abbrev cC (X : FVec Ideal S4096x8192 .f32) (k : Fin 2048) : ℕ → EReal := col X ⟨2048 + k.val, by omega⟩
abbrev cU (X : FVec Ideal S4096x8192 .f32) (k : Fin 2048) : ℕ → EReal := col X ⟨4096 + k.val, by omega⟩
abbrev cG (X : FVec Ideal S4096x8192 .f32) (k : Fin 2048) : ℕ → EReal := col X ⟨6144 + k.val, by omega⟩

theorem half_eq : half = ((1 / 2 : ℝ) : EReal) := by
  unfold half
  simp [Ideal.ofBits, Ideal.ieee]
  rw [← EReal.coe_mul]
  norm_num

/-- The logistic function written by the hyperbolic tangent and by the exponential. -/
theorem lgs_eq (x : ℝ) : lgs (x : EReal) = Ideal.div 1 (1 + Ideal.exp (-(x : EReal))) := by
  have e : (1 : EReal) = ((1 : ℝ) : EReal) := rfl
  have hp : (0 : ℝ) < 1 + Real.exp (-x) := by positivity
  rw [lgs, half_eq, e, ← EReal.coe_neg, ← EReal.coe_mul, Ideal.tanh_coe, Ideal.exp_coe, ← EReal.coe_mul, ← EReal.coe_add, ← EReal.coe_add,
    Ideal.div_coe hp.ne', ← EReal.coe_mul]
  congr 1
  rw [Real.tanh_eq_sinh_div_cosh, Real.sinh_eq, Real.cosh_eq]
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  have h3 := Real.exp_pos (1 / 2 * x)
  have h4 := Real.exp_pos (-(1 / 2 * x))
  rw [h1]
  generalize Real.exp (1 / 2 * x) = a at *
  generalize Real.exp (-(1 / 2 * x)) = b at *
  field_simp
  linear_combination (2 * b) * h2

variable (x0 : FVec Ideal S4096x2048 .f32) (x1 : FVec Ideal S4096x8192 .f32) (x2 : FVec Ideal S3x2048 .f32)

theorem v4_at (r : Fin 4096) (k : Fin 2048) (q : ℕ) (h : q = r.val + 8) :
    val_main_v4 (F := Ideal) x1 (ix2 r k) = fZ (cC x1 k) (cU x1 k) q := by
  rw [fZ, cC, cU, col_of _ _ q r h, col_of _ _ q r h]
  pointwise [val_main_v4, val_main_v1, val_main_v2]
theorem fZ_out (k : Fin 2048) (q : ℕ) (h : q < 8) : fZ (cC x1 k) (cU x1 k) q = 0 := by
  rw [fZ, cC, col_out _ _ q (.inl h), zero_mul]
theorem v25_at (r : Fin 4096) (k : Fin 2048) :
    val_main_v25 (F := Ideal) x1 (ix2 r k) = fZ (cC x1 k) (cU x1 k) (r.val + 8) := by
  rw [← v4_at x1 r k _ rfl]
  pointwise [val_main_v25, val_main_v6]
theorem v18_at (r : Fin 4096) (k : Fin 2048) :
    val_main_v18 (F := Ideal) x1 (ix2 r k) = fZ (cC x1 k) (cU x1 k) (r.val + 7) := by
  pointwise [val_main_v18, val_main_v6, val_main_v5, val_main_cst]
  split_ifs with h
  · rw [fZ_out _ _ _ (by omega)]
  · exact v4_at x1 _ k _ (by show _ = 1 + r.val - 2 + 8; omega)
  · exact absurd rfl ‹_›
theorem v10_at (r : Fin 4096) (k : Fin 2048) :
    val_main_v10 (F := Ideal) x1 (ix2 r k) = fZ (cC x1 k) (cU x1 k) (r.val + 6) := by
  pointwise [val_main_v10, val_main_v6, val_main_v5, val_main_cst]
  split_ifs with h
  · rw [fZ_out _ _ _ (by omega)]
  · exact v4_at x1 _ k _ (by show _ = r.val - 2 + 8; omega)
  · exact absurd rfl ‹_›
theorem v29_at (r : Fin 4096) (k : Fin 2048) : val_main_v29 (F := Ideal) x1 x2 (ix2 r k)
    = fCZ (cC x1 k) (cU x1 k) (x2 (ix2 0 k)) (x2 (ix2 1 k)) (x2 (ix2 2 k)) (r.val + 8) := by
  pointwise [val_main_v29, val_main_v22, val_main_v15, val_main_v14, val_main_v13, val_main_cst_1, val_main_v12, val_main_v11, val_main_v9, val_main_v8, val_main_v21, val_main_v20, val_main_v19, val_main_v17, val_main_v16, val_main_v28, val_main_v27, val_main_v26, val_main_v24, val_main_v23]
  rw [v10_at, v18_at, v25_at, fCZ]
  show _ + _ + _ = _ * _ + _ * fZ _ _ (r.val + 7) + _ * fZ _ _ (r.val + 6)
  rw [add_comm, add_assoc, add_comm (_ * fZ _ _ (r.val + 6))]

variable (hx : Reals x1)
include hx
theorem v31_at (r : Fin 4096) (k : Fin 2048) : val_main_v31_2 (F := Ideal) x1 (ix2 r k) = lgs (cG x1 k (r.val + 8)) := by
  obtain ⟨g, hg⟩ := hx (ix2 r ⟨6144 + k.val, by omega⟩)
  rw [cG, col_of _ _ _ r rfl, hg, lgs_eq, ← hg]
  pointwise [val_main_v31_2, val_main_v3, val_main_call0_v4, val_main_call0_v3, val_main_call0_v2, val_main_call0_v1, val_main_call0_v0, val_main_call0_cst, val_main_call0_cst_0]
theorem v34_at (r : Fin 4096) (k : Fin 2048) :
    val_main_v34 (F := Ideal) x0 x1 (ix2 r k) = fDY (col x0 k) (cG x1 k) (r.val + 8) := by
  rw [fDY, ← v31_at x1 hx, cG, col_of _ _ _ r rfl, col_of _ _ _ r rfl]
  pointwise [val_main_v34, val_main_v31_0, val_main_v3]
theorem v36_at (r : Fin 4096) (k : Fin 2048) (q : ℕ) (h : q = r.val + 8) :
    val_main_v36 (F := Ideal) x0 x1 (ix2 r k) = fDCZ (cB x1 k) (col x0 k) (cG x1 k) q := by
  subst h
  rw [fDCZ, ← v34_at x0 x1 hx, cB, col_of _ _ _ r rfl, mul_comm]
  pointwise [val_main_v36, val_main_v0]
theorem v70_at (r : Fin 4096) (k : Fin 2048) : val_main_v70 (F := Ideal) x0 x1 x2 (ix2 r k)
    = fDZ (cB x1 k) (col x0 k) (cG x1 k) (x2 (ix2 0 k)) (x2 (ix2 1 k)) (x2 (ix2 2 k)) (r.val + 8) := by
  have ho : ∀ q, 4104 ≤ q → fDCZ (cB x1 k) (col x0 k) (cG x1 k) q = 0 := fun q h => fDCZ_zero _ _ _ _ (col_out _ _ _ (.inr h))
  pointwise [val_main_v70, val_main_v65, val_main_v54, val_main_v44, val_main_v53, val_main_v64, val_main_v39, val_main_v48, val_main_v59, val_main_cst_4, val_main_cst_8, val_main_cst_12, val_main_v38, val_main_v47, val_main_v58, val_main_v26, val_main_v24, val_main_v23, val_main_v19, val_main_v17, val_main_v16, val_main_v11, val_main_v9, val_main_v8]
  rw [fDZ, v36_at x0 x1 hx r k _ rfl]
  congr 1
  · congr 1
    split_ifs with h
    · rw [v36_at x0 x1 hx _ k (r.val + 8 + 1) (by show _ = 2 + r.val - 1 + 8; omega)]
    · rw [ho _ (by omega), mul_zero]
  · split_ifs with h
    · rw [v36_at x0 x1 hx _ k (r.val + 8 + 2) (by show _ = 2 + r.val + 8; omega)]
    · rw [ho _ (by omega), mul_zero]
theorem v68_at (j : Fin 3) (k : Fin 2048) : val_main_v68 (F := Ideal) x0 x1 (ix2 j k)
    = ∑ r : Fin 4096, fDCZ (cB x1 k) (col x0 k) (cG x1 k) (r.val + 8) * fZ (cC x1 k) (cU x1 k) (r.val + 6 + j.val) := by
  pointwise [val_main_v68, val_main_v57, val_main_v67, val_main_v46, val_main_v56, val_main_v45, val_main_v55, val_main_v66, val_main_v43, val_main_v52, val_main_v63, val_main_v42, val_main_v51, val_main_v62, val_main_v41, val_main_v50, val_main_v61, val_main_v40, val_main_v49, val_main_v60, val_main_cst_5, val_main_cst_9, val_main_cst_13, val_main_cst_3, val_main_cst_7, val_main_cst_11, val_main_cst_2, val_main_cst_6, val_main_cst_10]
  simp only [v36_at x0 x1 hx _ k _ rfl, v25_at, v18_at, v10_at]
  match j with
  | ⟨0, _⟩ => simp
  | ⟨1, _⟩ => simp
  | ⟨2, _⟩ => simp

theorem v74_b (r : Fin 4096) (k : Fin 2048) (k' : Fin 8192) (h : k'.val = k.val) : val_main_v74 (F := Ideal) x0 x1 x2 (ix2 r k')
    = fDY (col x0 k) (cG x1 k) (r.val + 8) * fCZ (cC x1 k) (cU x1 k) (x2 (ix2 0 k)) (x2 (ix2 1 k)) (x2 (ix2 2 k)) (r.val + 8) := by
  have hk := k.isLt
  rw [show k' = ⟨k.val, by omega⟩ from Fin.ext h]
  rw [← v34_at x0 x1 hx, ← v29_at]
  pointwise [val_main_v74, val_main_v73, val_main_v37]
theorem v74_c (r : Fin 4096) (k : Fin 2048) (k' : Fin 8192) (h : k'.val = 2048 + k.val) : val_main_v74 (F := Ideal) x0 x1 x2 (ix2 r k')
    = fDZ (cB x1 k) (col x0 k) (cG x1 k) (x2 (ix2 0 k)) (x2 (ix2 1 k)) (x2 (ix2 2 k)) (r.val + 8) * cU x1 k (r.val + 8) := by
  have hk := k.isLt
  rw [show k' = ⟨2048 + k.val, by omega⟩ from Fin.ext h]
  rw [← v70_at x0 x1 x2 hx, cU, col_of _ _ _ r rfl]
  pointwise [val_main_v74, val_main_v73, val_main_v72, val_main_v2]
theorem v74_u (r : Fin 4096) (k : Fin 2048) (k' : Fin 8192) (h : k'.val = 4096 + k.val) : val_main_v74 (F := Ideal) x0 x1 x2 (ix2 r k')
    = fDZ (cB x1 k) (col x0 k) (cG x1 k) (x2 (ix2 0 k)) (x2 (ix2 1 k)) (x2 (ix2 2 k)) (r.val + 8) * cC x1 k (r.val + 8) := by
  have hk := k.isLt
  rw [show k' = ⟨4096 + k.val, by omega⟩ from Fin.ext h]
  rw [← v70_at x0 x1 x2 hx, cC, col_of _ _ _ r rfl, mul_comm]
  have e : val_main_v74 (F := Ideal) x0 x1 x2 (ix2 r ⟨4096 + k.val, by omega⟩) = (val_main_v71 (F := Ideal) x0 x1 x2 (ix2 r k) : EReal) := by
    pointwise [val_main_v74, val_main_v73]
    rw [dif_neg (by omega), dif_neg (by omega), dif_pos (by omega)]
    exact congrArg _ ((ix2_inj ..).2 ⟨rfl, Fin.ext (by show 4096 + k.val - 2048 - 2048 = _; omega)⟩)
  rw [e]
  pointwise [val_main_v71, val_main_v1]

theorem fZ_real (k : Fin 2048) (q : ℕ) : ∃ z : ℝ, fZ (cC x1 k) (cU x1 k) q = z := by
  by_cases h : 8 ≤ q ∧ q < 4104
  · obtain ⟨y, hy⟩ := hx (ix2 ⟨q - 8, by omega⟩ ⟨2048 + k.val, by omega⟩)
    obtain ⟨z, hz⟩ := hx (ix2 ⟨q - 8, by omega⟩ ⟨4096 + k.val, by omega⟩)
    refine ⟨y * z, ?_⟩
    rw [fZ, cC, cU, col_of _ _ q ⟨q - 8, by omega⟩ (by show q = q - 8 + 8; omega), col_of _ _ q ⟨q - 8, by omega⟩ (by show q = q - 8 + 8; omega), hy, hz, EReal.coe_mul]
  · exact ⟨0, by rw [fZ, cC, col_out _ _ _ (by omega), zero_mul]; rfl⟩

theorem v74_g (hd : Reals x0) (hw : Reals x2) (r : Fin 4096) (k : Fin 2048) (k' : Fin 8192) (h : k'.val = 6144 + k.val) :
    val_main_v74 (F := Ideal) x0 x1 x2 (ix2 r k')
    = col x0 k (r.val + 8) * (cB x1 k (r.val + 8) * fCZ (cC x1 k) (cU x1 k) (x2 (ix2 0 k)) (x2 (ix2 1 k)) (x2 (ix2 2 k)) (r.val + 8))
      * dsilu (cG x1 k (r.val + 8)) := by
  have hk := k.isLt
  rw [show k' = ⟨6144 + k.val, by omega⟩ from Fin.ext h]
  have e : val_main_v74 (F := Ideal) x0 x1 x2 (ix2 r ⟨6144 + k.val, by omega⟩)
      = x1 (ix2 r ⟨k.val, by omega⟩) * val_main_v29 (F := Ideal) x1 x2 (ix2 r k) * x0 (ix2 r k) * val_main_v31_2 (F := Ideal) x1 (ix2 r k)
        + x1 (ix2 r ⟨6144 + k.val, by omega⟩) * (x1 (ix2 r ⟨k.val, by omega⟩) * val_main_v29 (F := Ideal) x1 x2 (ix2 r k) * x0 (ix2 r k))
          * (val_main_v31_2 (F := Ideal) x1 (ix2 r k) * (1 - val_main_v31_2 (F := Ideal) x1 (ix2 r k))) := by
    have e : val_main_v74 (F := Ideal) x0 x1 x2 (ix2 r ⟨6144 + k.val, by omega⟩) = (val_main_v35 (F := Ideal) x0 x1 x2 (ix2 r k) : EReal) := by
      pointwise [val_main_v74, val_main_v73]
      rw [dif_neg (by omega), dif_neg (by omega), dif_neg (by omega)]
      exact congrArg _ ((ix2_inj ..).2 ⟨rfl, Fin.ext (by show 6144 + k.val - 2048 - 2048 - 2048 = _; omega)⟩)
    rw [e]
    pointwise [val_main_v35, val_main_call1_v1, val_main_call1_v2, val_main_call1_v0, val_main_v33, val_main_v30, val_main_v0, val_main_v3, val_main_v31_1, val_main_call0_v7, val_main_call0_v6, val_main_call0_cst_1]
  rw [e, v31_at x1 hx, v29_at, dsilu, cB, cG, col_of _ _ _ r rfl, col_of _ _ _ r rfl, col_of _ _ _ r rfl]
  obtain ⟨g, hg⟩ := hx (ix2 r ⟨6144 + k.val, by omega⟩)
  obtain ⟨b, hb⟩ := hx (ix2 r ⟨k.val, by omega⟩)
  obtain ⟨d, hd⟩ := hd (ix2 r k)
  obtain ⟨s, hs⟩ : ∃ s : ℝ, lgs (g : EReal) = s := ⟨1 / 2 * Real.tanh (1 / 2 * g) + 1 / 2, by
    rw [lgs, half_eq, ← EReal.coe_mul, Ideal.tanh_coe, ← EReal.coe_mul, ← EReal.coe_add]⟩
  obtain ⟨z, hz⟩ : ∃ z : ℝ, fCZ (cC x1 k) (cU x1 k) (x2 (ix2 0 k)) (x2 (ix2 1 k)) (x2 (ix2 2 k)) (r.val + 8) = z := by
    obtain ⟨a0, h0⟩ := hw (ix2 0 k)
    obtain ⟨a1, h1⟩ := hw (ix2 1 k)
    obtain ⟨a2, h2⟩ := hw (ix2 2 k)
    obtain ⟨z0, e0⟩ := fZ_real x1 hx k (r.val + 8)
    obtain ⟨z1, e1⟩ := fZ_real x1 hx k (r.val + 8 - 1)
    obtain ⟨z2, e2⟩ := fZ_real x1 hx k (r.val + 8 - 2)
    exact ⟨a2 * z0 + a1 * z1 + a0 * z2, by rw [fCZ, h0, h1, h2, e0, e1, e2]; push_cast; rfl⟩
  rw [hz, hg, hb, hd, hs]
  have e1 : (1 : EReal) = ((1 : ℝ) : EReal) := rfl
  rw [e1]
  simp only [← EReal.coe_mul, ← EReal.coe_add, ← EReal.coe_sub]
  congr 1
  ring
end Cert.ReferenceIdeal.Value
end
-- ==== Proof.Value.lean ====
module

public import proofs.«01_k».proof.Proof.Body
public import proofs.«01_k».proof.Proof.Reference

/-! The kernel's two results are the reference's. -/

@[expose] public section

set_option maxRecDepth 16384

noncomputable section
open Idealize.ShloMosaic Idealize.ShloMosaic.TcCoe Idealize.SL.Sem
namespace Cert.KernelIdeal.Value
open Cert.KernelIdeal Cert.KernelIdeal.Gen Cert.ShortConv Cert.ReferenceIdeal.Value

/-- The block index of every window at every point. -/
theorem idx : ∀ t : Fin cfg0.N, win0_0.index t = ![t.val, 0] ∧ win0_1.index t = ![min ((t.val + 1) * 16) 511, 0] ∧ win0_2.index t = ![t.val, 0] ∧ win0_3.index t = ![t.val * 16 - 1, 0] ∧ win0_4.index t = ![min ((t.val + 1) * 16) 511, 0] ∧ win0_5.index t = ![0, 0] ∧ win0_6.index t = ![t.val, 0] ∧ win0_7.index t = ![0, 0] ∧ ((grid0.coords t) 0).val = t.val :=
  (by decide +kernel : ∀ t : Fin grid0.N, _)

variable (m : (ℓ : Loc nD τ sig) → Buf (Elt Ideal) ℓ) (c : Dev nD) (t : Fin cfg0.N)

/-- The arrays of the launch. -/
abbrev aD : FVec Ideal S4096x2048 .f32 := m ((c.tc : Thread nD τ).loc main_arg0)
abbrev aP : FVec Ideal S4096x8192 .f32 := m ((c.tc : Thread nD τ).loc main_arg1)
abbrev aW : FVec Ideal S3x2048 .f32 := m ((c.tc : Thread nD τ).loc main_arg2)

/-- One block of 512 columns, at offset `o`, of the projection's tile with its halos. -/
def eP (o : ℕ) (h8 : ∀ a, (![0, o] : Fin 2 → ℕ) a + (⟨2, ![8, 512]⟩ : Shape).size a ≤ (⟨2, ![8, 8192]⟩ : Shape).size a) (h128 : ∀ a, (![0, o] : Fin 2 → ℕ) a + (⟨2, ![128, 512]⟩ : Shape).size a ≤ (⟨2, ![128, 8192]⟩ : Shape).size a) : T :=
  ext (k0_pay2 (F := Ideal) (grid0.coords t)) (cut (n := 8) (w := 8192) (iblk m c 3 t) o h8) (cut (n := 128) (w := 8192) (iblk m c 2 t) o h128) (cut (n := 8) (w := 8192) (iblk m c 4 t) o h8)
/-- One block of 512 columns, at offset `o`, of the incoming gradient's tile with its halos. -/
def eD (o : ℕ) (h8 : ∀ a, (![0, o] : Fin 2 → ℕ) a + (⟨2, ![8, 512]⟩ : Shape).size a ≤ (⟨2, ![8, 2048]⟩ : Shape).size a) (h128 : ∀ a, (![0, o] : Fin 2 → ℕ) a + (⟨2, ![128, 512]⟩ : Shape).size a ≤ (⟨2, ![128, 2048]⟩ : Shape).size a) : T :=
  dext (k0_pay3 (F := Ideal) (grid0.coords t)) (cut (n := 128) (w := 2048) (iblk m c 0 t) o h128) (cut (n := 8) (w := 2048) (iblk m c 1 t) o h8)
/-- One block of 512 weights of one tap. -/
def eW (i o : ℕ) (h : ∀ a, (![i, o] : Fin 2 → ℕ) a + S1x512.size a ≤ S3x2048.size a) : Vec Ideal S1x512 .f32 :=
  fun x => iblk m c 5 t ((Rect.unit (s := S3x2048) ![i, o] S1x512.size h).idx x)

theorem eW_at (n : ℕ) (i : Fin 3) (hi : i.val = n) (o : ℕ) (h) (l : Fin 512) (k : Fin 2048) (hk : k.val = o + l.val) :
    eW m c t n o h (ix2 0 l) = aW m c (ix2 i k) := by
  subst hi
  obtain ⟨-, -, -, -, -, h5, -⟩ := idx t
  have : eW m c t i.val o h (ix2 0 l) = iblk m c 5 t (ix2 i k) := by
    unfold eW
    congr 1
    funext a
    refine a.cases ?_ (fun a => a.cases ?_ (fun a => a.elim0))
    · exact Fin.ext (by simp [Rect.idx_unit_val])
    · exact Fin.ext (by simp [Rect.idx_unit_val, hk])
  rw [this]
  blk_ext [iblk, V, h5]

/-- A comparison's bit as a number. -/
theorem num_zero : (Scalar.sitofp .f32 0#32 : Ideal .f32) = (0 : EReal) := by
  show (((0#32).toInt : ℝ) : EReal) = 0
  simp
theorem num_one : (Scalar.sitofp .f32 1#32 : Ideal .f32) = (1 : EReal) := by
  show (((1#32).toInt : ℝ) : EReal) = 1
  rw [show (1#32).toInt = 1 from by decide]
  simp
theorem kp_eq : k0_pay2 (F := Ideal) (grid0.coords t) = if t.val = 0 then (0 : EReal) else 1 := by
  obtain ⟨-, -, -, -, -, -, -, -, h0⟩ := idx t
  have ht : t.val < 32 := lt_of_lt_of_eq t.isLt N_0
  have e : ∀ n : Fin 32, (Scalar.extui (Scalar.cmpi .sgt (BitVec.ofNat 32 n.val) 0#32) : BitVec 32) = if n.val = 0 then 0#32 else 1#32 := by decide +kernel
  have := e ⟨t.val, ht⟩
  simp only [k0_pay2]
  rw [h0, this]
  split_ifs
  · exact num_zero
  · exact num_one
theorem kn_eq : k0_pay3 (F := Ideal) (grid0.coords t) = if t.val = 31 then (0 : EReal) else 1 := by
  obtain ⟨-, -, -, -, -, -, -, -, h0⟩ := idx t
  have ht : t.val < 32 := lt_of_lt_of_eq t.isLt N_0
  have e : ∀ n : Fin 32, (Scalar.extui (Scalar.cmpi .slt (BitVec.ofNat 32 n.val) 31#32) : BitVec 32) = if n.val = 31 then 0#32 else 1#32 := by decide +kernel
  have := e ⟨t.val, ht⟩
  simp only [k0_pay3]
  rw [h0, this]
  split_ifs
  · exact num_zero
  · exact num_one

theorem eP_at (o : ℕ) (h8 h128) (p : Fin 144) (hp : 128 * t.val + p.val < 4104) (l : Fin 512) (k : Fin 8192) (hk : k.val = o + l.val) :
    tcol (eP m c t o h8 h128) l p.val = col (aP m c) k (128 * t.val + p.val) := by
  obtain ⟨h0, h1, h2, h3, h4, h5, h6, h7, hc⟩ := idx t
  have ht : t.val < 32 := lt_of_lt_of_eq t.isLt N_0
  have b3 : ∀ r : Fin 8, iblk m c 3 t (ix2 r k) = aP m c (ix2 ⟨(t.val * 16 - 1) * 8 + r.val, by omega⟩ k) := fun r => by
    blk_ext [iblk, V, h3]
  have b2 : ∀ r : Fin 128, iblk m c 2 t (ix2 r k) = aP m c (ix2 ⟨t.val * 128 + r.val, by omega⟩ k) := fun r => by
    blk_ext [iblk, V, h2]
  have b4 : ∀ r : Fin 8, iblk m c 4 t (ix2 r k) = aP m c (ix2 ⟨min ((t.val + 1) * 16) 511 * 8 + r.val, by omega⟩ k) := fun r => by
    blk_ext [iblk, V, h4]
  rw [tcol_at, eP, ext_at]
  split_ifs with i1 i2
  · rw [cut_at _ _ _ _ _ k hk, b3, kp_eq]
    split_ifs with z
    · rw [mul_zero, col_out _ _ _ (.inl (by omega))]
    · rw [mul_one]; exact (col_of _ _ _ _ (by show _ = (t.val * 16 - 1) * 8 + p.val + 8; omega)).symm
  · rw [cut_at _ _ _ _ _ k hk, b2]; exact (col_of _ _ _ _ (by show _ = t.val * 128 + (p.val - 8) + 8; omega)).symm
  · rw [cut_at _ _ _ _ _ k hk, b4]; exact (col_of _ _ _ _ (by show _ = min ((t.val + 1) * 16) 511 * 8 + (p.val - 8 - 128) + 8; omega)).symm
theorem eD_at (o : ℕ) (h8 h128) (p : Fin 144) (hp : 8 ≤ p.val) (l : Fin 512) (k : Fin 2048) (hk : k.val = o + l.val) :
    tcol (eD m c t o h8 h128) l p.val = col (aD m c) k (128 * t.val + p.val) := by
  obtain ⟨h0, h1, h2, h3, h4, h5, h6, h7, hc⟩ := idx t
  have ht : t.val < 32 := lt_of_lt_of_eq t.isLt N_0
  have b0 : ∀ r : Fin 128, iblk m c 0 t (ix2 r k) = aD m c (ix2 ⟨t.val * 128 + r.val, by omega⟩ k) := fun r => by
    blk_ext [iblk, V, h0]
  have b1 : ∀ r : Fin 8, iblk m c 1 t (ix2 r k) = aD m c (ix2 ⟨min ((t.val + 1) * 16) 511 * 8 + r.val, by omega⟩ k) := fun r => by
    blk_ext [iblk, V, h1]
  rw [tcol_at, eD, dext_at, dif_neg (by omega)]
  split_ifs with i2
  · rw [cut_at _ _ _ _ _ k hk, b0]; exact (col_of _ _ _ _ (by show _ = t.val * 128 + (p.val - 8) + 8; omega)).symm
  · rw [cut_at _ _ _ _ _ k hk, b1, kn_eq]
    split_ifs with z
    · rw [mul_zero, col_out _ _ _ (.inr (by omega))]
    · rw [mul_one]; exact (col_of _ _ _ _ (by show _ = min ((t.val + 1) * 16) 511 * 8 + (p.val - 8 - 128) + 8; omega)).symm

/-- Column `l` of the five tiles with their halos is column `k` of the arrays. -/
structure Tile (b c' u g d : T) (l : Fin 512) (k : Fin 2048) : Prop where
  hb : ∀ p : ℕ, p < 144 → 128 * t.val + p < 4104 → tcol b l p = cB (aP m c) k (128 * t.val + p)
  hc : ∀ p : ℕ, p < 144 → 128 * t.val + p < 4104 → tcol c' l p = cC (aP m c) k (128 * t.val + p)
  hu : ∀ p : ℕ, p < 144 → 128 * t.val + p < 4104 → tcol u l p = cU (aP m c) k (128 * t.val + p)
  hg : ∀ p : ℕ, p < 144 → 128 * t.val + p < 4104 → tcol g l p = cG (aP m c) k (128 * t.val + p)
  hd : ∀ p : ℕ, p < 144 → 8 ≤ p → tcol d l p = col (aD m c) k (128 * t.val + p)

theorem tile (o : ℕ) (h1 h2 h3 h4 h5 h6 h7 h8 h9 h10) (l : Fin 512) (k : Fin 2048) (hk : k.val = o + l.val) :
    Tile m c t (eP m c t o h1 h2) (eP m c t (2048 + o) h3 h4) (eP m c t (4096 + o) h5 h6) (eP m c t (6144 + o) h7 h8) (eD m c t o h9 h10) l k where
  hb p hp h := eP_at m c t o _ _ ⟨p, hp⟩ h l _ hk
  hc p hp h := eP_at m c t (2048 + o) _ _ ⟨p, hp⟩ h l _ (by show 2048 + k.val = _; omega)
  hu p hp h := eP_at m c t (4096 + o) _ _ ⟨p, hp⟩ h l _ (by show 4096 + k.val = _; omega)
  hg p hp h := eP_at m c t (6144 + o) _ _ ⟨p, hp⟩ h l _ (by show 6144 + k.val = _; omega)
  hd p hp h := eD_at m c t o _ _ ⟨p, hp⟩ h l _ hk

section
variable {m c t} {b c' u g d : T} {l : Fin 512} {k : Fin 2048} (H : Tile m c t b c' u g d l k)
include H
theorem Tile.z (p : ℕ) (hp : p < 144) (h : 128 * t.val + p < 4104) :
    fZ (tcol c' l) (tcol u l) p = fZ (cC (aP m c) k) (cU (aP m c) k) (128 * t.val + p) := by
  rw [fZ, fZ, H.hc p hp h, H.hu p hp h]
theorem Tile.cz (w0 w1 w2 : EReal) (p : ℕ) (h8 : 8 ≤ p) (hp : p < 144) (h : 128 * t.val + p < 4104) :
    fCZ (tcol c' l) (tcol u l) w0 w1 w2 p = fCZ (cC (aP m c) k) (cU (aP m c) k) w0 w1 w2 (128 * t.val + p) := by
  rw [fCZ, fCZ, H.z p hp h, H.z (p - 1) (by omega) (by omega), H.z (p - 2) (by omega) (by omega),
    show 128 * t.val + (p - 1) = 128 * t.val + p - 1 by omega, show 128 * t.val + (p - 2) = 128 * t.val + p - 2 by omega]
theorem Tile.dcz (p : ℕ) (h8 : 8 ≤ p) (hp : p < 144) :
    fDCZ (tcol b l) (tcol d l) (tcol g l) p = fDCZ (cB (aP m c) k) (col (aD m c) k) (cG (aP m c) k) (128 * t.val + p) := by
  refine fDCZ_congr (H.hd p hp h8) ?_
  by_cases h : 128 * t.val + p < 4104
  · exact .inr ⟨H.hb p hp h, H.hg p hp h⟩
  · exact .inl ((H.hd p hp h8).trans (col_out _ _ _ (.inr (by omega))))
theorem Tile.dz (w0 w1 w2 : EReal) (p : ℕ) (h8 : 8 ≤ p) (hp : p < 142) :
    fDZ (tcol b l) (tcol d l) (tcol g l) w0 w1 w2 p = fDZ (cB (aP m c) k) (col (aD m c) k) (cG (aP m c) k) w0 w1 w2 (128 * t.val + p) := by
  rw [fDZ, fDZ, H.dcz p h8 (by omega), H.dcz (p + 1) (by omega) (by omega), H.dcz (p + 2) (by omega) (by omega)]
  rfl
end

/-- The reference's gradient of the projection. -/
abbrev RP : FVec Ideal S4096x8192 .bf16 := Cert.ReferenceIdeal.Read.val_main_v74 (F := Ideal) (aD m c) (aP m c) (aW m c)
/-- The reference's gradient of the weights. -/
abbrev RW : FVec Ideal S3x2048 .f32 := Cert.ReferenceIdeal.Read.val_main_v68 (F := Ideal) (aD m c) (aP m c)

section
variable (hx : Reals (aP m c)) (hd : Reals (aD m c)) (hw : Reals (aW m c)) (o : ℕ) (h1 : ∀ a, (![0, o] : Fin 2 → ℕ) a + (⟨2, ![8, 512]⟩ : Shape).size a ≤ (⟨2, ![8, 8192]⟩ : Shape).size a) (h2 : ∀ a, (![0, o] : Fin 2 → ℕ) a + (⟨2, ![128, 512]⟩ : Shape).size a ≤ (⟨2, ![128, 8192]⟩ : Shape).size a) (h3 : ∀ a, (![0, 2048 + o] : Fin 2 → ℕ) a + (⟨2, ![8, 512]⟩ : Shape).size a ≤ (⟨2, ![8, 8192]⟩ : Shape).size a) (h4 : ∀ a, (![0, 2048 + o] : Fin 2 → ℕ) a + (⟨2, ![128, 512]⟩ : Shape).size a ≤ (⟨2, ![128, 8192]⟩ : Shape).size a) (h5 : ∀ a, (![0, 4096 + o] : Fin 2 → ℕ) a + (⟨2, ![8, 512]⟩ : Shape).size a ≤ (⟨2, ![8, 8192]⟩ : Shape).size a) (h6 : ∀ a, (![0, 4096 + o] : Fin 2 → ℕ) a + (⟨2, ![128, 512]⟩ : Shape).size a ≤ (⟨2, ![128, 8192]⟩ : Shape).size a) (h7 : ∀ a, (![0, 6144 + o] : Fin 2 → ℕ) a + (⟨2, ![8, 512]⟩ : Shape).size a ≤ (⟨2, ![8, 8192]⟩ : Shape).size a) (h8 : ∀ a, (![0, 6144 + o] : Fin 2 → ℕ) a + (⟨2, ![128, 512]⟩ : Shape).size a ≤ (⟨2, ![128, 8192]⟩ : Shape).size a) (h9 : ∀ a, (![0, o] : Fin 2 → ℕ) a + (⟨2, ![8, 512]⟩ : Shape).size a ≤ (⟨2, ![8, 2048]⟩ : Shape).size a) (h10 : ∀ a, (![0, o] : Fin 2 → ℕ) a + (⟨2, ![128, 512]⟩ : Shape).size a ≤ (⟨2, ![128, 2048]⟩ : Shape).size a) (w0 : ∀ a, (![0, o] : Fin 2 → ℕ) a + S1x512.size a ≤ S3x2048.size a) (w1 : ∀ a, (![1, o] : Fin 2 → ℕ) a + S1x512.size a ≤ S3x2048.size a) (w2 : ∀ a, (![2, o] : Fin 2 → ℕ) a + S1x512.size a ≤ S3x2048.size a)
  (r : Fin 128) (l : Fin 512) (k : Fin 2048) (hk : k.val = o + l.val) (q : Fin 4096) (hq : q.val = t.val * 128 + r.val)
include hx hk hq
theorem oB_pt (k' : Fin 8192) (hk' : k'.val = k.val) :
    oB (eP m c t o h1 h2) (eP m c t (2048 + o) h3 h4) (eP m c t (4096 + o) h5 h6) (eP m c t (6144 + o) h7 h8) (eD m c t o h9 h10) (eW m c t 0 o w0) (eW m c t 1 o w1) (eW m c t 2 o w2) (ix2 r l) = RP m c (ix2 q k') := by
  have ht : t.val < 32 := lt_of_lt_of_eq t.isLt N_0
  have H := tile m c t o h1 h2 h3 h4 h5 h6 h7 h8 h9 h10 l k hk
  have e : 128 * t.val + (r.val + 8) = q.val + 8 := by omega
  rw [RP, v74_b _ _ _ hx q k k' hk', oB, out_at]
  show vDY _ _ _ * vCZ _ _ _ _ _ _ = _
  rw [vDY_at, vCZ_at _ _ _ _ _ _ (by show 2 ≤ r.val + 8; omega), H.cz _ _ _ _ (by show 8 ≤ r.val + 8; omega) (by show r.val + 8 < 144; omega) (by show 128 * t.val + (r.val + 8) < 4104; omega),
    fDY, H.hd _ (by show r.val + 8 < 144; omega) (by show 8 ≤ r.val + 8; omega), H.hg _ (by show r.val + 8 < 144; omega) (by show 128 * t.val + (r.val + 8) < 4104; omega),
    eW_at m c t 0 0 rfl o w0 l k hk, eW_at m c t 1 1 rfl o w1 l k hk, eW_at m c t 2 2 rfl o w2 l k hk]
  show _ * _ * fCZ _ _ _ _ _ (128 * t.val + (r.val + 8)) = _
  rw [e]; rfl
theorem oC_pt (k' : Fin 8192) (hk' : k'.val = 2048 + k.val) :
    oC (eP m c t o h1 h2) (eP m c t (2048 + o) h3 h4) (eP m c t (4096 + o) h5 h6) (eP m c t (6144 + o) h7 h8) (eD m c t o h9 h10) (eW m c t 0 o w0) (eW m c t 1 o w1) (eW m c t 2 o w2) (ix2 r l) = RP m c (ix2 q k') := by
  have ht : t.val < 32 := lt_of_lt_of_eq t.isLt N_0
  have H := tile m c t o h1 h2 h3 h4 h5 h6 h7 h8 h9 h10 l k hk
  have e : 128 * t.val + (r.val + 8) = q.val + 8 := by omega
  rw [RP, v74_c _ _ _ hx q k k' hk', oC, out_at]
  show vDZ _ _ _ _ _ _ _ * (eP m c t (4096 + o) h5 h6) _ = _
  rw [vDZ_at _ _ _ _ _ _ _ (by show r.val + 8 < 142; omega), H.dz _ _ _ _ (by show 8 ≤ r.val + 8; omega) (by show r.val + 8 < 142; omega),
    ← tcol_at (eP m c t (4096 + o) h5 h6), H.hu _ (by show r.val + 8 < 144; omega) (by show 128 * t.val + (r.val + 8) < 4104; omega),
    eW_at m c t 0 0 rfl o w0 l k hk, eW_at m c t 1 1 rfl o w1 l k hk, eW_at m c t 2 2 rfl o w2 l k hk]
  show fDZ _ _ _ _ _ _ (128 * t.val + (r.val + 8)) * cU _ _ (128 * t.val + (r.val + 8)) = _
  rw [e]
theorem oU_pt (k' : Fin 8192) (hk' : k'.val = 4096 + k.val) :
    oU (eP m c t o h1 h2) (eP m c t (2048 + o) h3 h4) (eP m c t (4096 + o) h5 h6) (eP m c t (6144 + o) h7 h8) (eD m c t o h9 h10) (eW m c t 0 o w0) (eW m c t 1 o w1) (eW m c t 2 o w2) (ix2 r l) = RP m c (ix2 q k') := by
  have ht : t.val < 32 := lt_of_lt_of_eq t.isLt N_0
  have H := tile m c t o h1 h2 h3 h4 h5 h6 h7 h8 h9 h10 l k hk
  have e : 128 * t.val + (r.val + 8) = q.val + 8 := by omega
  rw [RP, v74_u _ _ _ hx q k k' hk', oU, out_at]
  show vDZ _ _ _ _ _ _ _ * (eP m c t (2048 + o) h3 h4) _ = _
  rw [vDZ_at _ _ _ _ _ _ _ (by show r.val + 8 < 142; omega), H.dz _ _ _ _ (by show 8 ≤ r.val + 8; omega) (by show r.val + 8 < 142; omega),
    ← tcol_at (eP m c t (2048 + o) h3 h4), H.hc _ (by show r.val + 8 < 144; omega) (by show 128 * t.val + (r.val + 8) < 4104; omega),
    eW_at m c t 0 0 rfl o w0 l k hk, eW_at m c t 1 1 rfl o w1 l k hk, eW_at m c t 2 2 rfl o w2 l k hk]
  show fDZ _ _ _ _ _ _ (128 * t.val + (r.val + 8)) * cC _ _ (128 * t.val + (r.val + 8)) = _
  rw [e]
include hd hw
theorem oG_pt (k' : Fin 8192) (hk' : k'.val = 6144 + k.val) :
    oG (eP m c t o h1 h2) (eP m c t (2048 + o) h3 h4) (eP m c t (4096 + o) h5 h6) (eP m c t (6144 + o) h7 h8) (eD m c t o h9 h10) (eW m c t 0 o w0) (eW m c t 1 o w1) (eW m c t 2 o w2) (ix2 r l) = RP m c (ix2 q k') := by
  have ht : t.val < 32 := lt_of_lt_of_eq t.isLt N_0
  have H := tile m c t o h1 h2 h3 h4 h5 h6 h7 h8 h9 h10 l k hk
  have e : 128 * t.val + (r.val + 8) = q.val + 8 := by omega
  rw [RP, v74_g _ _ _ hx hd hw q k k' hk', oG, out_at]
  show eD m c t o h9 h10 _ * (eP m c t o h1 h2 _ * vCZ _ _ _ _ _ _) * vDS _ _ = _
  rw [vDS_at, ← tcol_at (eD m c t o h9 h10), ← tcol_at (eP m c t o h1 h2), vCZ_at _ _ _ _ _ _ (by show 2 ≤ r.val + 8; omega), H.cz _ _ _ _ (by show 8 ≤ r.val + 8; omega) (by show r.val + 8 < 144; omega) (by show 128 * t.val + (r.val + 8) < 4104; omega),
    H.hd _ (by show r.val + 8 < 144; omega) (by show 8 ≤ r.val + 8; omega), H.hg _ (by show r.val + 8 < 144; omega) (by show 128 * t.val + (r.val + 8) < 4104; omega),
    H.hb _ (by show r.val + 8 < 144; omega) (by show 128 * t.val + (r.val + 8) < 4104; omega),
    eW_at m c t 0 0 rfl o w0 l k hk, eW_at m c t 1 1 rfl o w1 l k hk, eW_at m c t 2 2 rfl o w2 l k hk]
  show col _ _ (128 * t.val + (r.val + 8)) * (cB _ _ (128 * t.val + (r.val + 8)) * fCZ _ _ _ _ _ (128 * t.val + (r.val + 8))) * dsilu (cG _ _ (128 * t.val + (r.val + 8))) = _
  rw [e]
end

/-- The place in the array of an element of the block of point `t`. -/
theorem pt6 (y : ((cfg0.win 6).xblock (cfg0.grid.coords t)).Idx) (r : Fin 128) (k : Fin 8192) (h0 : (y 0).val = r.val) (h1 : (y 1).val = k.val) :
    RP m c (ix2 ⟨t.val * 128 + r.val, by have ht : t.val < 32 := lt_of_lt_of_eq t.isLt N_0; omega⟩ k)
      = RP m c (((View.whole main_v0_0).slice (win0_6.rect t)).emb y) := by
  obtain ⟨-, -, -, -, -, -, i6, -⟩ := idx t
  generalize RP m c = X
  blk_ext [i6, h0, h1]

theorem final6 (hx : Reals (aP m c)) (hd : Reals (aD m c)) (hw : Reals (aW m c)) : (dats m 0 c).arrAt 6 cfg0.N = RP m c := by
  refine (dats m 0 c).arrAt_eq_of_covers 6 _ (by decide +kernel) fun t _ y => ?_
  blk_simp; rw [after0_6]
  have ht : t.val < 32 := lt_of_lt_of_eq t.isLt N_0
  by_cases h1 : 1 ≤ t.val
  · rw [outsAt0_B m c t (by omega) h1]; frame_out
    canon_tiles x h
    case piece0 =>
      idx_vars x
      exact (oG_pt m c t hx hd hw 1536 inb_S8x8192_S8x512_0_1536 inb_S128x8192_S128x512_0_1536 inb_S8x8192_S8x512_0_3584 inb_S128x8192_S128x512_0_3584 inb_S8x8192_S8x512_0_5632 inb_S128x8192_S128x512_0_5632 inb_S8x8192_S8x512_0_7680 inb_S128x8192_S128x512_0_7680 inb_S8x2048_S8x512_0_1536 inb_S128x2048_S128x512_0_1536 inb_S3x2048_S1x512_0_1536 inb_S3x2048_S1x512_1_1536 inb_S3x2048_S1x512_2_1536 x0 x1 ⟨1536 + x1.val, by omega⟩ rfl ⟨t.val * 128 + x0.val, by omega⟩ rfl ⟨7680 + x1.val, by omega⟩ (by show 7680 + x1.val = 6144 + (1536 + x1.val); omega)).trans (pt6 m c t y _ _ h0 h1)
    case piece1 =>
      idx_vars x
      exact (oU_pt m c t hx 1536 inb_S8x8192_S8x512_0_1536 inb_S128x8192_S128x512_0_1536 inb_S8x8192_S8x512_0_3584 inb_S128x8192_S128x512_0_3584 inb_S8x8192_S8x512_0_5632 inb_S128x8192_S128x512_0_5632 inb_S8x8192_S8x512_0_7680 inb_S128x8192_S128x512_0_7680 inb_S8x2048_S8x512_0_1536 inb_S128x2048_S128x512_0_1536 inb_S3x2048_S1x512_0_1536 inb_S3x2048_S1x512_1_1536 inb_S3x2048_S1x512_2_1536 x0 x1 ⟨1536 + x1.val, by omega⟩ rfl ⟨t.val * 128 + x0.val, by omega⟩ rfl ⟨5632 + x1.val, by omega⟩ (by show 5632 + x1.val = 4096 + (1536 + x1.val); omega)).trans (pt6 m c t y _ _ h0 h1)
    case piece2 =>
      idx_vars x
      exact (oC_pt m c t hx 1536 inb_S8x8192_S8x512_0_1536 inb_S128x8192_S128x512_0_1536 inb_S8x8192_S8x512_0_3584 inb_S128x8192_S128x512_0_3584 inb_S8x8192_S8x512_0_5632 inb_S128x8192_S128x512_0_5632 inb_S8x8192_S8x512_0_7680 inb_S128x8192_S128x512_0_7680 inb_S8x2048_S8x512_0_1536 inb_S128x2048_S128x512_0_1536 inb_S3x2048_S1x512_0_1536 inb_S3x2048_S1x512_1_1536 inb_S3x2048_S1x512_2_1536 x0 x1 ⟨1536 + x1.val, by omega⟩ rfl ⟨t.val * 128 + x0.val, by omega⟩ rfl ⟨3584 + x1.val, by omega⟩ (by show 3584 + x1.val = 2048 + (1536 + x1.val); omega)).trans (pt6 m c t y _ _ h0 h1)
    case piece3 =>
      idx_vars x
      exact (oB_pt m c t hx 1536 inb_S8x8192_S8x512_0_1536 inb_S128x8192_S128x512_0_1536 inb_S8x8192_S8x512_0_3584 inb_S128x8192_S128x512_0_3584 inb_S8x8192_S8x512_0_5632 inb_S128x8192_S128x512_0_5632 inb_S8x8192_S8x512_0_7680 inb_S128x8192_S128x512_0_7680 inb_S8x2048_S8x512_0_1536 inb_S128x2048_S128x512_0_1536 inb_S3x2048_S1x512_0_1536 inb_S3x2048_S1x512_1_1536 inb_S3x2048_S1x512_2_1536 x0 x1 ⟨1536 + x1.val, by omega⟩ rfl ⟨t.val * 128 + x0.val, by omega⟩ rfl ⟨1536 + x1.val, by omega⟩ (by show 1536 + x1.val = (1536 + x1.val); omega)).trans (pt6 m c t y _ _ h0 h1)
    case piece4 =>
      idx_vars x
      exact (oG_pt m c t hx hd hw 1024 inb_S8x8192_S8x512_0_1024 inb_S128x8192_S128x512_0_1024 inb_S8x8192_S8x512_0_3072 inb_S128x8192_S128x512_0_3072 inb_S8x8192_S8x512_0_5120 inb_S128x8192_S128x512_0_5120 inb_S8x8192_S8x512_0_7168 inb_S128x8192_S128x512_0_7168 inb_S8x2048_S8x512_0_1024 inb_S128x2048_S128x512_0_1024 inb_S3x2048_S1x512_0_1024 inb_S3x2048_S1x512_1_1024 inb_S3x2048_S1x512_2_1024 x0 x1 ⟨1024 + x1.val, by omega⟩ rfl ⟨t.val * 128 + x0.val, by omega⟩ rfl ⟨7168 + x1.val, by omega⟩ (by show 7168 + x1.val = 6144 + (1024 + x1.val); omega)).trans (pt6 m c t y _ _ h0 h1)
    case piece5 =>
      idx_vars x
      exact (oU_pt m c t hx 1024 inb_S8x8192_S8x512_0_1024 inb_S128x8192_S128x512_0_1024 inb_S8x8192_S8x512_0_3072 inb_S128x8192_S128x512_0_3072 inb_S8x8192_S8x512_0_5120 inb_S128x8192_S128x512_0_5120 inb_S8x8192_S8x512_0_7168 inb_S128x8192_S128x512_0_7168 inb_S8x2048_S8x512_0_1024 inb_S128x2048_S128x512_0_1024 inb_S3x2048_S1x512_0_1024 inb_S3x2048_S1x512_1_1024 inb_S3x2048_S1x512_2_1024 x0 x1 ⟨1024 + x1.val, by omega⟩ rfl ⟨t.val * 128 + x0.val, by omega⟩ rfl ⟨5120 + x1.val, by omega⟩ (by show 5120 + x1.val = 4096 + (1024 + x1.val); omega)).trans (pt6 m c t y _ _ h0 h1)
    case piece6 =>
      idx_vars x
      exact (oC_pt m c t hx 1024 inb_S8x8192_S8x512_0_1024 inb_S128x8192_S128x512_0_1024 inb_S8x8192_S8x512_0_3072 inb_S128x8192_S128x512_0_3072 inb_S8x8192_S8x512_0_5120 inb_S128x8192_S128x512_0_5120 inb_S8x8192_S8x512_0_7168 inb_S128x8192_S128x512_0_7168 inb_S8x2048_S8x512_0_1024 inb_S128x2048_S128x512_0_1024 inb_S3x2048_S1x512_0_1024 inb_S3x2048_S1x512_1_1024 inb_S3x2048_S1x512_2_1024 x0 x1 ⟨1024 + x1.val, by omega⟩ rfl ⟨t.val * 128 + x0.val, by omega⟩ rfl ⟨3072 + x1.val, by omega⟩ (by show 3072 + x1.val = 2048 + (1024 + x1.val); omega)).trans (pt6 m c t y _ _ h0 h1)
    case piece7 =>
      idx_vars x
      exact (oB_pt m c t hx 1024 inb_S8x8192_S8x512_0_1024 inb_S128x8192_S128x512_0_1024 inb_S8x8192_S8x512_0_3072 inb_S128x8192_S128x512_0_3072 inb_S8x8192_S8x512_0_5120 inb_S128x8192_S128x512_0_5120 inb_S8x8192_S8x512_0_7168 inb_S128x8192_S128x512_0_7168 inb_S8x2048_S8x512_0_1024 inb_S128x2048_S128x512_0_1024 inb_S3x2048_S1x512_0_1024 inb_S3x2048_S1x512_1_1024 inb_S3x2048_S1x512_2_1024 x0 x1 ⟨1024 + x1.val, by omega⟩ rfl ⟨t.val * 128 + x0.val, by omega⟩ rfl ⟨1024 + x1.val, by omega⟩ (by show 1024 + x1.val = (1024 + x1.val); omega)).trans (pt6 m c t y _ _ h0 h1)
    case piece8 =>
      idx_vars x
      exact (oG_pt m c t hx hd hw 512 inb_S8x8192_S8x512_0_512 inb_S128x8192_S128x512_0_512 inb_S8x8192_S8x512_0_2560 inb_S128x8192_S128x512_0_2560 inb_S8x8192_S8x512_0_4608 inb_S128x8192_S128x512_0_4608 inb_S8x8192_S8x512_0_6656 inb_S128x8192_S128x512_0_6656 inb_S8x2048_S8x512_0_512 inb_S128x2048_S128x512_0_512 inb_S3x2048_S1x512_0_512 inb_S3x2048_S1x512_1_512 inb_S3x2048_S1x512_2_512 x0 x1 ⟨512 + x1.val, by omega⟩ rfl ⟨t.val * 128 + x0.val, by omega⟩ rfl ⟨6656 + x1.val, by omega⟩ (by show 6656 + x1.val = 6144 + (512 + x1.val); omega)).trans (pt6 m c t y _ _ h0 h1)
    case piece9 =>
      idx_vars x
      exact (oU_pt m c t hx 512 inb_S8x8192_S8x512_0_512 inb_S128x8192_S128x512_0_512 inb_S8x8192_S8x512_0_2560 inb_S128x8192_S128x512_0_2560 inb_S8x8192_S8x512_0_4608 inb_S128x8192_S128x512_0_4608 inb_S8x8192_S8x512_0_6656 inb_S128x8192_S128x512_0_6656 inb_S8x2048_S8x512_0_512 inb_S128x2048_S128x512_0_512 inb_S3x2048_S1x512_0_512 inb_S3x2048_S1x512_1_512 inb_S3x2048_S1x512_2_512 x0 x1 ⟨512 + x1.val, by omega⟩ rfl ⟨t.val * 128 + x0.val, by omega⟩ rfl ⟨4608 + x1.val, by omega⟩ (by show 4608 + x1.val = 4096 + (512 + x1.val); omega)).trans (pt6 m c t y _ _ h0 h1)
    case piece10 =>
      idx_vars x
      exact (oC_pt m c t hx 512 inb_S8x8192_S8x512_0_512 inb_S128x8192_S128x512_0_512 inb_S8x8192_S8x512_0_2560 inb_S128x8192_S128x512_0_2560 inb_S8x8192_S8x512_0_4608 inb_S128x8192_S128x512_0_4608 inb_S8x8192_S8x512_0_6656 inb_S128x8192_S128x512_0_6656 inb_S8x2048_S8x512_0_512 inb_S128x2048_S128x512_0_512 inb_S3x2048_S1x512_0_512 inb_S3x2048_S1x512_1_512 inb_S3x2048_S1x512_2_512 x0 x1 ⟨512 + x1.val, by omega⟩ rfl ⟨t.val * 128 + x0.val, by omega⟩ rfl ⟨2560 + x1.val, by omega⟩ (by show 2560 + x1.val = 2048 + (512 + x1.val); omega)).trans (pt6 m c t y _ _ h0 h1)
    case piece11 =>
      idx_vars x
      exact (oB_pt m c t hx 512 inb_S8x8192_S8x512_0_512 inb_S128x8192_S128x512_0_512 inb_S8x8192_S8x512_0_2560 inb_S128x8192_S128x512_0_2560 inb_S8x8192_S8x512_0_4608 inb_S128x8192_S128x512_0_4608 inb_S8x8192_S8x512_0_6656 inb_S128x8192_S128x512_0_6656 inb_S8x2048_S8x512_0_512 inb_S128x2048_S128x512_0_512 inb_S3x2048_S1x512_0_512 inb_S3x2048_S1x512_1_512 inb_S3x2048_S1x512_2_512 x0 x1 ⟨512 + x1.val, by omega⟩ rfl ⟨t.val * 128 + x0.val, by omega⟩ rfl ⟨512 + x1.val, by omega⟩ (by show 512 + x1.val = (512 + x1.val); omega)).trans (pt6 m c t y _ _ h0 h1)
    case piece12 =>
      idx_vars x
      exact (oG_pt m c t hx hd hw 0 inb_S8x8192_S8x512_0_0 inb_S128x8192_S128x512_0_0 inb_S8x8192_S8x512_0_2048 inb_S128x8192_S128x512_0_2048 inb_S8x8192_S8x512_0_4096 inb_S128x8192_S128x512_0_4096 inb_S8x8192_S8x512_0_6144 inb_S128x8192_S128x512_0_6144 inb_S8x2048_S8x512_0_0 inb_S128x2048_S128x512_0_0 inb_S3x2048_S1x512_0_0 inb_S3x2048_S1x512_1_0 inb_S3x2048_S1x512_2_0 x0 x1 ⟨0 + x1.val, by omega⟩ rfl ⟨t.val * 128 + x0.val, by omega⟩ rfl ⟨6144 + x1.val, by omega⟩ (by show 6144 + x1.val = 6144 + (0 + x1.val); omega)).trans (pt6 m c t y _ _ h0 h1)
    case piece13 =>
      idx_vars x
      exact (oU_pt m c t hx 0 inb_S8x8192_S8x512_0_0 inb_S128x8192_S128x512_0_0 inb_S8x8192_S8x512_0_2048 inb_S128x8192_S128x512_0_2048 inb_S8x8192_S8x512_0_4096 inb_S128x8192_S128x512_0_4096 inb_S8x8192_S8x512_0_6144 inb_S128x8192_S128x512_0_6144 inb_S8x2048_S8x512_0_0 inb_S128x2048_S128x512_0_0 inb_S3x2048_S1x512_0_0 inb_S3x2048_S1x512_1_0 inb_S3x2048_S1x512_2_0 x0 x1 ⟨0 + x1.val, by omega⟩ rfl ⟨t.val * 128 + x0.val, by omega⟩ rfl ⟨4096 + x1.val, by omega⟩ (by show 4096 + x1.val = 4096 + (0 + x1.val); omega)).trans (pt6 m c t y _ _ h0 h1)
    case piece14 =>
      idx_vars x
      exact (oC_pt m c t hx 0 inb_S8x8192_S8x512_0_0 inb_S128x8192_S128x512_0_0 inb_S8x8192_S8x512_0_2048 inb_S128x8192_S128x512_0_2048 inb_S8x8192_S8x512_0_4096 inb_S128x8192_S128x512_0_4096 inb_S8x8192_S8x512_0_6144 inb_S128x8192_S128x512_0_6144 inb_S8x2048_S8x512_0_0 inb_S128x2048_S128x512_0_0 inb_S3x2048_S1x512_0_0 inb_S3x2048_S1x512_1_0 inb_S3x2048_S1x512_2_0 x0 x1 ⟨0 + x1.val, by omega⟩ rfl ⟨t.val * 128 + x0.val, by omega⟩ rfl ⟨2048 + x1.val, by omega⟩ (by show 2048 + x1.val = 2048 + (0 + x1.val); omega)).trans (pt6 m c t y _ _ h0 h1)
    case piece15 =>
      idx_vars x
      exact (oB_pt m c t hx 0 inb_S8x8192_S8x512_0_0 inb_S128x8192_S128x512_0_0 inb_S8x8192_S8x512_0_2048 inb_S128x8192_S128x512_0_2048 inb_S8x8192_S8x512_0_4096 inb_S128x8192_S128x512_0_4096 inb_S8x8192_S8x512_0_6144 inb_S128x8192_S128x512_0_6144 inb_S8x2048_S8x512_0_0 inb_S128x2048_S128x512_0_0 inb_S3x2048_S1x512_0_0 inb_S3x2048_S1x512_1_0 inb_S3x2048_S1x512_2_0 x0 x1 ⟨0 + x1.val, by omega⟩ rfl ⟨t.val * 128 + x0.val, by omega⟩ rfl ⟨0 + x1.val, by omega⟩ (by show 0 + x1.val = (0 + x1.val); omega)).trans (pt6 m c t y _ _ h0 (h1.trans (Nat.zero_add _).symm))
  · rw [outsAt0_A m c t (by omega) h1]; frame_out
    canon_tiles x h
    case piece0 =>
      idx_vars x
      exact (oG_pt m c t hx hd hw 1536 inb_S8x8192_S8x512_0_1536 inb_S128x8192_S128x512_0_1536 inb_S8x8192_S8x512_0_3584 inb_S128x8192_S128x512_0_3584 inb_S8x8192_S8x512_0_5632 inb_S128x8192_S128x512_0_5632 inb_S8x8192_S8x512_0_7680 inb_S128x8192_S128x512_0_7680 inb_S8x2048_S8x512_0_1536 inb_S128x2048_S128x512_0_1536 inb_S3x2048_S1x512_0_1536 inb_S3x2048_S1x512_1_1536 inb_S3x2048_S1x512_2_1536 x0 x1 ⟨1536 + x1.val, by omega⟩ rfl ⟨t.val * 128 + x0.val, by omega⟩ rfl ⟨7680 + x1.val, by omega⟩ (by show 7680 + x1.val = 6144 + (1536 + x1.val); omega)).trans (pt6 m c t y _ _ h0 h1)
    case piece1 =>
      idx_vars x
      exact (oU_pt m c t hx 1536 inb_S8x8192_S8x512_0_1536 inb_S128x8192_S128x512_0_1536 inb_S8x8192_S8x512_0_3584 inb_S128x8192_S128x512_0_3584 inb_S8x8192_S8x512_0_5632 inb_S128x8192_S128x512_0_5632 inb_S8x8192_S8x512_0_7680 inb_S128x8192_S128x512_0_7680 inb_S8x2048_S8x512_0_1536 inb_S128x2048_S128x512_0_1536 inb_S3x2048_S1x512_0_1536 inb_S3x2048_S1x512_1_1536 inb_S3x2048_S1x512_2_1536 x0 x1 ⟨1536 + x1.val, by omega⟩ rfl ⟨t.val * 128 + x0.val, by omega⟩ rfl ⟨5632 + x1.val, by omega⟩ (by show 5632 + x1.val = 4096 + (1536 + x1.val); omega)).trans (pt6 m c t y _ _ h0 h1)
    case piece2 =>
      idx_vars x
      exact (oC_pt m c t hx 1536 inb_S8x8192_S8x512_0_1536 inb_S128x8192_S128x512_0_1536 inb_S8x8192_S8x512_0_3584 inb_S128x8192_S128x512_0_3584 inb_S8x8192_S8x512_0_5632 inb_S128x8192_S128x512_0_5632 inb_S8x8192_S8x512_0_7680 inb_S128x8192_S128x512_0_7680 inb_S8x2048_S8x512_0_1536 inb_S128x2048_S128x512_0_1536 inb_S3x2048_S1x512_0_1536 inb_S3x2048_S1x512_1_1536 inb_S3x2048_S1x512_2_1536 x0 x1 ⟨1536 + x1.val, by omega⟩ rfl ⟨t.val * 128 + x0.val, by omega⟩ rfl ⟨3584 + x1.val, by omega⟩ (by show 3584 + x1.val = 2048 + (1536 + x1.val); omega)).trans (pt6 m c t y _ _ h0 h1)
    case piece3 =>
      idx_vars x
      exact (oB_pt m c t hx 1536 inb_S8x8192_S8x512_0_1536 inb_S128x8192_S128x512_0_1536 inb_S8x8192_S8x512_0_3584 inb_S128x8192_S128x512_0_3584 inb_S8x8192_S8x512_0_5632 inb_S128x8192_S128x512_0_5632 inb_S8x8192_S8x512_0_7680 inb_S128x8192_S128x512_0_7680 inb_S8x2048_S8x512_0_1536 inb_S128x2048_S128x512_0_1536 inb_S3x2048_S1x512_0_1536 inb_S3x2048_S1x512_1_1536 inb_S3x2048_S1x512_2_1536 x0 x1 ⟨1536 + x1.val, by omega⟩ rfl ⟨t.val * 128 + x0.val, by omega⟩ rfl ⟨1536 + x1.val, by omega⟩ (by show 1536 + x1.val = (1536 + x1.val); omega)).trans (pt6 m c t y _ _ h0 h1)
    case piece4 =>
      idx_vars x
      exact (oG_pt m c t hx hd hw 1024 inb_S8x8192_S8x512_0_1024 inb_S128x8192_S128x512_0_1024 inb_S8x8192_S8x512_0_3072 inb_S128x8192_S128x512_0_3072 inb_S8x8192_S8x512_0_5120 inb_S128x8192_S128x512_0_5120 inb_S8x8192_S8x512_0_7168 inb_S128x8192_S128x512_0_7168 inb_S8x2048_S8x512_0_1024 inb_S128x2048_S128x512_0_1024 inb_S3x2048_S1x512_0_1024 inb_S3x2048_S1x512_1_1024 inb_S3x2048_S1x512_2_1024 x0 x1 ⟨1024 + x1.val, by omega⟩ rfl ⟨t.val * 128 + x0.val, by omega⟩ rfl ⟨7168 + x1.val, by omega⟩ (by show 7168 + x1.val = 6144 + (1024 + x1.val); omega)).trans (pt6 m c t y _ _ h0 h1)
    case piece5 =>
      idx_vars x
      exact (oU_pt m c t hx 1024 inb_S8x8192_S8x512_0_1024 inb_S128x8192_S128x512_0_1024 inb_S8x8192_S8x512_0_3072 inb_S128x8192_S128x512_0_3072 inb_S8x8192_S8x512_0_5120 inb_S128x8192_S128x512_0_5120 inb_S8x8192_S8x512_0_7168 inb_S128x8192_S128x512_0_7168 inb_S8x2048_S8x512_0_1024 inb_S128x2048_S128x512_0_1024 inb_S3x2048_S1x512_0_1024 inb_S3x2048_S1x512_1_1024 inb_S3x2048_S1x512_2_1024 x0 x1 ⟨1024 + x1.val, by omega⟩ rfl ⟨t.val * 128 + x0.val, by omega⟩ rfl ⟨5120 + x1.val, by omega⟩ (by show 5120 + x1.val = 4096 + (1024 + x1.val); omega)).trans (pt6 m c t y _ _ h0 h1)
    case piece6 =>
      idx_vars x
      exact (oC_pt m c t hx 1024 inb_S8x8192_S8x512_0_1024 inb_S128x8192_S128x512_0_1024 inb_S8x8192_S8x512_0_3072 inb_S128x8192_S128x512_0_3072 inb_S8x8192_S8x512_0_5120 inb_S128x8192_S128x512_0_5120 inb_S8x8192_S8x512_0_7168 inb_S128x8192_S128x512_0_7168 inb_S8x2048_S8x512_0_1024 inb_S128x2048_S128x512_0_1024 inb_S3x2048_S1x512_0_1024 inb_S3x2048_S1x512_1_1024 inb_S3x2048_S1x512_2_1024 x0 x1 ⟨1024 + x1.val, by omega⟩ rfl ⟨t.val * 128 + x0.val, by omega⟩ rfl ⟨3072 + x1.val, by omega⟩ (by show 3072 + x1.val = 2048 + (1024 + x1.val); omega)).trans (pt6 m c t y _ _ h0 h1)
    case piece7 =>
      idx_vars x
      exact (oB_pt m c t hx 1024 inb_S8x8192_S8x512_0_1024 inb_S128x8192_S128x512_0_1024 inb_S8x8192_S8x512_0_3072 inb_S128x8192_S128x512_0_3072 inb_S8x8192_S8x512_0_5120 inb_S128x8192_S128x512_0_5120 inb_S8x8192_S8x512_0_7168 inb_S128x8192_S128x512_0_7168 inb_S8x2048_S8x512_0_1024 inb_S128x2048_S128x512_0_1024 inb_S3x2048_S1x512_0_1024 inb_S3x2048_S1x512_1_1024 inb_S3x2048_S1x512_2_1024 x0 x1 ⟨1024 + x1.val, by omega⟩ rfl ⟨t.val * 128 + x0.val, by omega⟩ rfl ⟨1024 + x1.val, by omega⟩ (by show 1024 + x1.val = (1024 + x1.val); omega)).trans (pt6 m c t y _ _ h0 h1)
    case piece8 =>
      idx_vars x
      exact (oG_pt m c t hx hd hw 512 inb_S8x8192_S8x512_0_512 inb_S128x8192_S128x512_0_512 inb_S8x8192_S8x512_0_2560 inb_S128x8192_S128x512_0_2560 inb_S8x8192_S8x512_0_4608 inb_S128x8192_S128x512_0_4608 inb_S8x8192_S8x512_0_6656 inb_S128x8192_S128x512_0_6656 inb_S8x2048_S8x512_0_512 inb_S128x2048_S128x512_0_512 inb_S3x2048_S1x512_0_512 inb_S3x2048_S1x512_1_512 inb_S3x2048_S1x512_2_512 x0 x1 ⟨512 + x1.val, by omega⟩ rfl ⟨t.val * 128 + x0.val, by omega⟩ rfl ⟨6656 + x1.val, by omega⟩ (by show 6656 + x1.val = 6144 + (512 + x1.val); omega)).trans (pt6 m c t y _ _ h0 h1)
    case piece9 =>
      idx_vars x
      exact (oU_pt m c t hx 512 inb_S8x8192_S8x512_0_512 inb_S128x8192_S128x512_0_512 inb_S8x8192_S8x512_0_2560 inb_S128x8192_S128x512_0_2560 inb_S8x8192_S8x512_0_4608 inb_S128x8192_S128x512_0_4608 inb_S8x8192_S8x512_0_6656 inb_S128x8192_S128x512_0_6656 inb_S8x2048_S8x512_0_512 inb_S128x2048_S128x512_0_512 inb_S3x2048_S1x512_0_512 inb_S3x2048_S1x512_1_512 inb_S3x2048_S1x512_2_512 x0 x1 ⟨512 + x1.val, by omega⟩ rfl ⟨t.val * 128 + x0.val, by omega⟩ rfl ⟨4608 + x1.val, by omega⟩ (by show 4608 + x1.val = 4096 + (512 + x1.val); omega)).trans (pt6 m c t y _ _ h0 h1)
    case piece10 =>
      idx_vars x
      exact (oC_pt m c t hx 512 inb_S8x8192_S8x512_0_512 inb_S128x8192_S128x512_0_512 inb_S8x8192_S8x512_0_2560 inb_S128x8192_S128x512_0_2560 inb_S8x8192_S8x512_0_4608 inb_S128x8192_S128x512_0_4608 inb_S8x8192_S8x512_0_6656 inb_S128x8192_S128x512_0_6656 inb_S8x2048_S8x512_0_512 inb_S128x2048_S128x512_0_512 inb_S3x2048_S1x512_0_512 inb_S3x2048_S1x512_1_512 inb_S3x2048_S1x512_2_512 x0 x1 ⟨512 + x1.val, by omega⟩ rfl ⟨t.val * 128 + x0.val, by omega⟩ rfl ⟨2560 + x1.val, by omega⟩ (by show 2560 + x1.val = 2048 + (512 + x1.val); omega)).trans (pt6 m c t y _ _ h0 h1)
    case piece11 =>
      idx_vars x
      exact (oB_pt m c t hx 512 inb_S8x8192_S8x512_0_512 inb_S128x8192_S128x512_0_512 inb_S8x8192_S8x512_0_2560 inb_S128x8192_S128x512_0_2560 inb_S8x8192_S8x512_0_4608 inb_S128x8192_S128x512_0_4608 inb_S8x8192_S8x512_0_6656 inb_S128x8192_S128x512_0_6656 inb_S8x2048_S8x512_0_512 inb_S128x2048_S128x512_0_512 inb_S3x2048_S1x512_0_512 inb_S3x2048_S1x512_1_512 inb_S3x2048_S1x512_2_512 x0 x1 ⟨512 + x1.val, by omega⟩ rfl ⟨t.val * 128 + x0.val, by omega⟩ rfl ⟨512 + x1.val, by omega⟩ (by show 512 + x1.val = (512 + x1.val); omega)).trans (pt6 m c t y _ _ h0 h1)
    case piece12 =>
      idx_vars x
      exact (oG_pt m c t hx hd hw 0 inb_S8x8192_S8x512_0_0 inb_S128x8192_S128x512_0_0 inb_S8x8192_S8x512_0_2048 inb_S128x8192_S128x512_0_2048 inb_S8x8192_S8x512_0_4096 inb_S128x8192_S128x512_0_4096 inb_S8x8192_S8x512_0_6144 inb_S128x8192_S128x512_0_6144 inb_S8x2048_S8x512_0_0 inb_S128x2048_S128x512_0_0 inb_S3x2048_S1x512_0_0 inb_S3x2048_S1x512_1_0 inb_S3x2048_S1x512_2_0 x0 x1 ⟨0 + x1.val, by omega⟩ rfl ⟨t.val * 128 + x0.val, by omega⟩ rfl ⟨6144 + x1.val, by omega⟩ (by show 6144 + x1.val = 6144 + (0 + x1.val); omega)).trans (pt6 m c t y _ _ h0 h1)
    case piece13 =>
      idx_vars x
      exact (oU_pt m c t hx 0 inb_S8x8192_S8x512_0_0 inb_S128x8192_S128x512_0_0 inb_S8x8192_S8x512_0_2048 inb_S128x8192_S128x512_0_2048 inb_S8x8192_S8x512_0_4096 inb_S128x8192_S128x512_0_4096 inb_S8x8192_S8x512_0_6144 inb_S128x8192_S128x512_0_6144 inb_S8x2048_S8x512_0_0 inb_S128x2048_S128x512_0_0 inb_S3x2048_S1x512_0_0 inb_S3x2048_S1x512_1_0 inb_S3x2048_S1x512_2_0 x0 x1 ⟨0 + x1.val, by omega⟩ rfl ⟨t.val * 128 + x0.val, by omega⟩ rfl ⟨4096 + x1.val, by omega⟩ (by show 4096 + x1.val = 4096 + (0 + x1.val); omega)).trans (pt6 m c t y _ _ h0 h1)
    case piece14 =>
      idx_vars x
      exact (oC_pt m c t hx 0 inb_S8x8192_S8x512_0_0 inb_S128x8192_S128x512_0_0 inb_S8x8192_S8x512_0_2048 inb_S128x8192_S128x512_0_2048 inb_S8x8192_S8x512_0_4096 inb_S128x8192_S128x512_0_4096 inb_S8x8192_S8x512_0_6144 inb_S128x8192_S128x512_0_6144 inb_S8x2048_S8x512_0_0 inb_S128x2048_S128x512_0_0 inb_S3x2048_S1x512_0_0 inb_S3x2048_S1x512_1_0 inb_S3x2048_S1x512_2_0 x0 x1 ⟨0 + x1.val, by omega⟩ rfl ⟨t.val * 128 + x0.val, by omega⟩ rfl ⟨2048 + x1.val, by omega⟩ (by show 2048 + x1.val = 2048 + (0 + x1.val); omega)).trans (pt6 m c t y _ _ h0 h1)
    case piece15 =>
      idx_vars x
      exact (oB_pt m c t hx 0 inb_S8x8192_S8x512_0_0 inb_S128x8192_S128x512_0_0 inb_S8x8192_S8x512_0_2048 inb_S128x8192_S128x512_0_2048 inb_S8x8192_S8x512_0_4096 inb_S128x8192_S128x512_0_4096 inb_S8x8192_S8x512_0_6144 inb_S128x8192_S128x512_0_6144 inb_S8x2048_S8x512_0_0 inb_S128x2048_S128x512_0_0 inb_S3x2048_S1x512_0_0 inb_S3x2048_S1x512_1_0 inb_S3x2048_S1x512_2_0 x0 x1 ⟨0 + x1.val, by omega⟩ rfl ⟨t.val * 128 + x0.val, by omega⟩ rfl ⟨0 + x1.val, by omega⟩ (by show 0 + x1.val = (0 + x1.val); omega)).trans (pt6 m c t y _ _ h0 (h1.trans (Nat.zero_add _).symm))

/-- One tile's part of the weights' gradient. -/
def tp (n : ℕ) (j : Fin 3) (k : Fin 2048) : EReal := ∑ r : Fin 128,
  fDCZ (cB (aP m c) k) (col (aD m c) k) (cG (aP m c) k) (n * 128 + r.val + 8) * fZ (cC (aP m c) k) (cU (aP m c) k) (n * 128 + r.val + 6 + j.val)

/-- Four blocks of 512 columns side by side. -/
def join (a0 a1 a2 a3 : FVec Ideal S3x512 .f32) : FVec Ideal S3x2048 .f32 :=
  concatenate S3x2048 1 [⟨S3x512, a0⟩, ⟨S3x512, a1⟩, ⟨S3x512, a2⟩, ⟨S3x512, a3⟩] concatenates_S3x512_S3x512_S3x512_S3x512_S3x2048_d1

theorem join_at (a0 a1 a2 a3 : FVec Ideal S3x512 .f32) (j : Fin 3) (k : Fin 2048) :
    join a0 a1 a2 a3 (ix2 j k) = if h : k.val < 512 then a0 (ix2 j ⟨k.val, h⟩)
      else if h : k.val - 512 < 512 then a1 (ix2 j ⟨k.val - 512, h⟩)
      else if h : k.val - 512 - 512 < 512 then a2 (ix2 j ⟨k.val - 512 - 512, h⟩)
      else a3 (ix2 j ⟨k.val - 512 - 512 - 512, by omega⟩) := by
  pointwise [join]

theorem oW_pt (o : ℕ) (h1 h2 h3 h4 h5 h6 h7 h8 h9 h10) (j : Fin 3) (l : Fin 512) (k : Fin 2048) (hk : k.val = o + l.val) :
    oW (eP m c t o h1 h2) (eP m c t (2048 + o) h3 h4) (eP m c t (4096 + o) h5 h6) (eP m c t (6144 + o) h7 h8) (eD m c t o h9 h10) (ix2 j l)
      = tp m c t.val j k := by
  have ht : t.val < 32 := lt_of_lt_of_eq t.isLt N_0
  have H := tile m c t o h1 h2 h3 h4 h5 h6 h7 h8 h9 h10 l k hk
  rw [oW_at, tp]
  refine Finset.sum_congr rfl fun r _ => ?_
  rw [H.dcz _ (by omega) (by omega), H.z _ (by omega) (by omega), show 128 * t.val + (r.val + 8) = t.val * 128 + r.val + 8 by omega,
    show 128 * t.val + (r.val + 6 + j.val) = t.val * 128 + r.val + 6 + j.val by omega]

/-- The tile's part of the weights' gradient, as the kernel puts it together. -/
def part : FVec Ideal S3x2048 .f32 := join
  (oW (eP m c t 0 inb_S8x8192_S8x512_0_0 inb_S128x8192_S128x512_0_0) (eP m c t 2048 inb_S8x8192_S8x512_0_2048 inb_S128x8192_S128x512_0_2048) (eP m c t 4096 inb_S8x8192_S8x512_0_4096 inb_S128x8192_S128x512_0_4096) (eP m c t 6144 inb_S8x8192_S8x512_0_6144 inb_S128x8192_S128x512_0_6144) (eD m c t 0 inb_S8x2048_S8x512_0_0 inb_S128x2048_S128x512_0_0))
  (oW (eP m c t 512 inb_S8x8192_S8x512_0_512 inb_S128x8192_S128x512_0_512) (eP m c t 2560 inb_S8x8192_S8x512_0_2560 inb_S128x8192_S128x512_0_2560) (eP m c t 4608 inb_S8x8192_S8x512_0_4608 inb_S128x8192_S128x512_0_4608) (eP m c t 6656 inb_S8x8192_S8x512_0_6656 inb_S128x8192_S128x512_0_6656) (eD m c t 512 inb_S8x2048_S8x512_0_512 inb_S128x2048_S128x512_0_512))
  (oW (eP m c t 1024 inb_S8x8192_S8x512_0_1024 inb_S128x8192_S128x512_0_1024) (eP m c t 3072 inb_S8x8192_S8x512_0_3072 inb_S128x8192_S128x512_0_3072) (eP m c t 5120 inb_S8x8192_S8x512_0_5120 inb_S128x8192_S128x512_0_5120) (eP m c t 7168 inb_S8x8192_S8x512_0_7168 inb_S128x8192_S128x512_0_7168) (eD m c t 1024 inb_S8x2048_S8x512_0_1024 inb_S128x2048_S128x512_0_1024))
  (oW (eP m c t 1536 inb_S8x8192_S8x512_0_1536 inb_S128x8192_S128x512_0_1536) (eP m c t 3584 inb_S8x8192_S8x512_0_3584 inb_S128x8192_S128x512_0_3584) (eP m c t 5632 inb_S8x8192_S8x512_0_5632 inb_S128x8192_S128x512_0_5632) (eP m c t 7680 inb_S8x8192_S8x512_0_7680 inb_S128x8192_S128x512_0_7680) (eD m c t 1536 inb_S8x2048_S8x512_0_1536 inb_S128x2048_S128x512_0_1536))

theorem part_at (j : Fin 3) (k : Fin 2048) : part m c t (ix2 j k) = tp m c t.val j k := by
  rw [part, join_at]
  split_ifs
  · exact oW_pt m c t 0 inb_S8x8192_S8x512_0_0 inb_S128x8192_S128x512_0_0 inb_S8x8192_S8x512_0_2048 inb_S128x8192_S128x512_0_2048 inb_S8x8192_S8x512_0_4096 inb_S128x8192_S128x512_0_4096 inb_S8x8192_S8x512_0_6144 inb_S128x8192_S128x512_0_6144 inb_S8x2048_S8x512_0_0 inb_S128x2048_S128x512_0_0 j _ k (by show k.val = 0 + (k.val); omega)
  · exact oW_pt m c t 512 inb_S8x8192_S8x512_0_512 inb_S128x8192_S128x512_0_512 inb_S8x8192_S8x512_0_2560 inb_S128x8192_S128x512_0_2560 inb_S8x8192_S8x512_0_4608 inb_S128x8192_S128x512_0_4608 inb_S8x8192_S8x512_0_6656 inb_S128x8192_S128x512_0_6656 inb_S8x2048_S8x512_0_512 inb_S128x2048_S128x512_0_512 j _ k (by show k.val = 512 + (k.val - 512); omega)
  · exact oW_pt m c t 1024 inb_S8x8192_S8x512_0_1024 inb_S128x8192_S128x512_0_1024 inb_S8x8192_S8x512_0_3072 inb_S128x8192_S128x512_0_3072 inb_S8x8192_S8x512_0_5120 inb_S128x8192_S128x512_0_5120 inb_S8x8192_S8x512_0_7168 inb_S128x8192_S128x512_0_7168 inb_S8x2048_S8x512_0_1024 inb_S128x2048_S128x512_0_1024 j _ k (by show k.val = 1024 + (k.val - 512 - 512); omega)
  · exact oW_pt m c t 1536 inb_S8x8192_S8x512_0_1536 inb_S128x8192_S128x512_0_1536 inb_S8x8192_S8x512_0_3584 inb_S128x8192_S128x512_0_3584 inb_S8x8192_S8x512_0_5632 inb_S128x8192_S128x512_0_5632 inb_S8x8192_S8x512_0_7680 inb_S128x8192_S128x512_0_7680 inb_S8x2048_S8x512_0_1536 inb_S128x2048_S128x512_0_1536 j _ k (by show k.val = 1536 + (k.val - 512 - 512 - 512); omega)

theorem acc (n : ℕ) : ∀ t : Fin cfg0.N, t.val = n → ∀ (j : Fin 3) (k : Fin 2048),
    (outsAt0 m c t.val t.isLt).2 (ix2 j k) = ∑ s : Fin (n + 1), tp m c s.val j k := by
  induction n with
  | zero =>
    intro t h j k
    rw [outsAt0_A m c t (by omega) (by omega)]
    frame_out
    rw [Fin.sum_univ_one]
    exact (part_at m c t j k).trans (by rw [h]; rfl)
  | succ n ih =>
    intro t h j k
    have ht : t.val < 32 := lt_of_lt_of_eq t.isLt N_0
    rw [outsAt0_B m c t (by omega) (by omega)]
    frame_out
    rw [Fin.sum_univ_castSucc]
    have e : (outsAt0 m c (t.val - 1) (Nat.lt_of_le_of_lt (Nat.sub_le _ _) t.isLt)).2 (ix2 j k) = _ :=
      ih ⟨t.val - 1, Nat.lt_of_le_of_lt (Nat.sub_le _ _) t.isLt⟩ (by show t.val - 1 = n; omega) j k
    have step : ∀ (a b : FVec Ideal S3x2048 .f32), k0_pay1 a b (ix2 j k) = b (ix2 j k) + a (ix2 j k) := fun a b => by
      pointwise [k0_pay1]
    refine (step (part m c t) _).trans ?_
    rw [e, part_at, h]
    rfl

theorem final7 (hx : Reals (aP m c)) : (dats m 0 c).arrAt 7 cfg0.N = RW m c := by
  refine (dats m 0 c).arrAt_eq_of_covers 7 _ (by decide +kernel) fun t hf y => ?_
  blk_simp; rw [after0_7]
  have ht : t.val < 32 := lt_of_lt_of_eq t.isLt N_0
  have h31 : t.val = 31 := by have := (flush0_7 t).mp hf; omega
  obtain ⟨-, -, -, -, -, -, -, i7, -⟩ := idx t
  have e : RW m c (((View.whole main_v0_1).slice (win0_7.rect t)).emb y) = RW m c y := by
    generalize RW m c = X
    blk_ext [i7]
  refine Eq.trans ?_ e.symm
  idx_vars y
  refine (acc m c 31 t h31 y0 y1).trans ?_
  rw [RW, v68_at _ _ hx]
  unfold tp
  refine Fin.sum_mul_add_congr fun s r hl => ?_
  rfl

end Cert.KernelIdeal.Value
end
-- ==== Proof.Product22.lean ====
module

public import proofs.«01_k».proof.Proof.Gen.Kernel22Ideal.Value
public import proofs.«01_k».proof.Proof.Gen.Reference22Ideal.Read
public import proofs.«01_k».proof.Proof.Value

/-! The gated short convolution. A tile of rows is computed with the eight rows before it; before the first tile these
are multiplied by zero. -/

@[expose] public section

set_option maxRecDepth 16384

noncomputable section
open Idealize.ShloMosaic Idealize.ShloMosaic.TcCoe Idealize.SL.Sem
namespace Cert.Kernel22Ideal.Value
open Cert.Kernel22Ideal Cert.Kernel22Ideal.Gen Cert.ShortConv
open Cert.KernelIdeal.Value (cut cut_at num_zero num_one)
open Cert.ReferenceIdeal.Value (cB cC cU cG half_eq lgs_eq)

/-- The logistic function by the exponential, at the infinities too. -/
theorem lgs_exp (x : EReal) : lgs x = Ideal.div 1 (1 + Ideal.exp (-x)) := by
  induction x with
  | coe x => exact lgs_eq x
  | top =>
    have e : (1 : EReal) = ((1 : ℝ) : EReal) := rfl
    rw [EReal.neg_top, Ideal.exp_bot, add_zero, e, Ideal.div_coe one_ne_zero, lgs, half_eq, EReal.coe_mul_top_of_pos (by norm_num),
      Ideal.tanh_top, e, ← EReal.coe_mul, ← EReal.coe_add, ← EReal.coe_mul]
    congr 1; norm_num
  | bot =>
    have e : (1 : EReal) = ((1 : ℝ) : EReal) := rfl
    rw [EReal.neg_bot, Ideal.exp_top, EReal.add_top_of_ne_bot (by rw [e]; exact EReal.coe_ne_bot _), lgs, half_eq, EReal.coe_mul_bot_of_pos (by norm_num),
      Ideal.tanh_bot, e, ← EReal.coe_neg, ← EReal.coe_mul, ← EReal.coe_add]
    simp [Ideal.div]

/-- The convolution's operand on a tile with the eight rows before it. -/
def zx (kp : EReal) (a1 a2 : Vec Ideal S8x512 .f32) (x1 x2 : Vec Ideal S128x512 .f32) : FVec Ideal S136x512 .f32 :=
  concatenate S136x512 0 [⟨S8x512, mulf (mulf a1 a2) (broadcast S8x512 (kp : Ideal .f32))⟩, ⟨S128x512, mulf x1 x2⟩] concatenates_S8x512_S128x512_S136x512_d0
/-- The convolution on a tile. -/
def cv (z : FVec Ideal S136x512 .f32) (w2 w1 w0 : Vec Ideal S1x512 .f32) : FVec Ideal S136x512 .f32 :=
  addf (addf (mulf (broadcastTo S136x512 w2 broadcasts_S1x512_S136x512) z)
    (mulf (broadcastTo S136x512 w1 broadcasts_S1x512_S136x512) (dynamicRotate 0 1#32 none z rotates_S136x512_d0)))
    (mulf (broadcastTo S136x512 w0 broadcasts_S1x512_S136x512) (dynamicRotate 0 2#32 none z rotates_S136x512_d0))
/-- What is stored for a tile of rows and columns. -/
def blk (kp : EReal) (a1 a2 : Vec Ideal S8x512 .f32) (x1 x2 g b : Vec Ideal S128x512 .f32) (w2 w1 w0 : Vec Ideal S1x512 .f32) : FVec Ideal S128x512 .bf16 :=
  k0_pay1 g (mulf b (extractStridedSlice S128x512 ![8, 0] (cv (zx kp a1 a2 x1 x2) w2 w1 w0) slices_S136x512_o8_0_S128x512))

section
variable (kp : EReal) (a1 a2 : Vec Ideal S8x512 .f32) (x1 x2 g b : Vec Ideal S128x512 .f32) (w2 w1 w0 : Vec Ideal S1x512 .f32)

theorem zx_at (p : Fin 136) (l : Fin 512) : zx kp a1 a2 x1 x2 (ix2 p l) = if h : p.val < 8 then a1 (ix2 ⟨p.val, h⟩ l) * a2 (ix2 ⟨p.val, h⟩ l) * kp
    else x1 (ix2 ⟨p.val - 8, by omega⟩ l) * x2 (ix2 ⟨p.val - 8, by omega⟩ l) := by
  pointwise [zx]

theorem cv_at (z : FVec Ideal S136x512 .f32) (f : ℕ → EReal) (l : Fin 512) (hz : ∀ p : Fin 136, z (ix2 p l) = f p.val) (p : Fin 136) (hp : 2 ≤ p.val) :
    cv z w2 w1 w0 (ix2 p l) = w2 (ix2 0 l) * f p.val + w1 (ix2 0 l) * f (p.val - 1) + w0 (ix2 0 l) * f (p.val - 2) := by
  have hz : ∀ (q : Fin 136) (n : ℕ) (h : q.val = n), z (ix2 q l) = f n := fun q n h => by rw [hz, h]
  pointwise [cv]
  rw [hz _ p.val rfl, hz _ (p.val - 1) (by show (p.val + 136 - 1) % 136 = _; omega),
    hz _ (p.val - 2) (by show (p.val + 136 - 2) % 136 = _; omega)]

theorem gate_at (v : FVec Ideal S128x512 .f32) (r : Fin 128) (l : Fin 512) :
    (k0_pay1 (F := Ideal) g v (ix2 r l) : EReal) = v (ix2 r l) * (g (ix2 r l) * lgs (g (ix2 r l))) := by
  unfold lgs
  pointwise [k0_pay1]

theorem blk_at (f : ℕ → EReal) (r : Fin 128) (l : Fin 512) (hz : ∀ p : Fin 136, zx kp a1 a2 x1 x2 (ix2 p l) = f p.val) :
    (blk kp a1 a2 x1 x2 g b w2 w1 w0 (ix2 r l) : EReal)
      = b (ix2 r l) * (w2 (ix2 0 l) * f (r.val + 8) + w1 (ix2 0 l) * f (r.val + 8 - 1) + w0 (ix2 0 l) * f (r.val + 8 - 2)) * (g (ix2 r l) * lgs (g (ix2 r l))) := by
  have e : (mulf b (extractStridedSlice S128x512 ![8, 0] (cv (zx kp a1 a2 x1 x2) w2 w1 w0) slices_S136x512_o8_0_S128x512) (ix2 r l) : EReal)
      = b (ix2 r l) * cv (zx kp a1 a2 x1 x2) w2 w1 w0 (ix2 ⟨8 + r.val, by omega⟩ l) := by
    pointwise []
  rw [blk, gate_at, e, cv_at w2 w1 w0 _ f l hz _ (by show 2 ≤ 8 + r.val; omega)]
  show _ * (_ * f (8 + r.val) + _ * f (8 + r.val - 1) + _ * f (8 + r.val - 2)) * _ = _
  rw [Nat.add_comm 8]
end

variable (m : (ℓ : Loc nD τ sig) → Buf (Elt Ideal) ℓ) (c : Dev nD) (t : Fin cfg0.N)

theorem idx : ∀ t : Fin cfg0.N, win0_0.index t = ![t.val, 0] ∧ win0_1.index t = ![t.val * 16 - 1, 0] ∧ win0_2.index t = ![0, 0] ∧ win0_3.index t = ![t.val, 0]
    ∧ (grid0.coords t 0).val = t.val :=
  (by decide +kernel : ∀ t : Fin grid0.N, _)

/-- The projected rows and the taps. -/
abbrev aP : FVec Ideal S4096x8192 .f32 := m ((c.tc : Thread nD τ).loc main_arg0)
abbrev aW : FVec Ideal S3x2048 .f32 := m ((c.tc : Thread nD τ).loc main_arg1)

theorem kp_eq : k0_pay2 (F := Ideal) (grid0.coords t) = if t.val = 0 then (0 : EReal) else 1 := by
  obtain ⟨-, -, -, -, h0⟩ := idx t
  have ht : t.val < 32 := lt_of_lt_of_eq t.isLt N_0
  have e : ∀ n : Fin 32, (Scalar.extui (Scalar.cmpi .sgt (BitVec.ofNat 32 n.val) 0#32) : BitVec 32) = if n.val = 0 then 0#32 else 1#32 := by decide +kernel
  have := e ⟨t.val, ht⟩
  simp only [k0_pay2]
  rw [h0, this]
  split_ifs
  · exact num_zero
  · exact num_one

/-- Four columns of a tile and three taps. -/
abbrev eA (o : ℕ) (h : ∀ a, (![0, o] : Fin 2 → ℕ) a + S8x512.size a ≤ S8x8192.size a) : Vec Ideal S8x512 .f32 := cut (n := 8) (w := 8192) (iblk m c 1 t) o h
abbrev eX (o : ℕ) (h : ∀ a, (![0, o] : Fin 2 → ℕ) a + S128x512.size a ≤ S128x8192.size a) : Vec Ideal S128x512 .f32 := cut (n := 128) (w := 8192) (iblk m c 0 t) o h
abbrev eW (n : ℕ) (o : ℕ) (h : ∀ a, (![n, o] : Fin 2 → ℕ) a + S1x512.size a ≤ S3x2048.size a) : Vec Ideal S1x512 .f32 :=
  fun x => iblk m c 2 t ((Rect.unit (s := S3x2048) ![n, o] S1x512.size h).idx x)

theorem eW_at (n : ℕ) (i : Fin 3) (hi : i.val = n) (o : ℕ) (h) (l : Fin 512) (k : Fin 2048) (hk : k.val = o + l.val) :
    eW m c t n o h (ix2 0 l) = aW m c (ix2 i k) := by
  subst hi
  obtain ⟨-, -, h5, -⟩ := idx t
  have : eW m c t i.val o h (ix2 0 l) = iblk m c 2 t (ix2 i k) := by
    unfold eW
    congr 1
    funext a
    refine a.cases ?_ (fun a => a.cases ?_ (fun a => a.elim0))
    · exact Fin.ext (by simp [Rect.idx_unit_val])
    · exact Fin.ext (by simp [Rect.idx_unit_val, hk])
  rw [this]
  blk_ext [iblk, V, h5]
theorem eX_at (o : ℕ) (h : ∀ a, (![0, o] : Fin 2 → ℕ) a + S128x512.size a ≤ S128x8192.size a) (r : Fin 128) (l : Fin 512) (k : Fin 8192) (hk : k.val = o + l.val) :
    eX m c t o h (ix2 r l) = col (aP m c) k (128 * t.val + r.val + 8) := by
  obtain ⟨h0, -⟩ := idx t
  have ht : t.val < 32 := lt_of_lt_of_eq t.isLt N_0
  have b : iblk m c 0 t (ix2 r k) = aP m c (ix2 ⟨t.val * 128 + r.val, by omega⟩ k) := by
    blk_ext [iblk, V, h0]
  rw [eX, cut_at _ _ _ _ _ k hk, b]
  exact (col_of _ _ _ _ (by show _ = t.val * 128 + r.val + 8; omega)).symm
theorem eA_at (z : t.val ≠ 0) (o : ℕ) (h : ∀ a, (![0, o] : Fin 2 → ℕ) a + S8x512.size a ≤ S8x8192.size a) (r : Fin 8) (l : Fin 512) (k : Fin 8192) (hk : k.val = o + l.val) :
    eA m c t o h (ix2 r l) = col (aP m c) k (128 * t.val + r.val) := by
  obtain ⟨-, h1, -⟩ := idx t
  have ht : t.val < 32 := lt_of_lt_of_eq t.isLt N_0
  have b : iblk m c 1 t (ix2 r k) = aP m c (ix2 ⟨(t.val * 16 - 1) * 8 + r.val, by omega⟩ k) := by
    blk_ext [iblk, V, h1]
  rw [eA, cut_at _ _ _ _ _ k hk, b]
  exact (col_of _ _ _ _ (by show _ = (t.val * 16 - 1) * 8 + r.val + 8; omega)).symm

theorem eZ_at (o : ℕ) (h1 h2 h3 h4) (l : Fin 512) (k : Fin 2048) (hk : k.val = o + l.val) (p : Fin 136) :
    zx (k0_pay2 (F := Ideal) (grid0.coords t)) (eA m c t (2048 + o) h1) (eA m c t (4096 + o) h2) (eX m c t (2048 + o) h3) (eX m c t (4096 + o) h4) (ix2 p l)
      = fZ (cC (aP m c) k) (cU (aP m c) k) (128 * t.val + p.val) := by
  have hl := k.isLt
  rw [zx_at, fZ, kp_eq]
  split_ifs with i1 i2
  · rw [mul_zero, cC, col_out _ _ _ (.inl (by omega)), zero_mul]
  · rw [mul_one, eA_at m c t i2 _ _ _ l ⟨2048 + k.val, by omega⟩ (by show 2048 + k.val = _; omega), eA_at m c t i2 _ _ _ l ⟨4096 + k.val, by omega⟩ (by show 4096 + k.val = _; omega)]
  · rw [eX_at m c t _ _ _ l ⟨2048 + k.val, by omega⟩ (by show 2048 + k.val = _; omega), eX_at m c t _ _ _ l ⟨4096 + k.val, by omega⟩ (by show 4096 + k.val = _; omega)]
    show col _ _ (128 * t.val + (p.val - 8) + 8) * col _ _ (128 * t.val + (p.val - 8) + 8) = _
    rw [show 128 * t.val + (p.val - 8) + 8 = 128 * t.val + p.val by omega]

/-- The result: the gated convolution. -/
def Q : FVec Ideal S4096x2048 .bf16 := fun i =>
  (cB (aP m c) (i 1) ((i 0).val + 8) * fCZ (cC (aP m c) (i 1)) (cU (aP m c) (i 1)) (aW m c (ix2 0 (i 1))) (aW m c (ix2 1 (i 1))) (aW m c (ix2 2 (i 1))) ((i 0).val + 8)
    * (cG (aP m c) (i 1) ((i 0).val + 8) * lgs (cG (aP m c) (i 1) ((i 0).val + 8))) : EReal)

theorem pt (o : ℕ) (h1 h2 h3 h4 h5 h6 u2 u1 u0) (r : Fin 128) (l : Fin 512) (k : Fin 2048) (hk : k.val = o + l.val) :
    blk (k0_pay2 (F := Ideal) (grid0.coords t)) (eA m c t (2048 + o) h1) (eA m c t (4096 + o) h2) (eX m c t (2048 + o) h3) (eX m c t (4096 + o) h4)
      (eX m c t (6144 + o) h5) (eX m c t o h6) (eW m c t 2 o u2) (eW m c t 1 o u1) (eW m c t 0 o u0) (ix2 r l)
      = Q m c (ix2 ⟨t.val * 128 + r.val, by have ht : t.val < 32 := lt_of_lt_of_eq t.isLt N_0; omega⟩ k) := by
  have ht : t.val < 32 := lt_of_lt_of_eq t.isLt N_0
  have hl := k.isLt
  refine (blk_at _ _ _ _ _ _ _ _ _ _ (fun p => fZ (cC (aP m c) k) (cU (aP m c) k) (128 * t.val + p)) r l (eZ_at m c t o _ _ _ _ l k hk)).trans ?_
  rw [eW_at m c t 0 0 rfl o _ l k hk, eW_at m c t 1 1 rfl o _ l k hk, eW_at m c t 2 2 rfl o _ l k hk, eX_at m c t o _ r l ⟨k.val, by omega⟩ hk,
    eX_at m c t (6144 + o) _ r l ⟨6144 + k.val, by omega⟩ (by show 6144 + k.val = _; omega)]
  show _ = cB (aP m c) k (t.val * 128 + r.val + 8) * (_ * fZ _ _ (t.val * 128 + r.val + 8) + _ * fZ _ _ (t.val * 128 + r.val + 8 - 1) + _ * fZ _ _ (t.val * 128 + r.val + 8 - 2))
    * (cG (aP m c) k (t.val * 128 + r.val + 8) * lgs (cG (aP m c) k (t.val * 128 + r.val + 8)))
  rw [show t.val * 128 + r.val + 8 = 128 * t.val + r.val + 8 by omega]
  rfl

/-- The place in the array of an element of the block of point `t`. -/
theorem place (y : ((cfg0.win 3).xblock (cfg0.grid.coords t)).Idx) (r : Fin 128) (k : Fin 2048) (h0 : (y 0).val = r.val) (h1 : (y 1).val = k.val) :
    Q m c (ix2 ⟨t.val * 128 + r.val, by have ht : t.val < 32 := lt_of_lt_of_eq t.isLt N_0; omega⟩ k)
      = Q m c (((View.whole main_v0).slice (win0_3.rect t)).emb y) := by
  obtain ⟨-, -, -, i3, -⟩ := idx t
  generalize Q m c = X
  blk_ext [i3, h0, h1]

theorem result : (dats m 0 c).arrAt 3 cfg0.N = Q m c := by
  refine (dats m 0 c).arrAt_eq_of_covers 3 _ (by decide +kernel) fun t _ y => ?_
  blk_simp; rw [after0_3]
  have ht : t.val < 32 := lt_of_lt_of_eq t.isLt N_0
  frame_out
  canon_tiles x h
  case piece0 =>
    idx_vars x
    exact (pt m c t 1536 inb_S8x8192_S8x512_0_3584 inb_S8x8192_S8x512_0_5632 inb_S128x8192_S128x512_0_3584 inb_S128x8192_S128x512_0_5632 inb_S128x8192_S128x512_0_7680 inb_S128x8192_S128x512_0_1536 inb_S3x2048_S1x512_2_1536 inb_S3x2048_S1x512_1_1536 inb_S3x2048_S1x512_0_1536 x0 x1 ⟨1536 + x1.val, by omega⟩ rfl).trans (place m c t y x0 ⟨1536 + x1.val, by omega⟩ h0 h1)
  case piece1 =>
    idx_vars x
    exact (pt m c t 1024 inb_S8x8192_S8x512_0_3072 inb_S8x8192_S8x512_0_5120 inb_S128x8192_S128x512_0_3072 inb_S128x8192_S128x512_0_5120 inb_S128x8192_S128x512_0_7168 inb_S128x8192_S128x512_0_1024 inb_S3x2048_S1x512_2_1024 inb_S3x2048_S1x512_1_1024 inb_S3x2048_S1x512_0_1024 x0 x1 ⟨1024 + x1.val, by omega⟩ rfl).trans (place m c t y x0 ⟨1024 + x1.val, by omega⟩ h0 h1)
  case piece2 =>
    idx_vars x
    exact (pt m c t 512 inb_S8x8192_S8x512_0_2560 inb_S8x8192_S8x512_0_4608 inb_S128x8192_S128x512_0_2560 inb_S128x8192_S128x512_0_4608 inb_S128x8192_S128x512_0_6656 inb_S128x8192_S128x512_0_512 inb_S3x2048_S1x512_2_512 inb_S3x2048_S1x512_1_512 inb_S3x2048_S1x512_0_512 x0 x1 ⟨512 + x1.val, by omega⟩ rfl).trans (place m c t y x0 ⟨512 + x1.val, by omega⟩ h0 h1)
  case piece3 =>
    idx_vars x
    exact (pt m c t 0 inb_S8x8192_S8x512_0_2048 inb_S8x8192_S8x512_0_4096 inb_S128x8192_S128x512_0_2048 inb_S128x8192_S128x512_0_4096 inb_S128x8192_S128x512_0_6144 inb_S128x8192_S128x512_0_0 inb_S3x2048_S1x512_2_0 inb_S3x2048_S1x512_1_0 inb_S3x2048_S1x512_0_0 x0 x1 ⟨0 + x1.val, by omega⟩ rfl).trans (place m c t y x0 ⟨0 + x1.val, by omega⟩ h0 (by show _ = 0 + x1.val; omega))

section
open Cert.Reference22Ideal.Read
variable (x0 : FVec Ideal S4096x8192 .f32) (x1 : FVec Ideal S3x2048 .f32)

theorem r4 (r : Fin 4096) (k : Fin 2048) (q : ℕ) (h : q = r.val + 8) :
    val_main_v4 (F := Ideal) x0 (ix2 r k) = fZ (cC x0 k) (cU x0 k) q := by
  rw [fZ, cC, cU, col_of _ _ q r h, col_of _ _ q r h]
  pointwise [val_main_v4, val_main_v1, val_main_v2]
theorem out0 (k : Fin 2048) (q : ℕ) (h : q < 8) : fZ (cC x0 k) (cU x0 k) q = 0 := by
  rw [fZ, cC, col_out _ _ q (.inl h), zero_mul]
theorem r24 (r : Fin 4096) (k : Fin 2048) :
    val_main_v24 (F := Ideal) x0 (ix2 r k) = fZ (cC x0 k) (cU x0 k) (r.val + 8) := by
  rw [← r4 x0 r k _ rfl]
  pointwise [val_main_v24, val_main_v6]
theorem r17 (r : Fin 4096) (k : Fin 2048) :
    val_main_v17 (F := Ideal) x0 (ix2 r k) = fZ (cC x0 k) (cU x0 k) (r.val + 7) := by
  pointwise [val_main_v17, val_main_v6, val_main_v5, val_main_cst]
  split_ifs with h
  · rw [out0 _ _ _ (by omega)]
  · exact r4 x0 _ k _ (by show _ = 1 + r.val - 2 + 8; omega)
  · exact absurd rfl ‹_›
theorem r9 (r : Fin 4096) (k : Fin 2048) :
    val_main_v9 (F := Ideal) x0 (ix2 r k) = fZ (cC x0 k) (cU x0 k) (r.val + 6) := by
  pointwise [val_main_v9, val_main_v6, val_main_v5, val_main_cst]
  split_ifs with h
  · rw [out0 _ _ _ (by omega)]
  · exact r4 x0 _ k _ (by show _ = r.val - 2 + 8; omega)
  · exact absurd rfl ‹_›
theorem r28 (r : Fin 4096) (k : Fin 2048) : val_main_v28 (F := Ideal) x0 x1 (ix2 r k)
    = fCZ (cC x0 k) (cU x0 k) (x1 (ix2 0 k)) (x1 (ix2 1 k)) (x1 (ix2 2 k)) (r.val + 8) := by
  pointwise [val_main_v28, val_main_v27, val_main_v26, val_main_v25, val_main_v23, val_main_v22, val_main_v21, val_main_v20, val_main_v19, val_main_v18, val_main_v16, val_main_v15, val_main_v14, val_main_v13, val_main_cst_0, val_main_v12, val_main_v11, val_main_v10, val_main_v8, val_main_v7]
  rw [r9, r17, r24, fCZ]
  show _ + _ + _ = _ * _ + _ * fZ _ _ (r.val + 7) + _ * fZ _ _ (r.val + 6)
  rw [add_comm, add_assoc, add_comm (_ * fZ _ _ (r.val + 6))]
theorem r30 (r : Fin 4096) (k : Fin 2048) : val_main_v30 (F := Ideal) x0 (ix2 r k) = (cG x0 k (r.val + 8) * lgs (cG x0 k (r.val + 8)) : EReal) := by
  rw [cG, col_of _ _ _ r rfl, lgs_exp]
  pointwise [val_main_v30, val_main_v3, val_main_call0_v5, val_main_call0_v4, val_main_call0_v3, val_main_call0_v2, val_main_call0_v1, val_main_call0_v0, val_main_call0_cst, val_main_call0_cst_0]
end

/-- The reference's result. -/
theorem reads : Cert.Reference22Ideal.Read.val_main_v32 (F := Ideal) (aP m c) (aW m c) = Q m c := by
  funext i
  idx_vars i
  have hl := i1.isLt
  have e : (Cert.Reference22Ideal.Read.val_main_v32 (F := Ideal) (aP m c) (aW m c) (ix2 i0 i1) : EReal)
      = cB (aP m c) i1 (i0.val + 8) * Cert.Reference22Ideal.Read.val_main_v28 (F := Ideal) (aP m c) (aW m c) (ix2 i0 i1)
        * Cert.Reference22Ideal.Read.val_main_v30 (F := Ideal) (aP m c) (ix2 i0 i1) := by
    rw [cB, col_of _ _ _ i0 rfl]
    pointwise [Cert.Reference22Ideal.Read.val_main_v32, Cert.Reference22Ideal.Read.val_main_v31, Cert.Reference22Ideal.Read.val_main_v29, Cert.Reference22Ideal.Read.val_main_v0]
  exact e.trans (by rw [r28, r30]; rfl)

end Cert.Kernel22Ideal.Value
end
-- ==== Proof.Norm.lean ====
module

public import Idealize.ShloMosaic.Lib.Pointwise
public import Idealize.ShloMosaic.Lib.Pipeline.ValueKit

@[expose] public section

set_option maxRecDepth 16384

noncomputable section
open Idealize.ShloMosaic Idealize.ShloMosaic.TcCoe
namespace Cert.Norm

/-- A row over its root mean square, entry `l`, times the gain: the mean is over 1024 entries, and a small constant
    is added to it. -/
def rms (f : Fin 1024 → EReal) (l : Fin 1024) (g : EReal) : EReal :=
  f l * Ideal.rsqrt (Ideal.div (∑ x, f x * f x) (Ideal.ofBits .f32 1149239296#32) + Ideal.ofBits .f32 897988541#32) * g

end Cert.Norm

end
-- ==== Proof.Product35.lean ====
module

public import proofs.«01_k».proof.Proof.Gen.Kernel35Ideal.Value
public import proofs.«01_k».proof.Proof.Gen.Reference35Ideal.Read
public import proofs.«01_k».proof.Proof.Product
public import proofs.«01_k».proof.Proof.Norm

/-! The rows of an array over their root mean square, times a gain. -/

@[expose] public section

set_option maxRecDepth 16384

noncomputable section
open Idealize.ShloMosaic Idealize.ShloMosaic.TcCoe Idealize.SL.Sem
namespace Cert.Kernel35Ideal.Value
open Cert.Kernel35Ideal Cert.Kernel35Ideal.Gen Cert.Product Cert.Norm

theorem idx : ∀ t : Fin cfg0.N, win0_0.index t = ![t.val, 0] ∧ win0_1.index t = ![0, 0] ∧ win0_2.index t = ![t.val, 0] :=
  (by decide +kernel : ∀ t : Fin grid0.N, _)

theorem norm_at (x : Vec Ideal S512x1024 .f32) (g : Vec Ideal S1x1024 .f32) (r : Fin 512) (l : Fin 1024) :
    (k0_pay1 (F := Ideal) x g (ix2 r l) : EReal) = rms (fun k => x (ix2 r k)) l (g (ix2 0 l)) := by
  unfold rms
  pointwise [k0_pay1]

variable (m : (ℓ : Loc nD τ sig) → Buf (Elt Ideal) ℓ) (c : Dev nD) (t : Fin cfg0.N)

/-- The rows and the gain. -/
abbrev aX : FVec Ideal S4096x1024 .f32 := m ((c.tc : Thread nD τ).loc main_arg0)
abbrev aG : FVec Ideal S1x1024 .f32 := m ((c.tc : Thread nD τ).loc main_arg1)

/-- The blocks of a point. -/
abbrev bX : FVec Ideal S512x1024 .f32 := iblk m c 0 t
abbrev bG : FVec Ideal S1x1024 .f32 := iblk m c 1 t

theorem bX_at (r : Fin 512) (l : Fin 1024) : bX m c t (ix2 r l) = rd2 (aX m c) (t.val * 512 + r.val) l.val := by
  have ht : t.val < 8 := lt_of_lt_of_eq t.isLt N_0
  obtain ⟨h, -⟩ := idx t
  have e : bX m c t (ix2 r l) = aX m c (ix2 ⟨t.val * 512 + r.val, by omega⟩ l) := by
    blk_ext [iblk, V, h]
  rw [e]
  exact rd2_of (aX m c) _ _ _ _ _ _ (by omega) (by omega)
theorem bG_at (l : Fin 1024) : bG m c t (ix2 0 l) = rd2 (aG m c) 0 l.val := by
  obtain ⟨-, h, -⟩ := idx t
  have e : bG m c t (ix2 0 l) = aG m c (ix2 0 l) := by
    blk_ext [iblk, V, h]
  rw [e]
  exact rd2_of (aG m c) _ _ _ _ _ _ (by omega) (by omega)

/-- The normalised rows. -/
def Q : FVec Ideal S4096x1024 .bf16 := fun i => rms (fun k => rd2 (aX m c) (i 0).val k.val) (i 1) (rd2 (aG m c) 0 (i 1).val)

theorem out_at (r : Fin 512) (l : Fin 1024) : (out0_2 (F := Ideal) (iblk m c 0 t) (iblk m c 1 t) (ix2 r l) : EReal)
    = rms (fun k => rd2 (aX m c) (t.val * 512 + r.val) k.val) l (rd2 (aG m c) 0 l.val) := by
  frame_out
  refine (norm_at _ _ _ _).trans ?_
  exact congrArg₂ (fun f g => rms f l g) (funext fun k => bX_at m c t r k) (bG_at m c t l)

theorem result : (dats m 0 c).arrAt 2 cfg0.N = Q m c := by
  refine (dats m 0 c).arrAt_eq_of_covers 2 _ (by decide +kernel) fun t hf y => ?_
  blk_simp; rw [after0_2]
  have ht : t.val < 8 := lt_of_lt_of_eq t.isLt N_0
  obtain ⟨-, -, h2⟩ := idx t
  idx_vars y
  have e : Q m c (((View.whole main_v0).slice (win0_2.rect t)).emb (ix2 y0 y1)) = Q m c (ix2 ⟨t.val * 512 + y0.val, by omega⟩ y1) := by
    generalize Q m c = X
    blk_ext [h2]
  exact (out_at m c t y0 y1).trans e.symm

open Cert.Reference35Ideal Cert.Reference35Ideal.Read in
theorem reads : val_main_v12 (F := Ideal) (aX m c) (aG m c) = Q m c := by
  have q : ∀ i k, aX m c (ix2 i k) = rd2 (aX m c) i.val k.val := fun i k => (rd2_of (aX m c) _ _ _ _ _ _ rfl rfl)
  funext i
  idx_vars i
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  unfold Q rms
  refine congrArg₂ (· * ·) (congrArg₂ (· * ·) (q _ _) (congrArg Ideal.rsqrt (congrArg₂ (· + ·) (congrArg₂ Ideal.div (Finset.sum_congr rfl fun k _ => congrArg₂ (· * ·) (q _ _) (q _ _)) rfl) rfl))) ?_
  exact rd2_of (aG m c) _ _ _ _ _ _ rfl rfl

end Cert.Kernel35Ideal.Value

end
-- ==== Proof.Product36.lean ====
module

public import proofs.«01_k».proof.Proof.Gen.Kernel36Ideal.Value
public import proofs.«01_k».proof.Proof.Gen.Reference36Ideal.Read
public import proofs.«01_k».proof.Proof.Product
public import proofs.«01_k».proof.Proof.Norm

/-! The sum over the two heads that share a row of 128 lanes: a product with a matrix of ones and zeros. -/

@[expose] public section

set_option maxRecDepth 16384

noncomputable section
open Idealize.ShloMosaic Idealize.ShloMosaic.TcCoe Idealize.SL.Sem
namespace Cert.Kernel36Ideal.Value
open Cert.Kernel36Ideal Cert.Kernel36Ideal.Gen Cert.Product Cert.Norm

/-- Where the matrix is one: the rows a column adds. -/
def mask : IVec S128x64 1 :=
  have v0 : IVec S128x64 32 := iota .tc S128x64 32 [0] iota_S128x64_d0_w32
  have v1 : IVec S128x64 32 := iota .tc S128x64 32 [1] iota_S128x64_d1_w32
  let v2 : BitVec 1 := Scalar.cmpi .eq 64#32 0#32
  let v3 : BitVec 32 := Scalar.select v2 1#32 64#32
  have v4 : IVec S128x64 32 := broadcast S128x64 v3
  have v5 : IVec S128x64 32 := remsi v0 v4
  have v6 : IVec S128x64 32 := broadcast S128x64 0#32
  have v7 : IVec S128x64 1 := cmpi .ne v5 v6
  have v8 : IVec S128x64 32 := broadcast S128x64 0#32
  have v9 : IVec S128x64 1 := cmpi .slt v5 v8
  let v10 : BitVec 1 := Scalar.cmpi .slt v3 0#32
  have v11 : IVec S128x64 1 := broadcast S128x64 v10
  have v12 : IVec S128x64 1 := broadcastTo S128x64 v11 broadcasts_S128x64_S128x64
  have v13 : IVec S128x64 1 := xori v9 v12
  have v14 : IVec S128x64 1 := andi v13 v7
  have v15 : IVec S128x64 32 := broadcast S128x64 v3
  have v16 : IVec S128x64 32 := addi v5 v15
  have v17 : IVec S128x64 32 := select v14 v16 v5
  cmpi .eq v17 v1

theorem mask_at : ∀ (r : Fin 128) (l : Fin 64), mask (ix2 r l) = if r.val % 64 = l.val then 1#1 else 0#1 := by
  decide +kernel

theorem pay_at (v : Vec Ideal S1x128 .f32) (l : Fin 64) :
    (k0_pay1 (F := Ideal) v (ix2 0 l) : EReal) = ∑ s : Fin 128, v (ix2 0 s) * (if s.val % 64 = l.val then 1 else 0) := by
  have h := mask_at
  unfold k0_pay1
  change (shapeCast S1x64 (multiReduction .add [0] S64 (matmul dot_S1x128_S128x64_S1x64_1_0_0_1_n_n (some .fp32) v (select mask (broadcast S128x64 (Scalar.ofBits .f32 0x3F800000#32)) (broadcast S128x64 (Scalar.ofBits .f32 0x00000000#32))) (constant (F := Ideal) S1x64 .f32 0x00000000#32)) 0x00000000#32 reduces_S1x64_S64 (.inl rfl) rfl) shapeCasts_S64_S1x64 (ix2 0 l) : EReal) = _
  generalize mask = M at h ⊢
  pointwise [h]
  refine (Finset.sum_eq_single 0 (fun x _ hx => absurd (Subsingleton.elim x 0) hx) (fun hx => absurd (Finset.mem_univ _) hx)).trans ?_
  refine Finset.sum_congr rfl fun s _ => ?_
  by_cases e : s.val % 64 = l.val
  · rw [if_pos e, if_pos e, mul_one]; rfl
  · rw [if_neg e, if_neg e, mul_zero]; rfl

/-- Only two of the 128 lanes are kept. -/
theorem kept (f : ℕ → EReal) (l : Fin 64) : ∑ s : Fin 128, f s.val * (if s.val % 64 = l.val then 1 else 0) = f l.val + f (64 + l.val) := by
  have hl := l.isLt
  rw [Fin.sum_univ_eq_sum_range (fun s => f s * (if s % 64 = l.val then 1 else 0)) 128, show 128 = 64 + 64 from rfl, Finset.sum_range_add]
  refine congrArg₂ (· + ·) ?_ ?_
  · refine (Finset.sum_eq_single l.val (fun s hs ne => ?_) (fun hs => absurd (Finset.mem_range.mpr hl) hs)).trans ?_
    · have := Finset.mem_range.mp hs
      rw [if_neg (by omega), mul_zero]
    · rw [if_pos (by omega), mul_one]
  · refine (Finset.sum_eq_single l.val (fun s hs ne => ?_) (fun hs => absurd (Finset.mem_range.mpr hl) hs)).trans ?_
    · have := Finset.mem_range.mp hs
      rw [if_neg (by omega), mul_zero]
    · rw [if_pos (by omega), mul_one]

variable (m : (ℓ : Loc nD τ sig) → Buf (Elt Ideal) ℓ) (c : Dev nD)

/-- The parts of both heads, and their sum. -/
abbrev aP : FVec Ideal S1x128 .f32 := m ((c.tc : Thread nD τ).loc main_arg0)
def Q : FVec Ideal S1x64 .f32 := fun i => rd2 (aP m c) 0 (i 1).val + rd2 (aP m c) 0 (64 + (i 1).val)

theorem result : (dats m 0 c).arrAt 1 cfg0.N = Q m c := by
  refine (final1 m c).trans ?_
  funext i
  idx_vars i
  have e0 : i0 = 0 := Fin.ext (by omega)
  subst e0
  refine (pay_at _ _).trans ((Finset.sum_congr rfl fun s _ => ?_).trans (kept (fun s => rd2 (aP m c) 0 s) i1))
  exact congrArg₂ (· * ·) (rd2_of (aP m c) _ _ _ _ _ _ rfl rfl) rfl

open Cert.Reference36Ideal Cert.Reference36Ideal.Read in
theorem reads : val_main_v2 (F := Ideal) (aP m c) = Q m c := by
  have hz : (FloatOps.ofBits .f32 0x00000000#32 : Ideal .f32) = (0 : EReal) := by
    simp [FloatOps.ofBits, Ideal.ofBits, Ideal.ieee]
  funext i
  idx_vars i
  simp only [val_main_v2_apply, val_main_v1_apply, val_main_v0_apply, val_main_cst_apply, hz]
  refine (zero_add _).trans ((Fin.sum_univ_two _).trans (congrArg₂ (· + ·) ?_ ?_))
  · exact rd2_idx (aP m c) _ _ _ rfl (by show (0 * 64 + i1.val) % 128 = i1.val; omega)
  · exact rd2_idx (aP m c) _ _ _ rfl (by show (1 * 64 + i1.val) % 128 = 64 + i1.val; omega)

end Cert.Kernel36Ideal.Value

end
-- ==== Proof.Product17.lean ====
module

public import proofs.«01_k».proof.Proof.Gen.Kernel17Ideal.Value
public import proofs.«01_k».proof.Proof.Gen.Reference17Ideal.Read
public import proofs.«01_k».proof.Proof.Product
public import proofs.«01_k».proof.Proof.Norm

/-! A product added to the residual, and the row of the sum over its root mean square. -/

@[expose] public section

set_option maxRecDepth 16384

noncomputable section
open Idealize.ShloMosaic Idealize.ShloMosaic.TcCoe Idealize.SL.Sem
namespace Cert.Kernel17Ideal.Value
open Cert.Kernel17Ideal Cert.Kernel17Ideal.Gen Cert.Product Cert.Norm

theorem idx : ∀ t : Fin cfg0.N, win0_0.index t = ![t.val / 2, t.val % 2] ∧ win0_1.index t = ![t.val % 2, 0] ∧ win0_2.index t = ![t.val / 2, 0] ∧ win0_3.index t = ![0, 0]
    ∧ win0_4.index t = ![t.val / 2, 0] ∧ win0_5.index t = ![t.val / 2, 0] :=
  (by decide +kernel : ∀ t : Fin grid0.N, _)

theorem first_at (x : Vec Ideal S512x1024 .bf16) (y : Vec Ideal S1024x1024 .bf16) (r : Fin 512) (l : Fin 1024) : k0_pay2 x y (ix2 r l) = (∑ s : Fin 1024, x (ix2 r s) * y (ix2 s l) : EReal) := by
  pointwise [k0_pay2, k0_pay1]

theorem next_at (x : Vec Ideal S512x1024 .bf16) (y : Vec Ideal S1024x1024 .bf16) (z : Vec Ideal S512x1024 .f32) (r : Fin 512) (l : Fin 1024) : k0_pay3 x y z (ix2 r l) = z (ix2 r l) + (∑ s : Fin 1024, x (ix2 r s) * y (ix2 s l) : EReal) := by
  pointwise [k0_pay3, k0_pay1]

theorem sum_at (v w : Vec Ideal S512x1024 .f32) (r : Fin 512) (l : Fin 1024) : k0_pay4 v w (ix2 r l) = (v (ix2 r l) + w (ix2 r l) : EReal) := by
  pointwise [k0_pay4]

theorem norm_at (v w : Vec Ideal S512x1024 .f32) (g : Vec Ideal S1x1024 .f32) (r : Fin 512) (l : Fin 1024) :
    k0_pay5 v w g (ix2 r l) = rms (fun x => k0_pay4 v w (ix2 r x)) l (g (ix2 0 l)) := by
  unfold rms
  pointwise [k0_pay5]

variable (m : (ℓ : Loc nD τ sig) → Buf (Elt Ideal) ℓ) (c : Dev nD) (t : Fin cfg0.N)

/-- The two factors, the residual and the gain. -/
abbrev aA : FVec Ideal S4096x2048 .bf16 := m ((c.tc : Thread nD τ).loc main_arg0)
abbrev aB : FVec Ideal S2048x1024 .bf16 := m ((c.tc : Thread nD τ).loc main_arg1)
abbrev aX : FVec Ideal S4096x1024 .f32 := m ((c.tc : Thread nD τ).loc main_arg2)
abbrev aG : FVec Ideal S1x1024 .f32 := m ((c.tc : Thread nD τ).loc main_arg3)

/-- The blocks of a point. -/
abbrev bA : FVec Ideal S512x1024 .bf16 := iblk m c 0 t
abbrev bB : FVec Ideal S1024x1024 .bf16 := iblk m c 1 t
abbrev bX : FVec Ideal S512x1024 .f32 := iblk m c 2 t
abbrev bG : FVec Ideal S1x1024 .f32 := iblk m c 3 t

/-- One product of the sum, and an entry of the new residual. -/
def term (i j k : ℕ) : EReal := rd2 (aA m c) i k * rd2 (aB m c) k j
def ent (i j : ℕ) : EReal := (∑ k : Fin 2048, term m c i j k.val) + rd2 (aX m c) i j

theorem left (s : Fin 1024) (r : Fin 512) : bA m c t (ix2 r s) = rd2 (aA m c) (t.val / 2 * 512 + r.val) (t.val % 2 * 1024 + s.val) := by
  have ht : t.val < 16 := lt_of_lt_of_eq t.isLt N_0
  obtain ⟨h0, -⟩ := idx t
  have e : bA m c t (ix2 r s) = aA m c (ix2 ⟨t.val / 2 * 512 + r.val, by omega⟩ ⟨t.val % 2 * 1024 + s.val, by omega⟩) := by
    blk_ext [iblk, V, h0]
  rw [e]
  exact rd2_of (aA m c) _ _ _ _ _ _ (by omega) (by omega)

theorem right (s : Fin 1024) (l : Fin 1024) : bB m c t (ix2 s l) = rd2 (aB m c) (t.val % 2 * 1024 + s.val) l.val := by
  have ht : t.val < 16 := lt_of_lt_of_eq t.isLt N_0
  obtain ⟨-, h1, -⟩ := idx t
  have e : bB m c t (ix2 s l) = aB m c (ix2 ⟨t.val % 2 * 1024 + s.val, by omega⟩ l) := by
    blk_ext [iblk, V, h1]
  rw [e]
  exact rd2_of (aB m c) _ _ _ _ _ _ (by omega) (by omega)

theorem res (r : Fin 512) (l : Fin 1024) : bX m c t (ix2 r l) = rd2 (aX m c) (t.val / 2 * 512 + r.val) l.val := by
  have ht : t.val < 16 := lt_of_lt_of_eq t.isLt N_0
  obtain ⟨-, -, h2, -⟩ := idx t
  have e : bX m c t (ix2 r l) = aX m c (ix2 ⟨t.val / 2 * 512 + r.val, by omega⟩ l) := by
    blk_ext [iblk, V, h2]
  rw [e]
  exact rd2_of (aX m c) _ _ _ _ _ _ (by omega) (by omega)

theorem gain (l : Fin 1024) : bG m c t (ix2 0 l) = rd2 (aG m c) 0 l.val := by
  have ht : t.val < 16 := lt_of_lt_of_eq t.isLt N_0
  obtain ⟨-, -, -, h3, -⟩ := idx t
  have e : bG m c t (ix2 0 l) = aG m c (ix2 0 l) := by
    blk_ext [iblk, V, h3]
  rw [e]
  exact rd2_of (aG m c) _ _ _ _ _ _ (by omega) (by omega)

theorem both (r : Fin 512) (l : Fin 1024) : (∑ s : Fin 1024, bA m c t (ix2 r s) * bB m c t (ix2 s l))
    = ∑ s : Fin 1024, term m c (t.val / 2 * 512 + r.val) l.val (t.val % 2 * 1024 + s.val) :=
  Finset.sum_congr rfl fun s _ => congrArg₂ (· * ·) (left m c t s r) (right m c t s l)

theorem start (h : t.val % 2 = 0) (r : Fin 512) (l : Fin 1024) : ((outsAt0 m c t.val t.isLt).2.2 (ix2 r l) : EReal)
    = ∑ s : Fin 1024, term m c (t.val / 2 * 512 + r.val) l.val (t.val % 2 * 1024 + s.val) := by
  rw [outsAt0_A m c t (by omega) (by omega) (by omega)]
  frame_out
  exact (first_at _ _ _ _).trans (both m c t r l)

theorem step (h : ¬t.val % 2 = 0) (r : Fin 512) (l : Fin 1024) : ((outsAt0 m c t.val t.isLt).2.2 (ix2 r l) : EReal)
    = (outsAt0 m c (t.val - 1) (Nat.lt_of_le_of_lt (Nat.sub_le _ _) t.isLt)).2.2 (ix2 r l) + ∑ s : Fin 1024, term m c (t.val / 2 * 512 + r.val) l.val (t.val % 2 * 1024 + s.val) := by
  rw [outsAt0_B m c t (by omega) (by omega) (by omega)]
  frame_out
  exact (next_at _ _ _ _ _).trans (congrArg₂ (· + ·) (congrFun ((Memref.isWhole_whole cc0_scratch0).read_unread _) _) (both m c t r l))

/-- At the last step of a tile the accumulator is the whole product. -/
theorem acc (h : t.val % 2 = 1) (r : Fin 512) (l : Fin 1024) : ((outsAt0 m c t.val t.isLt).2.2 (ix2 r l) : EReal)
    = ∑ k : Fin 2048, term m c (t.val / 2 * 512 + r.val) l.val k.val :=
  fold (fun n hn => (outsAt0 m c n hn).2.2 (ix2 r l)) 2 1024 2048 (by omega) (by omega)
    (fun q k => term m c (q * 512 + r.val) l.val k)
    (fun u hu => start m c u hu r l) (fun u hu => step m c u hu r l) t h

theorem sum_scr (h : t.val % 2 = 1) (r : Fin 512) (l : Fin 1024) : ((outsAt0 m c t.val t.isLt).1 (ix2 r l) : EReal)
    = (outsAt0 m c t.val t.isLt).2.2 (ix2 r l) + bX m c t (ix2 r l) := by
  rw [outsAt0_B m c t (by omega) (by omega) (by omega)]
  frame_out
  exact sum_at _ _ _ _

theorem out_y (h : t.val % 2 = 1) (r : Fin 512) (l : Fin 1024) : ((outsAt0 m c t.val t.isLt).1 (ix2 r l) : EReal) = ent m c (t.val / 2 * 512 + r.val) l.val := by
  rw [sum_scr m c t h r l, acc m c t h r l, res m c t r l]; rfl

theorem norm_scr (h : t.val % 2 = 1) (r : Fin 512) (l : Fin 1024) : ((outsAt0 m c t.val t.isLt).2.1 (ix2 r l) : EReal)
    = rms (fun x => (outsAt0 m c t.val t.isLt).1 (ix2 r x)) l (bG m c t (ix2 0 l)) := by
  rw [outsAt0_B m c t (by omega) (by omega) (by omega)]
  frame_out
  exact norm_at _ _ _ _ _

theorem out_z (h : t.val % 2 = 1) (r : Fin 512) (l : Fin 1024) : ((outsAt0 m c t.val t.isLt).2.1 (ix2 r l) : EReal)
    = rms (fun x => ent m c (t.val / 2 * 512 + r.val) x.val) l (rd2 (aG m c) 0 l.val) := by
  rw [norm_scr m c t h r l, gain m c t l]
  exact congrArg (fun f => rms f l _) (funext fun x => out_y m c t h r x)

/-- The new residual and its normalised rows. -/
def Y : FVec Ideal S4096x1024 .f32 := fun i => ent m c (i 0).val (i 1).val
def Z : FVec Ideal S4096x1024 .bf16 := fun i => rms (fun x => ent m c (i 0).val x.val) (i 1) (rd2 (aG m c) 0 (i 1).val)

theorem result4 : (dats m 0 c).arrAt 4 cfg0.N = Y m c := by
  refine (dats m 0 c).arrAt_eq_of_covers 4 _ (by decide +kernel) fun t hf y => ?_
  blk_simp; rw [after0_4]
  have ht : t.val < 16 := lt_of_lt_of_eq t.isLt N_0
  have hm : t.val % 2 = 1 := by have := (flush0_4 t).mp hf; omega
  obtain ⟨-, -, -, -, h4, -⟩ := idx t
  idx_vars y
  have e : Y m c (((View.whole main_v0_0).slice (win0_4.rect t)).emb (ix2 y0 y1)) = Y m c (ix2 ⟨t.val / 2 * 512 + y0.val, by omega⟩ y1) := by
    generalize Y m c = X
    blk_ext [h4]
  exact (out_y m c t hm y0 y1).trans e.symm

theorem result5 : (dats m 0 c).arrAt 5 cfg0.N = Z m c := by
  refine (dats m 0 c).arrAt_eq_of_covers 5 _ (by decide +kernel) fun t hf y => ?_
  blk_simp; rw [after0_5]
  have ht : t.val < 16 := lt_of_lt_of_eq t.isLt N_0
  have hm : t.val % 2 = 1 := by have := (flush0_5 t).mp hf; omega
  obtain ⟨-, -, -, -, -, h5⟩ := idx t
  idx_vars y
  have e : Z m c (((View.whole main_v0_1).slice (win0_5.rect t)).emb (ix2 y0 y1)) = Z m c (ix2 ⟨t.val / 2 * 512 + y0.val, by omega⟩ y1) := by
    generalize Z m c = X
    blk_ext [h5]
  exact (out_z m c t hm y0 y1).trans e.symm

open Cert.Reference17Ideal Cert.Reference17Ideal.Read in
theorem reads4 : val_main_v3 (F := Ideal) (aA m c) (aB m c) (aX m c) = Y m c := by
  funext i
  idx_vars i
  simp only [val_main_v3_apply, val_main_v2_apply, val_main_v1_apply, val_main_v0_apply]
  refine (add_comm _ _).trans (congrArg₂ (· + ·) (Finset.sum_congr rfl fun k _ => ?_) ?_)
  · exact (congrArg₂ (· * ·) (rd2_idx (aA m c) _ _ _ (by simp only []; try omega) (by simp only []; try omega)) (rd2_idx (aB m c) _ _ _ (by simp only []; try omega) (by simp only []; try omega)))
  · exact rd2_idx (aX m c) _ _ _ (by simp only []; try omega) (by simp only []; try omega)

open Cert.Reference17Ideal Cert.Reference17Ideal.Read in
theorem reads5 : val_main_v16 (F := Ideal) (aA m c) (aB m c) (aX m c) (aG m c) = Z m c := by
  have hy := reads4 m c
  funext i
  idx_vars i
  pointwise [val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_cst_apply, val_main_cst_0_apply, val_main_cst_1_apply, hy]
  refine congrArg₂ (· * ·) (congrArg₂ (· * ·) rfl (congrArg Ideal.rsqrt (congrArg₂ (· + ·) (congrArg₂ Ideal.div (Finset.sum_congr rfl fun k _ => ?_) rfl) rfl))) ?_
  · rfl
  · exact rd2_idx (aG m c) _ _ _ (by simp only []; try omega) (by simp only []; try omega)

end Cert.Kernel17Ideal.Value

end
-- ==== Proof.Product18.lean ====
module

public import proofs.«01_k».proof.Proof.Gen.Kernel18Ideal.Value
public import proofs.«01_k».proof.Proof.Gen.Reference18Ideal.Read
public import proofs.«01_k».proof.Proof.Product
public import proofs.«01_k».proof.Proof.Norm

/-! A product added to the residual, and the row of the sum over its root mean square. -/

@[expose] public section

set_option maxRecDepth 16384

noncomputable section
open Idealize.ShloMosaic Idealize.ShloMosaic.TcCoe Idealize.SL.Sem
namespace Cert.Kernel18Ideal.Value
open Cert.Kernel18Ideal Cert.Kernel18Ideal.Gen Cert.Product Cert.Norm

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

theorem sum_at (x : Vec Ideal S512x1024 .bf16) (y : Vec Ideal S1024x1024 .bf16) (z : Vec Ideal S512x1024 .f32) (r : Fin 512) (l : Fin 1024) :
    k0_pay1 x y z (ix2 r l) = ((∑ s : Fin 1024, x (ix2 r s) * y (ix2 s l)) + z (ix2 r l) : EReal) := by
  pointwise [k0_pay1]

theorem norm_at (x : Vec Ideal S512x1024 .bf16) (y : Vec Ideal S1024x1024 .bf16) (z : Vec Ideal S512x1024 .f32) (g : Vec Ideal S1x1024 .f32) (r : Fin 512) (l : Fin 1024) :
    k0_pay2 x y z g (ix2 r l) = rms (fun k => k0_pay1 x y z (ix2 r k)) l (g (ix2 0 l)) := by
  unfold rms
  pointwise [k0_pay2]

variable (m : (ℓ : Loc nD τ sig) → Buf (Elt Ideal) ℓ) (c : Dev nD) (t : Fin cfg0.N)

/-- The two factors, the residual and the gain. -/
abbrev aA : FVec Ideal S4096x1024 .bf16 := m ((c.tc : Thread nD τ).loc main_arg0)
abbrev aB : FVec Ideal S1024x1024 .bf16 := m ((c.tc : Thread nD τ).loc main_arg1)
abbrev aX : FVec Ideal S4096x1024 .f32 := m ((c.tc : Thread nD τ).loc main_arg2)
abbrev aG : FVec Ideal S1x1024 .f32 := m ((c.tc : Thread nD τ).loc main_arg3)

/-- The blocks of a point. -/
abbrev bA : FVec Ideal S512x1024 .bf16 := iblk m c 0 t
abbrev bB : FVec Ideal S1024x1024 .bf16 := iblk m c 1 t
abbrev bX : FVec Ideal S512x1024 .f32 := iblk m c 2 t
abbrev bG : FVec Ideal S1x1024 .f32 := iblk m c 3 t

/-- One product of the sum, and an entry of the new residual. -/
def term (i j k : ℕ) : EReal := rd2 (aA m c) i k * rd2 (aB m c) k j
def ent (i j : ℕ) : EReal := (∑ k : Fin 1024, term m c i j k.val) + rd2 (aX m c) i j

theorem left (s : Fin 1024) (r : Fin 512) : bA m c t (ix2 r s) = rd2 (aA m c) (t.val * 512 + r.val) (0 * 1024 + s.val) := by
  have ht : t.val < 8 := lt_of_lt_of_eq t.isLt N_0
  obtain ⟨h0, -⟩ := idx t
  have e : bA m c t (ix2 r s) = aA m c (ix2 ⟨t.val * 512 + r.val, by omega⟩ ⟨0 * 1024 + s.val, by omega⟩) := by
    blk_ext [iblk, V, h0]
  rw [e]
  exact rd2_of (aA m c) _ _ _ _ _ _ (by omega) (by omega)

theorem right (s : Fin 1024) (l : Fin 1024) : bB m c t (ix2 s l) = rd2 (aB m c) (0 * 1024 + s.val) l.val := by
  have ht : t.val < 8 := lt_of_lt_of_eq t.isLt N_0
  obtain ⟨-, h1, -⟩ := idx t
  have e : bB m c t (ix2 s l) = aB m c (ix2 ⟨0 * 1024 + s.val, by omega⟩ l) := by
    blk_ext [iblk, V, h1]
  rw [e]
  exact rd2_of (aB m c) _ _ _ _ _ _ (by omega) (by omega)

theorem res (r : Fin 512) (l : Fin 1024) : bX m c t (ix2 r l) = rd2 (aX m c) (t.val * 512 + r.val) l.val := by
  have ht : t.val < 8 := lt_of_lt_of_eq t.isLt N_0
  obtain ⟨-, -, h2, -⟩ := idx t
  have e : bX m c t (ix2 r l) = aX m c (ix2 ⟨t.val * 512 + r.val, by omega⟩ l) := by
    blk_ext [iblk, V, h2]
  rw [e]
  exact rd2_of (aX m c) _ _ _ _ _ _ (by omega) (by omega)

theorem gain (l : Fin 1024) : bG m c t (ix2 0 l) = rd2 (aG m c) 0 l.val := by
  have ht : t.val < 8 := lt_of_lt_of_eq t.isLt N_0
  obtain ⟨-, -, -, h3, -⟩ := idx t
  have e : bG m c t (ix2 0 l) = aG m c (ix2 0 l) := by
    blk_ext [iblk, V, h3]
  rw [e]
  exact rd2_of (aG m c) _ _ _ _ _ _ (by omega) (by omega)

theorem both (r : Fin 512) (l : Fin 1024) : (∑ s : Fin 1024, bA m c t (ix2 r s) * bB m c t (ix2 s l))
    = ∑ s : Fin 1024, term m c (t.val * 512 + r.val) l.val (0 * 1024 + s.val) :=
  Finset.sum_congr rfl fun s _ => congrArg₂ (· * ·) (left m c t s r) (right m c t s l)

theorem sum_out (r : Fin 512) (l : Fin 1024) : k0_pay1 (F := Ideal) (bA m c t) (bB m c t) (bX m c t) (ix2 r l) = ent m c (t.val * 512 + r.val) l.val := by
  refine (sum_at _ _ _ r l).trans (congrArg₂ (· + ·) ((both m c t r l).trans (Finset.sum_congr rfl fun s _ => ?_)) (res m c t r l))
  rw [zero_mul, zero_add]

theorem out_y (r : Fin 512) (l : Fin 1024) : (out0_4 (iblk m c 0 t) (iblk m c 1 t) (iblk m c 2 t) (iblk m c 3 t) (ix2 r l) : EReal) = ent m c (t.val * 512 + r.val) l.val := by
  unfold out0_4
  frame_out
  exact sum_out m c t r l

theorem out_z (r : Fin 512) (l : Fin 1024) : (out0_5 (iblk m c 0 t) (iblk m c 1 t) (iblk m c 2 t) (iblk m c 3 t) (ix2 r l) : EReal)
    = rms (fun x => ent m c (t.val * 512 + r.val) x.val) l (rd2 (aG m c) 0 l.val) := by
  unfold out0_5
  frame_out
  refine (norm_at _ _ _ _ r l).trans ?_
  rw [show (iblk m c 3 t (ix2 0 l) : EReal) = _ from gain m c t l]
  exact congrArg (fun f => rms f l _) (funext fun x => sum_out m c t r x)

/-- The new residual and its normalised rows. -/
def Y : FVec Ideal S4096x1024 .f32 := fun i => ent m c (i 0).val (i 1).val
def Z : FVec Ideal S4096x1024 .bf16 := fun i => rms (fun x => ent m c (i 0).val x.val) (i 1) (rd2 (aG m c) 0 (i 1).val)

theorem result4 : (dats m 0 c).arrAt 4 cfg0.N = Y m c := by
  refine (dats m 0 c).arrAt_eq_of_covers 4 _ (by decide +kernel) fun t hf y => ?_
  blk_simp; rw [after0_4]
  have ht : t.val < 8 := lt_of_lt_of_eq t.isLt N_0
  obtain ⟨-, -, -, -, h4, -⟩ := idx t
  idx_vars y
  have e : Y m c (((View.whole main_v0_0).slice (win0_4.rect t)).emb (ix2 y0 y1)) = Y m c (ix2 ⟨t.val * 512 + y0.val, by omega⟩ y1) := by
    generalize Y m c = X
    blk_ext [h4]
  exact (out_y m c t y0 y1).trans e.symm

theorem result5 : (dats m 0 c).arrAt 5 cfg0.N = Z m c := by
  refine (dats m 0 c).arrAt_eq_of_covers 5 _ (by decide +kernel) fun t hf y => ?_
  blk_simp; rw [after0_5]
  have ht : t.val < 8 := lt_of_lt_of_eq t.isLt N_0
  obtain ⟨-, -, -, -, -, h5⟩ := idx t
  idx_vars y
  have e : Z m c (((View.whole main_v0_1).slice (win0_5.rect t)).emb (ix2 y0 y1)) = Z m c (ix2 ⟨t.val * 512 + y0.val, by omega⟩ y1) := by
    generalize Z m c = X
    blk_ext [h5]
  exact (out_z m c t y0 y1).trans e.symm

open Cert.Reference18Ideal Cert.Reference18Ideal.Read in
theorem reads4 : val_main_v3 (F := Ideal) (aA m c) (aB m c) (aX m c) = Y m c := by
  funext i
  idx_vars i
  simp only [val_main_v3_apply, val_main_v2_apply, val_main_v1_apply, val_main_v0_apply]
  refine (add_comm _ _).trans (congrArg₂ (· + ·) (Finset.sum_congr rfl fun k _ => ?_) ?_)
  · exact (congrArg₂ (· * ·) (rd2_idx (aA m c) _ _ _ (by simp only []; try omega) (by simp only []; try omega)) (rd2_idx (aB m c) _ _ _ (by simp only []; try omega) (by simp only []; try omega)))
  · exact rd2_idx (aX m c) _ _ _ (by simp only []; try omega) (by simp only []; try omega)

open Cert.Reference18Ideal Cert.Reference18Ideal.Read in
theorem reads5 : val_main_v16 (F := Ideal) (aA m c) (aB m c) (aX m c) (aG m c) = Z m c := by
  have hy := reads4 m c
  funext i
  idx_vars i
  pointwise [val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_cst_apply, val_main_cst_0_apply, val_main_cst_1_apply, hy]
  refine congrArg₂ (· * ·) (congrArg₂ (· * ·) rfl (congrArg Ideal.rsqrt (congrArg₂ (· + ·) (congrArg₂ Ideal.div (Finset.sum_congr rfl fun k _ => ?_) rfl) rfl))) ?_
  · rfl
  · exact rd2_idx (aG m c) _ _ _ (by simp only []; try omega) (by simp only []; try omega)

end Cert.Kernel18Ideal.Value

end
-- ==== Proof.Product19.lean ====
module

public import proofs.«01_k».proof.Proof.Gen.Kernel19Ideal.Value
public import proofs.«01_k».proof.Proof.Gen.Reference19Ideal.Read
public import proofs.«01_k».proof.Proof.Product

/-! A product added to the residual, its difference from the target, and half the sum of the mean squares of the rows. -/

@[expose] public section

set_option maxRecDepth 16384

noncomputable section
open Idealize.ShloMosaic Idealize.ShloMosaic.TcCoe Idealize.SL.Sem
namespace Cert.Kernel19Ideal.Value
open Cert.Kernel19Ideal Cert.Kernel19Ideal.Gen Cert.Product

theorem idx : ∀ t : Fin cfg0.N, win0_0.index t = ![t.val / 2, t.val % 2] ∧ win0_1.index t = ![t.val % 2, 0] ∧ win0_2.index t = ![t.val / 2, 0] ∧ win0_3.index t = ![t.val / 2, 0]
    ∧ win0_4.index t = ![t.val / 2, 0] ∧ win0_5.index t = ![0, 0] :=
  (by decide +kernel : ∀ t : Fin grid0.N, _)

theorem first_at (x : Vec Ideal S512x1024 .bf16) (y : Vec Ideal S1024x1024 .bf16) (r : Fin 512) (l : Fin 1024) : k0_pay2 x y (ix2 r l) = (∑ s : Fin 1024, x (ix2 r s) * y (ix2 s l) : EReal) := by
  pointwise [k0_pay2, k0_pay1]

theorem next_at (x : Vec Ideal S512x1024 .bf16) (y : Vec Ideal S1024x1024 .bf16) (z : Vec Ideal S512x1024 .f32) (r : Fin 512) (l : Fin 1024) : k0_pay3 x y z (ix2 r l) = z (ix2 r l) + (∑ s : Fin 1024, x (ix2 r s) * y (ix2 s l) : EReal) := by
  pointwise [k0_pay3, k0_pay1]

theorem diff_at (v w z : Vec Ideal S512x1024 .f32) (r : Fin 512) (l : Fin 1024) : k0_pay4 v w z (ix2 r l) = (v (ix2 r l) + w (ix2 r l) - z (ix2 r l) : EReal) := by
  pointwise [k0_pay4]

theorem grad_at (v w z : Vec Ideal S512x1024 .f32) (r : Fin 512) (l : Fin 1024) : k0_pay5 v w z (ix2 r l) = (k0_pay4 v w z (ix2 r l) * Ideal.ofBits .f32 981467136#32 : EReal) := by
  pointwise [k0_pay5]

theorem part_at (v w z : Vec Ideal S512x1024 .f32) (l : Fin 128) :
    k0_pay6 v w z (ix2 0 l) = ((∑ r : Fin 512, ∑ x : Fin 1024, k0_pay4 v w z (ix2 r x) * k0_pay4 v w z (ix2 r x)) * Ideal.ofBits .f32 973078528#32 : EReal) := by
  pointwise [k0_pay6]

theorem more_at (v w z : Vec Ideal S512x1024 .f32) (o : Vec Ideal S1x128 .f32) (l : Fin 128) : k0_pay7 v w z o (ix2 0 l) = (o (ix2 0 l) + k0_pay6 v w z (ix2 0 l) : EReal) := by
  pointwise [k0_pay7]

theorem c_half : Ideal.ofBits .f32 1056964608#32 = ((1 / 2 : ℝ) : EReal) := by
  simp [Ideal.ofBits, Ideal.ieee]
  rw [← EReal.coe_mul]
  norm_num

theorem c_two : Ideal.ofBits .f32 1073741824#32 = ((2 : ℝ) : EReal) := by
  simp [Ideal.ofBits, Ideal.ieee]
  try rw [← EReal.coe_mul]
  try norm_num

theorem c_n : Ideal.ofBits .f32 1149239296#32 = ((1024 : ℝ) : EReal) := by
  simp [Ideal.ofBits, Ideal.ieee]
  rw [← EReal.coe_mul]
  norm_num

theorem c_inv : Ideal.ofBits .f32 981467136#32 = ((1 / 1024 : ℝ) : EReal) := by
  simp [Ideal.ofBits, Ideal.ieee]
  rw [← EReal.coe_mul]
  norm_num

theorem c_half_inv : Ideal.ofBits .f32 973078528#32 = ((1 / 2048 : ℝ) : EReal) := by
  simp [Ideal.ofBits, Ideal.ieee]
  rw [← EReal.coe_mul]
  norm_num

/-- A sum times a number that is real and not negative is the sum of the products. -/
theorem sum_scale {ι : Type} (s : Finset ι) (f : ι → EReal) (k : ℝ) (hk : 0 ≤ k) : (∑ i ∈ s, f i) * (k : EReal) = ∑ i ∈ s, f i * (k : EReal) := by
  classical
  induction s using Finset.induction_on with
  | empty => simp
  | insert a s ha ih =>
    rw [Finset.sum_insert ha, Finset.sum_insert ha, EReal.right_distrib_of_nonneg_of_ne_top (EReal.coe_nonneg.mpr hk) (EReal.coe_ne_top k), ih]

variable (m : (ℓ : Loc nD τ sig) → Buf (Elt Ideal) ℓ) (c : Dev nD) (t : Fin cfg0.N)

/-- The two factors, the residual and the target. -/
abbrev aA : FVec Ideal S4096x2048 .bf16 := m ((c.tc : Thread nD τ).loc main_arg0)
abbrev aB : FVec Ideal S2048x1024 .bf16 := m ((c.tc : Thread nD τ).loc main_arg1)
abbrev aX : FVec Ideal S4096x1024 .f32 := m ((c.tc : Thread nD τ).loc main_arg2)
abbrev aG : FVec Ideal S4096x1024 .f32 := m ((c.tc : Thread nD τ).loc main_arg3)

/-- The blocks of a point. -/
abbrev bA : FVec Ideal S512x1024 .bf16 := iblk m c 0 t
abbrev bB : FVec Ideal S1024x1024 .bf16 := iblk m c 1 t
abbrev bX : FVec Ideal S512x1024 .f32 := iblk m c 2 t
abbrev bG : FVec Ideal S512x1024 .f32 := iblk m c 3 t

/-- One product of the sum, and an entry of the new residual. -/
def term (i j k : ℕ) : EReal := rd2 (aA m c) i k * rd2 (aB m c) k j
def ent (i j : ℕ) : EReal := (∑ k : Fin 2048, term m c i j k.val) + rd2 (aX m c) i j

theorem left (s : Fin 1024) (r : Fin 512) : bA m c t (ix2 r s) = rd2 (aA m c) (t.val / 2 * 512 + r.val) (t.val % 2 * 1024 + s.val) := by
  have ht : t.val < 16 := lt_of_lt_of_eq t.isLt N_0
  obtain ⟨h0, -⟩ := idx t
  have e : bA m c t (ix2 r s) = aA m c (ix2 ⟨t.val / 2 * 512 + r.val, by omega⟩ ⟨t.val % 2 * 1024 + s.val, by omega⟩) := by
    blk_ext [iblk, V, h0]
  rw [e]
  exact rd2_of (aA m c) _ _ _ _ _ _ (by omega) (by omega)

theorem right (s : Fin 1024) (l : Fin 1024) : bB m c t (ix2 s l) = rd2 (aB m c) (t.val % 2 * 1024 + s.val) l.val := by
  have ht : t.val < 16 := lt_of_lt_of_eq t.isLt N_0
  obtain ⟨-, h1, -⟩ := idx t
  have e : bB m c t (ix2 s l) = aB m c (ix2 ⟨t.val % 2 * 1024 + s.val, by omega⟩ l) := by
    blk_ext [iblk, V, h1]
  rw [e]
  exact rd2_of (aB m c) _ _ _ _ _ _ (by omega) (by omega)

theorem res (r : Fin 512) (l : Fin 1024) : bX m c t (ix2 r l) = rd2 (aX m c) (t.val / 2 * 512 + r.val) l.val := by
  have ht : t.val < 16 := lt_of_lt_of_eq t.isLt N_0
  obtain ⟨-, -, h2, -⟩ := idx t
  have e : bX m c t (ix2 r l) = aX m c (ix2 ⟨t.val / 2 * 512 + r.val, by omega⟩ l) := by
    blk_ext [iblk, V, h2]
  rw [e]
  exact rd2_of (aX m c) _ _ _ _ _ _ (by omega) (by omega)

theorem gain (r : Fin 512) (l : Fin 1024) : bG m c t (ix2 r l) = rd2 (aG m c) (t.val / 2 * 512 + r.val) l.val := by
  have ht : t.val < 16 := lt_of_lt_of_eq t.isLt N_0
  obtain ⟨-, -, -, h3, -⟩ := idx t
  have e : bG m c t (ix2 r l) = aG m c (ix2 ⟨t.val / 2 * 512 + r.val, by omega⟩ l) := by
    blk_ext [iblk, V, h3]
  rw [e]
  exact rd2_of (aG m c) _ _ _ _ _ _ (by omega) (by omega)

theorem both (r : Fin 512) (l : Fin 1024) : (∑ s : Fin 1024, bA m c t (ix2 r s) * bB m c t (ix2 s l))
    = ∑ s : Fin 1024, term m c (t.val / 2 * 512 + r.val) l.val (t.val % 2 * 1024 + s.val) :=
  Finset.sum_congr rfl fun s _ => congrArg₂ (· * ·) (left m c t s r) (right m c t s l)

/-- An entry of the difference from the target, the sum of the squares of a row, and what a tile adds to the loss. -/
def dif (i j : ℕ) : EReal := ent m c i j - rd2 (aG m c) i j
def sq (i : ℕ) : EReal := ∑ x : Fin 1024, dif m c i x.val * dif m c i x.val
def part (q : ℕ) : EReal := (∑ r : Fin 512, sq m c (q * 512 + r.val)) * Ideal.ofBits .f32 973078528#32

theorem start (h : t.val % 2 = 0) (r : Fin 512) (l : Fin 1024) : ((outsAt0 m c t.val t.isLt).2.2 (ix2 r l) : EReal)
    = ∑ s : Fin 1024, term m c (t.val / 2 * 512 + r.val) l.val (t.val % 2 * 1024 + s.val) := by
  rw [outsAt0_A m c t (by omega) (by omega) (by omega)]
  frame_out
  exact (first_at _ _ _ _).trans (both m c t r l)

theorem step (h : ¬t.val % 2 = 0) (r : Fin 512) (l : Fin 1024) : ((outsAt0 m c t.val t.isLt).2.2 (ix2 r l) : EReal)
    = (outsAt0 m c (t.val - 1) (Nat.lt_of_le_of_lt (Nat.sub_le _ _) t.isLt)).2.2 (ix2 r l) + ∑ s : Fin 1024, term m c (t.val / 2 * 512 + r.val) l.val (t.val % 2 * 1024 + s.val) := by
  by_cases h3 : t.val < 2
  · rw [outsAt0_B m c t (by omega) (by omega) (by omega) (by omega) (by omega)]
    frame_out
    exact (next_at _ _ _ _ _).trans (congrArg₂ (· + ·) (congrFun ((Memref.isWhole_whole cc0_scratch0).read_unread _) _) (both m c t r l))
  · rw [outsAt0_C m c t (by omega) (by omega) (by omega) (by omega) (by omega)]
    frame_out
    exact (next_at _ _ _ _ _).trans (congrArg₂ (· + ·) (congrFun ((Memref.isWhole_whole cc0_scratch0).read_unread _) _) (both m c t r l))

/-- At the last step of a tile the accumulator is the whole product. -/
theorem acc (h : t.val % 2 = 1) (r : Fin 512) (l : Fin 1024) : ((outsAt0 m c t.val t.isLt).2.2 (ix2 r l) : EReal)
    = ∑ k : Fin 2048, term m c (t.val / 2 * 512 + r.val) l.val k.val :=
  fold (fun n hn => (outsAt0 m c n hn).2.2 (ix2 r l)) 2 1024 2048 (by omega) (by omega)
    (fun q k => term m c (q * 512 + r.val) l.val k)
    (fun u hu => start m c u hu r l) (fun u hu => step m c u hu r l) t h

/-- The difference at the last step of a tile, from what the accumulator holds. -/
theorem dif_of (h : t.val % 2 = 1) (v : Vec Ideal S512x1024 .f32) (hv : v = (outsAt0 m c t.val t.isLt).2.2) (r : Fin 512) (l : Fin 1024) :
    k0_pay4 (F := Ideal) v (bX m c t) (bG m c t) (ix2 r l) = dif m c (t.val / 2 * 512 + r.val) l.val := by
  rw [diff_at, hv]
  exact congrArg₂ (· - ·) (congrArg₂ (· + ·) (acc m c t h r l) (res m c t r l)) (gain m c t r l)

theorem part_of (h : t.val % 2 = 1) (v : Vec Ideal S512x1024 .f32) (hv : v = (outsAt0 m c t.val t.isLt).2.2) (l : Fin 128) :
    k0_pay6 (F := Ideal) v (bX m c t) (bG m c t) (ix2 0 l) = part m c (t.val / 2) := by
  rw [part_at]
  refine congrArg (· * Ideal.ofBits .f32 973078528#32) (Finset.sum_congr rfl fun r _ => Finset.sum_congr rfl fun x _ => ?_)
  exact congrArg₂ (· * ·) (dif_of m c t h v hv r x) (dif_of m c t h v hv r x)

theorem out_y (h : t.val % 2 = 1) (r : Fin 512) (l : Fin 1024) : ((outsAt0 m c t.val t.isLt).1 (ix2 r l) : EReal)
    = dif m c (t.val / 2 * 512 + r.val) l.val * Ideal.ofBits .f32 981467136#32 := by
  refine Eq.trans ?_ (congrArg (· * Ideal.ofBits .f32 981467136#32) (dif_of m c t h _ rfl r l))
  by_cases h3 : t.val < 2
  · rw [outsAt0_B m c t (by omega) (by omega) (by omega) (by omega) (by omega)]
    frame_out
    exact grad_at _ _ _ _ _
  · rw [outsAt0_C m c t (by omega) (by omega) (by omega) (by omega) (by omega)]
    frame_out
    exact grad_at _ _ _ _ _

theorem loss_first (h : t.val = 1) (l : Fin 128) : ((outsAt0 m c t.val t.isLt).2.1 (ix2 0 l) : EReal) = part m c (t.val / 2) := by
  refine Eq.trans ?_ (part_of m c t (by omega) _ rfl l)
  rw [outsAt0_B m c t (by omega) (by omega) (by omega) (by omega) (by omega)]
  frame_out

theorem loss_next (h : t.val % 2 = 1) (h3 : ¬t.val < 2) (l : Fin 128) : ((outsAt0 m c t.val t.isLt).2.1 (ix2 0 l) : EReal)
    = (outsAt0 m c (t.val - 1) (Nat.lt_of_le_of_lt (Nat.sub_le _ _) t.isLt)).2.1 (ix2 0 l) + part m c (t.val / 2) := by
  refine Eq.trans ?_ (congrArg ((outsAt0 m c (t.val - 1) (Nat.lt_of_le_of_lt (Nat.sub_le _ _) t.isLt)).2.1 (ix2 0 l) + ·) (part_of m c t (by omega) _ rfl l))
  rw [outsAt0_C m c t (by omega) (by omega) (by omega) (by omega) (by omega)]
  frame_out
  exact more_at _ _ _ _ _

theorem loss_keep (h : t.val % 2 = 0) : (outsAt0 m c t.val t.isLt).2.1
    = (outsAt0 m c (t.val - 1) (Nat.lt_of_le_of_lt (Nat.sub_le _ _) t.isLt)).2.1 := by
  rw [outsAt0_A m c t (by omega) (by omega) (by omega)]
  rfl

/-- After a tile the loss is what the tiles so far add. -/
theorem loss_at (l : Fin 128) (q : ℕ) : ∀ t : Fin cfg0.N, t.val = 2 * q + 1 → ((outsAt0 m c t.val t.isLt).2.1 (ix2 0 l) : EReal) = ∑ n ∈ Finset.range (q + 1), part m c n := by
  induction q with
  | zero =>
    intro t ht
    rw [Finset.sum_range_one, loss_first m c t (by omega) l]
    exact congrArg (part m c) (by omega)
  | succ q ih =>
    intro t ht
    have hp : t.val - 1 < cfg0.N := Nat.lt_of_le_of_lt (Nat.sub_le _ _) t.isLt
    have hpp : t.val - 1 - 1 < cfg0.N := Nat.lt_of_le_of_lt (Nat.sub_le _ _) hp
    have h1 := loss_next m c t (by omega) (by omega) l
    have h2 := loss_keep m c ⟨t.val - 1, hp⟩ (by simp only []; omega)
    have h3 := ih ⟨t.val - 1 - 1, hpp⟩ (by simp only []; omega)
    rw [Finset.sum_range_succ, ← h3, h1, h2]
    exact congrArg (_ + ·) (congrArg (part m c) (by omega))

theorem loss_sum : (∑ n ∈ Finset.range 8, part m c n) = (∑ i : Fin 4096, sq m c i.val) * Ideal.ofBits .f32 973078528#32 := by
  unfold part
  rw [Fin.sum_univ_eq_sum_range (fun k => sq m c k) 4096, show 4096 = 8 * 512 from rfl, Finset.sum_range_mul_split, c_half_inv, sum_scale _ _ _ (by norm_num)]
  refine Finset.sum_congr rfl fun n _ => congrArg (· * _) ?_
  exact Fin.sum_univ_eq_sum_range (fun s => sq m c (n * 512 + s)) 512

theorem out_z (h : t.val = 15) (l : Fin 128) : ((outsAt0 m c t.val t.isLt).2.1 (ix2 0 l) : EReal)
    = (∑ i : Fin 4096, sq m c i.val) * Ideal.ofBits .f32 973078528#32 := by
  rw [← loss_sum m c]
  exact loss_at m c l 7 t (by omega)

/-- The gradient of the loss, and the loss in every lane. -/
def Y : FVec Ideal S4096x1024 .f32 := fun i => dif m c (i 0).val (i 1).val * Ideal.ofBits .f32 981467136#32
def Z : FVec Ideal S1x128 .f32 := fun _ => (∑ i : Fin 4096, sq m c i.val) * Ideal.ofBits .f32 973078528#32

theorem result4 : (dats m 0 c).arrAt 4 cfg0.N = Y m c := by
  refine (dats m 0 c).arrAt_eq_of_covers 4 _ (by decide +kernel) fun t hf y => ?_
  blk_simp; rw [after0_4]
  have ht : t.val < 16 := lt_of_lt_of_eq t.isLt N_0
  have hm : t.val % 2 = 1 := by have := (flush0_4 t).mp hf; omega
  obtain ⟨-, -, -, -, h4, -⟩ := idx t
  idx_vars y
  have e : Y m c (((View.whole main_v0_0).slice (win0_4.rect t)).emb (ix2 y0 y1)) = Y m c (ix2 ⟨t.val / 2 * 512 + y0.val, by omega⟩ y1) := by
    generalize Y m c = X
    blk_ext [h4]
  exact (out_y m c t hm y0 y1).trans e.symm

theorem result5 : (dats m 0 c).arrAt 5 cfg0.N = Z m c := by
  refine (dats m 0 c).arrAt_eq_of_covers 5 _ (by decide +kernel) fun t hf y => ?_
  blk_simp; rw [after0_5]
  have ht : t.val < 16 := lt_of_lt_of_eq t.isLt N_0
  have hm : t.val = 15 := by have := (flush0_5 t).mp hf; omega
  idx_vars y
  have h0 : y0 = 0 := Subsingleton.elim _ _
  subst h0
  exact out_z m c t hm y1

open Cert.Reference19Ideal Cert.Reference19Ideal.Read in
theorem reads3 (i : S4096x1024.Idx) : (val_main_v4 (F := Ideal) (aA m c) (aB m c) (aX m c) (aG m c) i : EReal) = dif m c (i 0).val (i 1).val := by
  idx_vars i
  simp only [val_main_v4_apply, val_main_v3_apply, val_main_v2_apply, val_main_v1_apply, val_main_v0_apply]
  refine congrArg₂ (· - ·) ((add_comm _ _).trans (congrArg₂ (· + ·) (Finset.sum_congr rfl fun k _ => ?_) ?_)) ?_
  · exact (congrArg₂ (· * ·) (rd2_idx (aA m c) _ _ _ (by first | rfl | (simp only []; try omega)) (by first | rfl | (simp only []; try omega))) (rd2_idx (aB m c) _ _ _ (by first | rfl | (simp only []; try omega)) (by first | rfl | (simp only []; try omega))))
  · exact rd2_idx (aX m c) _ _ _ (by first | rfl | (simp only []; try omega)) (by first | rfl | (simp only []; try omega))
  · exact rd2_idx (aG m c) _ _ _ (by first | rfl | (simp only []; try omega)) (by first | rfl | (simp only []; try omega))

open Cert.Reference19Ideal Cert.Reference19Ideal.Read in
theorem reads4 : val_main_v18 (F := Ideal) (aA m c) (aB m c) (aX m c) (aG m c) = Y m c := by
  funext i
  have h3 := reads3 m c i
  pointwise [val_main_v18_apply, val_main_v17_apply, val_main_v16_apply, val_main_v15_apply, val_main_v14_apply, val_main_v13_apply, val_main_v7_apply, val_main_v6_apply, val_main_cst_apply, val_main_cst_4_apply, val_main_cst_5_apply, val_main_cst_6_apply, h3]
  rw [c_half, c_two, c_n, Ideal.div_coe (by norm_num), ← mul_assoc, ← EReal.coe_mul, ← EReal.coe_mul, mul_comm]
  unfold Y
  rw [c_inv]
  refine congrArg _ ?_
  norm_num

open Cert.Reference19Ideal Cert.Reference19Ideal.Read in
theorem reads5 : val_main_v19 (F := Ideal) (aA m c) (aB m c) (aX m c) (aG m c) = Z m c := by
  have h3 := reads3 m c
  funext i
  idx_vars i
  pointwise [val_main_v19_apply, val_main_v12_apply, val_main_v11_apply, val_main_v10_apply, val_main_v9_apply, val_main_v8_apply, val_main_v5_apply, val_main_cst_0_apply, val_main_cst_1_apply, val_main_cst_2_apply, val_main_cst_3_apply, h3]
  refine Eq.trans (congrArg (_ * ·) (Finset.sum_congr rfl fun j _ => ?_)) (?_ : Ideal.ofBits .f32 1056964608#32 * (∑ j : S4096.Idx, sq m c (j 0).val * ((1 / 1024 : ℝ) : EReal)) = _)
  · rw [c_n, Ideal.div_coe (by norm_num)]
    rfl
  · rw [c_half, ← sum_scale _ _ _ (by norm_num), mul_comm, mul_assoc, ← EReal.coe_mul]
    unfold Z
    rw [c_half_inv, sum_idx1]
    refine congrArg₂ (· * ·) rfl (congrArg _ ?_)
    norm_num

end Cert.Kernel19Ideal.Value

end
-- ==== Proof.NormGrad.lean ====
module

public import proofs.«01_k».proof.Proof.Norm

/-! The gradient of a row over its root mean square, in the two ways it is computed.

With `r` one over the root of the mean square, `a` the incoming gradient times the gain and `x` the row, one way is
`r * (a - x * r * mean (a * (x * r)))`. The other differentiates the mean square, and meets the row twice because the
square is a product: `a * r + x * c + c * x` with `c = (∑ x * a) * (-1/2 * (r / v)) / 1024` and `r = 1 / sqrt v`.
If `v` is infinite, `r` is zero and both are zero. Otherwise `r` is a positive real number, which may be taken out of
every sum, and `r / v` is its cube. -/

@[expose] public section

set_option maxRecDepth 16384

noncomputable section
open Idealize.ShloMosaic Idealize.ShloMosaic.TcCoe Idealize.SL.Sem
namespace Cert.Norm

/-- The number of entries of a row, the small constant, and minus one half. -/
abbrev num : EReal := Ideal.ofBits .f32 1149239296#32
abbrev small : EReal := Ideal.ofBits .f32 897988541#32
abbrev mhalf : EReal := Ideal.ofBits .f32 3204448256#32

theorem num_eq : num = ((1024 : ℝ) : EReal) := by
  unfold num
  simp [Ideal.ofBits, Ideal.ieee]
  rw [← EReal.coe_mul]
  norm_num
theorem small_eq : small = ((8796093 / 2 ^ 43 : ℝ) : EReal) := by
  unfold small
  simp [Ideal.ofBits, Ideal.ieee]
  rw [← EReal.coe_mul]
  norm_num
theorem mhalf_eq : mhalf = ((-(1 / 2) : ℝ) : EReal) := by
  unfold mhalf
  simp [Ideal.ofBits, Ideal.ieee]
  rw [← EReal.coe_mul]
  norm_num

/-- The mean square of a row, with the small constant, and one over its root. -/
def msq (x : Fin 1024 → EReal) : EReal := Ideal.div (∑ k, x k * x k) num + small
def rinv (x : Fin 1024 → EReal) : EReal := Ideal.rsqrt (msq x)

/-- The gradient as the kernel computes it, added to `y`. -/
def back (x a : Fin 1024 → EReal) (l : Fin 1024) (y : EReal) : EReal :=
  y + rinv x * (a l - x l * rinv x * Ideal.div (∑ k, a k * (x k * rinv x)) num)

/-- The factor of the row in the reference's gradient. -/
def coef (x a : Fin 1024 → EReal) : EReal :=
  Ideal.div ((∑ k, x k * a k) * (mhalf * Ideal.div (rinv x) (msq x))) num

theorem div_num (y : EReal) : Ideal.div y num = y * ((1024⁻¹ : ℝ) : EReal) := by
  rw [num_eq, Ideal.div_coe (by norm_num), one_div]

theorem msq_cases (x : Fin 1024 → EReal) : msq x = ⊤ ∨ ∃ v : ℝ, 0 < v ∧ msq x = v := by
  have h0 : (0 : EReal) ≤ ∑ k, x k * x k := Finset.sum_nonneg fun k _ => by
    rcases le_total 0 (x k) with h | h
    · exact mul_nonneg h h
    · rw [← neg_mul_neg]
      exact mul_nonneg (by simpa using h) (by simpa using h)
  have h1 : (0 : EReal) ≤ (∑ k, x k * x k) * ((1024⁻¹ : ℝ) : EReal) := mul_nonneg h0 (by exact_mod_cast (by norm_num : (0 : ℝ) ≤ 1024⁻¹))
  rw [msq, div_num, small_eq]
  generalize (∑ k, x k * x k) * ((1024⁻¹ : ℝ) : EReal) = s at h1
  induction s with
  | bot => exact absurd h1 (by simp)
  | top => exact .inl (EReal.top_add_coe _)
  | coe s =>
    have : (0 : ℝ) ≤ s := by exact_mod_cast h1
    exact .inr ⟨s + 8796093 / 2 ^ 43, by positivity, by rw [EReal.coe_add]⟩

theorem sum_mul_real (f : Fin 1024 → EReal) (r : ℝ) (hr : 0 ≤ r) : (∑ k, f k * (r : EReal)) = (∑ k, f k) * (r : EReal) := by
  induction (Finset.univ : Finset (Fin 1024)) using Finset.cons_induction with
  | empty => simp
  | cons a s h ih => rw [Finset.sum_cons, Finset.sum_cons, ih, EReal.right_distrib_of_nonneg_of_ne_top (by exact_mod_cast hr) (EReal.coe_ne_top _)]

/-- The two ways agree. -/
theorem back_eq (x a : Fin 1024 → EReal) (l : Fin 1024) (y : EReal) :
    back x a l y = y + (a l * rinv x + x l * coef x a + coef x a * x l) := by
  rw [back]
  congr 1
  rcases msq_cases x with hv | ⟨v, hv0, hv⟩
  · have hr : rinv x = 0 := by rw [rinv, hv, Ideal.rsqrt_top]
    have hd : Ideal.div 0 (⊤ : EReal) = 0 := by simp [Ideal.div]
    rw [coef, hr, hv, hd, div_num, div_num]
    simp
  · obtain ⟨r, hr0, hr, hc⟩ : ∃ r : ℝ, 0 < r ∧ rinv x = r ∧ r * v⁻¹ = r * (r * r) := by
      have hs : 0 < Real.sqrt v := Real.sqrt_pos.2 hv0
      refine ⟨(Real.sqrt v)⁻¹, by positivity, by rw [rinv, hv, Ideal.rsqrt_coe, if_neg (not_lt.2 hv0.le), if_neg hv0.ne'], ?_⟩
      congr 1
      rw [← mul_inv, Real.mul_self_sqrt hv0.le]
    have hS : (∑ k, a k * (x k * rinv x)) = (∑ k, x k * a k) * (r : EReal) := by
      rw [← sum_mul_real _ r hr0.le, hr]
      exact Finset.sum_congr rfl fun k _ => by rw [← mul_assoc, mul_comm (a k)]
    rw [hS, coef, hr, hv, Ideal.div_coe hv0.ne', one_div, div_num, div_num, mhalf_eq]
    generalize (∑ k, x k * a k) = S
    generalize x l = X
    generalize a l = A
    have e1 : (r : EReal) * (A - X * r * (S * r * ((1024⁻¹ : ℝ) : EReal))) = A * r + X * S * ((-(r * (r * r)) * 1024⁻¹ : ℝ) : EReal) := by
      have : X * r * (S * r * ((1024⁻¹ : ℝ) : EReal)) = X * S * ((r * r * 1024⁻¹ : ℝ) : EReal) := by
        push_cast; ac_rfl
      rw [this, sub_eq_add_neg, EReal.left_distrib_of_nonneg_of_ne_top (by exact_mod_cast hr0.le) (EReal.coe_ne_top _), mul_comm _ A, mul_neg, mul_comm (r : EReal), mul_assoc,
        ← EReal.coe_mul, ← mul_neg, ← EReal.coe_neg]
      congr 3
      ring
    have e2 : ∀ z : EReal, z * ((1 / 2 : ℝ) : EReal) + z * ((1 / 2 : ℝ) : EReal) = z := fun z => by
      rw [← EReal.left_distrib_of_nonneg (by exact_mod_cast (by norm_num : (0 : ℝ) ≤ 1 / 2)) (by exact_mod_cast (by norm_num : (0 : ℝ) ≤ 1 / 2)), ← EReal.coe_add]
      norm_num
    have e3 : X * (S * (((-(1 / 2) : ℝ) : EReal) * (r * ((v⁻¹ : ℝ) : EReal))) * ((1024⁻¹ : ℝ) : EReal)) = X * S * ((-(r * (r * r)) * 1024⁻¹ : ℝ) : EReal) * ((1 / 2 : ℝ) : EReal) := by
      rw [← EReal.coe_mul, hc, ← EReal.coe_mul, mul_assoc S, ← EReal.coe_mul, ← mul_assoc X, mul_assoc (X * S), ← EReal.coe_mul]
      congr 2
      ring
    have e4 := e2 (X * S * ((-(r * (r * r)) * 1024⁻¹ : ℝ) : EReal))
    rw [e1, add_assoc, mul_comm (_ * ((1024⁻¹ : ℝ) : EReal)) X, e3, e4]

end Cert.Norm

end
-- ==== Proof.Product24.lean ====
module

public import proofs.«01_k».proof.Proof.Gen.Kernel24Ideal.Value
public import proofs.«01_k».proof.Proof.Gen.Reference24Ideal.Read
public import proofs.«01_k».proof.Proof.Product
public import proofs.«01_k».proof.Proof.NormGrad

/-! The gradient of the normalised rows, and of the gain. The gain's gradient is a sum over all rows, collected tile after
tile. -/

@[expose] public section

set_option maxRecDepth 16384

noncomputable section
open Idealize.ShloMosaic Idealize.ShloMosaic.TcCoe Idealize.SL.Sem
namespace Cert.Kernel24Ideal.Value
open Cert.Kernel24Ideal Cert.Kernel24Ideal.Gen Cert.Product Cert.Norm

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![0, 0] :=
  (by decide +kernel : ∀ t : Fin grid0.N, _)

theorem rows_at (d x y : Vec Ideal S512x1024 .f32) (g : Vec Ideal S1x1024 .f32) (r : Fin 512) (l : Fin 1024) :
    (k0_pay4 (F := Ideal) d x g y (ix2 r l) : EReal) = back (fun k => x (ix2 r k)) (fun k => d (ix2 r k) * g (ix2 0 k)) l (y (ix2 r l)) := by
  unfold back rinv msq
  pointwise [k0_pay4, k0_pay3, k0_pay2]

theorem gain_at (d x : Vec Ideal S512x1024 .f32) (l : Fin 1024) :
    (k0_pay5 (F := Ideal) d x (ix2 0 l) : EReal) = ∑ r : Fin 512, d (ix2 r l) * (x (ix2 r l) * rinv (fun k => x (ix2 r k))) := by
  unfold rinv msq
  pointwise [k0_pay5, k0_pay3, k0_pay2]

theorem more_at (v : FVec Ideal S1x1024 .f32) (z : Vec Ideal S1x1024 .f32) (l : Fin 1024) :
    (k0_pay1 (F := Ideal) v z (ix2 0 l) : EReal) = z (ix2 0 l) + v (ix2 0 l) := by
  pointwise [k0_pay1]

variable (m : (ℓ : Loc nD τ sig) → Buf (Elt Ideal) ℓ) (c : Dev nD) (t : Fin cfg0.N)

/-- The incoming gradient, the rows, the gain and the gradient of the residual. -/
abbrev aD : FVec Ideal S4096x1024 .f32 := m ((c.tc : Thread nD τ).loc main_arg0)
abbrev aX : FVec Ideal S4096x1024 .f32 := m ((c.tc : Thread nD τ).loc main_arg1)
abbrev aG : FVec Ideal S1x1024 .f32 := m ((c.tc : Thread nD τ).loc main_arg2)
abbrev aR : FVec Ideal S4096x1024 .f32 := m ((c.tc : Thread nD τ).loc main_arg3)

/-- The blocks of a point. -/
abbrev bD : FVec Ideal S512x1024 .f32 := iblk m c 0 t
abbrev bX : FVec Ideal S512x1024 .f32 := iblk m c 1 t
abbrev bG : FVec Ideal S1x1024 .f32 := iblk m c 2 t
abbrev bR : FVec Ideal S512x1024 .f32 := iblk m c 3 t

/-- A row, and its incoming gradient times the gain. -/
def row (i : ℕ) (k : Fin 1024) : EReal := rd2 (aX m c) i k.val
def inc (i : ℕ) (k : Fin 1024) : EReal := rd2 (aD m c) i k.val * rd2 (aG m c) 0 k.val
/-- What a row gives to the gain's gradient. -/
def term (j i : ℕ) : EReal := rd2 (aD m c) i j * (rd2 (aX m c) i j * rinv (row m c i))

theorem bD_at (r : Fin 512) (l : Fin 1024) : bD m c t (ix2 r l) = rd2 (aD m c) (t.val * 512 + r.val) l.val := by
  have ht : t.val < 8 := lt_of_lt_of_eq t.isLt N_0
  obtain ⟨h, -⟩ := idx t
  have e : bD m c t (ix2 r l) = aD m c (ix2 ⟨t.val * 512 + r.val, by omega⟩ l) := by
    blk_ext [iblk, V, h]
  rw [e]
  exact rd2_of (aD m c) _ _ _ _ _ _ (by omega) (by omega)
theorem bX_at (r : Fin 512) (l : Fin 1024) : bX m c t (ix2 r l) = rd2 (aX m c) (t.val * 512 + r.val) l.val := by
  have ht : t.val < 8 := lt_of_lt_of_eq t.isLt N_0
  obtain ⟨-, h, -⟩ := idx t
  have e : bX m c t (ix2 r l) = aX m c (ix2 ⟨t.val * 512 + r.val, by omega⟩ l) := by
    blk_ext [iblk, V, h]
  rw [e]
  exact rd2_of (aX m c) _ _ _ _ _ _ (by omega) (by omega)
theorem bR_at (r : Fin 512) (l : Fin 1024) : bR m c t (ix2 r l) = rd2 (aR m c) (t.val * 512 + r.val) l.val := by
  have ht : t.val < 8 := lt_of_lt_of_eq t.isLt N_0
  obtain ⟨-, -, -, h, -⟩ := idx t
  have e : bR m c t (ix2 r l) = aR m c (ix2 ⟨t.val * 512 + r.val, by omega⟩ l) := by
    blk_ext [iblk, V, h]
  rw [e]
  exact rd2_of (aR m c) _ _ _ _ _ _ (by omega) (by omega)
theorem bG_at (l : Fin 1024) : bG m c t (ix2 0 l) = rd2 (aG m c) 0 l.val := by
  obtain ⟨-, -, h, -⟩ := idx t
  have e : bG m c t (ix2 0 l) = aG m c (ix2 0 l) := by
    blk_ext [iblk, V, h]
  rw [e]
  exact rd2_of (aG m c) _ _ _ _ _ _ (by omega) (by omega)

theorem rows_scr (r : Fin 512) (l : Fin 1024) : ((outsAt0 m c t.val t.isLt).1 (ix2 r l) : EReal)
    = back (fun k => bX m c t (ix2 r k)) (fun k => bD m c t (ix2 r k) * bG m c t (ix2 0 k)) l (bR m c t (ix2 r l)) := by
  have ht : t.val < 8 := lt_of_lt_of_eq t.isLt N_0
  by_cases h : 1 ≤ t.val
  · rw [outsAt0_B m c t (by omega) h]
    frame_out
    exact rows_at _ _ _ _ _ _
  · rw [outsAt0_A m c t (by omega) h]
    frame_out
    exact rows_at _ _ _ _ _ _

theorem out_y (r : Fin 512) (l : Fin 1024) : ((outsAt0 m c t.val t.isLt).1 (ix2 r l) : EReal)
    = back (row m c (t.val * 512 + r.val)) (inc m c (t.val * 512 + r.val)) l (rd2 (aR m c) (t.val * 512 + r.val) l.val) := by
  rw [rows_scr m c t r l, bR_at m c t r l]
  congr 1
  · funext k; exact bX_at m c t r k
  · funext k; exact congrArg₂ (· * ·) (bD_at m c t r k) (bG_at m c t k)

theorem tile (l : Fin 1024) : (∑ r : Fin 512, bD m c t (ix2 r l) * (bX m c t (ix2 r l) * rinv (fun k => bX m c t (ix2 r k))))
    = ∑ r : Fin 512, term m c l.val (t.val % 8 * 512 + r.val) := by
  have ht : t.val < 8 := lt_of_lt_of_eq t.isLt N_0
  refine Finset.sum_congr rfl fun r _ => ?_
  rw [Nat.mod_eq_of_lt ht]
  exact congrArg₂ (· * ·) (bD_at m c t r l) (congrArg₂ (· * ·) (bX_at m c t r l) (congrArg rinv (funext fun k => bX_at m c t r k)))

theorem start (h : t.val % 8 = 0) (l : Fin 1024) : ((outsAt0 m c t.val t.isLt).2 (ix2 0 l) : EReal)
    = ∑ r : Fin 512, term m c l.val (t.val % 8 * 512 + r.val) := by
  have ht : t.val < 8 := lt_of_lt_of_eq t.isLt N_0
  rw [outsAt0_A m c t h (by omega)]
  frame_out
  exact (gain_at _ _ _).trans (tile m c t l)

theorem step (h : ¬t.val % 8 = 0) (l : Fin 1024) : ((outsAt0 m c t.val t.isLt).2 (ix2 0 l) : EReal)
    = (outsAt0 m c (t.val - 1) (Nat.lt_of_le_of_lt (Nat.sub_le _ _) t.isLt)).2 (ix2 0 l) + ∑ r : Fin 512, term m c l.val (t.val % 8 * 512 + r.val) := by
  rw [outsAt0_B m c t h (by omega)]
  frame_out
  refine (more_at _ _ _).trans (congrArg₂ (· + ·) ?_ ((gain_at _ _ _).trans (tile m c t l)))
  rfl

theorem out_z (h : t.val % 8 = 7) (l : Fin 1024) : ((outsAt0 m c t.val t.isLt).2 (ix2 0 l) : EReal) = ∑ r : Fin 4096, term m c l.val r.val :=
  fold (fun n hn => (outsAt0 m c n hn).2 (ix2 0 l)) 8 512 4096 (by omega) (by omega)
    (fun q k => term m c l.val k) (fun u hu => start m c u hu l) (fun u hu => step m c u hu l) t h

/-- The gradient of the rows and of the gain. -/
def Y : FVec Ideal S4096x1024 .f32 := fun i => back (row m c (i 0).val) (inc m c (i 0).val) (i 1) (rd2 (aR m c) (i 0).val (i 1).val)
def Z : FVec Ideal S1x1024 .f32 := fun i => ∑ r : Fin 4096, term m c (i 1).val r.val

theorem result4 : (dats m 0 c).arrAt 4 cfg0.N = Y m c := by
  refine (dats m 0 c).arrAt_eq_of_covers 4 _ (by decide +kernel) fun t hf y => ?_
  blk_simp; rw [after0_4]
  have ht : t.val < 8 := lt_of_lt_of_eq t.isLt N_0
  obtain ⟨-, -, -, -, h4, -⟩ := idx t
  idx_vars y
  have e : Y m c (((View.whole main_v0_0).slice (win0_4.rect t)).emb (ix2 y0 y1)) = Y m c (ix2 ⟨t.val * 512 + y0.val, by omega⟩ y1) := by
    generalize Y m c = X
    blk_ext [h4]
  exact (out_y m c t y0 y1).trans e.symm

theorem result5 : (dats m 0 c).arrAt 5 cfg0.N = Z m c := by
  refine (dats m 0 c).arrAt_eq_of_covers 5 _ (by decide +kernel) fun t hf y => ?_
  blk_simp; rw [after0_5]
  have ht : t.val < 8 := lt_of_lt_of_eq t.isLt N_0
  have hm : t.val % 8 = 7 := by have := (flush0_5 t).mp hf; omega
  obtain ⟨-, -, -, -, -, h5⟩ := idx t
  idx_vars y
  have e : Z m c (((View.whole main_v0_1).slice (win0_5.rect t)).emb (ix2 y0 y1)) = Z m c (ix2 0 y1) := by
    generalize Z m c = X
    blk_ext [h5]
  have e0 : y0 = 0 := Fin.ext (by omega)
  rw [e0]
  rw [e0] at e
  exact (out_z m c t hm y1).trans e.symm

section
open Cert.Reference24Ideal Cert.Reference24Ideal.Read
variable (x0 x1 : FVec Ideal S4096x1024 .f32) (x2 : FVec Ideal S1x1024 .f32) (x3 : FVec Ideal S4096x1024 .f32)

theorem r6 (r : Fin 4096) : (val_main_v6 (F := Ideal) x1 (ix2 r 0) : EReal) = msq (fun k => x1 (ix2 r k)) := by
  unfold msq
  pointwise [val_main_v6, val_main_v5, val_main_v4, val_main_v3, val_main_v2, val_main_v1, val_main_v0, val_main_cst, val_main_cst_0, val_main_cst_1]
theorem r7 (r : Fin 4096) : (val_main_v7 (F := Ideal) x1 (ix2 r 0) : EReal) = rinv (fun k => x1 (ix2 r k)) := by
  rw [rinv, ← r6]
  pointwise [val_main_v7]
theorem r29 (r : Fin 4096) (l : Fin 1024) : (val_main_v29 (F := Ideal) x0 x1 x2 (ix2 r l) : EReal)
    = coef (fun k => x1 (ix2 r k)) (fun k => x0 (ix2 r k) * x2 (ix2 0 k)) := by
  rw [coef, ← r6, ← r7]
  pointwise [val_main_v29, val_main_v28, val_main_v27, val_main_v26, val_main_v25, val_main_v22, val_main_v21, val_main_v20, val_main_v19, val_main_v18, val_main_v10, val_main_v9, val_main_v8, val_main_cst_2, val_main_cst_4, val_main_cst_5, val_main_cst_6]
  exact (Finset.sum_eq_single 0 (fun x _ h => absurd (Fin.ext (by omega)) h) (fun h => absurd (Finset.mem_univ _) h))
theorem r34 (r : Fin 4096) (l : Fin 1024) : (val_main_v34 (F := Ideal) x0 x1 x2 x3 (ix2 r l) : EReal)
    = back (fun k => x1 (ix2 r k)) (fun k => x0 (ix2 r k) * x2 (ix2 0 k)) l (x3 (ix2 r l)) := by
  have e : (val_main_v34 (F := Ideal) x0 x1 x2 x3 (ix2 r l) : EReal) = x3 (ix2 r l) + (x0 (ix2 r l) * x2 (ix2 0 l) * val_main_v7 (F := Ideal) x1 (ix2 r 0)
      + x1 (ix2 r l) * val_main_v29 (F := Ideal) x0 x1 x2 (ix2 r l) + val_main_v29 (F := Ideal) x0 x1 x2 (ix2 r l) * x1 (ix2 r l)) := by
    pointwise [val_main_v34, val_main_v33, val_main_v32, val_main_v31, val_main_v30, val_main_v24, val_main_v23, val_main_v19, val_main_v18]
  rw [e, r7, r29, back_eq]
theorem r17 (l : Fin 1024) : (val_main_v17 (F := Ideal) x0 x1 (ix2 0 l) : EReal)
    = ∑ r : Fin 4096, x0 (ix2 r l) * (x1 (ix2 r l) * rinv (fun k => x1 (ix2 r k))) := by
  have e : (val_main_v17 (F := Ideal) x0 x1 (ix2 0 l) : EReal) = ∑ r : Fin 4096, x1 (ix2 r l) * val_main_v7 (F := Ideal) x1 (ix2 r 0) * x0 (ix2 r l) := by
    pointwise [val_main_v17, val_main_v16, val_main_v15, val_main_v12, val_main_v11, val_main_cst_3]
  rw [e]
  exact Finset.sum_congr rfl fun r _ => by rw [r7, mul_comm]
end

theorem row_eq (r : Fin 4096) : (fun k => aX m c (ix2 r k)) = row m c r.val :=
  funext fun k => rd2_of (aX m c) _ _ _ _ _ _ rfl rfl
theorem inc_eq (r : Fin 4096) : (fun k => aD m c (ix2 r k) * aG m c (ix2 0 k) : Fin 1024 → EReal) = inc m c r.val :=
  funext fun k => congrArg₂ (· * ·) (rd2_of (aD m c) _ _ _ _ _ _ rfl rfl) (rd2_of (aG m c) _ _ _ _ _ _ rfl rfl)

theorem reads4 : Cert.Reference24Ideal.Read.val_main_v34 (F := Ideal) (aD m c) (aX m c) (aG m c) (aR m c) = Y m c := by
  funext i
  idx_vars i
  refine (r34 _ _ _ _ i0 i1).trans ?_
  rw [row_eq, inc_eq, rd2_of (aR m c) _ _ i0.val i1.val i0.isLt i1.isLt rfl rfl]
  rfl
theorem reads5 : Cert.Reference24Ideal.Read.val_main_v17 (F := Ideal) (aD m c) (aX m c) = Z m c := by
  funext i
  idx_vars i
  have e0 : i0 = 0 := Fin.ext (by omega)
  rw [e0]
  refine (r17 _ _ i1).trans ?_
  refine Finset.sum_congr rfl fun r _ => ?_
  rw [row_eq]
  exact congrArg₂ (· * ·) (rd2_of (aD m c) _ _ _ _ _ _ rfl rfl) (congrArg₂ (· * ·) (rd2_of (aX m c) _ _ _ _ _ _ rfl rfl) rfl)

end Cert.Kernel24Ideal.Value

end
-- ==== Proof.Product23.lean ====
module

public import proofs.«01_k».proof.Proof.Gen.Kernel23Ideal.Frame
public import proofs.«01_k».proof.Proof.Gen.Reference23Ideal.Read
public import proofs.«01_k».proof.Proof.Triple
public import proofs.«01_k».proof.Proof.Product24

/-! Three products added in one accumulator, as before, and at the last step of a tile the gradient of the normalised rows
with the sum as the incoming gradient. The gain's gradient stays in its buffer from one tile to the next. -/

@[expose] public section

set_option maxRecDepth 16384

noncomputable section
open Idealize.ShloMosaic Idealize.ShloMosaic.TcCoe Idealize.SL.Sem
namespace Cert.Kernel23Ideal.Value
open Cert.Kernel23Ideal Cert.Kernel23Ideal.Gen Cert.Product Cert.Triple Cert.Norm

/-- The block positions, each where its product is at work. -/
theorem idx : ∀ t : Fin cfg0.N, (t.val % 7 ≤ 3 → win0_0.index t = ![t.val / 7, t.val % 7] ∧ win0_1.index t = ![0, t.val % 7])
    ∧ (4 ≤ t.val % 7 → t.val % 7 ≤ 5 → win0_2.index t = ![t.val / 7, t.val % 7 - 4] ∧ win0_3.index t = ![0, t.val % 7])
    ∧ win0_4.index t = ![t.val / 7, 0] ∧ win0_5.index t = ![0, 0] ∧ win0_6.index t = ![t.val / 7, 0] ∧ win0_7.index t = ![0, 0] ∧ win0_8.index t = ![t.val / 7, 0]
    ∧ win0_9.index t = ![t.val / 7, 0] ∧ win0_10.index t = ![0, 0] :=
  (by decide +kernel : ∀ t : Fin grid0.N, _)

theorem first_at (x : Vec Ideal S512x1024 .bf16) (y : Vec Ideal S1024x1024 .bf16) (r : Fin 512) (l : Fin 1024) : k0_pay2 x y (ix2 r l) = (∑ s : Fin 1024, x (ix2 r s) * y (ix2 l s) : EReal) := by
  pointwise [k0_pay2, k0_pay1]

theorem next_at (x : Vec Ideal S512x1024 .bf16) (y : Vec Ideal S1024x1024 .bf16) (z : Vec Ideal S512x1024 .f32) (r : Fin 512) (l : Fin 1024) : k0_pay3 x y z (ix2 r l) = z (ix2 r l) + (∑ s : Fin 1024, x (ix2 r s) * y (ix2 l s) : EReal) := by
  pointwise [k0_pay3, k0_pay1]

theorem more_at (x : Vec Ideal S512x1024 .bf16) (y : Vec Ideal S1024x1024 .bf16) (z : Vec Ideal S512x1024 .f32) (r : Fin 512) (l : Fin 1024) : k0_pay4 x y z (ix2 r l) = z (ix2 r l) + (∑ s : Fin 1024, x (ix2 r s) * y (ix2 l s) : EReal) := by
  pointwise [k0_pay4]

theorem last_at (x : Vec Ideal S512x128 .f32) (y : Vec Ideal S1024x128 .bf16) (z : Vec Ideal S512x1024 .f32) (r : Fin 512) (l : Fin 1024) : k0_pay5 x y z (ix2 r l) = z (ix2 r l) + (∑ s : Fin 128, x (ix2 r s) * y (ix2 l s) : EReal) := by
  pointwise [k0_pay5]

theorem rows_at (d x y : Vec Ideal S512x1024 .f32) (g : Vec Ideal S1x1024 .f32) (r : Fin 512) (l : Fin 1024) :
    (k0_pay8 (F := Ideal) d x g y (ix2 r l) : EReal) = back (fun k => x (ix2 r k)) (fun k => d (ix2 r k) * g (ix2 0 k)) l (y (ix2 r l)) := by
  unfold back rinv msq
  pointwise [k0_pay8, k0_pay7, k0_pay6]

theorem gain_at (d x : Vec Ideal S512x1024 .f32) (l : Fin 1024) :
    (k0_pay9 (F := Ideal) d x (ix2 0 l) : EReal) = ∑ r : Fin 512, d (ix2 r l) * (x (ix2 r l) * rinv (fun k => x (ix2 r k))) := by
  unfold rinv msq
  pointwise [k0_pay9, k0_pay7, k0_pay6]

theorem grow_at (d x : Vec Ideal S512x1024 .f32) (z : Vec Ideal S1x1024 .f32) (l : Fin 1024) :
    (k0_pay10 (F := Ideal) d x z (ix2 0 l) : EReal) = z (ix2 0 l) + k0_pay9 (F := Ideal) d x (ix2 0 l) := by
  pointwise [k0_pay10]

variable (m : (ℓ : Loc nD τ sig) → Buf (Elt Ideal) ℓ) (c : Dev nD) (t : Fin cfg0.N)

/-- The arguments. -/
abbrev a0 : FVec Ideal S4096x4096 .bf16 := m ((c.tc : Thread nD τ).loc main_arg0)
abbrev a1 : FVec Ideal S1024x6160 .bf16 := m ((c.tc : Thread nD τ).loc main_arg1)
abbrev a2 : FVec Ideal S4096x2048 .bf16 := m ((c.tc : Thread nD τ).loc main_arg2)
abbrev a3 : FVec Ideal S4096x128 .f32 := m ((c.tc : Thread nD τ).loc main_arg3)
abbrev a4 : FVec Ideal S1024x128 .bf16 := m ((c.tc : Thread nD τ).loc main_arg4)
abbrev aX : FVec Ideal S4096x1024 .f32 := m ((c.tc : Thread nD τ).loc main_arg5)
abbrev aG : FVec Ideal S1x1024 .f32 := m ((c.tc : Thread nD τ).loc main_arg6)
abbrev aR : FVec Ideal S4096x1024 .f32 := m ((c.tc : Thread nD τ).loc main_arg7)

/-- The blocks of a point. -/
abbrev b0 : FVec Ideal S512x1024 .bf16 := iblk m c 0 t
abbrev b1 : FVec Ideal S1024x1024 .bf16 := X0_1 m c t
abbrev b2 : FVec Ideal S512x1024 .bf16 := iblk m c 2 t
abbrev b3 : FVec Ideal S1024x1024 .bf16 := X0_3 m c t
abbrev b4 : FVec Ideal S512x128 .f32 := iblk m c 4 t
abbrev b5 : FVec Ideal S1024x128 .bf16 := iblk m c 5 t
abbrev bX : FVec Ideal S512x1024 .f32 := iblk m c 6 t
abbrev bG : FVec Ideal S1x1024 .f32 := iblk m c 7 t
abbrev bR : FVec Ideal S512x1024 .f32 := iblk m c 8 t

theorem at0 (h : t.val % 7 ≤ 3) (s : Fin 1024) (r : Fin 512) : (b0 m c t (ix2 r s) : EReal) = rd2 (a0 m c) (t.val / 7 * 512 + r.val) (t.val % 7 * 1024 + s.val) := by
  have ht : t.val < 56 := lt_of_lt_of_eq t.isLt N_0
  obtain ⟨h0, h1⟩ := (idx t).1 h
  have e : (b0 m c t (ix2 r s) : EReal) = a0 m c (ix2 ⟨t.val / 7 * 512 + r.val, by omega⟩ ⟨t.val % 7 * 1024 + s.val, by omega⟩) := by
    blk_ext [iblk, V, h0]
  rw [e]
  exact rd2_of (a0 m c) _ _ _ _ _ _ (by omega) (by omega)

theorem at1 (h : t.val % 7 ≤ 3) (s l : Fin 1024) : (b1 m c t (ix2 l s) : EReal) = rd2 (a1 m c) l.val (t.val % 7 * 1024 + s.val) := by
  obtain ⟨h0, h1⟩ := (idx t).1 h
  have e : (X0_1 m c t (ix2 l s) : EReal) = a1 m c (ix2 l ⟨t.val % 7 * 1024 + s.val, by omega⟩) := by
    unfold X0_1 Pipeline.Window.fill
    rw [dif_pos (moved0_1 t _)]
    blk_ext [iblk, V, h1]
  refine Eq.trans e ?_
  exact rd2_of (a1 m c) _ _ _ _ _ _ (by omega) (by omega)

theorem at2 (h : 4 ≤ t.val % 7) (h' : t.val % 7 ≤ 5) (s : Fin 1024) (r : Fin 512) : (b2 m c t (ix2 r s) : EReal) = rd2 (a2 m c) (t.val / 7 * 512 + r.val) (t.val % 7 * 1024 + s.val - 4096) := by
  have ht : t.val < 56 := lt_of_lt_of_eq t.isLt N_0
  obtain ⟨h0, h1⟩ := (idx t).2.1 h h'
  have e : (b2 m c t (ix2 r s) : EReal) = a2 m c (ix2 ⟨t.val / 7 * 512 + r.val, by omega⟩ ⟨(t.val % 7 - 4) * 1024 + s.val, by omega⟩) := by
    blk_ext [iblk, V, h0]
  rw [e]
  exact rd2_of (a2 m c) _ _ _ _ _ _ (by omega) (by omega)

theorem at3 (h : 4 ≤ t.val % 7) (h' : t.val % 7 ≤ 5) (s l : Fin 1024) : (b3 m c t (ix2 l s) : EReal) = rd2 (a1 m c) l.val (t.val % 7 * 1024 + s.val) := by
  obtain ⟨h0, h1⟩ := (idx t).2.1 h h'
  have e : (X0_3 m c t (ix2 l s) : EReal) = a1 m c (ix2 l ⟨t.val % 7 * 1024 + s.val, by omega⟩) := by
    unfold X0_3 Pipeline.Window.fill
    rw [dif_pos (moved0_3 t _)]
    blk_ext [iblk, V, h1]
  refine Eq.trans e ?_
  exact rd2_of (a1 m c) _ _ _ _ _ _ (by omega) (by omega)

theorem at4 (s : Fin 128) (r : Fin 512) : (b4 m c t (ix2 r s) : EReal) = rd2 (a3 m c) (t.val / 7 * 512 + r.val) s.val := by
  have ht : t.val < 56 := lt_of_lt_of_eq t.isLt N_0
  obtain ⟨-, -, h0, h1, -⟩ := idx t
  have e : (b4 m c t (ix2 r s) : EReal) = a3 m c (ix2 ⟨t.val / 7 * 512 + r.val, by omega⟩ s) := by
    blk_ext [iblk, V, h0]
  rw [e]
  exact rd2_of (a3 m c) _ _ _ _ _ _ (by omega) (by omega)

theorem at5 (s : Fin 128) (l : Fin 1024) : (b5 m c t (ix2 l s) : EReal) = rd2 (a4 m c) l.val s.val := by
  obtain ⟨-, -, h0, h1, -⟩ := idx t
  have e : (b5 m c t (ix2 l s) : EReal) = a4 m c (ix2 l s) := by
    blk_ext [iblk, V, h1]
  rw [e]
  exact rd2_of (a4 m c) _ _ _ _ _ _ (by omega) (by omega)

theorem both0 (h : t.val % 7 ≤ 3) (r : Fin 512) (l : Fin 1024) : (∑ s : Fin 1024, b0 m c t (ix2 r s) * b1 m c t (ix2 l s))
    = part (a0 m c) (a1 m c) (a2 m c) (a3 m c) (a4 m c) (t.val / 7 * 512 + r.val) l.val (t.val % 7) := by
  unfold part
  rw [if_pos (by omega)]
  refine Finset.sum_congr rfl fun s _ => ?_
  unfold term
  rw [if_pos (by omega)]
  exact congrArg₂ (· * ·) (at0 m c t h s r) (at1 m c t h s l)

theorem both2 (h : 4 ≤ t.val % 7) (h' : t.val % 7 ≤ 5) (r : Fin 512) (l : Fin 1024) : (∑ s : Fin 1024, b2 m c t (ix2 r s) * b3 m c t (ix2 l s))
    = part (a0 m c) (a1 m c) (a2 m c) (a3 m c) (a4 m c) (t.val / 7 * 512 + r.val) l.val (t.val % 7) := by
  unfold part
  rw [if_pos (by omega)]
  refine Finset.sum_congr rfl fun s _ => ?_
  unfold term
  rw [if_neg (by omega)]
  exact congrArg₂ (· * ·) (at2 m c t h h' s r) (at3 m c t h h' s l)

theorem both4 (h : t.val % 7 = 6) (r : Fin 512) (l : Fin 1024) : (∑ s : Fin 128, b4 m c t (ix2 r s) * b5 m c t (ix2 l s))
    = part (a0 m c) (a1 m c) (a2 m c) (a3 m c) (a4 m c) (t.val / 7 * 512 + r.val) l.val (t.val % 7) := by
  unfold part
  rw [if_neg (by omega)]
  exact Finset.sum_congr rfl fun s _ => congrArg₂ (· * ·) (at4 m c t s r) (at5 m c t s l)

theorem start (h : t.val % 7 = 0) (r : Fin 512) (l : Fin 1024) : ((outsAt0 m c t.val t.isLt).2.2 (ix2 r l) : EReal)
    = part (a0 m c) (a1 m c) (a2 m c) (a3 m c) (a4 m c) (t.val / 7 * 512 + r.val) l.val (t.val % 7) := by
  rw [outsAt0_A m c t (by omega) (by omega) (by omega) (by omega) (by omega) (by omega)]
  frame_out
  exact (first_at _ _ _ _).trans (both0 m c t (by omega) r l)

theorem step (h : ¬t.val % 7 = 0) (r : Fin 512) (l : Fin 1024) : ((outsAt0 m c t.val t.isLt).2.2 (ix2 r l) : EReal)
    = (outsAt0 m c (t.val - 1) (Nat.lt_of_le_of_lt (Nat.sub_le _ _) t.isLt)).2.2 (ix2 r l) + part (a0 m c) (a1 m c) (a2 m c) (a3 m c) (a4 m c) (t.val / 7 * 512 + r.val) l.val (t.val % 7) := by
  have h7 : t.val % 7 < 7 := Nat.mod_lt _ (by omega)
  by_cases h1 : t.val % 7 ≤ 3
  · rw [outsAt0_B m c t (by omega) (by omega) (by omega) (by omega) (by omega) (by omega)]
    frame_out
    exact (next_at _ _ _ _ _).trans (congrArg₂ (· + ·) (congrFun ((Memref.isWhole_whole cc0_scratch0).read_unread _) _) (both0 m c t h1 r l))
  by_cases h2 : t.val % 7 ≤ 5
  · rw [outsAt0_C m c t (by omega) (by omega) (by omega) (by omega)]
    frame_out
    exact (more_at _ _ _ _ _).trans (congrArg₂ (· + ·) (congrFun ((Memref.isWhole_whole cc0_scratch0).read_unread _) _) (both2 m c t (by omega) h2 r l))
  by_cases h3 : t.val < 7
  · rw [outsAt0_D m c t (by omega) (by omega) (by omega) (by omega) h3 (by omega)]
    frame_out
    exact (last_at _ _ _ _ _).trans (congrArg₂ (· + ·) (congrFun ((Memref.isWhole_whole cc0_scratch0).read_unread _) _) (both4 m c t (by omega) r l))
  · rw [outsAt0_E m c t (by omega) (by omega) (by omega) (by omega) h3 (by omega)]
    frame_out
    exact (last_at _ _ _ _ _).trans (congrArg₂ (· + ·) (congrFun ((Memref.isWhole_whole cc0_scratch0).read_unread _) _) (both4 m c t (by omega) r l))

/-- At the last step of a tile the accumulator is the whole sum. -/
theorem acc_at (h : t.val % 7 = 6) (r : Fin 512) (l : Fin 1024) : ((outsAt0 m c t.val t.isLt).2.2 (ix2 r l) : EReal)
    = all (a0 m c) (a1 m c) (a2 m c) (a3 m c) (a4 m c) (t.val / 7 * 512 + r.val) l.val := by
  have H := Pipeline.eq_sum_of_reset_step_divmod (fun n hn => ((outsAt0 m c n hn).2.2 (ix2 r l) : EReal)) 7 0
    (fun q n => part (a0 m c) (a1 m c) (a2 m c) (a3 m c) (a4 m c) (q * 512 + r.val) l.val n)
    (fun u hu => (start m c u hu r l).trans (zero_add _).symm) (fun u hu => step m c u hu r l) t
  rw [H, h, zero_add]
  exact parts (a0 m c) (a1 m c) (a2 m c) (a3 m c) (a4 m c) _ _

/-- A row, its incoming gradient times the gain, and what it gives to the gain's gradient. -/
def row (i : ℕ) (k : Fin 1024) : EReal := rd2 (aX m c) i k.val
def inc (i : ℕ) (k : Fin 1024) : EReal := all (a0 m c) (a1 m c) (a2 m c) (a3 m c) (a4 m c) i k.val * rd2 (aG m c) 0 k.val
def share (j i : ℕ) : EReal := all (a0 m c) (a1 m c) (a2 m c) (a3 m c) (a4 m c) i j * (rd2 (aX m c) i j * rinv (row m c i))

theorem bX_at (r : Fin 512) (l : Fin 1024) : bX m c t (ix2 r l) = rd2 (aX m c) (t.val / 7 * 512 + r.val) l.val := by
  have ht : t.val < 56 := lt_of_lt_of_eq t.isLt N_0
  obtain ⟨-, -, -, -, h, -⟩ := idx t
  have e : bX m c t (ix2 r l) = aX m c (ix2 ⟨t.val / 7 * 512 + r.val, by omega⟩ l) := by
    blk_ext [iblk, V, h]
  rw [e]
  exact rd2_of (aX m c) _ _ _ _ _ _ (by omega) (by omega)
theorem bR_at (r : Fin 512) (l : Fin 1024) : bR m c t (ix2 r l) = rd2 (aR m c) (t.val / 7 * 512 + r.val) l.val := by
  have ht : t.val < 56 := lt_of_lt_of_eq t.isLt N_0
  obtain ⟨-, -, -, -, -, -, h, -⟩ := idx t
  have e : bR m c t (ix2 r l) = aR m c (ix2 ⟨t.val / 7 * 512 + r.val, by omega⟩ l) := by
    blk_ext [iblk, V, h]
  rw [e]
  exact rd2_of (aR m c) _ _ _ _ _ _ (by omega) (by omega)
theorem bG_at (l : Fin 1024) : bG m c t (ix2 0 l) = rd2 (aG m c) 0 l.val := by
  obtain ⟨-, -, -, -, -, h, -⟩ := idx t
  have e : bG m c t (ix2 0 l) = aG m c (ix2 0 l) := by
    blk_ext [iblk, V, h]
  rw [e]
  exact rd2_of (aG m c) _ _ _ _ _ _ (by omega) (by omega)

theorem rows_scr (h : t.val % 7 = 6) (r : Fin 512) (l : Fin 1024) : ((outsAt0 m c t.val t.isLt).1 (ix2 r l) : EReal)
    = back (fun k => bX m c t (ix2 r k)) (fun k => (outsAt0 m c t.val t.isLt).2.2 (ix2 r k) * bG m c t (ix2 0 k)) l (bR m c t (ix2 r l)) := by
  by_cases h3 : t.val < 7
  · rw [outsAt0_D m c t (by omega) (by omega) (by omega) (by omega) h3 (by omega)]
    frame_out
    exact rows_at _ _ _ _ _ _
  · rw [outsAt0_E m c t (by omega) (by omega) (by omega) (by omega) h3 (by omega)]
    frame_out
    exact rows_at _ _ _ _ _ _

theorem out_y (h : t.val % 7 = 6) (r : Fin 512) (l : Fin 1024) : ((outsAt0 m c t.val t.isLt).1 (ix2 r l) : EReal)
    = back (row m c (t.val / 7 * 512 + r.val)) (inc m c (t.val / 7 * 512 + r.val)) l (rd2 (aR m c) (t.val / 7 * 512 + r.val) l.val) := by
  rw [rows_scr m c t h r l, bR_at m c t r l]
  congr 1
  · funext k; exact bX_at m c t r k
  · funext k; exact congrArg₂ (· * ·) (acc_at m c t h r k) (bG_at m c t k)

theorem tile (h : t.val % 7 = 6) (l : Fin 1024) :
    (∑ r : Fin 512, (outsAt0 m c t.val t.isLt).2.2 (ix2 r l) * (bX m c t (ix2 r l) * rinv (fun k => bX m c t (ix2 r k))) : EReal)
    = ∑ r : Fin 512, share m c l.val (t.val / 7 * 512 + r.val) :=
  Finset.sum_congr rfl fun r _ => congrArg₂ (· * ·) (acc_at m c t h r l) (congrArg₂ (· * ·) (bX_at m c t r l) (congrArg rinv (funext fun k => bX_at m c t r k)))

theorem gain_first (h : t.val % 7 = 6) (h3 : t.val < 7) (l : Fin 1024) : ((outsAt0 m c t.val t.isLt).2.1 (ix2 0 l) : EReal)
    = ∑ r : Fin 512, share m c l.val (t.val / 7 * 512 + r.val) := by
  refine Eq.trans ?_ (tile m c t h l)
  rw [outsAt0_D m c t (by omega) (by omega) (by omega) (by omega) h3 (by omega)]
  frame_out
  exact gain_at _ _ _

theorem gain_next (h : t.val % 7 = 6) (h3 : ¬t.val < 7) (l : Fin 1024) : ((outsAt0 m c t.val t.isLt).2.1 (ix2 0 l) : EReal)
    = (outsAt0 m c (t.val - 1) (Nat.lt_of_le_of_lt (Nat.sub_le _ _) t.isLt)).2.1 (ix2 0 l) + ∑ r : Fin 512, share m c l.val (t.val / 7 * 512 + r.val) := by
  rw [← tile m c t h l]
  rw [outsAt0_E m c t (by omega) (by omega) (by omega) (by omega) h3 (by omega)]
  frame_out
  exact (grow_at _ _ _ _).trans (congrArg₂ (· + ·) rfl (gain_at _ _ _))

theorem gain_stays (h : ¬t.val % 7 = 6) : (outsAt0 m c t.val t.isLt).2.1
    = (outsAt0 m c (t.val - 1) (Nat.lt_of_le_of_lt (Nat.sub_le _ _) t.isLt)).2.1 := by
  have h7 : t.val % 7 < 7 := Nat.mod_lt _ (by omega)
  by_cases h0 : t.val % 7 = 0
  · rw [outsAt0_A m c t (by omega) (by omega) (by omega) (by omega) (by omega) (by omega)]
    rfl
  by_cases h1 : t.val % 7 ≤ 3
  · rw [outsAt0_B m c t (by omega) (by omega) (by omega) (by omega) (by omega) (by omega)]
    rfl
  · rw [outsAt0_C m c t (by omega) (by omega) (by omega) (by omega)]
    rfl

/-- After a point the buffer holds the sum over the tiles that are complete. -/
theorem gain_sum (l : Fin 1024) : ∀ (n : ℕ) (hn : n < cfg0.N), 6 ≤ n →
    ((outsAt0 m c n hn).2.1 (ix2 0 l) : EReal) = ∑ q ∈ Finset.range ((n + 1) / 7), ∑ r : Fin 512, share m c l.val (q * 512 + r.val)
  | 0, hn, h => absurd h (by omega)
  | n + 1, hn, h => by
    by_cases h6 : (n + 1) % 7 = 6
    · by_cases h3 : n + 1 < 7
      · refine (gain_first m c ⟨n + 1, hn⟩ h6 h3 l).trans ?_
        rw [show (n + 1 + 1) / 7 = 1 by omega, Finset.sum_range_one]
        show ∑ r : Fin 512, share m c l.val ((n + 1) / 7 * 512 + r.val) = _
        rw [show (n + 1) / 7 = 0 by omega]
      · refine (gain_next m c ⟨n + 1, hn⟩ h6 h3 l).trans ?_
        rw [show (n + 1 + 1) / 7 = (n + 1) / 7 + 1 by omega, Finset.sum_range_succ]
        exact congrArg₂ (· + ·) (gain_sum l n (by omega) (by omega)) rfl
    · refine (congrFun (gain_stays m c ⟨n + 1, hn⟩ h6) _).trans ?_
      rw [show (n + 1 + 1) / 7 = (n + 1) / 7 by omega]
      exact gain_sum l n (by omega) (by omega)

theorem out_z (h : t.val % 56 = 55) (l : Fin 1024) : ((outsAt0 m c t.val t.isLt).2.1 (ix2 0 l) : EReal) = ∑ r : Fin 4096, share m c l.val r.val := by
  have ht : t.val < 56 := lt_of_lt_of_eq t.isLt N_0
  rw [gain_sum m c l t.val t.isLt (by omega), show (t.val + 1) / 7 = 8 by omega,
    Fin.sum_univ_eq_sum_range (fun k => share m c l.val k) 4096, show (4096 : ℕ) = 8 * 512 from rfl, Finset.sum_range_mul_split]
  exact Finset.sum_congr rfl fun q _ => Fin.sum_univ_eq_sum_range (fun s => share m c l.val (q * 512 + s)) 512

/-- The gradient of the rows and of the gain. -/
def Y : FVec Ideal S4096x1024 .f32 := fun i => back (row m c (i 0).val) (inc m c (i 0).val) (i 1) (rd2 (aR m c) (i 0).val (i 1).val)
def Z : FVec Ideal S1x1024 .f32 := fun i => ∑ r : Fin 4096, share m c (i 1).val r.val

theorem result4 : (dats m 0 c).arrAt 9 cfg0.N = Y m c := by
  refine (dats m 0 c).arrAt_eq_of_covers 9 _ (by decide +kernel) fun t hf y => ?_
  blk_simp; rw [after0_9]
  have ht : t.val < 56 := lt_of_lt_of_eq t.isLt N_0
  have hm : t.val % 7 = 6 := (flush0_9 t).mp hf
  obtain ⟨-, -, -, -, -, -, -, h4, -⟩ := idx t
  idx_vars y
  have e : Y m c (((View.whole main_v0_0).slice (win0_9.rect t)).emb (ix2 y0 y1)) = Y m c (ix2 ⟨t.val / 7 * 512 + y0.val, by omega⟩ y1) := by
    generalize Y m c = X
    blk_ext [h4]
  exact (out_y m c t hm y0 y1).trans e.symm

theorem result5 : (dats m 0 c).arrAt 10 cfg0.N = Z m c := by
  refine (dats m 0 c).arrAt_eq_of_covers 10 _ (by decide +kernel) fun t hf y => ?_
  blk_simp; rw [after0_10]
  have hm : t.val % 56 = 55 := (flush0_10 t).mp hf
  obtain ⟨-, -, -, -, -, -, -, -, h5⟩ := idx t
  idx_vars y
  have e : Z m c (((View.whole main_v0_1).slice (win0_10.rect t)).emb (ix2 y0 y1)) = Z m c (ix2 0 y1) := by
    generalize Z m c = X
    blk_ext [h5]
  have e0 : y0 = 0 := Fin.ext (by omega)
  rw [e0]
  rw [e0] at e
  exact (out_z m c t hm y1).trans e.symm

/-- The reference is the sum of the three products, then the reference of the gradient alone. -/
theorem both_eq : Cert.Reference23Ideal.Read.val_main_v49 (F := Ideal) (a0 m c) (a1 m c) (a2 m c) (a3 m c) (a4 m c) (aX m c) (aG m c) (aR m c)
    = Cert.Reference24Ideal.Read.val_main_v34 (F := Ideal) (Cert.Reference16Ideal.Read.val_main_v14 (F := Ideal) (a0 m c) (a1 m c) (a2 m c) (a3 m c) (a4 m c)) (aX m c) (aG m c) (aR m c) := rfl
theorem gain_eq : Cert.Reference23Ideal.Read.val_main_v32 (F := Ideal) (a0 m c) (a1 m c) (a2 m c) (a3 m c) (a4 m c) (aX m c)
    = Cert.Reference24Ideal.Read.val_main_v17 (F := Ideal) (Cert.Reference16Ideal.Read.val_main_v14 (F := Ideal) (a0 m c) (a1 m c) (a2 m c) (a3 m c) (a4 m c)) (aX m c) := rfl

theorem row_eq (r : Fin 4096) : (fun k => aX m c (ix2 r k)) = row m c r.val :=
  funext fun k => rd2_of (aX m c) _ _ _ _ _ _ rfl rfl
theorem inc_eq (r : Fin 4096) : (fun k => Cert.Reference16Ideal.Read.val_main_v14 (F := Ideal) (a0 m c) (a1 m c) (a2 m c) (a3 m c) (a4 m c) (ix2 r k) * aG m c (ix2 0 k) : Fin 1024 → EReal) = inc m c r.val :=
  funext fun k => congrArg₂ (· * ·) (sum_at _ _ _ _ _ r k) (rd2_of (aG m c) _ _ _ _ _ _ rfl rfl)

theorem reads4 : Cert.Reference23Ideal.Read.val_main_v49 (F := Ideal) (a0 m c) (a1 m c) (a2 m c) (a3 m c) (a4 m c) (aX m c) (aG m c) (aR m c) = Y m c := by
  rw [both_eq]
  funext i
  idx_vars i
  refine (Cert.Kernel24Ideal.Value.r34 _ _ _ _ i0 i1).trans ?_
  rw [row_eq, inc_eq, rd2_of (aR m c) _ _ i0.val i1.val i0.isLt i1.isLt rfl rfl]
  rfl
theorem reads5 : Cert.Reference23Ideal.Read.val_main_v32 (F := Ideal) (a0 m c) (a1 m c) (a2 m c) (a3 m c) (a4 m c) (aX m c) = Z m c := by
  rw [gain_eq]
  funext i
  idx_vars i
  have e0 : i0 = 0 := Fin.ext (by omega)
  rw [e0]
  refine (Cert.Kernel24Ideal.Value.r17 _ _ i1).trans ?_
  refine Finset.sum_congr rfl fun r _ => ?_
  rw [row_eq]
  exact congrArg₂ (· * ·) (sum_at _ _ _ _ _ r i1) (congrArg₂ (· * ·) (rd2_of (aX m c) _ _ _ _ _ _ rfl rfl) rfl)

/-- The run, with the result's array named. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0_0) = (dats m 0 c).arrAt 9 cfg0.N
      ∧ r.2.mem ((c : Thread nD τ).loc main_v0_1) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run (defs (F := Ideal)) _ _).mono (fun r h c => ⟨(h c).1 9, (h c).1 10,
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c)))⟩)
    (run_main m ρ)

end Cert.Kernel23Ideal.Value

end
-- ==== Proof.Adam.lean ====
module

public import proofs.«01_k».proof.Proof.Product

/-! The step of the optimiser for one entry: the two moments and the update. -/

@[expose] public section

set_option maxRecDepth 16384

noncomputable section
open Idealize.ShloMosaic Idealize.ShloMosaic.TcCoe Idealize.SL.Sem
namespace Cert.Adam

/-- The first moment from the old one `z` and the gradient `g`. -/
def mom (z g : EReal) : EReal := Ideal.ofBits .f32 0x3F666666#32 * z + Ideal.ofBits .f32 0x3DCCCCCD#32 * g
/-- The second moment. -/
def vel (z g : EReal) : EReal := Ideal.ofBits .f32 0x3F7FBE77#32 * z + Ideal.ofBits .f32 0x3A83126F#32 * (g * g)
/-- The update, from the weight `w` and the two new moments. -/
def move (w p q : EReal) : EReal :=
  Ideal.ofBits .f32 0xBA83126F#32 * (Ideal.div (Ideal.div p (Ideal.ofBits .f32 0x3F26BD02#32))
    (Ideal.sqrt (Ideal.div q (Ideal.ofBits .f32 0x3C231ACC#32)) + Ideal.ofBits .f32 0x322BCC77#32) + Ideal.ofBits .f32 0x3C23D70A#32 * w)

end Cert.Adam

end
-- ==== Proof.Update25.lean ====
module

public import proofs.«01_k».proof.Proof.Gen.Kernel25Ideal.Value
public import proofs.«01_k».proof.Proof.Gen.Reference25Ideal.Read
public import proofs.«01_k».proof.Proof.Adam

/-! The step of the optimiser of an array of 1024 by 512: the gradient is the sum of eight parts. -/

@[expose] public section

set_option maxRecDepth 16384

noncomputable section
open Idealize.ShloMosaic Idealize.ShloMosaic.TcCoe Idealize.SL.Sem
namespace Cert.Kernel25Ideal.Value
open Cert.Kernel25Ideal Cert.Kernel25Ideal.Gen Cert.Product Cert.Adam

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] := by
  decide +kernel

/-- The sum of eight parts at one entry. -/
def add8 (x0 x1 x2 x3 x4 x5 x6 x7 : Vec Ideal S1x128x512 .bf16) (r : Fin 128) (l : Fin 512) : EReal :=
  x0 (ix3 0 r l) + x1 (ix3 0 r l) + x2 (ix3 0 r l) + x3 (ix3 0 r l) + x4 (ix3 0 r l) + x5 (ix3 0 r l) + x6 (ix3 0 r l) + x7 (ix3 0 r l)

theorem same_at (x0 x1 x2 x3 x4 x5 x6 x7 : Vec Ideal S1x128x512 .bf16) (r : Fin 128) (l : Fin 512) :
    (k0_pay7 (F := Ideal) (k0_pay3 (F := Ideal) x0 x1 x2 x3 x4 x5 x6 x7) (ix3 0 r l) : EReal) = add8 x0 x1 x2 x3 x4 x5 x6 x7 r l := by
  unfold add8
  pointwise [k0_pay7, k0_pay3]
theorem mom_at (x0 x1 x2 x3 x4 x5 x6 x7 : Vec Ideal S1x128x512 .bf16) (z : Vec Ideal S1x128x512 .f32) (r : Fin 128) (l : Fin 512) :
    (k0_pay1 (F := Ideal) (k0_pay5 (k0_pay3 (F := Ideal) x0 x1 x2 x3 x4 x5 x6 x7) (k0_pay4 z)) (ix3 0 r l) : EReal) = mom (z (ix3 0 r l)) (add8 x0 x1 x2 x3 x4 x5 x6 x7 r l) := by
  unfold mom add8
  pointwise [k0_pay1, k0_pay2, k0_pay3, k0_pay4, k0_pay5, k0_pay6, k0_pay7, k0_pay8]
theorem vel_at (x0 x1 x2 x3 x4 x5 x6 x7 : Vec Ideal S1x128x512 .bf16) (z : Vec Ideal S1x128x512 .f32) (r : Fin 128) (l : Fin 512) :
    (k0_pay2 (F := Ideal) (k0_pay6 (k0_pay3 (F := Ideal) x0 x1 x2 x3 x4 x5 x6 x7) z) (ix3 0 r l) : EReal) = vel (z (ix3 0 r l)) (add8 x0 x1 x2 x3 x4 x5 x6 x7 r l) := by
  unfold vel add8
  pointwise [k0_pay1, k0_pay2, k0_pay3, k0_pay4, k0_pay5, k0_pay6, k0_pay7, k0_pay8]
theorem move_at (x0 x1 x2 x3 x4 x5 x6 x7 : Vec Ideal S1x128x512 .bf16) (a b w : Vec Ideal S1x128x512 .f32) (r : Fin 128) (l : Fin 512) :
    (k0_pay8 (F := Ideal) (k0_pay3 (F := Ideal) x0 x1 x2 x3 x4 x5 x6 x7) (k0_pay4 a) b w (ix3 0 r l) : EReal) = move (w (ix3 0 r l)) (mom (a (ix3 0 r l)) (add8 x0 x1 x2 x3 x4 x5 x6 x7 r l)) (vel (b (ix3 0 r l)) (add8 x0 x1 x2 x3 x4 x5 x6 x7 r l)) := by
  unfold move mom vel add8
  pointwise [k0_pay1, k0_pay2, k0_pay3, k0_pay4, k0_pay5, k0_pay6, k0_pay7, k0_pay8]

variable (m : (ℓ : Loc nD τ sig) → Buf (Elt Ideal) ℓ) (c : Dev nD) (t : Fin cfg0.N)

abbrev aW : FVec Ideal S1x1024x512 .f32 := m ((c.tc : Thread nD τ).loc main_arg0)
abbrev aM : FVec Ideal S1x1024x512 .f32 := m ((c.tc : Thread nD τ).loc main_arg1)
abbrev aV : FVec Ideal S1x1024x512 .f32 := m ((c.tc : Thread nD τ).loc main_arg2)
abbrev aP : FVec Ideal S8x1024x512 .bf16 := m ((c.tc : Thread nD τ).loc main_arg3)

/-- The gradient, the new moments and the update. -/
def grad : FVec Ideal S1x1024x512 .f32 := fun i => ∑ s : Fin 8, aP m c (ix3 s (i 1) (i 2))
def first : FVec Ideal S1x1024x512 .f32 := fun i => mom (aM m c i) (grad m c i)
def second : FVec Ideal S1x1024x512 .f32 := fun i => vel (aV m c i) (grad m c i)
def update : FVec Ideal S1x1024x512 .f32 := fun i => move (aW m c i) (first m c i) (second m c i)

/-- The entry of the arrays a block's entry is. -/
abbrev pos (r : Fin 128) (l : Fin 512) : S1x1024x512.Idx := (ix3 0 ⟨t.val * 128 + r.val, by have := lt_of_lt_of_eq t.isLt N_0; omega⟩ l)

/-- The eight slabs of a block of parts. -/
abbrev slab0_0 : Vec Ideal S1x128x512 .bf16 := View.ld (iblk m c 3 t) (Rect.unit ![0, 0, 0] ![1, 128, 512] inb_S8x128x512_S1x128x512_0_0_0)
abbrev slab0_1 : Vec Ideal S1x128x512 .bf16 := View.ld (iblk m c 3 t) (Rect.unit ![1, 0, 0] ![1, 128, 512] inb_S8x128x512_S1x128x512_1_0_0)
abbrev slab0_2 : Vec Ideal S1x128x512 .bf16 := View.ld (iblk m c 3 t) (Rect.unit ![2, 0, 0] ![1, 128, 512] inb_S8x128x512_S1x128x512_2_0_0)
abbrev slab0_3 : Vec Ideal S1x128x512 .bf16 := View.ld (iblk m c 3 t) (Rect.unit ![3, 0, 0] ![1, 128, 512] inb_S8x128x512_S1x128x512_3_0_0)
abbrev slab0_4 : Vec Ideal S1x128x512 .bf16 := View.ld (iblk m c 3 t) (Rect.unit ![4, 0, 0] ![1, 128, 512] inb_S8x128x512_S1x128x512_4_0_0)
abbrev slab0_5 : Vec Ideal S1x128x512 .bf16 := View.ld (iblk m c 3 t) (Rect.unit ![5, 0, 0] ![1, 128, 512] inb_S8x128x512_S1x128x512_5_0_0)
abbrev slab0_6 : Vec Ideal S1x128x512 .bf16 := View.ld (iblk m c 3 t) (Rect.unit ![6, 0, 0] ![1, 128, 512] inb_S8x128x512_S1x128x512_6_0_0)
abbrev slab0_7 : Vec Ideal S1x128x512 .bf16 := View.ld (iblk m c 3 t) (Rect.unit ![7, 0, 0] ![1, 128, 512] inb_S8x128x512_S1x128x512_7_0_0)

theorem in0 (r : Fin 128) (l : Fin 512) : (iblk m c 0 t (ix3 0 r l) : EReal) = aW m c (pos t r l) := by
  obtain ⟨h, -⟩ := idx t
  have ht : t.val < 8 := lt_of_lt_of_eq t.isLt N_0
  have e : (iblk m c 0 t : Vec Ideal S1x128x512 .f32) (ix3 0 r l) = aW m c (pos t r l) := by
    blk_ext [iblk, V, h] <;> rfl
  exact e
theorem in1 (r : Fin 128) (l : Fin 512) : (iblk m c 1 t (ix3 0 r l) : EReal) = aM m c (pos t r l) := by
  obtain ⟨-, h, -⟩ := idx t
  have ht : t.val < 8 := lt_of_lt_of_eq t.isLt N_0
  have e : (iblk m c 1 t : Vec Ideal S1x128x512 .f32) (ix3 0 r l) = aM m c (pos t r l) := by
    blk_ext [iblk, V, h] <;> rfl
  exact e
theorem in2 (r : Fin 128) (l : Fin 512) : (iblk m c 2 t (ix3 0 r l) : EReal) = aV m c (pos t r l) := by
  obtain ⟨-, -, h, -⟩ := idx t
  have ht : t.val < 8 := lt_of_lt_of_eq t.isLt N_0
  have e : (iblk m c 2 t : Vec Ideal S1x128x512 .f32) (ix3 0 r l) = aV m c (pos t r l) := by
    blk_ext [iblk, V, h] <;> rfl
  exact e
theorem slab0_0_at (r : Fin 128) (l : Fin 512) : slab0_0 m c t (ix3 0 r l) = aP m c (ix3 0 (pos t r l 1) l) := by
  refine (View.ld_unit_apply_of _ _ _ _ _ (ix3 0 r l) (fun a => by fin_cases a <;> simp)).trans ?_
  obtain ⟨-, -, -, h, -⟩ := idx t
  have ht : t.val < 8 := lt_of_lt_of_eq t.isLt N_0
  blk_ext [iblk, V, h] <;> rfl
theorem slab0_1_at (r : Fin 128) (l : Fin 512) : slab0_1 m c t (ix3 0 r l) = aP m c (ix3 1 (pos t r l 1) l) := by
  refine (View.ld_unit_apply_of _ _ _ _ _ (ix3 1 r l) (fun a => by fin_cases a <;> simp)).trans ?_
  obtain ⟨-, -, -, h, -⟩ := idx t
  have ht : t.val < 8 := lt_of_lt_of_eq t.isLt N_0
  blk_ext [iblk, V, h] <;> rfl
theorem slab0_2_at (r : Fin 128) (l : Fin 512) : slab0_2 m c t (ix3 0 r l) = aP m c (ix3 2 (pos t r l 1) l) := by
  refine (View.ld_unit_apply_of _ _ _ _ _ (ix3 2 r l) (fun a => by fin_cases a <;> simp)).trans ?_
  obtain ⟨-, -, -, h, -⟩ := idx t
  have ht : t.val < 8 := lt_of_lt_of_eq t.isLt N_0
  blk_ext [iblk, V, h] <;> rfl
theorem slab0_3_at (r : Fin 128) (l : Fin 512) : slab0_3 m c t (ix3 0 r l) = aP m c (ix3 3 (pos t r l 1) l) := by
  refine (View.ld_unit_apply_of _ _ _ _ _ (ix3 3 r l) (fun a => by fin_cases a <;> simp)).trans ?_
  obtain ⟨-, -, -, h, -⟩ := idx t
  have ht : t.val < 8 := lt_of_lt_of_eq t.isLt N_0
  blk_ext [iblk, V, h] <;> rfl
theorem slab0_4_at (r : Fin 128) (l : Fin 512) : slab0_4 m c t (ix3 0 r l) = aP m c (ix3 4 (pos t r l 1) l) := by
  refine (View.ld_unit_apply_of _ _ _ _ _ (ix3 4 r l) (fun a => by fin_cases a <;> simp)).trans ?_
  obtain ⟨-, -, -, h, -⟩ := idx t
  have ht : t.val < 8 := lt_of_lt_of_eq t.isLt N_0
  blk_ext [iblk, V, h] <;> rfl
theorem slab0_5_at (r : Fin 128) (l : Fin 512) : slab0_5 m c t (ix3 0 r l) = aP m c (ix3 5 (pos t r l 1) l) := by
  refine (View.ld_unit_apply_of _ _ _ _ _ (ix3 5 r l) (fun a => by fin_cases a <;> simp)).trans ?_
  obtain ⟨-, -, -, h, -⟩ := idx t
  have ht : t.val < 8 := lt_of_lt_of_eq t.isLt N_0
  blk_ext [iblk, V, h] <;> rfl
theorem slab0_6_at (r : Fin 128) (l : Fin 512) : slab0_6 m c t (ix3 0 r l) = aP m c (ix3 6 (pos t r l 1) l) := by
  refine (View.ld_unit_apply_of _ _ _ _ _ (ix3 6 r l) (fun a => by fin_cases a <;> simp)).trans ?_
  obtain ⟨-, -, -, h, -⟩ := idx t
  have ht : t.val < 8 := lt_of_lt_of_eq t.isLt N_0
  blk_ext [iblk, V, h] <;> rfl
theorem slab0_7_at (r : Fin 128) (l : Fin 512) : slab0_7 m c t (ix3 0 r l) = aP m c (ix3 7 (pos t r l 1) l) := by
  refine (View.ld_unit_apply_of _ _ _ _ _ (ix3 7 r l) (fun a => by fin_cases a <;> simp)).trans ?_
  obtain ⟨-, -, -, h, -⟩ := idx t
  have ht : t.val < 8 := lt_of_lt_of_eq t.isLt N_0
  blk_ext [iblk, V, h] <;> rfl
theorem total (r : Fin 128) (l : Fin 512) : add8 (slab0_0 m c t) (slab0_1 m c t) (slab0_2 m c t) (slab0_3 m c t) (slab0_4 m c t) (slab0_5 m c t) (slab0_6 m c t) (slab0_7 m c t) r l = grad m c (pos t r l) := by
  unfold add8 grad
  rw [slab0_0_at, slab0_1_at, slab0_2_at, slab0_3_at, slab0_4_at, slab0_5_at, slab0_6_at, slab0_7_at]
  exact (Fin.sum_univ_eight (fun s : Fin 8 => (aP m c (ix3 s (pos t r l 1) l) : EReal))).symm

theorem out_grad (r : Fin 128) (l : Fin 512) : ((outsAt0 m c t).1 (ix3 0 r l) : EReal) = grad m c (pos t r l) := by
  unfold outsAt0
  frame_out
  exact (same_at _ _ _ _ _ _ _ _ _ _).trans (total m c t r l)
theorem out_update (r : Fin 128) (l : Fin 512) : ((outsAt0 m c t).2.1 (ix3 0 r l) : EReal) = update m c (pos t r l) := by
  unfold outsAt0
  frame_out
  exact (move_at _ _ _ _ _ _ _ _ _ _ _ _ _).trans (congr (congrArg₂ move (in0 m c t r l) (congrArg₂ mom (in1 m c t r l) (total m c t r l))) (congrArg₂ vel (in2 m c t r l) (total m c t r l)))
theorem out_first (r : Fin 128) (l : Fin 512) : ((outsAt0 m c t).2.2.1 (ix3 0 r l) : EReal) = first m c (pos t r l) := by
  unfold outsAt0
  frame_out
  exact (mom_at _ _ _ _ _ _ _ _ _ _ _).trans (congrArg₂ mom (in1 m c t r l) (total m c t r l))
theorem out_second (r : Fin 128) (l : Fin 512) : ((outsAt0 m c t).2.2.2 (ix3 0 r l) : EReal) = second m c (pos t r l) := by
  unfold outsAt0
  frame_out
  exact (vel_at _ _ _ _ _ _ _ _ _ _ _).trans (congrArg₂ vel (in2 m c t r l) (total m c t r l))

theorem result4 : (dats m 0 c).arrAt 4 cfg0.N = grad m c := by
  refine (dats m 0 c).arrAt_eq_of_covers 4 _ (by decide +kernel) fun t hf y => ?_
  blk_simp; rw [after0_4]
  have ht : t.val < 8 := lt_of_lt_of_eq t.isLt N_0
  obtain ⟨-, -, -, -, h, -⟩ := idx t
  idx_vars y
  have e0 : y0 = 0 := Fin.ext (by omega)
  subst e0
  have e : grad m c (((View.whole main_v0_0).slice (win0_4.rect t)).emb (ix3 0 y1 y2)) = grad m c (pos t y1 y2) := by
    generalize grad m c = X
    blk_ext [h] <;> rfl
  exact (out_grad m c t y1 y2).trans e.symm
theorem result5 : (dats m 0 c).arrAt 5 cfg0.N = update m c := by
  refine (dats m 0 c).arrAt_eq_of_covers 5 _ (by decide +kernel) fun t hf y => ?_
  blk_simp; rw [after0_5]
  have ht : t.val < 8 := lt_of_lt_of_eq t.isLt N_0
  obtain ⟨-, -, -, -, -, h, -⟩ := idx t
  idx_vars y
  have e0 : y0 = 0 := Fin.ext (by omega)
  subst e0
  have e : update m c (((View.whole main_v0_1).slice (win0_5.rect t)).emb (ix3 0 y1 y2)) = update m c (pos t y1 y2) := by
    generalize update m c = X
    blk_ext [h] <;> rfl
  exact (out_update m c t y1 y2).trans e.symm
theorem result6 : (dats m 0 c).arrAt 6 cfg0.N = first m c := by
  refine (dats m 0 c).arrAt_eq_of_covers 6 _ (by decide +kernel) fun t hf y => ?_
  blk_simp; rw [after0_6]
  have ht : t.val < 8 := lt_of_lt_of_eq t.isLt N_0
  obtain ⟨-, -, -, -, -, -, h, -⟩ := idx t
  idx_vars y
  have e0 : y0 = 0 := Fin.ext (by omega)
  subst e0
  have e : first m c (((View.whole main_v0_2).slice (win0_6.rect t)).emb (ix3 0 y1 y2)) = first m c (pos t y1 y2) := by
    generalize first m c = X
    blk_ext [h] <;> rfl
  exact (out_first m c t y1 y2).trans e.symm
theorem result7 : (dats m 0 c).arrAt 7 cfg0.N = second m c := by
  refine (dats m 0 c).arrAt_eq_of_covers 7 _ (by decide +kernel) fun t hf y => ?_
  blk_simp; rw [after0_7]
  have ht : t.val < 8 := lt_of_lt_of_eq t.isLt N_0
  obtain ⟨-, -, -, -, -, -, -, h⟩ := idx t
  idx_vars y
  have e0 : y0 = 0 := Fin.ext (by omega)
  subst e0
  have e : second m c (((View.whole main_v0_3).slice (win0_7.rect t)).emb (ix3 0 y1 y2)) = second m c (pos t y1 y2) := by
    generalize second m c = X
    blk_ext [h] <;> rfl
  exact (out_second m c t y1 y2).trans e.symm

section
open Cert.Reference25Ideal.Read
theorem reads_grad : Cert.Reference25Ideal.Read.val_main_v2 (F := Ideal) (aP m c) = grad m c := by
  funext i
  idx_vars i
  unfold grad
  pointwise [val_main_v0, val_main_cst, val_main_v1, val_main_v2]
theorem reads_first : Cert.Reference25Ideal.Read.val_main_v7 (F := Ideal) (aM m c) (aP m c) = first m c := by
  have e : ∀ i, (Cert.Reference25Ideal.Read.val_main_v7 (F := Ideal) (aM m c) (aP m c) i : EReal) = mom (aM m c i) (Cert.Reference25Ideal.Read.val_main_v2 (F := Ideal) (aP m c) i) := fun i => by
    idx_vars i
    unfold mom
    pointwise [val_main_cst_0, val_main_v3, val_main_v4, val_main_cst_1, val_main_v5, val_main_v6, val_main_v7]
  funext i
  rw [e, reads_grad]
  rfl
theorem reads_second : Cert.Reference25Ideal.Read.val_main_v13 (F := Ideal) (aV m c) (aP m c) = second m c := by
  have e : ∀ i, (Cert.Reference25Ideal.Read.val_main_v13 (F := Ideal) (aV m c) (aP m c) i : EReal) = vel (aV m c i) (Cert.Reference25Ideal.Read.val_main_v2 (F := Ideal) (aP m c) i) := fun i => by
    idx_vars i
    unfold vel
    pointwise [val_main_cst_0, val_main_v3, val_main_v4, val_main_cst_1, val_main_v5, val_main_v6, val_main_v7, val_main_cst_2, val_main_v8, val_main_v9, val_main_v10, val_main_cst_3, val_main_v11, val_main_v12, val_main_v13]
  funext i
  rw [e, reads_grad]
  rfl
theorem reads_update : Cert.Reference25Ideal.Read.val_main_v26 (F := Ideal) (aW m c) (aM m c) (aV m c) (aP m c) = update m c := by
  have e : ∀ i, (Cert.Reference25Ideal.Read.val_main_v26 (F := Ideal) (aW m c) (aM m c) (aV m c) (aP m c) i : EReal) = move (aW m c i) (Cert.Reference25Ideal.Read.val_main_v7 (F := Ideal) (aM m c) (aP m c) i) (Cert.Reference25Ideal.Read.val_main_v13 (F := Ideal) (aV m c) (aP m c) i) := fun i => by
    idx_vars i
    unfold move
    pointwise [val_main_cst_4, val_main_v14, val_main_v15, val_main_cst_5, val_main_v16, val_main_v17, val_main_v18, val_main_cst_6, val_main_v19, val_main_v20, val_main_v21, val_main_cst_7, val_main_v22, val_main_v23, val_main_v24, val_main_cst_8, val_main_v25, val_main_v26]
  funext i
  rw [e, reads_first, reads_second]
  rfl
end

end Cert.Kernel25Ideal.Value

end
-- ==== Proof.Update26.lean ====
module

public import proofs.«01_k».proof.Proof.Gen.Kernel26Ideal.Value
public import proofs.«01_k».proof.Proof.Gen.Reference26Ideal.Read
public import proofs.«01_k».proof.Proof.Adam

/-! The step of the optimiser of an array of 128 by 1024: the gradient is the sum of eight parts. -/

@[expose] public section

set_option maxRecDepth 16384

noncomputable section
open Idealize.ShloMosaic Idealize.ShloMosaic.TcCoe Idealize.SL.Sem
namespace Cert.Kernel26Ideal.Value
open Cert.Kernel26Ideal Cert.Kernel26Ideal.Gen Cert.Product Cert.Adam

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] := by
  decide +kernel

/-- The sum of eight parts at one entry. -/
def add8 (x0 x1 x2 x3 x4 x5 x6 x7 : Vec Ideal S1x128x1024 .bf16) (r : Fin 128) (l : Fin 1024) : EReal :=
  x0 (ix3 0 r l) + x1 (ix3 0 r l) + x2 (ix3 0 r l) + x3 (ix3 0 r l) + x4 (ix3 0 r l) + x5 (ix3 0 r l) + x6 (ix3 0 r l) + x7 (ix3 0 r l)

theorem same_at (x0 x1 x2 x3 x4 x5 x6 x7 : Vec Ideal S1x128x1024 .bf16) (r : Fin 128) (l : Fin 1024) :
    (k0_pay7 (F := Ideal) (k0_pay3 (F := Ideal) x0 x1 x2 x3 x4 x5 x6 x7) (ix3 0 r l) : EReal) = add8 x0 x1 x2 x3 x4 x5 x6 x7 r l := by
  unfold add8
  pointwise [k0_pay7, k0_pay3]
theorem mom_at (x0 x1 x2 x3 x4 x5 x6 x7 : Vec Ideal S1x128x1024 .bf16) (z : Vec Ideal S1x128x1024 .f32) (r : Fin 128) (l : Fin 1024) :
    (k0_pay1 (F := Ideal) (k0_pay5 (k0_pay3 (F := Ideal) x0 x1 x2 x3 x4 x5 x6 x7) (k0_pay4 z)) (ix3 0 r l) : EReal) = mom (z (ix3 0 r l)) (add8 x0 x1 x2 x3 x4 x5 x6 x7 r l) := by
  unfold mom add8
  pointwise [k0_pay1, k0_pay2, k0_pay3, k0_pay4, k0_pay5, k0_pay6, k0_pay7, k0_pay8]
theorem vel_at (x0 x1 x2 x3 x4 x5 x6 x7 : Vec Ideal S1x128x1024 .bf16) (z : Vec Ideal S1x128x1024 .f32) (r : Fin 128) (l : Fin 1024) :
    (k0_pay2 (F := Ideal) (k0_pay6 (k0_pay3 (F := Ideal) x0 x1 x2 x3 x4 x5 x6 x7) z) (ix3 0 r l) : EReal) = vel (z (ix3 0 r l)) (add8 x0 x1 x2 x3 x4 x5 x6 x7 r l) := by
  unfold vel add8
  pointwise [k0_pay1, k0_pay2, k0_pay3, k0_pay4, k0_pay5, k0_pay6, k0_pay7, k0_pay8]
theorem move_at (x0 x1 x2 x3 x4 x5 x6 x7 : Vec Ideal S1x128x1024 .bf16) (a b w : Vec Ideal S1x128x1024 .f32) (r : Fin 128) (l : Fin 1024) :
    (k0_pay8 (F := Ideal) (k0_pay3 (F := Ideal) x0 x1 x2 x3 x4 x5 x6 x7) (k0_pay4 a) b w (ix3 0 r l) : EReal) = move (w (ix3 0 r l)) (mom (a (ix3 0 r l)) (add8 x0 x1 x2 x3 x4 x5 x6 x7 r l)) (vel (b (ix3 0 r l)) (add8 x0 x1 x2 x3 x4 x5 x6 x7 r l)) := by
  unfold move mom vel add8
  pointwise [k0_pay1, k0_pay2, k0_pay3, k0_pay4, k0_pay5, k0_pay6, k0_pay7, k0_pay8]

variable (m : (ℓ : Loc nD τ sig) → Buf (Elt Ideal) ℓ) (c : Dev nD) (t : Fin cfg0.N)

abbrev aW : FVec Ideal S1x128x1024 .f32 := m ((c.tc : Thread nD τ).loc main_arg0)
abbrev aM : FVec Ideal S1x128x1024 .f32 := m ((c.tc : Thread nD τ).loc main_arg1)
abbrev aV : FVec Ideal S1x128x1024 .f32 := m ((c.tc : Thread nD τ).loc main_arg2)
abbrev aP : FVec Ideal S8x128x1024 .bf16 := m ((c.tc : Thread nD τ).loc main_arg3)

/-- The gradient, the new moments and the update. -/
def grad : FVec Ideal S1x128x1024 .f32 := fun i => ∑ s : Fin 8, aP m c (ix3 s (i 1) (i 2))
def first : FVec Ideal S1x128x1024 .f32 := fun i => mom (aM m c i) (grad m c i)
def second : FVec Ideal S1x128x1024 .f32 := fun i => vel (aV m c i) (grad m c i)
def update : FVec Ideal S1x128x1024 .f32 := fun i => move (aW m c i) (first m c i) (second m c i)

/-- The entry of the arrays a block's entry is. -/
abbrev pos (r : Fin 128) (l : Fin 1024) : S1x128x1024.Idx := (ix3 0 ⟨t.val * 128 + r.val, by have := lt_of_lt_of_eq t.isLt N_0; omega⟩ l)

/-- The eight slabs of a block of parts. -/
abbrev slab0_0 : Vec Ideal S1x128x1024 .bf16 := View.ld (iblk m c 3 t) (Rect.unit ![0, 0, 0] ![1, 128, 1024] inb_S8x128x1024_S1x128x1024_0_0_0)
abbrev slab0_1 : Vec Ideal S1x128x1024 .bf16 := View.ld (iblk m c 3 t) (Rect.unit ![1, 0, 0] ![1, 128, 1024] inb_S8x128x1024_S1x128x1024_1_0_0)
abbrev slab0_2 : Vec Ideal S1x128x1024 .bf16 := View.ld (iblk m c 3 t) (Rect.unit ![2, 0, 0] ![1, 128, 1024] inb_S8x128x1024_S1x128x1024_2_0_0)
abbrev slab0_3 : Vec Ideal S1x128x1024 .bf16 := View.ld (iblk m c 3 t) (Rect.unit ![3, 0, 0] ![1, 128, 1024] inb_S8x128x1024_S1x128x1024_3_0_0)
abbrev slab0_4 : Vec Ideal S1x128x1024 .bf16 := View.ld (iblk m c 3 t) (Rect.unit ![4, 0, 0] ![1, 128, 1024] inb_S8x128x1024_S1x128x1024_4_0_0)
abbrev slab0_5 : Vec Ideal S1x128x1024 .bf16 := View.ld (iblk m c 3 t) (Rect.unit ![5, 0, 0] ![1, 128, 1024] inb_S8x128x1024_S1x128x1024_5_0_0)
abbrev slab0_6 : Vec Ideal S1x128x1024 .bf16 := View.ld (iblk m c 3 t) (Rect.unit ![6, 0, 0] ![1, 128, 1024] inb_S8x128x1024_S1x128x1024_6_0_0)
abbrev slab0_7 : Vec Ideal S1x128x1024 .bf16 := View.ld (iblk m c 3 t) (Rect.unit ![7, 0, 0] ![1, 128, 1024] inb_S8x128x1024_S1x128x1024_7_0_0)

theorem in0 (r : Fin 128) (l : Fin 1024) : (iblk m c 0 t (ix3 0 r l) : EReal) = aW m c (pos t r l) := by
  obtain ⟨h, -⟩ := idx t
  have ht : t.val < 1 := lt_of_lt_of_eq t.isLt N_0
  have e : (iblk m c 0 t : Vec Ideal S1x128x1024 .f32) (ix3 0 r l) = aW m c (pos t r l) := by
    blk_ext [iblk, V, h] <;> first | rfl | exact (show r.val = t.val * 128 + r.val by omega)
  exact e
theorem in1 (r : Fin 128) (l : Fin 1024) : (iblk m c 1 t (ix3 0 r l) : EReal) = aM m c (pos t r l) := by
  obtain ⟨-, h, -⟩ := idx t
  have ht : t.val < 1 := lt_of_lt_of_eq t.isLt N_0
  have e : (iblk m c 1 t : Vec Ideal S1x128x1024 .f32) (ix3 0 r l) = aM m c (pos t r l) := by
    blk_ext [iblk, V, h] <;> first | rfl | exact (show r.val = t.val * 128 + r.val by omega)
  exact e
theorem in2 (r : Fin 128) (l : Fin 1024) : (iblk m c 2 t (ix3 0 r l) : EReal) = aV m c (pos t r l) := by
  obtain ⟨-, -, h, -⟩ := idx t
  have ht : t.val < 1 := lt_of_lt_of_eq t.isLt N_0
  have e : (iblk m c 2 t : Vec Ideal S1x128x1024 .f32) (ix3 0 r l) = aV m c (pos t r l) := by
    blk_ext [iblk, V, h] <;> first | rfl | exact (show r.val = t.val * 128 + r.val by omega)
  exact e
theorem slab0_0_at (r : Fin 128) (l : Fin 1024) : slab0_0 m c t (ix3 0 r l) = aP m c (ix3 0 (pos t r l 1) l) := by
  refine (View.ld_unit_apply_of _ _ _ _ _ (ix3 0 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 128 + r.val by omega)
theorem slab0_1_at (r : Fin 128) (l : Fin 1024) : slab0_1 m c t (ix3 0 r l) = aP m c (ix3 1 (pos t r l 1) l) := by
  refine (View.ld_unit_apply_of _ _ _ _ _ (ix3 1 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 128 + r.val by omega)
theorem slab0_2_at (r : Fin 128) (l : Fin 1024) : slab0_2 m c t (ix3 0 r l) = aP m c (ix3 2 (pos t r l 1) l) := by
  refine (View.ld_unit_apply_of _ _ _ _ _ (ix3 2 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 128 + r.val by omega)
theorem slab0_3_at (r : Fin 128) (l : Fin 1024) : slab0_3 m c t (ix3 0 r l) = aP m c (ix3 3 (pos t r l 1) l) := by
  refine (View.ld_unit_apply_of _ _ _ _ _ (ix3 3 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 128 + r.val by omega)
theorem slab0_4_at (r : Fin 128) (l : Fin 1024) : slab0_4 m c t (ix3 0 r l) = aP m c (ix3 4 (pos t r l 1) l) := by
  refine (View.ld_unit_apply_of _ _ _ _ _ (ix3 4 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 128 + r.val by omega)
theorem slab0_5_at (r : Fin 128) (l : Fin 1024) : slab0_5 m c t (ix3 0 r l) = aP m c (ix3 5 (pos t r l 1) l) := by
  refine (View.ld_unit_apply_of _ _ _ _ _ (ix3 5 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 128 + r.val by omega)
theorem slab0_6_at (r : Fin 128) (l : Fin 1024) : slab0_6 m c t (ix3 0 r l) = aP m c (ix3 6 (pos t r l 1) l) := by
  refine (View.ld_unit_apply_of _ _ _ _ _ (ix3 6 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 128 + r.val by omega)
theorem slab0_7_at (r : Fin 128) (l : Fin 1024) : slab0_7 m c t (ix3 0 r l) = aP m c (ix3 7 (pos t r l 1) l) := by
  refine (View.ld_unit_apply_of _ _ _ _ _ (ix3 7 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 128 + r.val by omega)
theorem total (r : Fin 128) (l : Fin 1024) : add8 (slab0_0 m c t) (slab0_1 m c t) (slab0_2 m c t) (slab0_3 m c t) (slab0_4 m c t) (slab0_5 m c t) (slab0_6 m c t) (slab0_7 m c t) r l = grad m c (pos t r l) := by
  unfold add8 grad
  rw [slab0_0_at, slab0_1_at, slab0_2_at, slab0_3_at, slab0_4_at, slab0_5_at, slab0_6_at, slab0_7_at]
  exact (Fin.sum_univ_eight (fun s : Fin 8 => (aP m c (ix3 s (pos t r l 1) l) : EReal))).symm

theorem out_grad (r : Fin 128) (l : Fin 1024) : ((outsAt0 m c t).1 (ix3 0 r l) : EReal) = grad m c (pos t r l) := by
  unfold outsAt0
  frame_out
  exact (same_at _ _ _ _ _ _ _ _ _ _).trans (total m c t r l)
theorem out_update (r : Fin 128) (l : Fin 1024) : ((outsAt0 m c t).2.1 (ix3 0 r l) : EReal) = update m c (pos t r l) := by
  unfold outsAt0
  frame_out
  exact (move_at _ _ _ _ _ _ _ _ _ _ _ _ _).trans (congr (congrArg₂ move (in0 m c t r l) (congrArg₂ mom (in1 m c t r l) (total m c t r l))) (congrArg₂ vel (in2 m c t r l) (total m c t r l)))
theorem out_first (r : Fin 128) (l : Fin 1024) : ((outsAt0 m c t).2.2.1 (ix3 0 r l) : EReal) = first m c (pos t r l) := by
  unfold outsAt0
  frame_out
  exact (mom_at _ _ _ _ _ _ _ _ _ _ _).trans (congrArg₂ mom (in1 m c t r l) (total m c t r l))
theorem out_second (r : Fin 128) (l : Fin 1024) : ((outsAt0 m c t).2.2.2 (ix3 0 r l) : EReal) = second m c (pos t r l) := by
  unfold outsAt0
  frame_out
  exact (vel_at _ _ _ _ _ _ _ _ _ _ _).trans (congrArg₂ vel (in2 m c t r l) (total m c t r l))

theorem result4 : (dats m 0 c).arrAt 4 cfg0.N = grad m c := by
  refine (dats m 0 c).arrAt_eq_of_covers 4 _ (by decide +kernel) fun t hf y => ?_
  blk_simp; rw [after0_4]
  have ht : t.val < 1 := lt_of_lt_of_eq t.isLt N_0
  obtain ⟨-, -, -, -, h, -⟩ := idx t
  idx_vars y
  have e0 : y0 = 0 := Fin.ext (by omega)
  subst e0
  have e : grad m c (((View.whole main_v0_0).slice (win0_4.rect t)).emb (ix3 0 y1 y2)) = grad m c (pos t y1 y2) := by
    generalize grad m c = X
    blk_ext [h] <;> first | rfl | exact (show y1.val = t.val * 128 + y1.val by omega)
  exact (out_grad m c t y1 y2).trans e.symm
theorem result5 : (dats m 0 c).arrAt 5 cfg0.N = update m c := by
  refine (dats m 0 c).arrAt_eq_of_covers 5 _ (by decide +kernel) fun t hf y => ?_
  blk_simp; rw [after0_5]
  have ht : t.val < 1 := lt_of_lt_of_eq t.isLt N_0
  obtain ⟨-, -, -, -, -, h, -⟩ := idx t
  idx_vars y
  have e0 : y0 = 0 := Fin.ext (by omega)
  subst e0
  have e : update m c (((View.whole main_v0_1).slice (win0_5.rect t)).emb (ix3 0 y1 y2)) = update m c (pos t y1 y2) := by
    generalize update m c = X
    blk_ext [h] <;> first | rfl | exact (show y1.val = t.val * 128 + y1.val by omega)
  exact (out_update m c t y1 y2).trans e.symm
theorem result6 : (dats m 0 c).arrAt 6 cfg0.N = first m c := by
  refine (dats m 0 c).arrAt_eq_of_covers 6 _ (by decide +kernel) fun t hf y => ?_
  blk_simp; rw [after0_6]
  have ht : t.val < 1 := lt_of_lt_of_eq t.isLt N_0
  obtain ⟨-, -, -, -, -, -, h, -⟩ := idx t
  idx_vars y
  have e0 : y0 = 0 := Fin.ext (by omega)
  subst e0
  have e : first m c (((View.whole main_v0_2).slice (win0_6.rect t)).emb (ix3 0 y1 y2)) = first m c (pos t y1 y2) := by
    generalize first m c = X
    blk_ext [h] <;> first | rfl | exact (show y1.val = t.val * 128 + y1.val by omega)
  exact (out_first m c t y1 y2).trans e.symm
theorem result7 : (dats m 0 c).arrAt 7 cfg0.N = second m c := by
  refine (dats m 0 c).arrAt_eq_of_covers 7 _ (by decide +kernel) fun t hf y => ?_
  blk_simp; rw [after0_7]
  have ht : t.val < 1 := lt_of_lt_of_eq t.isLt N_0
  obtain ⟨-, -, -, -, -, -, -, h⟩ := idx t
  idx_vars y
  have e0 : y0 = 0 := Fin.ext (by omega)
  subst e0
  have e : second m c (((View.whole main_v0_3).slice (win0_7.rect t)).emb (ix3 0 y1 y2)) = second m c (pos t y1 y2) := by
    generalize second m c = X
    blk_ext [h] <;> first | rfl | exact (show y1.val = t.val * 128 + y1.val by omega)
  exact (out_second m c t y1 y2).trans e.symm

section
open Cert.Reference26Ideal.Read
theorem reads_grad : Cert.Reference26Ideal.Read.val_main_v2 (F := Ideal) (aP m c) = grad m c := by
  funext i
  idx_vars i
  unfold grad
  pointwise [val_main_v0, val_main_cst, val_main_v1, val_main_v2]
theorem reads_first : Cert.Reference26Ideal.Read.val_main_v7 (F := Ideal) (aM m c) (aP m c) = first m c := by
  have e : ∀ i, (Cert.Reference26Ideal.Read.val_main_v7 (F := Ideal) (aM m c) (aP m c) i : EReal) = mom (aM m c i) (Cert.Reference26Ideal.Read.val_main_v2 (F := Ideal) (aP m c) i) := fun i => by
    idx_vars i
    unfold mom
    pointwise [val_main_cst_0, val_main_v3, val_main_v4, val_main_cst_1, val_main_v5, val_main_v6, val_main_v7]
  funext i
  rw [e, reads_grad]
  rfl
theorem reads_second : Cert.Reference26Ideal.Read.val_main_v13 (F := Ideal) (aV m c) (aP m c) = second m c := by
  have e : ∀ i, (Cert.Reference26Ideal.Read.val_main_v13 (F := Ideal) (aV m c) (aP m c) i : EReal) = vel (aV m c i) (Cert.Reference26Ideal.Read.val_main_v2 (F := Ideal) (aP m c) i) := fun i => by
    idx_vars i
    unfold vel
    pointwise [val_main_cst_0, val_main_v3, val_main_v4, val_main_cst_1, val_main_v5, val_main_v6, val_main_v7, val_main_cst_2, val_main_v8, val_main_v9, val_main_v10, val_main_cst_3, val_main_v11, val_main_v12, val_main_v13]
  funext i
  rw [e, reads_grad]
  rfl
theorem reads_update : Cert.Reference26Ideal.Read.val_main_v26 (F := Ideal) (aW m c) (aM m c) (aV m c) (aP m c) = update m c := by
  have e : ∀ i, (Cert.Reference26Ideal.Read.val_main_v26 (F := Ideal) (aW m c) (aM m c) (aV m c) (aP m c) i : EReal) = move (aW m c i) (Cert.Reference26Ideal.Read.val_main_v7 (F := Ideal) (aM m c) (aP m c) i) (Cert.Reference26Ideal.Read.val_main_v13 (F := Ideal) (aV m c) (aP m c) i) := fun i => by
    idx_vars i
    unfold move
    pointwise [val_main_cst_4, val_main_v14, val_main_v15, val_main_cst_5, val_main_v16, val_main_v17, val_main_v18, val_main_cst_6, val_main_v19, val_main_v20, val_main_v21, val_main_cst_7, val_main_v22, val_main_v23, val_main_v24, val_main_cst_8, val_main_v25, val_main_v26]
  funext i
  rw [e, reads_first, reads_second]
  rfl
end

end Cert.Kernel26Ideal.Value

end
-- ==== Proof.Update27.lean ====
module

public import proofs.«01_k».proof.Proof.Gen.Kernel27Ideal.Value
public import proofs.«01_k».proof.Proof.Gen.Reference27Ideal.Read
public import proofs.«01_k».proof.Proof.Adam

/-! The step of the optimiser of an array of 1024 by 1024: the gradient is the sum of eight parts. -/

@[expose] public section

set_option maxRecDepth 16384

noncomputable section
open Idealize.ShloMosaic Idealize.ShloMosaic.TcCoe Idealize.SL.Sem
namespace Cert.Kernel27Ideal.Value
open Cert.Kernel27Ideal Cert.Kernel27Ideal.Gen Cert.Product Cert.Adam

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] := by
  decide +kernel

/-- The sum of eight parts at one entry. -/
def add8 (x0 x1 x2 x3 x4 x5 x6 x7 : Vec Ideal S1x128x1024 .bf16) (r : Fin 128) (l : Fin 1024) : EReal :=
  x0 (ix3 0 r l) + x1 (ix3 0 r l) + x2 (ix3 0 r l) + x3 (ix3 0 r l) + x4 (ix3 0 r l) + x5 (ix3 0 r l) + x6 (ix3 0 r l) + x7 (ix3 0 r l)

theorem same_at (x0 x1 x2 x3 x4 x5 x6 x7 : Vec Ideal S1x128x1024 .bf16) (r : Fin 128) (l : Fin 1024) :
    (k0_pay7 (F := Ideal) (k0_pay3 (F := Ideal) x0 x1 x2 x3 x4 x5 x6 x7) (ix3 0 r l) : EReal) = add8 x0 x1 x2 x3 x4 x5 x6 x7 r l := by
  unfold add8
  pointwise [k0_pay7, k0_pay3]
theorem mom_at (x0 x1 x2 x3 x4 x5 x6 x7 : Vec Ideal S1x128x1024 .bf16) (z : Vec Ideal S1x128x1024 .f32) (r : Fin 128) (l : Fin 1024) :
    (k0_pay1 (F := Ideal) (k0_pay5 (k0_pay3 (F := Ideal) x0 x1 x2 x3 x4 x5 x6 x7) (k0_pay4 z)) (ix3 0 r l) : EReal) = mom (z (ix3 0 r l)) (add8 x0 x1 x2 x3 x4 x5 x6 x7 r l) := by
  unfold mom add8
  pointwise [k0_pay1, k0_pay2, k0_pay3, k0_pay4, k0_pay5, k0_pay6, k0_pay7, k0_pay8]
theorem vel_at (x0 x1 x2 x3 x4 x5 x6 x7 : Vec Ideal S1x128x1024 .bf16) (z : Vec Ideal S1x128x1024 .f32) (r : Fin 128) (l : Fin 1024) :
    (k0_pay2 (F := Ideal) (k0_pay6 (k0_pay3 (F := Ideal) x0 x1 x2 x3 x4 x5 x6 x7) z) (ix3 0 r l) : EReal) = vel (z (ix3 0 r l)) (add8 x0 x1 x2 x3 x4 x5 x6 x7 r l) := by
  unfold vel add8
  pointwise [k0_pay1, k0_pay2, k0_pay3, k0_pay4, k0_pay5, k0_pay6, k0_pay7, k0_pay8]
theorem move_at (x0 x1 x2 x3 x4 x5 x6 x7 : Vec Ideal S1x128x1024 .bf16) (a b w : Vec Ideal S1x128x1024 .f32) (r : Fin 128) (l : Fin 1024) :
    (k0_pay8 (F := Ideal) (k0_pay3 (F := Ideal) x0 x1 x2 x3 x4 x5 x6 x7) (k0_pay4 a) b w (ix3 0 r l) : EReal) = move (w (ix3 0 r l)) (mom (a (ix3 0 r l)) (add8 x0 x1 x2 x3 x4 x5 x6 x7 r l)) (vel (b (ix3 0 r l)) (add8 x0 x1 x2 x3 x4 x5 x6 x7 r l)) := by
  unfold move mom vel add8
  pointwise [k0_pay1, k0_pay2, k0_pay3, k0_pay4, k0_pay5, k0_pay6, k0_pay7, k0_pay8]

variable (m : (ℓ : Loc nD τ sig) → Buf (Elt Ideal) ℓ) (c : Dev nD) (t : Fin cfg0.N)

abbrev aW : FVec Ideal S1x1024x1024 .f32 := m ((c.tc : Thread nD τ).loc main_arg0)
abbrev aM : FVec Ideal S1x1024x1024 .f32 := m ((c.tc : Thread nD τ).loc main_arg1)
abbrev aV : FVec Ideal S1x1024x1024 .f32 := m ((c.tc : Thread nD τ).loc main_arg2)
abbrev aP : FVec Ideal S8x1024x1024 .bf16 := m ((c.tc : Thread nD τ).loc main_arg3)

/-- The gradient, the new moments and the update. -/
def grad : FVec Ideal S1x1024x1024 .f32 := fun i => ∑ s : Fin 8, aP m c (ix3 s (i 1) (i 2))
def first : FVec Ideal S1x1024x1024 .f32 := fun i => mom (aM m c i) (grad m c i)
def second : FVec Ideal S1x1024x1024 .f32 := fun i => vel (aV m c i) (grad m c i)
def update : FVec Ideal S1x1024x1024 .f32 := fun i => move (aW m c i) (first m c i) (second m c i)

/-- The entry of the arrays a block's entry is. -/
abbrev pos (r : Fin 128) (l : Fin 1024) : S1x1024x1024.Idx := (ix3 0 ⟨t.val * 128 + r.val, by have := lt_of_lt_of_eq t.isLt N_0; omega⟩ l)

/-- The eight slabs of a block of parts. -/
abbrev slab0_0 : Vec Ideal S1x128x1024 .bf16 := View.ld (iblk m c 3 t) (Rect.unit ![0, 0, 0] ![1, 128, 1024] inb_S8x128x1024_S1x128x1024_0_0_0)
abbrev slab0_1 : Vec Ideal S1x128x1024 .bf16 := View.ld (iblk m c 3 t) (Rect.unit ![1, 0, 0] ![1, 128, 1024] inb_S8x128x1024_S1x128x1024_1_0_0)
abbrev slab0_2 : Vec Ideal S1x128x1024 .bf16 := View.ld (iblk m c 3 t) (Rect.unit ![2, 0, 0] ![1, 128, 1024] inb_S8x128x1024_S1x128x1024_2_0_0)
abbrev slab0_3 : Vec Ideal S1x128x1024 .bf16 := View.ld (iblk m c 3 t) (Rect.unit ![3, 0, 0] ![1, 128, 1024] inb_S8x128x1024_S1x128x1024_3_0_0)
abbrev slab0_4 : Vec Ideal S1x128x1024 .bf16 := View.ld (iblk m c 3 t) (Rect.unit ![4, 0, 0] ![1, 128, 1024] inb_S8x128x1024_S1x128x1024_4_0_0)
abbrev slab0_5 : Vec Ideal S1x128x1024 .bf16 := View.ld (iblk m c 3 t) (Rect.unit ![5, 0, 0] ![1, 128, 1024] inb_S8x128x1024_S1x128x1024_5_0_0)
abbrev slab0_6 : Vec Ideal S1x128x1024 .bf16 := View.ld (iblk m c 3 t) (Rect.unit ![6, 0, 0] ![1, 128, 1024] inb_S8x128x1024_S1x128x1024_6_0_0)
abbrev slab0_7 : Vec Ideal S1x128x1024 .bf16 := View.ld (iblk m c 3 t) (Rect.unit ![7, 0, 0] ![1, 128, 1024] inb_S8x128x1024_S1x128x1024_7_0_0)

theorem in0 (r : Fin 128) (l : Fin 1024) : (iblk m c 0 t (ix3 0 r l) : EReal) = aW m c (pos t r l) := by
  obtain ⟨h, -⟩ := idx t
  have ht : t.val < 8 := lt_of_lt_of_eq t.isLt N_0
  have e : (iblk m c 0 t : Vec Ideal S1x128x1024 .f32) (ix3 0 r l) = aW m c (pos t r l) := by
    blk_ext [iblk, V, h] <;> rfl
  exact e
theorem in1 (r : Fin 128) (l : Fin 1024) : (iblk m c 1 t (ix3 0 r l) : EReal) = aM m c (pos t r l) := by
  obtain ⟨-, h, -⟩ := idx t
  have ht : t.val < 8 := lt_of_lt_of_eq t.isLt N_0
  have e : (iblk m c 1 t : Vec Ideal S1x128x1024 .f32) (ix3 0 r l) = aM m c (pos t r l) := by
    blk_ext [iblk, V, h] <;> rfl
  exact e
theorem in2 (r : Fin 128) (l : Fin 1024) : (iblk m c 2 t (ix3 0 r l) : EReal) = aV m c (pos t r l) := by
  obtain ⟨-, -, h, -⟩ := idx t
  have ht : t.val < 8 := lt_of_lt_of_eq t.isLt N_0
  have e : (iblk m c 2 t : Vec Ideal S1x128x1024 .f32) (ix3 0 r l) = aV m c (pos t r l) := by
    blk_ext [iblk, V, h] <;> rfl
  exact e
theorem slab0_0_at (r : Fin 128) (l : Fin 1024) : slab0_0 m c t (ix3 0 r l) = aP m c (ix3 0 (pos t r l 1) l) := by
  refine (View.ld_unit_apply_of _ _ _ _ _ (ix3 0 r l) (fun a => by fin_cases a <;> simp)).trans ?_
  obtain ⟨-, -, -, h, -⟩ := idx t
  have ht : t.val < 8 := lt_of_lt_of_eq t.isLt N_0
  blk_ext [iblk, V, h] <;> rfl
theorem slab0_1_at (r : Fin 128) (l : Fin 1024) : slab0_1 m c t (ix3 0 r l) = aP m c (ix3 1 (pos t r l 1) l) := by
  refine (View.ld_unit_apply_of _ _ _ _ _ (ix3 1 r l) (fun a => by fin_cases a <;> simp)).trans ?_
  obtain ⟨-, -, -, h, -⟩ := idx t
  have ht : t.val < 8 := lt_of_lt_of_eq t.isLt N_0
  blk_ext [iblk, V, h] <;> rfl
theorem slab0_2_at (r : Fin 128) (l : Fin 1024) : slab0_2 m c t (ix3 0 r l) = aP m c (ix3 2 (pos t r l 1) l) := by
  refine (View.ld_unit_apply_of _ _ _ _ _ (ix3 2 r l) (fun a => by fin_cases a <;> simp)).trans ?_
  obtain ⟨-, -, -, h, -⟩ := idx t
  have ht : t.val < 8 := lt_of_lt_of_eq t.isLt N_0
  blk_ext [iblk, V, h] <;> rfl
theorem slab0_3_at (r : Fin 128) (l : Fin 1024) : slab0_3 m c t (ix3 0 r l) = aP m c (ix3 3 (pos t r l 1) l) := by
  refine (View.ld_unit_apply_of _ _ _ _ _ (ix3 3 r l) (fun a => by fin_cases a <;> simp)).trans ?_
  obtain ⟨-, -, -, h, -⟩ := idx t
  have ht : t.val < 8 := lt_of_lt_of_eq t.isLt N_0
  blk_ext [iblk, V, h] <;> rfl
theorem slab0_4_at (r : Fin 128) (l : Fin 1024) : slab0_4 m c t (ix3 0 r l) = aP m c (ix3 4 (pos t r l 1) l) := by
  refine (View.ld_unit_apply_of _ _ _ _ _ (ix3 4 r l) (fun a => by fin_cases a <;> simp)).trans ?_
  obtain ⟨-, -, -, h, -⟩ := idx t
  have ht : t.val < 8 := lt_of_lt_of_eq t.isLt N_0
  blk_ext [iblk, V, h] <;> rfl
theorem slab0_5_at (r : Fin 128) (l : Fin 1024) : slab0_5 m c t (ix3 0 r l) = aP m c (ix3 5 (pos t r l 1) l) := by
  refine (View.ld_unit_apply_of _ _ _ _ _ (ix3 5 r l) (fun a => by fin_cases a <;> simp)).trans ?_
  obtain ⟨-, -, -, h, -⟩ := idx t
  have ht : t.val < 8 := lt_of_lt_of_eq t.isLt N_0
  blk_ext [iblk, V, h] <;> rfl
theorem slab0_6_at (r : Fin 128) (l : Fin 1024) : slab0_6 m c t (ix3 0 r l) = aP m c (ix3 6 (pos t r l 1) l) := by
  refine (View.ld_unit_apply_of _ _ _ _ _ (ix3 6 r l) (fun a => by fin_cases a <;> simp)).trans ?_
  obtain ⟨-, -, -, h, -⟩ := idx t
  have ht : t.val < 8 := lt_of_lt_of_eq t.isLt N_0
  blk_ext [iblk, V, h] <;> rfl
theorem slab0_7_at (r : Fin 128) (l : Fin 1024) : slab0_7 m c t (ix3 0 r l) = aP m c (ix3 7 (pos t r l 1) l) := by
  refine (View.ld_unit_apply_of _ _ _ _ _ (ix3 7 r l) (fun a => by fin_cases a <;> simp)).trans ?_
  obtain ⟨-, -, -, h, -⟩ := idx t
  have ht : t.val < 8 := lt_of_lt_of_eq t.isLt N_0
  blk_ext [iblk, V, h] <;> rfl
theorem total (r : Fin 128) (l : Fin 1024) : add8 (slab0_0 m c t) (slab0_1 m c t) (slab0_2 m c t) (slab0_3 m c t) (slab0_4 m c t) (slab0_5 m c t) (slab0_6 m c t) (slab0_7 m c t) r l = grad m c (pos t r l) := by
  unfold add8 grad
  rw [slab0_0_at, slab0_1_at, slab0_2_at, slab0_3_at, slab0_4_at, slab0_5_at, slab0_6_at, slab0_7_at]
  exact (Fin.sum_univ_eight (fun s : Fin 8 => (aP m c (ix3 s (pos t r l 1) l) : EReal))).symm

theorem out_grad (r : Fin 128) (l : Fin 1024) : ((outsAt0 m c t).1 (ix3 0 r l) : EReal) = grad m c (pos t r l) := by
  unfold outsAt0
  frame_out
  exact (same_at _ _ _ _ _ _ _ _ _ _).trans (total m c t r l)
theorem out_update (r : Fin 128) (l : Fin 1024) : ((outsAt0 m c t).2.1 (ix3 0 r l) : EReal) = update m c (pos t r l) := by
  unfold outsAt0
  frame_out
  exact (move_at _ _ _ _ _ _ _ _ _ _ _ _ _).trans (congr (congrArg₂ move (in0 m c t r l) (congrArg₂ mom (in1 m c t r l) (total m c t r l))) (congrArg₂ vel (in2 m c t r l) (total m c t r l)))
theorem out_first (r : Fin 128) (l : Fin 1024) : ((outsAt0 m c t).2.2.1 (ix3 0 r l) : EReal) = first m c (pos t r l) := by
  unfold outsAt0
  frame_out
  exact (mom_at _ _ _ _ _ _ _ _ _ _ _).trans (congrArg₂ mom (in1 m c t r l) (total m c t r l))
theorem out_second (r : Fin 128) (l : Fin 1024) : ((outsAt0 m c t).2.2.2 (ix3 0 r l) : EReal) = second m c (pos t r l) := by
  unfold outsAt0
  frame_out
  exact (vel_at _ _ _ _ _ _ _ _ _ _ _).trans (congrArg₂ vel (in2 m c t r l) (total m c t r l))

theorem result4 : (dats m 0 c).arrAt 4 cfg0.N = grad m c := by
  refine (dats m 0 c).arrAt_eq_of_covers 4 _ (by decide +kernel) fun t hf y => ?_
  blk_simp; rw [after0_4]
  have ht : t.val < 8 := lt_of_lt_of_eq t.isLt N_0
  obtain ⟨-, -, -, -, h, -⟩ := idx t
  idx_vars y
  have e0 : y0 = 0 := Fin.ext (by omega)
  subst e0
  have e : grad m c (((View.whole main_v0_0).slice (win0_4.rect t)).emb (ix3 0 y1 y2)) = grad m c (pos t y1 y2) := by
    generalize grad m c = X
    blk_ext [h] <;> rfl
  exact (out_grad m c t y1 y2).trans e.symm
theorem result5 : (dats m 0 c).arrAt 5 cfg0.N = update m c := by
  refine (dats m 0 c).arrAt_eq_of_covers 5 _ (by decide +kernel) fun t hf y => ?_
  blk_simp; rw [after0_5]
  have ht : t.val < 8 := lt_of_lt_of_eq t.isLt N_0
  obtain ⟨-, -, -, -, -, h, -⟩ := idx t
  idx_vars y
  have e0 : y0 = 0 := Fin.ext (by omega)
  subst e0
  have e : update m c (((View.whole main_v0_1).slice (win0_5.rect t)).emb (ix3 0 y1 y2)) = update m c (pos t y1 y2) := by
    generalize update m c = X
    blk_ext [h] <;> rfl
  exact (out_update m c t y1 y2).trans e.symm
theorem result6 : (dats m 0 c).arrAt 6 cfg0.N = first m c := by
  refine (dats m 0 c).arrAt_eq_of_covers 6 _ (by decide +kernel) fun t hf y => ?_
  blk_simp; rw [after0_6]
  have ht : t.val < 8 := lt_of_lt_of_eq t.isLt N_0
  obtain ⟨-, -, -, -, -, -, h, -⟩ := idx t
  idx_vars y
  have e0 : y0 = 0 := Fin.ext (by omega)
  subst e0
  have e : first m c (((View.whole main_v0_2).slice (win0_6.rect t)).emb (ix3 0 y1 y2)) = first m c (pos t y1 y2) := by
    generalize first m c = X
    blk_ext [h] <;> rfl
  exact (out_first m c t y1 y2).trans e.symm
theorem result7 : (dats m 0 c).arrAt 7 cfg0.N = second m c := by
  refine (dats m 0 c).arrAt_eq_of_covers 7 _ (by decide +kernel) fun t hf y => ?_
  blk_simp; rw [after0_7]
  have ht : t.val < 8 := lt_of_lt_of_eq t.isLt N_0
  obtain ⟨-, -, -, -, -, -, -, h⟩ := idx t
  idx_vars y
  have e0 : y0 = 0 := Fin.ext (by omega)
  subst e0
  have e : second m c (((View.whole main_v0_3).slice (win0_7.rect t)).emb (ix3 0 y1 y2)) = second m c (pos t y1 y2) := by
    generalize second m c = X
    blk_ext [h] <;> rfl
  exact (out_second m c t y1 y2).trans e.symm

section
open Cert.Reference27Ideal.Read
theorem reads_grad : Cert.Reference27Ideal.Read.val_main_v2 (F := Ideal) (aP m c) = grad m c := by
  funext i
  idx_vars i
  unfold grad
  pointwise [val_main_v0, val_main_cst, val_main_v1, val_main_v2]
theorem reads_first : Cert.Reference27Ideal.Read.val_main_v7 (F := Ideal) (aM m c) (aP m c) = first m c := by
  have e : ∀ i, (Cert.Reference27Ideal.Read.val_main_v7 (F := Ideal) (aM m c) (aP m c) i : EReal) = mom (aM m c i) (Cert.Reference27Ideal.Read.val_main_v2 (F := Ideal) (aP m c) i) := fun i => by
    idx_vars i
    unfold mom
    pointwise [val_main_cst_0, val_main_v3, val_main_v4, val_main_cst_1, val_main_v5, val_main_v6, val_main_v7]
  funext i
  rw [e, reads_grad]
  rfl
theorem reads_second : Cert.Reference27Ideal.Read.val_main_v13 (F := Ideal) (aV m c) (aP m c) = second m c := by
  have e : ∀ i, (Cert.Reference27Ideal.Read.val_main_v13 (F := Ideal) (aV m c) (aP m c) i : EReal) = vel (aV m c i) (Cert.Reference27Ideal.Read.val_main_v2 (F := Ideal) (aP m c) i) := fun i => by
    idx_vars i
    unfold vel
    pointwise [val_main_cst_0, val_main_v3, val_main_v4, val_main_cst_1, val_main_v5, val_main_v6, val_main_v7, val_main_cst_2, val_main_v8, val_main_v9, val_main_v10, val_main_cst_3, val_main_v11, val_main_v12, val_main_v13]
  funext i
  rw [e, reads_grad]
  rfl
theorem reads_update : Cert.Reference27Ideal.Read.val_main_v26 (F := Ideal) (aW m c) (aM m c) (aV m c) (aP m c) = update m c := by
  have e : ∀ i, (Cert.Reference27Ideal.Read.val_main_v26 (F := Ideal) (aW m c) (aM m c) (aV m c) (aP m c) i : EReal) = move (aW m c i) (Cert.Reference27Ideal.Read.val_main_v7 (F := Ideal) (aM m c) (aP m c) i) (Cert.Reference27Ideal.Read.val_main_v13 (F := Ideal) (aV m c) (aP m c) i) := fun i => by
    idx_vars i
    unfold move
    pointwise [val_main_cst_4, val_main_v14, val_main_v15, val_main_cst_5, val_main_v16, val_main_v17, val_main_v18, val_main_cst_6, val_main_v19, val_main_v20, val_main_v21, val_main_cst_7, val_main_v22, val_main_v23, val_main_v24, val_main_cst_8, val_main_v25, val_main_v26]
  funext i
  rw [e, reads_first, reads_second]
  rfl
end

end Cert.Kernel27Ideal.Value

end
-- ==== Proof.Update28.lean ====
module

public import proofs.«01_k».proof.Proof.Gen.Kernel28Ideal.Value
public import proofs.«01_k».proof.Proof.Gen.Reference28Ideal.Read
public import proofs.«01_k».proof.Proof.Adam

/-! The step of the optimiser of an array of 256 by 1024: the gradient is the sum of eight parts. -/

@[expose] public section

set_option maxRecDepth 16384

noncomputable section
open Idealize.ShloMosaic Idealize.ShloMosaic.TcCoe Idealize.SL.Sem
namespace Cert.Kernel28Ideal.Value
open Cert.Kernel28Ideal Cert.Kernel28Ideal.Gen Cert.Product Cert.Adam

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] := by
  decide +kernel

/-- The sum of eight parts at one entry. -/
def add8 (x0 x1 x2 x3 x4 x5 x6 x7 : Vec Ideal S1x128x1024 .bf16) (r : Fin 128) (l : Fin 1024) : EReal :=
  x0 (ix3 0 r l) + x1 (ix3 0 r l) + x2 (ix3 0 r l) + x3 (ix3 0 r l) + x4 (ix3 0 r l) + x5 (ix3 0 r l) + x6 (ix3 0 r l) + x7 (ix3 0 r l)

theorem same_at (x0 x1 x2 x3 x4 x5 x6 x7 : Vec Ideal S1x128x1024 .bf16) (r : Fin 128) (l : Fin 1024) :
    (k0_pay7 (F := Ideal) (k0_pay3 (F := Ideal) x0 x1 x2 x3 x4 x5 x6 x7) (ix3 0 r l) : EReal) = add8 x0 x1 x2 x3 x4 x5 x6 x7 r l := by
  unfold add8
  pointwise [k0_pay7, k0_pay3]
theorem mom_at (x0 x1 x2 x3 x4 x5 x6 x7 : Vec Ideal S1x128x1024 .bf16) (z : Vec Ideal S1x128x1024 .f32) (r : Fin 128) (l : Fin 1024) :
    (k0_pay1 (F := Ideal) (k0_pay5 (k0_pay3 (F := Ideal) x0 x1 x2 x3 x4 x5 x6 x7) (k0_pay4 z)) (ix3 0 r l) : EReal) = mom (z (ix3 0 r l)) (add8 x0 x1 x2 x3 x4 x5 x6 x7 r l) := by
  unfold mom add8
  pointwise [k0_pay1, k0_pay2, k0_pay3, k0_pay4, k0_pay5, k0_pay6, k0_pay7, k0_pay8]
theorem vel_at (x0 x1 x2 x3 x4 x5 x6 x7 : Vec Ideal S1x128x1024 .bf16) (z : Vec Ideal S1x128x1024 .f32) (r : Fin 128) (l : Fin 1024) :
    (k0_pay2 (F := Ideal) (k0_pay6 (k0_pay3 (F := Ideal) x0 x1 x2 x3 x4 x5 x6 x7) z) (ix3 0 r l) : EReal) = vel (z (ix3 0 r l)) (add8 x0 x1 x2 x3 x4 x5 x6 x7 r l) := by
  unfold vel add8
  pointwise [k0_pay1, k0_pay2, k0_pay3, k0_pay4, k0_pay5, k0_pay6, k0_pay7, k0_pay8]
theorem move_at (x0 x1 x2 x3 x4 x5 x6 x7 : Vec Ideal S1x128x1024 .bf16) (a b w : Vec Ideal S1x128x1024 .f32) (r : Fin 128) (l : Fin 1024) :
    (k0_pay8 (F := Ideal) (k0_pay3 (F := Ideal) x0 x1 x2 x3 x4 x5 x6 x7) (k0_pay4 a) b w (ix3 0 r l) : EReal) = move (w (ix3 0 r l)) (mom (a (ix3 0 r l)) (add8 x0 x1 x2 x3 x4 x5 x6 x7 r l)) (vel (b (ix3 0 r l)) (add8 x0 x1 x2 x3 x4 x5 x6 x7 r l)) := by
  unfold move mom vel add8
  pointwise [k0_pay1, k0_pay2, k0_pay3, k0_pay4, k0_pay5, k0_pay6, k0_pay7, k0_pay8]

variable (m : (ℓ : Loc nD τ sig) → Buf (Elt Ideal) ℓ) (c : Dev nD) (t : Fin cfg0.N)

abbrev aW : FVec Ideal S1x256x1024 .f32 := m ((c.tc : Thread nD τ).loc main_arg0)
abbrev aM : FVec Ideal S1x256x1024 .f32 := m ((c.tc : Thread nD τ).loc main_arg1)
abbrev aV : FVec Ideal S1x256x1024 .f32 := m ((c.tc : Thread nD τ).loc main_arg2)
abbrev aP : FVec Ideal S8x256x1024 .bf16 := m ((c.tc : Thread nD τ).loc main_arg3)

/-- The gradient, the new moments and the update. -/
def grad : FVec Ideal S1x256x1024 .f32 := fun i => ∑ s : Fin 8, aP m c (ix3 s (i 1) (i 2))
def first : FVec Ideal S1x256x1024 .f32 := fun i => mom (aM m c i) (grad m c i)
def second : FVec Ideal S1x256x1024 .f32 := fun i => vel (aV m c i) (grad m c i)
def update : FVec Ideal S1x256x1024 .f32 := fun i => move (aW m c i) (first m c i) (second m c i)

/-- The entry of the arrays a block's entry is. -/
abbrev pos (r : Fin 128) (l : Fin 1024) : S1x256x1024.Idx := (ix3 0 ⟨t.val * 128 + r.val, by have := lt_of_lt_of_eq t.isLt N_0; omega⟩ l)

/-- The eight slabs of a block of parts. -/
abbrev slab0_0 : Vec Ideal S1x128x1024 .bf16 := View.ld (iblk m c 3 t) (Rect.unit ![0, 0, 0] ![1, 128, 1024] inb_S8x128x1024_S1x128x1024_0_0_0)
abbrev slab0_1 : Vec Ideal S1x128x1024 .bf16 := View.ld (iblk m c 3 t) (Rect.unit ![1, 0, 0] ![1, 128, 1024] inb_S8x128x1024_S1x128x1024_1_0_0)
abbrev slab0_2 : Vec Ideal S1x128x1024 .bf16 := View.ld (iblk m c 3 t) (Rect.unit ![2, 0, 0] ![1, 128, 1024] inb_S8x128x1024_S1x128x1024_2_0_0)
abbrev slab0_3 : Vec Ideal S1x128x1024 .bf16 := View.ld (iblk m c 3 t) (Rect.unit ![3, 0, 0] ![1, 128, 1024] inb_S8x128x1024_S1x128x1024_3_0_0)
abbrev slab0_4 : Vec Ideal S1x128x1024 .bf16 := View.ld (iblk m c 3 t) (Rect.unit ![4, 0, 0] ![1, 128, 1024] inb_S8x128x1024_S1x128x1024_4_0_0)
abbrev slab0_5 : Vec Ideal S1x128x1024 .bf16 := View.ld (iblk m c 3 t) (Rect.unit ![5, 0, 0] ![1, 128, 1024] inb_S8x128x1024_S1x128x1024_5_0_0)
abbrev slab0_6 : Vec Ideal S1x128x1024 .bf16 := View.ld (iblk m c 3 t) (Rect.unit ![6, 0, 0] ![1, 128, 1024] inb_S8x128x1024_S1x128x1024_6_0_0)
abbrev slab0_7 : Vec Ideal S1x128x1024 .bf16 := View.ld (iblk m c 3 t) (Rect.unit ![7, 0, 0] ![1, 128, 1024] inb_S8x128x1024_S1x128x1024_7_0_0)

theorem in0 (r : Fin 128) (l : Fin 1024) : (iblk m c 0 t (ix3 0 r l) : EReal) = aW m c (pos t r l) := by
  obtain ⟨h, -⟩ := idx t
  have ht : t.val < 2 := lt_of_lt_of_eq t.isLt N_0
  have e : (iblk m c 0 t : Vec Ideal S1x128x1024 .f32) (ix3 0 r l) = aW m c (pos t r l) := by
    blk_ext [iblk, V, h] <;> rfl
  exact e
theorem in1 (r : Fin 128) (l : Fin 1024) : (iblk m c 1 t (ix3 0 r l) : EReal) = aM m c (pos t r l) := by
  obtain ⟨-, h, -⟩ := idx t
  have ht : t.val < 2 := lt_of_lt_of_eq t.isLt N_0
  have e : (iblk m c 1 t : Vec Ideal S1x128x1024 .f32) (ix3 0 r l) = aM m c (pos t r l) := by
    blk_ext [iblk, V, h] <;> rfl
  exact e
theorem in2 (r : Fin 128) (l : Fin 1024) : (iblk m c 2 t (ix3 0 r l) : EReal) = aV m c (pos t r l) := by
  obtain ⟨-, -, h, -⟩ := idx t
  have ht : t.val < 2 := lt_of_lt_of_eq t.isLt N_0
  have e : (iblk m c 2 t : Vec Ideal S1x128x1024 .f32) (ix3 0 r l) = aV m c (pos t r l) := by
    blk_ext [iblk, V, h] <;> rfl
  exact e
theorem slab0_0_at (r : Fin 128) (l : Fin 1024) : slab0_0 m c t (ix3 0 r l) = aP m c (ix3 0 (pos t r l 1) l) := by
  refine (View.ld_unit_apply_of _ _ _ _ _ (ix3 0 r l) (fun a => by fin_cases a <;> simp)).trans ?_
  obtain ⟨-, -, -, h, -⟩ := idx t
  have ht : t.val < 2 := lt_of_lt_of_eq t.isLt N_0
  blk_ext [iblk, V, h] <;> rfl
theorem slab0_1_at (r : Fin 128) (l : Fin 1024) : slab0_1 m c t (ix3 0 r l) = aP m c (ix3 1 (pos t r l 1) l) := by
  refine (View.ld_unit_apply_of _ _ _ _ _ (ix3 1 r l) (fun a => by fin_cases a <;> simp)).trans ?_
  obtain ⟨-, -, -, h, -⟩ := idx t
  have ht : t.val < 2 := lt_of_lt_of_eq t.isLt N_0
  blk_ext [iblk, V, h] <;> rfl
theorem slab0_2_at (r : Fin 128) (l : Fin 1024) : slab0_2 m c t (ix3 0 r l) = aP m c (ix3 2 (pos t r l 1) l) := by
  refine (View.ld_unit_apply_of _ _ _ _ _ (ix3 2 r l) (fun a => by fin_cases a <;> simp)).trans ?_
  obtain ⟨-, -, -, h, -⟩ := idx t
  have ht : t.val < 2 := lt_of_lt_of_eq t.isLt N_0
  blk_ext [iblk, V, h] <;> rfl
theorem slab0_3_at (r : Fin 128) (l : Fin 1024) : slab0_3 m c t (ix3 0 r l) = aP m c (ix3 3 (pos t r l 1) l) := by
  refine (View.ld_unit_apply_of _ _ _ _ _ (ix3 3 r l) (fun a => by fin_cases a <;> simp)).trans ?_
  obtain ⟨-, -, -, h, -⟩ := idx t
  have ht : t.val < 2 := lt_of_lt_of_eq t.isLt N_0
  blk_ext [iblk, V, h] <;> rfl
theorem slab0_4_at (r : Fin 128) (l : Fin 1024) : slab0_4 m c t (ix3 0 r l) = aP m c (ix3 4 (pos t r l 1) l) := by
  refine (View.ld_unit_apply_of _ _ _ _ _ (ix3 4 r l) (fun a => by fin_cases a <;> simp)).trans ?_
  obtain ⟨-, -, -, h, -⟩ := idx t
  have ht : t.val < 2 := lt_of_lt_of_eq t.isLt N_0
  blk_ext [iblk, V, h] <;> rfl
theorem slab0_5_at (r : Fin 128) (l : Fin 1024) : slab0_5 m c t (ix3 0 r l) = aP m c (ix3 5 (pos t r l 1) l) := by
  refine (View.ld_unit_apply_of _ _ _ _ _ (ix3 5 r l) (fun a => by fin_cases a <;> simp)).trans ?_
  obtain ⟨-, -, -, h, -⟩ := idx t
  have ht : t.val < 2 := lt_of_lt_of_eq t.isLt N_0
  blk_ext [iblk, V, h] <;> rfl
theorem slab0_6_at (r : Fin 128) (l : Fin 1024) : slab0_6 m c t (ix3 0 r l) = aP m c (ix3 6 (pos t r l 1) l) := by
  refine (View.ld_unit_apply_of _ _ _ _ _ (ix3 6 r l) (fun a => by fin_cases a <;> simp)).trans ?_
  obtain ⟨-, -, -, h, -⟩ := idx t
  have ht : t.val < 2 := lt_of_lt_of_eq t.isLt N_0
  blk_ext [iblk, V, h] <;> rfl
theorem slab0_7_at (r : Fin 128) (l : Fin 1024) : slab0_7 m c t (ix3 0 r l) = aP m c (ix3 7 (pos t r l 1) l) := by
  refine (View.ld_unit_apply_of _ _ _ _ _ (ix3 7 r l) (fun a => by fin_cases a <;> simp)).trans ?_
  obtain ⟨-, -, -, h, -⟩ := idx t
  have ht : t.val < 2 := lt_of_lt_of_eq t.isLt N_0
  blk_ext [iblk, V, h] <;> rfl
theorem total (r : Fin 128) (l : Fin 1024) : add8 (slab0_0 m c t) (slab0_1 m c t) (slab0_2 m c t) (slab0_3 m c t) (slab0_4 m c t) (slab0_5 m c t) (slab0_6 m c t) (slab0_7 m c t) r l = grad m c (pos t r l) := by
  unfold add8 grad
  rw [slab0_0_at, slab0_1_at, slab0_2_at, slab0_3_at, slab0_4_at, slab0_5_at, slab0_6_at, slab0_7_at]
  exact (Fin.sum_univ_eight (fun s : Fin 8 => (aP m c (ix3 s (pos t r l 1) l) : EReal))).symm

theorem out_grad (r : Fin 128) (l : Fin 1024) : ((outsAt0 m c t).1 (ix3 0 r l) : EReal) = grad m c (pos t r l) := by
  unfold outsAt0
  frame_out
  exact (same_at _ _ _ _ _ _ _ _ _ _).trans (total m c t r l)
theorem out_update (r : Fin 128) (l : Fin 1024) : ((outsAt0 m c t).2.1 (ix3 0 r l) : EReal) = update m c (pos t r l) := by
  unfold outsAt0
  frame_out
  exact (move_at _ _ _ _ _ _ _ _ _ _ _ _ _).trans (congr (congrArg₂ move (in0 m c t r l) (congrArg₂ mom (in1 m c t r l) (total m c t r l))) (congrArg₂ vel (in2 m c t r l) (total m c t r l)))
theorem out_first (r : Fin 128) (l : Fin 1024) : ((outsAt0 m c t).2.2.1 (ix3 0 r l) : EReal) = first m c (pos t r l) := by
  unfold outsAt0
  frame_out
  exact (mom_at _ _ _ _ _ _ _ _ _ _ _).trans (congrArg₂ mom (in1 m c t r l) (total m c t r l))
theorem out_second (r : Fin 128) (l : Fin 1024) : ((outsAt0 m c t).2.2.2 (ix3 0 r l) : EReal) = second m c (pos t r l) := by
  unfold outsAt0
  frame_out
  exact (vel_at _ _ _ _ _ _ _ _ _ _ _).trans (congrArg₂ vel (in2 m c t r l) (total m c t r l))

theorem result4 : (dats m 0 c).arrAt 4 cfg0.N = grad m c := by
  refine (dats m 0 c).arrAt_eq_of_covers 4 _ (by decide +kernel) fun t hf y => ?_
  blk_simp; rw [after0_4]
  have ht : t.val < 2 := lt_of_lt_of_eq t.isLt N_0
  obtain ⟨-, -, -, -, h, -⟩ := idx t
  idx_vars y
  have e0 : y0 = 0 := Fin.ext (by omega)
  subst e0
  have e : grad m c (((View.whole main_v0_0).slice (win0_4.rect t)).emb (ix3 0 y1 y2)) = grad m c (pos t y1 y2) := by
    generalize grad m c = X
    blk_ext [h] <;> rfl
  exact (out_grad m c t y1 y2).trans e.symm
theorem result5 : (dats m 0 c).arrAt 5 cfg0.N = update m c := by
  refine (dats m 0 c).arrAt_eq_of_covers 5 _ (by decide +kernel) fun t hf y => ?_
  blk_simp; rw [after0_5]
  have ht : t.val < 2 := lt_of_lt_of_eq t.isLt N_0
  obtain ⟨-, -, -, -, -, h, -⟩ := idx t
  idx_vars y
  have e0 : y0 = 0 := Fin.ext (by omega)
  subst e0
  have e : update m c (((View.whole main_v0_1).slice (win0_5.rect t)).emb (ix3 0 y1 y2)) = update m c (pos t y1 y2) := by
    generalize update m c = X
    blk_ext [h] <;> rfl
  exact (out_update m c t y1 y2).trans e.symm
theorem result6 : (dats m 0 c).arrAt 6 cfg0.N = first m c := by
  refine (dats m 0 c).arrAt_eq_of_covers 6 _ (by decide +kernel) fun t hf y => ?_
  blk_simp; rw [after0_6]
  have ht : t.val < 2 := lt_of_lt_of_eq t.isLt N_0
  obtain ⟨-, -, -, -, -, -, h, -⟩ := idx t
  idx_vars y
  have e0 : y0 = 0 := Fin.ext (by omega)
  subst e0
  have e : first m c (((View.whole main_v0_2).slice (win0_6.rect t)).emb (ix3 0 y1 y2)) = first m c (pos t y1 y2) := by
    generalize first m c = X
    blk_ext [h] <;> rfl
  exact (out_first m c t y1 y2).trans e.symm
theorem result7 : (dats m 0 c).arrAt 7 cfg0.N = second m c := by
  refine (dats m 0 c).arrAt_eq_of_covers 7 _ (by decide +kernel) fun t hf y => ?_
  blk_simp; rw [after0_7]
  have ht : t.val < 2 := lt_of_lt_of_eq t.isLt N_0
  obtain ⟨-, -, -, -, -, -, -, h⟩ := idx t
  idx_vars y
  have e0 : y0 = 0 := Fin.ext (by omega)
  subst e0
  have e : second m c (((View.whole main_v0_3).slice (win0_7.rect t)).emb (ix3 0 y1 y2)) = second m c (pos t y1 y2) := by
    generalize second m c = X
    blk_ext [h] <;> rfl
  exact (out_second m c t y1 y2).trans e.symm

section
open Cert.Reference28Ideal.Read
theorem reads_grad : Cert.Reference28Ideal.Read.val_main_v2 (F := Ideal) (aP m c) = grad m c := by
  funext i
  idx_vars i
  unfold grad
  pointwise [val_main_v0, val_main_cst, val_main_v1, val_main_v2]
theorem reads_first : Cert.Reference28Ideal.Read.val_main_v7 (F := Ideal) (aM m c) (aP m c) = first m c := by
  have e : ∀ i, (Cert.Reference28Ideal.Read.val_main_v7 (F := Ideal) (aM m c) (aP m c) i : EReal) = mom (aM m c i) (Cert.Reference28Ideal.Read.val_main_v2 (F := Ideal) (aP m c) i) := fun i => by
    idx_vars i
    unfold mom
    pointwise [val_main_cst_0, val_main_v3, val_main_v4, val_main_cst_1, val_main_v5, val_main_v6, val_main_v7]
  funext i
  rw [e, reads_grad]
  rfl
theorem reads_second : Cert.Reference28Ideal.Read.val_main_v13 (F := Ideal) (aV m c) (aP m c) = second m c := by
  have e : ∀ i, (Cert.Reference28Ideal.Read.val_main_v13 (F := Ideal) (aV m c) (aP m c) i : EReal) = vel (aV m c i) (Cert.Reference28Ideal.Read.val_main_v2 (F := Ideal) (aP m c) i) := fun i => by
    idx_vars i
    unfold vel
    pointwise [val_main_cst_0, val_main_v3, val_main_v4, val_main_cst_1, val_main_v5, val_main_v6, val_main_v7, val_main_cst_2, val_main_v8, val_main_v9, val_main_v10, val_main_cst_3, val_main_v11, val_main_v12, val_main_v13]
  funext i
  rw [e, reads_grad]
  rfl
theorem reads_update : Cert.Reference28Ideal.Read.val_main_v26 (F := Ideal) (aW m c) (aM m c) (aV m c) (aP m c) = update m c := by
  have e : ∀ i, (Cert.Reference28Ideal.Read.val_main_v26 (F := Ideal) (aW m c) (aM m c) (aV m c) (aP m c) i : EReal) = move (aW m c i) (Cert.Reference28Ideal.Read.val_main_v7 (F := Ideal) (aM m c) (aP m c) i) (Cert.Reference28Ideal.Read.val_main_v13 (F := Ideal) (aV m c) (aP m c) i) := fun i => by
    idx_vars i
    unfold move
    pointwise [val_main_cst_4, val_main_v14, val_main_v15, val_main_cst_5, val_main_v16, val_main_v17, val_main_v18, val_main_cst_6, val_main_v19, val_main_v20, val_main_v21, val_main_cst_7, val_main_v22, val_main_v23, val_main_v24, val_main_cst_8, val_main_v25, val_main_v26]
  funext i
  rw [e, reads_first, reads_second]
  rfl
end

end Cert.Kernel28Ideal.Value

end
-- ==== Proof.Update29.lean ====
module

public import proofs.«01_k».proof.Proof.Gen.Kernel29Ideal.Value
public import proofs.«01_k».proof.Proof.Gen.Reference29Ideal.Read
public import proofs.«01_k».proof.Proof.Adam

/-! The step of the optimiser of an array of 3 by 256: the gradient is the sum of eight parts. -/

@[expose] public section

set_option maxRecDepth 16384

noncomputable section
open Idealize.ShloMosaic Idealize.ShloMosaic.TcCoe Idealize.SL.Sem
namespace Cert.Kernel29Ideal.Value
open Cert.Kernel29Ideal Cert.Kernel29Ideal.Gen Cert.Product Cert.Adam

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] := by
  decide +kernel

/-- The sum of eight parts at one entry. -/
def add8 (x0 x1 x2 x3 x4 x5 x6 x7 : Vec Ideal S1x3x256 .f32) (r : Fin 3) (l : Fin 256) : EReal :=
  x0 (ix3 0 r l) + x1 (ix3 0 r l) + x2 (ix3 0 r l) + x3 (ix3 0 r l) + x4 (ix3 0 r l) + x5 (ix3 0 r l) + x6 (ix3 0 r l) + x7 (ix3 0 r l)

theorem same_at (x0 x1 x2 x3 x4 x5 x6 x7 : Vec Ideal S1x3x256 .f32) (r : Fin 3) (l : Fin 256) :
    (k0_pay5 (F := Ideal) (k0_pay2 (F := Ideal) x0 x1 x2 x3 x4 x5 x6 x7) (ix3 0 r l) : EReal) = add8 x0 x1 x2 x3 x4 x5 x6 x7 r l := by
  unfold add8
  pointwise [k0_pay5, k0_pay2]
theorem mom_at (x0 x1 x2 x3 x4 x5 x6 x7 : Vec Ideal S1x3x256 .f32) (z : Vec Ideal S1x3x256 .f32) (r : Fin 3) (l : Fin 256) :
    (k0_pay7 (F := Ideal) (k0_pay3 x0 x1 x2 x3 x4 x5 x6 x7 z) (ix3 0 r l) : EReal) = mom (z (ix3 0 r l)) (add8 x0 x1 x2 x3 x4 x5 x6 x7 r l) := by
  unfold mom add8
  pointwise [k0_pay1, k0_pay2, k0_pay3, k0_pay4, k0_pay5, k0_pay6, k0_pay7]
theorem vel_at (x0 x1 x2 x3 x4 x5 x6 x7 : Vec Ideal S1x3x256 .f32) (z : Vec Ideal S1x3x256 .f32) (r : Fin 3) (l : Fin 256) :
    (k0_pay1 (F := Ideal) (k0_pay4 (k0_pay2 (F := Ideal) x0 x1 x2 x3 x4 x5 x6 x7) z) (ix3 0 r l) : EReal) = vel (z (ix3 0 r l)) (add8 x0 x1 x2 x3 x4 x5 x6 x7 r l) := by
  unfold vel add8
  pointwise [k0_pay1, k0_pay2, k0_pay3, k0_pay4, k0_pay5, k0_pay6, k0_pay7]
theorem move_at (x0 x1 x2 x3 x4 x5 x6 x7 : Vec Ideal S1x3x256 .f32) (a b w : Vec Ideal S1x3x256 .f32) (r : Fin 3) (l : Fin 256) :
    (k0_pay6 (F := Ideal) (k0_pay2 (F := Ideal) x0 x1 x2 x3 x4 x5 x6 x7) (k0_pay3 x0 x1 x2 x3 x4 x5 x6 x7 a) b w (ix3 0 r l) : EReal) = move (w (ix3 0 r l)) (mom (a (ix3 0 r l)) (add8 x0 x1 x2 x3 x4 x5 x6 x7 r l)) (vel (b (ix3 0 r l)) (add8 x0 x1 x2 x3 x4 x5 x6 x7 r l)) := by
  unfold move mom vel add8
  pointwise [k0_pay1, k0_pay2, k0_pay3, k0_pay4, k0_pay5, k0_pay6, k0_pay7]

variable (m : (ℓ : Loc nD τ sig) → Buf (Elt Ideal) ℓ) (c : Dev nD) (t : Fin cfg0.N)

abbrev aW : FVec Ideal S1x3x256 .f32 := m ((c.tc : Thread nD τ).loc main_arg0)
abbrev aM : FVec Ideal S1x3x256 .f32 := m ((c.tc : Thread nD τ).loc main_arg1)
abbrev aV : FVec Ideal S1x3x256 .f32 := m ((c.tc : Thread nD τ).loc main_arg2)
abbrev aP : FVec Ideal S8x3x256 .f32 := m ((c.tc : Thread nD τ).loc main_arg3)

/-- The gradient, the new moments and the update. -/
def grad : FVec Ideal S1x3x256 .f32 := fun i => ∑ s : Fin 8, aP m c (ix3 s (i 1) (i 2))
def first : FVec Ideal S1x3x256 .f32 := fun i => mom (aM m c i) (grad m c i)
def second : FVec Ideal S1x3x256 .f32 := fun i => vel (aV m c i) (grad m c i)
def update : FVec Ideal S1x3x256 .f32 := fun i => move (aW m c i) (first m c i) (second m c i)

/-- The entry of the arrays a block's entry is. -/
abbrev pos (r : Fin 3) (l : Fin 256) : S1x3x256.Idx := (ix3 0 ⟨t.val * 3 + r.val, by have := lt_of_lt_of_eq t.isLt N_0; omega⟩ l)

/-- The eight slabs of a block of parts. -/
abbrev slab0_0 : Vec Ideal S1x3x256 .f32 := View.ld (iblk m c 3 t) (Rect.unit ![0, 0, 0] ![1, 3, 256] inb_S8x3x256_S1x3x256_0_0_0)
abbrev slab0_1 : Vec Ideal S1x3x256 .f32 := View.ld (iblk m c 3 t) (Rect.unit ![1, 0, 0] ![1, 3, 256] inb_S8x3x256_S1x3x256_1_0_0)
abbrev slab0_2 : Vec Ideal S1x3x256 .f32 := View.ld (iblk m c 3 t) (Rect.unit ![2, 0, 0] ![1, 3, 256] inb_S8x3x256_S1x3x256_2_0_0)
abbrev slab0_3 : Vec Ideal S1x3x256 .f32 := View.ld (iblk m c 3 t) (Rect.unit ![3, 0, 0] ![1, 3, 256] inb_S8x3x256_S1x3x256_3_0_0)
abbrev slab0_4 : Vec Ideal S1x3x256 .f32 := View.ld (iblk m c 3 t) (Rect.unit ![4, 0, 0] ![1, 3, 256] inb_S8x3x256_S1x3x256_4_0_0)
abbrev slab0_5 : Vec Ideal S1x3x256 .f32 := View.ld (iblk m c 3 t) (Rect.unit ![5, 0, 0] ![1, 3, 256] inb_S8x3x256_S1x3x256_5_0_0)
abbrev slab0_6 : Vec Ideal S1x3x256 .f32 := View.ld (iblk m c 3 t) (Rect.unit ![6, 0, 0] ![1, 3, 256] inb_S8x3x256_S1x3x256_6_0_0)
abbrev slab0_7 : Vec Ideal S1x3x256 .f32 := View.ld (iblk m c 3 t) (Rect.unit ![7, 0, 0] ![1, 3, 256] inb_S8x3x256_S1x3x256_7_0_0)

theorem in0 (r : Fin 3) (l : Fin 256) : (iblk m c 0 t (ix3 0 r l) : EReal) = aW m c (pos t r l) := by
  obtain ⟨h, -⟩ := idx t
  have ht : t.val < 1 := lt_of_lt_of_eq t.isLt N_0
  have e : (iblk m c 0 t : Vec Ideal S1x3x256 .f32) (ix3 0 r l) = aW m c (pos t r l) := by
    blk_ext [iblk, V, h] <;> first | rfl | exact (show r.val = t.val * 3 + r.val by omega)
  exact e
theorem in1 (r : Fin 3) (l : Fin 256) : (iblk m c 1 t (ix3 0 r l) : EReal) = aM m c (pos t r l) := by
  obtain ⟨-, h, -⟩ := idx t
  have ht : t.val < 1 := lt_of_lt_of_eq t.isLt N_0
  have e : (iblk m c 1 t : Vec Ideal S1x3x256 .f32) (ix3 0 r l) = aM m c (pos t r l) := by
    blk_ext [iblk, V, h] <;> first | rfl | exact (show r.val = t.val * 3 + r.val by omega)
  exact e
theorem in2 (r : Fin 3) (l : Fin 256) : (iblk m c 2 t (ix3 0 r l) : EReal) = aV m c (pos t r l) := by
  obtain ⟨-, -, h, -⟩ := idx t
  have ht : t.val < 1 := lt_of_lt_of_eq t.isLt N_0
  have e : (iblk m c 2 t : Vec Ideal S1x3x256 .f32) (ix3 0 r l) = aV m c (pos t r l) := by
    blk_ext [iblk, V, h] <;> first | rfl | exact (show r.val = t.val * 3 + r.val by omega)
  exact e
theorem slab0_0_at (r : Fin 3) (l : Fin 256) : slab0_0 m c t (ix3 0 r l) = aP m c (ix3 0 (pos t r l 1) l) := by
  refine (View.ld_unit_apply_of _ _ _ _ _ (ix3 0 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 3 + r.val by omega)
theorem slab0_1_at (r : Fin 3) (l : Fin 256) : slab0_1 m c t (ix3 0 r l) = aP m c (ix3 1 (pos t r l 1) l) := by
  refine (View.ld_unit_apply_of _ _ _ _ _ (ix3 1 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 3 + r.val by omega)
theorem slab0_2_at (r : Fin 3) (l : Fin 256) : slab0_2 m c t (ix3 0 r l) = aP m c (ix3 2 (pos t r l 1) l) := by
  refine (View.ld_unit_apply_of _ _ _ _ _ (ix3 2 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 3 + r.val by omega)
theorem slab0_3_at (r : Fin 3) (l : Fin 256) : slab0_3 m c t (ix3 0 r l) = aP m c (ix3 3 (pos t r l 1) l) := by
  refine (View.ld_unit_apply_of _ _ _ _ _ (ix3 3 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 3 + r.val by omega)
theorem slab0_4_at (r : Fin 3) (l : Fin 256) : slab0_4 m c t (ix3 0 r l) = aP m c (ix3 4 (pos t r l 1) l) := by
  refine (View.ld_unit_apply_of _ _ _ _ _ (ix3 4 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 3 + r.val by omega)
theorem slab0_5_at (r : Fin 3) (l : Fin 256) : slab0_5 m c t (ix3 0 r l) = aP m c (ix3 5 (pos t r l 1) l) := by
  refine (View.ld_unit_apply_of _ _ _ _ _ (ix3 5 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 3 + r.val by omega)
theorem slab0_6_at (r : Fin 3) (l : Fin 256) : slab0_6 m c t (ix3 0 r l) = aP m c (ix3 6 (pos t r l 1) l) := by
  refine (View.ld_unit_apply_of _ _ _ _ _ (ix3 6 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 3 + r.val by omega)
theorem slab0_7_at (r : Fin 3) (l : Fin 256) : slab0_7 m c t (ix3 0 r l) = aP m c (ix3 7 (pos t r l 1) l) := by
  refine (View.ld_unit_apply_of _ _ _ _ _ (ix3 7 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 3 + r.val by omega)
theorem total (r : Fin 3) (l : Fin 256) : add8 (slab0_0 m c t) (slab0_1 m c t) (slab0_2 m c t) (slab0_3 m c t) (slab0_4 m c t) (slab0_5 m c t) (slab0_6 m c t) (slab0_7 m c t) r l = grad m c (pos t r l) := by
  unfold add8 grad
  rw [slab0_0_at, slab0_1_at, slab0_2_at, slab0_3_at, slab0_4_at, slab0_5_at, slab0_6_at, slab0_7_at]
  exact (Fin.sum_univ_eight (fun s : Fin 8 => (aP m c (ix3 s (pos t r l 1) l) : EReal))).symm

theorem out_grad (r : Fin 3) (l : Fin 256) : ((outsAt0 m c t).1 (ix3 0 r l) : EReal) = grad m c (pos t r l) := by
  unfold outsAt0
  frame_out
  exact (same_at _ _ _ _ _ _ _ _ _ _).trans (total m c t r l)
theorem out_update (r : Fin 3) (l : Fin 256) : ((outsAt0 m c t).2.1 (ix3 0 r l) : EReal) = update m c (pos t r l) := by
  unfold outsAt0
  frame_out
  exact (move_at _ _ _ _ _ _ _ _ _ _ _ _ _).trans (congr (congrArg₂ move (in0 m c t r l) (congrArg₂ mom (in1 m c t r l) (total m c t r l))) (congrArg₂ vel (in2 m c t r l) (total m c t r l)))
theorem out_first (r : Fin 3) (l : Fin 256) : ((outsAt0 m c t).2.2.1 (ix3 0 r l) : EReal) = first m c (pos t r l) := by
  unfold outsAt0
  frame_out
  exact (mom_at _ _ _ _ _ _ _ _ _ _ _).trans (congrArg₂ mom (in1 m c t r l) (total m c t r l))
theorem out_second (r : Fin 3) (l : Fin 256) : ((outsAt0 m c t).2.2.2 (ix3 0 r l) : EReal) = second m c (pos t r l) := by
  unfold outsAt0
  frame_out
  exact (vel_at _ _ _ _ _ _ _ _ _ _ _).trans (congrArg₂ vel (in2 m c t r l) (total m c t r l))

theorem result4 : (dats m 0 c).arrAt 4 cfg0.N = grad m c := by
  refine (dats m 0 c).arrAt_eq_of_covers 4 _ (by decide +kernel) fun t hf y => ?_
  blk_simp; rw [after0_4]
  have ht : t.val < 1 := lt_of_lt_of_eq t.isLt N_0
  obtain ⟨-, -, -, -, h, -⟩ := idx t
  idx_vars y
  have e0 : y0 = 0 := Fin.ext (by omega)
  subst e0
  have e : grad m c (((View.whole main_v0_0).slice (win0_4.rect t)).emb (ix3 0 y1 y2)) = grad m c (pos t y1 y2) := by
    generalize grad m c = X
    blk_ext [h] <;> first | rfl | exact (show y1.val = t.val * 3 + y1.val by omega)
  exact (out_grad m c t y1 y2).trans e.symm
theorem result5 : (dats m 0 c).arrAt 5 cfg0.N = update m c := by
  refine (dats m 0 c).arrAt_eq_of_covers 5 _ (by decide +kernel) fun t hf y => ?_
  blk_simp; rw [after0_5]
  have ht : t.val < 1 := lt_of_lt_of_eq t.isLt N_0
  obtain ⟨-, -, -, -, -, h, -⟩ := idx t
  idx_vars y
  have e0 : y0 = 0 := Fin.ext (by omega)
  subst e0
  have e : update m c (((View.whole main_v0_1).slice (win0_5.rect t)).emb (ix3 0 y1 y2)) = update m c (pos t y1 y2) := by
    generalize update m c = X
    blk_ext [h] <;> first | rfl | exact (show y1.val = t.val * 3 + y1.val by omega)
  exact (out_update m c t y1 y2).trans e.symm
theorem result6 : (dats m 0 c).arrAt 6 cfg0.N = first m c := by
  refine (dats m 0 c).arrAt_eq_of_covers 6 _ (by decide +kernel) fun t hf y => ?_
  blk_simp; rw [after0_6]
  have ht : t.val < 1 := lt_of_lt_of_eq t.isLt N_0
  obtain ⟨-, -, -, -, -, -, h, -⟩ := idx t
  idx_vars y
  have e0 : y0 = 0 := Fin.ext (by omega)
  subst e0
  have e : first m c (((View.whole main_v0_2).slice (win0_6.rect t)).emb (ix3 0 y1 y2)) = first m c (pos t y1 y2) := by
    generalize first m c = X
    blk_ext [h] <;> first | rfl | exact (show y1.val = t.val * 3 + y1.val by omega)
  exact (out_first m c t y1 y2).trans e.symm
theorem result7 : (dats m 0 c).arrAt 7 cfg0.N = second m c := by
  refine (dats m 0 c).arrAt_eq_of_covers 7 _ (by decide +kernel) fun t hf y => ?_
  blk_simp; rw [after0_7]
  have ht : t.val < 1 := lt_of_lt_of_eq t.isLt N_0
  obtain ⟨-, -, -, -, -, -, -, h⟩ := idx t
  idx_vars y
  have e0 : y0 = 0 := Fin.ext (by omega)
  subst e0
  have e : second m c (((View.whole main_v0_3).slice (win0_7.rect t)).emb (ix3 0 y1 y2)) = second m c (pos t y1 y2) := by
    generalize second m c = X
    blk_ext [h] <;> first | rfl | exact (show y1.val = t.val * 3 + y1.val by omega)
  exact (out_second m c t y1 y2).trans e.symm

section
open Cert.Reference29Ideal.Read
theorem reads_grad : Cert.Reference29Ideal.Read.val_main_v1 (F := Ideal) (aP m c) = grad m c := by
  funext i
  idx_vars i
  unfold grad
  pointwise [val_main_cst, val_main_v0, val_main_v1]
theorem reads_first : Cert.Reference29Ideal.Read.val_main_v6 (F := Ideal) (aM m c) (aP m c) = first m c := by
  have e : ∀ i, (Cert.Reference29Ideal.Read.val_main_v6 (F := Ideal) (aM m c) (aP m c) i : EReal) = mom (aM m c i) (Cert.Reference29Ideal.Read.val_main_v1 (F := Ideal) (aP m c) i) := fun i => by
    idx_vars i
    unfold mom
    pointwise [val_main_cst_0, val_main_v2, val_main_v3, val_main_cst_1, val_main_v4, val_main_v5, val_main_v6]
  funext i
  rw [e, reads_grad]
  rfl
theorem reads_second : Cert.Reference29Ideal.Read.val_main_v12 (F := Ideal) (aV m c) (aP m c) = second m c := by
  have e : ∀ i, (Cert.Reference29Ideal.Read.val_main_v12 (F := Ideal) (aV m c) (aP m c) i : EReal) = vel (aV m c i) (Cert.Reference29Ideal.Read.val_main_v1 (F := Ideal) (aP m c) i) := fun i => by
    idx_vars i
    unfold vel
    pointwise [val_main_cst_0, val_main_v2, val_main_v3, val_main_cst_1, val_main_v4, val_main_v5, val_main_v6, val_main_cst_2, val_main_v7, val_main_v8, val_main_v9, val_main_cst_3, val_main_v10, val_main_v11, val_main_v12]
  funext i
  rw [e, reads_grad]
  rfl
theorem reads_update : Cert.Reference29Ideal.Read.val_main_v25 (F := Ideal) (aW m c) (aM m c) (aV m c) (aP m c) = update m c := by
  have e : ∀ i, (Cert.Reference29Ideal.Read.val_main_v25 (F := Ideal) (aW m c) (aM m c) (aV m c) (aP m c) i : EReal) = move (aW m c i) (Cert.Reference29Ideal.Read.val_main_v6 (F := Ideal) (aM m c) (aP m c) i) (Cert.Reference29Ideal.Read.val_main_v12 (F := Ideal) (aV m c) (aP m c) i) := fun i => by
    idx_vars i
    unfold move
    pointwise [val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  funext i
  rw [e, reads_first, reads_second]
  rfl
end

end Cert.Kernel29Ideal.Value

end
-- ==== Proof.Update30.lean ====
module

public import proofs.«01_k».proof.Proof.Gen.Kernel30Ideal.Value
public import proofs.«01_k».proof.Proof.Gen.Reference30Ideal.Read
public import proofs.«01_k».proof.Proof.Adam

/-! The step of the optimiser of an array of 8 by 1024: the gradient is the sum of eight parts. -/

@[expose] public section

set_option maxRecDepth 16384

noncomputable section
open Idealize.ShloMosaic Idealize.ShloMosaic.TcCoe Idealize.SL.Sem
namespace Cert.Kernel30Ideal.Value
open Cert.Kernel30Ideal Cert.Kernel30Ideal.Gen Cert.Product Cert.Adam

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] := by
  decide +kernel

/-- The sum of eight parts at one entry. -/
def add8 (x0 x1 x2 x3 x4 x5 x6 x7 : Vec Ideal S1x8x1024 .f32) (r : Fin 8) (l : Fin 1024) : EReal :=
  x0 (ix3 0 r l) + x1 (ix3 0 r l) + x2 (ix3 0 r l) + x3 (ix3 0 r l) + x4 (ix3 0 r l) + x5 (ix3 0 r l) + x6 (ix3 0 r l) + x7 (ix3 0 r l)

theorem same_at (x0 x1 x2 x3 x4 x5 x6 x7 : Vec Ideal S1x8x1024 .f32) (r : Fin 8) (l : Fin 1024) :
    (k0_pay5 (F := Ideal) (k0_pay2 (F := Ideal) x0 x1 x2 x3 x4 x5 x6 x7) (ix3 0 r l) : EReal) = add8 x0 x1 x2 x3 x4 x5 x6 x7 r l := by
  unfold add8
  pointwise [k0_pay5, k0_pay2]
theorem mom_at (x0 x1 x2 x3 x4 x5 x6 x7 : Vec Ideal S1x8x1024 .f32) (z : Vec Ideal S1x8x1024 .f32) (r : Fin 8) (l : Fin 1024) :
    (k0_pay7 (F := Ideal) (k0_pay3 x0 x1 x2 x3 x4 x5 x6 x7 z) (ix3 0 r l) : EReal) = mom (z (ix3 0 r l)) (add8 x0 x1 x2 x3 x4 x5 x6 x7 r l) := by
  unfold mom add8
  pointwise [k0_pay1, k0_pay2, k0_pay3, k0_pay4, k0_pay5, k0_pay6, k0_pay7]
theorem vel_at (x0 x1 x2 x3 x4 x5 x6 x7 : Vec Ideal S1x8x1024 .f32) (z : Vec Ideal S1x8x1024 .f32) (r : Fin 8) (l : Fin 1024) :
    (k0_pay1 (F := Ideal) (k0_pay4 (k0_pay2 (F := Ideal) x0 x1 x2 x3 x4 x5 x6 x7) z) (ix3 0 r l) : EReal) = vel (z (ix3 0 r l)) (add8 x0 x1 x2 x3 x4 x5 x6 x7 r l) := by
  unfold vel add8
  pointwise [k0_pay1, k0_pay2, k0_pay3, k0_pay4, k0_pay5, k0_pay6, k0_pay7]
theorem move_at (x0 x1 x2 x3 x4 x5 x6 x7 : Vec Ideal S1x8x1024 .f32) (a b w : Vec Ideal S1x8x1024 .f32) (r : Fin 8) (l : Fin 1024) :
    (k0_pay6 (F := Ideal) (k0_pay2 (F := Ideal) x0 x1 x2 x3 x4 x5 x6 x7) (k0_pay3 x0 x1 x2 x3 x4 x5 x6 x7 a) b w (ix3 0 r l) : EReal) = move (w (ix3 0 r l)) (mom (a (ix3 0 r l)) (add8 x0 x1 x2 x3 x4 x5 x6 x7 r l)) (vel (b (ix3 0 r l)) (add8 x0 x1 x2 x3 x4 x5 x6 x7 r l)) := by
  unfold move mom vel add8
  pointwise [k0_pay1, k0_pay2, k0_pay3, k0_pay4, k0_pay5, k0_pay6, k0_pay7]

variable (m : (ℓ : Loc nD τ sig) → Buf (Elt Ideal) ℓ) (c : Dev nD) (t : Fin cfg0.N)

abbrev aW : FVec Ideal S1x8x1024 .f32 := m ((c.tc : Thread nD τ).loc main_arg0)
abbrev aM : FVec Ideal S1x8x1024 .f32 := m ((c.tc : Thread nD τ).loc main_arg1)
abbrev aV : FVec Ideal S1x8x1024 .f32 := m ((c.tc : Thread nD τ).loc main_arg2)
abbrev aP : FVec Ideal S8x8x1024 .f32 := m ((c.tc : Thread nD τ).loc main_arg3)

/-- The gradient, the new moments and the update. -/
def grad : FVec Ideal S1x8x1024 .f32 := fun i => ∑ s : Fin 8, aP m c (ix3 s (i 1) (i 2))
def first : FVec Ideal S1x8x1024 .f32 := fun i => mom (aM m c i) (grad m c i)
def second : FVec Ideal S1x8x1024 .f32 := fun i => vel (aV m c i) (grad m c i)
def update : FVec Ideal S1x8x1024 .f32 := fun i => move (aW m c i) (first m c i) (second m c i)

/-- The entry of the arrays a block's entry is. -/
abbrev pos (r : Fin 8) (l : Fin 1024) : S1x8x1024.Idx := (ix3 0 ⟨t.val * 8 + r.val, by have := lt_of_lt_of_eq t.isLt N_0; omega⟩ l)

/-- The eight slabs of a block of parts. -/
abbrev slab0_0 : Vec Ideal S1x8x1024 .f32 := View.ld (iblk m c 3 t) (Rect.unit ![0, 0, 0] ![1, 8, 1024] inb_S8x8x1024_S1x8x1024_0_0_0)
abbrev slab0_1 : Vec Ideal S1x8x1024 .f32 := View.ld (iblk m c 3 t) (Rect.unit ![1, 0, 0] ![1, 8, 1024] inb_S8x8x1024_S1x8x1024_1_0_0)
abbrev slab0_2 : Vec Ideal S1x8x1024 .f32 := View.ld (iblk m c 3 t) (Rect.unit ![2, 0, 0] ![1, 8, 1024] inb_S8x8x1024_S1x8x1024_2_0_0)
abbrev slab0_3 : Vec Ideal S1x8x1024 .f32 := View.ld (iblk m c 3 t) (Rect.unit ![3, 0, 0] ![1, 8, 1024] inb_S8x8x1024_S1x8x1024_3_0_0)
abbrev slab0_4 : Vec Ideal S1x8x1024 .f32 := View.ld (iblk m c 3 t) (Rect.unit ![4, 0, 0] ![1, 8, 1024] inb_S8x8x1024_S1x8x1024_4_0_0)
abbrev slab0_5 : Vec Ideal S1x8x1024 .f32 := View.ld (iblk m c 3 t) (Rect.unit ![5, 0, 0] ![1, 8, 1024] inb_S8x8x1024_S1x8x1024_5_0_0)
abbrev slab0_6 : Vec Ideal S1x8x1024 .f32 := View.ld (iblk m c 3 t) (Rect.unit ![6, 0, 0] ![1, 8, 1024] inb_S8x8x1024_S1x8x1024_6_0_0)
abbrev slab0_7 : Vec Ideal S1x8x1024 .f32 := View.ld (iblk m c 3 t) (Rect.unit ![7, 0, 0] ![1, 8, 1024] inb_S8x8x1024_S1x8x1024_7_0_0)

theorem in0 (r : Fin 8) (l : Fin 1024) : (iblk m c 0 t (ix3 0 r l) : EReal) = aW m c (pos t r l) := by
  obtain ⟨h, -⟩ := idx t
  have ht : t.val < 1 := lt_of_lt_of_eq t.isLt N_0
  have e : (iblk m c 0 t : Vec Ideal S1x8x1024 .f32) (ix3 0 r l) = aW m c (pos t r l) := by
    blk_ext [iblk, V, h] <;> first | rfl | exact (show r.val = t.val * 8 + r.val by omega)
  exact e
theorem in1 (r : Fin 8) (l : Fin 1024) : (iblk m c 1 t (ix3 0 r l) : EReal) = aM m c (pos t r l) := by
  obtain ⟨-, h, -⟩ := idx t
  have ht : t.val < 1 := lt_of_lt_of_eq t.isLt N_0
  have e : (iblk m c 1 t : Vec Ideal S1x8x1024 .f32) (ix3 0 r l) = aM m c (pos t r l) := by
    blk_ext [iblk, V, h] <;> first | rfl | exact (show r.val = t.val * 8 + r.val by omega)
  exact e
theorem in2 (r : Fin 8) (l : Fin 1024) : (iblk m c 2 t (ix3 0 r l) : EReal) = aV m c (pos t r l) := by
  obtain ⟨-, -, h, -⟩ := idx t
  have ht : t.val < 1 := lt_of_lt_of_eq t.isLt N_0
  have e : (iblk m c 2 t : Vec Ideal S1x8x1024 .f32) (ix3 0 r l) = aV m c (pos t r l) := by
    blk_ext [iblk, V, h] <;> first | rfl | exact (show r.val = t.val * 8 + r.val by omega)
  exact e
theorem slab0_0_at (r : Fin 8) (l : Fin 1024) : slab0_0 m c t (ix3 0 r l) = aP m c (ix3 0 (pos t r l 1) l) := by
  refine (View.ld_unit_apply_of _ _ _ _ _ (ix3 0 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 8 + r.val by omega)
theorem slab0_1_at (r : Fin 8) (l : Fin 1024) : slab0_1 m c t (ix3 0 r l) = aP m c (ix3 1 (pos t r l 1) l) := by
  refine (View.ld_unit_apply_of _ _ _ _ _ (ix3 1 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 8 + r.val by omega)
theorem slab0_2_at (r : Fin 8) (l : Fin 1024) : slab0_2 m c t (ix3 0 r l) = aP m c (ix3 2 (pos t r l 1) l) := by
  refine (View.ld_unit_apply_of _ _ _ _ _ (ix3 2 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 8 + r.val by omega)
theorem slab0_3_at (r : Fin 8) (l : Fin 1024) : slab0_3 m c t (ix3 0 r l) = aP m c (ix3 3 (pos t r l 1) l) := by
  refine (View.ld_unit_apply_of _ _ _ _ _ (ix3 3 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 8 + r.val by omega)
theorem slab0_4_at (r : Fin 8) (l : Fin 1024) : slab0_4 m c t (ix3 0 r l) = aP m c (ix3 4 (pos t r l 1) l) := by
  refine (View.ld_unit_apply_of _ _ _ _ _ (ix3 4 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 8 + r.val by omega)
theorem slab0_5_at (r : Fin 8) (l : Fin 1024) : slab0_5 m c t (ix3 0 r l) = aP m c (ix3 5 (pos t r l 1) l) := by
  refine (View.ld_unit_apply_of _ _ _ _ _ (ix3 5 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 8 + r.val by omega)
theorem slab0_6_at (r : Fin 8) (l : Fin 1024) : slab0_6 m c t (ix3 0 r l) = aP m c (ix3 6 (pos t r l 1) l) := by
  refine (View.ld_unit_apply_of _ _ _ _ _ (ix3 6 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 8 + r.val by omega)
theorem slab0_7_at (r : Fin 8) (l : Fin 1024) : slab0_7 m c t (ix3 0 r l) = aP m c (ix3 7 (pos t r l 1) l) := by
  refine (View.ld_unit_apply_of _ _ _ _ _ (ix3 7 r l) (fun a => by fin_cases a <;> simp)).trans ?_
  obtain ⟨-, -, -, h, -⟩ := idx t
  have ht : t.val < 1 := lt_of_lt_of_eq t.isLt N_0
  blk_ext [iblk, V, h] <;> first | rfl | exact (show r.val = t.val * 8 + r.val by omega)
theorem total (r : Fin 8) (l : Fin 1024) : add8 (slab0_0 m c t) (slab0_1 m c t) (slab0_2 m c t) (slab0_3 m c t) (slab0_4 m c t) (slab0_5 m c t) (slab0_6 m c t) (slab0_7 m c t) r l = grad m c (pos t r l) := by
  unfold add8 grad
  rw [slab0_0_at, slab0_1_at, slab0_2_at, slab0_3_at, slab0_4_at, slab0_5_at, slab0_6_at, slab0_7_at]
  exact (Fin.sum_univ_eight (fun s : Fin 8 => (aP m c (ix3 s (pos t r l 1) l) : EReal))).symm

theorem out_grad (r : Fin 8) (l : Fin 1024) : ((outsAt0 m c t).1 (ix3 0 r l) : EReal) = grad m c (pos t r l) := by
  unfold outsAt0
  frame_out
  exact (same_at _ _ _ _ _ _ _ _ _ _).trans (total m c t r l)
theorem out_update (r : Fin 8) (l : Fin 1024) : ((outsAt0 m c t).2.1 (ix3 0 r l) : EReal) = update m c (pos t r l) := by
  unfold outsAt0
  frame_out
  exact (move_at _ _ _ _ _ _ _ _ _ _ _ _ _).trans (congr (congrArg₂ move (in0 m c t r l) (congrArg₂ mom (in1 m c t r l) (total m c t r l))) (congrArg₂ vel (in2 m c t r l) (total m c t r l)))
theorem out_first (r : Fin 8) (l : Fin 1024) : ((outsAt0 m c t).2.2.1 (ix3 0 r l) : EReal) = first m c (pos t r l) := by
  unfold outsAt0
  frame_out
  exact (mom_at _ _ _ _ _ _ _ _ _ _ _).trans (congrArg₂ mom (in1 m c t r l) (total m c t r l))
theorem out_second (r : Fin 8) (l : Fin 1024) : ((outsAt0 m c t).2.2.2 (ix3 0 r l) : EReal) = second m c (pos t r l) := by
  unfold outsAt0
  frame_out
  exact (vel_at _ _ _ _ _ _ _ _ _ _ _).trans (congrArg₂ vel (in2 m c t r l) (total m c t r l))

theorem result4 : (dats m 0 c).arrAt 4 cfg0.N = grad m c := by
  refine (dats m 0 c).arrAt_eq_of_covers 4 _ (by decide +kernel) fun t hf y => ?_
  blk_simp; rw [after0_4]
  have ht : t.val < 1 := lt_of_lt_of_eq t.isLt N_0
  obtain ⟨-, -, -, -, h, -⟩ := idx t
  idx_vars y
  have e0 : y0 = 0 := Fin.ext (by omega)
  subst e0
  have e : grad m c (((View.whole main_v0_0).slice (win0_4.rect t)).emb (ix3 0 y1 y2)) = grad m c (pos t y1 y2) := by
    generalize grad m c = X
    blk_ext [h] <;> first | rfl | exact (show y1.val = t.val * 8 + y1.val by omega)
  exact (out_grad m c t y1 y2).trans e.symm
theorem result5 : (dats m 0 c).arrAt 5 cfg0.N = update m c := by
  refine (dats m 0 c).arrAt_eq_of_covers 5 _ (by decide +kernel) fun t hf y => ?_
  blk_simp; rw [after0_5]
  have ht : t.val < 1 := lt_of_lt_of_eq t.isLt N_0
  obtain ⟨-, -, -, -, -, h, -⟩ := idx t
  idx_vars y
  have e0 : y0 = 0 := Fin.ext (by omega)
  subst e0
  have e : update m c (((View.whole main_v0_1).slice (win0_5.rect t)).emb (ix3 0 y1 y2)) = update m c (pos t y1 y2) := by
    generalize update m c = X
    blk_ext [h] <;> first | rfl | exact (show y1.val = t.val * 8 + y1.val by omega)
  exact (out_update m c t y1 y2).trans e.symm
theorem result6 : (dats m 0 c).arrAt 6 cfg0.N = first m c := by
  refine (dats m 0 c).arrAt_eq_of_covers 6 _ (by decide +kernel) fun t hf y => ?_
  blk_simp; rw [after0_6]
  have ht : t.val < 1 := lt_of_lt_of_eq t.isLt N_0
  obtain ⟨-, -, -, -, -, -, h, -⟩ := idx t
  idx_vars y
  have e0 : y0 = 0 := Fin.ext (by omega)
  subst e0
  have e : first m c (((View.whole main_v0_2).slice (win0_6.rect t)).emb (ix3 0 y1 y2)) = first m c (pos t y1 y2) := by
    generalize first m c = X
    blk_ext [h] <;> first | rfl | exact (show y1.val = t.val * 8 + y1.val by omega)
  exact (out_first m c t y1 y2).trans e.symm
theorem result7 : (dats m 0 c).arrAt 7 cfg0.N = second m c := by
  refine (dats m 0 c).arrAt_eq_of_covers 7 _ (by decide +kernel) fun t hf y => ?_
  blk_simp; rw [after0_7]
  have ht : t.val < 1 := lt_of_lt_of_eq t.isLt N_0
  obtain ⟨-, -, -, -, -, -, -, h⟩ := idx t
  idx_vars y
  have e0 : y0 = 0 := Fin.ext (by omega)
  subst e0
  have e : second m c (((View.whole main_v0_3).slice (win0_7.rect t)).emb (ix3 0 y1 y2)) = second m c (pos t y1 y2) := by
    generalize second m c = X
    blk_ext [h] <;> first | rfl | exact (show y1.val = t.val * 8 + y1.val by omega)
  exact (out_second m c t y1 y2).trans e.symm

section
open Cert.Reference30Ideal.Read
theorem reads_grad : Cert.Reference30Ideal.Read.val_main_v1 (F := Ideal) (aP m c) = grad m c := by
  funext i
  idx_vars i
  unfold grad
  pointwise [val_main_cst, val_main_v0, val_main_v1]
theorem reads_first : Cert.Reference30Ideal.Read.val_main_v6 (F := Ideal) (aM m c) (aP m c) = first m c := by
  have e : ∀ i, (Cert.Reference30Ideal.Read.val_main_v6 (F := Ideal) (aM m c) (aP m c) i : EReal) = mom (aM m c i) (Cert.Reference30Ideal.Read.val_main_v1 (F := Ideal) (aP m c) i) := fun i => by
    idx_vars i
    unfold mom
    pointwise [val_main_cst_0, val_main_v2, val_main_v3, val_main_cst_1, val_main_v4, val_main_v5, val_main_v6]
  funext i
  rw [e, reads_grad]
  rfl
theorem reads_second : Cert.Reference30Ideal.Read.val_main_v12 (F := Ideal) (aV m c) (aP m c) = second m c := by
  have e : ∀ i, (Cert.Reference30Ideal.Read.val_main_v12 (F := Ideal) (aV m c) (aP m c) i : EReal) = vel (aV m c i) (Cert.Reference30Ideal.Read.val_main_v1 (F := Ideal) (aP m c) i) := fun i => by
    idx_vars i
    unfold vel
    pointwise [val_main_cst_0, val_main_v2, val_main_v3, val_main_cst_1, val_main_v4, val_main_v5, val_main_v6, val_main_cst_2, val_main_v7, val_main_v8, val_main_v9, val_main_cst_3, val_main_v10, val_main_v11, val_main_v12]
  funext i
  rw [e, reads_grad]
  rfl
theorem reads_update : Cert.Reference30Ideal.Read.val_main_v25 (F := Ideal) (aW m c) (aM m c) (aV m c) (aP m c) = update m c := by
  have e : ∀ i, (Cert.Reference30Ideal.Read.val_main_v25 (F := Ideal) (aW m c) (aM m c) (aV m c) (aP m c) i : EReal) = move (aW m c i) (Cert.Reference30Ideal.Read.val_main_v6 (F := Ideal) (aM m c) (aP m c) i) (Cert.Reference30Ideal.Read.val_main_v12 (F := Ideal) (aV m c) (aP m c) i) := fun i => by
    idx_vars i
    unfold move
    pointwise [val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  funext i
  rw [e, reads_first, reads_second]
  rfl
end

end Cert.Kernel30Ideal.Value

end
-- ==== Proof.Update31.lean ====
module

public import proofs.«01_k».proof.Proof.Gen.Kernel31Ideal.Value
public import proofs.«01_k».proof.Proof.Gen.Reference31Ideal.Read
public import proofs.«01_k».proof.Proof.Adam

/-! The step of the optimiser of an array of 1024 by 770, two layers: the gradient is the sum of eight parts. -/

@[expose] public section

set_option maxRecDepth 16384

noncomputable section
open Idealize.ShloMosaic Idealize.ShloMosaic.TcCoe Idealize.SL.Sem
namespace Cert.Kernel31Ideal.Value
open Cert.Kernel31Ideal Cert.Kernel31Ideal.Gen Cert.Product Cert.Adam

theorem idx : ∀ t : Fin cfg0.N, win0_0.index t = ![t.val / 8, t.val % 8, 0] ∧ win0_1.index t = ![t.val / 8, t.val % 8, 0] ∧ win0_2.index t = ![t.val / 8, t.val % 8, 0] ∧ win0_3.index t = ![0, t.val % 8, 0] ∧ win0_4.index t = ![0, t.val % 8, 0] ∧ win0_5.index t = ![t.val / 8, t.val % 8, 0] ∧ win0_6.index t = ![t.val / 8, t.val % 8, 0] ∧ win0_7.index t = ![t.val / 8, t.val % 8, 0] ∧ win0_8.index t = ![t.val / 8, t.val % 8, 0] := by
  decide +kernel

/-- The sum of eight parts at one entry. -/
def add8 (x0 x1 x2 x3 x4 x5 x6 x7 : Vec Ideal S1x128x770 .bf16) (r : Fin 128) (l : Fin 770) : EReal :=
  x0 (ix3 0 r l) + x1 (ix3 0 r l) + x2 (ix3 0 r l) + x3 (ix3 0 r l) + x4 (ix3 0 r l) + x5 (ix3 0 r l) + x6 (ix3 0 r l) + x7 (ix3 0 r l)

theorem same_at_A (x0 x1 x2 x3 x4 x5 x6 x7 : Vec Ideal S1x128x770 .bf16) (r : Fin 128) (l : Fin 770) :
    (k0_pay9 (F := Ideal) (k0_pay5 (F := Ideal) x0 x1 x2 x3 x4 x5 x6 x7) (ix3 0 r l) : EReal) = add8 x0 x1 x2 x3 x4 x5 x6 x7 r l := by
  unfold add8
  pointwise [k0_pay9, k0_pay5]
theorem mom_at_A (x0 x1 x2 x3 x4 x5 x6 x7 : Vec Ideal S1x128x770 .bf16) (z : Vec Ideal S1x128x770 .f32) (r : Fin 128) (l : Fin 770) :
    (k0_pay1 (F := Ideal) (k0_pay7 (k0_pay5 (F := Ideal) x0 x1 x2 x3 x4 x5 x6 x7) (k0_pay6 z)) (ix3 0 r l) : EReal) = mom (z (ix3 0 r l)) (add8 x0 x1 x2 x3 x4 x5 x6 x7 r l) := by
  unfold mom add8
  pointwise [k0_pay1, k0_pay10, k0_pay2, k0_pay5, k0_pay6, k0_pay7, k0_pay8, k0_pay9]
theorem vel_at_A (x0 x1 x2 x3 x4 x5 x6 x7 : Vec Ideal S1x128x770 .bf16) (z : Vec Ideal S1x128x770 .f32) (r : Fin 128) (l : Fin 770) :
    (k0_pay2 (F := Ideal) (k0_pay8 (k0_pay5 (F := Ideal) x0 x1 x2 x3 x4 x5 x6 x7) z) (ix3 0 r l) : EReal) = vel (z (ix3 0 r l)) (add8 x0 x1 x2 x3 x4 x5 x6 x7 r l) := by
  unfold vel add8
  pointwise [k0_pay1, k0_pay10, k0_pay2, k0_pay5, k0_pay6, k0_pay7, k0_pay8, k0_pay9]
theorem move_at_A (x0 x1 x2 x3 x4 x5 x6 x7 : Vec Ideal S1x128x770 .bf16) (a b w : Vec Ideal S1x128x770 .f32) (r : Fin 128) (l : Fin 770) :
    (k0_pay10 (F := Ideal) (k0_pay5 (F := Ideal) x0 x1 x2 x3 x4 x5 x6 x7) (k0_pay6 a) b w (ix3 0 r l) : EReal) = move (w (ix3 0 r l)) (mom (a (ix3 0 r l)) (add8 x0 x1 x2 x3 x4 x5 x6 x7 r l)) (vel (b (ix3 0 r l)) (add8 x0 x1 x2 x3 x4 x5 x6 x7 r l)) := by
  unfold move mom vel add8
  pointwise [k0_pay1, k0_pay10, k0_pay2, k0_pay5, k0_pay6, k0_pay7, k0_pay8, k0_pay9]

theorem same_at_B (x0 x1 x2 x3 x4 x5 x6 x7 : Vec Ideal S1x128x770 .bf16) (r : Fin 128) (l : Fin 770) :
    (k0_pay15 (F := Ideal) (k0_pay11 (F := Ideal) x0 x1 x2 x3 x4 x5 x6 x7) (ix3 0 r l) : EReal) = add8 x0 x1 x2 x3 x4 x5 x6 x7 r l := by
  unfold add8
  pointwise [k0_pay15, k0_pay11]
theorem mom_at_B (x0 x1 x2 x3 x4 x5 x6 x7 : Vec Ideal S1x128x770 .bf16) (z : Vec Ideal S1x128x770 .f32) (r : Fin 128) (l : Fin 770) :
    (k0_pay3 (F := Ideal) (k0_pay13 (k0_pay11 (F := Ideal) x0 x1 x2 x3 x4 x5 x6 x7) (k0_pay12 z)) (ix3 0 r l) : EReal) = mom (z (ix3 0 r l)) (add8 x0 x1 x2 x3 x4 x5 x6 x7 r l) := by
  unfold mom add8
  pointwise [k0_pay11, k0_pay12, k0_pay13, k0_pay14, k0_pay15, k0_pay16, k0_pay3, k0_pay4]
theorem vel_at_B (x0 x1 x2 x3 x4 x5 x6 x7 : Vec Ideal S1x128x770 .bf16) (z : Vec Ideal S1x128x770 .f32) (r : Fin 128) (l : Fin 770) :
    (k0_pay4 (F := Ideal) (k0_pay14 (k0_pay11 (F := Ideal) x0 x1 x2 x3 x4 x5 x6 x7) z) (ix3 0 r l) : EReal) = vel (z (ix3 0 r l)) (add8 x0 x1 x2 x3 x4 x5 x6 x7 r l) := by
  unfold vel add8
  pointwise [k0_pay11, k0_pay12, k0_pay13, k0_pay14, k0_pay15, k0_pay16, k0_pay3, k0_pay4]
theorem move_at_B (x0 x1 x2 x3 x4 x5 x6 x7 : Vec Ideal S1x128x770 .bf16) (a b w : Vec Ideal S1x128x770 .f32) (r : Fin 128) (l : Fin 770) :
    (k0_pay16 (F := Ideal) (k0_pay11 (F := Ideal) x0 x1 x2 x3 x4 x5 x6 x7) (k0_pay12 a) b w (ix3 0 r l) : EReal) = move (w (ix3 0 r l)) (mom (a (ix3 0 r l)) (add8 x0 x1 x2 x3 x4 x5 x6 x7 r l)) (vel (b (ix3 0 r l)) (add8 x0 x1 x2 x3 x4 x5 x6 x7 r l)) := by
  unfold move mom vel add8
  pointwise [k0_pay11, k0_pay12, k0_pay13, k0_pay14, k0_pay15, k0_pay16, k0_pay3, k0_pay4]

variable (m : (ℓ : Loc nD τ sig) → Buf (Elt Ideal) ℓ) (c : Dev nD) (t : Fin cfg0.N)

abbrev aW : FVec Ideal S2x1024x770 .f32 := m ((c.tc : Thread nD τ).loc main_arg0)
abbrev aM : FVec Ideal S2x1024x770 .f32 := m ((c.tc : Thread nD τ).loc main_arg1)
abbrev aV : FVec Ideal S2x1024x770 .f32 := m ((c.tc : Thread nD τ).loc main_arg2)
abbrev aP : FVec Ideal S8x1024x770 .bf16 := m ((c.tc : Thread nD τ).loc main_arg3)
abbrev aQ : FVec Ideal S8x1024x770 .bf16 := m ((c.tc : Thread nD τ).loc main_arg4)

/-- The gradient, the new moments and the update. -/
def grad : FVec Ideal S2x1024x770 .f32 := fun i => ∑ s : Fin 8, (if (i 0).val = 0 then aP m c else aQ m c) (ix3 s (i 1) (i 2))
def first : FVec Ideal S2x1024x770 .f32 := fun i => mom (aM m c i) (grad m c i)
def second : FVec Ideal S2x1024x770 .f32 := fun i => vel (aV m c i) (grad m c i)
def update : FVec Ideal S2x1024x770 .f32 := fun i => move (aW m c i) (first m c i) (second m c i)

/-- The entry of the arrays a block's entry is. -/
abbrev pos (r : Fin 128) (l : Fin 770) : S2x1024x770.Idx := (ix3 ⟨t.val / 8, by have := lt_of_lt_of_eq t.isLt N_0; omega⟩ ⟨t.val % 8 * 128 + r.val, by have := lt_of_lt_of_eq t.isLt N_0; omega⟩ l)

/-- The eight slabs of a block of parts. -/
abbrev slab0_0 : Vec Ideal S1x128x770 .bf16 := View.ld (iblk m c 3 t) (Rect.unit ![0, 0, 0] ![1, 128, 770] inb_S8x128x770_S1x128x770_0_0_0)
abbrev slab0_1 : Vec Ideal S1x128x770 .bf16 := View.ld (iblk m c 3 t) (Rect.unit ![1, 0, 0] ![1, 128, 770] inb_S8x128x770_S1x128x770_1_0_0)
abbrev slab0_2 : Vec Ideal S1x128x770 .bf16 := View.ld (iblk m c 3 t) (Rect.unit ![2, 0, 0] ![1, 128, 770] inb_S8x128x770_S1x128x770_2_0_0)
abbrev slab0_3 : Vec Ideal S1x128x770 .bf16 := View.ld (iblk m c 3 t) (Rect.unit ![3, 0, 0] ![1, 128, 770] inb_S8x128x770_S1x128x770_3_0_0)
abbrev slab0_4 : Vec Ideal S1x128x770 .bf16 := View.ld (iblk m c 3 t) (Rect.unit ![4, 0, 0] ![1, 128, 770] inb_S8x128x770_S1x128x770_4_0_0)
abbrev slab0_5 : Vec Ideal S1x128x770 .bf16 := View.ld (iblk m c 3 t) (Rect.unit ![5, 0, 0] ![1, 128, 770] inb_S8x128x770_S1x128x770_5_0_0)
abbrev slab0_6 : Vec Ideal S1x128x770 .bf16 := View.ld (iblk m c 3 t) (Rect.unit ![6, 0, 0] ![1, 128, 770] inb_S8x128x770_S1x128x770_6_0_0)
abbrev slab0_7 : Vec Ideal S1x128x770 .bf16 := View.ld (iblk m c 3 t) (Rect.unit ![7, 0, 0] ![1, 128, 770] inb_S8x128x770_S1x128x770_7_0_0)
abbrev slab1_0 : Vec Ideal S1x128x770 .bf16 := View.ld (iblk m c 4 t) (Rect.unit ![0, 0, 0] ![1, 128, 770] inb_S8x128x770_S1x128x770_0_0_0)
abbrev slab1_1 : Vec Ideal S1x128x770 .bf16 := View.ld (iblk m c 4 t) (Rect.unit ![1, 0, 0] ![1, 128, 770] inb_S8x128x770_S1x128x770_1_0_0)
abbrev slab1_2 : Vec Ideal S1x128x770 .bf16 := View.ld (iblk m c 4 t) (Rect.unit ![2, 0, 0] ![1, 128, 770] inb_S8x128x770_S1x128x770_2_0_0)
abbrev slab1_3 : Vec Ideal S1x128x770 .bf16 := View.ld (iblk m c 4 t) (Rect.unit ![3, 0, 0] ![1, 128, 770] inb_S8x128x770_S1x128x770_3_0_0)
abbrev slab1_4 : Vec Ideal S1x128x770 .bf16 := View.ld (iblk m c 4 t) (Rect.unit ![4, 0, 0] ![1, 128, 770] inb_S8x128x770_S1x128x770_4_0_0)
abbrev slab1_5 : Vec Ideal S1x128x770 .bf16 := View.ld (iblk m c 4 t) (Rect.unit ![5, 0, 0] ![1, 128, 770] inb_S8x128x770_S1x128x770_5_0_0)
abbrev slab1_6 : Vec Ideal S1x128x770 .bf16 := View.ld (iblk m c 4 t) (Rect.unit ![6, 0, 0] ![1, 128, 770] inb_S8x128x770_S1x128x770_6_0_0)
abbrev slab1_7 : Vec Ideal S1x128x770 .bf16 := View.ld (iblk m c 4 t) (Rect.unit ![7, 0, 0] ![1, 128, 770] inb_S8x128x770_S1x128x770_7_0_0)

theorem in0 (r : Fin 128) (l : Fin 770) : (iblk m c 0 t (ix3 0 r l) : EReal) = aW m c (pos t r l) := by
  obtain ⟨h, -⟩ := idx t
  have ht : t.val < 16 := lt_of_lt_of_eq t.isLt N_0
  have e : (iblk m c 0 t : Vec Ideal S1x128x770 .f32) (ix3 0 r l) = aW m c (pos t r l) := by
    blk_ext [iblk, V, h] <;> rfl
  exact e
theorem in1 (r : Fin 128) (l : Fin 770) : (iblk m c 1 t (ix3 0 r l) : EReal) = aM m c (pos t r l) := by
  obtain ⟨-, h, -⟩ := idx t
  have ht : t.val < 16 := lt_of_lt_of_eq t.isLt N_0
  have e : (iblk m c 1 t : Vec Ideal S1x128x770 .f32) (ix3 0 r l) = aM m c (pos t r l) := by
    blk_ext [iblk, V, h] <;> rfl
  exact e
theorem in2 (r : Fin 128) (l : Fin 770) : (iblk m c 2 t (ix3 0 r l) : EReal) = aV m c (pos t r l) := by
  obtain ⟨-, -, h, -⟩ := idx t
  have ht : t.val < 16 := lt_of_lt_of_eq t.isLt N_0
  have e : (iblk m c 2 t : Vec Ideal S1x128x770 .f32) (ix3 0 r l) = aV m c (pos t r l) := by
    blk_ext [iblk, V, h] <;> rfl
  exact e
theorem slab0_0_at (r : Fin 128) (l : Fin 770) : slab0_0 m c t (ix3 0 r l) = aP m c (ix3 0 (pos t r l 1) l) := by
  refine (View.ld_unit_apply_of _ _ _ _ _ (ix3 0 r l) (fun a => by fin_cases a <;> simp)).trans ?_
  obtain ⟨-, -, -, h, -⟩ := idx t
  have ht : t.val < 16 := lt_of_lt_of_eq t.isLt N_0
  blk_ext [iblk, V, h] <;> rfl
theorem slab0_1_at (r : Fin 128) (l : Fin 770) : slab0_1 m c t (ix3 0 r l) = aP m c (ix3 1 (pos t r l 1) l) := by
  refine (View.ld_unit_apply_of _ _ _ _ _ (ix3 1 r l) (fun a => by fin_cases a <;> simp)).trans ?_
  obtain ⟨-, -, -, h, -⟩ := idx t
  have ht : t.val < 16 := lt_of_lt_of_eq t.isLt N_0
  blk_ext [iblk, V, h] <;> rfl
theorem slab0_2_at (r : Fin 128) (l : Fin 770) : slab0_2 m c t (ix3 0 r l) = aP m c (ix3 2 (pos t r l 1) l) := by
  refine (View.ld_unit_apply_of _ _ _ _ _ (ix3 2 r l) (fun a => by fin_cases a <;> simp)).trans ?_
  obtain ⟨-, -, -, h, -⟩ := idx t
  have ht : t.val < 16 := lt_of_lt_of_eq t.isLt N_0
  blk_ext [iblk, V, h] <;> rfl
theorem slab0_3_at (r : Fin 128) (l : Fin 770) : slab0_3 m c t (ix3 0 r l) = aP m c (ix3 3 (pos t r l 1) l) := by
  refine (View.ld_unit_apply_of _ _ _ _ _ (ix3 3 r l) (fun a => by fin_cases a <;> simp)).trans ?_
  obtain ⟨-, -, -, h, -⟩ := idx t
  have ht : t.val < 16 := lt_of_lt_of_eq t.isLt N_0
  blk_ext [iblk, V, h] <;> rfl
theorem slab0_4_at (r : Fin 128) (l : Fin 770) : slab0_4 m c t (ix3 0 r l) = aP m c (ix3 4 (pos t r l 1) l) := by
  refine (View.ld_unit_apply_of _ _ _ _ _ (ix3 4 r l) (fun a => by fin_cases a <;> simp)).trans ?_
  obtain ⟨-, -, -, h, -⟩ := idx t
  have ht : t.val < 16 := lt_of_lt_of_eq t.isLt N_0
  blk_ext [iblk, V, h] <;> rfl
theorem slab0_5_at (r : Fin 128) (l : Fin 770) : slab0_5 m c t (ix3 0 r l) = aP m c (ix3 5 (pos t r l 1) l) := by
  refine (View.ld_unit_apply_of _ _ _ _ _ (ix3 5 r l) (fun a => by fin_cases a <;> simp)).trans ?_
  obtain ⟨-, -, -, h, -⟩ := idx t
  have ht : t.val < 16 := lt_of_lt_of_eq t.isLt N_0
  blk_ext [iblk, V, h] <;> rfl
theorem slab0_6_at (r : Fin 128) (l : Fin 770) : slab0_6 m c t (ix3 0 r l) = aP m c (ix3 6 (pos t r l 1) l) := by
  refine (View.ld_unit_apply_of _ _ _ _ _ (ix3 6 r l) (fun a => by fin_cases a <;> simp)).trans ?_
  obtain ⟨-, -, -, h, -⟩ := idx t
  have ht : t.val < 16 := lt_of_lt_of_eq t.isLt N_0
  blk_ext [iblk, V, h] <;> rfl
theorem slab0_7_at (r : Fin 128) (l : Fin 770) : slab0_7 m c t (ix3 0 r l) = aP m c (ix3 7 (pos t r l 1) l) := by
  refine (View.ld_unit_apply_of _ _ _ _ _ (ix3 7 r l) (fun a => by fin_cases a <;> simp)).trans ?_
  obtain ⟨-, -, -, h, -⟩ := idx t
  have ht : t.val < 16 := lt_of_lt_of_eq t.isLt N_0
  blk_ext [iblk, V, h] <;> rfl
theorem total_A (h : t.val < 8) (r : Fin 128) (l : Fin 770) : add8 (slab0_0 m c t) (slab0_1 m c t) (slab0_2 m c t) (slab0_3 m c t) (slab0_4 m c t) (slab0_5 m c t) (slab0_6 m c t) (slab0_7 m c t) r l = grad m c (pos t r l) := by
  unfold add8 grad
  rw [slab0_0_at, slab0_1_at, slab0_2_at, slab0_3_at, slab0_4_at, slab0_5_at, slab0_6_at, slab0_7_at]
  rw [if_pos (show (pos t r l 0).val = 0 from Nat.div_eq_of_lt h)]
  exact (Fin.sum_univ_eight (fun s : Fin 8 => (aP m c (ix3 s (pos t r l 1) l) : EReal))).symm

theorem slab1_0_at (r : Fin 128) (l : Fin 770) : slab1_0 m c t (ix3 0 r l) = aQ m c (ix3 0 (pos t r l 1) l) := by
  refine (View.ld_unit_apply_of _ _ _ _ _ (ix3 0 r l) (fun a => by fin_cases a <;> simp)).trans ?_
  obtain ⟨-, -, -, -, h, -⟩ := idx t
  have ht : t.val < 16 := lt_of_lt_of_eq t.isLt N_0
  blk_ext [iblk, V, h] <;> rfl
theorem slab1_1_at (r : Fin 128) (l : Fin 770) : slab1_1 m c t (ix3 0 r l) = aQ m c (ix3 1 (pos t r l 1) l) := by
  refine (View.ld_unit_apply_of _ _ _ _ _ (ix3 1 r l) (fun a => by fin_cases a <;> simp)).trans ?_
  obtain ⟨-, -, -, -, h, -⟩ := idx t
  have ht : t.val < 16 := lt_of_lt_of_eq t.isLt N_0
  blk_ext [iblk, V, h] <;> rfl
theorem slab1_2_at (r : Fin 128) (l : Fin 770) : slab1_2 m c t (ix3 0 r l) = aQ m c (ix3 2 (pos t r l 1) l) := by
  refine (View.ld_unit_apply_of _ _ _ _ _ (ix3 2 r l) (fun a => by fin_cases a <;> simp)).trans ?_
  obtain ⟨-, -, -, -, h, -⟩ := idx t
  have ht : t.val < 16 := lt_of_lt_of_eq t.isLt N_0
  blk_ext [iblk, V, h] <;> rfl
theorem slab1_3_at (r : Fin 128) (l : Fin 770) : slab1_3 m c t (ix3 0 r l) = aQ m c (ix3 3 (pos t r l 1) l) := by
  refine (View.ld_unit_apply_of _ _ _ _ _ (ix3 3 r l) (fun a => by fin_cases a <;> simp)).trans ?_
  obtain ⟨-, -, -, -, h, -⟩ := idx t
  have ht : t.val < 16 := lt_of_lt_of_eq t.isLt N_0
  blk_ext [iblk, V, h] <;> rfl
theorem slab1_4_at (r : Fin 128) (l : Fin 770) : slab1_4 m c t (ix3 0 r l) = aQ m c (ix3 4 (pos t r l 1) l) := by
  refine (View.ld_unit_apply_of _ _ _ _ _ (ix3 4 r l) (fun a => by fin_cases a <;> simp)).trans ?_
  obtain ⟨-, -, -, -, h, -⟩ := idx t
  have ht : t.val < 16 := lt_of_lt_of_eq t.isLt N_0
  blk_ext [iblk, V, h] <;> rfl
theorem slab1_5_at (r : Fin 128) (l : Fin 770) : slab1_5 m c t (ix3 0 r l) = aQ m c (ix3 5 (pos t r l 1) l) := by
  refine (View.ld_unit_apply_of _ _ _ _ _ (ix3 5 r l) (fun a => by fin_cases a <;> simp)).trans ?_
  obtain ⟨-, -, -, -, h, -⟩ := idx t
  have ht : t.val < 16 := lt_of_lt_of_eq t.isLt N_0
  blk_ext [iblk, V, h] <;> rfl
theorem slab1_6_at (r : Fin 128) (l : Fin 770) : slab1_6 m c t (ix3 0 r l) = aQ m c (ix3 6 (pos t r l 1) l) := by
  refine (View.ld_unit_apply_of _ _ _ _ _ (ix3 6 r l) (fun a => by fin_cases a <;> simp)).trans ?_
  obtain ⟨-, -, -, -, h, -⟩ := idx t
  have ht : t.val < 16 := lt_of_lt_of_eq t.isLt N_0
  blk_ext [iblk, V, h] <;> rfl
theorem slab1_7_at (r : Fin 128) (l : Fin 770) : slab1_7 m c t (ix3 0 r l) = aQ m c (ix3 7 (pos t r l 1) l) := by
  refine (View.ld_unit_apply_of _ _ _ _ _ (ix3 7 r l) (fun a => by fin_cases a <;> simp)).trans ?_
  obtain ⟨-, -, -, -, h, -⟩ := idx t
  have ht : t.val < 16 := lt_of_lt_of_eq t.isLt N_0
  blk_ext [iblk, V, h] <;> rfl
theorem total_B (h : ¬t.val < 8) (r : Fin 128) (l : Fin 770) : add8 (slab1_0 m c t) (slab1_1 m c t) (slab1_2 m c t) (slab1_3 m c t) (slab1_4 m c t) (slab1_5 m c t) (slab1_6 m c t) (slab1_7 m c t) r l = grad m c (pos t r l) := by
  unfold add8 grad
  rw [slab1_0_at, slab1_1_at, slab1_2_at, slab1_3_at, slab1_4_at, slab1_5_at, slab1_6_at, slab1_7_at]
  rw [if_neg (show ¬(pos t r l 0).val = 0 from fun e => h ((Nat.div_eq_zero_iff.mp e).resolve_left (by omega)))]
  exact (Fin.sum_univ_eight (fun s : Fin 8 => (aQ m c (ix3 s (pos t r l 1) l) : EReal))).symm

theorem out_grad (r : Fin 128) (l : Fin 770) : ((outsAt0 m c t.val t.isLt).1 (ix3 0 r l) : EReal) = grad m c (pos t r l) := by
  have ht : t.val < 16 := lt_of_lt_of_eq t.isLt N_0
  by_cases h : t.val < 8
  · rw [outsAt0_A m c t (by omega) (by omega)]
    frame_out
    exact (same_at_A _ _ _ _ _ _ _ _ _ _).trans (total_A m c t h r l)
  · rw [outsAt0_B m c t (by omega) (by omega)]
    frame_out
    exact (same_at_B _ _ _ _ _ _ _ _ _ _).trans (total_B m c t h r l)
theorem out_update (r : Fin 128) (l : Fin 770) : ((outsAt0 m c t.val t.isLt).2.1 (ix3 0 r l) : EReal) = update m c (pos t r l) := by
  have ht : t.val < 16 := lt_of_lt_of_eq t.isLt N_0
  by_cases h : t.val < 8
  · rw [outsAt0_A m c t (by omega) (by omega)]
    frame_out
    exact (move_at_A _ _ _ _ _ _ _ _ _ _ _ _ _).trans (congr (congrArg₂ move (in0 m c t r l) (congrArg₂ mom (in1 m c t r l) (total_A m c t h r l))) (congrArg₂ vel (in2 m c t r l) (total_A m c t h r l)))
  · rw [outsAt0_B m c t (by omega) (by omega)]
    frame_out
    exact (move_at_B _ _ _ _ _ _ _ _ _ _ _ _ _).trans (congr (congrArg₂ move (in0 m c t r l) (congrArg₂ mom (in1 m c t r l) (total_B m c t h r l))) (congrArg₂ vel (in2 m c t r l) (total_B m c t h r l)))
theorem out_first (r : Fin 128) (l : Fin 770) : ((outsAt0 m c t.val t.isLt).2.2.1 (ix3 0 r l) : EReal) = first m c (pos t r l) := by
  have ht : t.val < 16 := lt_of_lt_of_eq t.isLt N_0
  by_cases h : t.val < 8
  · rw [outsAt0_A m c t (by omega) (by omega)]
    frame_out
    exact (mom_at_A _ _ _ _ _ _ _ _ _ _ _).trans (congrArg₂ mom (in1 m c t r l) (total_A m c t h r l))
  · rw [outsAt0_B m c t (by omega) (by omega)]
    frame_out
    exact (mom_at_B _ _ _ _ _ _ _ _ _ _ _).trans (congrArg₂ mom (in1 m c t r l) (total_B m c t h r l))
theorem out_second (r : Fin 128) (l : Fin 770) : ((outsAt0 m c t.val t.isLt).2.2.2 (ix3 0 r l) : EReal) = second m c (pos t r l) := by
  have ht : t.val < 16 := lt_of_lt_of_eq t.isLt N_0
  by_cases h : t.val < 8
  · rw [outsAt0_A m c t (by omega) (by omega)]
    frame_out
    exact (vel_at_A _ _ _ _ _ _ _ _ _ _ _).trans (congrArg₂ vel (in2 m c t r l) (total_A m c t h r l))
  · rw [outsAt0_B m c t (by omega) (by omega)]
    frame_out
    exact (vel_at_B _ _ _ _ _ _ _ _ _ _ _).trans (congrArg₂ vel (in2 m c t r l) (total_B m c t h r l))

theorem result5 : (dats m 0 c).arrAt 5 cfg0.N = grad m c := by
  refine (dats m 0 c).arrAt_eq_of_covers 5 _ (by decide +kernel) fun t hf y => ?_
  blk_simp; rw [after0_5]
  have ht : t.val < 16 := lt_of_lt_of_eq t.isLt N_0
  obtain ⟨-, -, -, -, -, h, -⟩ := idx t
  idx_vars y
  have e0 : y0 = 0 := Fin.ext (by omega)
  subst e0
  have e : grad m c (((View.whole main_v0_0).slice (win0_5.rect t)).emb (ix3 0 y1 y2)) = grad m c (pos t y1 y2) := by
    generalize grad m c = X
    blk_ext [h] <;> rfl
  exact (out_grad m c t y1 y2).trans e.symm
theorem result6 : (dats m 0 c).arrAt 6 cfg0.N = update m c := by
  refine (dats m 0 c).arrAt_eq_of_covers 6 _ (by decide +kernel) fun t hf y => ?_
  blk_simp; rw [after0_6]
  have ht : t.val < 16 := lt_of_lt_of_eq t.isLt N_0
  obtain ⟨-, -, -, -, -, -, h, -⟩ := idx t
  idx_vars y
  have e0 : y0 = 0 := Fin.ext (by omega)
  subst e0
  have e : update m c (((View.whole main_v0_1).slice (win0_6.rect t)).emb (ix3 0 y1 y2)) = update m c (pos t y1 y2) := by
    generalize update m c = X
    blk_ext [h] <;> rfl
  exact (out_update m c t y1 y2).trans e.symm
theorem result7 : (dats m 0 c).arrAt 7 cfg0.N = first m c := by
  refine (dats m 0 c).arrAt_eq_of_covers 7 _ (by decide +kernel) fun t hf y => ?_
  blk_simp; rw [after0_7]
  have ht : t.val < 16 := lt_of_lt_of_eq t.isLt N_0
  obtain ⟨-, -, -, -, -, -, -, h, -⟩ := idx t
  idx_vars y
  have e0 : y0 = 0 := Fin.ext (by omega)
  subst e0
  have e : first m c (((View.whole main_v0_2).slice (win0_7.rect t)).emb (ix3 0 y1 y2)) = first m c (pos t y1 y2) := by
    generalize first m c = X
    blk_ext [h] <;> rfl
  exact (out_first m c t y1 y2).trans e.symm
theorem result8 : (dats m 0 c).arrAt 8 cfg0.N = second m c := by
  refine (dats m 0 c).arrAt_eq_of_covers 8 _ (by decide +kernel) fun t hf y => ?_
  blk_simp; rw [after0_8]
  have ht : t.val < 16 := lt_of_lt_of_eq t.isLt N_0
  obtain ⟨-, -, -, -, -, -, -, -, h⟩ := idx t
  idx_vars y
  have e0 : y0 = 0 := Fin.ext (by omega)
  subst e0
  have e : second m c (((View.whole main_v0_3).slice (win0_8.rect t)).emb (ix3 0 y1 y2)) = second m c (pos t y1 y2) := by
    generalize second m c = X
    blk_ext [h] <;> rfl
  exact (out_second m c t y1 y2).trans e.symm

section
open Cert.Reference31Ideal.Read
theorem reads_grad : Cert.Reference31Ideal.Read.val_main_v6 (F := Ideal) (aP m c) (aQ m c) = grad m c := by
  funext i
  idx_vars i
  unfold grad
  pointwise [val_main_v0, val_main_cst, val_main_v1, val_main_v2, val_main_cst_0, val_main_v3, val_main_v4, val_main_v5, val_main_v6]
  by_cases h : i0.val < 1
  · rw [dif_pos h]
    exact Finset.sum_congr rfl fun s _ => (congrFun (if_pos (show i0.val = 0 by omega)) _).symm
  · rw [dif_neg h]
    exact Finset.sum_congr rfl fun s _ => (congrFun (if_neg (show ¬i0.val = 0 by omega)) _).symm
theorem reads_first : Cert.Reference31Ideal.Read.val_main_v11 (F := Ideal) (aM m c) (aP m c) (aQ m c) = first m c := by
  have e : ∀ i, (Cert.Reference31Ideal.Read.val_main_v11 (F := Ideal) (aM m c) (aP m c) (aQ m c) i : EReal) = mom (aM m c i) (Cert.Reference31Ideal.Read.val_main_v6 (F := Ideal) (aP m c) (aQ m c) i) := fun i => by
    idx_vars i
    unfold mom
    pointwise [val_main_cst_1, val_main_v7, val_main_v8, val_main_cst_2, val_main_v9, val_main_v10, val_main_v11]
  funext i
  rw [e, reads_grad]
  rfl
theorem reads_second : Cert.Reference31Ideal.Read.val_main_v17 (F := Ideal) (aV m c) (aP m c) (aQ m c) = second m c := by
  have e : ∀ i, (Cert.Reference31Ideal.Read.val_main_v17 (F := Ideal) (aV m c) (aP m c) (aQ m c) i : EReal) = vel (aV m c i) (Cert.Reference31Ideal.Read.val_main_v6 (F := Ideal) (aP m c) (aQ m c) i) := fun i => by
    idx_vars i
    unfold vel
    pointwise [val_main_cst_1, val_main_v7, val_main_v8, val_main_cst_2, val_main_v9, val_main_v10, val_main_v11, val_main_cst_3, val_main_v12, val_main_v13, val_main_v14, val_main_cst_4, val_main_v15, val_main_v16, val_main_v17]
  funext i
  rw [e, reads_grad]
  rfl
theorem reads_update : Cert.Reference31Ideal.Read.val_main_v30 (F := Ideal) (aW m c) (aM m c) (aV m c) (aP m c) (aQ m c) = update m c := by
  have e : ∀ i, (Cert.Reference31Ideal.Read.val_main_v30 (F := Ideal) (aW m c) (aM m c) (aV m c) (aP m c) (aQ m c) i : EReal) = move (aW m c i) (Cert.Reference31Ideal.Read.val_main_v11 (F := Ideal) (aM m c) (aP m c) (aQ m c) i) (Cert.Reference31Ideal.Read.val_main_v17 (F := Ideal) (aV m c) (aP m c) (aQ m c) i) := fun i => by
    idx_vars i
    unfold move
    pointwise [val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  funext i
  rw [e, reads_first, reads_second]
  rfl
end

end Cert.Kernel31Ideal.Value

end
-- ==== Proof.Update32.lean ====
module

public import proofs.«01_k».proof.Proof.Gen.Kernel32Ideal.Value
public import proofs.«01_k».proof.Proof.Gen.Reference32Ideal.Read
public import proofs.«01_k».proof.Proof.Adam

/-! The step of the optimiser of an array of 256 by 1024, two layers: the gradient is the sum of eight parts. -/

@[expose] public section

set_option maxRecDepth 16384

noncomputable section
open Idealize.ShloMosaic Idealize.ShloMosaic.TcCoe Idealize.SL.Sem
namespace Cert.Kernel32Ideal.Value
open Cert.Kernel32Ideal Cert.Kernel32Ideal.Gen Cert.Product Cert.Adam

theorem idx : ∀ t : Fin cfg0.N, win0_0.index t = ![t.val / 2, t.val % 2, 0] ∧ win0_1.index t = ![t.val / 2, t.val % 2, 0] ∧ win0_2.index t = ![t.val / 2, t.val % 2, 0] ∧ win0_3.index t = ![0, t.val % 2, 0] ∧ win0_4.index t = ![0, t.val % 2, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0] := by
  decide +kernel

/-- The sum of eight parts at one entry. -/
def add8 (x0 x1 x2 x3 x4 x5 x6 x7 : Vec Ideal S1x128x1024 .bf16) (r : Fin 128) (l : Fin 1024) : EReal :=
  x0 (ix3 0 r l) + x1 (ix3 0 r l) + x2 (ix3 0 r l) + x3 (ix3 0 r l) + x4 (ix3 0 r l) + x5 (ix3 0 r l) + x6 (ix3 0 r l) + x7 (ix3 0 r l)

theorem same_at_A (x0 x1 x2 x3 x4 x5 x6 x7 : Vec Ideal S1x128x1024 .bf16) (r : Fin 128) (l : Fin 1024) :
    (k0_pay9 (F := Ideal) (k0_pay5 (F := Ideal) x0 x1 x2 x3 x4 x5 x6 x7) (ix3 0 r l) : EReal) = add8 x0 x1 x2 x3 x4 x5 x6 x7 r l := by
  unfold add8
  pointwise [k0_pay9, k0_pay5]
theorem mom_at_A (x0 x1 x2 x3 x4 x5 x6 x7 : Vec Ideal S1x128x1024 .bf16) (z : Vec Ideal S1x128x1024 .f32) (r : Fin 128) (l : Fin 1024) :
    (k0_pay1 (F := Ideal) (k0_pay7 (k0_pay5 (F := Ideal) x0 x1 x2 x3 x4 x5 x6 x7) (k0_pay6 z)) (ix3 0 r l) : EReal) = mom (z (ix3 0 r l)) (add8 x0 x1 x2 x3 x4 x5 x6 x7 r l) := by
  unfold mom add8
  pointwise [k0_pay1, k0_pay10, k0_pay2, k0_pay5, k0_pay6, k0_pay7, k0_pay8, k0_pay9]
theorem vel_at_A (x0 x1 x2 x3 x4 x5 x6 x7 : Vec Ideal S1x128x1024 .bf16) (z : Vec Ideal S1x128x1024 .f32) (r : Fin 128) (l : Fin 1024) :
    (k0_pay2 (F := Ideal) (k0_pay8 (k0_pay5 (F := Ideal) x0 x1 x2 x3 x4 x5 x6 x7) z) (ix3 0 r l) : EReal) = vel (z (ix3 0 r l)) (add8 x0 x1 x2 x3 x4 x5 x6 x7 r l) := by
  unfold vel add8
  pointwise [k0_pay1, k0_pay10, k0_pay2, k0_pay5, k0_pay6, k0_pay7, k0_pay8, k0_pay9]
theorem move_at_A (x0 x1 x2 x3 x4 x5 x6 x7 : Vec Ideal S1x128x1024 .bf16) (a b w : Vec Ideal S1x128x1024 .f32) (r : Fin 128) (l : Fin 1024) :
    (k0_pay10 (F := Ideal) (k0_pay5 (F := Ideal) x0 x1 x2 x3 x4 x5 x6 x7) (k0_pay6 a) b w (ix3 0 r l) : EReal) = move (w (ix3 0 r l)) (mom (a (ix3 0 r l)) (add8 x0 x1 x2 x3 x4 x5 x6 x7 r l)) (vel (b (ix3 0 r l)) (add8 x0 x1 x2 x3 x4 x5 x6 x7 r l)) := by
  unfold move mom vel add8
  pointwise [k0_pay1, k0_pay10, k0_pay2, k0_pay5, k0_pay6, k0_pay7, k0_pay8, k0_pay9]

theorem same_at_B (x0 x1 x2 x3 x4 x5 x6 x7 : Vec Ideal S1x128x1024 .bf16) (r : Fin 128) (l : Fin 1024) :
    (k0_pay15 (F := Ideal) (k0_pay11 (F := Ideal) x0 x1 x2 x3 x4 x5 x6 x7) (ix3 0 r l) : EReal) = add8 x0 x1 x2 x3 x4 x5 x6 x7 r l := by
  unfold add8
  pointwise [k0_pay15, k0_pay11]
theorem mom_at_B (x0 x1 x2 x3 x4 x5 x6 x7 : Vec Ideal S1x128x1024 .bf16) (z : Vec Ideal S1x128x1024 .f32) (r : Fin 128) (l : Fin 1024) :
    (k0_pay3 (F := Ideal) (k0_pay13 (k0_pay11 (F := Ideal) x0 x1 x2 x3 x4 x5 x6 x7) (k0_pay12 z)) (ix3 0 r l) : EReal) = mom (z (ix3 0 r l)) (add8 x0 x1 x2 x3 x4 x5 x6 x7 r l) := by
  unfold mom add8
  pointwise [k0_pay11, k0_pay12, k0_pay13, k0_pay14, k0_pay15, k0_pay16, k0_pay3, k0_pay4]
theorem vel_at_B (x0 x1 x2 x3 x4 x5 x6 x7 : Vec Ideal S1x128x1024 .bf16) (z : Vec Ideal S1x128x1024 .f32) (r : Fin 128) (l : Fin 1024) :
    (k0_pay4 (F := Ideal) (k0_pay14 (k0_pay11 (F := Ideal) x0 x1 x2 x3 x4 x5 x6 x7) z) (ix3 0 r l) : EReal) = vel (z (ix3 0 r l)) (add8 x0 x1 x2 x3 x4 x5 x6 x7 r l) := by
  unfold vel add8
  pointwise [k0_pay11, k0_pay12, k0_pay13, k0_pay14, k0_pay15, k0_pay16, k0_pay3, k0_pay4]
theorem move_at_B (x0 x1 x2 x3 x4 x5 x6 x7 : Vec Ideal S1x128x1024 .bf16) (a b w : Vec Ideal S1x128x1024 .f32) (r : Fin 128) (l : Fin 1024) :
    (k0_pay16 (F := Ideal) (k0_pay11 (F := Ideal) x0 x1 x2 x3 x4 x5 x6 x7) (k0_pay12 a) b w (ix3 0 r l) : EReal) = move (w (ix3 0 r l)) (mom (a (ix3 0 r l)) (add8 x0 x1 x2 x3 x4 x5 x6 x7 r l)) (vel (b (ix3 0 r l)) (add8 x0 x1 x2 x3 x4 x5 x6 x7 r l)) := by
  unfold move mom vel add8
  pointwise [k0_pay11, k0_pay12, k0_pay13, k0_pay14, k0_pay15, k0_pay16, k0_pay3, k0_pay4]

variable (m : (ℓ : Loc nD τ sig) → Buf (Elt Ideal) ℓ) (c : Dev nD) (t : Fin cfg0.N)

abbrev aW : FVec Ideal S2x256x1024 .f32 := m ((c.tc : Thread nD τ).loc main_arg0)
abbrev aM : FVec Ideal S2x256x1024 .f32 := m ((c.tc : Thread nD τ).loc main_arg1)
abbrev aV : FVec Ideal S2x256x1024 .f32 := m ((c.tc : Thread nD τ).loc main_arg2)
abbrev aP : FVec Ideal S8x256x1024 .bf16 := m ((c.tc : Thread nD τ).loc main_arg3)
abbrev aQ : FVec Ideal S8x256x1024 .bf16 := m ((c.tc : Thread nD τ).loc main_arg4)

/-- The gradient, the new moments and the update. -/
def grad : FVec Ideal S2x256x1024 .f32 := fun i => ∑ s : Fin 8, (if (i 0).val = 0 then aP m c else aQ m c) (ix3 s (i 1) (i 2))
def first : FVec Ideal S2x256x1024 .f32 := fun i => mom (aM m c i) (grad m c i)
def second : FVec Ideal S2x256x1024 .f32 := fun i => vel (aV m c i) (grad m c i)
def update : FVec Ideal S2x256x1024 .f32 := fun i => move (aW m c i) (first m c i) (second m c i)

/-- The entry of the arrays a block's entry is. -/
abbrev pos (r : Fin 128) (l : Fin 1024) : S2x256x1024.Idx := (ix3 ⟨t.val / 2, by have := lt_of_lt_of_eq t.isLt N_0; omega⟩ ⟨t.val % 2 * 128 + r.val, by have := lt_of_lt_of_eq t.isLt N_0; omega⟩ l)

/-- The eight slabs of a block of parts. -/
abbrev slab0_0 : Vec Ideal S1x128x1024 .bf16 := View.ld (iblk m c 3 t) (Rect.unit ![0, 0, 0] ![1, 128, 1024] inb_S8x128x1024_S1x128x1024_0_0_0)
abbrev slab0_1 : Vec Ideal S1x128x1024 .bf16 := View.ld (iblk m c 3 t) (Rect.unit ![1, 0, 0] ![1, 128, 1024] inb_S8x128x1024_S1x128x1024_1_0_0)
abbrev slab0_2 : Vec Ideal S1x128x1024 .bf16 := View.ld (iblk m c 3 t) (Rect.unit ![2, 0, 0] ![1, 128, 1024] inb_S8x128x1024_S1x128x1024_2_0_0)
abbrev slab0_3 : Vec Ideal S1x128x1024 .bf16 := View.ld (iblk m c 3 t) (Rect.unit ![3, 0, 0] ![1, 128, 1024] inb_S8x128x1024_S1x128x1024_3_0_0)
abbrev slab0_4 : Vec Ideal S1x128x1024 .bf16 := View.ld (iblk m c 3 t) (Rect.unit ![4, 0, 0] ![1, 128, 1024] inb_S8x128x1024_S1x128x1024_4_0_0)
abbrev slab0_5 : Vec Ideal S1x128x1024 .bf16 := View.ld (iblk m c 3 t) (Rect.unit ![5, 0, 0] ![1, 128, 1024] inb_S8x128x1024_S1x128x1024_5_0_0)
abbrev slab0_6 : Vec Ideal S1x128x1024 .bf16 := View.ld (iblk m c 3 t) (Rect.unit ![6, 0, 0] ![1, 128, 1024] inb_S8x128x1024_S1x128x1024_6_0_0)
abbrev slab0_7 : Vec Ideal S1x128x1024 .bf16 := View.ld (iblk m c 3 t) (Rect.unit ![7, 0, 0] ![1, 128, 1024] inb_S8x128x1024_S1x128x1024_7_0_0)
abbrev slab1_0 : Vec Ideal S1x128x1024 .bf16 := View.ld (iblk m c 4 t) (Rect.unit ![0, 0, 0] ![1, 128, 1024] inb_S8x128x1024_S1x128x1024_0_0_0)
abbrev slab1_1 : Vec Ideal S1x128x1024 .bf16 := View.ld (iblk m c 4 t) (Rect.unit ![1, 0, 0] ![1, 128, 1024] inb_S8x128x1024_S1x128x1024_1_0_0)
abbrev slab1_2 : Vec Ideal S1x128x1024 .bf16 := View.ld (iblk m c 4 t) (Rect.unit ![2, 0, 0] ![1, 128, 1024] inb_S8x128x1024_S1x128x1024_2_0_0)
abbrev slab1_3 : Vec Ideal S1x128x1024 .bf16 := View.ld (iblk m c 4 t) (Rect.unit ![3, 0, 0] ![1, 128, 1024] inb_S8x128x1024_S1x128x1024_3_0_0)
abbrev slab1_4 : Vec Ideal S1x128x1024 .bf16 := View.ld (iblk m c 4 t) (Rect.unit ![4, 0, 0] ![1, 128, 1024] inb_S8x128x1024_S1x128x1024_4_0_0)
abbrev slab1_5 : Vec Ideal S1x128x1024 .bf16 := View.ld (iblk m c 4 t) (Rect.unit ![5, 0, 0] ![1, 128, 1024] inb_S8x128x1024_S1x128x1024_5_0_0)
abbrev slab1_6 : Vec Ideal S1x128x1024 .bf16 := View.ld (iblk m c 4 t) (Rect.unit ![6, 0, 0] ![1, 128, 1024] inb_S8x128x1024_S1x128x1024_6_0_0)
abbrev slab1_7 : Vec Ideal S1x128x1024 .bf16 := View.ld (iblk m c 4 t) (Rect.unit ![7, 0, 0] ![1, 128, 1024] inb_S8x128x1024_S1x128x1024_7_0_0)

theorem in0 (r : Fin 128) (l : Fin 1024) : (iblk m c 0 t (ix3 0 r l) : EReal) = aW m c (pos t r l) := by
  obtain ⟨h, -⟩ := idx t
  have ht : t.val < 4 := lt_of_lt_of_eq t.isLt N_0
  have e : (iblk m c 0 t : Vec Ideal S1x128x1024 .f32) (ix3 0 r l) = aW m c (pos t r l) := by
    blk_ext [iblk, V, h] <;> rfl
  exact e
theorem in1 (r : Fin 128) (l : Fin 1024) : (iblk m c 1 t (ix3 0 r l) : EReal) = aM m c (pos t r l) := by
  obtain ⟨-, h, -⟩ := idx t
  have ht : t.val < 4 := lt_of_lt_of_eq t.isLt N_0
  have e : (iblk m c 1 t : Vec Ideal S1x128x1024 .f32) (ix3 0 r l) = aM m c (pos t r l) := by
    blk_ext [iblk, V, h] <;> rfl
  exact e
theorem in2 (r : Fin 128) (l : Fin 1024) : (iblk m c 2 t (ix3 0 r l) : EReal) = aV m c (pos t r l) := by
  obtain ⟨-, -, h, -⟩ := idx t
  have ht : t.val < 4 := lt_of_lt_of_eq t.isLt N_0
  have e : (iblk m c 2 t : Vec Ideal S1x128x1024 .f32) (ix3 0 r l) = aV m c (pos t r l) := by
    blk_ext [iblk, V, h] <;> rfl
  exact e
theorem slab0_0_at (r : Fin 128) (l : Fin 1024) : slab0_0 m c t (ix3 0 r l) = aP m c (ix3 0 (pos t r l 1) l) := by
  refine (View.ld_unit_apply_of _ _ _ _ _ (ix3 0 r l) (fun a => by fin_cases a <;> simp)).trans ?_
  obtain ⟨-, -, -, h, -⟩ := idx t
  have ht : t.val < 4 := lt_of_lt_of_eq t.isLt N_0
  blk_ext [iblk, V, h] <;> rfl
theorem slab0_1_at (r : Fin 128) (l : Fin 1024) : slab0_1 m c t (ix3 0 r l) = aP m c (ix3 1 (pos t r l 1) l) := by
  refine (View.ld_unit_apply_of _ _ _ _ _ (ix3 1 r l) (fun a => by fin_cases a <;> simp)).trans ?_
  obtain ⟨-, -, -, h, -⟩ := idx t
  have ht : t.val < 4 := lt_of_lt_of_eq t.isLt N_0
  blk_ext [iblk, V, h] <;> rfl
theorem slab0_2_at (r : Fin 128) (l : Fin 1024) : slab0_2 m c t (ix3 0 r l) = aP m c (ix3 2 (pos t r l 1) l) := by
  refine (View.ld_unit_apply_of _ _ _ _ _ (ix3 2 r l) (fun a => by fin_cases a <;> simp)).trans ?_
  obtain ⟨-, -, -, h, -⟩ := idx t
  have ht : t.val < 4 := lt_of_lt_of_eq t.isLt N_0
  blk_ext [iblk, V, h] <;> rfl
theorem slab0_3_at (r : Fin 128) (l : Fin 1024) : slab0_3 m c t (ix3 0 r l) = aP m c (ix3 3 (pos t r l 1) l) := by
  refine (View.ld_unit_apply_of _ _ _ _ _ (ix3 3 r l) (fun a => by fin_cases a <;> simp)).trans ?_
  obtain ⟨-, -, -, h, -⟩ := idx t
  have ht : t.val < 4 := lt_of_lt_of_eq t.isLt N_0
  blk_ext [iblk, V, h] <;> rfl
theorem slab0_4_at (r : Fin 128) (l : Fin 1024) : slab0_4 m c t (ix3 0 r l) = aP m c (ix3 4 (pos t r l 1) l) := by
  refine (View.ld_unit_apply_of _ _ _ _ _ (ix3 4 r l) (fun a => by fin_cases a <;> simp)).trans ?_
  obtain ⟨-, -, -, h, -⟩ := idx t
  have ht : t.val < 4 := lt_of_lt_of_eq t.isLt N_0
  blk_ext [iblk, V, h] <;> rfl
theorem slab0_5_at (r : Fin 128) (l : Fin 1024) : slab0_5 m c t (ix3 0 r l) = aP m c (ix3 5 (pos t r l 1) l) := by
  refine (View.ld_unit_apply_of _ _ _ _ _ (ix3 5 r l) (fun a => by fin_cases a <;> simp)).trans ?_
  obtain ⟨-, -, -, h, -⟩ := idx t
  have ht : t.val < 4 := lt_of_lt_of_eq t.isLt N_0
  blk_ext [iblk, V, h] <;> rfl
theorem slab0_6_at (r : Fin 128) (l : Fin 1024) : slab0_6 m c t (ix3 0 r l) = aP m c (ix3 6 (pos t r l 1) l) := by
  refine (View.ld_unit_apply_of _ _ _ _ _ (ix3 6 r l) (fun a => by fin_cases a <;> simp)).trans ?_
  obtain ⟨-, -, -, h, -⟩ := idx t
  have ht : t.val < 4 := lt_of_lt_of_eq t.isLt N_0
  blk_ext [iblk, V, h] <;> rfl
theorem slab0_7_at (r : Fin 128) (l : Fin 1024) : slab0_7 m c t (ix3 0 r l) = aP m c (ix3 7 (pos t r l 1) l) := by
  refine (View.ld_unit_apply_of _ _ _ _ _ (ix3 7 r l) (fun a => by fin_cases a <;> simp)).trans ?_
  obtain ⟨-, -, -, h, -⟩ := idx t
  have ht : t.val < 4 := lt_of_lt_of_eq t.isLt N_0
  blk_ext [iblk, V, h] <;> rfl
theorem total_A (h : t.val < 2) (r : Fin 128) (l : Fin 1024) : add8 (slab0_0 m c t) (slab0_1 m c t) (slab0_2 m c t) (slab0_3 m c t) (slab0_4 m c t) (slab0_5 m c t) (slab0_6 m c t) (slab0_7 m c t) r l = grad m c (pos t r l) := by
  unfold add8 grad
  rw [slab0_0_at, slab0_1_at, slab0_2_at, slab0_3_at, slab0_4_at, slab0_5_at, slab0_6_at, slab0_7_at]
  rw [if_pos (show (pos t r l 0).val = 0 from Nat.div_eq_of_lt h)]
  exact (Fin.sum_univ_eight (fun s : Fin 8 => (aP m c (ix3 s (pos t r l 1) l) : EReal))).symm

theorem slab1_0_at (r : Fin 128) (l : Fin 1024) : slab1_0 m c t (ix3 0 r l) = aQ m c (ix3 0 (pos t r l 1) l) := by
  refine (View.ld_unit_apply_of _ _ _ _ _ (ix3 0 r l) (fun a => by fin_cases a <;> simp)).trans ?_
  obtain ⟨-, -, -, -, h, -⟩ := idx t
  have ht : t.val < 4 := lt_of_lt_of_eq t.isLt N_0
  blk_ext [iblk, V, h] <;> rfl
theorem slab1_1_at (r : Fin 128) (l : Fin 1024) : slab1_1 m c t (ix3 0 r l) = aQ m c (ix3 1 (pos t r l 1) l) := by
  refine (View.ld_unit_apply_of _ _ _ _ _ (ix3 1 r l) (fun a => by fin_cases a <;> simp)).trans ?_
  obtain ⟨-, -, -, -, h, -⟩ := idx t
  have ht : t.val < 4 := lt_of_lt_of_eq t.isLt N_0
  blk_ext [iblk, V, h] <;> rfl
theorem slab1_2_at (r : Fin 128) (l : Fin 1024) : slab1_2 m c t (ix3 0 r l) = aQ m c (ix3 2 (pos t r l 1) l) := by
  refine (View.ld_unit_apply_of _ _ _ _ _ (ix3 2 r l) (fun a => by fin_cases a <;> simp)).trans ?_
  obtain ⟨-, -, -, -, h, -⟩ := idx t
  have ht : t.val < 4 := lt_of_lt_of_eq t.isLt N_0
  blk_ext [iblk, V, h] <;> rfl
theorem slab1_3_at (r : Fin 128) (l : Fin 1024) : slab1_3 m c t (ix3 0 r l) = aQ m c (ix3 3 (pos t r l 1) l) := by
  refine (View.ld_unit_apply_of _ _ _ _ _ (ix3 3 r l) (fun a => by fin_cases a <;> simp)).trans ?_
  obtain ⟨-, -, -, -, h, -⟩ := idx t
  have ht : t.val < 4 := lt_of_lt_of_eq t.isLt N_0
  blk_ext [iblk, V, h] <;> rfl
theorem slab1_4_at (r : Fin 128) (l : Fin 1024) : slab1_4 m c t (ix3 0 r l) = aQ m c (ix3 4 (pos t r l 1) l) := by
  refine (View.ld_unit_apply_of _ _ _ _ _ (ix3 4 r l) (fun a => by fin_cases a <;> simp)).trans ?_
  obtain ⟨-, -, -, -, h, -⟩ := idx t
  have ht : t.val < 4 := lt_of_lt_of_eq t.isLt N_0
  blk_ext [iblk, V, h] <;> rfl
theorem slab1_5_at (r : Fin 128) (l : Fin 1024) : slab1_5 m c t (ix3 0 r l) = aQ m c (ix3 5 (pos t r l 1) l) := by
  refine (View.ld_unit_apply_of _ _ _ _ _ (ix3 5 r l) (fun a => by fin_cases a <;> simp)).trans ?_
  obtain ⟨-, -, -, -, h, -⟩ := idx t
  have ht : t.val < 4 := lt_of_lt_of_eq t.isLt N_0
  blk_ext [iblk, V, h] <;> rfl
theorem slab1_6_at (r : Fin 128) (l : Fin 1024) : slab1_6 m c t (ix3 0 r l) = aQ m c (ix3 6 (pos t r l 1) l) := by
  refine (View.ld_unit_apply_of _ _ _ _ _ (ix3 6 r l) (fun a => by fin_cases a <;> simp)).trans ?_
  obtain ⟨-, -, -, -, h, -⟩ := idx t
  have ht : t.val < 4 := lt_of_lt_of_eq t.isLt N_0
  blk_ext [iblk, V, h] <;> rfl
theorem slab1_7_at (r : Fin 128) (l : Fin 1024) : slab1_7 m c t (ix3 0 r l) = aQ m c (ix3 7 (pos t r l 1) l) := by
  refine (View.ld_unit_apply_of _ _ _ _ _ (ix3 7 r l) (fun a => by fin_cases a <;> simp)).trans ?_
  obtain ⟨-, -, -, -, h, -⟩ := idx t
  have ht : t.val < 4 := lt_of_lt_of_eq t.isLt N_0
  blk_ext [iblk, V, h] <;> rfl
theorem total_B (h : ¬t.val < 2) (r : Fin 128) (l : Fin 1024) : add8 (slab1_0 m c t) (slab1_1 m c t) (slab1_2 m c t) (slab1_3 m c t) (slab1_4 m c t) (slab1_5 m c t) (slab1_6 m c t) (slab1_7 m c t) r l = grad m c (pos t r l) := by
  unfold add8 grad
  rw [slab1_0_at, slab1_1_at, slab1_2_at, slab1_3_at, slab1_4_at, slab1_5_at, slab1_6_at, slab1_7_at]
  rw [if_neg (show ¬(pos t r l 0).val = 0 from fun e => h ((Nat.div_eq_zero_iff.mp e).resolve_left (by omega)))]
  exact (Fin.sum_univ_eight (fun s : Fin 8 => (aQ m c (ix3 s (pos t r l 1) l) : EReal))).symm

theorem out_grad (r : Fin 128) (l : Fin 1024) : ((outsAt0 m c t.val t.isLt).1 (ix3 0 r l) : EReal) = grad m c (pos t r l) := by
  have ht : t.val < 4 := lt_of_lt_of_eq t.isLt N_0
  by_cases h : t.val < 2
  · rw [outsAt0_A m c t (by omega) (by omega)]
    frame_out
    exact (same_at_A _ _ _ _ _ _ _ _ _ _).trans (total_A m c t h r l)
  · rw [outsAt0_B m c t (by omega) (by omega)]
    frame_out
    exact (same_at_B _ _ _ _ _ _ _ _ _ _).trans (total_B m c t h r l)
theorem out_update (r : Fin 128) (l : Fin 1024) : ((outsAt0 m c t.val t.isLt).2.1 (ix3 0 r l) : EReal) = update m c (pos t r l) := by
  have ht : t.val < 4 := lt_of_lt_of_eq t.isLt N_0
  by_cases h : t.val < 2
  · rw [outsAt0_A m c t (by omega) (by omega)]
    frame_out
    exact (move_at_A _ _ _ _ _ _ _ _ _ _ _ _ _).trans (congr (congrArg₂ move (in0 m c t r l) (congrArg₂ mom (in1 m c t r l) (total_A m c t h r l))) (congrArg₂ vel (in2 m c t r l) (total_A m c t h r l)))
  · rw [outsAt0_B m c t (by omega) (by omega)]
    frame_out
    exact (move_at_B _ _ _ _ _ _ _ _ _ _ _ _ _).trans (congr (congrArg₂ move (in0 m c t r l) (congrArg₂ mom (in1 m c t r l) (total_B m c t h r l))) (congrArg₂ vel (in2 m c t r l) (total_B m c t h r l)))
theorem out_first (r : Fin 128) (l : Fin 1024) : ((outsAt0 m c t.val t.isLt).2.2.1 (ix3 0 r l) : EReal) = first m c (pos t r l) := by
  have ht : t.val < 4 := lt_of_lt_of_eq t.isLt N_0
  by_cases h : t.val < 2
  · rw [outsAt0_A m c t (by omega) (by omega)]
    frame_out
    exact (mom_at_A _ _ _ _ _ _ _ _ _ _ _).trans (congrArg₂ mom (in1 m c t r l) (total_A m c t h r l))
  · rw [outsAt0_B m c t (by omega) (by omega)]
    frame_out
    exact (mom_at_B _ _ _ _ _ _ _ _ _ _ _).trans (congrArg₂ mom (in1 m c t r l) (total_B m c t h r l))
theorem out_second (r : Fin 128) (l : Fin 1024) : ((outsAt0 m c t.val t.isLt).2.2.2 (ix3 0 r l) : EReal) = second m c (pos t r l) := by
  have ht : t.val < 4 := lt_of_lt_of_eq t.isLt N_0
  by_cases h : t.val < 2
  · rw [outsAt0_A m c t (by omega) (by omega)]
    frame_out
    exact (vel_at_A _ _ _ _ _ _ _ _ _ _ _).trans (congrArg₂ vel (in2 m c t r l) (total_A m c t h r l))
  · rw [outsAt0_B m c t (by omega) (by omega)]
    frame_out
    exact (vel_at_B _ _ _ _ _ _ _ _ _ _ _).trans (congrArg₂ vel (in2 m c t r l) (total_B m c t h r l))

theorem result5 : (dats m 0 c).arrAt 5 cfg0.N = grad m c := by
  refine (dats m 0 c).arrAt_eq_of_covers 5 _ (by decide +kernel) fun t hf y => ?_
  blk_simp; rw [after0_5]
  have ht : t.val < 4 := lt_of_lt_of_eq t.isLt N_0
  obtain ⟨-, -, -, -, -, h, -⟩ := idx t
  idx_vars y
  have e0 : y0 = 0 := Fin.ext (by omega)
  subst e0
  have e : grad m c (((View.whole main_v0_0).slice (win0_5.rect t)).emb (ix3 0 y1 y2)) = grad m c (pos t y1 y2) := by
    generalize grad m c = X
    blk_ext [h] <;> rfl
  exact (out_grad m c t y1 y2).trans e.symm
theorem result6 : (dats m 0 c).arrAt 6 cfg0.N = update m c := by
  refine (dats m 0 c).arrAt_eq_of_covers 6 _ (by decide +kernel) fun t hf y => ?_
  blk_simp; rw [after0_6]
  have ht : t.val < 4 := lt_of_lt_of_eq t.isLt N_0
  obtain ⟨-, -, -, -, -, -, h, -⟩ := idx t
  idx_vars y
  have e0 : y0 = 0 := Fin.ext (by omega)
  subst e0
  have e : update m c (((View.whole main_v0_1).slice (win0_6.rect t)).emb (ix3 0 y1 y2)) = update m c (pos t y1 y2) := by
    generalize update m c = X
    blk_ext [h] <;> rfl
  exact (out_update m c t y1 y2).trans e.symm
theorem result7 : (dats m 0 c).arrAt 7 cfg0.N = first m c := by
  refine (dats m 0 c).arrAt_eq_of_covers 7 _ (by decide +kernel) fun t hf y => ?_
  blk_simp; rw [after0_7]
  have ht : t.val < 4 := lt_of_lt_of_eq t.isLt N_0
  obtain ⟨-, -, -, -, -, -, -, h, -⟩ := idx t
  idx_vars y
  have e0 : y0 = 0 := Fin.ext (by omega)
  subst e0
  have e : first m c (((View.whole main_v0_2).slice (win0_7.rect t)).emb (ix3 0 y1 y2)) = first m c (pos t y1 y2) := by
    generalize first m c = X
    blk_ext [h] <;> rfl
  exact (out_first m c t y1 y2).trans e.symm
theorem result8 : (dats m 0 c).arrAt 8 cfg0.N = second m c := by
  refine (dats m 0 c).arrAt_eq_of_covers 8 _ (by decide +kernel) fun t hf y => ?_
  blk_simp; rw [after0_8]
  have ht : t.val < 4 := lt_of_lt_of_eq t.isLt N_0
  obtain ⟨-, -, -, -, -, -, -, -, h⟩ := idx t
  idx_vars y
  have e0 : y0 = 0 := Fin.ext (by omega)
  subst e0
  have e : second m c (((View.whole main_v0_3).slice (win0_8.rect t)).emb (ix3 0 y1 y2)) = second m c (pos t y1 y2) := by
    generalize second m c = X
    blk_ext [h] <;> rfl
  exact (out_second m c t y1 y2).trans e.symm

section
open Cert.Reference32Ideal.Read
theorem reads_grad : Cert.Reference32Ideal.Read.val_main_v6 (F := Ideal) (aP m c) (aQ m c) = grad m c := by
  funext i
  idx_vars i
  unfold grad
  pointwise [val_main_v0, val_main_cst, val_main_v1, val_main_v2, val_main_cst_0, val_main_v3, val_main_v4, val_main_v5, val_main_v6]
  by_cases h : i0.val < 1
  · rw [dif_pos h]
    exact Finset.sum_congr rfl fun s _ => (congrFun (if_pos (show i0.val = 0 by omega)) _).symm
  · rw [dif_neg h]
    exact Finset.sum_congr rfl fun s _ => (congrFun (if_neg (show ¬i0.val = 0 by omega)) _).symm
theorem reads_first : Cert.Reference32Ideal.Read.val_main_v11 (F := Ideal) (aM m c) (aP m c) (aQ m c) = first m c := by
  have e : ∀ i, (Cert.Reference32Ideal.Read.val_main_v11 (F := Ideal) (aM m c) (aP m c) (aQ m c) i : EReal) = mom (aM m c i) (Cert.Reference32Ideal.Read.val_main_v6 (F := Ideal) (aP m c) (aQ m c) i) := fun i => by
    idx_vars i
    unfold mom
    pointwise [val_main_cst_1, val_main_v7, val_main_v8, val_main_cst_2, val_main_v9, val_main_v10, val_main_v11]
  funext i
  rw [e, reads_grad]
  rfl
theorem reads_second : Cert.Reference32Ideal.Read.val_main_v17 (F := Ideal) (aV m c) (aP m c) (aQ m c) = second m c := by
  have e : ∀ i, (Cert.Reference32Ideal.Read.val_main_v17 (F := Ideal) (aV m c) (aP m c) (aQ m c) i : EReal) = vel (aV m c i) (Cert.Reference32Ideal.Read.val_main_v6 (F := Ideal) (aP m c) (aQ m c) i) := fun i => by
    idx_vars i
    unfold vel
    pointwise [val_main_cst_1, val_main_v7, val_main_v8, val_main_cst_2, val_main_v9, val_main_v10, val_main_v11, val_main_cst_3, val_main_v12, val_main_v13, val_main_v14, val_main_cst_4, val_main_v15, val_main_v16, val_main_v17]
  funext i
  rw [e, reads_grad]
  rfl
theorem reads_update : Cert.Reference32Ideal.Read.val_main_v30 (F := Ideal) (aW m c) (aM m c) (aV m c) (aP m c) (aQ m c) = update m c := by
  have e : ∀ i, (Cert.Reference32Ideal.Read.val_main_v30 (F := Ideal) (aW m c) (aM m c) (aV m c) (aP m c) (aQ m c) i : EReal) = move (aW m c i) (Cert.Reference32Ideal.Read.val_main_v11 (F := Ideal) (aM m c) (aP m c) (aQ m c) i) (Cert.Reference32Ideal.Read.val_main_v17 (F := Ideal) (aV m c) (aP m c) (aQ m c) i) := fun i => by
    idx_vars i
    unfold move
    pointwise [val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  funext i
  rw [e, reads_first, reads_second]
  rfl
end

end Cert.Kernel32Ideal.Value

end
-- ==== Proof.Update33.lean ====
module

public import proofs.«01_k».proof.Proof.Gen.Kernel33Ideal.Value
public import proofs.«01_k».proof.Proof.Gen.Reference33Ideal.Read
public import proofs.«01_k».proof.Proof.Adam

/-! The step of the optimiser of an array of 4 by 512, two layers: the gradient is the sum of eight parts. -/

@[expose] public section

set_option maxRecDepth 16384

noncomputable section
open Idealize.ShloMosaic Idealize.ShloMosaic.TcCoe Idealize.SL.Sem
namespace Cert.Kernel33Ideal.Value
open Cert.Kernel33Ideal Cert.Kernel33Ideal.Gen Cert.Product Cert.Adam

theorem idx : ∀ t : Fin cfg0.N, win0_0.index t = ![t.val / 1, t.val % 1, 0] ∧ win0_1.index t = ![t.val / 1, t.val % 1, 0] ∧ win0_2.index t = ![t.val / 1, t.val % 1, 0] ∧ win0_3.index t = ![0, t.val % 1, 0] ∧ win0_4.index t = ![0, t.val % 1, 0] ∧ win0_5.index t = ![t.val / 1, t.val % 1, 0] ∧ win0_6.index t = ![t.val / 1, t.val % 1, 0] ∧ win0_7.index t = ![t.val / 1, t.val % 1, 0] ∧ win0_8.index t = ![t.val / 1, t.val % 1, 0] := by
  decide +kernel

/-- The sum of eight parts at one entry. -/
def add8 (x0 x1 x2 x3 x4 x5 x6 x7 : Vec Ideal S1x4x512 .f32) (r : Fin 4) (l : Fin 512) : EReal :=
  x0 (ix3 0 r l) + x1 (ix3 0 r l) + x2 (ix3 0 r l) + x3 (ix3 0 r l) + x4 (ix3 0 r l) + x5 (ix3 0 r l) + x6 (ix3 0 r l) + x7 (ix3 0 r l)

theorem same_at_A (x0 x1 x2 x3 x4 x5 x6 x7 : Vec Ideal S1x4x512 .f32) (r : Fin 4) (l : Fin 512) :
    (k0_pay6 (F := Ideal) (k0_pay3 (F := Ideal) x0 x1 x2 x3 x4 x5 x6 x7) (ix3 0 r l) : EReal) = add8 x0 x1 x2 x3 x4 x5 x6 x7 r l := by
  unfold add8
  pointwise [k0_pay6, k0_pay3]
theorem mom_at_A (x0 x1 x2 x3 x4 x5 x6 x7 : Vec Ideal S1x4x512 .f32) (z : Vec Ideal S1x4x512 .f32) (r : Fin 4) (l : Fin 512) :
    (k0_pay8 (F := Ideal) (k0_pay4 x0 x1 x2 x3 x4 x5 x6 x7 z) (ix3 0 r l) : EReal) = mom (z (ix3 0 r l)) (add8 x0 x1 x2 x3 x4 x5 x6 x7 r l) := by
  unfold mom add8
  pointwise [k0_pay1, k0_pay3, k0_pay4, k0_pay5, k0_pay6, k0_pay7, k0_pay8]
theorem vel_at_A (x0 x1 x2 x3 x4 x5 x6 x7 : Vec Ideal S1x4x512 .f32) (z : Vec Ideal S1x4x512 .f32) (r : Fin 4) (l : Fin 512) :
    (k0_pay1 (F := Ideal) (k0_pay5 (k0_pay3 (F := Ideal) x0 x1 x2 x3 x4 x5 x6 x7) z) (ix3 0 r l) : EReal) = vel (z (ix3 0 r l)) (add8 x0 x1 x2 x3 x4 x5 x6 x7 r l) := by
  unfold vel add8
  pointwise [k0_pay1, k0_pay3, k0_pay4, k0_pay5, k0_pay6, k0_pay7, k0_pay8]
theorem move_at_A (x0 x1 x2 x3 x4 x5 x6 x7 : Vec Ideal S1x4x512 .f32) (a b w : Vec Ideal S1x4x512 .f32) (r : Fin 4) (l : Fin 512) :
    (k0_pay7 (F := Ideal) (k0_pay3 (F := Ideal) x0 x1 x2 x3 x4 x5 x6 x7) (k0_pay4 x0 x1 x2 x3 x4 x5 x6 x7 a) b w (ix3 0 r l) : EReal) = move (w (ix3 0 r l)) (mom (a (ix3 0 r l)) (add8 x0 x1 x2 x3 x4 x5 x6 x7 r l)) (vel (b (ix3 0 r l)) (add8 x0 x1 x2 x3 x4 x5 x6 x7 r l)) := by
  unfold move mom vel add8
  pointwise [k0_pay1, k0_pay3, k0_pay4, k0_pay5, k0_pay6, k0_pay7, k0_pay8]

theorem same_at_B (x0 x1 x2 x3 x4 x5 x6 x7 : Vec Ideal S1x4x512 .f32) (r : Fin 4) (l : Fin 512) :
    (k0_pay12 (F := Ideal) (k0_pay9 (F := Ideal) x0 x1 x2 x3 x4 x5 x6 x7) (ix3 0 r l) : EReal) = add8 x0 x1 x2 x3 x4 x5 x6 x7 r l := by
  unfold add8
  pointwise [k0_pay12, k0_pay9]
theorem mom_at_B (x0 x1 x2 x3 x4 x5 x6 x7 : Vec Ideal S1x4x512 .f32) (z : Vec Ideal S1x4x512 .f32) (r : Fin 4) (l : Fin 512) :
    (k0_pay14 (F := Ideal) (k0_pay10 x0 x1 x2 x3 x4 x5 x6 x7 z) (ix3 0 r l) : EReal) = mom (z (ix3 0 r l)) (add8 x0 x1 x2 x3 x4 x5 x6 x7 r l) := by
  unfold mom add8
  pointwise [k0_pay10, k0_pay11, k0_pay12, k0_pay13, k0_pay14, k0_pay2, k0_pay9]
theorem vel_at_B (x0 x1 x2 x3 x4 x5 x6 x7 : Vec Ideal S1x4x512 .f32) (z : Vec Ideal S1x4x512 .f32) (r : Fin 4) (l : Fin 512) :
    (k0_pay2 (F := Ideal) (k0_pay11 (k0_pay9 (F := Ideal) x0 x1 x2 x3 x4 x5 x6 x7) z) (ix3 0 r l) : EReal) = vel (z (ix3 0 r l)) (add8 x0 x1 x2 x3 x4 x5 x6 x7 r l) := by
  unfold vel add8
  pointwise [k0_pay10, k0_pay11, k0_pay12, k0_pay13, k0_pay14, k0_pay2, k0_pay9]
theorem move_at_B (x0 x1 x2 x3 x4 x5 x6 x7 : Vec Ideal S1x4x512 .f32) (a b w : Vec Ideal S1x4x512 .f32) (r : Fin 4) (l : Fin 512) :
    (k0_pay13 (F := Ideal) (k0_pay9 (F := Ideal) x0 x1 x2 x3 x4 x5 x6 x7) (k0_pay10 x0 x1 x2 x3 x4 x5 x6 x7 a) b w (ix3 0 r l) : EReal) = move (w (ix3 0 r l)) (mom (a (ix3 0 r l)) (add8 x0 x1 x2 x3 x4 x5 x6 x7 r l)) (vel (b (ix3 0 r l)) (add8 x0 x1 x2 x3 x4 x5 x6 x7 r l)) := by
  unfold move mom vel add8
  pointwise [k0_pay10, k0_pay11, k0_pay12, k0_pay13, k0_pay14, k0_pay2, k0_pay9]

variable (m : (ℓ : Loc nD τ sig) → Buf (Elt Ideal) ℓ) (c : Dev nD) (t : Fin cfg0.N)

abbrev aW : FVec Ideal S2x4x512 .f32 := m ((c.tc : Thread nD τ).loc main_arg0)
abbrev aM : FVec Ideal S2x4x512 .f32 := m ((c.tc : Thread nD τ).loc main_arg1)
abbrev aV : FVec Ideal S2x4x512 .f32 := m ((c.tc : Thread nD τ).loc main_arg2)
abbrev aP : FVec Ideal S8x4x512 .f32 := m ((c.tc : Thread nD τ).loc main_arg3)
abbrev aQ : FVec Ideal S8x4x512 .f32 := m ((c.tc : Thread nD τ).loc main_arg4)

/-- The gradient, the new moments and the update. -/
def grad : FVec Ideal S2x4x512 .f32 := fun i => ∑ s : Fin 8, (if (i 0).val = 0 then aP m c else aQ m c) (ix3 s (i 1) (i 2))
def first : FVec Ideal S2x4x512 .f32 := fun i => mom (aM m c i) (grad m c i)
def second : FVec Ideal S2x4x512 .f32 := fun i => vel (aV m c i) (grad m c i)
def update : FVec Ideal S2x4x512 .f32 := fun i => move (aW m c i) (first m c i) (second m c i)

/-- The entry of the arrays a block's entry is. -/
abbrev pos (r : Fin 4) (l : Fin 512) : S2x4x512.Idx := (ix3 ⟨t.val / 1, by have := lt_of_lt_of_eq t.isLt N_0; omega⟩ ⟨t.val % 1 * 4 + r.val, by have := lt_of_lt_of_eq t.isLt N_0; omega⟩ l)

/-- The eight slabs of a block of parts. -/
abbrev slab0_0 : Vec Ideal S1x4x512 .f32 := View.ld (iblk m c 3 t) (Rect.unit ![0, 0, 0] ![1, 4, 512] inb_S8x4x512_S1x4x512_0_0_0)
abbrev slab0_1 : Vec Ideal S1x4x512 .f32 := View.ld (iblk m c 3 t) (Rect.unit ![1, 0, 0] ![1, 4, 512] inb_S8x4x512_S1x4x512_1_0_0)
abbrev slab0_2 : Vec Ideal S1x4x512 .f32 := View.ld (iblk m c 3 t) (Rect.unit ![2, 0, 0] ![1, 4, 512] inb_S8x4x512_S1x4x512_2_0_0)
abbrev slab0_3 : Vec Ideal S1x4x512 .f32 := View.ld (iblk m c 3 t) (Rect.unit ![3, 0, 0] ![1, 4, 512] inb_S8x4x512_S1x4x512_3_0_0)
abbrev slab0_4 : Vec Ideal S1x4x512 .f32 := View.ld (iblk m c 3 t) (Rect.unit ![4, 0, 0] ![1, 4, 512] inb_S8x4x512_S1x4x512_4_0_0)
abbrev slab0_5 : Vec Ideal S1x4x512 .f32 := View.ld (iblk m c 3 t) (Rect.unit ![5, 0, 0] ![1, 4, 512] inb_S8x4x512_S1x4x512_5_0_0)
abbrev slab0_6 : Vec Ideal S1x4x512 .f32 := View.ld (iblk m c 3 t) (Rect.unit ![6, 0, 0] ![1, 4, 512] inb_S8x4x512_S1x4x512_6_0_0)
abbrev slab0_7 : Vec Ideal S1x4x512 .f32 := View.ld (iblk m c 3 t) (Rect.unit ![7, 0, 0] ![1, 4, 512] inb_S8x4x512_S1x4x512_7_0_0)
abbrev slab1_0 : Vec Ideal S1x4x512 .f32 := View.ld (iblk m c 4 t) (Rect.unit ![0, 0, 0] ![1, 4, 512] inb_S8x4x512_S1x4x512_0_0_0)
abbrev slab1_1 : Vec Ideal S1x4x512 .f32 := View.ld (iblk m c 4 t) (Rect.unit ![1, 0, 0] ![1, 4, 512] inb_S8x4x512_S1x4x512_1_0_0)
abbrev slab1_2 : Vec Ideal S1x4x512 .f32 := View.ld (iblk m c 4 t) (Rect.unit ![2, 0, 0] ![1, 4, 512] inb_S8x4x512_S1x4x512_2_0_0)
abbrev slab1_3 : Vec Ideal S1x4x512 .f32 := View.ld (iblk m c 4 t) (Rect.unit ![3, 0, 0] ![1, 4, 512] inb_S8x4x512_S1x4x512_3_0_0)
abbrev slab1_4 : Vec Ideal S1x4x512 .f32 := View.ld (iblk m c 4 t) (Rect.unit ![4, 0, 0] ![1, 4, 512] inb_S8x4x512_S1x4x512_4_0_0)
abbrev slab1_5 : Vec Ideal S1x4x512 .f32 := View.ld (iblk m c 4 t) (Rect.unit ![5, 0, 0] ![1, 4, 512] inb_S8x4x512_S1x4x512_5_0_0)
abbrev slab1_6 : Vec Ideal S1x4x512 .f32 := View.ld (iblk m c 4 t) (Rect.unit ![6, 0, 0] ![1, 4, 512] inb_S8x4x512_S1x4x512_6_0_0)
abbrev slab1_7 : Vec Ideal S1x4x512 .f32 := View.ld (iblk m c 4 t) (Rect.unit ![7, 0, 0] ![1, 4, 512] inb_S8x4x512_S1x4x512_7_0_0)

theorem in0 (r : Fin 4) (l : Fin 512) : (iblk m c 0 t (ix3 0 r l) : EReal) = aW m c (pos t r l) := by
  obtain ⟨h, -⟩ := idx t
  have ht : t.val < 2 := lt_of_lt_of_eq t.isLt N_0
  have e : (iblk m c 0 t : Vec Ideal S1x4x512 .f32) (ix3 0 r l) = aW m c (pos t r l) := by
    blk_ext [iblk, V, h] <;> rfl
  exact e
theorem in1 (r : Fin 4) (l : Fin 512) : (iblk m c 1 t (ix3 0 r l) : EReal) = aM m c (pos t r l) := by
  obtain ⟨-, h, -⟩ := idx t
  have ht : t.val < 2 := lt_of_lt_of_eq t.isLt N_0
  have e : (iblk m c 1 t : Vec Ideal S1x4x512 .f32) (ix3 0 r l) = aM m c (pos t r l) := by
    blk_ext [iblk, V, h] <;> rfl
  exact e
theorem in2 (r : Fin 4) (l : Fin 512) : (iblk m c 2 t (ix3 0 r l) : EReal) = aV m c (pos t r l) := by
  obtain ⟨-, -, h, -⟩ := idx t
  have ht : t.val < 2 := lt_of_lt_of_eq t.isLt N_0
  have e : (iblk m c 2 t : Vec Ideal S1x4x512 .f32) (ix3 0 r l) = aV m c (pos t r l) := by
    blk_ext [iblk, V, h] <;> rfl
  exact e
theorem slab0_0_at (r : Fin 4) (l : Fin 512) : slab0_0 m c t (ix3 0 r l) = aP m c (ix3 0 (pos t r l 1) l) := by
  refine (View.ld_unit_apply_of _ _ _ _ _ (ix3 0 r l) (fun a => by fin_cases a <;> simp)).trans ?_
  obtain ⟨-, -, -, h, -⟩ := idx t
  have ht : t.val < 2 := lt_of_lt_of_eq t.isLt N_0
  blk_ext [iblk, V, h] <;> rfl
theorem slab0_1_at (r : Fin 4) (l : Fin 512) : slab0_1 m c t (ix3 0 r l) = aP m c (ix3 1 (pos t r l 1) l) := by
  refine (View.ld_unit_apply_of _ _ _ _ _ (ix3 1 r l) (fun a => by fin_cases a <;> simp)).trans ?_
  obtain ⟨-, -, -, h, -⟩ := idx t
  have ht : t.val < 2 := lt_of_lt_of_eq t.isLt N_0
  blk_ext [iblk, V, h] <;> rfl
theorem slab0_2_at (r : Fin 4) (l : Fin 512) : slab0_2 m c t (ix3 0 r l) = aP m c (ix3 2 (pos t r l 1) l) := by
  refine (View.ld_unit_apply_of _ _ _ _ _ (ix3 2 r l) (fun a => by fin_cases a <;> simp)).trans ?_
  obtain ⟨-, -, -, h, -⟩ := idx t
  have ht : t.val < 2 := lt_of_lt_of_eq t.isLt N_0
  blk_ext [iblk, V, h] <;> rfl
theorem slab0_3_at (r : Fin 4) (l : Fin 512) : slab0_3 m c t (ix3 0 r l) = aP m c (ix3 3 (pos t r l 1) l) := by
  refine (View.ld_unit_apply_of _ _ _ _ _ (ix3 3 r l) (fun a => by fin_cases a <;> simp)).trans ?_
  obtain ⟨-, -, -, h, -⟩ := idx t
  have ht : t.val < 2 := lt_of_lt_of_eq t.isLt N_0
  blk_ext [iblk, V, h] <;> rfl
theorem slab0_4_at (r : Fin 4) (l : Fin 512) : slab0_4 m c t (ix3 0 r l) = aP m c (ix3 4 (pos t r l 1) l) := by
  refine (View.ld_unit_apply_of _ _ _ _ _ (ix3 4 r l) (fun a => by fin_cases a <;> simp)).trans ?_
  obtain ⟨-, -, -, h, -⟩ := idx t
  have ht : t.val < 2 := lt_of_lt_of_eq t.isLt N_0
  blk_ext [iblk, V, h] <;> rfl
theorem slab0_5_at (r : Fin 4) (l : Fin 512) : slab0_5 m c t (ix3 0 r l) = aP m c (ix3 5 (pos t r l 1) l) := by
  refine (View.ld_unit_apply_of _ _ _ _ _ (ix3 5 r l) (fun a => by fin_cases a <;> simp)).trans ?_
  obtain ⟨-, -, -, h, -⟩ := idx t
  have ht : t.val < 2 := lt_of_lt_of_eq t.isLt N_0
  blk_ext [iblk, V, h] <;> rfl
theorem slab0_6_at (r : Fin 4) (l : Fin 512) : slab0_6 m c t (ix3 0 r l) = aP m c (ix3 6 (pos t r l 1) l) := by
  refine (View.ld_unit_apply_of _ _ _ _ _ (ix3 6 r l) (fun a => by fin_cases a <;> simp)).trans ?_
  obtain ⟨-, -, -, h, -⟩ := idx t
  have ht : t.val < 2 := lt_of_lt_of_eq t.isLt N_0
  blk_ext [iblk, V, h] <;> rfl
theorem slab0_7_at (r : Fin 4) (l : Fin 512) : slab0_7 m c t (ix3 0 r l) = aP m c (ix3 7 (pos t r l 1) l) := by
  refine (View.ld_unit_apply_of _ _ _ _ _ (ix3 7 r l) (fun a => by fin_cases a <;> simp)).trans ?_
  obtain ⟨-, -, -, h, -⟩ := idx t
  have ht : t.val < 2 := lt_of_lt_of_eq t.isLt N_0
  blk_ext [iblk, V, h] <;> rfl
theorem total_A (h : t.val < 1) (r : Fin 4) (l : Fin 512) : add8 (slab0_0 m c t) (slab0_1 m c t) (slab0_2 m c t) (slab0_3 m c t) (slab0_4 m c t) (slab0_5 m c t) (slab0_6 m c t) (slab0_7 m c t) r l = grad m c (pos t r l) := by
  unfold add8 grad
  rw [slab0_0_at, slab0_1_at, slab0_2_at, slab0_3_at, slab0_4_at, slab0_5_at, slab0_6_at, slab0_7_at]
  rw [if_pos (show (pos t r l 0).val = 0 from Nat.div_eq_of_lt h)]
  exact (Fin.sum_univ_eight (fun s : Fin 8 => (aP m c (ix3 s (pos t r l 1) l) : EReal))).symm

theorem slab1_0_at (r : Fin 4) (l : Fin 512) : slab1_0 m c t (ix3 0 r l) = aQ m c (ix3 0 (pos t r l 1) l) := by
  refine (View.ld_unit_apply_of _ _ _ _ _ (ix3 0 r l) (fun a => by fin_cases a <;> simp)).trans ?_
  obtain ⟨-, -, -, -, h, -⟩ := idx t
  have ht : t.val < 2 := lt_of_lt_of_eq t.isLt N_0
  blk_ext [iblk, V, h] <;> rfl
theorem slab1_1_at (r : Fin 4) (l : Fin 512) : slab1_1 m c t (ix3 0 r l) = aQ m c (ix3 1 (pos t r l 1) l) := by
  refine (View.ld_unit_apply_of _ _ _ _ _ (ix3 1 r l) (fun a => by fin_cases a <;> simp)).trans ?_
  obtain ⟨-, -, -, -, h, -⟩ := idx t
  have ht : t.val < 2 := lt_of_lt_of_eq t.isLt N_0
  blk_ext [iblk, V, h] <;> rfl
theorem slab1_2_at (r : Fin 4) (l : Fin 512) : slab1_2 m c t (ix3 0 r l) = aQ m c (ix3 2 (pos t r l 1) l) := by
  refine (View.ld_unit_apply_of _ _ _ _ _ (ix3 2 r l) (fun a => by fin_cases a <;> simp)).trans ?_
  obtain ⟨-, -, -, -, h, -⟩ := idx t
  have ht : t.val < 2 := lt_of_lt_of_eq t.isLt N_0
  blk_ext [iblk, V, h] <;> rfl
theorem slab1_3_at (r : Fin 4) (l : Fin 512) : slab1_3 m c t (ix3 0 r l) = aQ m c (ix3 3 (pos t r l 1) l) := by
  refine (View.ld_unit_apply_of _ _ _ _ _ (ix3 3 r l) (fun a => by fin_cases a <;> simp)).trans ?_
  obtain ⟨-, -, -, -, h, -⟩ := idx t
  have ht : t.val < 2 := lt_of_lt_of_eq t.isLt N_0
  blk_ext [iblk, V, h] <;> rfl
theorem slab1_4_at (r : Fin 4) (l : Fin 512) : slab1_4 m c t (ix3 0 r l) = aQ m c (ix3 4 (pos t r l 1) l) := by
  refine (View.ld_unit_apply_of _ _ _ _ _ (ix3 4 r l) (fun a => by fin_cases a <;> simp)).trans ?_
  obtain ⟨-, -, -, -, h, -⟩ := idx t
  have ht : t.val < 2 := lt_of_lt_of_eq t.isLt N_0
  blk_ext [iblk, V, h] <;> rfl
theorem slab1_5_at (r : Fin 4) (l : Fin 512) : slab1_5 m c t (ix3 0 r l) = aQ m c (ix3 5 (pos t r l 1) l) := by
  refine (View.ld_unit_apply_of _ _ _ _ _ (ix3 5 r l) (fun a => by fin_cases a <;> simp)).trans ?_
  obtain ⟨-, -, -, -, h, -⟩ := idx t
  have ht : t.val < 2 := lt_of_lt_of_eq t.isLt N_0
  blk_ext [iblk, V, h] <;> rfl
theorem slab1_6_at (r : Fin 4) (l : Fin 512) : slab1_6 m c t (ix3 0 r l) = aQ m c (ix3 6 (pos t r l 1) l) := by
  refine (View.ld_unit_apply_of _ _ _ _ _ (ix3 6 r l) (fun a => by fin_cases a <;> simp)).trans ?_
  obtain ⟨-, -, -, -, h, -⟩ := idx t
  have ht : t.val < 2 := lt_of_lt_of_eq t.isLt N_0
  blk_ext [iblk, V, h] <;> rfl
theorem slab1_7_at (r : Fin 4) (l : Fin 512) : slab1_7 m c t (ix3 0 r l) = aQ m c (ix3 7 (pos t r l 1) l) := by
  refine (View.ld_unit_apply_of _ _ _ _ _ (ix3 7 r l) (fun a => by fin_cases a <;> simp)).trans ?_
  obtain ⟨-, -, -, -, h, -⟩ := idx t
  have ht : t.val < 2 := lt_of_lt_of_eq t.isLt N_0
  blk_ext [iblk, V, h] <;> rfl
theorem total_B (h : ¬t.val < 1) (r : Fin 4) (l : Fin 512) : add8 (slab1_0 m c t) (slab1_1 m c t) (slab1_2 m c t) (slab1_3 m c t) (slab1_4 m c t) (slab1_5 m c t) (slab1_6 m c t) (slab1_7 m c t) r l = grad m c (pos t r l) := by
  unfold add8 grad
  rw [slab1_0_at, slab1_1_at, slab1_2_at, slab1_3_at, slab1_4_at, slab1_5_at, slab1_6_at, slab1_7_at]
  rw [if_neg (show ¬(pos t r l 0).val = 0 from fun e => h ((Nat.div_eq_zero_iff.mp e).resolve_left (by omega)))]
  exact (Fin.sum_univ_eight (fun s : Fin 8 => (aQ m c (ix3 s (pos t r l 1) l) : EReal))).symm

theorem out_grad (r : Fin 4) (l : Fin 512) : ((outsAt0 m c t.val t.isLt).1 (ix3 0 r l) : EReal) = grad m c (pos t r l) := by
  have ht : t.val < 2 := lt_of_lt_of_eq t.isLt N_0
  by_cases h : t.val < 1
  · rw [outsAt0_A m c t (by omega) (by omega)]
    frame_out
    exact (same_at_A _ _ _ _ _ _ _ _ _ _).trans (total_A m c t h r l)
  · rw [outsAt0_B m c t (by omega) (by omega)]
    frame_out
    exact (same_at_B _ _ _ _ _ _ _ _ _ _).trans (total_B m c t h r l)
theorem out_update (r : Fin 4) (l : Fin 512) : ((outsAt0 m c t.val t.isLt).2.1 (ix3 0 r l) : EReal) = update m c (pos t r l) := by
  have ht : t.val < 2 := lt_of_lt_of_eq t.isLt N_0
  by_cases h : t.val < 1
  · rw [outsAt0_A m c t (by omega) (by omega)]
    frame_out
    exact (move_at_A _ _ _ _ _ _ _ _ _ _ _ _ _).trans (congr (congrArg₂ move (in0 m c t r l) (congrArg₂ mom (in1 m c t r l) (total_A m c t h r l))) (congrArg₂ vel (in2 m c t r l) (total_A m c t h r l)))
  · rw [outsAt0_B m c t (by omega) (by omega)]
    frame_out
    exact (move_at_B _ _ _ _ _ _ _ _ _ _ _ _ _).trans (congr (congrArg₂ move (in0 m c t r l) (congrArg₂ mom (in1 m c t r l) (total_B m c t h r l))) (congrArg₂ vel (in2 m c t r l) (total_B m c t h r l)))
theorem out_first (r : Fin 4) (l : Fin 512) : ((outsAt0 m c t.val t.isLt).2.2.1 (ix3 0 r l) : EReal) = first m c (pos t r l) := by
  have ht : t.val < 2 := lt_of_lt_of_eq t.isLt N_0
  by_cases h : t.val < 1
  · rw [outsAt0_A m c t (by omega) (by omega)]
    frame_out
    exact (mom_at_A _ _ _ _ _ _ _ _ _ _ _).trans (congrArg₂ mom (in1 m c t r l) (total_A m c t h r l))
  · rw [outsAt0_B m c t (by omega) (by omega)]
    frame_out
    exact (mom_at_B _ _ _ _ _ _ _ _ _ _ _).trans (congrArg₂ mom (in1 m c t r l) (total_B m c t h r l))
theorem out_second (r : Fin 4) (l : Fin 512) : ((outsAt0 m c t.val t.isLt).2.2.2 (ix3 0 r l) : EReal) = second m c (pos t r l) := by
  have ht : t.val < 2 := lt_of_lt_of_eq t.isLt N_0
  by_cases h : t.val < 1
  · rw [outsAt0_A m c t (by omega) (by omega)]
    frame_out
    exact (vel_at_A _ _ _ _ _ _ _ _ _ _ _).trans (congrArg₂ vel (in2 m c t r l) (total_A m c t h r l))
  · rw [outsAt0_B m c t (by omega) (by omega)]
    frame_out
    exact (vel_at_B _ _ _ _ _ _ _ _ _ _ _).trans (congrArg₂ vel (in2 m c t r l) (total_B m c t h r l))

theorem result5 : (dats m 0 c).arrAt 5 cfg0.N = grad m c := by
  refine (dats m 0 c).arrAt_eq_of_covers 5 _ (by decide +kernel) fun t hf y => ?_
  blk_simp; rw [after0_5]
  have ht : t.val < 2 := lt_of_lt_of_eq t.isLt N_0
  obtain ⟨-, -, -, -, -, h, -⟩ := idx t
  idx_vars y
  have e0 : y0 = 0 := Fin.ext (by omega)
  subst e0
  have e : grad m c (((View.whole main_v0_0).slice (win0_5.rect t)).emb (ix3 0 y1 y2)) = grad m c (pos t y1 y2) := by
    generalize grad m c = X
    blk_ext [h] <;> rfl
  exact (out_grad m c t y1 y2).trans e.symm
theorem result6 : (dats m 0 c).arrAt 6 cfg0.N = update m c := by
  refine (dats m 0 c).arrAt_eq_of_covers 6 _ (by decide +kernel) fun t hf y => ?_
  blk_simp; rw [after0_6]
  have ht : t.val < 2 := lt_of_lt_of_eq t.isLt N_0
  obtain ⟨-, -, -, -, -, -, h, -⟩ := idx t
  idx_vars y
  have e0 : y0 = 0 := Fin.ext (by omega)
  subst e0
  have e : update m c (((View.whole main_v0_1).slice (win0_6.rect t)).emb (ix3 0 y1 y2)) = update m c (pos t y1 y2) := by
    generalize update m c = X
    blk_ext [h] <;> rfl
  exact (out_update m c t y1 y2).trans e.symm
theorem result7 : (dats m 0 c).arrAt 7 cfg0.N = first m c := by
  refine (dats m 0 c).arrAt_eq_of_covers 7 _ (by decide +kernel) fun t hf y => ?_
  blk_simp; rw [after0_7]
  have ht : t.val < 2 := lt_of_lt_of_eq t.isLt N_0
  obtain ⟨-, -, -, -, -, -, -, h, -⟩ := idx t
  idx_vars y
  have e0 : y0 = 0 := Fin.ext (by omega)
  subst e0
  have e : first m c (((View.whole main_v0_2).slice (win0_7.rect t)).emb (ix3 0 y1 y2)) = first m c (pos t y1 y2) := by
    generalize first m c = X
    blk_ext [h] <;> rfl
  exact (out_first m c t y1 y2).trans e.symm
theorem result8 : (dats m 0 c).arrAt 8 cfg0.N = second m c := by
  refine (dats m 0 c).arrAt_eq_of_covers 8 _ (by decide +kernel) fun t hf y => ?_
  blk_simp; rw [after0_8]
  have ht : t.val < 2 := lt_of_lt_of_eq t.isLt N_0
  obtain ⟨-, -, -, -, -, -, -, -, h⟩ := idx t
  idx_vars y
  have e0 : y0 = 0 := Fin.ext (by omega)
  subst e0
  have e : second m c (((View.whole main_v0_3).slice (win0_8.rect t)).emb (ix3 0 y1 y2)) = second m c (pos t y1 y2) := by
    generalize second m c = X
    blk_ext [h] <;> rfl
  exact (out_second m c t y1 y2).trans e.symm

section
open Cert.Reference33Ideal.Read
theorem reads_grad : Cert.Reference33Ideal.Read.val_main_v4 (F := Ideal) (aP m c) (aQ m c) = grad m c := by
  funext i
  idx_vars i
  unfold grad
  pointwise [val_main_cst, val_main_v0, val_main_cst_0, val_main_v1, val_main_v2, val_main_v3, val_main_v4]
  by_cases h : i0.val < 1
  · rw [dif_pos h]
    exact Finset.sum_congr rfl fun s _ => (congrFun (if_pos (show i0.val = 0 by omega)) _).symm
  · rw [dif_neg h]
    exact Finset.sum_congr rfl fun s _ => (congrFun (if_neg (show ¬i0.val = 0 by omega)) _).symm
theorem reads_first : Cert.Reference33Ideal.Read.val_main_v9 (F := Ideal) (aM m c) (aP m c) (aQ m c) = first m c := by
  have e : ∀ i, (Cert.Reference33Ideal.Read.val_main_v9 (F := Ideal) (aM m c) (aP m c) (aQ m c) i : EReal) = mom (aM m c i) (Cert.Reference33Ideal.Read.val_main_v4 (F := Ideal) (aP m c) (aQ m c) i) := fun i => by
    idx_vars i
    unfold mom
    pointwise [val_main_cst_1, val_main_v5, val_main_v6, val_main_cst_2, val_main_v7, val_main_v8, val_main_v9]
  funext i
  rw [e, reads_grad]
  rfl
theorem reads_second : Cert.Reference33Ideal.Read.val_main_v15 (F := Ideal) (aV m c) (aP m c) (aQ m c) = second m c := by
  have e : ∀ i, (Cert.Reference33Ideal.Read.val_main_v15 (F := Ideal) (aV m c) (aP m c) (aQ m c) i : EReal) = vel (aV m c i) (Cert.Reference33Ideal.Read.val_main_v4 (F := Ideal) (aP m c) (aQ m c) i) := fun i => by
    idx_vars i
    unfold vel
    pointwise [val_main_cst_1, val_main_v5, val_main_v6, val_main_cst_2, val_main_v7, val_main_v8, val_main_v9, val_main_cst_3, val_main_v10, val_main_v11, val_main_v12, val_main_cst_4, val_main_v13, val_main_v14, val_main_v15]
  funext i
  rw [e, reads_grad]
  rfl
theorem reads_update : Cert.Reference33Ideal.Read.val_main_v28 (F := Ideal) (aW m c) (aM m c) (aV m c) (aP m c) (aQ m c) = update m c := by
  have e : ∀ i, (Cert.Reference33Ideal.Read.val_main_v28 (F := Ideal) (aW m c) (aM m c) (aV m c) (aP m c) (aQ m c) i : EReal) = move (aW m c i) (Cert.Reference33Ideal.Read.val_main_v9 (F := Ideal) (aM m c) (aP m c) (aQ m c) i) (Cert.Reference33Ideal.Read.val_main_v15 (F := Ideal) (aV m c) (aP m c) (aQ m c) i) := fun i => by
    idx_vars i
    unfold move
    pointwise [val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28]
  funext i
  rw [e, reads_first, reads_second]
  rfl
end

end Cert.Kernel33Ideal.Value

end
-- ==== Proof.Update34.lean ====
module

public import proofs.«01_k».proof.Proof.Gen.Kernel34Ideal.Value
public import proofs.«01_k».proof.Proof.Gen.Reference34Ideal.Read
public import proofs.«01_k».proof.Proof.Adam

/-! The step of the optimiser of an array of 1 by 32, two layers: the gradient is the sum of eight parts. -/

@[expose] public section

set_option maxRecDepth 16384

noncomputable section
open Idealize.ShloMosaic Idealize.ShloMosaic.TcCoe Idealize.SL.Sem
namespace Cert.Kernel34Ideal.Value
open Cert.Kernel34Ideal Cert.Kernel34Ideal.Gen Cert.Product Cert.Adam

theorem idx : ∀ t : Fin cfg0.N, win0_0.index t = ![t.val / 1, t.val % 1, 0] ∧ win0_1.index t = ![t.val / 1, t.val % 1, 0] ∧ win0_2.index t = ![t.val / 1, t.val % 1, 0] ∧ win0_3.index t = ![0, t.val % 1, 0] ∧ win0_4.index t = ![0, t.val % 1, 0] ∧ win0_5.index t = ![t.val / 1, t.val % 1, 0] ∧ win0_6.index t = ![t.val / 1, t.val % 1, 0] ∧ win0_7.index t = ![t.val / 1, t.val % 1, 0] ∧ win0_8.index t = ![t.val / 1, t.val % 1, 0] := by
  decide +kernel

/-- The sum of eight parts at one entry. -/
def add8 (x0 x1 x2 x3 x4 x5 x6 x7 : Vec Ideal S1x1x32 .f32) (r : Fin 1) (l : Fin 32) : EReal :=
  x0 (ix3 0 r l) + x1 (ix3 0 r l) + x2 (ix3 0 r l) + x3 (ix3 0 r l) + x4 (ix3 0 r l) + x5 (ix3 0 r l) + x6 (ix3 0 r l) + x7 (ix3 0 r l)

theorem same_at_A (x0 x1 x2 x3 x4 x5 x6 x7 : Vec Ideal S1x1x32 .f32) (r : Fin 1) (l : Fin 32) :
    (k0_pay6 (F := Ideal) (k0_pay3 (F := Ideal) x0 x1 x2 x3 x4 x5 x6 x7) (ix3 0 r l) : EReal) = add8 x0 x1 x2 x3 x4 x5 x6 x7 r l := by
  obtain rfl : r = 0 := Subsingleton.elim _ _
  unfold add8
  pointwise [k0_pay6, k0_pay3]
theorem mom_at_A (x0 x1 x2 x3 x4 x5 x6 x7 : Vec Ideal S1x1x32 .f32) (z : Vec Ideal S1x1x32 .f32) (r : Fin 1) (l : Fin 32) :
    (k0_pay8 (F := Ideal) (k0_pay4 x0 x1 x2 x3 x4 x5 x6 x7 z) (ix3 0 r l) : EReal) = mom (z (ix3 0 r l)) (add8 x0 x1 x2 x3 x4 x5 x6 x7 r l) := by
  obtain rfl : r = 0 := Subsingleton.elim _ _
  unfold mom add8
  pointwise [k0_pay1, k0_pay3, k0_pay4, k0_pay5, k0_pay6, k0_pay7, k0_pay8]
theorem vel_at_A (x0 x1 x2 x3 x4 x5 x6 x7 : Vec Ideal S1x1x32 .f32) (z : Vec Ideal S1x1x32 .f32) (r : Fin 1) (l : Fin 32) :
    (k0_pay1 (F := Ideal) (k0_pay5 (k0_pay3 (F := Ideal) x0 x1 x2 x3 x4 x5 x6 x7) z) (ix3 0 r l) : EReal) = vel (z (ix3 0 r l)) (add8 x0 x1 x2 x3 x4 x5 x6 x7 r l) := by
  obtain rfl : r = 0 := Subsingleton.elim _ _
  unfold vel add8
  pointwise [k0_pay1, k0_pay3, k0_pay4, k0_pay5, k0_pay6, k0_pay7, k0_pay8]
theorem move_at_A (x0 x1 x2 x3 x4 x5 x6 x7 : Vec Ideal S1x1x32 .f32) (a b w : Vec Ideal S1x1x32 .f32) (r : Fin 1) (l : Fin 32) :
    (k0_pay7 (F := Ideal) (k0_pay3 (F := Ideal) x0 x1 x2 x3 x4 x5 x6 x7) (k0_pay4 x0 x1 x2 x3 x4 x5 x6 x7 a) b w (ix3 0 r l) : EReal) = move (w (ix3 0 r l)) (mom (a (ix3 0 r l)) (add8 x0 x1 x2 x3 x4 x5 x6 x7 r l)) (vel (b (ix3 0 r l)) (add8 x0 x1 x2 x3 x4 x5 x6 x7 r l)) := by
  obtain rfl : r = 0 := Subsingleton.elim _ _
  unfold move mom vel add8
  pointwise [k0_pay1, k0_pay3, k0_pay4, k0_pay5, k0_pay6, k0_pay7, k0_pay8]

theorem same_at_B (x0 x1 x2 x3 x4 x5 x6 x7 : Vec Ideal S1x1x32 .f32) (r : Fin 1) (l : Fin 32) :
    (k0_pay12 (F := Ideal) (k0_pay9 (F := Ideal) x0 x1 x2 x3 x4 x5 x6 x7) (ix3 0 r l) : EReal) = add8 x0 x1 x2 x3 x4 x5 x6 x7 r l := by
  obtain rfl : r = 0 := Subsingleton.elim _ _
  unfold add8
  pointwise [k0_pay12, k0_pay9]
theorem mom_at_B (x0 x1 x2 x3 x4 x5 x6 x7 : Vec Ideal S1x1x32 .f32) (z : Vec Ideal S1x1x32 .f32) (r : Fin 1) (l : Fin 32) :
    (k0_pay14 (F := Ideal) (k0_pay10 x0 x1 x2 x3 x4 x5 x6 x7 z) (ix3 0 r l) : EReal) = mom (z (ix3 0 r l)) (add8 x0 x1 x2 x3 x4 x5 x6 x7 r l) := by
  obtain rfl : r = 0 := Subsingleton.elim _ _
  unfold mom add8
  pointwise [k0_pay10, k0_pay11, k0_pay12, k0_pay13, k0_pay14, k0_pay2, k0_pay9]
theorem vel_at_B (x0 x1 x2 x3 x4 x5 x6 x7 : Vec Ideal S1x1x32 .f32) (z : Vec Ideal S1x1x32 .f32) (r : Fin 1) (l : Fin 32) :
    (k0_pay2 (F := Ideal) (k0_pay11 (k0_pay9 (F := Ideal) x0 x1 x2 x3 x4 x5 x6 x7) z) (ix3 0 r l) : EReal) = vel (z (ix3 0 r l)) (add8 x0 x1 x2 x3 x4 x5 x6 x7 r l) := by
  obtain rfl : r = 0 := Subsingleton.elim _ _
  unfold vel add8
  pointwise [k0_pay10, k0_pay11, k0_pay12, k0_pay13, k0_pay14, k0_pay2, k0_pay9]
theorem move_at_B (x0 x1 x2 x3 x4 x5 x6 x7 : Vec Ideal S1x1x32 .f32) (a b w : Vec Ideal S1x1x32 .f32) (r : Fin 1) (l : Fin 32) :
    (k0_pay13 (F := Ideal) (k0_pay9 (F := Ideal) x0 x1 x2 x3 x4 x5 x6 x7) (k0_pay10 x0 x1 x2 x3 x4 x5 x6 x7 a) b w (ix3 0 r l) : EReal) = move (w (ix3 0 r l)) (mom (a (ix3 0 r l)) (add8 x0 x1 x2 x3 x4 x5 x6 x7 r l)) (vel (b (ix3 0 r l)) (add8 x0 x1 x2 x3 x4 x5 x6 x7 r l)) := by
  obtain rfl : r = 0 := Subsingleton.elim _ _
  unfold move mom vel add8
  pointwise [k0_pay10, k0_pay11, k0_pay12, k0_pay13, k0_pay14, k0_pay2, k0_pay9]

variable (m : (ℓ : Loc nD τ sig) → Buf (Elt Ideal) ℓ) (c : Dev nD) (t : Fin cfg0.N)

abbrev aW : FVec Ideal S2x1x32 .f32 := m ((c.tc : Thread nD τ).loc main_arg0)
abbrev aM : FVec Ideal S2x1x32 .f32 := m ((c.tc : Thread nD τ).loc main_arg1)
abbrev aV : FVec Ideal S2x1x32 .f32 := m ((c.tc : Thread nD τ).loc main_arg2)
abbrev aP : FVec Ideal S8x1x32 .f32 := m ((c.tc : Thread nD τ).loc main_arg3)
abbrev aQ : FVec Ideal S8x1x32 .f32 := m ((c.tc : Thread nD τ).loc main_arg4)

/-- The gradient, the new moments and the update. -/
def grad : FVec Ideal S2x1x32 .f32 := fun i => ∑ s : Fin 8, (if (i 0).val = 0 then aP m c else aQ m c) (ix3 s (i 1) (i 2))
def first : FVec Ideal S2x1x32 .f32 := fun i => mom (aM m c i) (grad m c i)
def second : FVec Ideal S2x1x32 .f32 := fun i => vel (aV m c i) (grad m c i)
def update : FVec Ideal S2x1x32 .f32 := fun i => move (aW m c i) (first m c i) (second m c i)

/-- The entry of the arrays a block's entry is. -/
abbrev pos (r : Fin 1) (l : Fin 32) : S2x1x32.Idx := (ix3 ⟨t.val / 1, by have := lt_of_lt_of_eq t.isLt N_0; omega⟩ ⟨t.val % 1 * 1 + r.val, by have := lt_of_lt_of_eq t.isLt N_0; omega⟩ l)

/-- The eight slabs of a block of parts. -/
abbrev slab0_0 : Vec Ideal S1x1x32 .f32 := View.ld (iblk m c 3 t) (Rect.unit ![0, 0, 0] ![1, 1, 32] inb_S8x1x32_S1x1x32_0_0_0)
abbrev slab0_1 : Vec Ideal S1x1x32 .f32 := View.ld (iblk m c 3 t) (Rect.unit ![1, 0, 0] ![1, 1, 32] inb_S8x1x32_S1x1x32_1_0_0)
abbrev slab0_2 : Vec Ideal S1x1x32 .f32 := View.ld (iblk m c 3 t) (Rect.unit ![2, 0, 0] ![1, 1, 32] inb_S8x1x32_S1x1x32_2_0_0)
abbrev slab0_3 : Vec Ideal S1x1x32 .f32 := View.ld (iblk m c 3 t) (Rect.unit ![3, 0, 0] ![1, 1, 32] inb_S8x1x32_S1x1x32_3_0_0)
abbrev slab0_4 : Vec Ideal S1x1x32 .f32 := View.ld (iblk m c 3 t) (Rect.unit ![4, 0, 0] ![1, 1, 32] inb_S8x1x32_S1x1x32_4_0_0)
abbrev slab0_5 : Vec Ideal S1x1x32 .f32 := View.ld (iblk m c 3 t) (Rect.unit ![5, 0, 0] ![1, 1, 32] inb_S8x1x32_S1x1x32_5_0_0)
abbrev slab0_6 : Vec Ideal S1x1x32 .f32 := View.ld (iblk m c 3 t) (Rect.unit ![6, 0, 0] ![1, 1, 32] inb_S8x1x32_S1x1x32_6_0_0)
abbrev slab0_7 : Vec Ideal S1x1x32 .f32 := View.ld (iblk m c 3 t) (Rect.unit ![7, 0, 0] ![1, 1, 32] inb_S8x1x32_S1x1x32_7_0_0)
abbrev slab1_0 : Vec Ideal S1x1x32 .f32 := View.ld (iblk m c 4 t) (Rect.unit ![0, 0, 0] ![1, 1, 32] inb_S8x1x32_S1x1x32_0_0_0)
abbrev slab1_1 : Vec Ideal S1x1x32 .f32 := View.ld (iblk m c 4 t) (Rect.unit ![1, 0, 0] ![1, 1, 32] inb_S8x1x32_S1x1x32_1_0_0)
abbrev slab1_2 : Vec Ideal S1x1x32 .f32 := View.ld (iblk m c 4 t) (Rect.unit ![2, 0, 0] ![1, 1, 32] inb_S8x1x32_S1x1x32_2_0_0)
abbrev slab1_3 : Vec Ideal S1x1x32 .f32 := View.ld (iblk m c 4 t) (Rect.unit ![3, 0, 0] ![1, 1, 32] inb_S8x1x32_S1x1x32_3_0_0)
abbrev slab1_4 : Vec Ideal S1x1x32 .f32 := View.ld (iblk m c 4 t) (Rect.unit ![4, 0, 0] ![1, 1, 32] inb_S8x1x32_S1x1x32_4_0_0)
abbrev slab1_5 : Vec Ideal S1x1x32 .f32 := View.ld (iblk m c 4 t) (Rect.unit ![5, 0, 0] ![1, 1, 32] inb_S8x1x32_S1x1x32_5_0_0)
abbrev slab1_6 : Vec Ideal S1x1x32 .f32 := View.ld (iblk m c 4 t) (Rect.unit ![6, 0, 0] ![1, 1, 32] inb_S8x1x32_S1x1x32_6_0_0)
abbrev slab1_7 : Vec Ideal S1x1x32 .f32 := View.ld (iblk m c 4 t) (Rect.unit ![7, 0, 0] ![1, 1, 32] inb_S8x1x32_S1x1x32_7_0_0)

theorem in0 (r : Fin 1) (l : Fin 32) : (iblk m c 0 t (ix3 0 r l) : EReal) = aW m c (pos t r l) := by
  obtain ⟨h, -⟩ := idx t
  have ht : t.val < 2 := lt_of_lt_of_eq t.isLt N_0
  have e : (iblk m c 0 t : Vec Ideal S1x1x32 .f32) (ix3 0 r l) = aW m c (pos t r l) := by
    blk_ext [iblk, V, h] <;> rfl
  exact e
theorem in1 (r : Fin 1) (l : Fin 32) : (iblk m c 1 t (ix3 0 r l) : EReal) = aM m c (pos t r l) := by
  obtain ⟨-, h, -⟩ := idx t
  have ht : t.val < 2 := lt_of_lt_of_eq t.isLt N_0
  have e : (iblk m c 1 t : Vec Ideal S1x1x32 .f32) (ix3 0 r l) = aM m c (pos t r l) := by
    blk_ext [iblk, V, h] <;> rfl
  exact e
theorem in2 (r : Fin 1) (l : Fin 32) : (iblk m c 2 t (ix3 0 r l) : EReal) = aV m c (pos t r l) := by
  obtain ⟨-, -, h, -⟩ := idx t
  have ht : t.val < 2 := lt_of_lt_of_eq t.isLt N_0
  have e : (iblk m c 2 t : Vec Ideal S1x1x32 .f32) (ix3 0 r l) = aV m c (pos t r l) := by
    blk_ext [iblk, V, h] <;> rfl
  exact e
theorem slab0_0_at (r : Fin 1) (l : Fin 32) : slab0_0 m c t (ix3 0 r l) = aP m c (ix3 0 (pos t r l 1) l) := by
  refine (View.ld_unit_apply_of _ _ _ _ _ (ix3 0 r l) (fun a => by fin_cases a <;> simp)).trans ?_
  obtain ⟨-, -, -, h, -⟩ := idx t
  have ht : t.val < 2 := lt_of_lt_of_eq t.isLt N_0
  blk_ext [iblk, V, h] <;> rfl
theorem slab0_1_at (r : Fin 1) (l : Fin 32) : slab0_1 m c t (ix3 0 r l) = aP m c (ix3 1 (pos t r l 1) l) := by
  refine (View.ld_unit_apply_of _ _ _ _ _ (ix3 1 r l) (fun a => by fin_cases a <;> simp)).trans ?_
  obtain ⟨-, -, -, h, -⟩ := idx t
  have ht : t.val < 2 := lt_of_lt_of_eq t.isLt N_0
  blk_ext [iblk, V, h] <;> rfl
theorem slab0_2_at (r : Fin 1) (l : Fin 32) : slab0_2 m c t (ix3 0 r l) = aP m c (ix3 2 (pos t r l 1) l) := by
  refine (View.ld_unit_apply_of _ _ _ _ _ (ix3 2 r l) (fun a => by fin_cases a <;> simp)).trans ?_
  obtain ⟨-, -, -, h, -⟩ := idx t
  have ht : t.val < 2 := lt_of_lt_of_eq t.isLt N_0
  blk_ext [iblk, V, h] <;> rfl
theorem slab0_3_at (r : Fin 1) (l : Fin 32) : slab0_3 m c t (ix3 0 r l) = aP m c (ix3 3 (pos t r l 1) l) := by
  refine (View.ld_unit_apply_of _ _ _ _ _ (ix3 3 r l) (fun a => by fin_cases a <;> simp)).trans ?_
  obtain ⟨-, -, -, h, -⟩ := idx t
  have ht : t.val < 2 := lt_of_lt_of_eq t.isLt N_0
  blk_ext [iblk, V, h] <;> rfl
theorem slab0_4_at (r : Fin 1) (l : Fin 32) : slab0_4 m c t (ix3 0 r l) = aP m c (ix3 4 (pos t r l 1) l) := by
  refine (View.ld_unit_apply_of _ _ _ _ _ (ix3 4 r l) (fun a => by fin_cases a <;> simp)).trans ?_
  obtain ⟨-, -, -, h, -⟩ := idx t
  have ht : t.val < 2 := lt_of_lt_of_eq t.isLt N_0
  blk_ext [iblk, V, h] <;> rfl
theorem slab0_5_at (r : Fin 1) (l : Fin 32) : slab0_5 m c t (ix3 0 r l) = aP m c (ix3 5 (pos t r l 1) l) := by
  refine (View.ld_unit_apply_of _ _ _ _ _ (ix3 5 r l) (fun a => by fin_cases a <;> simp)).trans ?_
  obtain ⟨-, -, -, h, -⟩ := idx t
  have ht : t.val < 2 := lt_of_lt_of_eq t.isLt N_0
  blk_ext [iblk, V, h] <;> rfl
theorem slab0_6_at (r : Fin 1) (l : Fin 32) : slab0_6 m c t (ix3 0 r l) = aP m c (ix3 6 (pos t r l 1) l) := by
  refine (View.ld_unit_apply_of _ _ _ _ _ (ix3 6 r l) (fun a => by fin_cases a <;> simp)).trans ?_
  obtain ⟨-, -, -, h, -⟩ := idx t
  have ht : t.val < 2 := lt_of_lt_of_eq t.isLt N_0
  blk_ext [iblk, V, h] <;> rfl
theorem slab0_7_at (r : Fin 1) (l : Fin 32) : slab0_7 m c t (ix3 0 r l) = aP m c (ix3 7 (pos t r l 1) l) := by
  refine (View.ld_unit_apply_of _ _ _ _ _ (ix3 7 r l) (fun a => by fin_cases a <;> simp)).trans ?_
  obtain ⟨-, -, -, h, -⟩ := idx t
  have ht : t.val < 2 := lt_of_lt_of_eq t.isLt N_0
  blk_ext [iblk, V, h] <;> rfl
theorem total_A (h : t.val < 1) (r : Fin 1) (l : Fin 32) : add8 (slab0_0 m c t) (slab0_1 m c t) (slab0_2 m c t) (slab0_3 m c t) (slab0_4 m c t) (slab0_5 m c t) (slab0_6 m c t) (slab0_7 m c t) r l = grad m c (pos t r l) := by
  unfold add8 grad
  rw [slab0_0_at, slab0_1_at, slab0_2_at, slab0_3_at, slab0_4_at, slab0_5_at, slab0_6_at, slab0_7_at]
  rw [if_pos (show (pos t r l 0).val = 0 from Nat.div_eq_of_lt h)]
  exact (Fin.sum_univ_eight (fun s : Fin 8 => (aP m c (ix3 s (pos t r l 1) l) : EReal))).symm

theorem slab1_0_at (r : Fin 1) (l : Fin 32) : slab1_0 m c t (ix3 0 r l) = aQ m c (ix3 0 (pos t r l 1) l) := by
  refine (View.ld_unit_apply_of _ _ _ _ _ (ix3 0 r l) (fun a => by fin_cases a <;> simp)).trans ?_
  obtain ⟨-, -, -, -, h, -⟩ := idx t
  have ht : t.val < 2 := lt_of_lt_of_eq t.isLt N_0
  blk_ext [iblk, V, h] <;> rfl
theorem slab1_1_at (r : Fin 1) (l : Fin 32) : slab1_1 m c t (ix3 0 r l) = aQ m c (ix3 1 (pos t r l 1) l) := by
  refine (View.ld_unit_apply_of _ _ _ _ _ (ix3 1 r l) (fun a => by fin_cases a <;> simp)).trans ?_
  obtain ⟨-, -, -, -, h, -⟩ := idx t
  have ht : t.val < 2 := lt_of_lt_of_eq t.isLt N_0
  blk_ext [iblk, V, h] <;> rfl
theorem slab1_2_at (r : Fin 1) (l : Fin 32) : slab1_2 m c t (ix3 0 r l) = aQ m c (ix3 2 (pos t r l 1) l) := by
  refine (View.ld_unit_apply_of _ _ _ _ _ (ix3 2 r l) (fun a => by fin_cases a <;> simp)).trans ?_
  obtain ⟨-, -, -, -, h, -⟩ := idx t
  have ht : t.val < 2 := lt_of_lt_of_eq t.isLt N_0
  blk_ext [iblk, V, h] <;> rfl
theorem slab1_3_at (r : Fin 1) (l : Fin 32) : slab1_3 m c t (ix3 0 r l) = aQ m c (ix3 3 (pos t r l 1) l) := by
  refine (View.ld_unit_apply_of _ _ _ _ _ (ix3 3 r l) (fun a => by fin_cases a <;> simp)).trans ?_
  obtain ⟨-, -, -, -, h, -⟩ := idx t
  have ht : t.val < 2 := lt_of_lt_of_eq t.isLt N_0
  blk_ext [iblk, V, h] <;> rfl
theorem slab1_4_at (r : Fin 1) (l : Fin 32) : slab1_4 m c t (ix3 0 r l) = aQ m c (ix3 4 (pos t r l 1) l) := by
  refine (View.ld_unit_apply_of _ _ _ _ _ (ix3 4 r l) (fun a => by fin_cases a <;> simp)).trans ?_
  obtain ⟨-, -, -, -, h, -⟩ := idx t
  have ht : t.val < 2 := lt_of_lt_of_eq t.isLt N_0
  blk_ext [iblk, V, h] <;> rfl
theorem slab1_5_at (r : Fin 1) (l : Fin 32) : slab1_5 m c t (ix3 0 r l) = aQ m c (ix3 5 (pos t r l 1) l) := by
  refine (View.ld_unit_apply_of _ _ _ _ _ (ix3 5 r l) (fun a => by fin_cases a <;> simp)).trans ?_
  obtain ⟨-, -, -, -, h, -⟩ := idx t
  have ht : t.val < 2 := lt_of_lt_of_eq t.isLt N_0
  blk_ext [iblk, V, h] <;> rfl
theorem slab1_6_at (r : Fin 1) (l : Fin 32) : slab1_6 m c t (ix3 0 r l) = aQ m c (ix3 6 (pos t r l 1) l) := by
  refine (View.ld_unit_apply_of _ _ _ _ _ (ix3 6 r l) (fun a => by fin_cases a <;> simp)).trans ?_
  obtain ⟨-, -, -, -, h, -⟩ := idx t
  have ht : t.val < 2 := lt_of_lt_of_eq t.isLt N_0
  blk_ext [iblk, V, h] <;> rfl
theorem slab1_7_at (r : Fin 1) (l : Fin 32) : slab1_7 m c t (ix3 0 r l) = aQ m c (ix3 7 (pos t r l 1) l) := by
  refine (View.ld_unit_apply_of _ _ _ _ _ (ix3 7 r l) (fun a => by fin_cases a <;> simp)).trans ?_
  obtain ⟨-, -, -, -, h, -⟩ := idx t
  have ht : t.val < 2 := lt_of_lt_of_eq t.isLt N_0
  blk_ext [iblk, V, h] <;> rfl
theorem total_B (h : ¬t.val < 1) (r : Fin 1) (l : Fin 32) : add8 (slab1_0 m c t) (slab1_1 m c t) (slab1_2 m c t) (slab1_3 m c t) (slab1_4 m c t) (slab1_5 m c t) (slab1_6 m c t) (slab1_7 m c t) r l = grad m c (pos t r l) := by
  unfold add8 grad
  rw [slab1_0_at, slab1_1_at, slab1_2_at, slab1_3_at, slab1_4_at, slab1_5_at, slab1_6_at, slab1_7_at]
  rw [if_neg (show ¬(pos t r l 0).val = 0 from fun e => h ((Nat.div_eq_zero_iff.mp e).resolve_left (by omega)))]
  exact (Fin.sum_univ_eight (fun s : Fin 8 => (aQ m c (ix3 s (pos t r l 1) l) : EReal))).symm

theorem out_grad (r : Fin 1) (l : Fin 32) : ((outsAt0 m c t.val t.isLt).1 (ix3 0 r l) : EReal) = grad m c (pos t r l) := by
  have ht : t.val < 2 := lt_of_lt_of_eq t.isLt N_0
  by_cases h : t.val < 1
  · rw [outsAt0_A m c t (by omega) (by omega)]
    frame_out
    exact (same_at_A _ _ _ _ _ _ _ _ _ _).trans (total_A m c t h r l)
  · rw [outsAt0_B m c t (by omega) (by omega)]
    frame_out
    exact (same_at_B _ _ _ _ _ _ _ _ _ _).trans (total_B m c t h r l)
theorem out_update (r : Fin 1) (l : Fin 32) : ((outsAt0 m c t.val t.isLt).2.1 (ix3 0 r l) : EReal) = update m c (pos t r l) := by
  have ht : t.val < 2 := lt_of_lt_of_eq t.isLt N_0
  by_cases h : t.val < 1
  · rw [outsAt0_A m c t (by omega) (by omega)]
    frame_out
    exact (move_at_A _ _ _ _ _ _ _ _ _ _ _ _ _).trans (congr (congrArg₂ move (in0 m c t r l) (congrArg₂ mom (in1 m c t r l) (total_A m c t h r l))) (congrArg₂ vel (in2 m c t r l) (total_A m c t h r l)))
  · rw [outsAt0_B m c t (by omega) (by omega)]
    frame_out
    exact (move_at_B _ _ _ _ _ _ _ _ _ _ _ _ _).trans (congr (congrArg₂ move (in0 m c t r l) (congrArg₂ mom (in1 m c t r l) (total_B m c t h r l))) (congrArg₂ vel (in2 m c t r l) (total_B m c t h r l)))
theorem out_first (r : Fin 1) (l : Fin 32) : ((outsAt0 m c t.val t.isLt).2.2.1 (ix3 0 r l) : EReal) = first m c (pos t r l) := by
  have ht : t.val < 2 := lt_of_lt_of_eq t.isLt N_0
  by_cases h : t.val < 1
  · rw [outsAt0_A m c t (by omega) (by omega)]
    frame_out
    exact (mom_at_A _ _ _ _ _ _ _ _ _ _ _).trans (congrArg₂ mom (in1 m c t r l) (total_A m c t h r l))
  · rw [outsAt0_B m c t (by omega) (by omega)]
    frame_out
    exact (mom_at_B _ _ _ _ _ _ _ _ _ _ _).trans (congrArg₂ mom (in1 m c t r l) (total_B m c t h r l))
theorem out_second (r : Fin 1) (l : Fin 32) : ((outsAt0 m c t.val t.isLt).2.2.2 (ix3 0 r l) : EReal) = second m c (pos t r l) := by
  have ht : t.val < 2 := lt_of_lt_of_eq t.isLt N_0
  by_cases h : t.val < 1
  · rw [outsAt0_A m c t (by omega) (by omega)]
    frame_out
    exact (vel_at_A _ _ _ _ _ _ _ _ _ _ _).trans (congrArg₂ vel (in2 m c t r l) (total_A m c t h r l))
  · rw [outsAt0_B m c t (by omega) (by omega)]
    frame_out
    exact (vel_at_B _ _ _ _ _ _ _ _ _ _ _).trans (congrArg₂ vel (in2 m c t r l) (total_B m c t h r l))

theorem result5 : (dats m 0 c).arrAt 5 cfg0.N = grad m c := by
  refine (dats m 0 c).arrAt_eq_of_covers 5 _ (by decide +kernel) fun t hf y => ?_
  blk_simp; rw [after0_5]
  have ht : t.val < 2 := lt_of_lt_of_eq t.isLt N_0
  obtain ⟨-, -, -, -, -, h, -⟩ := idx t
  idx_vars y
  have e0 : y0 = 0 := Fin.ext (by omega)
  subst e0
  have e : grad m c (((View.whole main_v0_0).slice (win0_5.rect t)).emb (ix3 0 y1 y2)) = grad m c (pos t y1 y2) := by
    generalize grad m c = X
    blk_ext [h] <;> rfl
  exact (out_grad m c t y1 y2).trans e.symm
theorem result6 : (dats m 0 c).arrAt 6 cfg0.N = update m c := by
  refine (dats m 0 c).arrAt_eq_of_covers 6 _ (by decide +kernel) fun t hf y => ?_
  blk_simp; rw [after0_6]
  have ht : t.val < 2 := lt_of_lt_of_eq t.isLt N_0
  obtain ⟨-, -, -, -, -, -, h, -⟩ := idx t
  idx_vars y
  have e0 : y0 = 0 := Fin.ext (by omega)
  subst e0
  have e : update m c (((View.whole main_v0_1).slice (win0_6.rect t)).emb (ix3 0 y1 y2)) = update m c (pos t y1 y2) := by
    generalize update m c = X
    blk_ext [h] <;> rfl
  exact (out_update m c t y1 y2).trans e.symm
theorem result7 : (dats m 0 c).arrAt 7 cfg0.N = first m c := by
  refine (dats m 0 c).arrAt_eq_of_covers 7 _ (by decide +kernel) fun t hf y => ?_
  blk_simp; rw [after0_7]
  have ht : t.val < 2 := lt_of_lt_of_eq t.isLt N_0
  obtain ⟨-, -, -, -, -, -, -, h, -⟩ := idx t
  idx_vars y
  have e0 : y0 = 0 := Fin.ext (by omega)
  subst e0
  have e : first m c (((View.whole main_v0_2).slice (win0_7.rect t)).emb (ix3 0 y1 y2)) = first m c (pos t y1 y2) := by
    generalize first m c = X
    blk_ext [h] <;> rfl
  exact (out_first m c t y1 y2).trans e.symm
theorem result8 : (dats m 0 c).arrAt 8 cfg0.N = second m c := by
  refine (dats m 0 c).arrAt_eq_of_covers 8 _ (by decide +kernel) fun t hf y => ?_
  blk_simp; rw [after0_8]
  have ht : t.val < 2 := lt_of_lt_of_eq t.isLt N_0
  obtain ⟨-, -, -, -, -, -, -, -, h⟩ := idx t
  idx_vars y
  have e0 : y0 = 0 := Fin.ext (by omega)
  subst e0
  have e : second m c (((View.whole main_v0_3).slice (win0_8.rect t)).emb (ix3 0 y1 y2)) = second m c (pos t y1 y2) := by
    generalize second m c = X
    blk_ext [h] <;> rfl
  exact (out_second m c t y1 y2).trans e.symm

section
open Cert.Reference34Ideal.Read
theorem reads_grad : Cert.Reference34Ideal.Read.val_main_v4 (F := Ideal) (aP m c) (aQ m c) = grad m c := by
  funext i
  idx_vars i
  unfold grad
  pointwise [val_main_cst, val_main_v0, val_main_cst_0, val_main_v1, val_main_v2, val_main_v3, val_main_v4]
  obtain rfl : i1 = 0 := Subsingleton.elim _ _
  by_cases h : i0.val < 1
  · rw [dif_pos h]
    exact Finset.sum_congr rfl fun s _ => (congrFun (if_pos (show i0.val = 0 by omega)) _).symm
  · rw [dif_neg h]
    exact Finset.sum_congr rfl fun s _ => (congrFun (if_neg (show ¬i0.val = 0 by omega)) _).symm
theorem reads_first : Cert.Reference34Ideal.Read.val_main_v9 (F := Ideal) (aM m c) (aP m c) (aQ m c) = first m c := by
  have e : ∀ i, (Cert.Reference34Ideal.Read.val_main_v9 (F := Ideal) (aM m c) (aP m c) (aQ m c) i : EReal) = mom (aM m c i) (Cert.Reference34Ideal.Read.val_main_v4 (F := Ideal) (aP m c) (aQ m c) i) := fun i => by
    idx_vars i
    unfold mom
    pointwise [val_main_cst_1, val_main_v5, val_main_v6, val_main_cst_2, val_main_v7, val_main_v8, val_main_v9]
  funext i
  rw [e, reads_grad]
  rfl
theorem reads_second : Cert.Reference34Ideal.Read.val_main_v15 (F := Ideal) (aV m c) (aP m c) (aQ m c) = second m c := by
  have e : ∀ i, (Cert.Reference34Ideal.Read.val_main_v15 (F := Ideal) (aV m c) (aP m c) (aQ m c) i : EReal) = vel (aV m c i) (Cert.Reference34Ideal.Read.val_main_v4 (F := Ideal) (aP m c) (aQ m c) i) := fun i => by
    idx_vars i
    unfold vel
    pointwise [val_main_cst_1, val_main_v5, val_main_v6, val_main_cst_2, val_main_v7, val_main_v8, val_main_v9, val_main_cst_3, val_main_v10, val_main_v11, val_main_v12, val_main_cst_4, val_main_v13, val_main_v14, val_main_v15]
  funext i
  rw [e, reads_grad]
  rfl
theorem reads_update : Cert.Reference34Ideal.Read.val_main_v28 (F := Ideal) (aW m c) (aM m c) (aV m c) (aP m c) (aQ m c) = update m c := by
  have e : ∀ i, (Cert.Reference34Ideal.Read.val_main_v28 (F := Ideal) (aW m c) (aM m c) (aV m c) (aP m c) (aQ m c) i : EReal) = move (aW m c i) (Cert.Reference34Ideal.Read.val_main_v9 (F := Ideal) (aM m c) (aP m c) (aQ m c) i) (Cert.Reference34Ideal.Read.val_main_v15 (F := Ideal) (aV m c) (aP m c) (aQ m c) i) := fun i => by
    idx_vars i
    unfold move
    pointwise [val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28]
  funext i
  rw [e, reads_first, reads_second]
  rfl
end

end Cert.Kernel34Ideal.Value

end
-- ==== Proof.Products.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Product2
public import proofs.«01_k».proof.Proof.Gen.Kernel3Ideal.Value
public import proofs.«01_k».proof.Proof.Gen.Reference3Ideal.Run
public import proofs.«01_k».proof.Proof.Gen.Reference3Ideal.Read
public import proofs.«01_k».proof.Proof.Product3
public import proofs.«01_k».proof.Proof.Gen.Kernel4Ideal.Value
public import proofs.«01_k».proof.Proof.Gen.Reference4Ideal.Run
public import proofs.«01_k».proof.Proof.Gen.Reference4Ideal.Read
public import proofs.«01_k».proof.Proof.Product4
public import proofs.«01_k».proof.Proof.Gen.Kernel5Ideal.Value
public import proofs.«01_k».proof.Proof.Gen.Reference5Ideal.Run
public import proofs.«01_k».proof.Proof.Gen.Reference5Ideal.Read
public import proofs.«01_k».proof.Proof.Product5
public import proofs.«01_k».proof.Proof.Gen.Kernel6Ideal.Value
public import proofs.«01_k».proof.Proof.Gen.Reference6Ideal.Run
public import proofs.«01_k».proof.Proof.Gen.Reference6Ideal.Read
public import proofs.«01_k».proof.Proof.Product6
public import proofs.«01_k».proof.Proof.Gen.Kernel7Ideal.Value
public import proofs.«01_k».proof.Proof.Gen.Reference7Ideal.Run
public import proofs.«01_k».proof.Proof.Gen.Reference7Ideal.Read
public import proofs.«01_k».proof.Proof.Product7
public import proofs.«01_k».proof.Proof.Gen.Kernel8Ideal.Value
public import proofs.«01_k».proof.Proof.Gen.Reference8Ideal.Run
public import proofs.«01_k».proof.Proof.Gen.Reference8Ideal.Read
public import proofs.«01_k».proof.Proof.Product8
public import proofs.«01_k».proof.Proof.Gen.Kernel9Ideal.Value
public import proofs.«01_k».proof.Proof.Gen.Reference9Ideal.Run
public import proofs.«01_k».proof.Proof.Gen.Reference9Ideal.Read
public import proofs.«01_k».proof.Proof.Product9
public import proofs.«01_k».proof.Proof.Gen.Kernel10Ideal.Value
public import proofs.«01_k».proof.Proof.Gen.Reference10Ideal.Run
public import proofs.«01_k».proof.Proof.Gen.Reference10Ideal.Read
public import proofs.«01_k».proof.Proof.Product10
public import proofs.«01_k».proof.Proof.Gen.Kernel11Ideal.Value
public import proofs.«01_k».proof.Proof.Gen.Reference11Ideal.Run
public import proofs.«01_k».proof.Proof.Gen.Reference11Ideal.Read
public import proofs.«01_k».proof.Proof.Product11
public import proofs.«01_k».proof.Proof.Gen.Kernel12Ideal.Value
public import proofs.«01_k».proof.Proof.Gen.Reference12Ideal.Run
public import proofs.«01_k».proof.Proof.Gen.Reference12Ideal.Read
public import proofs.«01_k».proof.Proof.Product12
public import proofs.«01_k».proof.Proof.Gen.Kernel13Ideal.Value
public import proofs.«01_k».proof.Proof.Gen.Reference13Ideal.Run
public import proofs.«01_k».proof.Proof.Gen.Reference13Ideal.Read
public import proofs.«01_k».proof.Proof.Product13
public import proofs.«01_k».proof.Proof.Gen.Kernel14Ideal.Value
public import proofs.«01_k».proof.Proof.Gen.Reference14Ideal.Run
public import proofs.«01_k».proof.Proof.Gen.Reference14Ideal.Read
public import proofs.«01_k».proof.Proof.Product14
public import proofs.«01_k».proof.Proof.Gen.Kernel15Ideal.Value
public import proofs.«01_k».proof.Proof.Gen.Reference15Ideal.Run
public import proofs.«01_k».proof.Proof.Gen.Reference15Ideal.Read
public import proofs.«01_k».proof.Proof.Product15
public import proofs.«01_k».proof.Proof.Gen.Kernel16Ideal.Frame
public import proofs.«01_k».proof.Proof.Gen.Reference16Ideal.Run
public import proofs.«01_k».proof.Proof.Gen.Reference16Ideal.Read
public import proofs.«01_k».proof.Proof.Product16
public import proofs.«01_k».proof.Proof.Gen.Kernel20Ideal.Value
public import proofs.«01_k».proof.Proof.Gen.Reference20Ideal.Run
public import proofs.«01_k».proof.Proof.Gen.Reference20Ideal.Read
public import proofs.«01_k».proof.Proof.Product20
public import proofs.«01_k».proof.Proof.Gen.Kernel21Ideal.Value
public import proofs.«01_k».proof.Proof.Gen.Reference21Ideal.Run
public import proofs.«01_k».proof.Proof.Gen.Reference21Ideal.Read
public import proofs.«01_k».proof.Proof.Product21
public import proofs.«01_k».proof.Proof.Gen.Kernel22Ideal.Value
public import proofs.«01_k».proof.Proof.Gen.Reference22Ideal.Run
public import proofs.«01_k».proof.Proof.Gen.Reference22Ideal.Read
public import proofs.«01_k».proof.Proof.Product22
public import proofs.«01_k».proof.Proof.Gen.Kernel35Ideal.Value
public import proofs.«01_k».proof.Proof.Gen.Reference35Ideal.Run
public import proofs.«01_k».proof.Proof.Gen.Reference35Ideal.Read
public import proofs.«01_k».proof.Proof.Product35
public import proofs.«01_k».proof.Proof.Gen.Kernel36Ideal.Value
public import proofs.«01_k».proof.Proof.Gen.Reference36Ideal.Run
public import proofs.«01_k».proof.Proof.Gen.Reference36Ideal.Read
public import proofs.«01_k».proof.Proof.Product36
public import proofs.«01_k».proof.Proof.Gen.Kernel17Ideal.Value
public import proofs.«01_k».proof.Proof.Gen.Reference17Ideal.Run
public import proofs.«01_k».proof.Proof.Gen.Reference17Ideal.Read
public import proofs.«01_k».proof.Proof.Product17
public import proofs.«01_k».proof.Proof.Gen.Kernel18Ideal.Value
public import proofs.«01_k».proof.Proof.Gen.Reference18Ideal.Run
public import proofs.«01_k».proof.Proof.Gen.Reference18Ideal.Read
public import proofs.«01_k».proof.Proof.Product18
public import proofs.«01_k».proof.Proof.Gen.Kernel19Ideal.Value
public import proofs.«01_k».proof.Proof.Gen.Reference19Ideal.Run
public import proofs.«01_k».proof.Proof.Gen.Reference19Ideal.Read
public import proofs.«01_k».proof.Proof.Product19
public import proofs.«01_k».proof.Proof.Gen.Kernel23Ideal.Frame
public import proofs.«01_k».proof.Proof.Gen.Reference23Ideal.Run
public import proofs.«01_k».proof.Proof.Gen.Reference23Ideal.Read
public import proofs.«01_k».proof.Proof.Product23
public import proofs.«01_k».proof.Proof.Gen.Kernel24Ideal.Value
public import proofs.«01_k».proof.Proof.Gen.Reference24Ideal.Run
public import proofs.«01_k».proof.Proof.Gen.Reference24Ideal.Read
public import proofs.«01_k».proof.Proof.Product24
public import proofs.«01_k».proof.Proof.Gen.Kernel25Ideal.Value
public import proofs.«01_k».proof.Proof.Gen.Reference25Ideal.Run
public import proofs.«01_k».proof.Proof.Gen.Reference25Ideal.Read
public import proofs.«01_k».proof.Proof.Update25
public import proofs.«01_k».proof.Proof.Gen.Kernel26Ideal.Value
public import proofs.«01_k».proof.Proof.Gen.Reference26Ideal.Run
public import proofs.«01_k».proof.Proof.Gen.Reference26Ideal.Read
public import proofs.«01_k».proof.Proof.Update26
public import proofs.«01_k».proof.Proof.Gen.Kernel27Ideal.Value
public import proofs.«01_k».proof.Proof.Gen.Reference27Ideal.Run
public import proofs.«01_k».proof.Proof.Gen.Reference27Ideal.Read
public import proofs.«01_k».proof.Proof.Update27
public import proofs.«01_k».proof.Proof.Gen.Kernel28Ideal.Value
public import proofs.«01_k».proof.Proof.Gen.Reference28Ideal.Run
public import proofs.«01_k».proof.Proof.Gen.Reference28Ideal.Read
public import proofs.«01_k».proof.Proof.Update28
public import proofs.«01_k».proof.Proof.Gen.Kernel29Ideal.Value
public import proofs.«01_k».proof.Proof.Gen.Reference29Ideal.Run
public import proofs.«01_k».proof.Proof.Gen.Reference29Ideal.Read
public import proofs.«01_k».proof.Proof.Update29
public import proofs.«01_k».proof.Proof.Gen.Kernel30Ideal.Value
public import proofs.«01_k».proof.Proof.Gen.Reference30Ideal.Run
public import proofs.«01_k».proof.Proof.Gen.Reference30Ideal.Read
public import proofs.«01_k».proof.Proof.Update30
public import proofs.«01_k».proof.Proof.Gen.Kernel31Ideal.Value
public import proofs.«01_k».proof.Proof.Gen.Reference31Ideal.Run
public import proofs.«01_k».proof.Proof.Gen.Reference31Ideal.Read
public import proofs.«01_k».proof.Proof.Update31
public import proofs.«01_k».proof.Proof.Gen.Kernel32Ideal.Value
public import proofs.«01_k».proof.Proof.Gen.Reference32Ideal.Run
public import proofs.«01_k».proof.Proof.Gen.Reference32Ideal.Read
public import proofs.«01_k».proof.Proof.Update32
public import proofs.«01_k».proof.Proof.Gen.Kernel33Ideal.Value
public import proofs.«01_k».proof.Proof.Gen.Reference33Ideal.Run
public import proofs.«01_k».proof.Proof.Gen.Reference33Ideal.Read
public import proofs.«01_k».proof.Proof.Update33
public import proofs.«01_k».proof.Proof.Gen.Kernel34Ideal.Value
public import proofs.«01_k».proof.Proof.Gen.Reference34Ideal.Run
public import proofs.«01_k».proof.Proof.Gen.Reference34Ideal.Read
public import proofs.«01_k».proof.Proof.Update34

/-! The products, the forward convolution and the steps of the optimiser: each call returns the arrays of its reference, and each reference leaves its
    arguments as they were. -/

@[expose] public section

noncomputable section
open Idealize.ShloMosaic Idealize.SL.Sem
namespace Cert.Products

theorem algebraic2 : Cert.algebraic_Kernel2Ideal_Reference2Ideal := by
  intro m g m' g' _ hargs
  refine ⟨fun c => Cert.Kernel2Ideal.Value.Q m c, ?_, ?_⟩
  · refine (θ_run _ _ _).mono (fun r h c => ?_) (Cert.Kernel2Ideal.Value.run_blocks m g)
    obtain ⟨h0, h1, h2⟩ := h c
    exact ⟨h0.trans (Cert.Kernel2Ideal.Value.result m c), h1, h2⟩
  · refine (θ_run _ _ _).mono (fun r h c => ?_) (Cert.Reference2Ideal.Value.run m' g')
    obtain ⟨h0, h1, h2⟩ := h c
    obtain ⟨e0, e1⟩ := hargs c
    refine ⟨h0.trans ((Cert.Reference2Ideal.Read.val_main_v10_eq _ _).trans ?_), h1, h2⟩
    rw [e0, e1]
    exact Cert.Kernel2Ideal.Value.reads m c

theorem frame2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0) :=
  (θ_run _ _ _).mono (fun r h => ⟨fun c => (h c).2, sem_eq_zero_of_no_sems rfl r.2⟩) (Cert.Reference2Ideal.Value.run m g)

theorem algebraic3 : Cert.algebraic_Kernel3Ideal_Reference3Ideal := by
  intro m g m' g' _ hargs
  refine ⟨fun c => Cert.Kernel3Ideal.Value.Q m c, ?_, ?_⟩
  · refine (θ_run _ _ _).mono (fun r h c => ?_) (Cert.Kernel3Ideal.Value.run_blocks m g)
    obtain ⟨h0, h1, h2⟩ := h c
    exact ⟨h0.trans (Cert.Kernel3Ideal.Value.result m c), h1, h2⟩
  · refine (θ_run _ _ _).mono (fun r h c => ?_) (Cert.Reference3Ideal.Value.run m' g')
    obtain ⟨h0, h1, h2⟩ := h c
    obtain ⟨e0, e1⟩ := hargs c
    refine ⟨h0.trans ((Cert.Reference3Ideal.Read.val_main_v6_eq _ _).trans ?_), h1, h2⟩
    rw [e0, e1]
    exact Cert.Kernel3Ideal.Value.reads m c

theorem frame3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run _ _ _).mono (fun r h => ⟨fun c => (h c).2, sem_eq_zero_of_no_sems rfl r.2⟩) (Cert.Reference3Ideal.Value.run m g)

theorem algebraic4 : Cert.algebraic_Kernel4Ideal_Reference4Ideal := by
  intro m g m' g' _ hargs
  refine ⟨fun c => Cert.Kernel4Ideal.Value.Q m c, ?_, ?_⟩
  · refine (θ_run _ _ _).mono (fun r h c => ?_) (Cert.Kernel4Ideal.Value.run_blocks m g)
    obtain ⟨h0, h1, h2⟩ := h c
    exact ⟨h0.trans (Cert.Kernel4Ideal.Value.result m c), h1, h2⟩
  · refine (θ_run _ _ _).mono (fun r h c => ?_) (Cert.Reference4Ideal.Value.run m' g')
    obtain ⟨h0, h1, h2⟩ := h c
    obtain ⟨e0, e1⟩ := hargs c
    refine ⟨h0.trans ((Cert.Reference4Ideal.Read.val_main_v6_eq _ _).trans ?_), h1, h2⟩
    rw [e0, e1]
    exact Cert.Kernel4Ideal.Value.reads m c

theorem frame4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run _ _ _).mono (fun r h => ⟨fun c => (h c).2, sem_eq_zero_of_no_sems rfl r.2⟩) (Cert.Reference4Ideal.Value.run m g)

theorem algebraic5 : Cert.algebraic_Kernel5Ideal_Reference5Ideal := by
  intro m g m' g' _ hargs
  refine ⟨fun c => Cert.Kernel5Ideal.Value.Q m c, ?_, ?_⟩
  · refine (θ_run _ _ _).mono (fun r h c => ?_) (Cert.Kernel5Ideal.Value.run_blocks m g)
    obtain ⟨h0, h1, h2⟩ := h c
    exact ⟨h0.trans (Cert.Kernel5Ideal.Value.result m c), h1, h2⟩
  · refine (θ_run _ _ _).mono (fun r h c => ?_) (Cert.Reference5Ideal.Value.run m' g')
    obtain ⟨h0, h1, h2⟩ := h c
    obtain ⟨e0, e1⟩ := hargs c
    refine ⟨h0.trans ((Cert.Reference5Ideal.Read.val_main_v4_eq _ _).trans ?_), h1, h2⟩
    rw [e0, e1]
    exact Cert.Kernel5Ideal.Value.reads m c

theorem frame5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run _ _ _).mono (fun r h => ⟨fun c => (h c).2, sem_eq_zero_of_no_sems rfl r.2⟩) (Cert.Reference5Ideal.Value.run m g)

theorem algebraic6 : Cert.algebraic_Kernel6Ideal_Reference6Ideal := by
  intro m g m' g' _ hargs
  refine ⟨fun c => Cert.Kernel6Ideal.Value.Q m c, ?_, ?_⟩
  · refine (θ_run _ _ _).mono (fun r h c => ?_) (Cert.Kernel6Ideal.Value.run_blocks m g)
    obtain ⟨h0, h1, h2⟩ := h c
    exact ⟨h0.trans (Cert.Kernel6Ideal.Value.result m c), h1, h2⟩
  · refine (θ_run _ _ _).mono (fun r h c => ?_) (Cert.Reference6Ideal.Value.run m' g')
    obtain ⟨h0, h1, h2⟩ := h c
    obtain ⟨e0, e1⟩ := hargs c
    refine ⟨h0.trans ((Cert.Reference6Ideal.Read.val_main_v4_eq _ _).trans ?_), h1, h2⟩
    rw [e0, e1]
    exact Cert.Kernel6Ideal.Value.reads m c

theorem frame6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0) :=
  (θ_run _ _ _).mono (fun r h => ⟨fun c => (h c).2, sem_eq_zero_of_no_sems rfl r.2⟩) (Cert.Reference6Ideal.Value.run m g)

theorem algebraic7 : Cert.algebraic_Kernel7Ideal_Reference7Ideal := by
  intro m g m' g' _ hargs
  refine ⟨fun c => Cert.Kernel7Ideal.Value.Q m c, ?_, ?_⟩
  · refine (θ_run _ _ _).mono (fun r h c => ?_) (Cert.Kernel7Ideal.Value.run_blocks m g)
    obtain ⟨h0, h1, h2⟩ := h c
    exact ⟨h0.trans (Cert.Kernel7Ideal.Value.result m c), h1, h2⟩
  · refine (θ_run _ _ _).mono (fun r h c => ?_) (Cert.Reference7Ideal.Value.run m' g')
    obtain ⟨h0, h1, h2⟩ := h c
    obtain ⟨e0, e1⟩ := hargs c
    refine ⟨h0.trans ((Cert.Reference7Ideal.Read.val_main_v10_eq _ _).trans ?_), h1, h2⟩
    rw [e0, e1]
    exact Cert.Kernel7Ideal.Value.reads m c

theorem frame7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0) :=
  (θ_run _ _ _).mono (fun r h => ⟨fun c => (h c).2, sem_eq_zero_of_no_sems rfl r.2⟩) (Cert.Reference7Ideal.Value.run m g)

theorem algebraic8 : Cert.algebraic_Kernel8Ideal_Reference8Ideal := by
  intro m g m' g' _ hargs
  refine ⟨fun c => Cert.Kernel8Ideal.Value.Q m c, ?_, ?_⟩
  · refine (θ_run _ _ _).mono (fun r h c => ?_) (Cert.Kernel8Ideal.Value.run_blocks m g)
    obtain ⟨h0, h1, h2⟩ := h c
    exact ⟨h0.trans (Cert.Kernel8Ideal.Value.result m c), h1, h2⟩
  · refine (θ_run _ _ _).mono (fun r h c => ?_) (Cert.Reference8Ideal.Value.run m' g')
    obtain ⟨h0, h1, h2⟩ := h c
    obtain ⟨e0, e1⟩ := hargs c
    refine ⟨h0.trans ((Cert.Reference8Ideal.Read.val_main_v6_eq _ _).trans ?_), h1, h2⟩
    rw [e0, e1]
    exact Cert.Kernel8Ideal.Value.reads m c

theorem frame8 (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0) :=
  (θ_run _ _ _).mono (fun r h => ⟨fun c => (h c).2, sem_eq_zero_of_no_sems rfl r.2⟩) (Cert.Reference8Ideal.Value.run m g)

theorem algebraic9 : Cert.algebraic_Kernel9Ideal_Reference9Ideal := by
  intro m g m' g' _ hargs
  refine ⟨fun c => Cert.Kernel9Ideal.Value.Q m c, ?_, ?_⟩
  · refine (θ_run _ _ _).mono (fun r h c => ?_) (Cert.Kernel9Ideal.Value.run_blocks m g)
    obtain ⟨h0, h1, h2⟩ := h c
    exact ⟨h0.trans (Cert.Kernel9Ideal.Value.result m c), h1, h2⟩
  · refine (θ_run _ _ _).mono (fun r h c => ?_) (Cert.Reference9Ideal.Value.run m' g')
    obtain ⟨h0, h1, h2⟩ := h c
    obtain ⟨e0, e1⟩ := hargs c
    refine ⟨h0.trans ((Cert.Reference9Ideal.Read.val_main_v3_eq _ _).trans ?_), h1, h2⟩
    rw [e0, e1]
    exact Cert.Kernel9Ideal.Value.reads m c

theorem frame9 (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0) :=
  (θ_run _ _ _).mono (fun r h => ⟨fun c => (h c).2, sem_eq_zero_of_no_sems rfl r.2⟩) (Cert.Reference9Ideal.Value.run m g)

theorem algebraic10 : Cert.algebraic_Kernel10Ideal_Reference10Ideal := by
  intro m g m' g' _ hargs
  refine ⟨fun c => Cert.Kernel10Ideal.Value.Q m c, ?_, ?_⟩
  · refine (θ_run _ _ _).mono (fun r h c => ?_) (Cert.Kernel10Ideal.Value.run_blocks m g)
    obtain ⟨h0, h1, h2⟩ := h c
    exact ⟨h0.trans (Cert.Kernel10Ideal.Value.result m c), h1, h2⟩
  · refine (θ_run _ _ _).mono (fun r h c => ?_) (Cert.Reference10Ideal.Value.run m' g')
    obtain ⟨h0, h1, h2⟩ := h c
    obtain ⟨e0, e1⟩ := hargs c
    refine ⟨h0.trans ((Cert.Reference10Ideal.Read.val_main_v4_eq _ _).trans ?_), h1, h2⟩
    rw [e0, e1]
    exact Cert.Kernel10Ideal.Value.reads m c

theorem frame10 (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0) :=
  (θ_run _ _ _).mono (fun r h => ⟨fun c => (h c).2, sem_eq_zero_of_no_sems rfl r.2⟩) (Cert.Reference10Ideal.Value.run m g)

theorem algebraic11 : Cert.algebraic_Kernel11Ideal_Reference11Ideal := by
  intro m g m' g' _ hargs
  refine ⟨fun c => Cert.Kernel11Ideal.Value.Q m c, ?_, ?_⟩
  · refine (θ_run _ _ _).mono (fun r h c => ?_) (Cert.Kernel11Ideal.Value.run_blocks m g)
    obtain ⟨h0, h1, h2⟩ := h c
    exact ⟨h0.trans (Cert.Kernel11Ideal.Value.result m c), h1, h2⟩
  · refine (θ_run _ _ _).mono (fun r h c => ?_) (Cert.Reference11Ideal.Value.run m' g')
    obtain ⟨h0, h1, h2⟩ := h c
    obtain ⟨e0, e1⟩ := hargs c
    refine ⟨h0.trans ((Cert.Reference11Ideal.Read.val_main_v3_eq _ _).trans ?_), h1, h2⟩
    rw [e0, e1]
    exact Cert.Kernel11Ideal.Value.reads m c

theorem frame11 (m : (ℓ : Loc Cert.Reference11Ideal.nD Cert.Reference11Ideal.τ Cert.Reference11Ideal.sig) → Buf (Elt Ideal) ℓ) (g : Dev Cert.Reference11Ideal.nD → PrngReg) :
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0) :=
  (θ_run _ _ _).mono (fun r h => ⟨fun c => (h c).2, sem_eq_zero_of_no_sems rfl r.2⟩) (Cert.Reference11Ideal.Value.run m g)

theorem algebraic12 : Cert.algebraic_Kernel12Ideal_Reference12Ideal := by
  intro m g m' g' _ hargs
  refine ⟨fun c => Cert.Kernel12Ideal.Value.Q m c, ?_, ?_⟩
  · refine (θ_run _ _ _).mono (fun r h c => ?_) (Cert.Kernel12Ideal.Value.run_blocks m g)
    obtain ⟨h0, h1, h2⟩ := h c
    exact ⟨h0.trans (Cert.Kernel12Ideal.Value.result m c), h1, h2⟩
  · refine (θ_run _ _ _).mono (fun r h c => ?_) (Cert.Reference12Ideal.Value.run m' g')
    obtain ⟨h0, h1, h2⟩ := h c
    obtain ⟨e0, e1⟩ := hargs c
    refine ⟨h0.trans ((Cert.Reference12Ideal.Read.val_main_v5_eq _ _).trans ?_), h1, h2⟩
    rw [e0, e1]
    exact Cert.Kernel12Ideal.Value.reads m c

theorem frame12 (m : (ℓ : Loc Cert.Reference12Ideal.nD Cert.Reference12Ideal.τ Cert.Reference12Ideal.sig) → Buf (Elt Ideal) ℓ) (g : Dev Cert.Reference12Ideal.nD → PrngReg) :
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0) :=
  (θ_run _ _ _).mono (fun r h => ⟨fun c => (h c).2, sem_eq_zero_of_no_sems rfl r.2⟩) (Cert.Reference12Ideal.Value.run m g)

theorem algebraic13 : Cert.algebraic_Kernel13Ideal_Reference13Ideal := by
  intro m g m' g' _ hargs
  refine ⟨fun c => Cert.Kernel13Ideal.Value.Q m c, ?_, ?_⟩
  · refine (θ_run _ _ _).mono (fun r h c => ?_) (Cert.Kernel13Ideal.Value.run_blocks m g)
    obtain ⟨h0, h1, h2⟩ := h c
    exact ⟨h0.trans (Cert.Kernel13Ideal.Value.result m c), h1, h2⟩
  · refine (θ_run _ _ _).mono (fun r h c => ?_) (Cert.Reference13Ideal.Value.run m' g')
    obtain ⟨h0, h1, h2⟩ := h c
    obtain ⟨e0, e1⟩ := hargs c
    refine ⟨h0.trans ((Cert.Reference13Ideal.Read.val_main_v3_eq _ _).trans ?_), h1, h2⟩
    rw [e0, e1]
    exact Cert.Kernel13Ideal.Value.reads m c

theorem frame13 (m : (ℓ : Loc Cert.Reference13Ideal.nD Cert.Reference13Ideal.τ Cert.Reference13Ideal.sig) → Buf (Elt Ideal) ℓ) (g : Dev Cert.Reference13Ideal.nD → PrngReg) :
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0) :=
  (θ_run _ _ _).mono (fun r h => ⟨fun c => (h c).2, sem_eq_zero_of_no_sems rfl r.2⟩) (Cert.Reference13Ideal.Value.run m g)

theorem algebraic14 : Cert.algebraic_Kernel14Ideal_Reference14Ideal := by
  intro m g m' g' _ hargs
  refine ⟨fun c => Cert.Kernel14Ideal.Value.Q m c, ?_, ?_⟩
  · refine (θ_run _ _ _).mono (fun r h c => ?_) (Cert.Kernel14Ideal.Value.run_blocks m g)
    obtain ⟨h0, h1, h2⟩ := h c
    exact ⟨h0.trans (Cert.Kernel14Ideal.Value.result m c), h1, h2⟩
  · refine (θ_run _ _ _).mono (fun r h c => ?_) (Cert.Reference14Ideal.Value.run m' g')
    obtain ⟨h0, h1, h2⟩ := h c
    obtain ⟨e0, e1⟩ := hargs c
    refine ⟨h0.trans ((Cert.Reference14Ideal.Read.val_main_v5_eq _ _).trans ?_), h1, h2⟩
    rw [e0, e1]
    exact Cert.Kernel14Ideal.Value.reads m c

theorem frame14 (m : (ℓ : Loc Cert.Reference14Ideal.nD Cert.Reference14Ideal.τ Cert.Reference14Ideal.sig) → Buf (Elt Ideal) ℓ) (g : Dev Cert.Reference14Ideal.nD → PrngReg) :
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0) :=
  (θ_run _ _ _).mono (fun r h => ⟨fun c => (h c).2, sem_eq_zero_of_no_sems rfl r.2⟩) (Cert.Reference14Ideal.Value.run m g)

theorem algebraic15 : Cert.algebraic_Kernel15Ideal_Reference15Ideal := by
  intro m g m' g' _ hargs
  refine ⟨fun c => Cert.Kernel15Ideal.Value.Q m c, ?_, ?_⟩
  · refine (θ_run _ _ _).mono (fun r h c => ?_) (Cert.Kernel15Ideal.Value.run_blocks m g)
    obtain ⟨h0, h1, h2⟩ := h c
    exact ⟨h0.trans (Cert.Kernel15Ideal.Value.result m c), h1, h2⟩
  · refine (θ_run _ _ _).mono (fun r h c => ?_) (Cert.Reference15Ideal.Value.run m' g')
    obtain ⟨h0, h1, h2⟩ := h c
    obtain ⟨e0, e1⟩ := hargs c
    refine ⟨h0.trans ((Cert.Reference15Ideal.Read.val_main_v6_eq _ _).trans ?_), h1, h2⟩
    rw [e0, e1]
    exact Cert.Kernel15Ideal.Value.reads m c

theorem frame15 (m : (ℓ : Loc Cert.Reference15Ideal.nD Cert.Reference15Ideal.τ Cert.Reference15Ideal.sig) → Buf (Elt Ideal) ℓ) (g : Dev Cert.Reference15Ideal.nD → PrngReg) :
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0) :=
  (θ_run _ _ _).mono (fun r h => ⟨fun c => (h c).2, sem_eq_zero_of_no_sems rfl r.2⟩) (Cert.Reference15Ideal.Value.run m g)

theorem algebraic16 : Cert.algebraic_Kernel16Ideal_Reference16Ideal := by
  intro m g m' g' _ hargs
  refine ⟨fun c => Cert.Kernel16Ideal.Value.Q m c, ?_, ?_⟩
  · refine (θ_run _ _ _).mono (fun r h c => ?_) (Cert.Kernel16Ideal.Value.run_blocks m g)
    obtain ⟨h0, h1, h2, h3, h4, h5⟩ := h c
    exact ⟨h0.trans (Cert.Kernel16Ideal.Value.result m c), h1, h2, h3, h4, h5⟩
  · refine (θ_run _ _ _).mono (fun r h c => ?_) (Cert.Reference16Ideal.Value.run m' g')
    obtain ⟨h0, h1, h2, h3, h4, h5⟩ := h c
    obtain ⟨e0, e1, e2, e3, e4⟩ := hargs c
    refine ⟨h0.trans ((Cert.Reference16Ideal.Read.val_main_v14_eq _ _ _ _ _).trans ?_), h1, h2, h3, h4, h5⟩
    rw [e0, e1, e2, e3, e4]
    exact Cert.Kernel16Ideal.Value.reads m c

theorem frame16 (m : (ℓ : Loc Cert.Reference16Ideal.nD Cert.Reference16Ideal.τ Cert.Reference16Ideal.sig) → Buf (Elt Ideal) ℓ) (g : Dev Cert.Reference16Ideal.nD → PrngReg) :
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0) :=
  (θ_run _ _ _).mono (fun r h => ⟨fun c => (h c).2, sem_eq_zero_of_no_sems rfl r.2⟩) (Cert.Reference16Ideal.Value.run m g)

theorem algebraic20 : Cert.algebraic_Kernel20Ideal_Reference20Ideal := by
  intro m g m' g' _ hargs
  refine ⟨fun c => Cert.Kernel20Ideal.Value.Q m c, ?_, ?_⟩
  · refine (θ_run _ _ _).mono (fun r h c => ?_) (Cert.Kernel20Ideal.Value.run_blocks m g)
    obtain ⟨h0, h1, h2⟩ := h c
    exact ⟨h0.trans (Cert.Kernel20Ideal.Value.result m c), h1, h2⟩
  · refine (θ_run _ _ _).mono (fun r h c => ?_) (Cert.Reference20Ideal.Value.run m' g')
    obtain ⟨h0, h1, h2⟩ := h c
    obtain ⟨e0, e1⟩ := hargs c
    refine ⟨h0.trans ((Cert.Reference20Ideal.Read.val_main_v2_eq _ _).trans ?_), h1, h2⟩
    rw [e0, e1]
    exact Cert.Kernel20Ideal.Value.reads m c

theorem frame20 (m : (ℓ : Loc Cert.Reference20Ideal.nD Cert.Reference20Ideal.τ Cert.Reference20Ideal.sig) → Buf (Elt Ideal) ℓ) (g : Dev Cert.Reference20Ideal.nD → PrngReg) :
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0) :=
  (θ_run _ _ _).mono (fun r h => ⟨fun c => (h c).2, sem_eq_zero_of_no_sems rfl r.2⟩) (Cert.Reference20Ideal.Value.run m g)

theorem algebraic21 : Cert.algebraic_Kernel21Ideal_Reference21Ideal := by
  intro m g m' g' _ hargs
  refine ⟨fun c => Cert.Kernel21Ideal.Value.Q m c, ?_, ?_⟩
  · refine (θ_run _ _ _).mono (fun r h c => ?_) (Cert.Kernel21Ideal.Value.run_blocks m g)
    obtain ⟨h0, h1, h2⟩ := h c
    exact ⟨h0.trans (Cert.Kernel21Ideal.Value.result m c), h1, h2⟩
  · refine (θ_run _ _ _).mono (fun r h c => ?_) (Cert.Reference21Ideal.Value.run m' g')
    obtain ⟨h0, h1, h2⟩ := h c
    obtain ⟨e0, e1⟩ := hargs c
    refine ⟨h0.trans ((Cert.Reference21Ideal.Read.val_main_v5_eq _ _).trans ?_), h1, h2⟩
    rw [e0, e1]
    exact Cert.Kernel21Ideal.Value.reads m c

theorem frame21 (m : (ℓ : Loc Cert.Reference21Ideal.nD Cert.Reference21Ideal.τ Cert.Reference21Ideal.sig) → Buf (Elt Ideal) ℓ) (g : Dev Cert.Reference21Ideal.nD → PrngReg) :
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0) :=
  (θ_run _ _ _).mono (fun r h => ⟨fun c => (h c).2, sem_eq_zero_of_no_sems rfl r.2⟩) (Cert.Reference21Ideal.Value.run m g)

theorem algebraic22 : Cert.algebraic_Kernel22Ideal_Reference22Ideal := by
  intro m g m' g' _ hargs
  refine ⟨fun c => Cert.Kernel22Ideal.Value.Q m c, ?_, ?_⟩
  · refine (θ_run _ _ _).mono (fun r h c => ?_) (Cert.Kernel22Ideal.Value.run_blocks m g)
    obtain ⟨h0, h1, h2⟩ := h c
    exact ⟨h0.trans (Cert.Kernel22Ideal.Value.result m c), h1, h2⟩
  · refine (θ_run _ _ _).mono (fun r h c => ?_) (Cert.Reference22Ideal.Value.run m' g')
    obtain ⟨h0, h1, h2⟩ := h c
    obtain ⟨e0, e1⟩ := hargs c
    refine ⟨h0.trans ((Cert.Reference22Ideal.Read.val_main_v32_eq _ _).trans ?_), h1, h2⟩
    rw [e0, e1]
    exact Cert.Kernel22Ideal.Value.reads m c

theorem frame22 (m : (ℓ : Loc Cert.Reference22Ideal.nD Cert.Reference22Ideal.τ Cert.Reference22Ideal.sig) → Buf (Elt Ideal) ℓ) (g : Dev Cert.Reference22Ideal.nD → PrngReg) :
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0) :=
  (θ_run _ _ _).mono (fun r h => ⟨fun c => (h c).2, sem_eq_zero_of_no_sems rfl r.2⟩) (Cert.Reference22Ideal.Value.run m g)

theorem algebraic35 : Cert.algebraic_Kernel35Ideal_Reference35Ideal := by
  intro m g m' g' _ hargs
  refine ⟨fun c => Cert.Kernel35Ideal.Value.Q m c, ?_, ?_⟩
  · refine (θ_run _ _ _).mono (fun r h c => ?_) (Cert.Kernel35Ideal.Value.run_blocks m g)
    obtain ⟨h0, h1, h2⟩ := h c
    exact ⟨h0.trans (Cert.Kernel35Ideal.Value.result m c), h1, h2⟩
  · refine (θ_run _ _ _).mono (fun r h c => ?_) (Cert.Reference35Ideal.Value.run m' g')
    obtain ⟨h0, h1, h2⟩ := h c
    obtain ⟨e0, e1⟩ := hargs c
    refine ⟨h0.trans ((Cert.Reference35Ideal.Read.val_main_v12_eq _ _).trans ?_), h1, h2⟩
    rw [e0, e1]
    exact Cert.Kernel35Ideal.Value.reads m c

theorem frame35 (m : (ℓ : Loc Cert.Reference35Ideal.nD Cert.Reference35Ideal.τ Cert.Reference35Ideal.sig) → Buf (Elt Ideal) ℓ) (g : Dev Cert.Reference35Ideal.nD → PrngReg) :
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0) :=
  (θ_run _ _ _).mono (fun r h => ⟨fun c => (h c).2, sem_eq_zero_of_no_sems rfl r.2⟩) (Cert.Reference35Ideal.Value.run m g)

theorem algebraic36 : Cert.algebraic_Kernel36Ideal_Reference36Ideal := by
  intro m g m' g' _ hargs
  refine ⟨fun c => Cert.Kernel36Ideal.Value.Q m c, ?_, ?_⟩
  · refine (θ_run _ _ _).mono (fun r h c => ?_) (Cert.Kernel36Ideal.Value.run_blocks m g)
    obtain ⟨h0, h1⟩ := h c
    exact ⟨h0.trans (Cert.Kernel36Ideal.Value.result m c), h1⟩
  · refine (θ_run _ _ _).mono (fun r h c => ?_) (Cert.Reference36Ideal.Value.run m' g')
    obtain ⟨h0, h1⟩ := h c
    have e0 := hargs c
    refine ⟨h0.trans ((Cert.Reference36Ideal.Read.val_main_v2_eq _).trans ?_), h1⟩
    rw [e0]
    exact Cert.Kernel36Ideal.Value.reads m c

theorem frame36 (m : (ℓ : Loc Cert.Reference36Ideal.nD Cert.Reference36Ideal.τ Cert.Reference36Ideal.sig) → Buf (Elt Ideal) ℓ) (g : Dev Cert.Reference36Ideal.nD → PrngReg) :
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0))
      ∧ r.2.sem = fun _ => 0) :=
  (θ_run _ _ _).mono (fun r h => ⟨fun c => (h c).2, sem_eq_zero_of_no_sems rfl r.2⟩) (Cert.Reference36Ideal.Value.run m g)

theorem algebraic17 : Cert.algebraic_Kernel17Ideal_Reference17Ideal := by
  intro m g m' g' _ hargs
  refine ⟨fun c => Cert.Kernel17Ideal.Value.Y m c, fun c => Cert.Kernel17Ideal.Value.Z m c, ?_, ?_⟩
  · refine (θ_run _ _ _).mono (fun r h c => ?_) (Cert.Kernel17Ideal.Value.run_blocks m g)
    obtain ⟨h0, h1, hs⟩ := h c
    exact ⟨h0.trans (Cert.Kernel17Ideal.Value.result4 m c), h1.trans (Cert.Kernel17Ideal.Value.result5 m c), hs⟩
  · refine (θ_run _ _ _).mono (fun r h c => ?_) (Cert.Reference17Ideal.Value.run m' g')
    obtain ⟨h0, h1, hs⟩ := h c
    obtain ⟨e0, e1, e2, e3⟩ := hargs c
    refine ⟨h0.trans ((Cert.Reference17Ideal.Read.val_main_v3_eq _ _ _).trans ?_), h1.trans ((Cert.Reference17Ideal.Read.val_main_v16_eq _ _ _ _).trans ?_), hs⟩
    · rw [e0, e1, e2]
      exact Cert.Kernel17Ideal.Value.reads4 m c
    · rw [e0, e1, e2, e3]
      exact Cert.Kernel17Ideal.Value.reads5 m c

theorem frame17 (m : (ℓ : Loc Cert.Reference17Ideal.nD Cert.Reference17Ideal.τ Cert.Reference17Ideal.sig) → Buf (Elt Ideal) ℓ) (g : Dev Cert.Reference17Ideal.nD → PrngReg) :
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0) :=
  (θ_run _ _ _).mono (fun r h => ⟨fun c => (h c).2.2, sem_eq_zero_of_no_sems rfl r.2⟩) (Cert.Reference17Ideal.Value.run m g)

theorem algebraic18 : Cert.algebraic_Kernel18Ideal_Reference18Ideal := by
  intro m g m' g' _ hargs
  refine ⟨fun c => Cert.Kernel18Ideal.Value.Y m c, fun c => Cert.Kernel18Ideal.Value.Z m c, ?_, ?_⟩
  · refine (θ_run _ _ _).mono (fun r h c => ?_) (Cert.Kernel18Ideal.Value.run_blocks m g)
    obtain ⟨h0, h1, hs⟩ := h c
    exact ⟨h0.trans (Cert.Kernel18Ideal.Value.result4 m c), h1.trans (Cert.Kernel18Ideal.Value.result5 m c), hs⟩
  · refine (θ_run _ _ _).mono (fun r h c => ?_) (Cert.Reference18Ideal.Value.run m' g')
    obtain ⟨h0, h1, hs⟩ := h c
    obtain ⟨e0, e1, e2, e3⟩ := hargs c
    refine ⟨h0.trans ((Cert.Reference18Ideal.Read.val_main_v3_eq _ _ _).trans ?_), h1.trans ((Cert.Reference18Ideal.Read.val_main_v16_eq _ _ _ _).trans ?_), hs⟩
    · rw [e0, e1, e2]
      exact Cert.Kernel18Ideal.Value.reads4 m c
    · rw [e0, e1, e2, e3]
      exact Cert.Kernel18Ideal.Value.reads5 m c

theorem frame18 (m : (ℓ : Loc Cert.Reference18Ideal.nD Cert.Reference18Ideal.τ Cert.Reference18Ideal.sig) → Buf (Elt Ideal) ℓ) (g : Dev Cert.Reference18Ideal.nD → PrngReg) :
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0) :=
  (θ_run _ _ _).mono (fun r h => ⟨fun c => (h c).2.2, sem_eq_zero_of_no_sems rfl r.2⟩) (Cert.Reference18Ideal.Value.run m g)

theorem algebraic19 : Cert.algebraic_Kernel19Ideal_Reference19Ideal := by
  intro m g m' g' _ hargs
  refine ⟨fun c => Cert.Kernel19Ideal.Value.Y m c, fun c => Cert.Kernel19Ideal.Value.Z m c, ?_, ?_⟩
  · refine (θ_run _ _ _).mono (fun r h c => ?_) (Cert.Kernel19Ideal.Value.run_blocks m g)
    obtain ⟨h0, h1, hs⟩ := h c
    exact ⟨h0.trans (Cert.Kernel19Ideal.Value.result4 m c), h1.trans (Cert.Kernel19Ideal.Value.result5 m c), hs⟩
  · refine (θ_run _ _ _).mono (fun r h c => ?_) (Cert.Reference19Ideal.Value.run m' g')
    obtain ⟨h0, h1, hs⟩ := h c
    obtain ⟨e0, e1, e2, e3⟩ := hargs c
    refine ⟨h0.trans ((Cert.Reference19Ideal.Read.val_main_v18_eq _ _ _ _).trans ?_), h1.trans ((Cert.Reference19Ideal.Read.val_main_v19_eq _ _ _ _).trans ?_), hs⟩
    · rw [e0, e1, e2, e3]
      exact Cert.Kernel19Ideal.Value.reads4 m c
    · rw [e0, e1, e2, e3]
      exact Cert.Kernel19Ideal.Value.reads5 m c

theorem frame19 (m : (ℓ : Loc Cert.Reference19Ideal.nD Cert.Reference19Ideal.τ Cert.Reference19Ideal.sig) → Buf (Elt Ideal) ℓ) (g : Dev Cert.Reference19Ideal.nD → PrngReg) :
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0) :=
  (θ_run _ _ _).mono (fun r h => ⟨fun c => (h c).2.2, sem_eq_zero_of_no_sems rfl r.2⟩) (Cert.Reference19Ideal.Value.run m g)

theorem algebraic23 : Cert.algebraic_Kernel23Ideal_Reference23Ideal := by
  intro m g m' g' _ hargs
  refine ⟨fun c => Cert.Kernel23Ideal.Value.Y m c, fun c => Cert.Kernel23Ideal.Value.Z m c, ?_, ?_⟩
  · refine (θ_run _ _ _).mono (fun r h c => ?_) (Cert.Kernel23Ideal.Value.run_blocks m g)
    obtain ⟨h0, h1, hs⟩ := h c
    exact ⟨h0.trans (Cert.Kernel23Ideal.Value.result4 m c), h1.trans (Cert.Kernel23Ideal.Value.result5 m c), hs⟩
  · refine (θ_run _ _ _).mono (fun r h c => ?_) (Cert.Reference23Ideal.Value.run m' g')
    obtain ⟨h0, h1, hs⟩ := h c
    obtain ⟨e0, e1, e2, e3, e4, e5, e6, e7⟩ := hargs c
    refine ⟨h0.trans ((Cert.Reference23Ideal.Read.val_main_v49_eq m' c).trans ?_), h1.trans ((Cert.Reference23Ideal.Read.val_main_v32_eq _ _ _ _ _ _).trans ?_), hs⟩
    · rw [e0, e1, e2, e3, e4, e5, e6, e7]
      exact Cert.Kernel23Ideal.Value.reads4 m c
    · rw [e0, e1, e2, e3, e4, e5]
      exact Cert.Kernel23Ideal.Value.reads5 m c

theorem frame23 (m : (ℓ : Loc Cert.Reference23Ideal.nD Cert.Reference23Ideal.τ Cert.Reference23Ideal.sig) → Buf (Elt Ideal) ℓ) (g : Dev Cert.Reference23Ideal.nD → PrngReg) :
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7))
      ∧ r.2.sem = fun _ => 0) :=
  (θ_run _ _ _).mono (fun r h => ⟨fun c => (h c).2.2, sem_eq_zero_of_no_sems rfl r.2⟩) (Cert.Reference23Ideal.Value.run m g)

theorem algebraic24 : Cert.algebraic_Kernel24Ideal_Reference24Ideal := by
  intro m g m' g' _ hargs
  refine ⟨fun c => Cert.Kernel24Ideal.Value.Y m c, fun c => Cert.Kernel24Ideal.Value.Z m c, ?_, ?_⟩
  · refine (θ_run _ _ _).mono (fun r h c => ?_) (Cert.Kernel24Ideal.Value.run_blocks m g)
    obtain ⟨h0, h1, hs⟩ := h c
    exact ⟨h0.trans (Cert.Kernel24Ideal.Value.result4 m c), h1.trans (Cert.Kernel24Ideal.Value.result5 m c), hs⟩
  · refine (θ_run _ _ _).mono (fun r h c => ?_) (Cert.Reference24Ideal.Value.run m' g')
    obtain ⟨h0, h1, hs⟩ := h c
    obtain ⟨e0, e1, e2, e3⟩ := hargs c
    refine ⟨h0.trans ((Cert.Reference24Ideal.Read.val_main_v34_eq _ _ _ _).trans ?_), h1.trans ((Cert.Reference24Ideal.Read.val_main_v17_eq _ _).trans ?_), hs⟩
    · rw [e0, e1, e2, e3]
      exact Cert.Kernel24Ideal.Value.reads4 m c
    · rw [e0, e1]
      exact Cert.Kernel24Ideal.Value.reads5 m c

theorem frame24 (m : (ℓ : Loc Cert.Reference24Ideal.nD Cert.Reference24Ideal.τ Cert.Reference24Ideal.sig) → Buf (Elt Ideal) ℓ) (g : Dev Cert.Reference24Ideal.nD → PrngReg) :
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0) :=
  (θ_run _ _ _).mono (fun r h => ⟨fun c => (h c).2.2, sem_eq_zero_of_no_sems rfl r.2⟩) (Cert.Reference24Ideal.Value.run m g)

theorem algebraic25 : Cert.algebraic_Kernel25Ideal_Reference25Ideal := by
  intro m g m' g' _ hargs
  refine ⟨fun c => Cert.Kernel25Ideal.Value.grad m c, fun c => Cert.Kernel25Ideal.Value.update m c, fun c => Cert.Kernel25Ideal.Value.first m c, fun c => Cert.Kernel25Ideal.Value.second m c, ?_, ?_⟩
  · refine (θ_run _ _ _).mono (fun r h c => ?_) (Cert.Kernel25Ideal.Value.run_blocks m g)
    obtain ⟨h0, h1, h2, h3, hs⟩ := h c
    exact ⟨h0.trans (Cert.Kernel25Ideal.Value.result4 m c), h1.trans (Cert.Kernel25Ideal.Value.result5 m c), h2.trans (Cert.Kernel25Ideal.Value.result6 m c), h3.trans (Cert.Kernel25Ideal.Value.result7 m c), hs⟩
  · refine (θ_run _ _ _).mono (fun r h c => ?_) (Cert.Reference25Ideal.Value.run m' g')
    obtain ⟨h0, h1, h2, h3, hs⟩ := h c
    obtain ⟨e0, e1, e2, e3⟩ := hargs c
    refine ⟨h0.trans ((Cert.Reference25Ideal.Read.val_main_v2_eq _).trans ?_), h1.trans ((Cert.Reference25Ideal.Read.val_main_v26_eq _ _ _ _).trans ?_), h2.trans ((Cert.Reference25Ideal.Read.val_main_v7_eq _ _).trans ?_), h3.trans ((Cert.Reference25Ideal.Read.val_main_v13_eq _ _).trans ?_), hs⟩
    · rw [e3]
      exact Cert.Kernel25Ideal.Value.reads_grad m c
    · rw [e0, e1, e2, e3]
      exact Cert.Kernel25Ideal.Value.reads_update m c
    · rw [e1, e3]
      exact Cert.Kernel25Ideal.Value.reads_first m c
    · rw [e2, e3]
      exact Cert.Kernel25Ideal.Value.reads_second m c

theorem frame25 (m : (ℓ : Loc Cert.Reference25Ideal.nD Cert.Reference25Ideal.τ Cert.Reference25Ideal.sig) → Buf (Elt Ideal) ℓ) (g : Dev Cert.Reference25Ideal.nD → PrngReg) :
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0) :=
  (θ_run _ _ _).mono (fun r h => ⟨fun c => (h c).2.2.2.2, sem_eq_zero_of_no_sems rfl r.2⟩) (Cert.Reference25Ideal.Value.run m g)

theorem algebraic26 : Cert.algebraic_Kernel26Ideal_Reference26Ideal := by
  intro m g m' g' _ hargs
  refine ⟨fun c => Cert.Kernel26Ideal.Value.grad m c, fun c => Cert.Kernel26Ideal.Value.update m c, fun c => Cert.Kernel26Ideal.Value.first m c, fun c => Cert.Kernel26Ideal.Value.second m c, ?_, ?_⟩
  · refine (θ_run _ _ _).mono (fun r h c => ?_) (Cert.Kernel26Ideal.Value.run_blocks m g)
    obtain ⟨h0, h1, h2, h3, hs⟩ := h c
    exact ⟨h0.trans (Cert.Kernel26Ideal.Value.result4 m c), h1.trans (Cert.Kernel26Ideal.Value.result5 m c), h2.trans (Cert.Kernel26Ideal.Value.result6 m c), h3.trans (Cert.Kernel26Ideal.Value.result7 m c), hs⟩
  · refine (θ_run _ _ _).mono (fun r h c => ?_) (Cert.Reference26Ideal.Value.run m' g')
    obtain ⟨h0, h1, h2, h3, hs⟩ := h c
    obtain ⟨e0, e1, e2, e3⟩ := hargs c
    refine ⟨h0.trans ((Cert.Reference26Ideal.Read.val_main_v2_eq _).trans ?_), h1.trans ((Cert.Reference26Ideal.Read.val_main_v26_eq _ _ _ _).trans ?_), h2.trans ((Cert.Reference26Ideal.Read.val_main_v7_eq _ _).trans ?_), h3.trans ((Cert.Reference26Ideal.Read.val_main_v13_eq _ _).trans ?_), hs⟩
    · rw [e3]
      exact Cert.Kernel26Ideal.Value.reads_grad m c
    · rw [e0, e1, e2, e3]
      exact Cert.Kernel26Ideal.Value.reads_update m c
    · rw [e1, e3]
      exact Cert.Kernel26Ideal.Value.reads_first m c
    · rw [e2, e3]
      exact Cert.Kernel26Ideal.Value.reads_second m c

theorem frame26 (m : (ℓ : Loc Cert.Reference26Ideal.nD Cert.Reference26Ideal.τ Cert.Reference26Ideal.sig) → Buf (Elt Ideal) ℓ) (g : Dev Cert.Reference26Ideal.nD → PrngReg) :
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0) :=
  (θ_run _ _ _).mono (fun r h => ⟨fun c => (h c).2.2.2.2, sem_eq_zero_of_no_sems rfl r.2⟩) (Cert.Reference26Ideal.Value.run m g)

theorem algebraic27 : Cert.algebraic_Kernel27Ideal_Reference27Ideal := by
  intro m g m' g' _ hargs
  refine ⟨fun c => Cert.Kernel27Ideal.Value.grad m c, fun c => Cert.Kernel27Ideal.Value.update m c, fun c => Cert.Kernel27Ideal.Value.first m c, fun c => Cert.Kernel27Ideal.Value.second m c, ?_, ?_⟩
  · refine (θ_run _ _ _).mono (fun r h c => ?_) (Cert.Kernel27Ideal.Value.run_blocks m g)
    obtain ⟨h0, h1, h2, h3, hs⟩ := h c
    exact ⟨h0.trans (Cert.Kernel27Ideal.Value.result4 m c), h1.trans (Cert.Kernel27Ideal.Value.result5 m c), h2.trans (Cert.Kernel27Ideal.Value.result6 m c), h3.trans (Cert.Kernel27Ideal.Value.result7 m c), hs⟩
  · refine (θ_run _ _ _).mono (fun r h c => ?_) (Cert.Reference27Ideal.Value.run m' g')
    obtain ⟨h0, h1, h2, h3, hs⟩ := h c
    obtain ⟨e0, e1, e2, e3⟩ := hargs c
    refine ⟨h0.trans ((Cert.Reference27Ideal.Read.val_main_v2_eq _).trans ?_), h1.trans ((Cert.Reference27Ideal.Read.val_main_v26_eq _ _ _ _).trans ?_), h2.trans ((Cert.Reference27Ideal.Read.val_main_v7_eq _ _).trans ?_), h3.trans ((Cert.Reference27Ideal.Read.val_main_v13_eq _ _).trans ?_), hs⟩
    · rw [e3]
      exact Cert.Kernel27Ideal.Value.reads_grad m c
    · rw [e0, e1, e2, e3]
      exact Cert.Kernel27Ideal.Value.reads_update m c
    · rw [e1, e3]
      exact Cert.Kernel27Ideal.Value.reads_first m c
    · rw [e2, e3]
      exact Cert.Kernel27Ideal.Value.reads_second m c

theorem frame27 (m : (ℓ : Loc Cert.Reference27Ideal.nD Cert.Reference27Ideal.τ Cert.Reference27Ideal.sig) → Buf (Elt Ideal) ℓ) (g : Dev Cert.Reference27Ideal.nD → PrngReg) :
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0) :=
  (θ_run _ _ _).mono (fun r h => ⟨fun c => (h c).2.2.2.2, sem_eq_zero_of_no_sems rfl r.2⟩) (Cert.Reference27Ideal.Value.run m g)

theorem algebraic28 : Cert.algebraic_Kernel28Ideal_Reference28Ideal := by
  intro m g m' g' _ hargs
  refine ⟨fun c => Cert.Kernel28Ideal.Value.grad m c, fun c => Cert.Kernel28Ideal.Value.update m c, fun c => Cert.Kernel28Ideal.Value.first m c, fun c => Cert.Kernel28Ideal.Value.second m c, ?_, ?_⟩
  · refine (θ_run _ _ _).mono (fun r h c => ?_) (Cert.Kernel28Ideal.Value.run_blocks m g)
    obtain ⟨h0, h1, h2, h3, hs⟩ := h c
    exact ⟨h0.trans (Cert.Kernel28Ideal.Value.result4 m c), h1.trans (Cert.Kernel28Ideal.Value.result5 m c), h2.trans (Cert.Kernel28Ideal.Value.result6 m c), h3.trans (Cert.Kernel28Ideal.Value.result7 m c), hs⟩
  · refine (θ_run _ _ _).mono (fun r h c => ?_) (Cert.Reference28Ideal.Value.run m' g')
    obtain ⟨h0, h1, h2, h3, hs⟩ := h c
    obtain ⟨e0, e1, e2, e3⟩ := hargs c
    refine ⟨h0.trans ((Cert.Reference28Ideal.Read.val_main_v2_eq _).trans ?_), h1.trans ((Cert.Reference28Ideal.Read.val_main_v26_eq _ _ _ _).trans ?_), h2.trans ((Cert.Reference28Ideal.Read.val_main_v7_eq _ _).trans ?_), h3.trans ((Cert.Reference28Ideal.Read.val_main_v13_eq _ _).trans ?_), hs⟩
    · rw [e3]
      exact Cert.Kernel28Ideal.Value.reads_grad m c
    · rw [e0, e1, e2, e3]
      exact Cert.Kernel28Ideal.Value.reads_update m c
    · rw [e1, e3]
      exact Cert.Kernel28Ideal.Value.reads_first m c
    · rw [e2, e3]
      exact Cert.Kernel28Ideal.Value.reads_second m c

theorem frame28 (m : (ℓ : Loc Cert.Reference28Ideal.nD Cert.Reference28Ideal.τ Cert.Reference28Ideal.sig) → Buf (Elt Ideal) ℓ) (g : Dev Cert.Reference28Ideal.nD → PrngReg) :
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0) :=
  (θ_run _ _ _).mono (fun r h => ⟨fun c => (h c).2.2.2.2, sem_eq_zero_of_no_sems rfl r.2⟩) (Cert.Reference28Ideal.Value.run m g)

theorem algebraic29 : Cert.algebraic_Kernel29Ideal_Reference29Ideal := by
  intro m g m' g' _ hargs
  refine ⟨fun c => Cert.Kernel29Ideal.Value.grad m c, fun c => Cert.Kernel29Ideal.Value.update m c, fun c => Cert.Kernel29Ideal.Value.first m c, fun c => Cert.Kernel29Ideal.Value.second m c, ?_, ?_⟩
  · refine (θ_run _ _ _).mono (fun r h c => ?_) (Cert.Kernel29Ideal.Value.run_blocks m g)
    obtain ⟨h0, h1, h2, h3, hs⟩ := h c
    exact ⟨h0.trans (Cert.Kernel29Ideal.Value.result4 m c), h1.trans (Cert.Kernel29Ideal.Value.result5 m c), h2.trans (Cert.Kernel29Ideal.Value.result6 m c), h3.trans (Cert.Kernel29Ideal.Value.result7 m c), hs⟩
  · refine (θ_run _ _ _).mono (fun r h c => ?_) (Cert.Reference29Ideal.Value.run m' g')
    obtain ⟨h0, h1, h2, h3, hs⟩ := h c
    obtain ⟨e0, e1, e2, e3⟩ := hargs c
    refine ⟨h0.trans ((Cert.Reference29Ideal.Read.val_main_v1_eq _).trans ?_), h1.trans ((Cert.Reference29Ideal.Read.val_main_v25_eq _ _ _ _).trans ?_), h2.trans ((Cert.Reference29Ideal.Read.val_main_v6_eq _ _).trans ?_), h3.trans ((Cert.Reference29Ideal.Read.val_main_v12_eq _ _).trans ?_), hs⟩
    · rw [e3]
      exact Cert.Kernel29Ideal.Value.reads_grad m c
    · rw [e0, e1, e2, e3]
      exact Cert.Kernel29Ideal.Value.reads_update m c
    · rw [e1, e3]
      exact Cert.Kernel29Ideal.Value.reads_first m c
    · rw [e2, e3]
      exact Cert.Kernel29Ideal.Value.reads_second m c

theorem frame29 (m : (ℓ : Loc Cert.Reference29Ideal.nD Cert.Reference29Ideal.τ Cert.Reference29Ideal.sig) → Buf (Elt Ideal) ℓ) (g : Dev Cert.Reference29Ideal.nD → PrngReg) :
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0) :=
  (θ_run _ _ _).mono (fun r h => ⟨fun c => (h c).2.2.2.2, sem_eq_zero_of_no_sems rfl r.2⟩) (Cert.Reference29Ideal.Value.run m g)

theorem algebraic30 : Cert.algebraic_Kernel30Ideal_Reference30Ideal := by
  intro m g m' g' _ hargs
  refine ⟨fun c => Cert.Kernel30Ideal.Value.grad m c, fun c => Cert.Kernel30Ideal.Value.update m c, fun c => Cert.Kernel30Ideal.Value.first m c, fun c => Cert.Kernel30Ideal.Value.second m c, ?_, ?_⟩
  · refine (θ_run _ _ _).mono (fun r h c => ?_) (Cert.Kernel30Ideal.Value.run_blocks m g)
    obtain ⟨h0, h1, h2, h3, hs⟩ := h c
    exact ⟨h0.trans (Cert.Kernel30Ideal.Value.result4 m c), h1.trans (Cert.Kernel30Ideal.Value.result5 m c), h2.trans (Cert.Kernel30Ideal.Value.result6 m c), h3.trans (Cert.Kernel30Ideal.Value.result7 m c), hs⟩
  · refine (θ_run _ _ _).mono (fun r h c => ?_) (Cert.Reference30Ideal.Value.run m' g')
    obtain ⟨h0, h1, h2, h3, hs⟩ := h c
    obtain ⟨e0, e1, e2, e3⟩ := hargs c
    refine ⟨h0.trans ((Cert.Reference30Ideal.Read.val_main_v1_eq _).trans ?_), h1.trans ((Cert.Reference30Ideal.Read.val_main_v25_eq _ _ _ _).trans ?_), h2.trans ((Cert.Reference30Ideal.Read.val_main_v6_eq _ _).trans ?_), h3.trans ((Cert.Reference30Ideal.Read.val_main_v12_eq _ _).trans ?_), hs⟩
    · rw [e3]
      exact Cert.Kernel30Ideal.Value.reads_grad m c
    · rw [e0, e1, e2, e3]
      exact Cert.Kernel30Ideal.Value.reads_update m c
    · rw [e1, e3]
      exact Cert.Kernel30Ideal.Value.reads_first m c
    · rw [e2, e3]
      exact Cert.Kernel30Ideal.Value.reads_second m c

theorem frame30 (m : (ℓ : Loc Cert.Reference30Ideal.nD Cert.Reference30Ideal.τ Cert.Reference30Ideal.sig) → Buf (Elt Ideal) ℓ) (g : Dev Cert.Reference30Ideal.nD → PrngReg) :
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0) :=
  (θ_run _ _ _).mono (fun r h => ⟨fun c => (h c).2.2.2.2, sem_eq_zero_of_no_sems rfl r.2⟩) (Cert.Reference30Ideal.Value.run m g)

theorem algebraic31 : Cert.algebraic_Kernel31Ideal_Reference31Ideal := by
  intro m g m' g' _ hargs
  refine ⟨fun c => Cert.Kernel31Ideal.Value.grad m c, fun c => Cert.Kernel31Ideal.Value.update m c, fun c => Cert.Kernel31Ideal.Value.first m c, fun c => Cert.Kernel31Ideal.Value.second m c, ?_, ?_⟩
  · refine (θ_run _ _ _).mono (fun r h c => ?_) (Cert.Kernel31Ideal.Value.run_blocks m g)
    obtain ⟨h0, h1, h2, h3, hs⟩ := h c
    exact ⟨h0.trans (Cert.Kernel31Ideal.Value.result5 m c), h1.trans (Cert.Kernel31Ideal.Value.result6 m c), h2.trans (Cert.Kernel31Ideal.Value.result7 m c), h3.trans (Cert.Kernel31Ideal.Value.result8 m c), hs⟩
  · refine (θ_run _ _ _).mono (fun r h c => ?_) (Cert.Reference31Ideal.Value.run m' g')
    obtain ⟨h0, h1, h2, h3, hs⟩ := h c
    obtain ⟨e0, e1, e2, e3, e4⟩ := hargs c
    refine ⟨h0.trans ((Cert.Reference31Ideal.Read.val_main_v6_eq _ _).trans ?_), h1.trans ((Cert.Reference31Ideal.Read.val_main_v30_eq _ _ _ _ _).trans ?_), h2.trans ((Cert.Reference31Ideal.Read.val_main_v11_eq _ _ _).trans ?_), h3.trans ((Cert.Reference31Ideal.Read.val_main_v17_eq _ _ _).trans ?_), hs⟩
    · rw [e3, e4]
      exact Cert.Kernel31Ideal.Value.reads_grad m c
    · rw [e0, e1, e2, e3, e4]
      exact Cert.Kernel31Ideal.Value.reads_update m c
    · rw [e1, e3, e4]
      exact Cert.Kernel31Ideal.Value.reads_first m c
    · rw [e2, e3, e4]
      exact Cert.Kernel31Ideal.Value.reads_second m c

theorem frame31 (m : (ℓ : Loc Cert.Reference31Ideal.nD Cert.Reference31Ideal.τ Cert.Reference31Ideal.sig) → Buf (Elt Ideal) ℓ) (g : Dev Cert.Reference31Ideal.nD → PrngReg) :
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0) :=
  (θ_run _ _ _).mono (fun r h => ⟨fun c => (h c).2.2.2.2, sem_eq_zero_of_no_sems rfl r.2⟩) (Cert.Reference31Ideal.Value.run m g)

theorem algebraic32 : Cert.algebraic_Kernel32Ideal_Reference32Ideal := by
  intro m g m' g' _ hargs
  refine ⟨fun c => Cert.Kernel32Ideal.Value.grad m c, fun c => Cert.Kernel32Ideal.Value.update m c, fun c => Cert.Kernel32Ideal.Value.first m c, fun c => Cert.Kernel32Ideal.Value.second m c, ?_, ?_⟩
  · refine (θ_run _ _ _).mono (fun r h c => ?_) (Cert.Kernel32Ideal.Value.run_blocks m g)
    obtain ⟨h0, h1, h2, h3, hs⟩ := h c
    exact ⟨h0.trans (Cert.Kernel32Ideal.Value.result5 m c), h1.trans (Cert.Kernel32Ideal.Value.result6 m c), h2.trans (Cert.Kernel32Ideal.Value.result7 m c), h3.trans (Cert.Kernel32Ideal.Value.result8 m c), hs⟩
  · refine (θ_run _ _ _).mono (fun r h c => ?_) (Cert.Reference32Ideal.Value.run m' g')
    obtain ⟨h0, h1, h2, h3, hs⟩ := h c
    obtain ⟨e0, e1, e2, e3, e4⟩ := hargs c
    refine ⟨h0.trans ((Cert.Reference32Ideal.Read.val_main_v6_eq _ _).trans ?_), h1.trans ((Cert.Reference32Ideal.Read.val_main_v30_eq _ _ _ _ _).trans ?_), h2.trans ((Cert.Reference32Ideal.Read.val_main_v11_eq _ _ _).trans ?_), h3.trans ((Cert.Reference32Ideal.Read.val_main_v17_eq _ _ _).trans ?_), hs⟩
    · rw [e3, e4]
      exact Cert.Kernel32Ideal.Value.reads_grad m c
    · rw [e0, e1, e2, e3, e4]
      exact Cert.Kernel32Ideal.Value.reads_update m c
    · rw [e1, e3, e4]
      exact Cert.Kernel32Ideal.Value.reads_first m c
    · rw [e2, e3, e4]
      exact Cert.Kernel32Ideal.Value.reads_second m c

theorem frame32 (m : (ℓ : Loc Cert.Reference32Ideal.nD Cert.Reference32Ideal.τ Cert.Reference32Ideal.sig) → Buf (Elt Ideal) ℓ) (g : Dev Cert.Reference32Ideal.nD → PrngReg) :
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4))
      ∧ r.2.sem = fun _ => 0) :=
  (θ_run _ _ _).mono (fun r h => ⟨fun c => (h c).2.2.2.2, sem_eq_zero_of_no_sems rfl r.2⟩) (Cert.Reference32Ideal.Value.run m g)

theorem algebraic33 : Cert.algebraic_Kernel33Ideal_Reference33Ideal := by
  intro m g m' g' _ hargs
  refine ⟨fun c => Cert.Kernel33Ideal.Value.grad m c, fun c => Cert.Kernel33Ideal.Value.update m c, fun c => Cert.Kernel33Ideal.Value.first m c, fun c => Cert.Kernel33Ideal.Value.second m c, ?_, ?_⟩
  · refine (θ_run _ _ _).mono (fun r h c => ?_) (Cert.Kernel33Ideal.Value.run_blocks m g)
    obtain ⟨h0, h1, h2, h3, hs⟩ := h c
    exact ⟨h0.trans (Cert.Kernel33Ideal.Value.result5 m c), h1.trans (Cert.Kernel33Ideal.Value.result6 m c), h2.trans (Cert.Kernel33Ideal.Value.result7 m c), h3.trans (Cert.Kernel33Ideal.Value.result8 m c), hs⟩
  · refine (θ_run _ _ _).mono (fun r h c => ?_) (Cert.Reference33Ideal.Value.run m' g')
    obtain ⟨h0, h1, h2, h3, hs⟩ := h c
    obtain ⟨e0, e1, e2, e3, e4⟩ := hargs c
    refine ⟨h0.trans ((Cert.Reference33Ideal.Read.val_main_v4_eq _ _).trans ?_), h1.trans ((Cert.Reference33Ideal.Read.val_main_v28_eq _ _ _ _ _).trans ?_), h2.trans ((Cert.Reference33Ideal.Read.val_main_v9_eq _ _ _).trans ?_), h3.trans ((Cert.Reference33Ideal.Read.val_main_v15_eq _ _ _).trans ?_), hs⟩
    · rw [e3, e4]
      exact Cert.Kernel33Ideal.Value.reads_grad m c
    · rw [e0, e1, e2, e3, e4]
      exact Cert.Kernel33Ideal.Value.reads_update m c
    · rw [e1, e3, e4]
      exact Cert.Kernel33Ideal.Value.reads_first m c
    · rw [e2, e3, e4]
      exact Cert.Kernel33Ideal.Value.reads_second m c

theorem frame33 (m : (ℓ : Loc Cert.Reference33Ideal.nD Cert.Reference33Ideal.τ Cert.Reference33Ideal.sig) → Buf (Elt Ideal) ℓ) (g : Dev Cert.Reference33Ideal.nD → PrngReg) :
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4))
      ∧ r.2.sem = fun _ => 0) :=
  (θ_run _ _ _).mono (fun r h => ⟨fun c => (h c).2.2.2.2, sem_eq_zero_of_no_sems rfl r.2⟩) (Cert.Reference33Ideal.Value.run m g)

theorem algebraic34 : Cert.algebraic_Kernel34Ideal_Reference34Ideal := by
  intro m g m' g' _ hargs
  refine ⟨fun c => Cert.Kernel34Ideal.Value.grad m c, fun c => Cert.Kernel34Ideal.Value.update m c, fun c => Cert.Kernel34Ideal.Value.first m c, fun c => Cert.Kernel34Ideal.Value.second m c, ?_, ?_⟩
  · refine (θ_run _ _ _).mono (fun r h c => ?_) (Cert.Kernel34Ideal.Value.run_blocks m g)
    obtain ⟨h0, h1, h2, h3, hs⟩ := h c
    exact ⟨h0.trans (Cert.Kernel34Ideal.Value.result5 m c), h1.trans (Cert.Kernel34Ideal.Value.result6 m c), h2.trans (Cert.Kernel34Ideal.Value.result7 m c), h3.trans (Cert.Kernel34Ideal.Value.result8 m c), hs⟩
  · refine (θ_run _ _ _).mono (fun r h c => ?_) (Cert.Reference34Ideal.Value.run m' g')
    obtain ⟨h0, h1, h2, h3, hs⟩ := h c
    obtain ⟨e0, e1, e2, e3, e4⟩ := hargs c
    refine ⟨h0.trans ((Cert.Reference34Ideal.Read.val_main_v4_eq _ _).trans ?_), h1.trans ((Cert.Reference34Ideal.Read.val_main_v28_eq _ _ _ _ _).trans ?_), h2.trans ((Cert.Reference34Ideal.Read.val_main_v9_eq _ _ _).trans ?_), h3.trans ((Cert.Reference34Ideal.Read.val_main_v15_eq _ _ _).trans ?_), hs⟩
    · rw [e3, e4]
      exact Cert.Kernel34Ideal.Value.reads_grad m c
    · rw [e0, e1, e2, e3, e4]
      exact Cert.Kernel34Ideal.Value.reads_update m c
    · rw [e1, e3, e4]
      exact Cert.Kernel34Ideal.Value.reads_first m c
    · rw [e2, e3, e4]
      exact Cert.Kernel34Ideal.Value.reads_second m c

theorem frame34 (m : (ℓ : Loc Cert.Reference34Ideal.nD Cert.Reference34Ideal.τ Cert.Reference34Ideal.sig) → Buf (Elt Ideal) ℓ) (g : Dev Cert.Reference34Ideal.nD → PrngReg) :
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4))
      ∧ r.2.sem = fun _ => 0) :=
  (θ_run _ _ _).mono (fun r h => ⟨fun c => (h c).2.2.2.2, sem_eq_zero_of_no_sems rfl r.2⟩) (Cert.Reference34Ideal.Value.run m g)

end Cert.Products

end
-- ==== Proof.Finite.lean ====
module

public import proofs.«01_k».proof.Defs
public import proofs.«01_k».proof.Proof.Gen.ReferenceIdeal
public import Idealize.ShloMosaic.Lib.Pointwise
public import Idealize.ShloMosaic.Lib.Pipeline.ValueKit

/-! What the precondition says: every element is a real number. -/

@[expose] public section

set_option maxRecDepth 16384

noncomputable section
open Idealize.ShloMosaic Idealize.ShloMosaic.TcCoe Idealize.SL.Sem
namespace Cert.Finite

theorem facts : Cert.Pre_finite.Facts where
  bcast_S_S4096x2048 := by decide
  bcast_S_S4096x8192 := by decide
  bcast_S_S3x2048 := by decide

/-- The comparison's bit at an element. -/
theorem real_of_bit (x : EReal) (h : (BitVec.ofBool (decide (Ideal.ofBits .f32 0xFF800000#32 < x)) &&& BitVec.ofBool (decide (x < Ideal.ofBits .f32 0x7F800000#32))) = 1#1) :
    ∃ r : ℝ, x = r := by
  have hb : Ideal.ofBits .f32 0xFF800000#32 = ⊥ := by simp [Ideal.ofBits, Ideal.ieee]
  have ht : Ideal.ofBits .f32 0x7F800000#32 = ⊤ := by simp [Ideal.ofBits, Ideal.ieee]
  rw [hb, ht] at h
  induction x with
  | bot => simp at h
  | top => simp at h
  | coe r => exact ⟨r, rfl⟩

theorem reals (a : FVec Ideal Cert.Pre_finite.S4096x2048 .f32) (b : FVec Ideal Cert.Pre_finite.S4096x8192 .f32) (w : FVec Ideal Cert.Pre_finite.S3x2048 .f32)
    (h : haveI := facts; (Cert.Pre_finite.fn (F := Ideal) a b w).1 = (fun _ => 1#1) ∧ (Cert.Pre_finite.fn (F := Ideal) a b w).2.1 = (fun _ => 1#1) ∧ (Cert.Pre_finite.fn (F := Ideal) a b w).2.2 = (fun _ => 1#1)) :
    (∀ i, ∃ r : ℝ, a i = r) ∧ (∀ i, ∃ r : ℝ, b i = r) ∧ (∀ i, ∃ r : ℝ, w i = r) := by
  obtain ⟨h0, h1, h2⟩ := h
  refine ⟨fun i => real_of_bit _ ?_, fun i => real_of_bit _ ?_, fun i => real_of_bit _ ?_⟩
  · exact congrFun h0 i
  · exact congrFun h1 i
  · exact congrFun h2 i
end Cert.Finite
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.Products
public import proofs.«01_k».proof.Proof.Value
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The kernel's two results are the reference's. -/
theorem algebraic : haveI := Cert.Finite.facts; Cert.algebraic_KernelIdeal_ReferenceIdeal_pre_finite := by
  intro m g m' g' hp hargs
  have hr := fun c => Cert.Finite.reals _ _ _ (hp c)
  refine ⟨fun c => Cert.KernelIdeal.Value.RP m c, fun c => Cert.KernelIdeal.Value.RW m c, ?_, ?_⟩
  · refine (θ_run _ _ _).mono (fun r h c => ?_) (Cert.KernelIdeal.Value.run_blocks m g)
    obtain ⟨h0, h1, h2, h3, h4⟩ := h c
    exact ⟨h0.trans (Cert.KernelIdeal.Value.final6 m c (hr c).2.1 (hr c).1 (hr c).2.2),
      h1.trans (Cert.KernelIdeal.Value.final7 m c (hr c).2.1), h2, h3, h4⟩
  · refine (θ_run _ _ _).mono (fun r h c => ?_) (Cert.ReferenceIdeal.Value.run m' g')
    obtain ⟨h0, h1, h2, h3, h4⟩ := h c
    obtain ⟨e0, e1, e2⟩ := hargs c
    refine ⟨h0.trans ((Cert.ReferenceIdeal.Read.val_main_v74_eq m' c).trans ?_), h1.trans ((Cert.ReferenceIdeal.Read.val_main_v68_eq m' c).trans ?_), h2, h3, h4⟩
    · rw [e0, e1, e2]
    · rw [e0, e1]

/-- The reference runs, and leaves its arguments and the semaphores as they were. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) := by
  exact (θ_run _ _ _).mono (fun r h => ⟨fun c => (h c).2.2, sem_eq_zero_of_no_sems rfl r.2⟩) (Cert.ReferenceIdeal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Finite.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.Kernel2.Gen.frame m ρ, fun m ρ _ => Cert.Kernel2Ideal.Gen.frame m ρ, fun m ρ _ => Cert.Products.frame2 m ρ,
  fun m ρ _ => Cert.Kernel3.Gen.frame m ρ, fun m ρ _ => Cert.Kernel3Ideal.Gen.frame m ρ, fun m ρ _ => Cert.Products.frame3 m ρ,
  fun m ρ _ => Cert.Kernel4.Gen.frame m ρ, fun m ρ _ => Cert.Kernel4Ideal.Gen.frame m ρ, fun m ρ _ => Cert.Products.frame4 m ρ,
  fun m ρ _ => Cert.Kernel5.Gen.frame m ρ, fun m ρ _ => Cert.Kernel5Ideal.Gen.frame m ρ, fun m ρ _ => Cert.Products.frame5 m ρ,
  fun m ρ _ => Cert.Kernel6.Gen.frame m ρ, fun m ρ _ => Cert.Kernel6Ideal.Gen.frame m ρ, fun m ρ _ => Cert.Products.frame6 m ρ,
  fun m ρ _ => Cert.Kernel7.Gen.frame m ρ, fun m ρ _ => Cert.Kernel7Ideal.Gen.frame m ρ, fun m ρ _ => Cert.Products.frame7 m ρ,
  fun m ρ _ => Cert.Kernel8.Gen.frame m ρ, fun m ρ _ => Cert.Kernel8Ideal.Gen.frame m ρ, fun m ρ _ => Cert.Products.frame8 m ρ,
  fun m ρ _ => Cert.Kernel9.Gen.frame m ρ, fun m ρ _ => Cert.Kernel9Ideal.Gen.frame m ρ, fun m ρ _ => Cert.Products.frame9 m ρ,
  fun m ρ _ => Cert.Kernel10.Gen.frame m ρ, fun m ρ _ => Cert.Kernel10Ideal.Gen.frame m ρ, fun m ρ _ => Cert.Products.frame10 m ρ,
  fun m ρ _ => Cert.Kernel11.Gen.frame m ρ, fun m ρ _ => Cert.Kernel11Ideal.Gen.frame m ρ, fun m ρ _ => Cert.Products.frame11 m ρ,
  fun m ρ _ => Cert.Kernel12.Gen.frame m ρ, fun m ρ _ => Cert.Kernel12Ideal.Gen.frame m ρ, fun m ρ _ => Cert.Products.frame12 m ρ,
  fun m ρ _ => Cert.Kernel13.Gen.frame m ρ, fun m ρ _ => Cert.Kernel13Ideal.Gen.frame m ρ, fun m ρ _ => Cert.Products.frame13 m ρ,
  fun m ρ _ => Cert.Kernel14.Gen.frame m ρ, fun m ρ _ => Cert.Kernel14Ideal.Gen.frame m ρ, fun m ρ _ => Cert.Products.frame14 m ρ,
  fun m ρ _ => Cert.Kernel15.Gen.frame m ρ, fun m ρ _ => Cert.Kernel15Ideal.Gen.frame m ρ, fun m ρ _ => Cert.Products.frame15 m ρ,
  fun m ρ _ => Cert.Kernel16.Gen.frame m ρ, fun m ρ _ => Cert.Kernel16Ideal.Gen.frame m ρ, fun m ρ _ => Cert.Products.frame16 m ρ,
  fun m ρ _ => Cert.Kernel17.Gen.frame m ρ, fun m ρ _ => Cert.Kernel17Ideal.Gen.frame m ρ, fun m ρ _ => Cert.Products.frame17 m ρ,
  fun m ρ _ => Cert.Kernel18.Gen.frame m ρ, fun m ρ _ => Cert.Kernel18Ideal.Gen.frame m ρ, fun m ρ _ => Cert.Products.frame18 m ρ,
  fun m ρ _ => Cert.Kernel19.Gen.frame m ρ, fun m ρ _ => Cert.Kernel19Ideal.Gen.frame m ρ, fun m ρ _ => Cert.Products.frame19 m ρ,
  fun m ρ _ => Cert.Kernel20.Gen.frame m ρ, fun m ρ _ => Cert.Kernel20Ideal.Gen.frame m ρ, fun m ρ _ => Cert.Products.frame20 m ρ,
  fun m ρ _ => Cert.Kernel21.Gen.frame m ρ, fun m ρ _ => Cert.Kernel21Ideal.Gen.frame m ρ, fun m ρ _ => Cert.Products.frame21 m ρ,
  fun m ρ _ => Cert.Kernel22.Gen.frame m ρ, fun m ρ _ => Cert.Kernel22Ideal.Gen.frame m ρ, fun m ρ _ => Cert.Products.frame22 m ρ,
  fun m ρ _ => Cert.Kernel23.Gen.frame m ρ, fun m ρ _ => Cert.Kernel23Ideal.Gen.frame m ρ, fun m ρ _ => Cert.Products.frame23 m ρ,
  fun m ρ _ => Cert.Kernel24.Gen.frame m ρ, fun m ρ _ => Cert.Kernel24Ideal.Gen.frame m ρ, fun m ρ _ => Cert.Products.frame24 m ρ,
  fun m ρ _ => Cert.Kernel25.Gen.frame m ρ, fun m ρ _ => Cert.Kernel25Ideal.Gen.frame m ρ, fun m ρ _ => Cert.Products.frame25 m ρ,
  fun m ρ _ => Cert.Kernel26.Gen.frame m ρ, fun m ρ _ => Cert.Kernel26Ideal.Gen.frame m ρ, fun m ρ _ => Cert.Products.frame26 m ρ,
  fun m ρ _ => Cert.Kernel27.Gen.frame m ρ, fun m ρ _ => Cert.Kernel27Ideal.Gen.frame m ρ, fun m ρ _ => Cert.Products.frame27 m ρ,
  fun m ρ _ => Cert.Kernel28.Gen.frame m ρ, fun m ρ _ => Cert.Kernel28Ideal.Gen.frame m ρ, fun m ρ _ => Cert.Products.frame28 m ρ,
  fun m ρ _ => Cert.Kernel29.Gen.frame m ρ, fun m ρ _ => Cert.Kernel29Ideal.Gen.frame m ρ, fun m ρ _ => Cert.Products.frame29 m ρ,
  fun m ρ _ => Cert.Kernel30.Gen.frame m ρ, fun m ρ _ => Cert.Kernel30Ideal.Gen.frame m ρ, fun m ρ _ => Cert.Products.frame30 m ρ,
  fun m ρ _ => Cert.Kernel31.Gen.frame m ρ, fun m ρ _ => Cert.Kernel31Ideal.Gen.frame m ρ, fun m ρ _ => Cert.Products.frame31 m ρ,
  fun m ρ _ => Cert.Kernel32.Gen.frame m ρ, fun m ρ _ => Cert.Kernel32Ideal.Gen.frame m ρ, fun m ρ _ => Cert.Products.frame32 m ρ,
  fun m ρ _ => Cert.Kernel33.Gen.frame m ρ, fun m ρ _ => Cert.Kernel33Ideal.Gen.frame m ρ, fun m ρ _ => Cert.Products.frame33 m ρ,
  fun m ρ _ => Cert.Kernel34.Gen.frame m ρ, fun m ρ _ => Cert.Kernel34Ideal.Gen.frame m ρ, fun m ρ _ => Cert.Products.frame34 m ρ,
  fun m ρ _ => Cert.Kernel35.Gen.frame m ρ, fun m ρ _ => Cert.Kernel35Ideal.Gen.frame m ρ, fun m ρ _ => Cert.Products.frame35 m ρ,
  fun m ρ _ => Cert.Kernel36.Gen.frame m ρ, fun m ρ _ => Cert.Kernel36Ideal.Gen.frame m ρ, fun m ρ _ => Cert.Products.frame36 m ρ,
  trivial, algebraic,
  trivial, Cert.Products.algebraic2,
  trivial, Cert.Products.algebraic3,
  trivial, Cert.Products.algebraic4,
  trivial, Cert.Products.algebraic5,
  trivial, Cert.Products.algebraic6,
  trivial, Cert.Products.algebraic7,
  trivial, Cert.Products.algebraic8,
  trivial, Cert.Products.algebraic9,
  trivial, Cert.Products.algebraic10,
  trivial, Cert.Products.algebraic11,
  trivial, Cert.Products.algebraic12,
  trivial, Cert.Products.algebraic13,
  trivial, Cert.Products.algebraic14,
  trivial, Cert.Products.algebraic15,
  trivial, Cert.Products.algebraic16,
  trivial, Cert.Products.algebraic17,
  trivial, Cert.Products.algebraic18,
  trivial, Cert.Products.algebraic19,
  trivial, Cert.Products.algebraic20,
  trivial, Cert.Products.algebraic21,
  trivial, Cert.Products.algebraic22,
  trivial, Cert.Products.algebraic23,
  trivial, Cert.Products.algebraic24,
  trivial, Cert.Products.algebraic25,
  trivial, Cert.Products.algebraic26,
  trivial, Cert.Products.algebraic27,
  trivial, Cert.Products.algebraic28,
  trivial, Cert.Products.algebraic29,
  trivial, Cert.Products.algebraic30,
  trivial, Cert.Products.algebraic31,
  trivial, Cert.Products.algebraic32,
  trivial, Cert.Products.algebraic33,
  trivial, Cert.Products.algebraic34,
  trivial, Cert.Products.algebraic35,
  trivial, Cert.Products.algebraic36⟩

end Cert.Proof

end
